-- ==== Defs.lean ====
def Pre_Qkv [hPre_tokens_named : Cert.Pre_tokens_named.Facts] (m : (ℓ : Loc Cert.Qkv.nD Cert.Qkv.τ Cert.Qkv.sig) → Buf (Elt Bits) ℓ) : Prop :=
  ∀ c : Dev Cert.Qkv.nD,
    (Cert.Pre_tokens_named.fn (F := Bits) (m ((c.tc : Thread Cert.Qkv.nD Cert.Qkv.τ).loc Cert.Qkv.main_arg0)) (m ((c.tc : Thread Cert.Qkv.nD Cert.Qkv.τ).loc Cert.Qkv.main_arg1)) (m ((c.tc : Thread Cert.Qkv.nD Cert.Qkv.τ).loc Cert.Qkv.main_arg2)) (m ((c.tc : Thread Cert.Qkv.nD Cert.Qkv.τ).loc Cert.Qkv.main_arg3)) (m ((c.tc : Thread Cert.Qkv.nD Cert.Qkv.τ).loc Cert.Qkv.main_arg4)) (m ((c.tc : Thread Cert.Qkv.nD Cert.Qkv.τ).loc Cert.Qkv.main_arg5)) (m ((c.tc : Thread Cert.Qkv.nD Cert.Qkv.τ).loc Cert.Qkv.main_arg6)) (m ((c.tc : Thread Cert.Qkv.nD Cert.Qkv.τ).loc Cert.Qkv.main_arg7)) (m ((c.tc : Thread Cert.Qkv.nD Cert.Qkv.τ).loc Cert.Qkv.main_arg8)) (m ((c.tc : Thread Cert.Qkv.nD Cert.Qkv.τ).loc Cert.Qkv.main_arg9)) (m ((c.tc : Thread Cert.Qkv.nD Cert.Qkv.τ).loc Cert.Qkv.main_arg10)) (m ((c.tc : Thread Cert.Qkv.nD Cert.Qkv.τ).loc Cert.Qkv.main_arg11)) (m ((c.tc : Thread Cert.Qkv.nD Cert.Qkv.τ).loc Cert.Qkv.main_arg12))) = (fun _ => 1#1)

def Pre_QkvIdeal [hPre_tokens_named : Cert.Pre_tokens_named.Facts] (m : (ℓ : Loc Cert.QkvIdeal.nD Cert.QkvIdeal.τ Cert.QkvIdeal.sig) → Buf (Elt Ideal) ℓ) : Prop :=
  ∀ c : Dev Cert.QkvIdeal.nD,
    (Cert.Pre_tokens_named.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11)) (m ((c.tc : Thread Cert.QkvIdeal.nD Cert.QkvIdeal.τ).loc Cert.QkvIdeal.main_arg12))) = (fun _ => 1#1)

def Pre_QkvRefIdeal [hPre_tokens_named : Cert.Pre_tokens_named.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_tokens_named.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9)) (m ((c.tc : Thread Cert.QkvRefIdeal.nD Cert.QkvRefIdeal.τ).loc Cert.QkvRefIdeal.main_arg10)) (m ((c.tc : Thread Cert.QkvRefIdeal.nD Cert.QkvRefIdeal.τ).loc Cert.QkvRefIdeal.main_arg11)) (m ((c.tc : Thread Cert.QkvRefIdeal.nD Cert.QkvRefIdeal.τ).loc Cert.QkvRefIdeal.main_arg12))) = (fun _ => 1#1)

def Pre_O (m : (ℓ : Loc Cert.O.nD Cert.O.τ Cert.O.sig) → Buf (Elt Bits) ℓ) : Prop :=
  True

def Pre_OIdeal (m : (ℓ : Loc Cert.OIdeal.nD Cert.OIdeal.τ Cert.OIdeal.sig) → Buf (Elt Ideal) ℓ) : Prop :=
  True

def Pre_ORefIdeal (m : (ℓ : Loc Cert.ORefIdeal.nD Cert.ORefIdeal.τ Cert.ORefIdeal.sig) → Buf (Elt Ideal) ℓ) : Prop :=
  True

def Pre_Ff (m : (ℓ : Loc Cert.Ff.nD Cert.Ff.τ Cert.Ff.sig) → Buf (Elt Bits) ℓ) : Prop :=
  True

def Pre_FfIdeal (m : (ℓ : Loc Cert.FfIdeal.nD Cert.FfIdeal.τ Cert.FfIdeal.sig) → Buf (Elt Ideal) ℓ) : Prop :=
  True

def Pre_FfRefIdeal (m : (ℓ : Loc Cert.FfRefIdeal.nD Cert.FfRefIdeal.τ Cert.FfRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def quiescent_Qkv [hQkv : Cert.Qkv.Facts] [hPre_tokens_named : Cert.Pre_tokens_named.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10)
      ∧ r.2.mem ((c.tc : Thread Cert.Qkv.nD Cert.Qkv.τ).loc Cert.Qkv.main_arg11) = m ((c.tc : Thread Cert.Qkv.nD Cert.Qkv.τ).loc Cert.Qkv.main_arg11)
      ∧ r.2.mem ((c.tc : Thread Cert.Qkv.nD Cert.Qkv.τ).loc Cert.Qkv.main_arg12) = m ((c.tc : Thread Cert.Qkv.nD Cert.Qkv.τ).loc Cert.Qkv.main_arg12))
      ∧ r.2.sem = fun _ => 0)

def quiescent_QkvIdeal [hQkvIdeal : Cert.QkvIdeal.Facts] [hPre_tokens_named : Cert.Pre_tokens_named.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
      ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12))
      ∧ r.2.sem = fun _ => 0)

def quiescent_QkvRefIdeal [hQkvRefIdeal : Cert.QkvRefIdeal.Facts] [hPre_tokens_named : Cert.Pre_tokens_named.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11)
      ∧ r.2.mem ((c.tc : Thread Cert.QkvRefIdeal.nD Cert.QkvRefIdeal.τ).loc Cert.QkvRefIdeal.main_arg12) = m ((c.tc : Thread Cert.QkvRefIdeal.nD Cert.QkvRefIdeal.τ).loc Cert.QkvRefIdeal.main_arg12))
      ∧ r.2.sem = fun _ => 0)

def quiescent_O [hO : Cert.O.Facts] : Prop :=
  ∀ (m : (ℓ : Loc Cert.O.nD Cert.O.τ Cert.O.sig) → Buf (Elt Bits) ℓ) (g : Dev Cert.O.nD → PrngReg), Pre_O m →
    θ_run (Cert.O.defs (F := Bits)) (onTc (τ := Cert.O.τ) (Cert.O.main (F := Bits))) ⟨m, fun _ => 0, g⟩ (fun r => (∀ c : Dev Cert.O.nD,
      r.2.mem ((c.tc : Thread Cert.O.nD Cert.O.τ).loc Cert.O.main_arg0) = m ((c.tc : Thread Cert.O.nD Cert.O.τ).loc Cert.O.main_arg0)
      ∧ r.2.mem ((c.tc : Thread Cert.O.nD Cert.O.τ).loc Cert.O.main_arg1) = m ((c.tc : Thread Cert.O.nD Cert.O.τ).loc Cert.O.main_arg1)
      ∧ r.2.mem ((c.tc : Thread Cert.O.nD Cert.O.τ).loc Cert.O.main_arg2) = m ((c.tc : Thread Cert.O.nD Cert.O.τ).loc Cert.O.main_arg2)
      ∧ r.2.mem ((c.tc : Thread Cert.O.nD Cert.O.τ).loc Cert.O.main_arg3) = m ((c.tc : Thread Cert.O.nD Cert.O.τ).loc Cert.O.main_arg3)
      ∧ r.2.mem ((c.tc : Thread Cert.O.nD Cert.O.τ).loc Cert.O.main_arg4) = m ((c.tc : Thread Cert.O.nD Cert.O.τ).loc Cert.O.main_arg4)
      ∧ r.2.mem ((c.tc : Thread Cert.O.nD Cert.O.τ).loc Cert.O.main_arg5) = m ((c.tc : Thread Cert.O.nD Cert.O.τ).loc Cert.O.main_arg5))
      ∧ r.2.sem = fun _ => 0)

def quiescent_OIdeal [hOIdeal : Cert.OIdeal.Facts] : Prop :=
  ∀ (m : (ℓ : Loc Cert.OIdeal.nD Cert.OIdeal.τ Cert.OIdeal.sig) → Buf (Elt Ideal) ℓ) (g : Dev Cert.OIdeal.nD → PrngReg), Pre_OIdeal m →
    θ_run (Cert.OIdeal.defs (F := Ideal)) (onTc (τ := Cert.OIdeal.τ) (Cert.OIdeal.main (F := Ideal))) ⟨m, fun _ => 0, g⟩ (fun r => (∀ c : Dev Cert.OIdeal.nD,
      r.2.mem ((c.tc : Thread Cert.OIdeal.nD Cert.OIdeal.τ).loc Cert.OIdeal.main_arg0) = m ((c.tc : Thread Cert.OIdeal.nD Cert.OIdeal.τ).loc Cert.OIdeal.main_arg0)
      ∧ r.2.mem ((c.tc : Thread Cert.OIdeal.nD Cert.OIdeal.τ).loc Cert.OIdeal.main_arg1) = m ((c.tc : Thread Cert.OIdeal.nD Cert.OIdeal.τ).loc Cert.OIdeal.main_arg1)
      ∧ r.2.mem ((c.tc : Thread Cert.OIdeal.nD Cert.OIdeal.τ).loc Cert.OIdeal.main_arg2) = m ((c.tc : Thread Cert.OIdeal.nD Cert.OIdeal.τ).loc Cert.OIdeal.main_arg2)
      ∧ r.2.mem ((c.tc : Thread Cert.OIdeal.nD Cert.OIdeal.τ).loc Cert.OIdeal.main_arg3) = m ((c.tc : Thread Cert.OIdeal.nD Cert.OIdeal.τ).loc Cert.OIdeal.main_arg3)
      ∧ r.2.mem ((c.tc : Thread Cert.OIdeal.nD Cert.OIdeal.τ).loc Cert.OIdeal.main_arg4) = m ((c.tc : Thread Cert.OIdeal.nD Cert.OIdeal.τ).loc Cert.OIdeal.main_arg4)
      ∧ r.2.mem ((c.tc : Thread Cert.OIdeal.nD Cert.OIdeal.τ).loc Cert.OIdeal.main_arg5) = m ((c.tc : Thread Cert.OIdeal.nD Cert.OIdeal.τ).loc Cert.OIdeal.main_arg5))
      ∧ r.2.sem = fun _ => 0)

def quiescent_ORefIdeal [hORefIdeal : Cert.ORefIdeal.Facts] : Prop :=
  ∀ (m : (ℓ : Loc Cert.ORefIdeal.nD Cert.ORefIdeal.τ Cert.ORefIdeal.sig) → Buf (Elt Ideal) ℓ) (g : Dev Cert.ORefIdeal.nD → PrngReg), Pre_ORefIdeal m →
    θ_run (Cert.ORefIdeal.defs (F := Ideal)) (onTc (τ := Cert.ORefIdeal.τ) (Cert.ORefIdeal.main (F := Ideal))) ⟨m, fun _ => 0, g⟩ (fun r => (∀ c : Dev Cert.ORefIdeal.nD,
      r.2.mem ((c.tc : Thread Cert.ORefIdeal.nD Cert.ORefIdeal.τ).loc Cert.ORefIdeal.main_arg0) = m ((c.tc : Thread Cert.ORefIdeal.nD Cert.ORefIdeal.τ).loc Cert.ORefIdeal.main_arg0)
      ∧ r.2.mem ((c.tc : Thread Cert.ORefIdeal.nD Cert.ORefIdeal.τ).loc Cert.ORefIdeal.main_arg1) = m ((c.tc : Thread Cert.ORefIdeal.nD Cert.ORefIdeal.τ).loc Cert.ORefIdeal.main_arg1)
      ∧ r.2.mem ((c.tc : Thread Cert.ORefIdeal.nD Cert.ORefIdeal.τ).loc Cert.ORefIdeal.main_arg2) = m ((c.tc : Thread Cert.ORefIdeal.nD Cert.ORefIdeal.τ).loc Cert.ORefIdeal.main_arg2)
      ∧ r.2.mem ((c.tc : Thread Cert.ORefIdeal.nD Cert.ORefIdeal.τ).loc Cert.ORefIdeal.main_arg3) = m ((c.tc : Thread Cert.ORefIdeal.nD Cert.ORefIdeal.τ).loc Cert.ORefIdeal.main_arg3)
      ∧ r.2.mem ((c.tc : Thread Cert.ORefIdeal.nD Cert.ORefIdeal.τ).loc Cert.ORefIdeal.main_arg4) = m ((c.tc : Thread Cert.ORefIdeal.nD Cert.ORefIdeal.τ).loc Cert.ORefIdeal.main_arg4)
      ∧ r.2.mem ((c.tc : Thread Cert.ORefIdeal.nD Cert.ORefIdeal.τ).loc Cert.ORefIdeal.main_arg5) = m ((c.tc : Thread Cert.ORefIdeal.nD Cert.ORefIdeal.τ).loc Cert.ORefIdeal.main_arg5))
      ∧ r.2.sem = fun _ => 0)

def quiescent_Ff [hFf : Cert.Ff.Facts] : Prop :=
  ∀ (m : (ℓ : Loc Cert.Ff.nD Cert.Ff.τ Cert.Ff.sig) → Buf (Elt Bits) ℓ) (g : Dev Cert.Ff.nD → PrngReg), Pre_Ff m →
    θ_run (Cert.Ff.defs (F := Bits)) (onTc (τ := Cert.Ff.τ) (Cert.Ff.main (F := Bits))) ⟨m, fun _ => 0, g⟩ (fun r => (∀ c : Dev Cert.Ff.nD,
      r.2.mem ((c.tc : Thread Cert.Ff.nD Cert.Ff.τ).loc Cert.Ff.main_arg0) = m ((c.tc : Thread Cert.Ff.nD Cert.Ff.τ).loc Cert.Ff.main_arg0)
      ∧ r.2.mem ((c.tc : Thread Cert.Ff.nD Cert.Ff.τ).loc Cert.Ff.main_arg1) = m ((c.tc : Thread Cert.Ff.nD Cert.Ff.τ).loc Cert.Ff.main_arg1)
      ∧ r.2.mem ((c.tc : Thread Cert.Ff.nD Cert.Ff.τ).loc Cert.Ff.main_arg2) = m ((c.tc : Thread Cert.Ff.nD Cert.Ff.τ).loc Cert.Ff.main_arg2)
      ∧ r.2.mem ((c.tc : Thread Cert.Ff.nD Cert.Ff.τ).loc Cert.Ff.main_arg3) = m ((c.tc : Thread Cert.Ff.nD Cert.Ff.τ).loc Cert.Ff.main_arg3)
      ∧ r.2.mem ((c.tc : Thread Cert.Ff.nD Cert.Ff.τ).loc Cert.Ff.main_arg4) = m ((c.tc : Thread Cert.Ff.nD Cert.Ff.τ).loc Cert.Ff.main_arg4)
      ∧ r.2.mem ((c.tc : Thread Cert.Ff.nD Cert.Ff.τ).loc Cert.Ff.main_arg5) = m ((c.tc : Thread Cert.Ff.nD Cert.Ff.τ).loc Cert.Ff.main_arg5)
      ∧ r.2.mem ((c.tc : Thread Cert.Ff.nD Cert.Ff.τ).loc Cert.Ff.main_arg6) = m ((c.tc : Thread Cert.Ff.nD Cert.Ff.τ).loc Cert.Ff.main_arg6))
      ∧ r.2.sem = fun _ => 0)

def quiescent_FfIdeal [hFfIdeal : Cert.FfIdeal.Facts] : Prop :=
  ∀ (m : (ℓ : Loc Cert.FfIdeal.nD Cert.FfIdeal.τ Cert.FfIdeal.sig) → Buf (Elt Ideal) ℓ) (g : Dev Cert.FfIdeal.nD → PrngReg), Pre_FfIdeal m →
    θ_run (Cert.FfIdeal.defs (F := Ideal)) (onTc (τ := Cert.FfIdeal.τ) (Cert.FfIdeal.main (F := Ideal))) ⟨m, fun _ => 0, g⟩ (fun r => (∀ c : Dev Cert.FfIdeal.nD,
      r.2.mem ((c.tc : Thread Cert.FfIdeal.nD Cert.FfIdeal.τ).loc Cert.FfIdeal.main_arg0) = m ((c.tc : Thread Cert.FfIdeal.nD Cert.FfIdeal.τ).loc Cert.FfIdeal.main_arg0)
      ∧ r.2.mem ((c.tc : Thread Cert.FfIdeal.nD Cert.FfIdeal.τ).loc Cert.FfIdeal.main_arg1) = m ((c.tc : Thread Cert.FfIdeal.nD Cert.FfIdeal.τ).loc Cert.FfIdeal.main_arg1)
      ∧ r.2.mem ((c.tc : Thread Cert.FfIdeal.nD Cert.FfIdeal.τ).loc Cert.FfIdeal.main_arg2) = m ((c.tc : Thread Cert.FfIdeal.nD Cert.FfIdeal.τ).loc Cert.FfIdeal.main_arg2)
      ∧ r.2.mem ((c.tc : Thread Cert.FfIdeal.nD Cert.FfIdeal.τ).loc Cert.FfIdeal.main_arg3) = m ((c.tc : Thread Cert.FfIdeal.nD Cert.FfIdeal.τ).loc Cert.FfIdeal.main_arg3)
      ∧ r.2.mem ((c.tc : Thread Cert.FfIdeal.nD Cert.FfIdeal.τ).loc Cert.FfIdeal.main_arg4) = m ((c.tc : Thread Cert.FfIdeal.nD Cert.FfIdeal.τ).loc Cert.FfIdeal.main_arg4)
      ∧ r.2.mem ((c.tc : Thread Cert.FfIdeal.nD Cert.FfIdeal.τ).loc Cert.FfIdeal.main_arg5) = m ((c.tc : Thread Cert.FfIdeal.nD Cert.FfIdeal.τ).loc Cert.FfIdeal.main_arg5)
      ∧ r.2.mem ((c.tc : Thread Cert.FfIdeal.nD Cert.FfIdeal.τ).loc Cert.FfIdeal.main_arg6) = m ((c.tc : Thread Cert.FfIdeal.nD Cert.FfIdeal.τ).loc Cert.FfIdeal.main_arg6))
      ∧ r.2.sem = fun _ => 0)

def quiescent_FfRefIdeal [hFfRefIdeal : Cert.FfRefIdeal.Facts] : Prop :=
  ∀ (m : (ℓ : Loc Cert.FfRefIdeal.nD Cert.FfRefIdeal.τ Cert.FfRefIdeal.sig) → Buf (Elt Ideal) ℓ) (g : Dev Cert.FfRefIdeal.nD → PrngReg), Pre_FfRefIdeal m →
    θ_run (Cert.FfRefIdeal.defs (F := Ideal)) (onTc (τ := Cert.FfRefIdeal.τ) (Cert.FfRefIdeal.main (F := Ideal))) ⟨m, fun _ => 0, g⟩ (fun r => (∀ c : Dev Cert.FfRefIdeal.nD,
      r.2.mem ((c.tc : Thread Cert.FfRefIdeal.nD Cert.FfRefIdeal.τ).loc Cert.FfRefIdeal.main_arg0) = m ((c.tc : Thread Cert.FfRefIdeal.nD Cert.FfRefIdeal.τ).loc Cert.FfRefIdeal.main_arg0)
      ∧ r.2.mem ((c.tc : Thread Cert.FfRefIdeal.nD Cert.FfRefIdeal.τ).loc Cert.FfRefIdeal.main_arg1) = m ((c.tc : Thread Cert.FfRefIdeal.nD Cert.FfRefIdeal.τ).loc Cert.FfRefIdeal.main_arg1)
      ∧ r.2.mem ((c.tc : Thread Cert.FfRefIdeal.nD Cert.FfRefIdeal.τ).loc Cert.FfRefIdeal.main_arg2) = m ((c.tc : Thread Cert.FfRefIdeal.nD Cert.FfRefIdeal.τ).loc Cert.FfRefIdeal.main_arg2)
      ∧ r.2.mem ((c.tc : Thread Cert.FfRefIdeal.nD Cert.FfRefIdeal.τ).loc Cert.FfRefIdeal.main_arg3) = m ((c.tc : Thread Cert.FfRefIdeal.nD Cert.FfRefIdeal.τ).loc Cert.FfRefIdeal.main_arg3)
      ∧ r.2.mem ((c.tc : Thread Cert.FfRefIdeal.nD Cert.FfRefIdeal.τ).loc Cert.FfRefIdeal.main_arg4) = m ((c.tc : Thread Cert.FfRefIdeal.nD Cert.FfRefIdeal.τ).loc Cert.FfRefIdeal.main_arg4)
      ∧ r.2.mem ((c.tc : Thread Cert.FfRefIdeal.nD Cert.FfRefIdeal.τ).loc Cert.FfRefIdeal.main_arg5) = m ((c.tc : Thread Cert.FfRefIdeal.nD Cert.FfRefIdeal.τ).loc Cert.FfRefIdeal.main_arg5)
      ∧ r.2.mem ((c.tc : Thread Cert.FfRefIdeal.nD Cert.FfRefIdeal.τ).loc Cert.FfRefIdeal.main_arg6) = m ((c.tc : Thread Cert.FfRefIdeal.nD Cert.FfRefIdeal.τ).loc Cert.FfRefIdeal.main_arg6))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5))
      ∧ r.2.sem = fun _ => 0)

def preserves_Qkv_QkvIdeal : Prop :=
  True

def algebraic_QkvIdeal_QkvRefIdeal [hQkvIdeal : Cert.QkvIdeal.Facts] [hQkvRefIdeal : Cert.QkvRefIdeal.Facts] [hPre_tokens_named : Cert.Pre_tokens_named.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)
      ∧ m' ((c.tc : Thread Cert.QkvRefIdeal.nD Cert.QkvRefIdeal.τ).loc Cert.QkvRefIdeal.main_arg11) = m ((c.tc : Thread Cert.QkvIdeal.nD Cert.QkvIdeal.τ).loc Cert.QkvIdeal.main_arg11)
      ∧ m' ((c.tc : Thread Cert.QkvRefIdeal.nD Cert.QkvRefIdeal.τ).loc Cert.QkvRefIdeal.main_arg12) = m ((c.tc : Thread Cert.QkvIdeal.nD Cert.QkvIdeal.τ).loc Cert.QkvIdeal.main_arg12)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
          ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
          ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v84) = v0 c
          ∧ r.2.mem ((c.tc : Thread Cert.QkvRefIdeal.nD Cert.QkvRefIdeal.τ).loc Cert.QkvRefIdeal.main_v109_0) = v1 c
          ∧ r.2.mem ((c.tc : Thread Cert.QkvRefIdeal.nD Cert.QkvRefIdeal.τ).loc Cert.QkvRefIdeal.main_v109_1) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10)
          ∧ r.2.mem ((c.tc : Thread Cert.QkvRefIdeal.nD Cert.QkvRefIdeal.τ).loc Cert.QkvRefIdeal.main_arg11) = m' ((c.tc : Thread Cert.QkvRefIdeal.nD Cert.QkvRefIdeal.τ).loc Cert.QkvRefIdeal.main_arg11)
          ∧ r.2.mem ((c.tc : Thread Cert.QkvRefIdeal.nD Cert.QkvRefIdeal.τ).loc Cert.QkvRefIdeal.main_arg12) = m' ((c.tc : Thread Cert.QkvRefIdeal.nD Cert.QkvRefIdeal.τ).loc Cert.QkvRefIdeal.main_arg12))

def preserves_O_OIdeal : Prop :=
  True

def algebraic_OIdeal_ORefIdeal [hOIdeal : Cert.OIdeal.Facts] [hORefIdeal : Cert.ORefIdeal.Facts] : Prop :=
  ∀ (m : (ℓ : Loc Cert.OIdeal.nD Cert.OIdeal.τ Cert.OIdeal.sig) → Buf (Elt Ideal) ℓ) (g : Dev Cert.OIdeal.nD → PrngReg)
    (m' : (ℓ : Loc Cert.ORefIdeal.nD Cert.ORefIdeal.τ Cert.ORefIdeal.sig) → Buf (Elt Ideal) ℓ) (g' : Dev Cert.ORefIdeal.nD → PrngReg), Pre_OIdeal m →
    (∀ c : Dev Cert.OIdeal.nD,
      m' ((c.tc : Thread Cert.ORefIdeal.nD Cert.ORefIdeal.τ).loc Cert.ORefIdeal.main_arg0) = m ((c.tc : Thread Cert.OIdeal.nD Cert.OIdeal.τ).loc Cert.OIdeal.main_arg0)
      ∧ m' ((c.tc : Thread Cert.ORefIdeal.nD Cert.ORefIdeal.τ).loc Cert.ORefIdeal.main_arg1) = m ((c.tc : Thread Cert.OIdeal.nD Cert.OIdeal.τ).loc Cert.OIdeal.main_arg1)
      ∧ m' ((c.tc : Thread Cert.ORefIdeal.nD Cert.ORefIdeal.τ).loc Cert.ORefIdeal.main_arg2) = m ((c.tc : Thread Cert.OIdeal.nD Cert.OIdeal.τ).loc Cert.OIdeal.main_arg2)
      ∧ m' ((c.tc : Thread Cert.ORefIdeal.nD Cert.ORefIdeal.τ).loc Cert.ORefIdeal.main_arg3) = m ((c.tc : Thread Cert.OIdeal.nD Cert.OIdeal.τ).loc Cert.OIdeal.main_arg3)
      ∧ m' ((c.tc : Thread Cert.ORefIdeal.nD Cert.ORefIdeal.τ).loc Cert.ORefIdeal.main_arg4) = m ((c.tc : Thread Cert.OIdeal.nD Cert.OIdeal.τ).loc Cert.OIdeal.main_arg4)
      ∧ m' ((c.tc : Thread Cert.ORefIdeal.nD Cert.ORefIdeal.τ).loc Cert.ORefIdeal.main_arg5) = m ((c.tc : Thread Cert.OIdeal.nD Cert.OIdeal.τ).loc Cert.OIdeal.main_arg5)) →
    ∃ (v0 : (c : Dev Cert.OIdeal.nD) → Buf (Elt Ideal) ((c.tc : Thread Cert.OIdeal.nD Cert.OIdeal.τ).loc Cert.OIdeal.main_v0_0)) (v1 : (c : Dev Cert.OIdeal.nD) → Buf (Elt Ideal) ((c.tc : Thread Cert.OIdeal.nD Cert.OIdeal.τ).loc Cert.OIdeal.main_v0_1)),
      θ_run (Cert.OIdeal.defs (F := Ideal)) (onTc (τ := Cert.OIdeal.τ) (Cert.OIdeal.main (F := Ideal))) ⟨m, fun _ => 0, g⟩ (fun r => ∀ c : Dev Cert.OIdeal.nD,
          r.2.mem ((c.tc : Thread Cert.OIdeal.nD Cert.OIdeal.τ).loc Cert.OIdeal.main_v0_0) = v0 c
          ∧ r.2.mem ((c.tc : Thread Cert.OIdeal.nD Cert.OIdeal.τ).loc Cert.OIdeal.main_v0_1) = v1 c
          ∧ r.2.mem ((c.tc : Thread Cert.OIdeal.nD Cert.OIdeal.τ).loc Cert.OIdeal.main_arg0) = m ((c.tc : Thread Cert.OIdeal.nD Cert.OIdeal.τ).loc Cert.OIdeal.main_arg0)
          ∧ r.2.mem ((c.tc : Thread Cert.OIdeal.nD Cert.OIdeal.τ).loc Cert.OIdeal.main_arg1) = m ((c.tc : Thread Cert.OIdeal.nD Cert.OIdeal.τ).loc Cert.OIdeal.main_arg1)
          ∧ r.2.mem ((c.tc : Thread Cert.OIdeal.nD Cert.OIdeal.τ).loc Cert.OIdeal.main_arg2) = m ((c.tc : Thread Cert.OIdeal.nD Cert.OIdeal.τ).loc Cert.OIdeal.main_arg2)
          ∧ r.2.mem ((c.tc : Thread Cert.OIdeal.nD Cert.OIdeal.τ).loc Cert.OIdeal.main_arg3) = m ((c.tc : Thread Cert.OIdeal.nD Cert.OIdeal.τ).loc Cert.OIdeal.main_arg3)
          ∧ r.2.mem ((c.tc : Thread Cert.OIdeal.nD Cert.OIdeal.τ).loc Cert.OIdeal.main_arg4) = m ((c.tc : Thread Cert.OIdeal.nD Cert.OIdeal.τ).loc Cert.OIdeal.main_arg4)
          ∧ r.2.mem ((c.tc : Thread Cert.OIdeal.nD Cert.OIdeal.τ).loc Cert.OIdeal.main_arg5) = m ((c.tc : Thread Cert.OIdeal.nD Cert.OIdeal.τ).loc Cert.OIdeal.main_arg5))
      ∧ θ_run (Cert.ORefIdeal.defs (F := Ideal)) (onTc (τ := Cert.ORefIdeal.τ) (Cert.ORefIdeal.main (F := Ideal))) ⟨m', fun _ => 0, g'⟩ (fun r => ∀ c : Dev Cert.ORefIdeal.nD,
          r.2.mem ((c.tc : Thread Cert.ORefIdeal.nD Cert.ORefIdeal.τ).loc Cert.ORefIdeal.main_v28) = v0 c
          ∧ r.2.mem ((c.tc : Thread Cert.ORefIdeal.nD Cert.ORefIdeal.τ).loc Cert.ORefIdeal.main_v41) = v1 c
          ∧ r.2.mem ((c.tc : Thread Cert.ORefIdeal.nD Cert.ORefIdeal.τ).loc Cert.ORefIdeal.main_arg0) = m' ((c.tc : Thread Cert.ORefIdeal.nD Cert.ORefIdeal.τ).loc Cert.ORefIdeal.main_arg0)
          ∧ r.2.mem ((c.tc : Thread Cert.ORefIdeal.nD Cert.ORefIdeal.τ).loc Cert.ORefIdeal.main_arg1) = m' ((c.tc : Thread Cert.ORefIdeal.nD Cert.ORefIdeal.τ).loc Cert.ORefIdeal.main_arg1)
          ∧ r.2.mem ((c.tc : Thread Cert.ORefIdeal.nD Cert.ORefIdeal.τ).loc Cert.ORefIdeal.main_arg2) = m' ((c.tc : Thread Cert.ORefIdeal.nD Cert.ORefIdeal.τ).loc Cert.ORefIdeal.main_arg2)
          ∧ r.2.mem ((c.tc : Thread Cert.ORefIdeal.nD Cert.ORefIdeal.τ).loc Cert.ORefIdeal.main_arg3) = m' ((c.tc : Thread Cert.ORefIdeal.nD Cert.ORefIdeal.τ).loc Cert.ORefIdeal.main_arg3)
          ∧ r.2.mem ((c.tc : Thread Cert.ORefIdeal.nD Cert.ORefIdeal.τ).loc Cert.ORefIdeal.main_arg4) = m' ((c.tc : Thread Cert.ORefIdeal.nD Cert.ORefIdeal.τ).loc Cert.ORefIdeal.main_arg4)
          ∧ r.2.mem ((c.tc : Thread Cert.ORefIdeal.nD Cert.ORefIdeal.τ).loc Cert.ORefIdeal.main_arg5) = m' ((c.tc : Thread Cert.ORefIdeal.nD Cert.ORefIdeal.τ).loc Cert.ORefIdeal.main_arg5))

def preserves_Ff_FfIdeal : Prop :=
  True

def algebraic_FfIdeal_FfRefIdeal [hFfIdeal : Cert.FfIdeal.Facts] [hFfRefIdeal : Cert.FfRefIdeal.Facts] : Prop :=
  ∀ (m : (ℓ : Loc Cert.FfIdeal.nD Cert.FfIdeal.τ Cert.FfIdeal.sig) → Buf (Elt Ideal) ℓ) (g : Dev Cert.FfIdeal.nD → PrngReg)
    (m' : (ℓ : Loc Cert.FfRefIdeal.nD Cert.FfRefIdeal.τ Cert.FfRefIdeal.sig) → Buf (Elt Ideal) ℓ) (g' : Dev Cert.FfRefIdeal.nD → PrngReg), Pre_FfIdeal m →
    (∀ c : Dev Cert.FfIdeal.nD,
      m' ((c.tc : Thread Cert.FfRefIdeal.nD Cert.FfRefIdeal.τ).loc Cert.FfRefIdeal.main_arg0) = m ((c.tc : Thread Cert.FfIdeal.nD Cert.FfIdeal.τ).loc Cert.FfIdeal.main_arg0)
      ∧ m' ((c.tc : Thread Cert.FfRefIdeal.nD Cert.FfRefIdeal.τ).loc Cert.FfRefIdeal.main_arg1) = m ((c.tc : Thread Cert.FfIdeal.nD Cert.FfIdeal.τ).loc Cert.FfIdeal.main_arg1)
      ∧ m' ((c.tc : Thread Cert.FfRefIdeal.nD Cert.FfRefIdeal.τ).loc Cert.FfRefIdeal.main_arg2) = m ((c.tc : Thread Cert.FfIdeal.nD Cert.FfIdeal.τ).loc Cert.FfIdeal.main_arg2)
      ∧ m' ((c.tc : Thread Cert.FfRefIdeal.nD Cert.FfRefIdeal.τ).loc Cert.FfRefIdeal.main_arg3) = m ((c.tc : Thread Cert.FfIdeal.nD Cert.FfIdeal.τ).loc Cert.FfIdeal.main_arg3)
      ∧ m' ((c.tc : Thread Cert.FfRefIdeal.nD Cert.FfRefIdeal.τ).loc Cert.FfRefIdeal.main_arg4) = m ((c.tc : Thread Cert.FfIdeal.nD Cert.FfIdeal.τ).loc Cert.FfIdeal.main_arg4)
      ∧ m' ((c.tc : Thread Cert.FfRefIdeal.nD Cert.FfRefIdeal.τ).loc Cert.FfRefIdeal.main_arg5) = m ((c.tc : Thread Cert.FfIdeal.nD Cert.FfIdeal.τ).loc Cert.FfIdeal.main_arg5)
      ∧ m' ((c.tc : Thread Cert.FfRefIdeal.nD Cert.FfRefIdeal.τ).loc Cert.FfRefIdeal.main_arg6) = m ((c.tc : Thread Cert.FfIdeal.nD Cert.FfIdeal.τ).loc Cert.FfIdeal.main_arg6)) →
    ∃ (v0 : (c : Dev Cert.FfIdeal.nD) → Buf (Elt Ideal) ((c.tc : Thread Cert.FfIdeal.nD Cert.FfIdeal.τ).loc Cert.FfIdeal.main_v0)),
      θ_run (Cert.FfIdeal.defs (F := Ideal)) (onTc (τ := Cert.FfIdeal.τ) (Cert.FfIdeal.main (F := Ideal))) ⟨m, fun _ => 0, g⟩ (fun r => ∀ c : Dev Cert.FfIdeal.nD,
          r.2.mem ((c.tc : Thread Cert.FfIdeal.nD Cert.FfIdeal.τ).loc Cert.FfIdeal.main_v0) = v0 c
          ∧ r.2.mem ((c.tc : Thread Cert.FfIdeal.nD Cert.FfIdeal.τ).loc Cert.FfIdeal.main_arg0) = m ((c.tc : Thread Cert.FfIdeal.nD Cert.FfIdeal.τ).loc Cert.FfIdeal.main_arg0)
          ∧ r.2.mem ((c.tc : Thread Cert.FfIdeal.nD Cert.FfIdeal.τ).loc Cert.FfIdeal.main_arg1) = m ((c.tc : Thread Cert.FfIdeal.nD Cert.FfIdeal.τ).loc Cert.FfIdeal.main_arg1)
          ∧ r.2.mem ((c.tc : Thread Cert.FfIdeal.nD Cert.FfIdeal.τ).loc Cert.FfIdeal.main_arg2) = m ((c.tc : Thread Cert.FfIdeal.nD Cert.FfIdeal.τ).loc Cert.FfIdeal.main_arg2)
          ∧ r.2.mem ((c.tc : Thread Cert.FfIdeal.nD Cert.FfIdeal.τ).loc Cert.FfIdeal.main_arg3) = m ((c.tc : Thread Cert.FfIdeal.nD Cert.FfIdeal.τ).loc Cert.FfIdeal.main_arg3)
          ∧ r.2.mem ((c.tc : Thread Cert.FfIdeal.nD Cert.FfIdeal.τ).loc Cert.FfIdeal.main_arg4) = m ((c.tc : Thread Cert.FfIdeal.nD Cert.FfIdeal.τ).loc Cert.FfIdeal.main_arg4)
          ∧ r.2.mem ((c.tc : Thread Cert.FfIdeal.nD Cert.FfIdeal.τ).loc Cert.FfIdeal.main_arg5) = m ((c.tc : Thread Cert.FfIdeal.nD Cert.FfIdeal.τ).loc Cert.FfIdeal.main_arg5)
          ∧ r.2.mem ((c.tc : Thread Cert.FfIdeal.nD Cert.FfIdeal.τ).loc Cert.FfIdeal.main_arg6) = m ((c.tc : Thread Cert.FfIdeal.nD Cert.FfIdeal.τ).loc Cert.FfIdeal.main_arg6))
      ∧ θ_run (Cert.FfRefIdeal.defs (F := Ideal)) (onTc (τ := Cert.FfRefIdeal.τ) (Cert.FfRefIdeal.main (F := Ideal))) ⟨m', fun _ => 0, g'⟩ (fun r => ∀ c : Dev Cert.FfRefIdeal.nD,
          r.2.mem ((c.tc : Thread Cert.FfRefIdeal.nD Cert.FfRefIdeal.τ).loc Cert.FfRefIdeal.main_v56) = v0 c
          ∧ r.2.mem ((c.tc : Thread Cert.FfRefIdeal.nD Cert.FfRefIdeal.τ).loc Cert.FfRefIdeal.main_arg0) = m' ((c.tc : Thread Cert.FfRefIdeal.nD Cert.FfRefIdeal.τ).loc Cert.FfRefIdeal.main_arg0)
          ∧ r.2.mem ((c.tc : Thread Cert.FfRefIdeal.nD Cert.FfRefIdeal.τ).loc Cert.FfRefIdeal.main_arg1) = m' ((c.tc : Thread Cert.FfRefIdeal.nD Cert.FfRefIdeal.τ).loc Cert.FfRefIdeal.main_arg1)
          ∧ r.2.mem ((c.tc : Thread Cert.FfRefIdeal.nD Cert.FfRefIdeal.τ).loc Cert.FfRefIdeal.main_arg2) = m' ((c.tc : Thread Cert.FfRefIdeal.nD Cert.FfRefIdeal.τ).loc Cert.FfRefIdeal.main_arg2)
          ∧ r.2.mem ((c.tc : Thread Cert.FfRefIdeal.nD Cert.FfRefIdeal.τ).loc Cert.FfRefIdeal.main_arg3) = m' ((c.tc : Thread Cert.FfRefIdeal.nD Cert.FfRefIdeal.τ).loc Cert.FfRefIdeal.main_arg3)
          ∧ r.2.mem ((c.tc : Thread Cert.FfRefIdeal.nD Cert.FfRefIdeal.τ).loc Cert.FfRefIdeal.main_arg4) = m' ((c.tc : Thread Cert.FfRefIdeal.nD Cert.FfRefIdeal.τ).loc Cert.FfRefIdeal.main_arg4)
          ∧ r.2.mem ((c.tc : Thread Cert.FfRefIdeal.nD Cert.FfRefIdeal.τ).loc Cert.FfRefIdeal.main_arg5) = m' ((c.tc : Thread Cert.FfRefIdeal.nD Cert.FfRefIdeal.τ).loc Cert.FfRefIdeal.main_arg5)
          ∧ r.2.mem ((c.tc : Thread Cert.FfRefIdeal.nD Cert.FfRefIdeal.τ).loc Cert.FfRefIdeal.main_arg6) = m' ((c.tc : Thread Cert.FfRefIdeal.nD Cert.FfRefIdeal.τ).loc Cert.FfRefIdeal.main_arg6))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v54) = v0 c
          ∧ r.2.mem ((c.tc : Thread Cert.DownRefIdeal.nD Cert.DownRefIdeal.τ).loc Cert.DownRefIdeal.main_v53) = v1 c
          ∧ r.2.mem ((c.tc : Thread Cert.DownRefIdeal.nD Cert.DownRefIdeal.τ).loc Cert.DownRefIdeal.main_v47) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v38) = v0 c
          ∧ r.2.mem ((c.tc : Thread Cert.HeadRefIdeal.nD Cert.HeadRefIdeal.τ).loc Cert.HeadRefIdeal.main_v41) = v1 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5))

def Claim : Prop :=
  ∃ (hQkv : Cert.Qkv.Facts) (hQkvIdeal : Cert.QkvIdeal.Facts) (hQkvRefIdeal : Cert.QkvRefIdeal.Facts) (hO : Cert.O.Facts) (hOIdeal : Cert.OIdeal.Facts) (hORefIdeal : Cert.ORefIdeal.Facts) (hFf : Cert.Ff.Facts) (hFfIdeal : Cert.FfIdeal.Facts) (hFfRefIdeal : Cert.FfRefIdeal.Facts) (hDown : Cert.Down.Facts) (hDownIdeal : Cert.DownIdeal.Facts) (hDownRefIdeal : Cert.DownRefIdeal.Facts) (hHead : Cert.Head.Facts) (hHeadIdeal : Cert.HeadIdeal.Facts) (hHeadRefIdeal : Cert.HeadRefIdeal.Facts) (hPre_tokens_named : Cert.Pre_tokens_named.Facts),
    quiescent_Qkv (hQkv := hQkv) (hPre_tokens_named := hPre_tokens_named)
    ∧ quiescent_QkvIdeal (hQkvIdeal := hQkvIdeal) (hPre_tokens_named := hPre_tokens_named)
    ∧ quiescent_QkvRefIdeal (hQkvRefIdeal := hQkvRefIdeal) (hPre_tokens_named := hPre_tokens_named)
    ∧ quiescent_O (hO := hO)
    ∧ quiescent_OIdeal (hOIdeal := hOIdeal)
    ∧ quiescent_ORefIdeal (hORefIdeal := hORefIdeal)
    ∧ quiescent_Ff (hFf := hFf)
    ∧ quiescent_FfIdeal (hFfIdeal := hFfIdeal)
    ∧ quiescent_FfRefIdeal (hFfRefIdeal := hFfRefIdeal)
    ∧ quiescent_Down (hDown := hDown)
    ∧ quiescent_DownIdeal (hDownIdeal := hDownIdeal)
    ∧ quiescent_DownRefIdeal (hDownRefIdeal := hDownRefIdeal)
    ∧ quiescent_Head (hHead := hHead)
    ∧ quiescent_HeadIdeal (hHeadIdeal := hHeadIdeal)
    ∧ quiescent_HeadRefIdeal (hHeadRefIdeal := hHeadRefIdeal)
    ∧ preserves_Qkv_QkvIdeal
    ∧ algebraic_QkvIdeal_QkvRefIdeal (hQkvIdeal := hQkvIdeal) (hQkvRefIdeal := hQkvRefIdeal) (hPre_tokens_named := hPre_tokens_named)
    ∧ preserves_O_OIdeal
    ∧ algebraic_OIdeal_ORefIdeal (hOIdeal := hOIdeal) (hORefIdeal := hORefIdeal)
    ∧ preserves_Ff_FfIdeal
    ∧ algebraic_FfIdeal_FfRefIdeal (hFfIdeal := hFfIdeal) (hFfRefIdeal := hFfRefIdeal)
    ∧ preserves_Down_DownIdeal
    ∧ algebraic_DownIdeal_DownRefIdeal (hDownIdeal := hDownIdeal) (hDownRefIdeal := hDownRefIdeal)
    ∧ preserves_Head_HeadIdeal
    ∧ algebraic_HeadIdeal_HeadRefIdeal (hHeadIdeal := hHeadIdeal) (hHeadRefIdeal := hHeadRefIdeal)
-- ==== Pre_tokens_named.lean ====
abbrev S60 : Shape := ⟨1, ![60]⟩
abbrev S8000x4096 : Shape := ⟨2, ![8000, 4096]⟩
abbrev S64x1 : Shape := ⟨2, ![64, 1]⟩
abbrev S64x4096 : Shape := ⟨2, ![64, 4096]⟩
abbrev S1x4096 : Shape := ⟨2, ![1, 4096]⟩
abbrev S64x128 : Shape := ⟨2, ![64, 128]⟩
abbrev S8 : Shape := ⟨1, ![8]⟩
abbrev S4096x6144 : Shape := ⟨2, ![4096, 6144]⟩
abbrev S64x6144 : Shape := ⟨2, ![64, 6144]⟩
abbrev S_ : Shape := ⟨0, ![]⟩

class Facts : Prop where
  bcast_S_S60 : S_.BroadcastsInDim S60 (![] : Fin 0 → Fin S60.rank)

variable [Facts]

def fn {F : FTy → Type} [FloatOps F] (main_arg0 : IVec S60 32) (main_arg1 : IVec S8000x4096 32) (main_arg2 : FVec F S64x1 .f32) (main_arg3 : FVec F S64x4096 .bf16) (main_arg4 : FVec F S1x4096 .f32) (main_arg5 : FVec F S1x4096 .f32) (main_arg6 : FVec F S64x128 .f32) (main_arg7 : FVec F S64x128 .f32) (main_arg8 : FVec F S8 .f32) (main_arg9 : FVec F S8 .f32) (main_arg10 : IVec S4096x6144 8) (main_arg11 : FVec F S64x6144 .bf16) (main_arg12 : IVec S64x6144 8) : IVec S60 1 :=
  let main_c : IVec S_ 32 := constantI S_ 32 0#32
  let main_v0 : IVec S60 32 := broadcastInDim S60 ![] bcast_S_S60 main_c
  let main_v1 : IVec S60 1 := cmpi .sge main_arg0 main_v0
  let main_c_0 : IVec S_ 32 := constantI S_ 32 32000#32
  let main_v2 : IVec S60 32 := broadcastInDim S60 ![] bcast_S_S60 main_c_0
  let main_v3 : IVec S60 1 := cmpi .slt main_arg0 main_v2
  let main_v4 : IVec S60 1 := andi main_v1 main_v3
  main_v4
-- ==== Qkv.lean ====
abbrev S60 : Shape := ⟨1, ![60]⟩
abbrev S8000x4096 : Shape := ⟨2, ![8000, 4096]⟩
abbrev S64x1 : Shape := ⟨2, ![64, 1]⟩
abbrev S64x4096 : Shape := ⟨2, ![64, 4096]⟩
abbrev S1x4096 : Shape := ⟨2, ![1, 4096]⟩
abbrev S64x128 : Shape := ⟨2, ![64, 128]⟩
abbrev S8 : Shape := ⟨1, ![8]⟩
abbrev S4096x6144 : Shape := ⟨2, ![4096, 6144]⟩
abbrev S64x6144 : Shape := ⟨2, ![64, 6144]⟩
abbrev S64x1024 : Shape := ⟨2, ![64, 1024]⟩
abbrev S4096x512 : Shape := ⟨2, ![4096, 512]⟩
abbrev S64x512 : Shape := ⟨2, ![64, 512]⟩
abbrev S64x8192 : Shape := ⟨2, ![64, 8192]⟩
abbrev S_ : Shape := ⟨0, ![]⟩
abbrev S1 : Shape := ⟨1, ![1]⟩
abbrev S4x4096 : Shape := ⟨2, ![4, 4096]⟩
abbrev S64 : Shape := ⟨1, ![64]⟩
abbrev S64x1x512 : Shape := ⟨3, ![64, 1, 512]⟩
abbrev S64x2x512 : Shape := ⟨3, ![64, 2, 512]⟩
abbrev S128x512 : Shape := ⟨2, ![128, 512]⟩
abbrev S1x512 : Shape := ⟨2, ![1, 512]⟩

abbrev nBuf : Space → Nat
  | .hbm => 16
  | .vmem => 21
  | .smem => 3
  | _ => 0

abbrev bufTy : (tb : Table) → Fin (tcTables nBuf tb) → BufTy
  | .hbm, ⟨0, _⟩ => ⟨S60, .i32⟩
  | .hbm, ⟨1, _⟩ => ⟨S8000x4096, .i32⟩
  | .hbm, ⟨2, _⟩ => ⟨S64x1, .f32⟩
  | .hbm, ⟨3, _⟩ => ⟨S64x4096, .bf16⟩
  | .hbm, ⟨4, _⟩ => ⟨S1x4096, .f32⟩
  | .hbm, ⟨5, _⟩ => ⟨S1x4096, .f32⟩
  | .hbm, ⟨6, _⟩ => ⟨S64x128, .f32⟩
  | .hbm, ⟨7, _⟩ => ⟨S64x128, .f32⟩
  | .hbm, ⟨8, _⟩ => ⟨S8, .f32⟩
  | .hbm, ⟨9, _⟩ => ⟨S8, .f32⟩
  | .hbm, ⟨10, _⟩ => ⟨S4096x6144, .i8⟩
  | .hbm, ⟨11, _⟩ => ⟨S64x6144, .bf16⟩
  | .hbm, ⟨12, _⟩ => ⟨S64x6144, .i8⟩
  | .hbm, ⟨13, _⟩ => ⟨S64x4096, .bf16⟩
  | .hbm, ⟨14, _⟩ => ⟨S64x1024, .fp8e4m3⟩
  | .hbm, ⟨15, _⟩ => ⟨S64x1024, .fp8e4m3⟩
  | .local _ .vmem, ⟨0, _⟩ => ⟨S64x1, .f32⟩
  | .local _ .vmem, ⟨1, _⟩ => ⟨S64x4096, .bf16⟩
  | .local _ .vmem, ⟨2, _⟩ => ⟨S1x4096, .f32⟩
  | .local _ .vmem, ⟨3, _⟩ => ⟨S1x4096, .f32⟩
  | .local _ .vmem, ⟨4, _⟩ => ⟨S64x128, .f32⟩
  | .local _ .vmem, ⟨5, _⟩ => ⟨S64x128, .f32⟩
  | .local _ .vmem, ⟨6, _⟩ => ⟨S4096x512, .i8⟩
  | .local _ .vmem, ⟨7, _⟩ => ⟨S4096x512, .i8⟩
  | .local _ .vmem, ⟨8, _⟩ => ⟨S64x512, .bf16⟩
  | .local _ .vmem, ⟨9, _⟩ => ⟨S64x512, .bf16⟩
  | .local _ .vmem, ⟨10, _⟩ => ⟨S64x512, .i8⟩
  | .local _ .vmem, ⟨11, _⟩ => ⟨S64x512, .i8⟩
  | .local _ .vmem, ⟨12, _⟩ => ⟨S64x512, .bf16⟩
  | .local _ .vmem, ⟨13, _⟩ => ⟨S64x512, .bf16⟩
  | .local _ .vmem, ⟨14, _⟩ => ⟨S64x512, .fp8e4m3⟩
  | .local _ .vmem, ⟨15, _⟩ => ⟨S64x512, .fp8e4m3⟩
  | .local _ .vmem, ⟨16, _⟩ => ⟨S64x512, .fp8e4m3⟩
  | .local _ .vmem, ⟨17, _⟩ => ⟨S64x512, .fp8e4m3⟩
  | .local _ .vmem, ⟨18, _⟩ => ⟨S64x8192, .bf16⟩
  | .local _ .vmem, ⟨19, _⟩ => ⟨S64x4096, .i32⟩
  | .local _ .vmem, ⟨20, _⟩ => ⟨S64x4096, .f32⟩
  | .local _ .smem, ⟨0, _⟩ => ⟨S60, .i32⟩
  | .local _ .smem, ⟨1, _⟩ => ⟨S8, .f32⟩
  | .local _ .smem, ⟨2, _⟩ => ⟨S8, .f32⟩
  | _, _ => ⟨S60, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg9_0 : Ref sig .tc := ⟨.vmem, 6, rfl⟩
abbrev cc0_stg9_1 : Ref sig .tc := ⟨.vmem, 7, rfl⟩
abbrev cc0_stg10_0 : Ref sig .tc := ⟨.vmem, 8, rfl⟩
abbrev cc0_stg10_1 : Ref sig .tc := ⟨.vmem, 9, rfl⟩
abbrev cc0_stg11_0 : Ref sig .tc := ⟨.vmem, 10, rfl⟩
abbrev cc0_stg11_1 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_stg0_0 : Ref sig .tc := ⟨.smem, 0, rfl⟩
abbrev cc0_stg7_0 : Ref sig .tc := ⟨.smem, 1, rfl⟩
abbrev cc0_stg8_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_548 : BitVec 32 := 0#32
  let c60_i32 : BitVec 32 := 60#32
  let v1425 : BitVec 32 := Scalar.addi c0_i32_548 c60_i32
  let c1_i32 : BitVec 32 := 1#32
  ⟨c0_i32_548, v1425, c1_i32⟩
def k0_off1 (k0_t1 : Fin k0_t1_loop.trips) : Fin 1 → Nat :=
  let c0_i32_582 : BitVec 32 := 0#32
  let c0_i32_548 : BitVec 32 := 0#32
  let c1_i32 : BitVec 32 := 1#32
  let arg21 : BitVec 32 := Scf.iv c0_i32_548 c1_i32 k0_t1
  let c1_i32_581 : BitVec 32 := 1#32
  let v1472 : BitVec 32 := Scalar.muli arg21 c1_i32_581
  let v1473 : BitVec 32 := Scalar.addi c0_i32_582 v1472
  let v1474 : Index := Scalar.indexCast v1473
  ![v1474.toNat]
def k0_off2 (k0_t1 : Fin k0_t1_loop.trips) : Fin 2 → Nat :=
  let c0_i32_582 : BitVec 32 := 0#32
  let c0_i32_548 : BitVec 32 := 0#32
  let c1_i32 : BitVec 32 := 1#32
  let arg21 : BitVec 32 := Scf.iv c0_i32_548 c1_i32 k0_t1
  let c1_i32_581 : BitVec 32 := 1#32
  let v1472 : BitVec 32 := Scalar.muli arg21 c1_i32_581
  let v1473 : BitVec 32 := Scalar.addi c0_i32_582 v1472
  let c0_i32_590 : BitVec 32 := 0#32
  ![v1473.toNat, 0]
def k0_off3 (v1475 : BitVec 32) : Fin 2 → Nat :=
  let c0_i32_584 : BitVec 32 := 0#32
  let v1477 : BitVec 1 := Scalar.cmpi .sgt v1475 c0_i32_584
  let v1478 : BitVec 32 := Scalar.extui v1477
  let c0_i32_585 : BitVec 32 := 0#32
  let v1479 : BitVec 1 := Scalar.cmpi .slt v1475 c0_i32_585
  let v1480 : BitVec 32 := Scalar.extui v1479
  let v1481 : BitVec 32 := Scalar.subi v1478 v1480
  let c4_i32_583 : BitVec 32 := 4#32
  let c0_i32_586 : BitVec 32 := 0#32
  let v1482 : BitVec 1 := Scalar.cmpi .sgt c4_i32_583 c0_i32_586
  let v1483 : BitVec 32 := Scalar.extui v1482
  let c0_i32_587 : BitVec 32 := 0#32
  let v1484 : BitVec 1 := Scalar.cmpi .slt c4_i32_583 c0_i32_587
  let v1485 : BitVec 32 := Scalar.extui v1484
  let v1486 : BitVec 32 := Scalar.subi v1483 v1485
  let v1487 : BitVec 1 := Scalar.cmpi .ne v1481 v1486
  let v1488 : BitVec 32 := Scalar.remsi v1475 c4_i32_583
  let c0_i32_588 : BitVec 32 := 0#32
  let v1489 : BitVec 1 := Scalar.cmpi .ne v1488 c0_i32_588
  let v1490 : BitVec 1 := Scalar.andi v1487 v1489
  let v1476 : BitVec 32 := Scalar.divsi v1475 c4_i32_583
  let c1_i32_589 : BitVec 32 := 1#32
  let v1491 : BitVec 32 := Scalar.subi v1476 c1_i32_589
  let v1492 : BitVec 32 := Scalar.select v1490 v1491 v1476
  let c0_i32_591 : BitVec 32 := 0#32
  ![v1492.toNat, 0]

def k0_chk1 (i : grid0.Coords) (v1475 : BitVec 32) : Prop :=
  (∀ (k0_h1 : k0_cond1 i = 1#1), ∀ a, (k0_off3 v1475) a + S1x4096.size a ≤ S8000x4096.size a)
theorem k0_off3_inb : ∀ (i : grid0.Coords) (v1475 : BitVec 32) (k0_hw1 : k0_chk1 i v1475), ∀ (k0_h1 : k0_cond1 i = 1#1), ∀ a, (k0_off3 v1475) a + S1x4096.size a ≤ S8000x4096.size a := fun i v1475 k0_hw1 k0_h1 => k0_hw1 k0_h1

@[reducible] def k0_t2_loop : Scf.Loop 32 :=
  let c0_i32_550 : BitVec 32 := 0#32
  let c60_i32_551 : BitVec 32 := 60#32
  let v1426 : BitVec 32 := Scalar.addi c0_i32_550 c60_i32_551
  let c1_i32_552 : BitVec 32 := 1#32
  ⟨c0_i32_550, v1426, c1_i32_552⟩
def k0_off4 (k0_t2 : Fin k0_t2_loop.trips) : Fin 1 → Nat :=
  let c0_i32_582 : BitVec 32 := 0#32
  let c0_i32_550 : BitVec 32 := 0#32
  let c1_i32_552 : BitVec 32 := 1#32
  let arg21 : BitVec 32 := Scf.iv c0_i32_550 c1_i32_552 k0_t2
  let c1_i32_581 : BitVec 32 := 1#32
  let v1472 : BitVec 32 := Scalar.muli arg21 c1_i32_581
  let v1473 : BitVec 32 := Scalar.addi c0_i32_582 v1472
  let v1474 : Index := Scalar.indexCast v1473
  ![v1474.toNat]
def k0_off5 (k0_t2 : Fin k0_t2_loop.trips) : Fin 2 → Nat :=
  let c0_i32_582 : BitVec 32 := 0#32
  let c0_i32_550 : BitVec 32 := 0#32
  let c1_i32_552 : BitVec 32 := 1#32
  let arg21 : BitVec 32 := Scf.iv c0_i32_550 c1_i32_552 k0_t2
  let c1_i32_581 : BitVec 32 := 1#32
  let v1472 : BitVec 32 := Scalar.muli arg21 c1_i32_581
  let v1473 : BitVec 32 := Scalar.addi c0_i32_582 v1472
  let c0_i32_590 : BitVec 32 := 0#32
  ![v1473.toNat, 0]
def k0_off6 (v1475 : BitVec 32) : Fin 2 → Nat :=
  let c0_i32_584 : BitVec 32 := 0#32
  let v1477 : BitVec 1 := Scalar.cmpi .sgt v1475 c0_i32_584
  let v1478 : BitVec 32 := Scalar.extui v1477
  let c0_i32_585 : BitVec 32 := 0#32
  let v1479 : BitVec 1 := Scalar.cmpi .slt v1475 c0_i32_585
  let v1480 : BitVec 32 := Scalar.extui v1479
  let v1481 : BitVec 32 := Scalar.subi v1478 v1480
  let c4_i32_583 : BitVec 32 := 4#32
  let c0_i32_586 : BitVec 32 := 0#32
  let v1482 : BitVec 1 := Scalar.cmpi .sgt c4_i32_583 c0_i32_586
  let v1483 : BitVec 32 := Scalar.extui v1482
  let c0_i32_587 : BitVec 32 := 0#32
  let v1484 : BitVec 1 := Scalar.cmpi .slt c4_i32_583 c0_i32_587
  let v1485 : BitVec 32 := Scalar.extui v1484
  let v1486 : BitVec 32 := Scalar.subi v1483 v1485
  let v1487 : BitVec 1 := Scalar.cmpi .ne v1481 v1486
  let v1488 : BitVec 32 := Scalar.remsi v1475 c4_i32_583
  let c0_i32_588 : BitVec 32 := 0#32
  let v1489 : BitVec 1 := Scalar.cmpi .ne v1488 c0_i32_588
  let v1490 : BitVec 1 := Scalar.andi v1487 v1489
  let v1476 : BitVec 32 := Scalar.divsi v1475 c4_i32_583
  let c1_i32_589 : BitVec 32 := 1#32
  let v1491 : BitVec 32 := Scalar.subi v1476 c1_i32_589
  let v1492 : BitVec 32 := Scalar.select v1490 v1491 v1476
  let c0_i32_591 : BitVec 32 := 0#32
  ![v1492.toNat, 0]

def k0_chk2 (i : grid0.Coords) (v1475 : BitVec 32) : Prop :=
  (∀ (k0_h1 : k0_cond1 i = 1#1), ∀ a, (k0_off6 v1475) a + S1x4096.size a ≤ S8000x4096.size a)
theorem k0_off6_inb : ∀ (i : grid0.Coords) (v1475 : BitVec 32) (k0_hw2 : k0_chk2 i v1475), ∀ (k0_h1 : k0_cond1 i = 1#1), ∀ a, (k0_off6 v1475) a + S1x4096.size a ≤ S8000x4096.size a := fun i v1475 k0_hw2 k0_h1 => k0_hw2 k0_h1

@[reducible] def k0_t3_loop : Scf.Loop 32 :=
  let c0_i32_557 : BitVec 32 := 0#32
  let c60_i32_558 : BitVec 32 := 60#32
  let v1431 : BitVec 32 := Scalar.addi c0_i32_557 c60_i32_558
  let c1_i32_559 : BitVec 32 := 1#32
  ⟨c0_i32_557, v1431, c1_i32_559⟩
def k0_off7 (k0_t3 : Fin k0_t3_loop.trips) : Fin 1 → Nat :=
  let c0_i32_582 : BitVec 32 := 0#32
  let c0_i32_557 : BitVec 32 := 0#32
  let c1_i32_559 : BitVec 32 := 1#32
  let arg21 : BitVec 32 := Scf.iv c0_i32_557 c1_i32_559 k0_t3
  let c1_i32_581 : BitVec 32 := 1#32
  let v1472 : BitVec 32 := Scalar.muli arg21 c1_i32_581
  let v1473 : BitVec 32 := Scalar.addi c0_i32_582 v1472
  let v1474 : Index := Scalar.indexCast v1473
  ![v1474.toNat]
def k0_off8 (k0_t3 : Fin k0_t3_loop.trips) : Fin 2 → Nat :=
  let c0_i32_582 : BitVec 32 := 0#32
  let c0_i32_557 : BitVec 32 := 0#32
  let c1_i32_559 : BitVec 32 := 1#32
  let arg21 : BitVec 32 := Scf.iv c0_i32_557 c1_i32_559 k0_t3
  let c1_i32_581 : BitVec 32 := 1#32
  let v1472 : BitVec 32 := Scalar.muli arg21 c1_i32_581
  let v1473 : BitVec 32 := Scalar.addi c0_i32_582 v1472
  let v1488 : Index := Scalar.indexCast v1473
  let c0_590 : Index := 0#32
  ![v1488.toNat, 0]
def k0_cond3 (i : grid0.Coords) : BitVec 1 :=
  let arg0 : BitVec 32 := BitVec.ofNat 32 (i 0).val
  let c8_i32_544 : BitVec 32 := 8#32
  let v1417 : BitVec 1 := Scalar.cmpi .sge arg0 c8_i32_544
  let c10_i32 : BitVec 32 := 10#32
  let v1418 : BitVec 1 := Scalar.cmpi .slt arg0 c10_i32
  let v1419 : BitVec 1 := Scalar.andi v1417 v1418
  let v1420 : BitVec 32 := Scalar.extui v1419
  let c0_i32_545 : BitVec 32 := 0#32
  let v1421 : BitVec 1 := Scalar.cmpi .ne v1420 c0_i32_545
  v1421

def k0_off9 (i : grid0.Coords) (c0_i32_554 : BitVec 32) : Fin 1 → Nat :=
  let arg0 : BitVec 32 := BitVec.ofNat 32 (i 0).val
  let c8_i32_552 : BitVec 32 := 8#32
  let v1431 : BitVec 32 := Scalar.subi arg0 c8_i32_552
  let c4_i32_553 : BitVec 32 := 4#32
  let v1432 : BitVec 32 := Scalar.muli v1431 c4_i32_553
  let v1433 : BitVec 32 := Scalar.addi v1432 c0_i32_554
  let v1434 : Index := Scalar.indexCast v1433
  ![v1434.toNat]
def k0_cond4 (i : grid0.Coords) : BitVec 1 :=
  let arg0 : BitVec 32 := BitVec.ofNat 32 (i 0).val
  let c10_i32_546 : BitVec 32 := 10#32
  let v1422 : BitVec 1 := Scalar.cmpi .sge arg0 c10_i32_546
  let v1423 : BitVec 32 := Scalar.extui v1422
  let c0_i32_547 : BitVec 32 := 0#32
  let v1424 : BitVec 1 := Scalar.cmpi .ne v1423 c0_i32_547
  v1424

def k0_off10 (i : grid0.Coords) (c0_i32_550 : BitVec 32) : Fin 1 → Nat :=
  let arg0 : BitVec 32 := BitVec.ofNat 32 (i 0).val
  let c10_i32_548 : BitVec 32 := 10#32
  let v1425 : BitVec 32 := Scalar.subi arg0 c10_i32_548
  let c4_i32_549 : BitVec 32 := 4#32
  let v1426 : BitVec 32 := Scalar.muli v1425 c4_i32_549
  let v1427 : BitVec 32 := Scalar.addi v1426 c0_i32_550
  let v1428 : Index := Scalar.indexCast v1427
  ![v1428.toNat]
def k0_cond2 (i : grid0.Coords) : BitVec 1 :=
  let arg0 : BitVec 32 := BitVec.ofNat 32 (i 0).val
  let c8_i32 : BitVec 32 := 8#32
  let v1414 : BitVec 1 := Scalar.cmpi .slt arg0 c8_i32
  let v1415 : BitVec 32 := Scalar.extui v1414
  let c0_i32_543 : BitVec 32 := 0#32
  let v1416 : BitVec 1 := Scalar.cmpi .ne v1415 c0_i32_543
  v1416

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_15 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

abbrev stage0_0 : Fin 1 → Memref sig .tc .smem S60 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x512 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x512 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x512 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x512 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== QkvRefIdeal.lean ====
abbrev S60 : Shape := ⟨1, ![60]⟩
abbrev S8000x4096 : Shape := ⟨2, ![8000, 4096]⟩
abbrev S64x1 : Shape := ⟨2, ![64, 1]⟩
abbrev S64x4096 : Shape := ⟨2, ![64, 4096]⟩
abbrev S1x4096 : Shape := ⟨2, ![1, 4096]⟩
abbrev S64x128 : Shape := ⟨2, ![64, 128]⟩
abbrev S8 : Shape := ⟨1, ![8]⟩
abbrev S4096x6144 : Shape := ⟨2, ![4096, 6144]⟩
abbrev S64x6144 : Shape := ⟨2, ![64, 6144]⟩
abbrev S_ : Shape := ⟨0, ![]⟩
abbrev S60x1 : Shape := ⟨2, ![60, 1]⟩
abbrev S60x4096 : Shape := ⟨2, ![60, 4096]⟩
abbrev S4x4096 : Shape := ⟨2, ![4, 4096]⟩
abbrev S64 : Shape := ⟨1, ![64]⟩
abbrev S64x8192 : Shape := ⟨2, ![64, 8192]⟩
abbrev S64x64x6144 : Shape := ⟨3, ![64, 64, 6144]⟩
abbrev S64x1x6144 : Shape := ⟨3, ![64, 1, 6144]⟩
abbrev S64x48x128 : Shape := ⟨3, ![64, 48, 128]⟩
abbrev S64x32x128 : Shape := ⟨3, ![64, 32, 128]⟩
abbrev S64x1x128 : Shape := ⟨3, ![64, 1, 128]⟩
abbrev S64x32x64 : Shape := ⟨3, ![64, 32, 64]⟩
abbrev S64x8x128 : Shape := ⟨3, ![64, 8, 128]⟩
abbrev S64x8x64 : Shape := ⟨3, ![64, 8, 64]⟩
abbrev S8x1 : Shape := ⟨2, ![8, 1]⟩
abbrev S1x8x1 : Shape := ⟨3, ![1, 8, 1]⟩
abbrev S64x1024 : Shape := ⟨2, ![64, 1024]⟩

abbrev nBuf : Space → Nat
  | .hbm => 189
  | .vmem => 4
  | .smem => 0
  | _ => 0

abbrev hbmTy0_0 (i : Nat) : BufTy := match i % 128 with
  | 0 => ⟨S60, .i32⟩
  | 1 => ⟨S8000x4096, .i32⟩
  | 2 => ⟨S64x1, .f32⟩
  | 3 => ⟨S64x4096, .bf16⟩
  | 4 => ⟨S1x4096, .f32⟩
  | 5 => ⟨S1x4096, .f32⟩
  | 6 => ⟨S64x128, .f32⟩
  | 7 => ⟨S64x128, .f32⟩
  | 8 => ⟨S8, .f32⟩
  | 9 => ⟨S8, .f32⟩
  | 10 => ⟨S4096x6144, .i8⟩
  | 11 => ⟨S64x6144, .bf16⟩
  | 12 => ⟨S64x6144, .i8⟩
  | 13 => ⟨S_, .i32⟩
  | 14 => ⟨S_, .i32⟩
  | 15 => ⟨S60, .i32⟩
  | 16 => ⟨S60, .i32⟩
  | 17 => ⟨S60, .i32⟩
  | 18 => ⟨S_, .i32⟩
  | 19 => ⟨S60, .i32⟩
  | 20 => ⟨S60, .i1⟩
  | 21 => ⟨S60, .i32⟩
  | 22 => ⟨S60, .i32⟩
  | 23 => ⟨S_, .i32⟩
  | 24 => ⟨S60, .i32⟩
  | 25 => ⟨S60, .i1⟩
  | 26 => ⟨S60, .i1⟩
  | 27 => ⟨S_, .i32⟩
  | 28 => ⟨S60, .i32⟩
  | 29 => ⟨S60, .i32⟩
  | 30 => ⟨S60, .i32⟩
  | 31 => ⟨S60x1, .i32⟩
  | 32 => ⟨S60x4096, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S60, .i32⟩
  | 40 => ⟨S60, .i32⟩
  | 41 => ⟨S_, .i32⟩
  | 42 => ⟨S60, .i32⟩
  | 43 => ⟨S60, .i1⟩
  | 44 => ⟨S_, .i32⟩
  | 45 => ⟨S60, .i32⟩
  | 46 => ⟨S60, .i1⟩
  | 47 => ⟨S_, .i32⟩
  | 48 => ⟨S_, .i1⟩
  | 49 => ⟨S60, .i1⟩
  | 50 => ⟨S60, .i1⟩
  | 51 => ⟨S60, .i1⟩
  | 52 => ⟨S60, .i32⟩
  | 53 => ⟨S60, .i32⟩
  | 54 => ⟨S60, .i32⟩
  | 55 => ⟨S60x1, .i32⟩
  | 56 => ⟨S_, .i32⟩
  | 57 => ⟨S60x1, .i32⟩
  | 58 => ⟨S60x1, .i32⟩
  | 59 => ⟨S_, .i32⟩
  | 60 => ⟨S60x1, .i32⟩
  | 61 => ⟨S60x1, .i32⟩
  | 62 => ⟨S60x4096, .i32⟩
  | 63 => ⟨S60x4096, .i32⟩
  | 64 => ⟨S_, .i32⟩
  | 65 => ⟨S60x4096, .i32⟩
  | 66 => ⟨S60x4096, .i32⟩
  | 67 => ⟨S60x4096, .f32⟩
  | 68 => ⟨S_, .f32⟩
  | 69 => ⟨S4x4096, .f32⟩
  | 70 => ⟨S64x4096, .f32⟩
  | 71 => ⟨S64x4096, .f32⟩
  | 72 => ⟨S64x4096, .f32⟩
  | 73 => ⟨S64x4096, .f32⟩
  | 74 => ⟨S_, .f32⟩
  | 75 => ⟨S64, .f32⟩
  | 76 => ⟨S64x1, .f32⟩
  | 77 => ⟨S_, .f32⟩
  | 78 => ⟨S64x1, .f32⟩
  | 79 => ⟨S64x1, .f32⟩
  | 80 => ⟨S_, .f32⟩
  | 81 => ⟨S64x1, .f32⟩
  | 82 => ⟨S64x1, .f32⟩
  | 83 => ⟨S64x1, .f32⟩
  | 84 => ⟨S64x4096, .f32⟩
  | 85 => ⟨S64x4096, .f32⟩
  | 86 => ⟨S64x4096, .f32⟩
  | 87 => ⟨S64x4096, .f32⟩
  | 88 => ⟨S64x4096, .f32⟩
  | 89 => ⟨S64x4096, .f32⟩
  | 90 => ⟨S_, .f32⟩
  | 91 => ⟨S64, .f32⟩
  | 92 => ⟨S64x1, .f32⟩
  | 93 => ⟨S_, .f32⟩
  | 94 => ⟨S64x1, .f32⟩
  | 95 => ⟨S64x1, .f32⟩
  | 96 => ⟨S_, .f32⟩
  | 97 => ⟨S64x1, .f32⟩
  | 98 => ⟨S64x1, .f32⟩
  | 99 => ⟨S64x1, .f32⟩
  | 100 => ⟨S64x4096, .f32⟩
  | 101 => ⟨S64x4096, .f32⟩
  | 102 => ⟨S64x4096, .f32⟩
  | 103 => ⟨S64x4096, .f32⟩
  | 104 => ⟨S64x8192, .f32⟩
  | 105 => ⟨S64x8192, .bf16⟩
  | 106 => ⟨S4096x6144, .i32⟩
  | 107 => ⟨S64x64x6144, .i32⟩
  | 108 => ⟨S64x6144, .i32⟩
  | 109 => ⟨S64x6144, .bf16⟩
  | 110 => ⟨S64x1x6144, .bf16⟩
  | 111 => ⟨S64x1x6144, .bf16⟩
  | 112 => ⟨S_, .i32⟩
  | 113 => ⟨S64x64x6144, .i32⟩
  | 114 => ⟨S64x64x6144, .i32⟩
  | 115 => ⟨S64x64x6144, .bf16⟩
  | 116 => ⟨S64x64x6144, .bf16⟩
  | 117 => ⟨S64x64x6144, .bf16⟩
  | 118 => ⟨S64x64x6144, .bf16⟩
  | 119 => ⟨S64x64x6144, .bf16⟩
  | 120 => ⟨S4096x6144, .bf16⟩
  | 121 => ⟨S_, .i32⟩
  | 122 => ⟨S64x64x6144, .i32⟩
  | 123 => ⟨S64x64x6144, .i32⟩
  | 124 => ⟨S64x64x6144, .bf16⟩
  | 125 => ⟨S64x64x6144, .bf16⟩
  | 126 => ⟨S64x64x6144, .bf16⟩
  | 127 => ⟨S64x64x6144, .bf16⟩
  | _ => ⟨S60, .i32⟩

abbrev hbmTy0_1 (i : Nat) : BufTy := match i % 128 with
  | 0 => ⟨S64x64x6144, .bf16⟩
  | 1 => ⟨S4096x6144, .bf16⟩
  | 2 => ⟨S64x4096, .bf16⟩
  | 3 => ⟨S64x6144, .f32⟩
  | 4 => ⟨S64x4096, .bf16⟩
  | 5 => ⟨S64x6144, .f32⟩
  | 6 => ⟨S64x6144, .f32⟩
  | 7 => ⟨S64x48x128, .f32⟩
  | 8 => ⟨S64x32x128, .f32⟩
  | 9 => ⟨S64x1x128, .f32⟩
  | 10 => ⟨S64x32x128, .f32⟩
  | 11 => ⟨S64x32x128, .f32⟩
  | 12 => ⟨S64x32x64, .f32⟩
  | 13 => ⟨S64x32x64, .f32⟩
  | 14 => ⟨S64x32x128, .f32⟩
  | 15 => ⟨S64x1x128, .f32⟩
  | 16 => ⟨S64x32x128, .f32⟩
  | 17 => ⟨S64x32x128, .f32⟩
  | 18 => ⟨S64x32x128, .f32⟩
  | 19 => ⟨S64x4096, .f32⟩
  | 20 => ⟨S64x4096, .bf16⟩
  | 21 => ⟨S64x8x128, .f32⟩
  | 22 => ⟨S64x1x128, .f32⟩
  | 23 => ⟨S64x8x128, .f32⟩
  | 24 => ⟨S64x8x128, .f32⟩
  | 25 => ⟨S64x8x64, .f32⟩
  | 26 => ⟨S64x8x64, .f32⟩
  | 27 => ⟨S64x8x128, .f32⟩
  | 28 => ⟨S64x1x128, .f32⟩
  | 29 => ⟨S64x8x128, .f32⟩
  | 30 => ⟨S64x8x128, .f32⟩
  | 31 => ⟨S64x8x128, .f32⟩
  | 32 => ⟨S8x1, .f32⟩
  | 33 => ⟨S1x8x1, .f32⟩
  | 34 => ⟨S64x8x128, .f32⟩
  | 35 => ⟨S64x8x128, .f32⟩
  | 36 => ⟨S_, .f32⟩
  | 37 => ⟨S_, .f32⟩
  | 38 => ⟨S_, .f32⟩
  | 39 => ⟨S64x8x128, .f32⟩
  | 40 => ⟨S64x8x128, .f32⟩
  | 41 => ⟨S_, .f32⟩
  | 42 => ⟨S64x8x128, .f32⟩
  | 43 => ⟨S64x8x128, .f32⟩
  | 44 => ⟨S64x8x128, .f32⟩
  | 45 => ⟨S8x1, .f32⟩
  | 46 => ⟨S1x8x1, .f32⟩
  | 47 => ⟨S64x8x128, .f32⟩
  | 48 => ⟨S64x8x128, .f32⟩
  | 49 => ⟨S_, .f32⟩
  | 50 => ⟨S_, .f32⟩
  | 51 => ⟨S_, .f32⟩
  | 52 => ⟨S64x8x128, .f32⟩
  | 53 => ⟨S64x8x128, .f32⟩
  | 54 => ⟨S_, .f32⟩
  | 55 => ⟨S64x8x128, .f32⟩
  | 56 => ⟨S64x8x128, .f32⟩
  | 57 => ⟨S64x1024, .f32⟩
  | 58 => ⟨S64x1024, .f32⟩
  | 59 => ⟨S64x1024, .fp8e4m3⟩
  | 60 => ⟨S64x1024, .fp8e4m3⟩
  | _ => ⟨S60, .i32⟩

abbrev hbmTy (i : Nat) : BufTy := match i / 128 with
  | 0 => hbmTy0_0 i
  | 1 => hbmTy0_1 i
  | _ => ⟨S60, .i32⟩

abbrev bufTy : (tb : Table) → Fin (tcTables nBuf tb) → BufTy
  | .hbm, ⟨i, _⟩ => hbmTy i
  | .local _ .vmem, ⟨0, _⟩ => ⟨S64x1024, .f32⟩
  | .local _ .vmem, ⟨1, _⟩ => ⟨S64x1024, .f32⟩
  | .local _ .vmem, ⟨2, _⟩ => ⟨S64x1024, .fp8e4m3⟩
  | .local _ .vmem, ⟨3, _⟩ => ⟨S64x1024, .fp8e4m3⟩
  | _, _ => ⟨S60, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v0 : Ref sig .tc := ⟨.hbm, 30, rfl⟩
abbrev main_call1_v0 : Ref sig .tc := ⟨.hbm, 31, rfl⟩
abbrev main_v1 : Ref sig .tc := ⟨.hbm, 32, rfl⟩
abbrev main_c_0 : Ref sig .tc := ⟨.hbm, 33, rfl⟩
abbrev main_call2_v0 : Ref sig .tc := ⟨.hbm, 34, rfl⟩
abbrev main_call2_c : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_c_1 : Ref sig .tc := ⟨.hbm, 41, rfl⟩
abbrev main_call2_v5 : Ref sig .tc := ⟨.hbm, 42, rfl⟩
abbrev main_call2_v6 : Ref sig .tc := ⟨.hbm, 43, rfl⟩
abbrev main_call2_c_2 : Ref sig .tc := ⟨.hbm, 44, rfl⟩
abbrev main_call2_v7 : Ref sig .tc := ⟨.hbm, 45, rfl⟩
abbrev main_call2_v8 : Ref sig .tc := ⟨.hbm, 46, rfl⟩
abbrev main_call2_c_3 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_v12 : Ref sig .tc := ⟨.hbm, 51, rfl⟩
abbrev main_call2_v13 : Ref sig .tc := ⟨.hbm, 52, rfl⟩
abbrev main_call2_v14 : Ref sig .tc := ⟨.hbm, 53, rfl⟩
abbrev main_v2 : Ref sig .tc := ⟨.hbm, 54, rfl⟩
abbrev main_v3 : Ref sig .tc := ⟨.hbm, 55, rfl⟩
abbrev main_c_1 : Ref sig .tc := ⟨.hbm, 56, rfl⟩
abbrev main_v4 : Ref sig .tc := ⟨.hbm, 57, rfl⟩
abbrev main_v5 : Ref sig .tc := ⟨.hbm, 58, rfl⟩
abbrev main_c_2 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_c_3 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_cst : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_cst_4 : Ref sig .tc := ⟨.hbm, 74, rfl⟩
abbrev main_v18 : Ref sig .tc := ⟨.hbm, 75, rfl⟩
abbrev main_v19 : Ref sig .tc := ⟨.hbm, 76, rfl⟩
abbrev main_cst_5 : Ref sig .tc := ⟨.hbm, 77, rfl⟩
abbrev main_v20 : Ref sig .tc := ⟨.hbm, 78, rfl⟩
abbrev main_v21 : Ref sig .tc := ⟨.hbm, 79, rfl⟩
abbrev main_cst_6 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_cst_7 : Ref sig .tc := ⟨.hbm, 90, rfl⟩
abbrev main_v31 : Ref sig .tc := ⟨.hbm, 91, rfl⟩
abbrev main_v32 : Ref sig .tc := ⟨.hbm, 92, rfl⟩
abbrev main_cst_8 : Ref sig .tc := ⟨.hbm, 93, rfl⟩
abbrev main_v33 : Ref sig .tc := ⟨.hbm, 94, rfl⟩
abbrev main_v34 : Ref sig .tc := ⟨.hbm, 95, rfl⟩
abbrev main_cst_9 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_c_10 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_c_11 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_cst_12 : Ref sig .tc := ⟨.hbm, 164, rfl⟩
abbrev main_cst_13 : Ref sig .tc := ⟨.hbm, 165, rfl⟩
abbrev main_call3_v0 : Ref sig .tc := ⟨.hbm, 166, rfl⟩
abbrev main_call3_v1 : Ref sig .tc := ⟨.hbm, 167, rfl⟩
abbrev main_call3_v2 : Ref sig .tc := ⟨.hbm, 168, rfl⟩
abbrev main_call3_v3 : Ref sig .tc := ⟨.hbm, 169, rfl⟩
abbrev main_call3_v4 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_cst_14 : Ref sig .tc := ⟨.hbm, 177, rfl⟩
abbrev main_cst_15 : Ref sig .tc := ⟨.hbm, 178, rfl⟩
abbrev main_call4_v0 : Ref sig .tc := ⟨.hbm, 179, rfl⟩
abbrev main_call4_v1 : Ref sig .tc := ⟨.hbm, 180, rfl⟩
abbrev main_call4_v2 : Ref sig .tc := ⟨.hbm, 181, rfl⟩
abbrev main_call4_v3 : Ref sig .tc := ⟨.hbm, 182, rfl⟩
abbrev main_call4_v4 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109_0 : Ref sig .tc := ⟨.hbm, 187, rfl⟩
abbrev main_v109_1 : Ref sig .tc := ⟨.hbm, 188, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== O.lean ====
abbrev S64x4096 : Shape := ⟨2, ![64, 4096]⟩
abbrev S1x4096 : Shape := ⟨2, ![1, 4096]⟩
abbrev S2048x4096 : Shape := ⟨2, ![2048, 4096]⟩
abbrev S32x4096 : Shape := ⟨2, ![32, 4096]⟩
abbrev S2048x512 : Shape := ⟨2, ![2048, 512]⟩
abbrev S32x512 : Shape := ⟨2, ![32, 512]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S1x512 : Shape := ⟨2, ![1, 512]⟩
abbrev S64x128 : Shape := ⟨2, ![64, 128]⟩
abbrev S64 : Shape := ⟨1, ![64]⟩
abbrev S64x1 : Shape := ⟨2, ![64, 1]⟩

abbrev nBuf : Space → Nat
  | .hbm => 8
  | .vmem => 11
  | .smem => 0
  | _ => 0

abbrev bufTy : (tb : Table) → Fin (tcTables nBuf tb) → BufTy
  | .hbm, ⟨0, _⟩ => ⟨S64x4096, .bf16⟩
  | .hbm, ⟨1, _⟩ => ⟨S64x4096, .bf16⟩
  | .hbm, ⟨2, _⟩ => ⟨S1x4096, .f32⟩
  | .hbm, ⟨3, _⟩ => ⟨S2048x4096, .i8⟩
  | .hbm, ⟨4, _⟩ => ⟨S32x4096, .bf16⟩
  | .hbm, ⟨5, _⟩ => ⟨S32x4096, .i8⟩
  | .hbm, ⟨6, _⟩ => ⟨S64x4096, .f32⟩
  | .hbm, ⟨7, _⟩ => ⟨S64x4096, .bf16⟩
  | .local _ .vmem, ⟨0, _⟩ => ⟨S64x4096, .bf16⟩
  | .local _ .vmem, ⟨1, _⟩ => ⟨S64x4096, .bf16⟩
  | .local _ .vmem, ⟨2, _⟩ => ⟨S1x4096, .f32⟩
  | .local _ .vmem, ⟨3, _⟩ => ⟨S2048x512, .i8⟩
  | .local _ .vmem, ⟨4, _⟩ => ⟨S2048x512, .i8⟩
  | .local _ .vmem, ⟨5, _⟩ => ⟨S32x512, .bf16⟩
  | .local _ .vmem, ⟨6, _⟩ => ⟨S32x512, .bf16⟩
  | .local _ .vmem, ⟨7, _⟩ => ⟨S32x512, .i8⟩
  | .local _ .vmem, ⟨8, _⟩ => ⟨S32x512, .i8⟩
  | .local _ .vmem, ⟨9, _⟩ => ⟨S64x4096, .f32⟩
  | .local _ .vmem, ⟨10, _⟩ => ⟨S64x4096, .bf16⟩
  | _, _ => ⟨S64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_off1 (i : grid0.Coords) : Fin 2 → Nat :=
  let c0 : Index := 0#32
  let arg0 : BitVec 32 := BitVec.ofNat 32 (i 0).val
  let c512_i32 : BitVec 32 := 512#32
  let v0 : BitVec 32 := Scalar.muli arg0 c512_i32
  let v1 : BitVec 32 := v0
  let v2 : Index := Scalar.indexCast v1
  ![0, v2.toNat]
def k0_cond1 (i : grid0.Coords) : BitVec 1 :=
  let arg0 : BitVec 32 := BitVec.ofNat 32 (i 0).val
  let c7_i32 : BitVec 32 := 7#32
  let v711 : BitVec 1 := Scalar.cmpi .eq arg0 c7_i32
  let v712 : BitVec 32 := Scalar.extui v711
  let c0_i32 : BitVec 32 := 0#32
  let v713 : BitVec 1 := Scalar.cmpi .ne v712 c0_i32
  v713

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ORefIdeal.lean ====
abbrev S64x4096 : Shape := ⟨2, ![64, 4096]⟩
abbrev S1x4096 : Shape := ⟨2, ![1, 4096]⟩
abbrev S2048x4096 : Shape := ⟨2, ![2048, 4096]⟩
abbrev S32x4096 : Shape := ⟨2, ![32, 4096]⟩
abbrev S32x64x4096 : Shape := ⟨3, ![32, 64, 4096]⟩
abbrev S32x1x4096 : Shape := ⟨3, ![32, 1, 4096]⟩
abbrev S_ : Shape := ⟨0, ![]⟩
abbrev S64x2048 : Shape := ⟨2, ![64, 2048]⟩
abbrev S64 : Shape := ⟨1, ![64]⟩
abbrev S64x1 : Shape := ⟨2, ![64, 1]⟩

abbrev nBuf : Space → Nat
  | .hbm => 53
  | .vmem => 0
  | .smem => 0
  | _ => 0

abbrev bufTy : (tb : Table) → Fin (tcTables nBuf tb) → BufTy
  | .hbm, ⟨0, _⟩ => ⟨S64x4096, .bf16⟩
  | .hbm, ⟨1, _⟩ => ⟨S64x4096, .bf16⟩
  | .hbm, ⟨2, _⟩ => ⟨S1x4096, .f32⟩
  | .hbm, ⟨3, _⟩ => ⟨S2048x4096, .i8⟩
  | .hbm, ⟨4, _⟩ => ⟨S32x4096, .bf16⟩
  | .hbm, ⟨5, _⟩ => ⟨S32x4096, .i8⟩
  | .hbm, ⟨6, _⟩ => ⟨S64x4096, .f32⟩
  | .hbm, ⟨7, _⟩ => ⟨S2048x4096, .i32⟩
  | .hbm, ⟨8, _⟩ => ⟨S32x64x4096, .i32⟩
  | .hbm, ⟨9, _⟩ => ⟨S32x4096, .i32⟩
  | .hbm, ⟨10, _⟩ => ⟨S32x4096, .bf16⟩
  | .hbm, ⟨11, _⟩ => ⟨S32x1x4096, .bf16⟩
  | .hbm, ⟨12, _⟩ => ⟨S32x1x4096, .bf16⟩
  | .hbm, ⟨13, _⟩ => ⟨S_, .i32⟩
  | .hbm, ⟨14, _⟩ => ⟨S32x64x4096, .i32⟩
  | .hbm, ⟨15, _⟩ => ⟨S32x64x4096, .i32⟩
  | .hbm, ⟨16, _⟩ => ⟨S32x64x4096, .bf16⟩
  | .hbm, ⟨17, _⟩ => ⟨S32x64x4096, .bf16⟩
  | .hbm, ⟨18, _⟩ => ⟨S32x64x4096, .bf16⟩
  | .hbm, ⟨19, _⟩ => ⟨S32x64x4096, .bf16⟩
  | .hbm, ⟨20, _⟩ => ⟨S32x64x4096, .bf16⟩
  | .hbm, ⟨21, _⟩ => ⟨S2048x4096, .bf16⟩
  | .hbm, ⟨22, _⟩ => ⟨S_, .i32⟩
  | .hbm, ⟨23, _⟩ => ⟨S32x64x4096, .i32⟩
  | .hbm, ⟨24, _⟩ => ⟨S32x64x4096, .i32⟩
  | .hbm, ⟨25, _⟩ => ⟨S32x64x4096, .bf16⟩
  | .hbm, ⟨26, _⟩ => ⟨S32x64x4096, .bf16⟩
  | .hbm, ⟨27, _⟩ => ⟨S32x64x4096, .bf16⟩
  | .hbm, ⟨28, _⟩ => ⟨S32x64x4096, .bf16⟩
  | .hbm, ⟨29, _⟩ => ⟨S32x64x4096, .bf16⟩
  | .hbm, ⟨30, _⟩ => ⟨S2048x4096, .bf16⟩
  | .hbm, ⟨31, _⟩ => ⟨S64x2048, .bf16⟩
  | .hbm, ⟨32, _⟩ => ⟨S64x4096, .f32⟩
  | .hbm, ⟨33, _⟩ => ⟨S64x2048, .bf16⟩
  | .hbm, ⟨34, _⟩ => ⟨S64x4096, .f32⟩
  | .hbm, ⟨35, _⟩ => ⟨S64x4096, .f32⟩
  | .hbm, ⟨36, _⟩ => ⟨S64x4096, .f32⟩
  | .hbm, ⟨37, _⟩ => ⟨S64x4096, .f32⟩
  | .hbm, ⟨38, _⟩ => ⟨S_, .f32⟩
  | .hbm, ⟨39, _⟩ => ⟨S64, .f32⟩
  | .hbm, ⟨40, _⟩ => ⟨S64x1, .f32⟩
  | .hbm, ⟨41, _⟩ => ⟨S_, .f32⟩
  | .hbm, ⟨42, _⟩ => ⟨S64x1, .f32⟩
  | .hbm, ⟨43, _⟩ => ⟨S64x1, .f32⟩
  | .hbm, ⟨44, _⟩ => ⟨S_, .f32⟩
  | .hbm, ⟨45, _⟩ => ⟨S64x1, .f32⟩
  | .hbm, ⟨46, _⟩ => ⟨S64x1, .f32⟩
  | .hbm, ⟨47, _⟩ => ⟨S64x1, .f32⟩
  | .hbm, ⟨48, _⟩ => ⟨S64x4096, .f32⟩
  | .hbm, ⟨49, _⟩ => ⟨S64x4096, .f32⟩
  | .hbm, ⟨50, _⟩ => ⟨S64x4096, .f32⟩
  | .hbm, ⟨51, _⟩ => ⟨S64x4096, .f32⟩
  | .hbm, ⟨52, _⟩ => ⟨S64x4096, .bf16⟩
  | _, _ => ⟨S64x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Ff.lean ====
abbrev S64x4096 : Shape := ⟨2, ![64, 4096]⟩
abbrev S2048x14336 : Shape := ⟨2, ![2048, 14336]⟩
abbrev S32x14336 : Shape := ⟨2, ![32, 14336]⟩
abbrev S64x14336 : Shape := ⟨2, ![64, 14336]⟩
abbrev S2048x512 : Shape := ⟨2, ![2048, 512]⟩
abbrev S32x512 : Shape := ⟨2, ![32, 512]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S1x512 : Shape := ⟨2, ![1, 512]⟩
abbrev S64x128 : Shape := ⟨2, ![64, 128]⟩

abbrev nBuf : Space → Nat
  | .hbm => 8
  | .vmem => 15
  | .smem => 0
  | _ => 0

abbrev bufTy : (tb : Table) → Fin (tcTables nBuf tb) → BufTy
  | .hbm, ⟨0, _⟩ => ⟨S64x4096, .bf16⟩
  | .hbm, ⟨1, _⟩ => ⟨S2048x14336, .i8⟩
  | .hbm, ⟨2, _⟩ => ⟨S32x14336, .bf16⟩
  | .hbm, ⟨3, _⟩ => ⟨S32x14336, .i8⟩
  | .hbm, ⟨4, _⟩ => ⟨S2048x14336, .i8⟩
  | .hbm, ⟨5, _⟩ => ⟨S32x14336, .bf16⟩
  | .hbm, ⟨6, _⟩ => ⟨S32x14336, .i8⟩
  | .hbm, ⟨7, _⟩ => ⟨S64x14336, .bf16⟩
  | .local _ .vmem, ⟨0, _⟩ => ⟨S64x4096, .bf16⟩
  | .local _ .vmem, ⟨1, _⟩ => ⟨S2048x512, .i8⟩
  | .local _ .vmem, ⟨2, _⟩ => ⟨S2048x512, .i8⟩
  | .local _ .vmem, ⟨3, _⟩ => ⟨S32x512, .bf16⟩
  | .local _ .vmem, ⟨4, _⟩ => ⟨S32x512, .bf16⟩
  | .local _ .vmem, ⟨5, _⟩ => ⟨S32x512, .i8⟩
  | .local _ .vmem, ⟨6, _⟩ => ⟨S32x512, .i8⟩
  | .local _ .vmem, ⟨7, _⟩ => ⟨S2048x512, .i8⟩
  | .local _ .vmem, ⟨8, _⟩ => ⟨S2048x512, .i8⟩
  | .local _ .vmem, ⟨9, _⟩ => ⟨S32x512, .bf16⟩
  | .local _ .vmem, ⟨10, _⟩ => ⟨S32x512, .bf16⟩
  | .local _ .vmem, ⟨11, _⟩ => ⟨S32x512, .i8⟩
  | .local _ .vmem, ⟨12, _⟩ => ⟨S32x512, .i8⟩
  | .local _ .vmem, ⟨13, _⟩ => ⟨S64x512, .bf16⟩
  | .local _ .vmem, ⟨14, _⟩ => ⟨S64x512, .bf16⟩
  | _, _ => ⟨S64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfRefIdeal.lean ====
abbrev S64x4096 : Shape := ⟨2, ![64, 4096]⟩
abbrev S2048x14336 : Shape := ⟨2, ![2048, 14336]⟩
abbrev S32x14336 : Shape := ⟨2, ![32, 14336]⟩
abbrev S32x64x14336 : Shape := ⟨3, ![32, 64, 14336]⟩
abbrev S32x1x14336 : Shape := ⟨3, ![32, 1, 14336]⟩
abbrev S_ : Shape := ⟨0, ![]⟩
abbrev S64x2048 : Shape := ⟨2, ![64, 2048]⟩
abbrev S64x14336 : Shape := ⟨2, ![64, 14336]⟩

abbrev nBuf : Space → Nat
  | .hbm => 76
  | .vmem => 0
  | .smem => 0
  | _ => 0

abbrev bufTy : (tb : Table) → Fin (tcTables nBuf tb) → BufTy
  | .hbm, ⟨0, _⟩ => ⟨S64x4096, .bf16⟩
  | .hbm, ⟨1, _⟩ => ⟨S2048x14336, .i8⟩
  | .hbm, ⟨2, _⟩ => ⟨S32x14336, .bf16⟩
  | .hbm, ⟨3, _⟩ => ⟨S32x14336, .i8⟩
  | .hbm, ⟨4, _⟩ => ⟨S2048x14336, .i8⟩
  | .hbm, ⟨5, _⟩ => ⟨S32x14336, .bf16⟩
  | .hbm, ⟨6, _⟩ => ⟨S32x14336, .i8⟩
  | .hbm, ⟨7, _⟩ => ⟨S2048x14336, .i32⟩
  | .hbm, ⟨8, _⟩ => ⟨S32x64x14336, .i32⟩
  | .hbm, ⟨9, _⟩ => ⟨S32x14336, .i32⟩
  | .hbm, ⟨10, _⟩ => ⟨S32x14336, .bf16⟩
  | .hbm, ⟨11, _⟩ => ⟨S32x1x14336, .bf16⟩
  | .hbm, ⟨12, _⟩ => ⟨S32x1x14336, .bf16⟩
  | .hbm, ⟨13, _⟩ => ⟨S_, .i32⟩
  | .hbm, ⟨14, _⟩ => ⟨S32x64x14336, .i32⟩
  | .hbm, ⟨15, _⟩ => ⟨S32x64x14336, .i32⟩
  | .hbm, ⟨16, _⟩ => ⟨S32x64x14336, .bf16⟩
  | .hbm, ⟨17, _⟩ => ⟨S32x64x14336, .bf16⟩
  | .hbm, ⟨18, _⟩ => ⟨S32x64x14336, .bf16⟩
  | .hbm, ⟨19, _⟩ => ⟨S32x64x14336, .bf16⟩
  | .hbm, ⟨20, _⟩ => ⟨S32x64x14336, .bf16⟩
  | .hbm, ⟨21, _⟩ => ⟨S2048x14336, .bf16⟩
  | .hbm, ⟨22, _⟩ => ⟨S_, .i32⟩
  | .hbm, ⟨23, _⟩ => ⟨S32x64x14336, .i32⟩
  | .hbm, ⟨24, _⟩ => ⟨S32x64x14336, .i32⟩
  | .hbm, ⟨25, _⟩ => ⟨S32x64x14336, .bf16⟩
  | .hbm, ⟨26, _⟩ => ⟨S32x64x14336, .bf16⟩
  | .hbm, ⟨27, _⟩ => ⟨S32x64x14336, .bf16⟩
  | .hbm, ⟨28, _⟩ => ⟨S32x64x14336, .bf16⟩
  | .hbm, ⟨29, _⟩ => ⟨S32x64x14336, .bf16⟩
  | .hbm, ⟨30, _⟩ => ⟨S2048x14336, .bf16⟩
  | .hbm, ⟨31, _⟩ => ⟨S64x2048, .bf16⟩
  | .hbm, ⟨32, _⟩ => ⟨S64x14336, .f32⟩
  | .hbm, ⟨33, _⟩ => ⟨S64x2048, .bf16⟩
  | .hbm, ⟨34, _⟩ => ⟨S64x14336, .f32⟩
  | .hbm, ⟨35, _⟩ => ⟨S64x14336, .f32⟩
  | .hbm, ⟨36, _⟩ => ⟨S64x14336, .f32⟩
  | .hbm, ⟨37, _⟩ => ⟨S64x14336, .f32⟩
  | .hbm, ⟨38, _⟩ => ⟨S_, .f32⟩
  | .hbm, ⟨39, _⟩ => ⟨S64x14336, .f32⟩
  | .hbm, ⟨40, _⟩ => ⟨S64x14336, .f32⟩
  | .hbm, ⟨41, _⟩ => ⟨S_, .f32⟩
  | .hbm, ⟨42, _⟩ => ⟨S64x14336, .f32⟩
  | .hbm, ⟨43, _⟩ => ⟨S64x14336, .f32⟩
  | .hbm, ⟨44, _⟩ => ⟨S64x14336, .f32⟩
  | .hbm, ⟨45, _⟩ => ⟨S2048x14336, .i32⟩
  | .hbm, ⟨46, _⟩ => ⟨S32x64x14336, .i32⟩
  | .hbm, ⟨47, _⟩ => ⟨S32x14336, .i32⟩
  | .hbm, ⟨48, _⟩ => ⟨S32x14336, .bf16⟩
  | .hbm, ⟨49, _⟩ => ⟨S32x1x14336, .bf16⟩
  | .hbm, ⟨50, _⟩ => ⟨S32x1x14336, .bf16⟩
  | .hbm, ⟨51, _⟩ => ⟨S_, .i32⟩
  | .hbm, ⟨52, _⟩ => ⟨S32x64x14336, .i32⟩
  | .hbm, ⟨53, _⟩ => ⟨S32x64x14336, .i32⟩
  | .hbm, ⟨54, _⟩ => ⟨S32x64x14336, .bf16⟩
  | .hbm, ⟨55, _⟩ => ⟨S32x64x14336, .bf16⟩
  | .hbm, ⟨56, _⟩ => ⟨S32x64x14336, .bf16⟩
  | .hbm, ⟨57, _⟩ => ⟨S32x64x14336, .bf16⟩
  | .hbm, ⟨58, _⟩ => ⟨S32x64x14336, .bf16⟩
  | .hbm, ⟨59, _⟩ => ⟨S2048x14336, .bf16⟩
  | .hbm, ⟨60, _⟩ => ⟨S_, .i32⟩
  | .hbm, ⟨61, _⟩ => ⟨S32x64x14336, .i32⟩
  | .hbm, ⟨62, _⟩ => ⟨S32x64x14336, .i32⟩
  | .hbm, ⟨63, _⟩ => ⟨S32x64x14336, .bf16⟩
  | .hbm, ⟨64, _⟩ => ⟨S32x64x14336, .bf16⟩
  | .hbm, ⟨65, _⟩ => ⟨S32x64x14336, .bf16⟩
  | .hbm, ⟨66, _⟩ => ⟨S32x64x14336, .bf16⟩
  | .hbm, ⟨67, _⟩ => ⟨S32x64x14336, .bf16⟩
  | .hbm, ⟨68, _⟩ => ⟨S2048x14336, .bf16⟩
  | .hbm, ⟨69, _⟩ => ⟨S64x2048, .bf16⟩
  | .hbm, ⟨70, _⟩ => ⟨S64x14336, .f32⟩
  | .hbm, ⟨71, _⟩ => ⟨S64x2048, .bf16⟩
  | .hbm, ⟨72, _⟩ => ⟨S64x14336, .f32⟩
  | .hbm, ⟨73, _⟩ => ⟨S64x14336, .f32⟩
  | .hbm, ⟨74, _⟩ => ⟨S64x14336, .f32⟩
  | .hbm, ⟨75, _⟩ => ⟨S64x14336, .bf16⟩
  | _, _ => ⟨S64x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_1 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_2 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Down.lean ====
abbrev S64x14336 : Shape := ⟨2, ![64, 14336]⟩
abbrev S64x4096 : Shape := ⟨2, ![64, 4096]⟩
abbrev S1x4096 : Shape := ⟨2, ![1, 4096]⟩
abbrev S7168x4096 : Shape := ⟨2, ![7168, 4096]⟩
abbrev S112x4096 : Shape := ⟨2, ![112, 4096]⟩
abbrev S64x1 : Shape := ⟨2, ![64, 1]⟩
abbrev S7168x512 : Shape := ⟨2, ![7168, 512]⟩
abbrev S112x512 : Shape := ⟨2, ![112, 512]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S1x512 : Shape := ⟨2, ![1, 512]⟩
abbrev S64x128 : Shape := ⟨2, ![64, 128]⟩
abbrev S64 : Shape := ⟨1, ![64]⟩

abbrev nBuf : Space → Nat
  | .hbm => 9
  | .vmem => 13
  | .smem => 0
  | _ => 0

abbrev bufTy : (tb : Table) → Fin (tcTables nBuf tb) → BufTy
  | .hbm, ⟨0, _⟩ => ⟨S64x14336, .bf16⟩
  | .hbm, ⟨1, _⟩ => ⟨S64x4096, .f32⟩
  | .hbm, ⟨2, _⟩ => ⟨S1x4096, .f32⟩
  | .hbm, ⟨3, _⟩ => ⟨S7168x4096, .i8⟩
  | .hbm, ⟨4, _⟩ => ⟨S112x4096, .bf16⟩
  | .hbm, ⟨5, _⟩ => ⟨S112x4096, .i8⟩
  | .hbm, ⟨6, _⟩ => ⟨S64x4096, .bf16⟩
  | .hbm, ⟨7, _⟩ => ⟨S64x4096, .i8⟩
  | .hbm, ⟨8, _⟩ => ⟨S64x1, .f32⟩
  | .local _ .vmem, ⟨0, _⟩ => ⟨S64x14336, .bf16⟩
  | .local _ .vmem, ⟨1, _⟩ => ⟨S64x4096, .f32⟩
  | .local _ .vmem, ⟨2, _⟩ => ⟨S1x4096, .f32⟩
  | .local _ .vmem, ⟨3, _⟩ => ⟨S7168x512, .i8⟩
  | .local _ .vmem, ⟨4, _⟩ => ⟨S7168x512, .i8⟩
  | .local _ .vmem, ⟨5, _⟩ => ⟨S112x512, .bf16⟩
  | .local _ .vmem, ⟨6, _⟩ => ⟨S112x512, .bf16⟩
  | .local _ .vmem, ⟨7, _⟩ => ⟨S112x512, .i8⟩
  | .local _ .vmem, ⟨8, _⟩ => ⟨S112x512, .i8⟩
  | .local _ .vmem, ⟨9, _⟩ => ⟨S64x4096, .bf16⟩
  | .local _ .vmem, ⟨10, _⟩ => ⟨S64x4096, .i8⟩
  | .local _ .vmem, ⟨11, _⟩ => ⟨S64x1, .f32⟩
  | .local _ .vmem, ⟨12, _⟩ => ⟨S64x4096, .f32⟩
  | _, _ => ⟨S64x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_off1 (i : grid0.Coords) : Fin 2 → Nat :=
  let c0 : Index := 0#32
  let arg0 : BitVec 32 := BitVec.ofNat 32 (i 0).val
  let c512_i32 : BitVec 32 := 512#32
  let v0 : BitVec 32 := Scalar.muli arg0 c512_i32
  let v1 : BitVec 32 := v0
  let v2 : Index := Scalar.indexCast v1
  ![0, v2.toNat]
def k0_cond1 (i : grid0.Coords) : BitVec 1 :=
  let arg0 : BitVec 32 := BitVec.ofNat 32 (i 0).val
  let c7_i32 : BitVec 32 := 7#32
  let v2475 : BitVec 1 := Scalar.cmpi .eq arg0 c7_i32
  let v2476 : BitVec 32 := Scalar.extui v2475
  let c0_i32 : BitVec 32 := 0#32
  let v2477 : BitVec 1 := Scalar.cmpi .ne v2476 c0_i32
  v2477

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S7168x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S112x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S112x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownRefIdeal.lean ====
abbrev S64x14336 : Shape := ⟨2, ![64, 14336]⟩
abbrev S64x4096 : Shape := ⟨2, ![64, 4096]⟩
abbrev S1x4096 : Shape := ⟨2, ![1, 4096]⟩
abbrev S7168x4096 : Shape := ⟨2, ![7168, 4096]⟩
abbrev S112x4096 : Shape := ⟨2, ![112, 4096]⟩
abbrev S112x64x4096 : Shape := ⟨3, ![112, 64, 4096]⟩
abbrev S112x1x4096 : Shape := ⟨3, ![112, 1, 4096]⟩
abbrev S_ : Shape := ⟨0, ![]⟩
abbrev S64x7168 : Shape := ⟨2, ![64, 7168]⟩
abbrev S64 : Shape := ⟨1, ![64]⟩
abbrev S64x1 : Shape := ⟨2, ![64, 1]⟩

abbrev nBuf : Space → Nat
  | .hbm => 79
  | .vmem => 0
  | .smem => 0
  | _ => 0

abbrev bufTy : (tb : Table) → Fin (tcTables nBuf tb) → BufTy
  | .hbm, ⟨0, _⟩ => ⟨S64x14336, .bf16⟩
  | .hbm, ⟨1, _⟩ => ⟨S64x4096, .f32⟩
  | .hbm, ⟨2, _⟩ => ⟨S1x4096, .f32⟩
  | .hbm, ⟨3, _⟩ => ⟨S7168x4096, .i8⟩
  | .hbm, ⟨4, _⟩ => ⟨S112x4096, .bf16⟩
  | .hbm, ⟨5, _⟩ => ⟨S112x4096, .i8⟩
  | .hbm, ⟨6, _⟩ => ⟨S7168x4096, .i32⟩
  | .hbm, ⟨7, _⟩ => ⟨S112x64x4096, .i32⟩
  | .hbm, ⟨8, _⟩ => ⟨S112x4096, .i32⟩
  | .hbm, ⟨9, _⟩ => ⟨S112x4096, .bf16⟩
  | .hbm, ⟨10, _⟩ => ⟨S112x1x4096, .bf16⟩
  | .hbm, ⟨11, _⟩ => ⟨S112x1x4096, .bf16⟩
  | .hbm, ⟨12, _⟩ => ⟨S_, .i32⟩
  | .hbm, ⟨13, _⟩ => ⟨S112x64x4096, .i32⟩
  | .hbm, ⟨14, _⟩ => ⟨S112x64x4096, .i32⟩
  | .hbm, ⟨15, _⟩ => ⟨S112x64x4096, .bf16⟩
  | .hbm, ⟨16, _⟩ => ⟨S112x64x4096, .bf16⟩
  | .hbm, ⟨17, _⟩ => ⟨S112x64x4096, .bf16⟩
  | .hbm, ⟨18, _⟩ => ⟨S112x64x4096, .bf16⟩
  | .hbm, ⟨19, _⟩ => ⟨S112x64x4096, .bf16⟩
  | .hbm, ⟨20, _⟩ => ⟨S7168x4096, .bf16⟩
  | .hbm, ⟨21, _⟩ => ⟨S_, .i32⟩
  | .hbm, ⟨22, _⟩ => ⟨S112x64x4096, .i32⟩
  | .hbm, ⟨23, _⟩ => ⟨S112x64x4096, .i32⟩
  | .hbm, ⟨24, _⟩ => ⟨S112x64x4096, .bf16⟩
  | .hbm, ⟨25, _⟩ => ⟨S112x64x4096, .bf16⟩
  | .hbm, ⟨26, _⟩ => ⟨S112x64x4096, .bf16⟩
  | .hbm, ⟨27, _⟩ => ⟨S112x64x4096, .bf16⟩
  | .hbm, ⟨28, _⟩ => ⟨S112x64x4096, .bf16⟩
  | .hbm, ⟨29, _⟩ => ⟨S7168x4096, .bf16⟩
  | .hbm, ⟨30, _⟩ => ⟨S64x7168, .bf16⟩
  | .hbm, ⟨31, _⟩ => ⟨S64x4096, .f32⟩
  | .hbm, ⟨32, _⟩ => ⟨S64x7168, .bf16⟩
  | .hbm, ⟨33, _⟩ => ⟨S64x4096, .f32⟩
  | .hbm, ⟨34, _⟩ => ⟨S64x4096, .f32⟩
  | .hbm, ⟨35, _⟩ => ⟨S64x4096, .f32⟩
  | .hbm, ⟨36, _⟩ => ⟨S64x4096, .f32⟩
  | .hbm, ⟨37, _⟩ => ⟨S_, .f32⟩
  | .hbm, ⟨38, _⟩ => ⟨S64, .f32⟩
  | .hbm, ⟨39, _⟩ => ⟨S64x1, .f32⟩
  | .hbm, ⟨40, _⟩ => ⟨S_, .f32⟩
  | .hbm, ⟨41, _⟩ => ⟨S64x1, .f32⟩
  | .hbm, ⟨42, _⟩ => ⟨S64x1, .f32⟩
  | .hbm, ⟨43, _⟩ => ⟨S_, .f32⟩
  | .hbm, ⟨44, _⟩ => ⟨S64x1, .f32⟩
  | .hbm, ⟨45, _⟩ => ⟨S64x1, .f32⟩
  | .hbm, ⟨46, _⟩ => ⟨S64x1, .f32⟩
  | .hbm, ⟨47, _⟩ => ⟨S64x4096, .f32⟩
  | .hbm, ⟨48, _⟩ => ⟨S64x4096, .f32⟩
  | .hbm, ⟨49, _⟩ => ⟨S64x4096, .f32⟩
  | .hbm, ⟨50, _⟩ => ⟨S64x4096, .f32⟩
  | .hbm, ⟨51, _⟩ => ⟨S64x4096, .f32⟩
  | .hbm, ⟨52, _⟩ => ⟨S_, .f32⟩
  | .hbm, ⟨53, _⟩ => ⟨S64, .f32⟩
  | .hbm, ⟨54, _⟩ => ⟨S64x1, .f32⟩
  | .hbm, ⟨55, _⟩ => ⟨S_, .f32⟩
  | .hbm, ⟨56, _⟩ => ⟨S64x1, .f32⟩
  | .hbm, ⟨57, _⟩ => ⟨S64x1, .i1⟩
  | .hbm, ⟨58, _⟩ => ⟨S_, .f32⟩
  | .hbm, ⟨59, _⟩ => ⟨S64x1, .f32⟩
  | .hbm, ⟨60, _⟩ => ⟨S64x1, .f32⟩
  | .hbm, ⟨61, _⟩ => ⟨S_, .f32⟩
  | .hbm, ⟨62, _⟩ => ⟨S_, .f32⟩
  | .hbm, ⟨63, _⟩ => ⟨S64x1, .f32⟩
  | .hbm, ⟨64, _⟩ => ⟨S64x1, .f32⟩
  | .hbm, ⟨65, _⟩ => ⟨S64x4096, .f32⟩
  | .hbm, ⟨66, _⟩ => ⟨S64x4096, .f32⟩
  | .hbm, ⟨67, _⟩ => ⟨S64x4096, .f32⟩
  | .hbm, ⟨68, _⟩ => ⟨S_, .i32⟩
  | .hbm, ⟨69, _⟩ => ⟨S_, .i32⟩
  | .hbm, ⟨70, _⟩ => ⟨S_, .f32⟩
  | .hbm, ⟨71, _⟩ => ⟨S64x4096, .f32⟩
  | .hbm, ⟨72, _⟩ => ⟨S64x4096, .f32⟩
  | .hbm, ⟨73, _⟩ => ⟨S_, .f32⟩
  | .hbm, ⟨74, _⟩ => ⟨S64x4096, .f32⟩
  | .hbm, ⟨75, _⟩ => ⟨S64x4096, .f32⟩
  | .hbm, ⟨76, _⟩ => ⟨S64x4096, .i32⟩
  | .hbm, ⟨77, _⟩ => ⟨S64x4096, .i8⟩
  | .hbm, ⟨78, _⟩ => ⟨S64x4096, .bf16⟩
  | _, _ => ⟨S64x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_call0_v0 : Ref sig .tc := ⟨.hbm, 62, rfl⟩
abbrev main_call0_v1 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_7 : Ref sig .tc := ⟨.hbm, 68, rfl⟩
abbrev main_c_8 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]
-- ==== Head.lean ====
abbrev S64x4096 : Shape := ⟨2, ![64, 4096]⟩
abbrev S32000x4096 : Shape := ⟨2, ![32000, 4096]⟩
abbrev S32000x1 : Shape := ⟨2, ![32000, 1]⟩
abbrev S1x64 : Shape := ⟨2, ![1, 64]⟩
abbrev S25x10x64 : Shape := ⟨3, ![25, 10, 64]⟩
abbrev S1280x4096 : Shape := ⟨2, ![1280, 4096]⟩
abbrev S1280x1 : Shape := ⟨2, ![1280, 1]⟩
abbrev S1280x64 : Shape := ⟨2, ![1280, 64]⟩
abbrev S10x128x64 : Shape := ⟨3, ![10, 128, 64]⟩
abbrev S10x64 : Shape := ⟨2, ![10, 64]⟩
abbrev S1x10x64 : Shape := ⟨3, ![1, 10, 64]⟩
abbrev S64 : Shape := ⟨1, ![64]⟩
abbrev S1x1x64 : Shape := ⟨3, ![1, 1, 64]⟩

abbrev nBuf : Space → Nat
  | .hbm => 8
  | .vmem => 12
  | .smem => 0
  | _ => 0

abbrev bufTy : (tb : Table) → Fin (tcTables nBuf tb) → BufTy
  | .hbm, ⟨0, _⟩ => ⟨S64x4096, .bf16⟩
  | .hbm, ⟨1, _⟩ => ⟨S32000x4096, .i8⟩
  | .hbm, ⟨2, _⟩ => ⟨S32000x1, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S25x10x64, .f32⟩
  | .hbm, ⟨7, _⟩ => ⟨S1x64, .f32⟩
  | .local _ .vmem, ⟨0, _⟩ => ⟨S64x4096, .bf16⟩
  | .local _ .vmem, ⟨1, _⟩ => ⟨S1280x4096, .i8⟩
  | .local _ .vmem, ⟨2, _⟩ => ⟨S1280x4096, .i8⟩
  | .local _ .vmem, ⟨3, _⟩ => ⟨S1280x1, .f32⟩
  | .local _ .vmem, ⟨4, _⟩ => ⟨S1280x1, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S25x10x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | _, _ => ⟨S64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![25], ![false]⟩

def k0_off1 (i : grid0.Coords) : Fin 3 → Nat :=
  let arg0 : BitVec 32 := BitVec.ofNat 32 (i 0).val
  let v15 : Index := Scalar.indexCast arg0
  let c0_10 : Index := 0#32
  let c0_11 : Index := 0#32
  ![v15.toNat, 0, 0]
def k0_cond2 (i : grid0.Coords) : BitVec 1 :=
  let arg0 : BitVec 32 := BitVec.ofNat 32 (i 0).val
  let c24_i32 : BitVec 32 := 24#32
  let v45 : BitVec 1 := Scalar.cmpi .eq arg0 c24_i32
  let v46 : BitVec 32 := Scalar.extui v45
  let c0_i32_24 : BitVec 32 := 0#32
  let v47 : BitVec 1 := Scalar.cmpi .ne v46 c0_i32_24
  v47

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S25x10x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== HeadRefIdeal.lean ====
abbrev S64x4096 : Shape := ⟨2, ![64, 4096]⟩
abbrev S32000x4096 : Shape := ⟨2, ![32000, 4096]⟩
abbrev S32000x1 : Shape := ⟨2, ![32000, 1]⟩
abbrev S1x64 : Shape := ⟨2, ![1, 64]⟩
abbrev S64x32000 : Shape := ⟨2, ![64, 32000]⟩
abbrev S64x1 : Shape := ⟨2, ![64, 1]⟩
abbrev S1x32000 : Shape := ⟨2, ![1, 32000]⟩
abbrev S_ : Shape := ⟨0, ![]⟩
abbrev S64 : Shape := ⟨1, ![64]⟩
abbrev S64x250x128 : Shape := ⟨3, ![64, 250, 128]⟩
abbrev S64x250 : Shape := ⟨2, ![64, 250]⟩
abbrev S250x64 : Shape := ⟨2, ![250, 64]⟩
abbrev S25x10x64 : Shape := ⟨3, ![25, 10, 64]⟩

abbrev nBuf : Space → Nat
  | .hbm => 56
  | .vmem => 0
  | .smem => 0
  | _ => 0

abbrev bufTy : (tb : Table) → Fin (tcTables nBuf tb) → BufTy
  | .hbm, ⟨0, _⟩ => ⟨S64x4096, .bf16⟩
  | .hbm, ⟨1, _⟩ => ⟨S32000x4096, .i8⟩
  | .hbm, ⟨2, _⟩ => ⟨S32000x1, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S32000x4096, .i32⟩
  | .hbm, ⟨7, _⟩ => ⟨S32000x4096, .bf16⟩
  | .hbm, ⟨8, _⟩ => ⟨S64x32000, .f32⟩
  | .hbm, ⟨9, _⟩ => ⟨S64x1, .f32⟩
  | .hbm, ⟨10, _⟩ => ⟨S64x32000, .f32⟩
  | .hbm, ⟨11, _⟩ => ⟨S64x32000, .f32⟩
  | .hbm, ⟨12, _⟩ => ⟨S1x32000, .f32⟩
  | .hbm, ⟨13, _⟩ => ⟨S64x32000, .f32⟩
  | .hbm, ⟨14, _⟩ => ⟨S64x32000, .f32⟩
  | .hbm, ⟨15, _⟩ => ⟨S64x1, .f32⟩
  | .hbm, ⟨16, _⟩ => ⟨S64x32000, .f32⟩
  | .hbm, ⟨17, _⟩ => ⟨S64x32000, .f32⟩
  | .hbm, ⟨18, _⟩ => ⟨S_, .f32⟩
  | .hbm, ⟨19, _⟩ => ⟨S64x32000, .f32⟩
  | .hbm, ⟨20, _⟩ => ⟨S64x32000, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64x32000, .f32⟩
  | .hbm, ⟨26, _⟩ => ⟨S64x1, .f32⟩
  | .hbm, ⟨27, _⟩ => ⟨S64x32000, .f32⟩
  | .hbm, ⟨28, _⟩ => ⟨S64x32000, .f32⟩
  | .hbm, ⟨29, _⟩ => ⟨S64x32000, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64x250x128, .f32⟩
  | .hbm, ⟨42, _⟩ => ⟨S_, .f32⟩
  | .hbm, ⟨43, _⟩ => ⟨S64x250, .f32⟩
  | .hbm, ⟨44, _⟩ => ⟨S64x1, .f32⟩
  | .hbm, ⟨45, _⟩ => ⟨S64x250, .f32⟩
  | .hbm, ⟨46, _⟩ => ⟨S64x250, .f32⟩
  | .hbm, ⟨47, _⟩ => ⟨S64x1, .f32⟩
  | .hbm, ⟨48, _⟩ => ⟨S64x250, .f32⟩
  | .hbm, ⟨49, _⟩ => ⟨S64x250, .f32⟩
  | .hbm, ⟨50, _⟩ => ⟨S250x64, .f32⟩
  | .hbm, ⟨51, _⟩ => ⟨S25x10x64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S1x64, .f32⟩
  | _, _ => ⟨S64x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Proof.QkvDma.lean ====
module

public import proofs.«01_k».proof.Proof.Gen.QkvIdeal.Skeleton
public import proofs.«01_k».proof.Proof.Gen.QkvIdeal.Points
public import proofs.«01_k».proof.Proof.Gen.QkvIdeal.Loops
public import Idealize.ShloMosaic.Lib.Pointwise
public import Idealize.ShloMosaic.Lib.Pipeline.FrameBody
public import Idealize.ShloMosaic.Lib.VecWindow
public import Idealize.ShloMosaic.Lib.Batch
public import Idealize.ShloMosaic.Lib.Ring
public import Idealize.ShloMosaic.Lib.Pipeline.Value
public import Idealize.ShloMosaic.Lib.Tactic

@[expose] public section

set_option maxRecDepth 65536

noncomputable section

namespace Cert.QkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.QkvIdeal Cert.QkvIdeal.Gen

variable {F : FTy → Type} [FloatOps F]

local notation "𝕄" => MT nD τ sig Unit (Elt F) ℕ (Pipeline.UD sig nD τ) ℕ

/-- The token of row `k`, from the tokens' contents. -/
def tw (x1 : S60.Idx → BitVec 32) (k : Fin k0_t1_loop.trips) : BitVec 32 := x1 (fun a => ⟨k.val, by fin_cases a; exact k.isLt⟩)

/-- A token's row is a row of the table of words. -/
def Named (x1 : S60.Idx → BitVec 32) : Prop := ∀ k : Fin k0_t1_loop.trips, ∀ a, (k0_off3 (tw x1 k)) a + S1x4096.size a ≤ S8000x4096.size a

variable (c : Dev nD)

theorem row_inb (k : Fin k0_t1_loop.trips) : ∀ a, (k0_off2 k) a + S1x4096.size a ≤ S64x4096.size a := by
  have hk : k.val < 60 := k.isLt
  rw [k0_off2_eq]
  intro a; fin_cases a
  · show k.val + 1 ≤ 64; omega
  · show 0 + 4096 ≤ 4096; omega

/-- Row `k` of the buffer of words, and the table's row that the token of row `k` names. -/
def eRow (k : Fin k0_t1_loop.trips) : Memref sig .tc .vmem S1x4096 .i32 :=
  (Memref.whole cc0_scratch1).slice (Rect.unit (s := S64x4096) (k0_off2 k) S1x4096.size (row_inb k)) (fun _ => rfl)
def sRow (x1 : S60.Idx → BitVec 32) (hn : Named x1) (k : Fin k0_t1_loop.trips) : Memref sig .tc .hbm S1x4096 .i32 :=
  (Memref.whole main_arg1).slice (Rect.unit (s := S8000x4096) (k0_off3 (tw x1 k)) S1x4096.size (hn k)) (fun _ => rfl)

/-- Row `k` before its copy, the row it is copied from (under read share `k`), and row `k` after. -/
def eBef (f : BufTy.Contents (Elt F) (Memref.whole cc0_scratch1 : Memref sig .tc .vmem S64x4096 .i32).view.ty) (k : Fin k0_t1_loop.trips) : sProp 𝕄 :=
  (eRow k).view.loc (c : Thread nD τ) ↦[(eRow k).view.set]{fullShare} f
def sTok (x1 : S60.Idx → BitVec 32) (hn : Named x1) (E : BufTy.Contents (Elt F) (Memref.whole main_arg1 : Memref sig .tc .hbm S8000x4096 .i32).view.ty) (k : Fin k0_t1_loop.trips) : sProp 𝕄 :=
  (sRow x1 hn k).view.loc (c : Thread nD τ) ↦[(sRow x1 hn k).view.set]{Transfers.shareTokN fullShare k.val} E
def eAft (x1 : S60.Idx → BitVec 32) (hn : Named x1) (E : BufTy.Contents (Elt F) (Memref.whole main_arg1 : Memref sig .tc .hbm S8000x4096 .i32).view.ty)
    (f : BufTy.Contents (Elt F) (Memref.whole cc0_scratch1 : Memref sig .tc .vmem S64x4096 .i32).view.ty) (k : Fin k0_t1_loop.trips) : sProp 𝕄 :=
  (eRow k).view.loc (c : Thread nD τ) ↦[(eRow k).view.set]{fullShare} (eRow k).view.writes (Elt F) f [⟨Rect.whole S1x4096, (sRow x1 hn k).view.read (Elt F) E⟩]

/-- What copy `k` hands back. -/
abbrev del (x1 : S60.Idx → BitVec 32) (hn : Named x1) (E : BufTy.Contents (Elt F) (Memref.whole main_arg1 : Memref sig .tc .hbm S8000x4096 .i32).view.ty)
    (f : BufTy.Contents (Elt F) (Memref.whole cc0_scratch1 : Memref sig .tc .vmem S64x4096 .i32).view.ty) (k : Fin k0_t1_loop.trips) : sProp 𝕄 :=
  iprop(eAft c x1 hn E f k ∗ sTok c x1 hn E k)

theorem pt_storable (ℓ : Loc nD τ sig) (I : Finset (Idx ℓ)) (q : PosShare Idealize.SL.RA.TreeShare) (f : Buf (Elt F) ℓ) : BI.Storable (upEmb : UEmb _ 𝕄) (ℓ ↦[I]{q} f : sProp 𝕄) := inferInstance

instance del_storable (x1 : S60.Idx → BitVec 32) (hn : Named x1) (E : BufTy.Contents (Elt F) (Memref.whole main_arg1 : Memref sig .tc .hbm S8000x4096 .i32).view.ty)
    (f : BufTy.Contents (Elt F) (Memref.whole cc0_scratch1 : Memref sig .tc .vmem S64x4096 .i32).view.ty) (k : Fin k0_t1_loop.trips) :
    BI.Storable (upEmb : UEmb _ 𝕄) (del (F := F) c x1 hn E f k) := by
  unfold del eAft sTok
  exact @BI.Storable.sep _ _ _ _ _ _ _ _ (pt_storable _ _ _ _) (pt_storable _ _ _ _)

/-- The copies on their one cell, `j` started and `u` units waited for. -/
abbrev batch (x1 : S60.Idx → BitVec 32) (hn : Named x1) (E : BufTy.Contents (Elt F) (Memref.whole main_arg1 : Memref sig .tc .hbm S8000x4096 .i32).view.ty)
    (f : BufTy.Contents (Elt F) (Memref.whole cc0_scratch1 : Memref sig .tc .vmem S64x4096 .i32).view.ty) (j u : ℕ) : sProp 𝕄 :=
  Transfers.Batch (countersEmb (U := Pipeline.UD sig nD τ)) (c : Thread nD τ) (.dma (SemArray.sem cc0_scratch3)) () 512 (del (F := F) c x1 hn E f) j u

/-- Before trip `k` of the loop that starts the copies. -/
def issueAt (arg1 : Memref sig .tc .smem S60 .i32) (f1 : BufTy.Contents (Elt F) arg1.view.ty) (hn : Named (arg1.view.read (Elt F) f1)) (E : BufTy.Contents (Elt F) (Memref.whole main_arg1 : Memref sig .tc .hbm S8000x4096 .i32).view.ty)
    (f : BufTy.Contents (Elt F) (Memref.whole cc0_scratch1 : Memref sig .tc .vmem S64x4096 .i32).view.ty) (k : ℕ) (_ : Unit) : sProp 𝕄 :=
  iprop((arg1.view.loc (c : Thread nD τ) ↦[arg1.view.set]{fullShare} f1) ∗ batch c (arg1.view.read (Elt F) f1) hn E f k 0
    ∗ bigSep (Ring.rangeSet k0_t1_loop.trips k k0_t1_loop.trips) (eBef (F := F) c f) ∗ bigSep (Ring.rangeSet k0_t1_loop.trips k k0_t1_loop.trips) (sTok (F := F) c (arg1.view.read (Elt F) f1) hn E))

theorem issue_step (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole) (k0_h1 : k0_cond1 i = 1#1) (f1 : BufTy.Contents (Elt F) arg1.view.ty) (hn : Named (arg1.view.read (Elt F) f1)) (E : BufTy.Contents (Elt F) (Memref.whole main_arg1 : Memref sig .tc .hbm S8000x4096 .i32).view.ty)
    (f : BufTy.Contents (Elt F) (Memref.whole cc0_scratch1 : Memref sig .tc .vmem S64x4096 .i32).view.ty) (k : Fin k0_t1_loop.trips) (acc : Unit) :
    issueAt (F := F) c arg1 f1 hn E f k acc ⊢ wp frame (wpE (defs₀ (F := F)) Variants.none c none) Set.univ (k0_t1_body (F := F) i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3 k0_h1 k acc)
      (issueAt c arg1 f1 hn E f (k.val + 1)) := by
  have hk := k.isLt
  unfold issueAt
  rw [Ring.bigSep_rangeSet_head (Φ := eBef (F := F) c f) hk hk, Ring.bigSep_rangeSet_head (Φ := sTok (F := F) c _ hn E) hk hk]
  unfold eBef sTok
  iintro ⟨H1, HB, ⟨HE, HEs⟩, ⟨HS, HSs⟩⟩
  unfold k0_t1_body
  sl_exec
  have hr : issue_step.sl.r i arg1 k0_h1 f1 k = tw (arg1.view.read (Elt F) f1) k := by
    unfold issue_step.sl.r tw
    rw [View.readAt_apply]
    congr 1
    funext a
    fin_cases a
    refine Fin.ext ?_
    show (k0_off1 k) 0 + 1 * 0 = k.val
    rw [k0_off1_eq]; rfl
  rw [hr]
  have hck : k0_chk1 i (tw (arg1.view.read (Elt F) f1) k) := fun _ => hn k
  sl_exec (disch := first | sl_exact hck)
  sl_step
  isplitl [H1]; · iexact H1
  isplitl [HB]; · iexact HB
  isplitl [HEs]; · iexact HEs
  iexact HSs

set_option warn.classDefReducibility false in
/-- The loop that starts the copies, by its invariant. -/
@[sl_loop] def issueInv (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole) (k0_h1 : k0_cond1 i = 1#1) (f1 : BufTy.Contents (Elt F) arg1.view.ty) (hn : Named (arg1.view.read (Elt F) f1)) (E : BufTy.Contents (Elt F) (Memref.whole main_arg1 : Memref sig .tc .hbm S8000x4096 .i32).view.ty)
    (f : BufTy.Contents (Elt F) (Memref.whole cc0_scratch1 : Memref sig .tc .vmem S64x4096 .i32).view.ty) :
    LoopInvTy_k0_t1 (F := F) Unit ℕ (Pipeline.UD sig nD τ) ℕ Variants.none c none Set.univ i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3 k0_h1 where
  inv := issueAt c arg1 f1 hn E f
  step k acc := issue_step c i arg1 harg1 arg3 harg3 arg4 harg4 arg5 harg5 arg6 harg6 arg7 harg7 arg8 harg8 arg9 harg9 arg10 harg10 arg11 harg11 arg12 harg12 arg13 harg13 arg14 harg14 arg15 harg15 arg16 harg16 k0_h1 f1 hn E f k acc

/-- Before trip `k` of the loop that waits for the copies. -/
def drainAt (arg1 : Memref sig .tc .smem S60 .i32) (f1 : BufTy.Contents (Elt F) arg1.view.ty) (hn : Named (arg1.view.read (Elt F) f1)) (E : BufTy.Contents (Elt F) (Memref.whole main_arg1 : Memref sig .tc .hbm S8000x4096 .i32).view.ty)
    (f : BufTy.Contents (Elt F) (Memref.whole cc0_scratch1 : Memref sig .tc .vmem S64x4096 .i32).view.ty) (k : ℕ) (_ : Unit) : sProp 𝕄 :=
  iprop((arg1.view.loc (c : Thread nD τ) ↦[arg1.view.set]{fullShare} f1) ∗ (∃ W, owes (c : Thread nD τ) 0 W)
    ∗ (if k < 60 then batch c (arg1.view.read (Elt F) f1) hn E f 60 (k * 512)
       else iprop(semVal ((c : Thread nD τ), SemLoc.dma (SemArray.sem cc0_scratch3)) 0 ∗ bigSep Finset.univ (del (F := F) c (arg1.view.read (Elt F) f1) hn E f))))

theorem drain_step (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole) (k0_h1 : k0_cond1 i = 1#1) (f1 : BufTy.Contents (Elt F) arg1.view.ty) (hn : Named (arg1.view.read (Elt F) f1)) (E : BufTy.Contents (Elt F) (Memref.whole main_arg1 : Memref sig .tc .hbm S8000x4096 .i32).view.ty)
    (f : BufTy.Contents (Elt F) (Memref.whole cc0_scratch1 : Memref sig .tc .vmem S64x4096 .i32).view.ty) (k : Fin k0_t2_loop.trips) (acc : Unit) :
    drainAt (F := F) c arg1 f1 hn E f k acc ⊢ wp frame (wpE (defs₀ (F := F)) Variants.none c none) Set.univ (k0_t2_body (F := F) i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3 k0_h1 k acc)
      (drainAt c arg1 f1 hn E f (k.val + 1)) := by
  have hk : k.val < 60 := k.isLt
  have hck : k0_chk2 i (tw (arg1.view.read (Elt F) f1) ⟨k.val, hk⟩) := fun _ => hn ⟨k.val, hk⟩
  have ht : k0_t1_loop.trips = 60 := rfl
  unfold drainAt
  simp only [if_pos hk]
  rcases Nat.lt_or_ge (k.val + 1) 60 with h1 | h1
  · simp only [if_pos h1]
    iintro ⟨H1, ⟨%W, HO⟩, HB⟩
    unfold k0_t2_body
    sl_exec
    have hr : drain_step.sl.r i arg1 k0_h1 f1 k = tw (arg1.view.read (Elt F) f1) ⟨k.val, hk⟩ := by
      unfold drain_step.sl.r tw
      rw [View.readAt_apply]
      congr 1
      funext a
      fin_cases a
      refine Fin.ext ?_
      show (k0_off4 k) 0 + 1 * 0 = k.val
      rw [k0_off4_eq]; rfl
    rw [hr]
    sl_exec (disch := first | sl_exact hck)
    sl_step
    isplitl [H1]; · iexact H1
    isplitl [HO]; · iexists _; iexact HO
    rw [show (k.val + 1) * 512 = k.val * 512 + 512 by omega]
    iexact HB
  · simp only [if_neg (Nat.not_lt.mpr h1)]
    iintro ⟨H1, ⟨%W, HO⟩, HB⟩
    unfold k0_t2_body
    sl_exec
    have hr : drain_step.sl.r_1 i arg1 k0_h1 f1 k = tw (arg1.view.read (Elt F) f1) ⟨k.val, hk⟩ := by
      unfold drain_step.sl.r_1 tw
      rw [View.readAt_apply]
      congr 1
      funext a
      fin_cases a
      refine Fin.ext ?_
      show (k0_off4 k) 0 + 1 * 0 = k.val
      rw [k0_off4_eq]; rfl
    rw [hr]
    sl_exec (disch := first | sl_exact hck)
    sl_step
    isplitl [H1]; · iexact H1
    isplitl [HO]; · iexists _; iexact HO
    isplitl [HB]; · iexact HB
    iexact HB_all

/-- Row `k` of the words, copied: the words of the row of the table that token `k` names. -/
def word (x1 : S60.Idx → BitVec 32) (hn : Named x1) (E : BufTy.Contents (Elt F) (Memref.whole main_arg1 : Memref sig .tc .hbm S8000x4096 .i32).view.ty) (k : Fin k0_t1_loop.trips) : Vec F S1x4096 .i32 :=
  (sRow x1 hn k).view.read (Elt F) E

/-- The buffer of words after the copies: sixty rows of the table, the rest as before. -/
def words (x1 : S60.Idx → BitVec 32) (hn : Named x1) (E : BufTy.Contents (Elt F) (Memref.whole main_arg1 : Memref sig .tc .hbm S8000x4096 .i32).view.ty)
    (f : BufTy.Contents (Elt F) (Memref.whole cc0_scratch1 : Memref sig .tc .vmem S64x4096 .i32).view.ty) :
    BufTy.Contents (Elt F) (Memref.whole cc0_scratch1 : Memref sig .tc .vmem S64x4096 .i32).view.ty :=
  fun (y : S64x4096.Idx) => if h : (y 0).val < 60 then word (F := F) x1 hn E ⟨(y 0).val, h⟩ (ix2 0 (y 1)) else f y

theorem eset_eq (k : Fin k0_t1_loop.trips) : (eRow k).view.set = (Rect.unit (s := S64x4096) (k0_off2 k) S1x4096.size (row_inb k)).set := by
  unfold eRow; exact View.set_slice_whole _ _

theorem mem_eset (k : Fin k0_t1_loop.trips) (y : S64x4096.Idx) : y ∈ (Rect.unit (s := S64x4096) (k0_off2 k) S1x4096.size (row_inb k)).set ↔ (y 0).val = k.val := by
  rw [Rect.mem_set_unit, k0_off2_eq]
  have h1 : (y 1).val < 4096 := (y 1).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 4096; omega

theorem eset_disjoint (k k' : Fin k0_t1_loop.trips) (hne : k ≠ k') : Disjoint (Rect.unit (s := S64x4096) (k0_off2 k) S1x4096.size (row_inb k)).set (Rect.unit (s := S64x4096) (k0_off2 k') S1x4096.size (row_inb k')).set := by
  rw [Finset.disjoint_left]; intro y hy hy'; rw [mem_eset] at hy hy'; exact hne (Fin.ext (by omega))

/-- The rows that are copied into. -/
def rows : Finset S64x4096.Idx := Finset.univ.biUnion fun k : Fin k0_t1_loop.trips => (Rect.unit (s := S64x4096) (k0_off2 k) S1x4096.size (row_inb k)).set

theorem mem_rows (y : S64x4096.Idx) : y ∈ rows ↔ (y 0).val < 60 := by
  unfold rows
  rw [Finset.mem_biUnion]
  constructor
  · rintro ⟨k, -, h⟩
    have := (mem_eset k y).1 h
    have : k.val < 60 := k.isLt
    omega
  · intro h
    exact ⟨⟨(y 0).val, h⟩, Finset.mem_univ _, (mem_eset _ y).2 rfl⟩

/-- The buffer of words is its sixty rows and the rest. -/
theorem rows_split (f : BufTy.Contents (Elt F) (Memref.whole cc0_scratch1 : Memref sig .tc .vmem S64x4096 .i32).view.ty) :
    ((Memref.whole cc0_scratch1 : Memref sig .tc .vmem S64x4096 .i32).view.loc (c : Thread nD τ) ↦{fullShare} f : sProp 𝕄)
      ⊣⊢ iprop(bigSep Finset.univ (eBef (F := F) c f) ∗ ((Memref.whole cc0_scratch1 : Memref sig .tc .vmem S64x4096 .i32).view.loc (c : Thread nD τ) ↦[Finset.univ \ rows]{fullShare} f)) := by
  have h : (bigSep Finset.univ (eBef (F := F) c f) : sProp 𝕄) = ((Memref.whole cc0_scratch1 : Memref sig .tc .vmem S64x4096 .i32).view.loc (c : Thread nD τ) ↦[rows]{fullShare} f) := by
    unfold rows
    rw [pointsTo_biUnion Finset.univ (ℓ := (Memref.whole cc0_scratch1 : Memref sig .tc .vmem S64x4096 .i32).view.loc (c : Thread nD τ)) (fun k : Fin k0_t1_loop.trips => (Rect.unit (s := S64x4096) (k0_off2 k) S1x4096.size (row_inb k)).set)
      (fun k _ k' _ h => eset_disjoint k k' h)]
    refine congrArg (bigSep Finset.univ) (funext fun k => ?_)
    unfold eBef; rw [eset_eq]; rfl
  rw [h]
  exact pointsTo_split_subset (Finset.subset_univ _)

theorem row_emb (k : Fin k0_t1_loop.trips) (y : S64x4096.Idx) (hy : (y 0).val = k.val) :
    (Rect.unit (s := S64x4096) (k0_off2 k) S1x4096.size (row_inb k)).emb (ix2 0 (y 1)) = y := by
  funext a
  refine Fin.ext ?_
  have h2 := k0_off2_eq k
  fin_cases a
  · show (k0_off2 k) 0 + 1 * 0 = (y 0).val
    rw [h2, hy]; rfl
  · show (k0_off2 k) 1 + 1 * (y 1).val = (y 1).val
    rw [h2]; show 0 + 1 * (y 1).val = (y 1).val; omega

theorem row_read (k : Fin k0_t1_loop.trips) (g : S64x4096.Idx → Elt F .i32) (j : S1x4096.Idx) :
    (eRow k).view.read (Elt F) g j = g ((Rect.unit (s := S64x4096) (k0_off2 k) S1x4096.size (row_inb k)).emb j) := rfl

theorem row_write (k : Fin k0_t1_loop.trips) (g : S64x4096.Idx → Elt F .i32) (w : S1x4096.Idx → Elt F .i32) (y : S64x4096.Idx) (hy : (y 0).val = k.val) :
    ((eRow k).view.writes (Elt F) g [⟨Rect.whole S1x4096, w⟩] : S64x4096.Idx → Elt F .i32) y = w (ix2 0 (y 1)) := by
  have h := congrFun (View.read_writes_whole (Val := Elt F) (eRow k).view g w) (ix2 0 (y 1))
  generalize (eRow k).view.writes (Elt F) g [⟨Rect.whole S1x4096, w⟩] = G at h ⊢
  have h2 := (row_read (F := F) k G (ix2 0 (y 1))).symm.trans h
  rw [row_emb k y hy] at h2
  exact h2

theorem aft_eq (x1 : S60.Idx → BitVec 32) (hn : Named x1) (E : BufTy.Contents (Elt F) (Memref.whole main_arg1 : Memref sig .tc .hbm S8000x4096 .i32).view.ty)
    (f : BufTy.Contents (Elt F) (Memref.whole cc0_scratch1 : Memref sig .tc .vmem S64x4096 .i32).view.ty) (k : Fin k0_t1_loop.trips) :
    (eAft (F := F) c x1 hn E f k : sProp 𝕄) = eBef (F := F) c (words x1 hn E f) k := by
  unfold eAft eBef
  refine pointsTo_congr fun y hy => ?_
  rw [eset_eq] at hy
  have hk : k.val < 60 := k.isLt
  have hy' := (mem_eset k y).1 hy
  have h : words x1 hn E f y = word x1 hn E k (ix2 0 ((show S64x4096.Idx from y) 1)) := by
    show (if h : ((show S64x4096.Idx from y) 0).val < 60 then word (F := F) x1 hn E ⟨((show S64x4096.Idx from y) 0).val, h⟩ (ix2 0 ((show S64x4096.Idx from y) 1)) else f y) = _
    rw [dif_pos (by rw [hy']; exact hk)]
    have : (⟨((show S64x4096.Idx from y) 0).val, by rw [hy']; exact hk⟩ : Fin k0_t1_loop.trips) = k := Fin.ext hy'
    rw [this]
  rw [h]
  exact row_write k f _ y hy'

/-- The sixty rows handed back, with the rest, are the buffer of words after the copies. -/
theorem rows_join (x1 : S60.Idx → BitVec 32) (hn : Named x1) (E : BufTy.Contents (Elt F) (Memref.whole main_arg1 : Memref sig .tc .hbm S8000x4096 .i32).view.ty)
    (f : BufTy.Contents (Elt F) (Memref.whole cc0_scratch1 : Memref sig .tc .vmem S64x4096 .i32).view.ty) :
    iprop(bigSep Finset.univ (eAft (F := F) c x1 hn E f) ∗ ((Memref.whole cc0_scratch1 : Memref sig .tc .vmem S64x4096 .i32).view.loc (c : Thread nD τ) ↦[Finset.univ \ rows]{fullShare} f))
      ⊢ ((Memref.whole cc0_scratch1 : Memref sig .tc .vmem S64x4096 .i32).view.loc (c : Thread nD τ) ↦{fullShare} words x1 hn E f : sProp 𝕄) := by
  rw [show eAft (F := F) c x1 hn E f = eBef (F := F) c (words x1 hn E f) from funext (aft_eq c x1 hn E f),
    pointsTo_congr (ℓ := (Memref.whole cc0_scratch1 : Memref sig .tc .vmem S64x4096 .i32).view.loc (c : Thread nD τ)) (I := Finset.univ \ rows) (f := f) (g := words x1 hn E f) (fun y hy => by
      have hy' : ¬ ((show S64x4096.Idx from y) 0).val < 60 := fun h => (Finset.mem_sdiff.1 hy).2 ((mem_rows y).2 h)
      show f y = (if h : ((show S64x4096.Idx from y) 0).val < 60 then word (F := F) x1 hn E ⟨((show S64x4096.Idx from y) 0).val, h⟩ (ix2 0 ((show S64x4096.Idx from y) 1)) else f y)
      rw [dif_neg hy'])]
  exact (rows_split c _).2

/-- The table of words, whole: a read share for each copy, cut to the row that the copy reads, and what is left of each share. -/
def tokRest (x1 : S60.Idx → BitVec 32) (hn : Named x1) (E : BufTy.Contents (Elt F) (Memref.whole main_arg1 : Memref sig .tc .hbm S8000x4096 .i32).view.ty) (k : Fin k0_t1_loop.trips) : sProp 𝕄 :=
  (sRow x1 hn k).view.loc (c : Thread nD τ) ↦[Finset.univ \ (sRow x1 hn k).view.set]{Transfers.shareTokN fullShare k.val} E

theorem toks_split (x1 : S60.Idx → BitVec 32) (hn : Named x1) (E : BufTy.Contents (Elt F) (Memref.whole main_arg1 : Memref sig .tc .hbm S8000x4096 .i32).view.ty) :
    ((Memref.whole main_arg1 : Memref sig .tc .hbm S8000x4096 .i32).view.loc (c : Thread nD τ) ↦{fullShare} E : sProp 𝕄)
      ⊣⊢ iprop(((Memref.whole main_arg1 : Memref sig .tc .hbm S8000x4096 .i32).view.loc (c : Thread nD τ) ↦{Transfers.shareDrop fullShare 60} E)
        ∗ bigSep Finset.univ (sTok (F := F) c x1 hn E) ∗ bigSep Finset.univ (tokRest (F := F) c x1 hn E)) := by
  have h : (bigSep (Finset.range 60) (fun i => (Memref.whole main_arg1 : Memref sig .tc .hbm S8000x4096 .i32).view.loc (c : Thread nD τ) ↦{Transfers.shareTokN fullShare i} E) : sProp 𝕄)
      = bigSep Finset.univ (fun k : Fin 60 => (Memref.whole main_arg1 : Memref sig .tc .hbm S8000x4096 .i32).view.loc (c : Thread nD τ) ↦{Transfers.shareTokN fullShare k.val} E) := by
    rw [← Ring.rangeSet_univ (NB := 60)]
    exact (Ring.bigSep_rangeSet_eq_range (NB := 60) (lo := 0) (hi := 60) le_rfl _ (fun k hk => by
      show _ = ((Memref.whole main_arg1 : Memref sig .tc .hbm S8000x4096 .i32).view.loc (c : Thread nD τ) ↦{Transfers.shareTokN fullShare (0 + k)} E : sProp 𝕄)
      rw [Nat.zero_add])).symm
  have h2 : (bigSep Finset.univ (fun k : Fin 60 => (Memref.whole main_arg1 : Memref sig .tc .hbm S8000x4096 .i32).view.loc (c : Thread nD τ) ↦{Transfers.shareTokN fullShare k.val} E) : sProp 𝕄)
      ⊣⊢ iprop(bigSep Finset.univ (sTok (F := F) c x1 hn E) ∗ bigSep Finset.univ (tokRest (F := F) c x1 hn E)) := by
    have e := BI.bigSep_sep Finset.univ (sTok (F := F) c x1 hn E) (tokRest (F := F) c x1 hn E)
    have hs (k : Fin 60) : ((Memref.whole main_arg1 : Memref sig .tc .hbm S8000x4096 .i32).view.loc (c : Thread nD τ) ↦{Transfers.shareTokN fullShare k.val} E : sProp 𝕄)
        ⊣⊢ iprop(sTok (F := F) c x1 hn E k ∗ tokRest (F := F) c x1 hn E k) := pointsTo_split_subset (Finset.subset_univ _)
    exact ⟨(BI.bigSep_mono fun k _ => (hs k).1).trans (Entails.of_eq e), (Entails.of_eq e.symm).trans (BI.bigSep_mono fun k _ => (hs k).2)⟩
  have h3 := Transfers.pointsTo_toks_range (Ix := Unit) (Name := ℕ) (U := Pipeline.UD sig nD τ) (Lvl := ℕ) (ℓ := (Memref.whole main_arg1 : Memref sig .tc .hbm S8000x4096 .i32).view.loc (c : Thread nD τ)) (S := Finset.univ) (f := E) fullShare 60
  rw [h] at h3
  constructor
  · refine h3.1.trans ?_
    iintro ⟨H1, H2⟩
    isplitl [H1]; · iexact H1
    iapply h2.1; iexact H2
  · refine BIBase.Entails.trans ?_ h3.2
    iintro ⟨H1, H2⟩
    isplitl [H1]; · iexact H1
    iapply h2.2; iexact H2
end Cert.QkvIdeal.Hand
-- ==== Proof.QkvIndex.lean ====
module

public import proofs.«01_k».proof.Proof.QkvDma
public import proofs.«01_k».proof.Pre_tokens_named

@[expose] public section

noncomputable section

namespace Cert.QkvIdeal.Hand

open Idealize.ShloMosaic
open Cert.QkvIdeal Cert.QkvIdeal.Gen

/-! A token between 0 and 31999 names a row of the table of words: its floor-quotient by four, which the kernel works out from the signed
    quotient and a correction for negative numbers, is its quotient, at most 7999. -/

theorem sdiv_four (w : BitVec 32) (h : w.toNat < 32000) : (w.sdiv 4#32).toNat = w.toNat / 4 := by
  have hm : w.msb = false := by rw [BitVec.msb_eq_decide]; simp; omega
  rw [BitVec.sdiv_eq, hm, show (4#32 : BitVec 32).msb = false from rfl]
  show (w / 4#32).toNat = _
  rw [BitVec.toNat_udiv]; rfl

theorem slt_zero (w : BitVec 32) (h : w.toNat < 32000) : w.slt 0#32 = false := by
  have hi : w.toInt = w.toNat := BitVec.toInt_eq_toNat_of_lt (by omega)
  rw [BitVec.slt, hi]; simp

theorem zero_slt (w : BitVec 32) (h : w.toNat < 32000) (h0 : w ≠ 0#32) : (0#32 : BitVec 32).slt w = true := by
  have hi : w.toInt = w.toNat := BitVec.toInt_eq_toNat_of_lt (by omega)
  have hp : w.toNat ≠ 0 := fun e => h0 (BitVec.eq_of_toNat_eq (by simpa using e))
  rw [BitVec.slt, hi]; simp; omega

theorem off3_eq (w : BitVec 32) (h : w.toNat < 32000) : k0_off3 w = ![w.toNat / 4, 0] := by
  by_cases h0 : w = 0#32
  · subst h0; decide
  have hc : ¬ IntOp.SDivCorner w 4#32 := by
    unfold IntOp.SDivCorner; rintro (h | ⟨_, h⟩) <;> exact absurd h (by decide)
  unfold k0_off3
  simp only [Scalar.cmpi, IntOp.cmpi, Scalar.divsi, IntOp.divsi, if_neg hc, slt_zero w h, zero_slt w h h0]
  rw [← sdiv_four w h]
  simp [Scalar.select, Scalar.andi, IntOp.andi, Scalar.extui, Scalar.subi, IntOp.subi]

/-- Tokens between 0 and 31999 name rows. -/
theorem named_of_lt (x1 : S60.Idx → BitVec 32) (h : ∀ i, (x1 i).toNat < 32000) : Named x1 := fun k a => by
  have hk := h (fun a => ⟨k.val, by fin_cases a; exact k.isLt⟩)
  rw [show tw x1 k = x1 _ from rfl, off3_eq _ hk]
  fin_cases a
  · show (x1 _).toNat / 4 + 1 ≤ 8000; omega
  · show 0 + 4096 ≤ 4096; omega

/-- A word at least 0 and less than 32000, both as signed numbers, is less than 32000 as an unsigned one. -/
theorem lt_of_signed (w : BitVec 32) (h : IntOp.andi (IntOp.cmpi .sge w 0#32) (IntOp.cmpi .slt w 32000#32) = 1#1) : w.toNat < 32000 := by
  have hb : (0#32 : BitVec 32).sle w = true ∧ w.slt 32000#32 = true := by
    revert h
    simp only [IntOp.andi, IntOp.cmpi]
    cases (0#32 : BitVec 32).sle w <;> cases w.slt 32000#32 <;> simp
  obtain ⟨h1, h2⟩ := hb
  rw [BitVec.sle] at h1; rw [BitVec.slt] at h2
  have e1 : (0 : Int) ≤ w.toInt := by simpa using h1
  have e2 : w.toInt < 32000 := by simpa using h2
  rw [BitVec.toInt_eq_toNat_cond] at e1 e2
  split at e1 <;> omega

end Cert.QkvIdeal.Hand

end
-- ==== Proof.QkvInit.lean ====
module

public import proofs.«01_k».proof.Proof.Gen.QkvIdeal.Skeleton
public import proofs.«01_k».proof.Proof.QkvDma
public import Idealize.ShloMosaic.Lib.Pipeline.FrameBody
public import Idealize.ShloMosaic.Lib.VecWindow
public import Idealize.ShloMosaic.Lib.Batch
public import Idealize.ShloMosaic.Lib.Ring
public import Idealize.ShloMosaic.Lib.Pipeline.Value
public import Idealize.ShloMosaic.Lib.Tactic

@[expose] public section

set_option maxRecDepth 65536

noncomputable section

namespace Cert.QkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.QkvIdeal Cert.QkvIdeal.Gen

variable {F : FTy → Type} [FloatOps F]

local notation "𝕄" => MT nD τ sig Unit (Elt F) ℕ (Pipeline.UD sig nD τ) ℕ

variable (c : Dev nD)

/-- The embeddings' codes before their scales: row `k` from the words of the row that token `k` names, the last four rows zero. -/
def emb0 (x1 : S60.Idx → BitVec 32) (hn : Named x1) (E : BufTy.Contents (Elt F) (Memref.whole main_arg1 : Memref sig .tc .hbm S8000x4096 .i32).view.ty) : Vec F S64x4096 .f32 := fun y =>
  if h : (y 0).val < 60 then k0_pay4 (F := F) (tw x1 ⟨(y 0).val, h⟩) (word (F := F) x1 hn E ⟨(y 0).val, h⟩) (ix2 0 (y 1))
  else k0_pay3 (F := F) (ix2 ⟨(y 0).val - 60, by have : (y 0).val < 64 := (y 0).isLt; show (y 0).val - 60 < 4; omega⟩ (y 1))

theorem put_in {s : Shape} {α : Type} (x : s.Idx → α) (off size : Fin s.rank → ℕ) (w : ((a : Fin s.rank) → Fin (size a)) → α) (y : s.Idx)
    (h : ∀ a, off a ≤ (y a).val ∧ (y a).val < off a + size a) : VecWindow.put x off size w y = w (Rect.unitLocal (s := s) (off := off) (size := size) y h) := dif_pos h

theorem put_out {s : Shape} {α : Type} (x : s.Idx → α) (off size : Fin s.rank → ℕ) (w : ((a : Fin s.rank) → Fin (size a)) → α) (y : s.Idx)
    (h : ¬ ∀ a, off a ≤ (y a).val ∧ (y a).val < off a + size a) : VecWindow.put x off size w y = x y := dif_neg h

/-- Before trip `k` of the loop that unpacks the words: the first `k` rows are done. -/
def shiftAt (arg1 : Memref sig .tc .smem S60 .i32) (f1 : BufTy.Contents (Elt F) arg1.view.ty) (hn : Named (arg1.view.read (Elt F) f1)) (E : BufTy.Contents (Elt F) (Memref.whole main_arg1 : Memref sig .tc .hbm S8000x4096 .i32).view.ty) (f : BufTy.Contents (Elt F) (Memref.whole cc0_scratch1 : Memref sig .tc .vmem S64x4096 .i32).view.ty) (G : BufTy.Contents (Elt F) (Memref.whole cc0_scratch2 : Memref sig .tc .vmem S64x4096 .f32).view.ty) (k : ℕ) (_ : Unit) : sProp 𝕄 :=
  iprop((arg1.view.loc (c : Thread nD τ) ↦[arg1.view.set]{fullShare} f1) ∗ ((Memref.whole cc0_scratch1 : Memref sig .tc .vmem S64x4096 .i32).view.loc (c : Thread nD τ) ↦[(Memref.whole cc0_scratch1 : Memref sig .tc .vmem S64x4096 .i32).view.set]{fullShare} words (arg1.view.read (Elt F) f1) hn E f)
    ∗ ∃ g : BufTy.Contents (Elt F) (Memref.whole cc0_scratch2 : Memref sig .tc .vmem S64x4096 .f32).view.ty, ((Memref.whole cc0_scratch2 : Memref sig .tc .vmem S64x4096 .f32).view.loc (c : Thread nD τ) ↦[(Memref.whole cc0_scratch2 : Memref sig .tc .vmem S64x4096 .f32).view.set]{fullShare} g)
      ∗ ⌜∀ y : S64x4096.Idx, (Memref.whole cc0_scratch2 : Memref sig .tc .vmem S64x4096 .f32).view.read (Elt F) g y = if (y 0).val < k then emb0 (F := F) (arg1.view.read (Elt F) f1) hn E y else (Memref.whole cc0_scratch2 : Memref sig .tc .vmem S64x4096 .f32).view.read (Elt F) G y⌝)

theorem shift_step (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole) (k0_h1 : k0_cond1 i = 1#1) (f1 : BufTy.Contents (Elt F) arg1.view.ty) (hn : Named (arg1.view.read (Elt F) f1)) (E : BufTy.Contents (Elt F) (Memref.whole main_arg1 : Memref sig .tc .hbm S8000x4096 .i32).view.ty) (f : BufTy.Contents (Elt F) (Memref.whole cc0_scratch1 : Memref sig .tc .vmem S64x4096 .i32).view.ty) (G : BufTy.Contents (Elt F) (Memref.whole cc0_scratch2 : Memref sig .tc .vmem S64x4096 .f32).view.ty)
    (k : Fin k0_t3_loop.trips) (acc : Unit) :
    shiftAt (F := F) c arg1 f1 hn E f G k acc ⊢ wp frame (wpE (defs₀ (F := F)) Variants.none c none) Set.univ (k0_t3_body (F := F) i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3 k0_h1 k acc)
      (shiftAt c arg1 f1 hn E f G (k.val + 1)) := by
  have hk : k.val < 60 := k.isLt
  unfold shiftAt
  iintro ⟨H1, H18, ⟨%g, H19, %hg⟩⟩
  unfold k0_t3_body
  sl_exec
  sl_step
  isplitl [H1]; · iexact H1
  isplitl [H18]; · iexact H18
  iexists _; isplitl [H19]; · iexact H19
  ipureintro
  intro y
  rw [View.read_writes_cons_put _ _ _ _ _ rfl]
  have hr : shift_step.sl.r i arg1 k0_h1 f1 k = tw (arg1.view.read (Elt F) f1) ⟨k.val, hk⟩ := by
    unfold shift_step.sl.r tw
    rw [View.readAt_apply]
    congr 1
    funext a
    fin_cases a
    refine Fin.ext ?_
    show (k0_off7 k) 0 + 1 * 0 = k.val
    rw [k0_off7_eq]; rfl
  have h8 := k0_off8_eq k
  have hw : View.readAt (Elt F) (Memref.whole cc0_scratch1 : Memref sig .tc .vmem S64x4096 .i32).view (Rect.unit (s := S64x4096) (k0_off8 k) S1x4096.size (k0_off8_inb i k k0_h1)).toLoadRect (words (arg1.view.read (Elt F) f1) hn E f)
      = word (arg1.view.read (Elt F) f1) hn E ⟨k.val, hk⟩ := by
    funext (j : S1x4096.Idx)
    have hj0 : (j 0).val < 1 := (j 0).isLt
    have hj1 : (j 1).val < 4096 := (j 1).isLt
    have e : (Rect.unit (s := S64x4096) (k0_off8 k) S1x4096.size (k0_off8_inb i k k0_h1)).emb j = (ix2 ⟨k.val, by omega⟩ (j 1) : S64x4096.Idx) := by
      funext a
      refine Fin.ext ?_
      fin_cases a
      · show (k0_off8 k) 0 + 1 * (j 0).val = k.val
        rw [h8]; show k.val + 1 * (j 0).val = k.val; omega
      · show (k0_off8 k) 1 + 1 * (j 1).val = (j 1).val
        rw [h8]; show 0 + 1 * (j 1).val = (j 1).val; omega
    show words (arg1.view.read (Elt F) f1) hn E f ((Rect.unit (s := S64x4096) (k0_off8 k) S1x4096.size (k0_off8_inb i k k0_h1)).emb j) = _
    rw [e]
    show (if h : k.val < 60 then word (F := F) (arg1.view.read (Elt F) f1) hn E ⟨k.val, h⟩ (ix2 0 (j 1)) else _) = _
    rw [dif_pos hk]
    congr 1
    funext a
    fin_cases a
    · refine Fin.ext ?_
      show 0 = (j 0).val
      omega
    · rfl
  rw [hr, hw]
  have hy1 : (y 1).val < 4096 := (y 1).isLt
  by_cases hy : (y 0).val = k.val
  · have hin : ∀ a, (k0_off8 k) a ≤ (y a).val ∧ (y a).val < (k0_off8 k) a + S1x4096.size a := by
      rw [h8]
      intro a; fin_cases a
      · show k.val ≤ (y 0).val ∧ (y 0).val < k.val + 1; omega
      · show 0 ≤ (y 1).val ∧ (y 1).val < 0 + 4096; omega
    rw [if_pos (by omega)]
    refine (put_in (s := S64x4096) _ _ _ _ y hin).trans ?_
    unfold emb0
    rw [dif_pos (by omega)]
    have hkk : (⟨(y 0).val, hy ▸ hk⟩ : Fin k0_t1_loop.trips) = ⟨k.val, hk⟩ := Fin.ext hy
    rw [hkk]
    congr 1
    funext a
    refine Fin.ext ?_
    fin_cases a
    · show (y 0).val - (k0_off8 k) 0 = 0
      rw [h8]; show (y 0).val - k.val = 0; omega
    · show (y 1).val - (k0_off8 k) 1 = (y 1).val
      rw [h8]; show (y 1).val - 0 = (y 1).val; omega
  · refine (put_out (s := S64x4096) _ _ _ _ y (fun H => by
      have a0 := H 0
      rw [h8] at a0
      have a1 : k.val ≤ (y 0).val ∧ (y 0).val < k.val + 1 := a0
      omega)).trans ?_
    refine (hg y).trans ?_
    by_cases h1 : (y 0).val < k.val
    · rw [if_pos h1, if_pos (by omega)]
    · rw [if_neg h1, if_neg (by omega)]

set_option warn.classDefReducibility false in
/-- The loop that unpacks the words, by its invariant. -/
@[sl_loop] def shiftInv (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole) (k0_h1 : k0_cond1 i = 1#1) (f1 : BufTy.Contents (Elt F) arg1.view.ty) (hn : Named (arg1.view.read (Elt F) f1)) (E : BufTy.Contents (Elt F) (Memref.whole main_arg1 : Memref sig .tc .hbm S8000x4096 .i32).view.ty) (f : BufTy.Contents (Elt F) (Memref.whole cc0_scratch1 : Memref sig .tc .vmem S64x4096 .i32).view.ty) (G : BufTy.Contents (Elt F) (Memref.whole cc0_scratch2 : Memref sig .tc .vmem S64x4096 .f32).view.ty) :
    LoopInvTy_k0_t3 (F := F) Unit ℕ (Pipeline.UD sig nD τ) ℕ Variants.none c none Set.univ i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3 k0_h1 where
  inv := shiftAt c arg1 f1 hn E f G
  step k acc := shift_step c i arg1 harg1 arg3 harg3 arg4 harg4 arg5 harg5 arg6 harg6 arg7 harg7 arg8 harg8 arg9 harg9 arg10 harg10 arg11 harg11 arg12 harg12 arg13 harg13 arg14 harg14 arg15 harg15 arg16 harg16 k0_h1 f1 hn E f G k acc

set_option maxHeartbeats 1000000 in
/-- The first part of the first point: the rows are copied, unpacked, scaled and normalised into the left half of the activations. -/
theorem init_run (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole) (k0_h1 : k0_cond1 i = 1#1) (f1 : BufTy.Contents (Elt F) arg1.view.ty) (hn : Named (arg1.view.read (Elt F) f1)) (E : BufTy.Contents (Elt F) (Memref.whole main_arg1 : Memref sig .tc .hbm S8000x4096 .i32).view.ty)
    (x3 : Vec F S64x1 .f32) (x5 : Vec F S1x4096 .f32) (f17 : BufTy.Contents (Elt F) (Memref.whole cc0_scratch0 : Memref sig .tc .vmem S64x8192 .bf16).view.ty) (W : Waits sig Unit) :
    (iprop((arg1.view.loc (c : Thread nD τ) ↦[arg1.view.set]{fullShare} f1) ∗ owns (c : Thread nD τ) arg3 fullShare x3 ∗ owns (c : Thread nD τ) arg5 fullShare x5
        ∗ ((Memref.whole main_arg1 : Memref sig .tc .hbm S8000x4096 .i32).view.loc (c : Thread nD τ) ↦{fullShare} E) ∗ ((Memref.whole cc0_scratch0 : Memref sig .tc .vmem S64x8192 .bf16).view.loc (c : Thread nD τ) ↦[(Memref.whole cc0_scratch0 : Memref sig .tc .vmem S64x8192 .bf16).view.set]{fullShare} f17)
        ∗ (∃ f : BufTy.Contents (Elt F) (Memref.whole cc0_scratch1 : Memref sig .tc .vmem S64x4096 .i32).view.ty, (Memref.whole cc0_scratch1 : Memref sig .tc .vmem S64x4096 .i32).view.loc (c : Thread nD τ) ↦{fullShare} f) ∗ (∃ f : BufTy.Contents (Elt F) (Memref.whole cc0_scratch2 : Memref sig .tc .vmem S64x4096 .f32).view.ty, (Memref.whole cc0_scratch2 : Memref sig .tc .vmem S64x4096 .f32).view.loc (c : Thread nD τ) ↦[(Memref.whole cc0_scratch2 : Memref sig .tc .vmem S64x4096 .f32).view.set]{fullShare} f)
        ∗ semVal ((c : Thread nD τ), SemLoc.dma (SemArray.sem cc0_scratch3)) 0 ∗ owes (c : Thread nD τ) 0 W) : sProp 𝕄)
      ⊢ wp frame (wpE (defs₀ (F := F)) Variants.none c none) Set.univ (k0_part1 (F := F) i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3 k0_h1)
      (fun _ => iprop((arg1.view.loc (c : Thread nD τ) ↦[arg1.view.set]{fullShare} f1) ∗ owns (c : Thread nD τ) arg3 fullShare x3 ∗ owns (c : Thread nD τ) arg5 fullShare x5
        ∗ ((Memref.whole main_arg1 : Memref sig .tc .hbm S8000x4096 .i32).view.loc (c : Thread nD τ) ↦{fullShare} E)
        ∗ (∃ f : BufTy.Contents (Elt F) (Memref.whole cc0_scratch0 : Memref sig .tc .vmem S64x8192 .bf16).view.ty, ((Memref.whole cc0_scratch0 : Memref sig .tc .vmem S64x8192 .bf16).view.loc (c : Thread nD τ) ↦[(Memref.whole cc0_scratch0 : Memref sig .tc .vmem S64x8192 .bf16).view.set]{fullShare} f) ∗ ⌜(Memref.whole cc0_scratch0 : Memref sig .tc .vmem S64x8192 .bf16).view.read (Elt F) f = VecWindow.put ((Memref.whole cc0_scratch0 : Memref sig .tc .vmem S64x8192 .bf16).view.read (Elt F) f17) ![0, 0] S64x4096.size (k0_pay5 (emb0 (F := F) (arg1.view.read (Elt F) f1) hn E) x3 x5)⌝)
        ∗ (∃ f : BufTy.Contents (Elt F) (Memref.whole cc0_scratch1 : Memref sig .tc .vmem S64x4096 .i32).view.ty, (Memref.whole cc0_scratch1 : Memref sig .tc .vmem S64x4096 .i32).view.loc (c : Thread nD τ) ↦{fullShare} f) ∗ (∃ f : BufTy.Contents (Elt F) (Memref.whole cc0_scratch2 : Memref sig .tc .vmem S64x4096 .f32).view.ty, (Memref.whole cc0_scratch2 : Memref sig .tc .vmem S64x4096 .f32).view.loc (c : Thread nD τ) ↦[(Memref.whole cc0_scratch2 : Memref sig .tc .vmem S64x4096 .f32).view.set]{fullShare} f)
        ∗ semVal ((c : Thread nD τ), SemLoc.dma (SemArray.sem cc0_scratch3)) 0 ∗ (∃ W, owes (c : Thread nD τ) 0 W))) := by
  rw [k0_part1_eq_skeleton]
  unfold owns
  iintro ⟨H1, ⟨%f3, %hf3, H3⟩, ⟨%f5, %hf5, H5⟩, HA, H17, ⟨%f18, H18⟩, ⟨%f19, H19⟩, Hc, HO⟩
  subst hf3 hf5
  ihave H18' := (rows_split c f18).1 $$ H18
  icases H18' with ⟨HE, Hrest⟩
  ihave HA' := (toks_split c (arg1.view.read (Elt F) f1) hn E).1 $$ HA
  icases HA' with ⟨HAd, HS, HSr⟩
  ihave HE' := (show (bigSep Finset.univ (eBef (F := F) c f18) : sProp 𝕄) ⊢ bigSep (Ring.rangeSet k0_t1_loop.trips 0 k0_t1_loop.trips) (eBef (F := F) c f18) from by rw [Ring.rangeSet_univ]) $$ HE
  ihave HS' := (show (bigSep Finset.univ (sTok (F := F) c (arg1.view.read (Elt F) f1) hn E) : sProp 𝕄) ⊢ bigSep (Ring.rangeSet k0_t1_loop.trips 0 k0_t1_loop.trips) (sTok (F := F) c (arg1.view.read (Elt F) f1) hn E) from by rw [Ring.rangeSet_univ]) $$ HS
  imod (Transfers.batch_alloc' (Lvl := ℕ) (countersEmb (U := Pipeline.UD sig nD τ)) (c : Thread nD τ) () 512 (del (F := F) c (arg1.view.read (Elt F) f1) hn E f18) (sm := .dma (SemArray.sem cc0_scratch3)) (E := Set.univ)) $$ Hc with HB
  sl_unfold [k0_part1_skel]
  sl_exec
  sl_for (drainAt c arg1 f1 hn E f18) $$ [H1 HB HO]
  · intro k acc; exact drain_step c i arg1 harg1 arg3 harg3 arg4 harg4 arg5 harg5 arg6 harg6 arg7 harg7 arg8 harg8 arg9 harg9 arg10 harg10 arg11 harg11 arg12 harg12 arg13 harg13 arg14 harg14 arg15 harg15 arg16 harg16 k0_h1 f1 hn E f18 k acc
  · unfold drainAt
    rw [if_pos (by decide)]
    isplitl [H1]; · iexact H1
    isplitl [HO]; · iexists _; iexact HO
    iexact HB
  iintro %acc HL
  ihave HL' := (show drainAt c arg1 f1 hn E f18 k0_t2_loop.trips acc ⊢ iprop((arg1.view.loc (c : Thread nD τ) ↦[arg1.view.set]{fullShare} f1) ∗ (∃ W, owes (c : Thread nD τ) 0 W)
      ∗ semVal ((c : Thread nD τ), SemLoc.dma (SemArray.sem cc0_scratch3)) 0 ∗ bigSep Finset.univ (del (F := F) c (arg1.view.read (Elt F) f1) hn E f18)) from by
      unfold drainAt; rw [if_neg (by decide)]) $$ HL
  icases HL' with ⟨H1, ⟨%W', HO⟩, Hc, Hall⟩
  ihave Hall' := (show bigSep Finset.univ (del (F := F) c (arg1.view.read (Elt F) f1) hn E f18) ⊢ iprop(bigSep Finset.univ (eAft (F := F) c (arg1.view.read (Elt F) f1) hn E f18) ∗ bigSep Finset.univ (sTok (F := F) c (arg1.view.read (Elt F) f1) hn E)) from Entails.of_eq (BI.bigSep_sep Finset.univ (eAft (F := F) c (arg1.view.read (Elt F) f1) hn E f18) (sTok (F := F) c (arg1.view.read (Elt F) f1) hn E))) $$ Hall
  icases Hall' with ⟨HE, HS⟩
  ihave H18 := (rows_join c (arg1.view.read (Elt F) f1) hn E f18) $$ [HE Hrest]
  · isplitl [HE]; · iexact HE
    iexact Hrest
  ihave HA := (toks_split c (arg1.view.read (Elt F) f1) hn E).2 $$ [HAd HS HSr]
  · isplitl [HAd]; · iexact HAd
    isplitl [HS]; · iexact HS
    iexact HSr
  ihave H18s := (show ((Memref.whole cc0_scratch1 : Memref sig .tc .vmem S64x4096 .i32).view.loc (c : Thread nD τ) ↦{fullShare} words (arg1.view.read (Elt F) f1) hn E f18 : sProp 𝕄) ⊢ ((Memref.whole cc0_scratch1 : Memref sig .tc .vmem S64x4096 .i32).view.loc (c : Thread nD τ) ↦[(Memref.whole cc0_scratch1 : Memref sig .tc .vmem S64x4096 .i32).view.set]{fullShare} words (arg1.view.read (Elt F) f1) hn E f18) from by rw [View.set_whole]) $$ H18
  sl_exec
  sl_for (shiftAt c arg1 f1 hn E f18 ((Memref.whole cc0_scratch2 : Memref sig .tc .vmem S64x4096 .f32).view.writes (Elt F) f19 [⟨Rect.unit (s := S64x4096) ![60, 0] S4x4096.size inb_S64x4096_S4x4096_60_0, k0_pay3 (F := F)⟩])) $$ [H1 H18s H19]
  · intro k acc; exact shift_step c i arg1 harg1 arg3 harg3 arg4 harg4 arg5 harg5 arg6 harg6 arg7 harg7 arg8 harg8 arg9 harg9 arg10 harg10 arg11 harg11 arg12 harg12 arg13 harg13 arg14 harg14 arg15 harg15 arg16 harg16 k0_h1 f1 hn E f18 _ k acc
  · unfold shiftAt
    isplitl [H1]; · iexact H1
    isplitl [H18s]; · iexact H18s
    iexists _; isplitl [H19]; · iexact H19
    ipureintro
    intro y
    rw [if_neg (Nat.not_lt_zero _)]
  iintro %acc2 HL
  unfold shiftAt
  icases HL with ⟨H1, H18, ⟨%g, H19, %hg⟩⟩
  have hG : (Memref.whole cc0_scratch2 : Memref sig .tc .vmem S64x4096 .f32).view.read (Elt F) g = emb0 (F := F) (arg1.view.read (Elt F) f1) hn E := by
    funext (y : S64x4096.Idx)
    refine (hg y).trans ?_
    have hy0 : (y 0).val < 64 := (y 0).isLt
    have hy1 : (y 1).val < 4096 := (y 1).isLt
    by_cases hy : (y 0).val < 60
    · exact if_pos hy
    · refine (if_neg hy).trans ?_
      rw [View.read_writes_cons_put _ _ _ _ _ rfl]
      refine (put_in (s := S64x4096) _ _ _ _ y ?_).trans ?_
      · intro a; fin_cases a
        · show 60 ≤ (y 0).val ∧ (y 0).val < 60 + 4; omega
        · show 0 ≤ (y 1).val ∧ (y 1).val < 0 + 4096; omega
      · unfold emb0
        rw [dif_neg hy]
        congr 1
        funext a
        fin_cases a <;> rfl
  sl_exec
  sl_step
  isplitl [H1]; · iexact H1
  isplitl [H3]
  · iexists f3; isplitr; · ipureintro; rfl
    iexact H3
  isplitl [H5]
  · iexists f5; isplitr; · ipureintro; rfl
    iexact H5
  isplitl [HA]; · iexact HA
  isplitl [H17]
  · iexists _; isplitl [H17]; · iexact H17
    ipureintro
    rw [View.read_writes_cons_put _ _ _ _ _ rfl]
    rw [View.readAt_full, View.readAt_full]
    have hR : (Memref.whole cc0_scratch2 : Memref sig .tc .vmem S64x4096 .f32).view.readAt (Elt F) (Rect.unit (s := S64x4096) ![0, 0] S64x4096.size inb_S64x4096_S64x4096_0_0).toLoadRect g = emb0 (F := F) (arg1.view.read (Elt F) f1) hn E := by
      rw [← hG]; exact View.readAt_full (s := S64x4096) _ _ _
    rw [hR]; rfl
  isplitl [H18]
  · iexists _
    iapply (show ((Memref.whole cc0_scratch1 : Memref sig .tc .vmem S64x4096 .i32).view.loc (c : Thread nD τ) ↦[(Memref.whole cc0_scratch1 : Memref sig .tc .vmem S64x4096 .i32).view.set]{fullShare} words (arg1.view.read (Elt F) f1) hn E f18 : sProp 𝕄) ⊢ ((Memref.whole cc0_scratch1 : Memref sig .tc .vmem S64x4096 .i32).view.loc (c : Thread nD τ) ↦{fullShare} words (arg1.view.read (Elt F) f1) hn E f18) from by rw [View.set_whole])
    iexact H18
  isplitl [H19]; · iexists _; iexact H19
  isplitl [Hc]; · iexact Hc
  iexists _; iexact HO

end Cert.QkvIdeal.Hand
-- ==== Proof.Awq.lean ====
module

public import proofs.«01_k».proof.Proof.Gen.FfIdeal.Skeleton
public import Idealize.ShloMosaic.Lib.Pointwise

@[expose] public section

set_option maxRecDepth 16384

noncomputable section

namespace Cert.Awq

open Idealize.ShloMosaic Idealize.ShloMosaic.TcCoe Idealize.SL.Sem Cert.FfIdeal Cert.FfIdeal.Gen

section
variable {F : FTy → Type} [FloatOps F]

/-- The 128 codes of one group of packed bytes: row `2 i` is the low nibble of byte row `i`, row `2 i + 1` its high nibble. -/
def codes (w : Vec F S64x512 .i8) : IVec S128x512 32 :=
  shapeCast S128x512 (concatenate S64x2x512 1
    [⟨S64x1x512, shapeCast S64x1x512 (andi (extui 32 w natLt_8_32) (broadcast S64x512 15#32)) shapeCasts_S64x512_S64x1x512⟩,
     ⟨S64x1x512, shapeCast S64x1x512 (shrsi (extui 32 w natLt_8_32) (broadcast S64x512 4#32)) shapeCasts_S64x512_S64x1x512⟩]
    concatenates_S64x1x512_S64x1x512_S64x2x512_d1) shapeCasts_S64x2x512_S128x512

/-- The group's weights: codes minus the group's zero points, times the group's scales. -/
def weights (w : Vec F S64x512 .i8) (z : Vec F S1x512 .i8) (s : Vec F S1x512 .bf16) : FVec F S128x512 .bf16 :=
  mulf (subf (sitofp .bf16 (codes w))
      (broadcastTo S128x512 (sitofp .bf16 (extui 32 z natLt_8_32)) broadcasts_S1x512_S128x512))
    (broadcastTo S128x512 s broadcasts_S1x512_S128x512)

/-- One group's product: 128 columns of the activations against the group's weights. -/
def grp (w : Vec F S64x512 .i8) (z : Vec F S1x512 .i8) (s : Vec F S1x512 .bf16) (x : Vec F S64x128 .bf16) :
    FVec F S64x512 .f32 :=
  matmul dot_S64x128_S128x512_S64x512_1_0_0_1_n_n none x (weights w z s) (constant S64x512 .f32 0x00000000#32)

end

/-- A weight from a low nibble: the code minus the zero point, times the scale. -/
def lo (b z : BitVec 8) (s : EReal) : EReal :=
  ((FloatOps.sitofp (F := Ideal) .bf16 (IntOp.andi (BitVec.setWidth 32 b) 15#32) : EReal)
    - (FloatOps.sitofp (F := Ideal) .bf16 (BitVec.setWidth 32 z) : EReal)) * s

/-- A weight from a high nibble. -/
def hi (b z : BitVec 8) (s : EReal) : EReal :=
  ((FloatOps.sitofp (F := Ideal) .bf16 (IntOp.shrsi ArithUnit.vector (BitVec.setWidth 32 b) 4#32) : EReal)
    - (FloatOps.sitofp (F := Ideal) .bf16 (BitVec.setWidth 32 z) : EReal)) * s

/-- One group's product at an index: 128 products, the even ones with low nibbles and the odd ones with high nibbles. -/
theorem grp_apply (w : Vec Ideal S64x512 .i8) (z : Vec Ideal S1x512 .i8) (s : Vec Ideal S1x512 .bf16)
    (x : Vec Ideal S64x128 .bf16) (r : Fin 64) (c : Fin 512) :
    grp w z s x (ix2 r c) = ∑ j : Fin 128, (show EReal from x (ix2 r j)) *
      (if j.val % 2 < 1 then lo (w (ix2 ⟨j.val / 2, by omega⟩ c)) (z (ix2 0 c)) (s (ix2 0 c))
       else hi (w (ix2 ⟨j.val / 2, by omega⟩ c)) (z (ix2 0 c)) (s (ix2 0 c))) := by
  pointwise [grp, weights, codes]
  refine Finset.sum_congr rfl fun j _ => congrArg _ ?_
  by_cases h : j.val % 2 < 1
  · rw [dif_pos h, if_pos h]; rfl
  · rw [dif_neg h, if_neg h]; rfl

/-- The gated product at an entry: `g` times its logistic, times `u`. -/
def silu (g u : EReal) : EReal := g * Ideal.logistic g * u

/-- A running sum of vectors, in order. -/
def acc {F : FTy → Type} [FloatOps F] (f : ℕ → FVec F S64x512 .f32) : ℕ → FVec F S64x512 .f32
  | 0 => f 0
  | n + 1 => addf (acc f n) (f (n + 1))

/-- At the ideal reading a running sum is a sum. -/
theorem acc_apply (f : ℕ → FVec Ideal S64x512 .f32) (n : ℕ) (j : S64x512.Idx) :
    (show EReal from acc f n j) = ∑ g ∈ Finset.range (n + 1), (show EReal from f g j) := by
  induction n with
  | zero => simp [acc]
  | succ n ih => rw [Finset.sum_range_succ, ← ih]; rfl

/-- Sums of 128 terms a group, alternately from `a` and from `b`, are all of `a`'s terms plus all of `b`'s. -/
theorem regroup {M : Type} [AddCommMonoid M] (a b : ℕ → M) (n : ℕ) :
    ∑ g ∈ Finset.range n, ∑ j : Fin 128, (if j.val % 2 < 1 then a (64 * g + j.val / 2) else b (64 * g + j.val / 2))
      = ∑ k ∈ Finset.range (64 * n), a k + ∑ k ∈ Finset.range (64 * n), b k := by
  have h1 (g : ℕ) : ∑ j : Fin 128, (if j.val % 2 < 1 then a (64 * g + j.val / 2) else b (64 * g + j.val / 2))
      = ∑ k ∈ Finset.range 64, a (64 * g + k) + ∑ k ∈ Finset.range 64, b (64 * g + k) := by
    rw [Fin.sum_univ_eq_sum_range
      (fun j => if j % 2 < 1 then a (64 * g + j / 2) else b (64 * g + j / 2)) 128, ← Finset.sum_add_distrib]
    have h2 (m : ℕ) : ∑ j ∈ Finset.range (2 * m), (if j % 2 < 1 then a (64 * g + j / 2) else b (64 * g + j / 2))
        = ∑ k ∈ Finset.range m, (a (64 * g + k) + b (64 * g + k)) := by
      induction m with
      | zero => simp
      | succ m ih =>
        rw [show 2 * (m + 1) = 2 * m + 1 + 1 from by ring, Finset.sum_range_succ, Finset.sum_range_succ, ih,
          Finset.sum_range_succ, if_pos (by omega), if_neg (by omega), show 2 * m / 2 = m from by omega,
          show (2 * m + 1) / 2 = m from by omega, add_assoc]
    exact h2 64
  induction n with
  | zero => simp
  | succ n ih =>
    rw [Finset.sum_range_succ, ih, h1, show 64 * (n + 1) = 64 * n + 64 from by ring,
      Finset.sum_range_add a, Finset.sum_range_add b]
    abel

/-- Term `k` of the low half of a product: activation `2 k` times the weight from the low nibble of byte `k`. -/
def tLo (X : ℕ → EReal) (W Z : ℕ → BitVec 8) (S : ℕ → EReal) (k : ℕ) : EReal := X (2 * k) * lo (W k) (Z (k / 64)) (S (k / 64))

/-- Term `k` of the high half of a product. -/
def tHi (X : ℕ → EReal) (W Z : ℕ → BitVec 8) (S : ℕ → EReal) (k : ℕ) : EReal := X (2 * k + 1) * hi (W k) (Z (k / 64)) (S (k / 64))

/-- One entry of the product of activations with packed weights of `n` groups. -/
def dot (n : ℕ) (X : ℕ → EReal) (W Z : ℕ → BitVec 8) (S : ℕ → EReal) : EReal :=
  ∑ k ∈ Finset.range (64 * n), tLo X W Z S k + ∑ k ∈ Finset.range (64 * n), tHi X W Z S k

/-- An entry depends only on the entries of its operands in range. -/
theorem dot_congr {n : ℕ} {X X' : ℕ → EReal} {W W' Z Z' : ℕ → BitVec 8} {S S' : ℕ → EReal}
    (hX : ∀ k < 128 * n, X k = X' k) (hW : ∀ k < 64 * n, W k = W' k) (hZ : ∀ g < n, Z g = Z' g) (hS : ∀ g < n, S g = S' g) :
    dot n X W Z S = dot n X' W' Z' S' := by
  unfold dot
  refine congrArg₂ (· + ·) (Finset.sum_congr rfl fun k hk => ?_) (Finset.sum_congr rfl fun k hk => ?_)
  all_goals
    have hk := Finset.mem_range.1 hk
    simp only [tLo, tHi]
    rw [hX _ (by omega), hW _ hk, hZ _ (by omega), hS _ (by omega)]

/-- A running sum of groups' products is the entry of the whole product. -/
theorem acc_eq_dot {n : ℕ} {X : ℕ → EReal} {W Z : ℕ → BitVec 8} {S : ℕ → EReal} {r : Fin 64} {c : Fin 512}
    {w : ℕ → Vec Ideal S64x512 .i8} {z : ℕ → Vec Ideal S1x512 .i8} {s : ℕ → Vec Ideal S1x512 .bf16} {x : ℕ → Vec Ideal S64x128 .bf16}
    (hX : ∀ g < n + 1, ∀ j : Fin 128, x g (ix2 r j) = X (128 * g + j.val))
    (hW : ∀ g < n + 1, ∀ j : Fin 64, w g (ix2 j c) = W (64 * g + j.val))
    (hZ : ∀ g < n + 1, z g (ix2 0 c) = Z g) (hS : ∀ g < n + 1, s g (ix2 0 c) = S g) :
    (show EReal from acc (fun g => grp (w g) (z g) (s g) (x g)) n (ix2 r c)) = dot (n + 1) X W Z S := by
  rw [acc_apply]
  unfold dot
  rw [← regroup]
  refine Finset.sum_congr rfl fun g hg => ?_
  have hg := Finset.mem_range.1 hg
  refine (grp_apply _ _ _ _ r c).trans (Finset.sum_congr rfl fun j _ => ?_)
  have hj := j.isLt
  by_cases h : j.val % 2 < 1
  · rw [if_pos h, if_pos h, tLo, hX g hg j, hW g hg, hZ g hg, hS g hg]
    rw [show (64 * g + j.val / 2) / 64 = g from by omega, show 2 * (64 * g + j.val / 2) = 128 * g + j.val from by omega]
  · rw [if_neg h, if_neg h, tHi, hX g hg j, hW g hg, hZ g hg, hS g hg]
    rw [show (64 * g + j.val / 2) / 64 = g from by omega, show 2 * (64 * g + j.val / 2) + 1 = 128 * g + j.val from by omega]

end Cert.Awq

end
-- ==== Proof.QkvHead.lean ====
module

public import proofs.«01_k».proof.Proof.Gen.QkvIdeal.Skeleton
public import proofs.«01_k».proof.Proof.QkvInit
public import proofs.«01_k».proof.Proof.Awq
public import Idealize.ShloMosaic.Lib.Pipeline.FrameBody
public import Idealize.ShloMosaic.Lib.VecWindow
public import Idealize.ShloMosaic.Lib.Tactic

@[expose] public section

set_option maxRecDepth 65536

noncomputable section

namespace Cert.QkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.QkvIdeal Cert.QkvIdeal.Gen

variable {F : FTy → Type} [FloatOps F]

local notation "𝕄" => MT nD τ sig Unit (Elt F) ℕ (Pipeline.UD sig nD τ) ℕ

variable (c : Dev nD)

/-- The contents of the embedding table's array. -/
abbrev Tab (F : FTy → Type) := BufTy.Contents (Elt F) (Memref.whole main_arg1 : Memref sig .tc .hbm S8000x4096 .i32).view.ty

/-- What the body may use besides its windows: the embedding table, the two buffers of the row copies, the copies' semaphore at
    zero, and no debt. -/
def Side (E : Tab F) : sProp 𝕄 :=
  iprop(((Memref.whole main_arg1 : Memref sig .tc .hbm S8000x4096 .i32).view.loc (c : Thread nD τ) ↦{fullShare} E)
    ∗ (∃ f : BufTy.Contents (Elt F) (Memref.whole cc0_scratch1 : Memref sig .tc .vmem S64x4096 .i32).view.ty, (Memref.whole cc0_scratch1 : Memref sig .tc .vmem S64x4096 .i32).view.loc (c : Thread nD τ) ↦{fullShare} f)
    ∗ (∃ f : BufTy.Contents (Elt F) (Memref.whole cc0_scratch2 : Memref sig .tc .vmem S64x4096 .f32).view.ty, (Memref.whole cc0_scratch2 : Memref sig .tc .vmem S64x4096 .f32).view.loc (c : Thread nD τ) ↦[(Memref.whole cc0_scratch2 : Memref sig .tc .vmem S64x4096 .f32).view.set]{fullShare} f)
    ∗ semVal ((c : Thread nD τ), SemLoc.dma (SemArray.sem cc0_scratch3)) 0 ∗ (∃ W, owes (c : Thread nD τ) 0 W))

/-- The activations: the normalised embeddings beside the normalised second operand. -/
def acts (x1 : S60.Idx → BitVec 32) (hn : Named x1) (E : Tab F) (x3 : Vec F S64x1 .f32) (x4 : Vec F S64x4096 .bf16) (x5 x6 : Vec F S1x4096 .f32)
    (x17 : Vec F S64x8192 .bf16) : Vec F S64x8192 .bf16 :=
  VecWindow.put (VecWindow.put x17 ![0, 0] S64x4096.size (k0_pay5 (emb0 (F := F) x1 hn E) x3 x5)) ![0, 4096] S64x4096.size (k0_pay18 x4 x6)

/-- The activations at a point: computed at the first, kept at the others. -/
def actsAt (i : grid0.Coords) (x1 : S60.Idx → BitVec 32) (hn : Named x1) (E : Tab F) (x3 : Vec F S64x1 .f32) (x4 : Vec F S64x4096 .bf16) (x5 x6 : Vec F S1x4096 .f32)
    (x17 : Vec F S64x8192 .bf16) : Vec F S64x8192 .bf16 :=
  if k0_cond1 i = 1#1 then acts x1 hn E x3 x4 x5 x6 x17 else x17

set_option maxHeartbeats 4000000 in
/-- The head of the body, with the first group of the product. -/
theorem part6_run (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole) (x1 : Vec F S60 .i32) (hn : Named x1) (E : Tab F)
    (x3 : Vec F S64x1 .f32) (x4 : Vec F S64x4096 .bf16) (x5 x6 : Vec F S1x4096 .f32) (x11 : Vec F S4096x512 .i8) (x12 : Vec F S64x512 .bf16) (x13 : Vec F S64x512 .i8) (x17 : Vec F S64x8192 .bf16)
    (K : (Σ' (arg0 : BitVec 32) (v23 : FVec F S64x512 .f32) (v37 : FVec F S128x512 .bf16), FVec F S128x512 .bf16) → sProp 𝕄) :
    (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg11 fullShare x11 ∗ owns (c : Thread nD τ) arg12 fullShare x12 ∗ owns (c : Thread nD τ) arg13 fullShare x13 ∗ owns (c : Thread nD τ) (Memref.whole cc0_scratch0) fullShare x17 ∗ Side c E
        ∗ (∀ r, iprop(⌜r = ⟨BitVec.ofNat 32 (i 0).val,               k0_pay19 (View.ld x11 (Rect.unit (s := S4096x512) ![0, 0] S64x512.size inb_S4096x512_S64x512_0_0)) (View.ld x13 (Rect.unit (s := S64x512) ![0, 0] S1x512.size inb_S64x512_S1x512_0_0))                 (View.ld x12 (Rect.unit (s := S64x512) ![0, 0] S1x512.size inb_S64x512_S1x512_0_0)) (View.ld (actsAt i x1 hn E x3 x4 x5 x6 x17) (Rect.unit (s := S64x8192) ![0, 0] S64x128.size inb_S64x8192_S64x128_0_0)),               k0_pay20 (View.ld x11 (Rect.unit (s := S4096x512) ![64, 0] S64x512.size inb_S4096x512_S64x512_64_0)),               k0_pay21 (View.ld x13 (Rect.unit (s := S64x512) ![1, 0] S1x512.size inb_S64x512_S1x512_1_0))⟩⌝ ∗ owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg11 fullShare x11 ∗ owns (c : Thread nD τ) arg12 fullShare x12 ∗ owns (c : Thread nD τ) arg13 fullShare x13
            ∗ owns (c : Thread nD τ) (Memref.whole cc0_scratch0) fullShare (actsAt i x1 hn E x3 x4 x5 x6 x17) ∗ Side c E)
          -∗ K r)) : sProp 𝕄)
      ⊢ wp frame (wpE (defs₀ (F := F)) Variants.none c none) Set.univ (k0_part6 (F := F) i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3) K := by
  rw [k0_part6_eq_skeleton]
  unfold k0_part6_skel
  by_cases hc : k0_cond1 i = 1#1
  · have e : actsAt i x1 hn E x3 x4 x5 x6 x17 = acts x1 hn E x3 x4 x5 x6 x17 := if_pos hc
    rw [e]
    unfold owns Side
    iintro ⟨⟨%f1, %hf1, H1⟩, H3, ⟨%f4, %hf4, H4⟩, H5, ⟨%f6, %hf6, H6⟩, ⟨%f11, %hf11, H11⟩, ⟨%f12, %hf12, H12⟩, ⟨%f13, %hf13, H13⟩, ⟨%f17, %hf17, H17⟩, ⟨HA, H18, H19, Hs, ⟨%W, HO⟩⟩, Hk⟩
    subst hf1 hf4 hf6 hf11 hf12 hf13 hf17
    rw [dif_pos hc, wp_bind, wp_bind]
    iapply (wp_wand_r frame (wpE (defs₀ (F := F)) Variants.none c none) Set.univ)
    isplitl [H1 H3 H5 HA H17 H18 H19 Hs HO]
    · iapply (init_run c i arg1 harg1 arg3 harg3 arg4 harg4 arg5 harg5 arg6 harg6 arg7 harg7 arg8 harg8 arg9 harg9 arg10 harg10 arg11 harg11 arg12 harg12 arg13 harg13 arg14 harg14 arg15 harg15 arg16 harg16 hc f1 hn E x3 x5 f17 W)
      unfold owns
      isplitl [H1]; · iexact H1
      isplitl [H3]; · iexact H3
      isplitl [H5]; · iexact H5
      isplitl [HA]; · iexact HA
      isplitl [H17]; · iexact H17
      isplitl [H18]; · iexact H18
      isplitl [H19]; · iexact H19
      isplitl [Hs]; · iexact Hs
      iexact HO
    iintro %_ ⟨H1, H3, H5, HA, ⟨%g17, H17, %hg⟩, H18, H19, Hs, HO⟩
    sl_exec
    sl_step
    have hA : acts (arg1.view.read (Elt F) f1) hn E x3 (arg4.view.read (Elt F) f4) x5 (arg6.view.read (Elt F) f6) ((Memref.whole cc0_scratch0 : Memref sig .tc .vmem S64x8192 .bf16).view.read (Elt F) f17) = VecWindow.put ((Memref.whole cc0_scratch0 : Memref sig .tc .vmem S64x8192 .bf16).view.read (Elt F) g17) ![0, 4096] S64x4096.size (k0_pay18 (arg4.view.read (Elt F) f4) (arg6.view.read (Elt F) f6)) := by
      rw [hg]; rfl
    have hld : View.ld (acts (arg1.view.read (Elt F) f1) hn E x3 (arg4.view.read (Elt F) f4) x5 (arg6.view.read (Elt F) f6) ((Memref.whole cc0_scratch0 : Memref sig .tc .vmem S64x8192 .bf16).view.read (Elt F) f17)) (Rect.unit (s := S64x8192) ![0, 0] S64x128.size inb_S64x8192_S64x128_0_0) = part6_run.sl.v22 g17 := by
      rw [hA]
      funext (y : S64x128.Idx)
      refine (put_out (s := S64x8192) _ _ _ _ _ (fun h => ?_)).trans ?_
      · have h2 : 4096 ≤ 0 + 1 * (y 1).val := (h 1).1
        have : (y 1).val < 128 := (y 1).isLt
        omega
      · rfl
    rw [hld]
    iapply Hk
    isplitr; · ipureintro; rfl
    unfold owns
    isplitl [H1]
    · iexists f1; isplitr; · ipureintro; rfl
      iexact H1
    isplitl [H3]; · iexact H3
    isplitl [H4]
    · iexists f4; isplitr; · ipureintro; rfl
      iexact H4
    isplitl [H5]; · iexact H5
    isplitl [H6]
    · iexists f6; isplitr; · ipureintro; rfl
      iexact H6
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H17]
    · iexists _; isplitr; swap; · iexact H17
      ipureintro
      have e4 : part6_run.sl.r c arg4 f4 = arg4.view.read (Elt F) f4 := View.readAt_full _ _ _
      have e6 : arg6.view.readAt (Elt F) (Rect.unit (s := S1x4096) ![0, 0] S1x4096.size inb_S1x4096_S1x4096_0_0).toLoadRect f6 = arg6.view.read (Elt F) f6 := View.readAt_full _ _ _
      rw [View.read_writes_cons_put _ _ _ _ _ rfl, e4, e6, hA]
      rfl
    isplitl [HA]; · iexact HA
    isplitl [H18]; · iexact H18
    isplitl [H19]; · iexact H19
    isplitl [Hs]; · iexact Hs
    iexact HO
  · have e : actsAt i x1 hn E x3 x4 x5 x6 x17 = x17 := if_neg hc
    rw [e]
    unfold owns
    iintro ⟨H1, H3, H4, H5, H6, ⟨%f11, %hf11, H11⟩, ⟨%f12, %hf12, H12⟩, ⟨%f13, %hf13, H13⟩, ⟨%f17, %hf17, H17⟩, HS, Hk⟩
    subst hf11 hf12 hf13 hf17
    sl_exec (disch := first | sl_exact hc)
    sl_step
    iapply Hk
    isplitr; · ipureintro; rfl
    isplitl [H1]; · iexact H1
    isplitl [H3]; · iexact H3
    isplitl [H4]; · iexact H4
    isplitl [H5]; · iexact H5
    isplitl [H6]; · iexact H6
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H17]
    · iexists f17; isplitr; · ipureintro; rfl
      iexact H17
    iexact HS

end Cert.QkvIdeal.Hand
-- ==== Proof.QkvRun.lean ====
module

public import proofs.«01_k».proof.Proof.Gen.QkvIdeal.Skeleton
public import proofs.«01_k».proof.Proof.QkvHead
public import proofs.«01_k».proof.Proof.Awq
public import Idealize.ShloMosaic.Lib.Pipeline.FrameBody
public import Idealize.ShloMosaic.Lib.VecWindow
public import Idealize.ShloMosaic.Lib.Tactic

@[expose] public section

set_option maxRecDepth 65536

noncomputable section

namespace Cert.QkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.QkvIdeal Cert.QkvIdeal.Gen

variable {F : FTy → Type} [FloatOps F]

local notation "𝕄" => MT nD τ sig Unit (Elt F) ℕ (Pipeline.UD sig nD τ) ℕ

variable (c : Dev nD)

/-! ## The product and the heads -/

theorem inb_w (g : ℕ) : ∀ a, (![64 * (g % 64), 0] : Fin 2 → ℕ) a + S64x512.size a ≤ S4096x512.size a := by
  have h := Nat.mod_lt g (show 0 < 64 by decide)
  intro a; fin_cases a <;> simp <;> omega

theorem inb_z (g : ℕ) : ∀ a, (![g % 64, 0] : Fin 2 → ℕ) a + S1x512.size a ≤ S64x512.size a := by
  have h := Nat.mod_lt g (show 0 < 64 by decide)
  intro a; fin_cases a <;> simp <;> omega

theorem inb_x (g : ℕ) : ∀ a, (![0, 128 * (g % 64)] : Fin 2 → ℕ) a + S64x128.size a ≤ S64x8192.size a := by
  have h := Nat.mod_lt g (show 0 < 64 by decide)
  intro a; fin_cases a <;> simp <;> omega

/-- Group `g` of the product of the activations with a block of packed weights. -/
def part (x : Vec F S64x8192 .bf16) (w : Vec F S4096x512 .i8) (s : Vec F S64x512 .bf16) (z : Vec F S64x512 .i8) (g : ℕ) :
    FVec F S64x512 .f32 :=
  Awq.grp (View.ld w (Rect.unit (s := S4096x512) ![64 * (g % 64), 0] S64x512.size (inb_w g)))
    (View.ld z (Rect.unit (s := S64x512) ![g % 64, 0] S1x512.size (inb_z g)))
    (View.ld s (Rect.unit (s := S64x512) ![g % 64, 0] S1x512.size (inb_z g)))
    (View.ld x (Rect.unit (s := S64x8192) ![0, 128 * (g % 64)] S64x128.size (inb_x g)))

/-- The product of the activations with a block of packed weights: four heads of 128 columns. -/
def mm (x : Vec F S64x8192 .bf16) (w : Vec F S4096x512 .i8) (s : Vec F S64x512 .bf16) (z : Vec F S64x512 .i8) : FVec F S64x512 .f32 :=
  Awq.acc (part x w s z) 63

/-- One of the four heads. -/
def headOf (A : FVec F S64x512 .f32) (n : Fin 4) : FVec F S64x128 .f32 := fun y =>
  A (ix2 (y 0) ⟨128 * n.val + (y 1).val, by have : (y 1).val < 128 := (y 1).isLt; have := n.isLt; omega⟩)

theorem head_eq (A : FVec F S64x512 .f32) (n : Fin 4) (h : S64x512.Slices (![0, 128 * n.val] : Fin 2 → ℕ) S64x128) :
    extractStridedSlice S64x128 ![0, 128 * n.val] A h = headOf A n := by
  funext (y : S64x128.Idx)
  unfold extractStridedSlice headOf
  congr 1
  funext a
  fin_cases a
  · exact Fin.ext (Nat.zero_add _)
  · rfl

/-- Four blocks of 128 columns side by side. -/
def tile {α : Type} (w : Fin 4 → S64x128.Idx → α) : S64x512.Idx → α := fun y =>
  w ⟨(y 1).val / 128, by have : (y 1).val < 512 := (y 1).isLt; omega⟩ (ix2 (y 0) ⟨(y 1).val % 128, Nat.mod_lt _ (by decide)⟩)

theorem put_tile {α : Type} (X : S64x512.Idx → α) (w : Fin 4 → S64x128.Idx → α) :
    VecWindow.put (s := S64x512) (VecWindow.put (s := S64x512) (VecWindow.put (s := S64x512) (VecWindow.put (s := S64x512) X ![0, 0] S64x128.size (w 0)) ![0, 128] S64x128.size (w 1)) ![0, 256] S64x128.size (w 2)) ![0, 384] S64x128.size (w 3)
      = tile w := by
  funext (y : S64x512.Idx)
  have h0 : (y 0).val < 64 := (y 0).isLt
  have h1 : (y 1).val < 512 := (y 1).isLt
  have hin : ∀ n : ℕ, 128 * n ≤ (y 1).val → (y 1).val < 128 * n + 128 → ∀ a : Fin 2, (![0, 128 * n] : Fin 2 → ℕ) a ≤ (y a).val ∧ (y a).val < (![0, 128 * n] : Fin 2 → ℕ) a + S64x128.size a := by
    intro n hl hu a; fin_cases a
    · exact ⟨Nat.zero_le _, by show (y 0).val < 0 + 64; omega⟩
    · exact ⟨hl, hu⟩
  have hout : ∀ n : ℕ, (y 1).val < 128 * n → ¬ ∀ a : Fin 2, (![0, 128 * n] : Fin 2 → ℕ) a ≤ (y a).val ∧ (y a).val < (![0, 128 * n] : Fin 2 → ℕ) a + S64x128.size a := by
    intro n hl h
    have : 128 * n ≤ (y 1).val := (h 1).1
    omega
  have hval : ∀ (n : Fin 4) (z : S64x128.Idx), (y 1).val / 128 = n.val → (z 0).val = (y 0).val → (z 1).val = (y 1).val - 128 * n.val → w n z = tile w y := by
    intro n z hn hz0 hz1
    unfold tile
    have e1 : (⟨(y 1).val / 128, by omega⟩ : Fin 4) = n := Fin.ext hn
    rw [e1]
    congr 1
    funext a
    fin_cases a
    · exact Fin.ext hz0
    · refine Fin.ext (hz1.trans ?_)
      show (y 1).val - 128 * n.val = (y 1).val % 128
      omega
  by_cases c3 : 384 ≤ (y 1).val
  · exact (put_in (s := S64x512) _ _ _ _ y (hin 3 (by omega) (by omega))).trans (hval 3 _ (by show (y 1).val / 128 = 3; omega) rfl rfl)
  refine (put_out (s := S64x512) _ _ _ _ y (hout 3 (by omega))).trans ?_
  by_cases c2 : 256 ≤ (y 1).val
  · exact (put_in (s := S64x512) _ _ _ _ y (hin 2 (by omega) (by omega))).trans (hval 2 _ (by show (y 1).val / 128 = 2; omega) rfl rfl)
  refine (put_out (s := S64x512) _ _ _ _ y (hout 2 (by omega))).trans ?_
  by_cases c1 : 128 ≤ (y 1).val
  · exact (put_in (s := S64x512) _ _ _ _ y (hin 1 (by omega) (by omega))).trans (hval 1 _ (by show (y 1).val / 128 = 1; omega) rfl rfl)
  refine (put_out (s := S64x512) _ _ _ _ y (hout 1 (by omega))).trans ?_
  exact (put_in (s := S64x512) _ _ _ _ y (hin 0 (by omega) (by omega))).trans (hval 0 _ (by show (y 1).val / 128 = 0; omega) rfl rfl)

/-- The entry of the scales that head `n` of point `i` takes, the points counted from `b`. -/
def sc (x : Vec F S8 .f32) (b : ℕ) (i : grid0.Coords) (n : Fin 4) : Elt F .f32 :=
  x (ix1 ⟨(4 * ((i 0).val - b) + n.val) % 8, Nat.mod_lt _ (by decide)⟩)

theorem cond3_lt (i : grid0.Coords) (h : k0_cond3 i = 1#1) : 8 ≤ (i 0).val ∧ (i 0).val < 10 := by
  have hi : (i 0).val < 12 := (i 0).isLt
  unfold k0_cond3 at h
  generalize (i 0).val = k at h hi
  interval_cases k <;> first | (exfalso; revert h; decide) | exact ⟨by decide, by decide⟩

theorem cond4_lt (i : grid0.Coords) (h : k0_cond4 i = 1#1) : 10 ≤ (i 0).val ∧ (i 0).val < 12 := by
  have hi : (i 0).val < 12 := (i 0).isLt
  unfold k0_cond4 at h
  generalize (i 0).val = k at h hi
  interval_cases k <;> first | (exfalso; revert h; decide) | exact ⟨by decide, by decide⟩

theorem off9_val (i : grid0.Coords) (h : k0_cond3 i = 1#1) (n : Fin 4) : k0_off9 i (BitVec.ofNat 32 n.val) 0 = (4 * ((i 0).val - 8) + n.val) % 8 := by
  obtain ⟨h1, h2⟩ := cond3_lt i h
  unfold k0_off9
  generalize (i 0).val = k at h1 h2
  interval_cases k <;> fin_cases n <;> decide

theorem off10_val (i : grid0.Coords) (h : k0_cond4 i = 1#1) (n : Fin 4) : k0_off10 i (BitVec.ofNat 32 n.val) 0 = (4 * ((i 0).val - 10) + n.val) % 8 := by
  obtain ⟨h1, h2⟩ := cond4_lt i h
  unfold k0_off10
  generalize (i 0).val = k at h1 h2
  interval_cases k <;> fin_cases n <;> decide

/-- A load of one scale reads the entry at its offset. -/
theorem sc_eq (m : Memref sig .tc .smem S8 .f32) (f : BufTy.Contents (Elt F) m.view.ty) (off : Fin 1 → ℕ) (hb : ∀ a, off a + S1.size a ≤ S8.size a) (b : ℕ) (i : grid0.Coords) (n : Fin 4)
    (h : off 0 = (4 * ((i 0).val - b) + n.val) % 8) (y : S1.Idx) :
    m.view.readAt (Elt F) (Rect.unit (s := S8) off S1.size hb).toLoadRect f y = sc (m.view.read (Elt F) f) b i n := by
  unfold sc
  refine congrArg (m.view.read (Elt F) f) (funext fun a => ?_)
  have ha : a = 0 := Subsingleton.elim _ _
  subst ha
  have hy : (y 0).val < 1 := (y 0).isLt
  refine Fin.ext ?_
  show off 0 + 1 * (y 0).val = (4 * ((i 0).val - b) + n.val) % 8
  omega

/-- A block of the first result: the four heads turned. -/
def qblk (A : FVec F S64x512 .f32) (x7 x8 : Vec F S64x128 .f32) : Vec F S64x512 .bf16 :=
  tile fun n => k0_pay6 (headOf A n) x7 x8

/-- A block of the second result: the codes of the four heads turned. -/
def kblk (i : grid0.Coords) (A : FVec F S64x512 .f32) (x7 x8 : Vec F S64x128 .f32) (x9 : Vec F S8 .f32) : Vec F S64x512 .fp8e4m3 :=
  tile fun n => k0_pay10 (headOf A n) x7 x8 (sc x9 8 i n)

/-- A block of the third result: the codes of the four heads. -/
def vblk (i : grid0.Coords) (A : FVec F S64x512 .f32) (x10 : Vec F S8 .f32) : Vec F S64x512 .fp8e4m3 :=
  tile fun n => k0_pay15 (headOf A n) (sc x10 10 i n)

set_option maxHeartbeats 1000000 in
/-- The body at a point that stores to the first result. -/
theorem run_q (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole)
    (h2 : k0_cond2 i = 1#1) (h3 : ¬ k0_cond3 i = 1#1) (h4 : ¬ k0_cond4 i = 1#1) (x1 : Vec F S60 .i32) (hn : Named x1) (E : Tab F)
    (x3 : Vec F S64x1 .f32) (x4 : Vec F S64x4096 .bf16) (x5 x6 : Vec F S1x4096 .f32) (x7 : Vec F S64x128 .f32) (x8 : Vec F S64x128 .f32) (x11 : Vec F S4096x512 .i8) (x12 : Vec F S64x512 .bf16) (x13 : Vec F S64x512 .i8) (x17 : Vec F S64x8192 .bf16)
    (Y : Vec F S64x512 .bf16) (K : PUnit → sProp 𝕄) :
    (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg12 fullShare x12 ∗ owns (c : Thread nD τ) arg13 fullShare x13
        ∗ owns (c : Thread nD τ) arg14 fullShare Y ∗ owns (c : Thread nD τ) (Memref.whole cc0_scratch0) fullShare x17 ∗ Side c E
        ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg12 fullShare x12 ∗ owns (c : Thread nD τ) arg13 fullShare x13 ∗ owns (c : Thread nD τ) arg14 fullShare (qblk (mm (actsAt i x1 hn E x3 x4 x5 x6 x17) x11 x12 x13) x7 x8)
            ∗ owns (c : Thread nD τ) (Memref.whole cc0_scratch0) fullShare (actsAt i x1 hn E x3 x4 x5 x6 x17) ∗ Side c E) -∗ K ⟨⟩)) : sProp 𝕄)
      ⊢ wp frame (wpE (defs₀ (F := F)) Variants.none c none) Set.univ (cc0_qkv (F := F) i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3) K := by
  rw [cc0_qkv_eq_skeleton]
  unfold cc0_qkv_skel
  simp only [k0_part41_eq_skeleton, k0_part2_eq_skeleton, k0_part3_eq_skeleton, k0_part4_eq_skeleton, k0_part5_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  unfold k0_part41_skel
  rw [wp_bind, wp_bind]
  iintro ⟨H1, H3, H4, H5, H6, H7, H8, H11, H12, H13, HY, H17, HS, Hk⟩
  iapply (part6_run c i arg1 harg1 arg3 harg3 arg4 harg4 arg5 harg5 arg6 harg6 arg7 harg7 arg8 harg8 arg9 harg9 arg10 harg10 arg11 harg11 arg12 harg12 arg13 harg13 arg14 harg14 arg15 harg15 arg16 harg16 x1 hn E x3 x4 x5 x6 x11 x12 x13 x17)
  isplitl [H1]; · iexact H1
  isplitl [H3]; · iexact H3
  isplitl [H4]; · iexact H4
  isplitl [H5]; · iexact H5
  isplitl [H6]; · iexact H6
  isplitl [H11]; · iexact H11
  isplitl [H12]; · iexact H12
  isplitl [H13]; · iexact H13
  isplitl [H17]; · iexact H17
  isplitl [HS]; · iexact HS
  iintro %r ⟨%hr, H1, H3, H4, H5, H6, H11, H12, H13, H17, HS⟩
  subst hr
  generalize actsAt i x1 hn E x3 x4 x5 x6 x17 = X
  unfold owns
  icases H11 with ⟨%f11, %hf11, H11⟩
  icases H12 with ⟨%f12, %hf12, H12⟩
  icases H13 with ⟨%f13, %hf13, H13⟩
  icases H17 with ⟨%f17, %hf17, H17⟩
  icases HY with ⟨%fY, %hfY, HY⟩
  icases H7 with ⟨%f7, %hf7, H7⟩
  icases H8 with ⟨%f8, %hf8, H8⟩
  subst hf11 hf12 hf13 hf17 hfY hf7 hf8
  sl_exec (disch := first | sl_exact h2 | sl_exact h3 | sl_exact h4)
  sl_step
  have a0 : run_q.sl.r_80 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 0 := by
    unfold run_q.sl.r_80 k0_pay106
    refine (congrArg (fun A : FVec F S64x512 .f32 => extractStridedSlice (s := S64x512) S64x128 ![0, 0] A slices_S64x512_o0_0_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 0 _)
    rfl
  have a1 : run_q.sl.r_81 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 1 := by
    unfold run_q.sl.r_81 k0_pay107
    refine (congrArg (fun A : FVec F S64x512 .f32 => extractStridedSlice (s := S64x512) S64x128 ![0, 128] A slices_S64x512_o0_128_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 1 _)
    rfl
  have a2 : run_q.sl.r_82 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 2 := by
    unfold run_q.sl.r_82 k0_pay108
    refine (congrArg (fun A : FVec F S64x512 .f32 => extractStridedSlice (s := S64x512) S64x128 ![0, 256] A slices_S64x512_o0_256_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 2 _)
    rfl
  have a3 : run_q.sl.r_83 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 3 := by
    unfold run_q.sl.r_83 k0_pay109
    refine (congrArg (fun A : FVec F S64x512 .f32 => extractStridedSlice (s := S64x512) S64x128 ![0, 384] A slices_S64x512_o0_384_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 3 _)
    rfl
  have e7 : arg7.view.readAt (Elt F) (Rect.unit (s := S64x128) ![0, 0] S64x128.size inb_S64x128_S64x128_0_0).toLoadRect f7 = arg7.view.read (Elt F) f7 := View.readAt_full _ _ _
  have e8 : arg8.view.readAt (Elt F) (Rect.unit (s := S64x128) ![0, 0] S64x128.size inb_S64x128_S64x128_0_0).toLoadRect f8 = arg8.view.read (Elt F) f8 := View.readAt_full _ _ _
  have b3 : run_q.sl.r_84 c arg7 arg8 arg11 arg12 arg13 f11 f12 f13 f17 f7 f8 = k0_pay9 (run_q.sl.r_83 c arg11 arg12 arg13 f11 f12 f13 f17) (arg7.view.read (Elt F) f7) (arg8.view.read (Elt F) f8) := by
    rw [← e7, ← e8]; rfl
  iapply Hk
  isplitl [H1]; · iexact H1
  isplitl [H3]; · iexact H3
  isplitl [H4]; · iexact H4
  isplitl [H5]; · iexact H5
  isplitl [H6]; · iexact H6
  isplitl [H7]
  · iexists f7; isplitr; · ipureintro; rfl
    iexact H7
  isplitl [H8]
  · iexists f8; isplitr; · ipureintro; rfl
    iexact H8
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [HY]
  · iexists _; isplitr; swap; · iexact HY
    ipureintro
    rw [View.read_writes_cons_put _ _ _ _ _ rfl, View.read_writes_cons_put _ _ _ _ _ rfl, View.read_writes_cons_put _ _ _ _ _ rfl, View.read_writes_cons_put _ _ _ _ _ rfl]
    rw [b3, a0, a1, a2, a3, e7, e8]
    exact put_tile _ (fun n => k0_pay6 (headOf (mm ((Memref.whole cc0_scratch0 : Memref sig .tc .vmem S64x8192 .bf16).view.read (Elt F) f17) (arg11.view.read (Elt F) f11) (arg12.view.read (Elt F) f12) (arg13.view.read (Elt F) f13)) n) (arg7.view.read (Elt F) f7) (arg8.view.read (Elt F) f8))
  isplitl [H17]
  · iexists f17; isplitr; · ipureintro; rfl
    iexact H17
  iexact HS

set_option maxHeartbeats 1000000 in
/-- The body at a point that stores to the second result. -/
theorem run_k (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole)
    (h2 : ¬ k0_cond2 i = 1#1) (h3 : k0_cond3 i = 1#1) (h4 : ¬ k0_cond4 i = 1#1) (x1 : Vec F S60 .i32) (hn : Named x1) (E : Tab F)
    (x3 : Vec F S64x1 .f32) (x4 : Vec F S64x4096 .bf16) (x5 x6 : Vec F S1x4096 .f32) (x7 : Vec F S64x128 .f32) (x8 : Vec F S64x128 .f32) (x9 : Vec F S8 .f32) (x11 : Vec F S4096x512 .i8) (x12 : Vec F S64x512 .bf16) (x13 : Vec F S64x512 .i8) (x17 : Vec F S64x8192 .bf16)
    (Y : Vec F S64x512 .fp8e4m3) (K : PUnit → sProp 𝕄) :
    (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg13 fullShare x13
        ∗ owns (c : Thread nD τ) arg15 fullShare Y ∗ owns (c : Thread nD τ) (Memref.whole cc0_scratch0) fullShare x17 ∗ Side c E
        ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg13 fullShare x13 ∗ owns (c : Thread nD τ) arg15 fullShare (kblk i (mm (actsAt i x1 hn E x3 x4 x5 x6 x17) x11 x12 x13) x7 x8 x9)
            ∗ owns (c : Thread nD τ) (Memref.whole cc0_scratch0) fullShare (actsAt i x1 hn E x3 x4 x5 x6 x17) ∗ Side c E) -∗ K ⟨⟩)) : sProp 𝕄)
      ⊢ wp frame (wpE (defs₀ (F := F)) Variants.none c none) Set.univ (cc0_qkv (F := F) i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3) K := by
  rw [cc0_qkv_eq_skeleton]
  unfold cc0_qkv_skel
  simp only [k0_part41_eq_skeleton, k0_part2_eq_skeleton, k0_part3_eq_skeleton, k0_part4_eq_skeleton, k0_part5_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  unfold k0_part41_skel
  rw [wp_bind, wp_bind]
  iintro ⟨H1, H3, H4, H5, H6, H7, H8, H9, H11, H12, H13, HY, H17, HS, Hk⟩
  iapply (part6_run c i arg1 harg1 arg3 harg3 arg4 harg4 arg5 harg5 arg6 harg6 arg7 harg7 arg8 harg8 arg9 harg9 arg10 harg10 arg11 harg11 arg12 harg12 arg13 harg13 arg14 harg14 arg15 harg15 arg16 harg16 x1 hn E x3 x4 x5 x6 x11 x12 x13 x17)
  isplitl [H1]; · iexact H1
  isplitl [H3]; · iexact H3
  isplitl [H4]; · iexact H4
  isplitl [H5]; · iexact H5
  isplitl [H6]; · iexact H6
  isplitl [H11]; · iexact H11
  isplitl [H12]; · iexact H12
  isplitl [H13]; · iexact H13
  isplitl [H17]; · iexact H17
  isplitl [HS]; · iexact HS
  iintro %r ⟨%hr, H1, H3, H4, H5, H6, H11, H12, H13, H17, HS⟩
  subst hr
  generalize actsAt i x1 hn E x3 x4 x5 x6 x17 = X
  unfold owns
  icases H11 with ⟨%f11, %hf11, H11⟩
  icases H12 with ⟨%f12, %hf12, H12⟩
  icases H13 with ⟨%f13, %hf13, H13⟩
  icases H17 with ⟨%f17, %hf17, H17⟩
  icases HY with ⟨%fY, %hfY, HY⟩
  icases H7 with ⟨%f7, %hf7, H7⟩
  icases H8 with ⟨%f8, %hf8, H8⟩
  icases H9 with ⟨%f9, %hf9, H9⟩
  subst hf11 hf12 hf13 hf17 hfY hf7 hf8 hf9
  sl_exec (disch := first | sl_exact h2 | sl_exact h3 | sl_exact h4)
  sl_step
  have a0 : run_k.sl.r_80 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 0 := by
    unfold run_k.sl.r_80 k0_pay106
    refine (congrArg (fun A : FVec F S64x512 .f32 => extractStridedSlice (s := S64x512) S64x128 ![0, 0] A slices_S64x512_o0_0_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 0 _)
    rfl
  have a1 : run_k.sl.r_81 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 1 := by
    unfold run_k.sl.r_81 k0_pay107
    refine (congrArg (fun A : FVec F S64x512 .f32 => extractStridedSlice (s := S64x512) S64x128 ![0, 128] A slices_S64x512_o0_128_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 1 _)
    rfl
  have a2 : run_k.sl.r_82 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 2 := by
    unfold run_k.sl.r_82 k0_pay108
    refine (congrArg (fun A : FVec F S64x512 .f32 => extractStridedSlice (s := S64x512) S64x128 ![0, 256] A slices_S64x512_o0_256_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 2 _)
    rfl
  have a3 : run_k.sl.r_83 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 3 := by
    unfold run_k.sl.r_83 k0_pay109
    refine (congrArg (fun A : FVec F S64x512 .f32 => extractStridedSlice (s := S64x512) S64x128 ![0, 384] A slices_S64x512_o0_384_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 3 _)
    rfl
  have e7 : arg7.view.readAt (Elt F) (Rect.unit (s := S64x128) ![0, 0] S64x128.size inb_S64x128_S64x128_0_0).toLoadRect f7 = arg7.view.read (Elt F) f7 := View.readAt_full _ _ _
  have e8 : arg8.view.readAt (Elt F) (Rect.unit (s := S64x128) ![0, 0] S64x128.size inb_S64x128_S64x128_0_0).toLoadRect f8 = arg8.view.read (Elt F) f8 := View.readAt_full _ _ _
  have s0 : run_k.sl.r_84 c i arg9 h3 f9 = sc (arg9.view.read (Elt F) f9) 8 i 0 := sc_eq arg9 f9 _ _ 8 i 0 (off9_val i h3 0) _
  have s1 : run_k.sl.r_85 c i arg9 h3 f9 = sc (arg9.view.read (Elt F) f9) 8 i 1 := sc_eq arg9 f9 _ _ 8 i 1 (off9_val i h3 1) _
  have s2 : run_k.sl.r_87 c i arg9 h3 f9 = sc (arg9.view.read (Elt F) f9) 8 i 2 := sc_eq arg9 f9 _ _ 8 i 2 (off9_val i h3 2) _
  have s3 : run_k.sl.r_88 c i arg9 h3 f9 = sc (arg9.view.read (Elt F) f9) 8 i 3 := sc_eq arg9 f9 _ _ 8 i 3 (off9_val i h3 3) _
  have b1 : run_k.sl.r_86 c i arg7 arg8 arg9 arg11 arg12 arg13 h3 f11 f12 f13 f17 f7 f8 f9 = k0_pay11 (run_k.sl.r_81 c arg11 arg12 arg13 f11 f12 f13 f17) (arg7.view.read (Elt F) f7) (arg8.view.read (Elt F) f8) (run_k.sl.r_85 c i arg9 h3 f9) := by
    rw [← e7, ← e8]; rfl
  have b3 : run_k.sl.r_89 c i arg7 arg8 arg9 arg11 arg12 arg13 h3 f11 f12 f13 f17 f7 f8 f9 = k0_pay13 (run_k.sl.r_83 c arg11 arg12 arg13 f11 f12 f13 f17) (arg7.view.read (Elt F) f7) (arg8.view.read (Elt F) f8) (run_k.sl.r_88 c i arg9 h3 f9) := by
    rw [← e7, ← e8]; rfl
  iapply Hk
  isplitl [H1]; · iexact H1
  isplitl [H3]; · iexact H3
  isplitl [H4]; · iexact H4
  isplitl [H5]; · iexact H5
  isplitl [H6]; · iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [HY]
  · iexists _; isplitr; swap; · iexact HY
    ipureintro
    rw [View.read_writes_cons_put _ _ _ _ _ rfl, View.read_writes_cons_put _ _ _ _ _ rfl, View.read_writes_cons_put _ _ _ _ _ rfl, View.read_writes_cons_put _ _ _ _ _ rfl]
    rw [b1, b3, a0, a1, a2, a3, s0, s1, s2, s3, e7, e8]
    exact put_tile _ (fun n => k0_pay10 (headOf (mm ((Memref.whole cc0_scratch0 : Memref sig .tc .vmem S64x8192 .bf16).view.read (Elt F) f17) (arg11.view.read (Elt F) f11) (arg12.view.read (Elt F) f12) (arg13.view.read (Elt F) f13)) n) (arg7.view.read (Elt F) f7) (arg8.view.read (Elt F) f8) (sc (arg9.view.read (Elt F) f9) 8 i n))
  isplitl [H17]
  · iexists f17; isplitr; · ipureintro; rfl
    iexact H17
  iexact HS

set_option maxHeartbeats 1000000 in
/-- The body at a point that stores to the third result. -/
theorem run_v (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole)
    (h2 : ¬ k0_cond2 i = 1#1) (h3 : ¬ k0_cond3 i = 1#1) (h4 : k0_cond4 i = 1#1) (x1 : Vec F S60 .i32) (hn : Named x1) (E : Tab F)
    (x3 : Vec F S64x1 .f32) (x4 : Vec F S64x4096 .bf16) (x5 x6 : Vec F S1x4096 .f32) (x10 : Vec F S8 .f32) (x11 : Vec F S4096x512 .i8) (x12 : Vec F S64x512 .bf16) (x13 : Vec F S64x512 .i8) (x17 : Vec F S64x8192 .bf16)
    (Y : Vec F S64x512 .fp8e4m3) (K : PUnit → sProp 𝕄) :
    (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg10 fullShare x10 ∗ owns (c : Thread nD τ) arg11 fullShare x11 ∗ owns (c : Thread nD τ) arg12 fullShare x12 ∗ owns (c : Thread nD τ) arg13 fullShare x13
        ∗ owns (c : Thread nD τ) arg16 fullShare Y ∗ owns (c : Thread nD τ) (Memref.whole cc0_scratch0) fullShare x17 ∗ Side c E
        ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg16 fullShare (vblk i (mm (actsAt i x1 hn E x3 x4 x5 x6 x17) x11 x12 x13) x10)
            ∗ owns (c : Thread nD τ) (Memref.whole cc0_scratch0) fullShare (actsAt i x1 hn E x3 x4 x5 x6 x17) ∗ Side c E) -∗ K ⟨⟩)) : sProp 𝕄)
      ⊢ wp frame (wpE (defs₀ (F := F)) Variants.none c none) Set.univ (cc0_qkv (F := F) i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3) K := by
  rw [cc0_qkv_eq_skeleton]
  unfold cc0_qkv_skel
  simp only [k0_part41_eq_skeleton, k0_part2_eq_skeleton, k0_part3_eq_skeleton, k0_part4_eq_skeleton, k0_part5_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  unfold k0_part41_skel
  rw [wp_bind, wp_bind]
  iintro ⟨H1, H3, H4, H5, H6, H10, H11, H12, H13, HY, H17, HS, Hk⟩
  iapply (part6_run c i arg1 harg1 arg3 harg3 arg4 harg4 arg5 harg5 arg6 harg6 arg7 harg7 arg8 harg8 arg9 harg9 arg10 harg10 arg11 harg11 arg12 harg12 arg13 harg13 arg14 harg14 arg15 harg15 arg16 harg16 x1 hn E x3 x4 x5 x6 x11 x12 x13 x17)
  isplitl [H1]; · iexact H1
  isplitl [H3]; · iexact H3
  isplitl [H4]; · iexact H4
  isplitl [H5]; · iexact H5
  isplitl [H6]; · iexact H6
  isplitl [H11]; · iexact H11
  isplitl [H12]; · iexact H12
  isplitl [H13]; · iexact H13
  isplitl [H17]; · iexact H17
  isplitl [HS]; · iexact HS
  iintro %r ⟨%hr, H1, H3, H4, H5, H6, H11, H12, H13, H17, HS⟩
  subst hr
  generalize actsAt i x1 hn E x3 x4 x5 x6 x17 = X
  unfold owns
  icases H11 with ⟨%f11, %hf11, H11⟩
  icases H12 with ⟨%f12, %hf12, H12⟩
  icases H13 with ⟨%f13, %hf13, H13⟩
  icases H17 with ⟨%f17, %hf17, H17⟩
  icases HY with ⟨%fY, %hfY, HY⟩
  icases H10 with ⟨%f10, %hf10, H10⟩
  subst hf11 hf12 hf13 hf17 hfY hf10
  sl_exec (disch := first | sl_exact h2 | sl_exact h3 | sl_exact h4)
  sl_step
  have a0 : run_v.sl.r_80 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 0 := by
    unfold run_v.sl.r_80 k0_pay106
    refine (congrArg (fun A : FVec F S64x512 .f32 => extractStridedSlice (s := S64x512) S64x128 ![0, 0] A slices_S64x512_o0_0_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 0 _)
    rfl
  have a1 : run_v.sl.r_81 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 1 := by
    unfold run_v.sl.r_81 k0_pay107
    refine (congrArg (fun A : FVec F S64x512 .f32 => extractStridedSlice (s := S64x512) S64x128 ![0, 128] A slices_S64x512_o0_128_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 1 _)
    rfl
  have a2 : run_v.sl.r_82 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 2 := by
    unfold run_v.sl.r_82 k0_pay108
    refine (congrArg (fun A : FVec F S64x512 .f32 => extractStridedSlice (s := S64x512) S64x128 ![0, 256] A slices_S64x512_o0_256_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 2 _)
    rfl
  have a3 : run_v.sl.r_83 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 3 := by
    unfold run_v.sl.r_83 k0_pay109
    refine (congrArg (fun A : FVec F S64x512 .f32 => extractStridedSlice (s := S64x512) S64x128 ![0, 384] A slices_S64x512_o0_384_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 3 _)
    rfl
  have s0 : run_v.sl.r_84 c i arg10 h4 f10 = sc (arg10.view.read (Elt F) f10) 10 i 0 := sc_eq arg10 f10 _ _ 10 i 0 (off10_val i h4 0) _
  have s1 : run_v.sl.r_85 c i arg10 h4 f10 = sc (arg10.view.read (Elt F) f10) 10 i 1 := sc_eq arg10 f10 _ _ 10 i 1 (off10_val i h4 1) _
  have s2 : run_v.sl.r_86 c i arg10 h4 f10 = sc (arg10.view.read (Elt F) f10) 10 i 2 := sc_eq arg10 f10 _ _ 10 i 2 (off10_val i h4 2) _
  have s3 : run_v.sl.r_88 c i arg10 h4 f10 = sc (arg10.view.read (Elt F) f10) 10 i 3 := sc_eq arg10 f10 _ _ 10 i 3 (off10_val i h4 3) _
  have b2 : run_v.sl.r_87 c i arg10 arg11 arg12 arg13 h4 f11 f12 f13 f17 f10 = k0_pay17 (run_v.sl.r_82 c arg11 arg12 arg13 f11 f12 f13 f17) (run_v.sl.r_86 c i arg10 h4 f10) := rfl
  iapply Hk
  isplitl [H1]; · iexact H1
  isplitl [H3]; · iexact H3
  isplitl [H4]; · iexact H4
  isplitl [H5]; · iexact H5
  isplitl [H6]; · iexact H6
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [HY]
  · iexists _; isplitr; swap; · iexact HY
    ipureintro
    rw [View.read_writes_cons_put _ _ _ _ _ rfl, View.read_writes_cons_put _ _ _ _ _ rfl, View.read_writes_cons_put _ _ _ _ _ rfl, View.read_writes_cons_put _ _ _ _ _ rfl]
    rw [b2, a0, a1, a2, a3, s0, s1, s2, s3]
    exact put_tile _ (fun n => k0_pay15 (headOf (mm ((Memref.whole cc0_scratch0 : Memref sig .tc .vmem S64x8192 .bf16).view.read (Elt F) f17) (arg11.view.read (Elt F) f11) (arg12.view.read (Elt F) f12) (arg13.view.read (Elt F) f13)) n) (sc (arg10.view.read (Elt F) f10) 10 i n))
  isplitl [H17]
  · iexists f17; isplitr; · ipureintro; rfl
    iexact H17
  iexact HS

end Cert.QkvIdeal.Hand
-- ==== Proof.QkvBody.lean ====
module

public import proofs.«01_k».proof.Proof.QkvRun
public import proofs.«01_k».proof.Proof.Gen.QkvIdeal.Frame
public import Idealize.ShloMosaic.Lib.Pipeline.Frame
public import Idealize.ShloMosaic.Lib.Pipeline.DatRel
public import Idealize.ShloMosaic.Lib.Pipeline.ArrRel
public import Idealize.ShloMosaic.Lib.Claim

@[expose] public section

set_option maxRecDepth 16384

noncomputable section

namespace Cert.QkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel cellOf)
open Cert.QkvIdeal Cert.QkvIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Up to the region, and what an input's buffer holds, at the algebra with transfers -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before0_11_of {c : Dev nD} (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

/-- Every token of the launch names a row of the embedding. -/
def Ok : Prop := ∀ (c : Dev nD) (t : Fin cfg0.N), Named (iblk m c 0 t)

variable (hn : Ok m)

/-- The first point. -/
abbrev t0 : Fin cfg0.N := ⟨0, by decide⟩

/-- The embedding's rows as the region finds them. -/
abbrev tabOf (c : Dev nD) : Tab F := V m c main_arg1

/-- The activations do not depend on what the buffer held: the two halves cover it. -/
theorem acts_any (x1 : S60.Idx → BitVec 32) (h : Named x1) (E : Tab F) (x3 : Vec F S64x1 .f32) (x4 : Vec F S64x4096 .bf16) (x5 x6 : Vec F S1x4096 .f32)
    (X X' : Vec F S64x8192 .bf16) : acts x1 h E x3 x4 x5 x6 X = acts x1 h E x3 x4 x5 x6 X' := by
  funext y
  unfold acts VecWindow.put
  have hy0 : (y 0).val < 64 := (y 0).isLt
  have hy1 : (y 1).val < 8192 := (y 1).isLt
  split_ifs with h1 h0
  · rfl
  · rfl
  · exfalso
    by_cases hc : (y 1).val < 4096
    · apply h0
      intro a; fin_cases a
      · exact ⟨Nat.zero_le _, by show (y 0).val < 0 + 64; omega⟩
      · exact ⟨Nat.zero_le _, by show (y 1).val < 0 + 4096; omega⟩
    · apply h1
      intro a; fin_cases a
      · exact ⟨Nat.zero_le _, by show (y 0).val < 0 + 64; omega⟩
      · exact ⟨by show 4096 ≤ (y 1).val; omega, by show (y 1).val < 4096 + 4096; omega⟩

/-- The activations that the first point builds. -/
def actX (c : Dev nD) : Vec F S64x8192 .bf16 :=
  acts (iblk m c 0 t0) (hn c t0) (tabOf m c) (iblk m c 1 t0) (iblk m c 2 t0) (iblk m c 3 t0) (iblk m c 4 t0) (fun _ => FloatOps.ofBits .bf16 0)

/-- The product's block at a point. -/
def prodAt (c : Dev nD) (t : Fin cfg0.N) : FVec F S64x512 .f32 := mm (actX m hn c) (iblk m c 9 t) (iblk m c 10 t) (iblk m c 11 t)

def qAt (c : Dev nD) (t : Fin cfg0.N) : Vec F S64x512 .bf16 := qblk (prodAt m hn c t) (iblk m c 5 t) (iblk m c 6 t)
def kAt (c : Dev nD) (t : Fin cfg0.N) : Vec F S64x512 .fp8e4m3 := kblk (grid0.coords t) (prodAt m hn c t) (iblk m c 5 t) (iblk m c 6 t) (iblk m c 7 t)
def vAt (c : Dev nD) (t : Fin cfg0.N) : Vec F S64x512 .fp8e4m3 := vblk (grid0.coords t) (prodAt m hn c t) (iblk m c 8 t)

theorem coords_val (t : Fin cfg0.N) : (grid0.coords t 0).val = t.val := by
  have ht : t.val < 12 := Nat.lt_of_lt_of_eq t.isLt N_0
  have e : (grid0.coords t 0).val = t.val / 1 % 12 := Pipeline.Grid.coords_val t 0 (by decide) rfl
  omega

theorem cond1_iff (t : Fin cfg0.N) : k0_cond1 (grid0.coords t) = 1#1 ↔ t.val = 0 :=
  (by decide +kernel : ∀ t : Fin grid0.N, k0_cond1 (grid0.coords t) = 1#1 ↔ t.val = 0) t

theorem cond2_iff (t : Fin cfg0.N) : k0_cond2 (grid0.coords t) = 1#1 ↔ t.val < 8 :=
  (by decide +kernel : ∀ t : Fin grid0.N, k0_cond2 (grid0.coords t) = 1#1 ↔ t.val < 8) t

theorem cond3_iff (t : Fin cfg0.N) : k0_cond3 (grid0.coords t) = 1#1 ↔ 8 ≤ t.val ∧ t.val < 10 :=
  (by decide +kernel : ∀ t : Fin grid0.N, k0_cond3 (grid0.coords t) = 1#1 ↔ 8 ≤ t.val ∧ t.val < 10) t

theorem cond4_iff (t : Fin cfg0.N) : k0_cond4 (grid0.coords t) = 1#1 ↔ 10 ≤ t.val :=
  (by decide +kernel : ∀ t : Fin grid0.N, k0_cond4 (grid0.coords t) = 1#1 ↔ 10 ≤ t.val) t

theorem flush_12 (t : Fin cfg0.N) : (cfg0.win 12).flush t = true → t.val < 7 ∨ t.val = 11 :=
  (by decide +kernel : ∀ t : Fin cfg0.N, (cfg0.win 12).flush t = true → t.val < 7 ∨ t.val = 11) t
theorem flush_13 (t : Fin cfg0.N) : (cfg0.win 13).flush t = true → t.val = 8 ∨ t.val = 11 :=
  (by decide +kernel : ∀ t : Fin cfg0.N, (cfg0.win 13).flush t = true → t.val = 8 ∨ t.val = 11) t
theorem flush_14 (t : Fin cfg0.N) : (cfg0.win 14).flush t = true → t.val = 10 ∨ t.val = 11 :=
  (by decide +kernel : ∀ t : Fin cfg0.N, (cfg0.win 14).flush t = true → t.val = 10 ∨ t.val = 11) t

/-! ## The proof data -/

/-- The three outputs are held to a predicate, point by point. -/
def outs : Fin 15 → Bool := fun w => w.val == 12 || w.val == 13 || w.val == 14

/-- The point whose q block the buffer holds at `t`. -/
def ptQ (t : Fin cfg0.N) : Fin cfg0.N := ⟨min t.val 7, Nat.lt_of_le_of_lt (Nat.min_le_left _ _) t.isLt⟩
/-- The point whose k block the buffer holds at `t`. -/
def ptK (t : Fin cfg0.N) : Fin cfg0.N := ⟨min t.val 9, Nat.lt_of_le_of_lt (Nat.min_le_left _ _) t.isLt⟩

/-- What the body leaves in an output's buffer: the block last stored there. -/
def Rl (c : Dev nD) : (w : Fin cfg0.W) → Fin cfg0.N → ((cfg0.win w).block.Idx → Elt F (cfg0.win w).elt) → Prop
  | ⟨12, _⟩, t, X => X = qAt m hn c (ptQ t)
  | ⟨13, _⟩, t, X => 8 ≤ t.val → X = kAt m hn c (ptK t)
  | ⟨14, _⟩, t, X => 10 ≤ t.val → X = vAt m hn c t
  | _, _, _ => True

/-- The semaphore of the row copies. -/
def osem : Fin 1 → SemLoc sig := fun | 0 => .dma (SemArray.sem cc0_scratch3)
theorem ownSemFacts : Pipeline.OwnSemFacts cfg0.spec osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma (SemArray.sem cc0_scratch3)) 0) := by
  rw [Pipeline.ownSems0_eq_of_list c osem [0] (by decide) (by decide)]; rfl

/-- The embedding is read where it lies. -/
def HR : Finset (Ref sig .tc) := {main_arg1}
theorem HR_sub : HR ⊆ Pipeline.restRefs sig cfg0.spec := by decide
theorem hr_eq (c : Dev nD) :
    (bigSep HR (fun b => ((c : Thread nD τ).loc b) ↦{fullShare} V m c b) : sProp 𝕄) = iprop(((c : Thread nD τ).loc main_arg1) ↦{fullShare} V m c main_arg1) := by
  rw [BI.bigSep_eq_bigSepL_of_eq [main_arg1] (by decide) (by decide)]; rfl

/-- The buffers of the row copies, the embedding, and the semaphore at zero. -/
def SideN (c : Dev nD) (E : Tab F) : sProp 𝕄 :=
  iprop(((Memref.whole main_arg1 : Memref sig .tc .hbm S8000x4096 .i32).view.loc (c : Thread nD τ) ↦{fullShare} E)
    ∗ (∃ f : BufTy.Contents (Elt F) (Memref.whole cc0_scratch1 : Memref sig .tc .vmem S64x4096 .i32).view.ty, (Memref.whole cc0_scratch1 : Memref sig .tc .vmem S64x4096 .i32).view.loc (c : Thread nD τ) ↦{fullShare} f)
    ∗ (∃ f : BufTy.Contents (Elt F) (Memref.whole cc0_scratch2 : Memref sig .tc .vmem S64x4096 .f32).view.ty, (Memref.whole cc0_scratch2 : Memref sig .tc .vmem S64x4096 .f32).view.loc (c : Thread nD τ) ↦[(Memref.whole cc0_scratch2 : Memref sig .tc .vmem S64x4096 .f32).view.set]{fullShare} f)
    ∗ semVal ((c : Thread nD τ), SemLoc.dma (SemArray.sem cc0_scratch3)) 0)

theorem side_eq (c : Dev nD) (E : Tab F) : SideN c E ∗ (∃ W, owes (c : Thread nD τ) 0 W) ⊢ (Side c E : sProp 𝕄) := by
  unfold SideN Side
  iintro ⟨⟨A, B, C, D⟩, O⟩
  isplitl [A]; · iexact A
  isplitl [B]; · iexact B
  isplitl [C]; · iexact C
  isplitl [D]; · iexact D
  iexact O

theorem side_out (c : Dev nD) (E : Tab F) : (Side c E : sProp 𝕄) ⊢ SideN c E ∗ (∃ W, owes (c : Thread nD τ) 0 W) := by
  unfold SideN Side
  iintro ⟨A, B, C, D, O⟩
  isplitr [O]; swap; · iexact O
  isplitl [A]; · iexact A
  isplitl [B]; · iexact B
  isplitl [C]; · iexact C
  iexact D

/-- The scratch operand that holds the activations. -/
abbrev scr : Memref sig .tc .vmem S64x8192 .bf16 := Memref.whole cc0_scratch0

/-- Between points, after the first, the scratch holds the activations. -/
def Track (c : Dev nD) (n : ℕ) : sProp 𝕄 :=
  iprop((∃ d, ⌜n ≠ 0 → d = actX m hn c⌝ ∗ owns (c : Thread nD τ) scr fullShare d) ∗ (∃ r, prngReg c r) ∗ SideN c (tabOf m c))

theorem PhiD_eq (c : Dev nD) :
    (Pipeline.ΦD osem spec0 HR (V m) c : sProp 𝕄)
      = iprop(iprop((∃ d, owns (c : Thread nD τ) scr fullShare d)
          ∗ (∃ f : BufTy.Contents (Elt F) (Memref.whole cc0_scratch1 : Memref sig .tc .vmem S64x4096 .i32).view.ty, (Memref.whole cc0_scratch1 : Memref sig .tc .vmem S64x4096 .i32).view.loc (c : Thread nD τ) ↦{fullShare} f)
          ∗ (∃ f : BufTy.Contents (Elt F) (Memref.whole cc0_scratch2 : Memref sig .tc .vmem S64x4096 .f32).view.ty, (Memref.whole cc0_scratch2 : Memref sig .tc .vmem S64x4096 .f32).view.loc (c : Thread nD τ) ↦[(Memref.whole cc0_scratch2 : Memref sig .tc .vmem S64x4096 .f32).view.set]{fullShare} f))
          ∗ (∃ r, prngReg c r)
          ∗ semVal ((c : Thread nD τ), SemLoc.dma (SemArray.sem cc0_scratch3)) 0
          ∗ ((Memref.whole main_arg1 : Memref sig .tc .hbm S8000x4096 .i32).view.loc (c : Thread nD τ) ↦{fullShare} tabOf m c)) := by
  rw [Pipeline.ΦD_eq, scopedRest0_eq, ownSems_eq, hr_eq]
  simp only [scr, owns_whole]
  rw [show (Memref.whole cc0_scratch2 : Memref sig .tc .vmem S64x4096 .f32).view.set = Finset.univ from View.set_whole _]
  rfl

theorem track_in (c : Dev nD) : Pipeline.ΦD osem spec0 HR (V m) c ⊢ Track m hn c 0 := by
  rw [PhiD_eq]; unfold Track SideN
  iintro ⟨⟨⟨%d, H⟩, B, C⟩, Hg, S, A⟩
  isplitl [H]
  · iexists d; isplitr; swap; · iexact H
    ipureintro; exact fun h => absurd rfl h
  isplitl [Hg]; · iexact Hg
  isplitl [A]; · iexact A
  isplitl [B]; · iexact B
  isplitl [C]; · iexact C
  iexact S

theorem track_out (c : Dev nD) (n : ℕ) : Track m hn c n ⊢ Pipeline.ΦD osem spec0 HR (V m) c := by
  rw [PhiD_eq]; unfold Track SideN
  iintro ⟨⟨%d, %hd, H⟩, Hg, A, B, C, S⟩
  isplitl [H B C]
  · isplitl [H]
    · iexists d; iexact H
    isplitl [B]; · iexact B
    iexact C
  isplitl [Hg]; · iexact Hg
  isplitl [S]; · iexact S
  iexact A

/-- The arrays as the region finds them, each input's buffer at its block, nothing owed. -/
def dat (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Dat.unnamed (cfg := cfg0) ⟨12, h⟩ t
    | ⟨13, h⟩ => Dat.unnamed (cfg := cfg0) ⟨13, h⟩ t
    | ⟨14, h⟩ => Dat.unnamed (cfg := cfg0) ⟨14, h⟩ t
  Φ t := Track m hn c t.val
  q _ := fullShare
  owed _ := 0

theorem dat_A (c : Dev nD) (w : Fin cfg0.W) : (dat m hn c).A w = V m c (Pipeline.arrRef spec0 w) := by dsimp only [dat]

theorem after_0 (c : Dev nD) (t : Fin cfg0.N) : (dat m hn c).after 0 t = iblk m c 0 t := by dsimp only [dat]
theorem after_1 (c : Dev nD) (t : Fin cfg0.N) : (dat m hn c).after 1 t = iblk m c 1 t := by dsimp only [dat]
theorem after_2 (c : Dev nD) (t : Fin cfg0.N) : (dat m hn c).after 2 t = iblk m c 2 t := by dsimp only [dat]
theorem after_3 (c : Dev nD) (t : Fin cfg0.N) : (dat m hn c).after 3 t = iblk m c 3 t := by dsimp only [dat]
theorem after_4 (c : Dev nD) (t : Fin cfg0.N) : (dat m hn c).after 4 t = iblk m c 4 t := by dsimp only [dat]
theorem after_5 (c : Dev nD) (t : Fin cfg0.N) : (dat m hn c).after 5 t = iblk m c 5 t := by dsimp only [dat]
theorem after_6 (c : Dev nD) (t : Fin cfg0.N) : (dat m hn c).after 6 t = iblk m c 6 t := by dsimp only [dat]
theorem after_7 (c : Dev nD) (t : Fin cfg0.N) : (dat m hn c).after 7 t = iblk m c 7 t := by dsimp only [dat]
theorem after_8 (c : Dev nD) (t : Fin cfg0.N) : (dat m hn c).after 8 t = iblk m c 8 t := by dsimp only [dat]
theorem after_9 (c : Dev nD) (t : Fin cfg0.N) : (dat m hn c).after 9 t = iblk m c 9 t := by dsimp only [dat]
theorem after_10 (c : Dev nD) (t : Fin cfg0.N) : (dat m hn c).after 10 t = iblk m c 10 t := by dsimp only [dat]
theorem after_11 (c : Dev nD) (t : Fin cfg0.N) : (dat m hn c).after 11 t = iblk m c 11 t := by dsimp only [dat]
theorem before_0 (c : Dev nD) (t : Fin cfg0.N) (d) : (dat m hn c).before 0 t d = iblk m c 0 t := before0_0_of m (dat m hn c) (dat_A m hn c 0) (after_0 m hn c) t d
theorem before_1 (c : Dev nD) (t : Fin cfg0.N) (d) : (dat m hn c).before 1 t d = iblk m c 1 t := before0_1_of m (dat m hn c) (dat_A m hn c 1) (after_1 m hn c) t d
theorem before_2 (c : Dev nD) (t : Fin cfg0.N) (d) : (dat m hn c).before 2 t d = iblk m c 2 t := before0_2_of m (dat m hn c) (dat_A m hn c 2) (after_2 m hn c) t d
theorem before_3 (c : Dev nD) (t : Fin cfg0.N) (d) : (dat m hn c).before 3 t d = iblk m c 3 t := before0_3_of m (dat m hn c) (dat_A m hn c 3) (after_3 m hn c) t d
theorem before_4 (c : Dev nD) (t : Fin cfg0.N) (d) : (dat m hn c).before 4 t d = iblk m c 4 t := before0_4_of m (dat m hn c) (dat_A m hn c 4) (after_4 m hn c) t d
theorem before_5 (c : Dev nD) (t : Fin cfg0.N) (d) : (dat m hn c).before 5 t d = iblk m c 5 t := before0_5_of m (dat m hn c) (dat_A m hn c 5) (after_5 m hn c) t d
theorem before_6 (c : Dev nD) (t : Fin cfg0.N) (d) : (dat m hn c).before 6 t d = iblk m c 6 t := before0_6_of m (dat m hn c) (dat_A m hn c 6) (after_6 m hn c) t d
theorem before_7 (c : Dev nD) (t : Fin cfg0.N) (d) : (dat m hn c).before 7 t d = iblk m c 7 t := before0_7_of m (dat m hn c) (dat_A m hn c 7) (after_7 m hn c) t d
theorem before_8 (c : Dev nD) (t : Fin cfg0.N) (d) : (dat m hn c).before 8 t d = iblk m c 8 t := before0_8_of m (dat m hn c) (dat_A m hn c 8) (after_8 m hn c) t d
theorem before_9 (c : Dev nD) (t : Fin cfg0.N) (d) : (dat m hn c).before 9 t d = iblk m c 9 t := before0_9_of m (dat m hn c) (dat_A m hn c 9) (after_9 m hn c) t d
theorem before_10 (c : Dev nD) (t : Fin cfg0.N) (d) : (dat m hn c).before 10 t d = iblk m c 10 t := before0_10_of m (dat m hn c) (dat_A m hn c 10) (after_10 m hn c) t d
theorem before_11 (c : Dev nD) (t : Fin cfg0.N) (d) : (dat m hn c).before 11 t d = iblk m c 11 t := before0_11_of m (dat m hn c) (dat_A m hn c 11) (after_11 m hn c) t d

/-- The same data, the outputs held to the predicate. -/
def rdat (c : Dev nD) : Pipeline.RDat τ (Elt F) Unit ℕ (Pipeline.UD sig nD τ) ℕ cfg0 c := (dat m hn c).toRRel outs (Rl m hn c)

theorem leaves_12 (c : Dev nD) (t : Fin cfg0.N) (X) : (rdat m hn c).Leaves 12 t X → X = qAt m hn c (ptQ t) :=
  fun h => (dat m hn c).toRRel_leaves (fgt := outs) (Rl := Rl m hn c) (w := 12) rfl h
theorem leaves_13 (c : Dev nD) (t : Fin cfg0.N) (X) : (rdat m hn c).Leaves 13 t X → 8 ≤ t.val → X = kAt m hn c (ptK t) :=
  fun h => (dat m hn c).toRRel_leaves (fgt := outs) (Rl := Rl m hn c) (w := 13) rfl h
theorem leaves_14 (c : Dev nD) (t : Fin cfg0.N) (X) : (rdat m hn c).Leaves 14 t X → 10 ≤ t.val → X = vAt m hn c t :=
  fun h => (dat m hn c).toRRel_leaves (fgt := outs) (Rl := Rl m hn c) (w := 14) rfl h

/-- From the ninth point on, the q buffer is found at the eighth point's block. -/
theorem finds_12 (c : Dev nD) (t : Fin cfg0.N) (X) (h : (rdat m hn c).Finds 12 t X) (h8 : 8 ≤ t.val) : X = qAt m hn c (ptQ t) := by
  have ht : t.val < 12 := Nat.lt_of_lt_of_eq t.isLt N_0
  rw [(rdat m hn c).finds_of_pos (w := 12) rfl (by omega)] at h
  rcases h with h | h
  · have := flush_12 _ h
    dsimp only at this
    omega
  · have := leaves_12 m hn c _ X h
    rw [this]
    congr 1
    exact Fin.ext (by show min (t.val - 1) 7 = min t.val 7; omega)

/-- At the last two points, the k buffer is found at the tenth point's block. -/
theorem finds_13 (c : Dev nD) (t : Fin cfg0.N) (X) (h : (rdat m hn c).Finds 13 t X) (h8 : 10 ≤ t.val) : X = kAt m hn c (ptK t) := by
  have ht : t.val < 12 := Nat.lt_of_lt_of_eq t.isLt N_0
  rw [(rdat m hn c).finds_of_pos (w := 13) rfl (by omega)] at h
  rcases h with h | h
  · have := flush_13 _ h
    dsimp only at this
    omega
  · have := leaves_13 m hn c _ X h (by dsimp only; omega)
    rw [this]
    congr 1
    exact Fin.ext (by show min (t.val - 1) 9 = min t.val 9; omega)

/-- What the scratch holds after a point. -/
theorem acts_at (c : Dev nD) (t : Fin cfg0.N) (d : Vec F S64x8192 .bf16) (hd : t.val ≠ 0 → d = actX m hn c) :
    actsAt (grid0.coords t) (iblk m c 0 t) (hn c t) (tabOf m c) (iblk m c 1 t) (iblk m c 2 t) (iblk m c 3 t) (iblk m c 4 t) d = actX m hn c := by
  by_cases h : t.val = 0
  · obtain rfl : t = t0 := Fin.ext h
    unfold actsAt
    rw [if_pos ((cond1_iff t0).mpr rfl)]
    exact acts_any _ _ _ _ _ _ _ _ _
  · unfold actsAt
    rw [if_neg (fun hc => h ((cond1_iff t).mp hc))]
    exact hd h

/-! ## The body obligation -/

def bodyPre (c : Dev nD) (t : Fin cfg0.N) : sProp 𝕄 :=
  iprop((dat m hn c).Φ t.castSucc ∗ (dat m hn c).owesAt () t.castSucc
    ∗ (∃ d, owns (c : Thread nD τ) (st0_0 t) fullShare ((dat m hn c).before 0 t d))
    ∗ (∃ d, owns (c : Thread nD τ) (st0_1 t) fullShare ((dat m hn c).before 1 t d))
    ∗ (∃ d, owns (c : Thread nD τ) (st0_2 t) fullShare ((dat m hn c).before 2 t d))
    ∗ (∃ d, owns (c : Thread nD τ) (st0_3 t) fullShare ((dat m hn c).before 3 t d))
    ∗ (∃ d, owns (c : Thread nD τ) (st0_4 t) fullShare ((dat m hn c).before 4 t d))
    ∗ (∃ d, owns (c : Thread nD τ) (st0_5 t) fullShare ((dat m hn c).before 5 t d))
    ∗ (∃ d, owns (c : Thread nD τ) (st0_6 t) fullShare ((dat m hn c).before 6 t d))
    ∗ (∃ d, owns (c : Thread nD τ) (st0_7 t) fullShare ((dat m hn c).before 7 t d))
    ∗ (∃ d, owns (c : Thread nD τ) (st0_8 t) fullShare ((dat m hn c).before 8 t d))
    ∗ (∃ d, owns (c : Thread nD τ) (st0_9 t) fullShare ((dat m hn c).before 9 t d))
    ∗ (∃ d, owns (c : Thread nD τ) (st0_10 t) fullShare ((dat m hn c).before 10 t d))
    ∗ (∃ d, owns (c : Thread nD τ) (st0_11 t) fullShare ((dat m hn c).before 11 t d))
    ∗ (∃ Y, ⌜(rdat m hn c).Finds 12 t Y⌝ ∗ owns (c : Thread nD τ) (st0_12 t) fullShare Y)
    ∗ (∃ Y, ⌜(rdat m hn c).Finds 13 t Y⌝ ∗ owns (c : Thread nD τ) (st0_13 t) fullShare Y)
    ∗ (∃ Y, ⌜(rdat m hn c).Finds 14 t Y⌝ ∗ owns (c : Thread nD τ) (st0_14 t) fullShare Y))

def bodyPost (c : Dev nD) (t : Fin cfg0.N) : sProp 𝕄 :=
  iprop((dat m hn c).Φ t.succ ∗ (dat m hn c).owesAt () t.succ
    ∗ owns (c : Thread nD τ) (st0_0 t) fullShare ((dat m hn c).after 0 t)
    ∗ owns (c : Thread nD τ) (st0_1 t) fullShare ((dat m hn c).after 1 t)
    ∗ owns (c : Thread nD τ) (st0_2 t) fullShare ((dat m hn c).after 2 t)
    ∗ owns (c : Thread nD τ) (st0_3 t) fullShare ((dat m hn c).after 3 t)
    ∗ owns (c : Thread nD τ) (st0_4 t) fullShare ((dat m hn c).after 4 t)
    ∗ owns (c : Thread nD τ) (st0_5 t) fullShare ((dat m hn c).after 5 t)
    ∗ owns (c : Thread nD τ) (st0_6 t) fullShare ((dat m hn c).after 6 t)
    ∗ owns (c : Thread nD τ) (st0_7 t) fullShare ((dat m hn c).after 7 t)
    ∗ owns (c : Thread nD τ) (st0_8 t) fullShare ((dat m hn c).after 8 t)
    ∗ owns (c : Thread nD τ) (st0_9 t) fullShare ((dat m hn c).after 9 t)
    ∗ owns (c : Thread nD τ) (st0_10 t) fullShare ((dat m hn c).after 10 t)
    ∗ owns (c : Thread nD τ) (st0_11 t) fullShare ((dat m hn c).after 11 t)
    ∗ (∃ X, ⌜Rl m hn c 12 t X⌝ ∗ owns (c : Thread nD τ) (st0_12 t) fullShare X)
    ∗ (∃ X, ⌜Rl m hn c 13 t X⌝ ∗ owns (c : Thread nD τ) (st0_13 t) fullShare X)
    ∗ (∃ X, ⌜Rl m hn c 14 t X⌝ ∗ owns (c : Thread nD τ) (st0_14 t) fullShare X))

set_option maxHeartbeats 1600000 in
theorem sound_body (c : Dev nD) (t : Fin cfg0.N) :
    bodyPre m hn c t ⊢ wp frame (wpE (defs₀ (F := F)) Variants.none c none) Set.univ (bodyAt0 t) (fun _ => bodyPost m hn c t) := by
  unfold bodyPre bodyPost bodyAt0
  simp only [before_0, before_1, before_2, before_3, before_4, before_5, before_6, before_7, before_8, before_9, before_10, before_11, after_0, after_1, after_2, after_3, after_4, after_5, after_6, after_7, after_8, after_9, after_10, after_11]
  rw [show (dat m hn c).Φ t.succ = Track m hn c (t.val + 1) from rfl, show (dat m hn c).Φ t.castSucc = Track m hn c t.val from rfl,
    show (dat m hn c).owesAt () t.succ = (dat m hn c).owesAt () t.castSucc from rfl]
  unfold Dat.owesAt Pipeline.owesWithin
  rw [show (dat m hn c).owed t.castSucc = 0 from rfl]
  unfold Track
  have hN : t.val < 12 := lt_of_lt_of_eq t.isLt (show cfg0.N = 12 from N_0)
  iintro ⟨⟨⟨%d, %hd, HX⟩, Hg, HS⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y12, %h12, H12⟩, ⟨%Y13, %h13, H13⟩, ⟨%Y14, %h14, H14⟩⟩
  have hact := acts_at m hn c t d hd
  by_cases c8 : t.val < 8
  · iapply (run_q c (grid0.coords t) _ _ _ _ _ _ _ _ _ _ _ _ _ _ _ _ _ _ _ _ _ _ _ _ _ _ _ _ _ _ ((cond2_iff t).mpr c8) (fun h => absurd ((cond3_iff t).mp h) (by omega)) (fun h => absurd ((cond4_iff t).mp h) (by omega)) (iblk m c 0 t) (hn c t) (tabOf m c) (iblk m c 1 t) (iblk m c 2 t) (iblk m c 3 t) (iblk m c 4 t) (iblk m c 5 t) (iblk m c 6 t) (iblk m c 9 t) (iblk m c 10 t) (iblk m c 11 t) d Y12 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    isplitl [H11]; · iexact H11
    isplitl [H12]; · iexact H12
    isplitl [HX]; · iexact HX
    isplitl [HS HO]
    · iapply (side_eq c (tabOf m c))
      isplitl [HS]; · iexact HS
      iexists W; iexact HO
    iintro ⟨H0, H1, H2, H3, H4, H5, H6, H9, H10, H11, H12, HX, HS⟩
    ihave HS2 := side_out c (tabOf m c) $$ HS
    icases HS2 with ⟨HS, ⟨%W', HO⟩⟩
    isplitl [HX Hg HS]
    · isplitl [HX]
      · iexists _; isplitr; swap; · iexact HX
        ipureintro; exact fun _ => hact
      isplitl [Hg]; · iexact Hg
      iexact HS
    isplitl [HO]
    · iexists W'; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _; isplitr; swap; · iexact H12
      ipureintro
      show _ = qAt m hn c (ptQ t); rw [show ptQ t = t from Fin.ext (by show min t.val 7 = t.val; omega), hact]; rfl
    isplitl [H13]
    · iexists _; isplitr; swap; · iexact H13
      ipureintro
      exact fun h => absurd h (by omega)
    iexists _; isplitr; swap; · iexact H14
    ipureintro
    exact fun h => absurd h (by omega)
  by_cases c10 : t.val < 10
  · iapply (run_k c (grid0.coords t) _ _ _ _ _ _ _ _ _ _ _ _ _ _ _ _ _ _ _ _ _ _ _ _ _ _ _ _ _ _ (fun h => absurd ((cond2_iff t).mp h) (by omega)) ((cond3_iff t).mpr ⟨by omega, c10⟩) (fun h => absurd ((cond4_iff t).mp h) (by omega)) (iblk m c 0 t) (hn c t) (tabOf m c) (iblk m c 1 t) (iblk m c 2 t) (iblk m c 3 t) (iblk m c 4 t) (iblk m c 5 t) (iblk m c 6 t) (iblk m c 7 t) (iblk m c 9 t) (iblk m c 10 t) (iblk m c 11 t) d Y13 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H13]; · iexact H13
    isplitl [HX]; · iexact HX
    isplitl [HS HO]
    · iapply (side_eq c (tabOf m c))
      isplitl [HS]; · iexact HS
      iexists W; iexact HO
    iintro ⟨H0, H1, H2, H3, H4, H5, H6, H7, H9, H10, H11, H13, HX, HS⟩
    ihave HS2 := side_out c (tabOf m c) $$ HS
    icases HS2 with ⟨HS, ⟨%W', HO⟩⟩
    isplitl [HX Hg HS]
    · isplitl [HX]
      · iexists _; isplitr; swap; · iexact HX
        ipureintro; exact fun _ => hact
      isplitl [Hg]; · iexact Hg
      iexact HS
    isplitl [HO]
    · iexists W'; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _; isplitr; swap; · iexact H12
      ipureintro
      exact finds_12 m hn c t _ h12 (by omega)
    isplitl [H13]
    · iexists _; isplitr; swap; · iexact H13
      ipureintro
      show _ → _ = kAt m hn c (ptK t); intro _; rw [show ptK t = t from Fin.ext (by show min t.val 9 = t.val; omega), hact]; rfl
    iexists _; isplitr; swap; · iexact H14
    ipureintro
    exact fun h => absurd h (by omega)
  · iapply (run_v c (grid0.coords t) _ _ _ _ _ _ _ _ _ _ _ _ _ _ _ _ _ _ _ _ _ _ _ _ _ _ _ _ _ _ (fun h => absurd ((cond2_iff t).mp h) (by omega)) (fun h => absurd ((cond3_iff t).mp h) (by omega)) ((cond4_iff t).mpr (by omega)) (iblk m c 0 t) (hn c t) (tabOf m c) (iblk m c 1 t) (iblk m c 2 t) (iblk m c 3 t) (iblk m c 4 t) (iblk m c 8 t) (iblk m c 9 t) (iblk m c 10 t) (iblk m c 11 t) d Y14 _)
    isplitl [H0]; · iexact H0
    isplitl [H1]; · iexact H1
    isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H14]; · iexact H14
    isplitl [HX]; · iexact HX
    isplitl [HS HO]
    · iapply (side_eq c (tabOf m c))
      isplitl [HS]; · iexact HS
      iexists W; iexact HO
    iintro ⟨H0, H1, H2, H3, H4, H8, H9, H10, H11, H14, HX, HS⟩
    ihave HS2 := side_out c (tabOf m c) $$ HS
    icases HS2 with ⟨HS, ⟨%W', HO⟩⟩
    isplitl [HX Hg HS]
    · isplitl [HX]
      · iexists _; isplitr; swap; · iexact HX
        ipureintro; exact fun _ => hact
      isplitl [Hg]; · iexact Hg
      iexact HS
    isplitl [HO]
    · iexists W'; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _; isplitr; swap; · iexact H12
      ipureintro
      exact finds_12 m hn c t _ h12 (by omega)
    isplitl [H13]
    · iexists _; isplitr; swap; · iexact H13
      ipureintro
      exact fun _ => finds_13 m hn c t _ h13 (by omega)
    iexists _; isplitr; swap; · iexact H14
    ipureintro
    show _ → _ = vAt m hn c t; intro _; rw [hact]; rfl

theorem defs₀_row (t : Fin cfg0.N) :
    defs₀ (F := F) .tc cfg0.body (cfg0.bodyArgs t (cfg0.slots t)) = bodyAt0 t := by
  unfold defs₀; rw [Defs.onTc_tc]

/-- The body does what the proof data say, at every point. -/
theorem body_obligation (c : Dev nD) : BodyObligationRel (dat m hn c) (defs₀ (F := F)) Variants.none () Set.univ outs (Rl m hn c) := fun t => by
  rw [bigSep_W0, bigSep_W0, defs₀_row]
  exact triple_restated (sound_body m hn c t) rfl .rfl fun _ => .rfl

/-! ## The run -/

set_option backward.isDefEq.respectTransparency.types false in
/-- Every run ends with the pipeline's arrays as the proof data say and every semaphore counter at zero. -/
theorem run_main : θ_run defs (onTc (τ := τ) (main (F := F))) (s₀ m ρ)
    (fun r => Pipeline.RDat.FramePost (cfgs 0) (fun c => rdat m hn c) (V m) r ∧ r.2.sem = fun _ => 0) :=
  Pipeline.RDat.θ_run_frame_dma (Q' := _) cfgs (0 : Fin 1) launch0 osem defs₀ Variants.none (fun c => rdat m hn c) ownSemFacts HR HR_sub m ρ main
    (hbody := fun c => (body_obligation m hn c).toRRel) (hshare := fun c => (dat m hn c).share_full fun _ => rfl)
    (howed := fun _ _ => rfl) (V := V m) (hmain := hmain m Variants.none) (hA := dat_A m hn)
    (hin := fun c => track_in m hn c) (hout := fun c => track_out m hn c _)

include hn in
/-- The argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => ⟨
      (Pipeline.RDat.FramePost.arr_in h.1 c 0 rfl).trans ((dat_A m hn c 0).trans (V_main_arg0 m c)),
      ((h.1 c).2 main_arg1 (Pipeline.mem_restRefs_of main_arg1 (by decide) (by decide))),
      (Pipeline.RDat.FramePost.arr_in h.1 c 1 rfl).trans ((dat_A m hn c 1).trans (V_main_arg2 m c)),
      (Pipeline.RDat.FramePost.arr_in h.1 c 2 rfl).trans ((dat_A m hn c 2).trans (V_main_arg3 m c)),
      (Pipeline.RDat.FramePost.arr_in h.1 c 3 rfl).trans ((dat_A m hn c 3).trans (V_main_arg4 m c)),
      (Pipeline.RDat.FramePost.arr_in h.1 c 4 rfl).trans ((dat_A m hn c 4).trans (V_main_arg5 m c)),
      (Pipeline.RDat.FramePost.arr_in h.1 c 5 rfl).trans ((dat_A m hn c 5).trans (V_main_arg6 m c)),
      (Pipeline.RDat.FramePost.arr_in h.1 c 6 rfl).trans ((dat_A m hn c 6).trans (V_main_arg7 m c)),
      (Pipeline.RDat.FramePost.arr_in h.1 c 7 rfl).trans ((dat_A m hn c 7).trans (V_main_arg8 m c)),
      (Pipeline.RDat.FramePost.arr_in h.1 c 8 rfl).trans ((dat_A m hn c 8).trans (V_main_arg9 m c)),
      (Pipeline.RDat.FramePost.arr_in h.1 c 9 rfl).trans ((dat_A m hn c 9).trans (V_main_arg10 m c)),
      (Pipeline.RDat.FramePost.arr_in h.1 c 10 rfl).trans ((dat_A m hn c 10).trans (V_main_arg11 m c)),
      (Pipeline.RDat.FramePost.arr_in h.1 c 11 rfl).trans ((dat_A m hn c 11).trans (V_main_arg12 m c))⟩, h.2⟩) (run_main m ρ hn)

end Cert.QkvIdeal.Hand

end
-- ==== Proof.QkvBitsDma.lean ====
module

public import proofs.«01_k».proof.Proof.Gen.Qkv.Skeleton
public import proofs.«01_k».proof.Proof.Gen.Qkv.Points
public import proofs.«01_k».proof.Proof.Gen.Qkv.Loops
public import Idealize.ShloMosaic.Lib.Pointwise
public import Idealize.ShloMosaic.Lib.Pipeline.FrameBody
public import Idealize.ShloMosaic.Lib.VecWindow
public import Idealize.ShloMosaic.Lib.Batch
public import Idealize.ShloMosaic.Lib.Ring
public import Idealize.ShloMosaic.Lib.Pipeline.Value
public import Idealize.ShloMosaic.Lib.Tactic

@[expose] public section

set_option maxRecDepth 65536

noncomputable section

namespace Cert.Qkv.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Qkv Cert.Qkv.Gen

variable {F : FTy → Type} [FloatOps F]

local notation "𝕄" => MT nD τ sig Unit (Elt F) ℕ (Pipeline.UD sig nD τ) ℕ

/-- The token of row `k`, from the tokens' contents. -/
def tw (x1 : S60.Idx → BitVec 32) (k : Fin k0_t1_loop.trips) : BitVec 32 := x1 (fun a => ⟨k.val, by fin_cases a; exact k.isLt⟩)

/-- A token's row is a row of the table of words. -/
def Named (x1 : S60.Idx → BitVec 32) : Prop := ∀ k : Fin k0_t1_loop.trips, ∀ a, (k0_off3 (tw x1 k)) a + S1x4096.size a ≤ S8000x4096.size a

variable (c : Dev nD)

theorem row_inb (k : Fin k0_t1_loop.trips) : ∀ a, (k0_off2 k) a + S1x4096.size a ≤ S64x4096.size a := by
  have hk : k.val < 60 := k.isLt
  rw [k0_off2_eq]
  intro a; fin_cases a
  · show k.val + 1 ≤ 64; omega
  · show 0 + 4096 ≤ 4096; omega

/-- Row `k` of the buffer of words, and the table's row that the token of row `k` names. -/
def eRow (k : Fin k0_t1_loop.trips) : Memref sig .tc .vmem S1x4096 .i32 :=
  (Memref.whole cc0_scratch1).slice (Rect.unit (s := S64x4096) (k0_off2 k) S1x4096.size (row_inb k)) (fun _ => rfl)
def sRow (x1 : S60.Idx → BitVec 32) (hn : Named x1) (k : Fin k0_t1_loop.trips) : Memref sig .tc .hbm S1x4096 .i32 :=
  (Memref.whole main_arg1).slice (Rect.unit (s := S8000x4096) (k0_off3 (tw x1 k)) S1x4096.size (hn k)) (fun _ => rfl)

/-- Row `k` before its copy, the row it is copied from (under read share `k`), and row `k` after. -/
def eBef (f : BufTy.Contents (Elt F) (Memref.whole cc0_scratch1 : Memref sig .tc .vmem S64x4096 .i32).view.ty) (k : Fin k0_t1_loop.trips) : sProp 𝕄 :=
  (eRow k).view.loc (c : Thread nD τ) ↦[(eRow k).view.set]{fullShare} f
def sTok (x1 : S60.Idx → BitVec 32) (hn : Named x1) (E : BufTy.Contents (Elt F) (Memref.whole main_arg1 : Memref sig .tc .hbm S8000x4096 .i32).view.ty) (k : Fin k0_t1_loop.trips) : sProp 𝕄 :=
  (sRow x1 hn k).view.loc (c : Thread nD τ) ↦[(sRow x1 hn k).view.set]{Transfers.shareTokN fullShare k.val} E
def eAft (x1 : S60.Idx → BitVec 32) (hn : Named x1) (E : BufTy.Contents (Elt F) (Memref.whole main_arg1 : Memref sig .tc .hbm S8000x4096 .i32).view.ty)
    (f : BufTy.Contents (Elt F) (Memref.whole cc0_scratch1 : Memref sig .tc .vmem S64x4096 .i32).view.ty) (k : Fin k0_t1_loop.trips) : sProp 𝕄 :=
  (eRow k).view.loc (c : Thread nD τ) ↦[(eRow k).view.set]{fullShare} (eRow k).view.writes (Elt F) f [⟨Rect.whole S1x4096, (sRow x1 hn k).view.read (Elt F) E⟩]

/-- What copy `k` hands back. -/
abbrev del (x1 : S60.Idx → BitVec 32) (hn : Named x1) (E : BufTy.Contents (Elt F) (Memref.whole main_arg1 : Memref sig .tc .hbm S8000x4096 .i32).view.ty)
    (f : BufTy.Contents (Elt F) (Memref.whole cc0_scratch1 : Memref sig .tc .vmem S64x4096 .i32).view.ty) (k : Fin k0_t1_loop.trips) : sProp 𝕄 :=
  iprop(eAft c x1 hn E f k ∗ sTok c x1 hn E k)

theorem pt_storable (ℓ : Loc nD τ sig) (I : Finset (Idx ℓ)) (q : PosShare Idealize.SL.RA.TreeShare) (f : Buf (Elt F) ℓ) : BI.Storable (upEmb : UEmb _ 𝕄) (ℓ ↦[I]{q} f : sProp 𝕄) := inferInstance

instance del_storable (x1 : S60.Idx → BitVec 32) (hn : Named x1) (E : BufTy.Contents (Elt F) (Memref.whole main_arg1 : Memref sig .tc .hbm S8000x4096 .i32).view.ty)
    (f : BufTy.Contents (Elt F) (Memref.whole cc0_scratch1 : Memref sig .tc .vmem S64x4096 .i32).view.ty) (k : Fin k0_t1_loop.trips) :
    BI.Storable (upEmb : UEmb _ 𝕄) (del (F := F) c x1 hn E f k) := by
  unfold del eAft sTok
  exact @BI.Storable.sep _ _ _ _ _ _ _ _ (pt_storable _ _ _ _) (pt_storable _ _ _ _)

/-- The copies on their one cell, `j` started and `u` units waited for. -/
abbrev batch (x1 : S60.Idx → BitVec 32) (hn : Named x1) (E : BufTy.Contents (Elt F) (Memref.whole main_arg1 : Memref sig .tc .hbm S8000x4096 .i32).view.ty)
    (f : BufTy.Contents (Elt F) (Memref.whole cc0_scratch1 : Memref sig .tc .vmem S64x4096 .i32).view.ty) (j u : ℕ) : sProp 𝕄 :=
  Transfers.Batch (countersEmb (U := Pipeline.UD sig nD τ)) (c : Thread nD τ) (.dma (SemArray.sem cc0_scratch3)) () 512 (del (F := F) c x1 hn E f) j u

/-- Before trip `k` of the loop that starts the copies. -/
def issueAt (arg1 : Memref sig .tc .smem S60 .i32) (f1 : BufTy.Contents (Elt F) arg1.view.ty) (hn : Named (arg1.view.read (Elt F) f1)) (E : BufTy.Contents (Elt F) (Memref.whole main_arg1 : Memref sig .tc .hbm S8000x4096 .i32).view.ty)
    (f : BufTy.Contents (Elt F) (Memref.whole cc0_scratch1 : Memref sig .tc .vmem S64x4096 .i32).view.ty) (k : ℕ) (_ : Unit) : sProp 𝕄 :=
  iprop((arg1.view.loc (c : Thread nD τ) ↦[arg1.view.set]{fullShare} f1) ∗ batch c (arg1.view.read (Elt F) f1) hn E f k 0
    ∗ bigSep (Ring.rangeSet k0_t1_loop.trips k k0_t1_loop.trips) (eBef (F := F) c f) ∗ bigSep (Ring.rangeSet k0_t1_loop.trips k k0_t1_loop.trips) (sTok (F := F) c (arg1.view.read (Elt F) f1) hn E))

theorem issue_step (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole) (k0_h1 : k0_cond1 i = 1#1) (f1 : BufTy.Contents (Elt F) arg1.view.ty) (hn : Named (arg1.view.read (Elt F) f1)) (E : BufTy.Contents (Elt F) (Memref.whole main_arg1 : Memref sig .tc .hbm S8000x4096 .i32).view.ty)
    (f : BufTy.Contents (Elt F) (Memref.whole cc0_scratch1 : Memref sig .tc .vmem S64x4096 .i32).view.ty) (k : Fin k0_t1_loop.trips) (acc : Unit) :
    issueAt (F := F) c arg1 f1 hn E f k acc ⊢ wp frame (wpE (defs₀ (F := F)) Variants.none c none) Set.univ (k0_t1_body (F := F) i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3 k0_h1 k acc)
      (issueAt c arg1 f1 hn E f (k.val + 1)) := by
  have hk := k.isLt
  unfold issueAt
  rw [Ring.bigSep_rangeSet_head (Φ := eBef (F := F) c f) hk hk, Ring.bigSep_rangeSet_head (Φ := sTok (F := F) c _ hn E) hk hk]
  unfold eBef sTok
  iintro ⟨H1, HB, ⟨HE, HEs⟩, ⟨HS, HSs⟩⟩
  unfold k0_t1_body
  sl_exec
  have hr : issue_step.sl.r i arg1 k0_h1 f1 k = tw (arg1.view.read (Elt F) f1) k := by
    unfold issue_step.sl.r tw
    rw [View.readAt_apply]
    congr 1
    funext a
    fin_cases a
    refine Fin.ext ?_
    show (k0_off1 k) 0 + 1 * 0 = k.val
    rw [k0_off1_eq]; rfl
  rw [hr]
  have hck : k0_chk1 i (tw (arg1.view.read (Elt F) f1) k) := fun _ => hn k
  sl_exec (disch := first | sl_exact hck)
  sl_step
  isplitl [H1]; · iexact H1
  isplitl [HB]; · iexact HB
  isplitl [HEs]; · iexact HEs
  iexact HSs

set_option warn.classDefReducibility false in
/-- The loop that starts the copies, by its invariant. -/
@[sl_loop] def issueInv (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole) (k0_h1 : k0_cond1 i = 1#1) (f1 : BufTy.Contents (Elt F) arg1.view.ty) (hn : Named (arg1.view.read (Elt F) f1)) (E : BufTy.Contents (Elt F) (Memref.whole main_arg1 : Memref sig .tc .hbm S8000x4096 .i32).view.ty)
    (f : BufTy.Contents (Elt F) (Memref.whole cc0_scratch1 : Memref sig .tc .vmem S64x4096 .i32).view.ty) :
    LoopInvTy_k0_t1 (F := F) Unit ℕ (Pipeline.UD sig nD τ) ℕ Variants.none c none Set.univ i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3 k0_h1 where
  inv := issueAt c arg1 f1 hn E f
  step k acc := issue_step c i arg1 harg1 arg3 harg3 arg4 harg4 arg5 harg5 arg6 harg6 arg7 harg7 arg8 harg8 arg9 harg9 arg10 harg10 arg11 harg11 arg12 harg12 arg13 harg13 arg14 harg14 arg15 harg15 arg16 harg16 k0_h1 f1 hn E f k acc

/-- Before trip `k` of the loop that waits for the copies. -/
def drainAt (arg1 : Memref sig .tc .smem S60 .i32) (f1 : BufTy.Contents (Elt F) arg1.view.ty) (hn : Named (arg1.view.read (Elt F) f1)) (E : BufTy.Contents (Elt F) (Memref.whole main_arg1 : Memref sig .tc .hbm S8000x4096 .i32).view.ty)
    (f : BufTy.Contents (Elt F) (Memref.whole cc0_scratch1 : Memref sig .tc .vmem S64x4096 .i32).view.ty) (k : ℕ) (_ : Unit) : sProp 𝕄 :=
  iprop((arg1.view.loc (c : Thread nD τ) ↦[arg1.view.set]{fullShare} f1) ∗ (∃ W, owes (c : Thread nD τ) 0 W)
    ∗ (if k < 60 then batch c (arg1.view.read (Elt F) f1) hn E f 60 (k * 512)
       else iprop(semVal ((c : Thread nD τ), SemLoc.dma (SemArray.sem cc0_scratch3)) 0 ∗ bigSep Finset.univ (del (F := F) c (arg1.view.read (Elt F) f1) hn E f))))

theorem drain_step (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole) (k0_h1 : k0_cond1 i = 1#1) (f1 : BufTy.Contents (Elt F) arg1.view.ty) (hn : Named (arg1.view.read (Elt F) f1)) (E : BufTy.Contents (Elt F) (Memref.whole main_arg1 : Memref sig .tc .hbm S8000x4096 .i32).view.ty)
    (f : BufTy.Contents (Elt F) (Memref.whole cc0_scratch1 : Memref sig .tc .vmem S64x4096 .i32).view.ty) (k : Fin k0_t2_loop.trips) (acc : Unit) :
    drainAt (F := F) c arg1 f1 hn E f k acc ⊢ wp frame (wpE (defs₀ (F := F)) Variants.none c none) Set.univ (k0_t2_body (F := F) i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3 k0_h1 k acc)
      (drainAt c arg1 f1 hn E f (k.val + 1)) := by
  have hk : k.val < 60 := k.isLt
  have hck : k0_chk2 i (tw (arg1.view.read (Elt F) f1) ⟨k.val, hk⟩) := fun _ => hn ⟨k.val, hk⟩
  have ht : k0_t1_loop.trips = 60 := rfl
  unfold drainAt
  simp only [if_pos hk]
  rcases Nat.lt_or_ge (k.val + 1) 60 with h1 | h1
  · simp only [if_pos h1]
    iintro ⟨H1, ⟨%W, HO⟩, HB⟩
    unfold k0_t2_body
    sl_exec
    have hr : drain_step.sl.r i arg1 k0_h1 f1 k = tw (arg1.view.read (Elt F) f1) ⟨k.val, hk⟩ := by
      unfold drain_step.sl.r tw
      rw [View.readAt_apply]
      congr 1
      funext a
      fin_cases a
      refine Fin.ext ?_
      show (k0_off4 k) 0 + 1 * 0 = k.val
      rw [k0_off4_eq]; rfl
    rw [hr]
    sl_exec (disch := first | sl_exact hck)
    sl_step
    isplitl [H1]; · iexact H1
    isplitl [HO]; · iexists _; iexact HO
    rw [show (k.val + 1) * 512 = k.val * 512 + 512 by omega]
    iexact HB
  · simp only [if_neg (Nat.not_lt.mpr h1)]
    iintro ⟨H1, ⟨%W, HO⟩, HB⟩
    unfold k0_t2_body
    sl_exec
    have hr : drain_step.sl.r_1 i arg1 k0_h1 f1 k = tw (arg1.view.read (Elt F) f1) ⟨k.val, hk⟩ := by
      unfold drain_step.sl.r_1 tw
      rw [View.readAt_apply]
      congr 1
      funext a
      fin_cases a
      refine Fin.ext ?_
      show (k0_off4 k) 0 + 1 * 0 = k.val
      rw [k0_off4_eq]; rfl
    rw [hr]
    sl_exec (disch := first | sl_exact hck)
    sl_step
    isplitl [H1]; · iexact H1
    isplitl [HO]; · iexists _; iexact HO
    isplitl [HB]; · iexact HB
    iexact HB_all

/-- Row `k` of the words, copied: the words of the row of the table that token `k` names. -/
def word (x1 : S60.Idx → BitVec 32) (hn : Named x1) (E : BufTy.Contents (Elt F) (Memref.whole main_arg1 : Memref sig .tc .hbm S8000x4096 .i32).view.ty) (k : Fin k0_t1_loop.trips) : Vec F S1x4096 .i32 :=
  (sRow x1 hn k).view.read (Elt F) E

/-- The buffer of words after the copies: sixty rows of the table, the rest as before. -/
def words (x1 : S60.Idx → BitVec 32) (hn : Named x1) (E : BufTy.Contents (Elt F) (Memref.whole main_arg1 : Memref sig .tc .hbm S8000x4096 .i32).view.ty)
    (f : BufTy.Contents (Elt F) (Memref.whole cc0_scratch1 : Memref sig .tc .vmem S64x4096 .i32).view.ty) :
    BufTy.Contents (Elt F) (Memref.whole cc0_scratch1 : Memref sig .tc .vmem S64x4096 .i32).view.ty :=
  fun (y : S64x4096.Idx) => if h : (y 0).val < 60 then word (F := F) x1 hn E ⟨(y 0).val, h⟩ (ix2 0 (y 1)) else f y

theorem eset_eq (k : Fin k0_t1_loop.trips) : (eRow k).view.set = (Rect.unit (s := S64x4096) (k0_off2 k) S1x4096.size (row_inb k)).set := by
  unfold eRow; exact View.set_slice_whole _ _

theorem mem_eset (k : Fin k0_t1_loop.trips) (y : S64x4096.Idx) : y ∈ (Rect.unit (s := S64x4096) (k0_off2 k) S1x4096.size (row_inb k)).set ↔ (y 0).val = k.val := by
  rw [Rect.mem_set_unit, k0_off2_eq]
  have h1 : (y 1).val < 4096 := (y 1).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 4096; omega

theorem eset_disjoint (k k' : Fin k0_t1_loop.trips) (hne : k ≠ k') : Disjoint (Rect.unit (s := S64x4096) (k0_off2 k) S1x4096.size (row_inb k)).set (Rect.unit (s := S64x4096) (k0_off2 k') S1x4096.size (row_inb k')).set := by
  rw [Finset.disjoint_left]; intro y hy hy'; rw [mem_eset] at hy hy'; exact hne (Fin.ext (by omega))

/-- The rows that are copied into. -/
def rows : Finset S64x4096.Idx := Finset.univ.biUnion fun k : Fin k0_t1_loop.trips => (Rect.unit (s := S64x4096) (k0_off2 k) S1x4096.size (row_inb k)).set

theorem mem_rows (y : S64x4096.Idx) : y ∈ rows ↔ (y 0).val < 60 := by
  unfold rows
  rw [Finset.mem_biUnion]
  constructor
  · rintro ⟨k, -, h⟩
    have := (mem_eset k y).1 h
    have : k.val < 60 := k.isLt
    omega
  · intro h
    exact ⟨⟨(y 0).val, h⟩, Finset.mem_univ _, (mem_eset _ y).2 rfl⟩

/-- The buffer of words is its sixty rows and the rest. -/
theorem rows_split (f : BufTy.Contents (Elt F) (Memref.whole cc0_scratch1 : Memref sig .tc .vmem S64x4096 .i32).view.ty) :
    ((Memref.whole cc0_scratch1 : Memref sig .tc .vmem S64x4096 .i32).view.loc (c : Thread nD τ) ↦{fullShare} f : sProp 𝕄)
      ⊣⊢ iprop(bigSep Finset.univ (eBef (F := F) c f) ∗ ((Memref.whole cc0_scratch1 : Memref sig .tc .vmem S64x4096 .i32).view.loc (c : Thread nD τ) ↦[Finset.univ \ rows]{fullShare} f)) := by
  have h : (bigSep Finset.univ (eBef (F := F) c f) : sProp 𝕄) = ((Memref.whole cc0_scratch1 : Memref sig .tc .vmem S64x4096 .i32).view.loc (c : Thread nD τ) ↦[rows]{fullShare} f) := by
    unfold rows
    rw [pointsTo_biUnion Finset.univ (ℓ := (Memref.whole cc0_scratch1 : Memref sig .tc .vmem S64x4096 .i32).view.loc (c : Thread nD τ)) (fun k : Fin k0_t1_loop.trips => (Rect.unit (s := S64x4096) (k0_off2 k) S1x4096.size (row_inb k)).set)
      (fun k _ k' _ h => eset_disjoint k k' h)]
    refine congrArg (bigSep Finset.univ) (funext fun k => ?_)
    unfold eBef; rw [eset_eq]; rfl
  rw [h]
  exact pointsTo_split_subset (Finset.subset_univ _)

theorem row_emb (k : Fin k0_t1_loop.trips) (y : S64x4096.Idx) (hy : (y 0).val = k.val) :
    (Rect.unit (s := S64x4096) (k0_off2 k) S1x4096.size (row_inb k)).emb (ix2 0 (y 1)) = y := by
  funext a
  refine Fin.ext ?_
  have h2 := k0_off2_eq k
  fin_cases a
  · show (k0_off2 k) 0 + 1 * 0 = (y 0).val
    rw [h2, hy]; rfl
  · show (k0_off2 k) 1 + 1 * (y 1).val = (y 1).val
    rw [h2]; show 0 + 1 * (y 1).val = (y 1).val; omega

theorem row_read (k : Fin k0_t1_loop.trips) (g : S64x4096.Idx → Elt F .i32) (j : S1x4096.Idx) :
    (eRow k).view.read (Elt F) g j = g ((Rect.unit (s := S64x4096) (k0_off2 k) S1x4096.size (row_inb k)).emb j) := rfl

theorem row_write (k : Fin k0_t1_loop.trips) (g : S64x4096.Idx → Elt F .i32) (w : S1x4096.Idx → Elt F .i32) (y : S64x4096.Idx) (hy : (y 0).val = k.val) :
    ((eRow k).view.writes (Elt F) g [⟨Rect.whole S1x4096, w⟩] : S64x4096.Idx → Elt F .i32) y = w (ix2 0 (y 1)) := by
  have h := congrFun (View.read_writes_whole (Val := Elt F) (eRow k).view g w) (ix2 0 (y 1))
  generalize (eRow k).view.writes (Elt F) g [⟨Rect.whole S1x4096, w⟩] = G at h ⊢
  have h2 := (row_read (F := F) k G (ix2 0 (y 1))).symm.trans h
  rw [row_emb k y hy] at h2
  exact h2

theorem aft_eq (x1 : S60.Idx → BitVec 32) (hn : Named x1) (E : BufTy.Contents (Elt F) (Memref.whole main_arg1 : Memref sig .tc .hbm S8000x4096 .i32).view.ty)
    (f : BufTy.Contents (Elt F) (Memref.whole cc0_scratch1 : Memref sig .tc .vmem S64x4096 .i32).view.ty) (k : Fin k0_t1_loop.trips) :
    (eAft (F := F) c x1 hn E f k : sProp 𝕄) = eBef (F := F) c (words x1 hn E f) k := by
  unfold eAft eBef
  refine pointsTo_congr fun y hy => ?_
  rw [eset_eq] at hy
  have hk : k.val < 60 := k.isLt
  have hy' := (mem_eset k y).1 hy
  have h : words x1 hn E f y = word x1 hn E k (ix2 0 ((show S64x4096.Idx from y) 1)) := by
    show (if h : ((show S64x4096.Idx from y) 0).val < 60 then word (F := F) x1 hn E ⟨((show S64x4096.Idx from y) 0).val, h⟩ (ix2 0 ((show S64x4096.Idx from y) 1)) else f y) = _
    rw [dif_pos (by rw [hy']; exact hk)]
    have : (⟨((show S64x4096.Idx from y) 0).val, by rw [hy']; exact hk⟩ : Fin k0_t1_loop.trips) = k := Fin.ext hy'
    rw [this]
  rw [h]
  exact row_write k f _ y hy'

/-- The sixty rows handed back, with the rest, are the buffer of words after the copies. -/
theorem rows_join (x1 : S60.Idx → BitVec 32) (hn : Named x1) (E : BufTy.Contents (Elt F) (Memref.whole main_arg1 : Memref sig .tc .hbm S8000x4096 .i32).view.ty)
    (f : BufTy.Contents (Elt F) (Memref.whole cc0_scratch1 : Memref sig .tc .vmem S64x4096 .i32).view.ty) :
    iprop(bigSep Finset.univ (eAft (F := F) c x1 hn E f) ∗ ((Memref.whole cc0_scratch1 : Memref sig .tc .vmem S64x4096 .i32).view.loc (c : Thread nD τ) ↦[Finset.univ \ rows]{fullShare} f))
      ⊢ ((Memref.whole cc0_scratch1 : Memref sig .tc .vmem S64x4096 .i32).view.loc (c : Thread nD τ) ↦{fullShare} words x1 hn E f : sProp 𝕄) := by
  rw [show eAft (F := F) c x1 hn E f = eBef (F := F) c (words x1 hn E f) from funext (aft_eq c x1 hn E f),
    pointsTo_congr (ℓ := (Memref.whole cc0_scratch1 : Memref sig .tc .vmem S64x4096 .i32).view.loc (c : Thread nD τ)) (I := Finset.univ \ rows) (f := f) (g := words x1 hn E f) (fun y hy => by
      have hy' : ¬ ((show S64x4096.Idx from y) 0).val < 60 := fun h => (Finset.mem_sdiff.1 hy).2 ((mem_rows y).2 h)
      show f y = (if h : ((show S64x4096.Idx from y) 0).val < 60 then word (F := F) x1 hn E ⟨((show S64x4096.Idx from y) 0).val, h⟩ (ix2 0 ((show S64x4096.Idx from y) 1)) else f y)
      rw [dif_neg hy'])]
  exact (rows_split c _).2

/-- The table of words, whole: a read share for each copy, cut to the row that the copy reads, and what is left of each share. -/
def tokRest (x1 : S60.Idx → BitVec 32) (hn : Named x1) (E : BufTy.Contents (Elt F) (Memref.whole main_arg1 : Memref sig .tc .hbm S8000x4096 .i32).view.ty) (k : Fin k0_t1_loop.trips) : sProp 𝕄 :=
  (sRow x1 hn k).view.loc (c : Thread nD τ) ↦[Finset.univ \ (sRow x1 hn k).view.set]{Transfers.shareTokN fullShare k.val} E

theorem toks_split (x1 : S60.Idx → BitVec 32) (hn : Named x1) (E : BufTy.Contents (Elt F) (Memref.whole main_arg1 : Memref sig .tc .hbm S8000x4096 .i32).view.ty) :
    ((Memref.whole main_arg1 : Memref sig .tc .hbm S8000x4096 .i32).view.loc (c : Thread nD τ) ↦{fullShare} E : sProp 𝕄)
      ⊣⊢ iprop(((Memref.whole main_arg1 : Memref sig .tc .hbm S8000x4096 .i32).view.loc (c : Thread nD τ) ↦{Transfers.shareDrop fullShare 60} E)
        ∗ bigSep Finset.univ (sTok (F := F) c x1 hn E) ∗ bigSep Finset.univ (tokRest (F := F) c x1 hn E)) := by
  have h : (bigSep (Finset.range 60) (fun i => (Memref.whole main_arg1 : Memref sig .tc .hbm S8000x4096 .i32).view.loc (c : Thread nD τ) ↦{Transfers.shareTokN fullShare i} E) : sProp 𝕄)
      = bigSep Finset.univ (fun k : Fin 60 => (Memref.whole main_arg1 : Memref sig .tc .hbm S8000x4096 .i32).view.loc (c : Thread nD τ) ↦{Transfers.shareTokN fullShare k.val} E) := by
    rw [← Ring.rangeSet_univ (NB := 60)]
    exact (Ring.bigSep_rangeSet_eq_range (NB := 60) (lo := 0) (hi := 60) le_rfl _ (fun k hk => by
      show _ = ((Memref.whole main_arg1 : Memref sig .tc .hbm S8000x4096 .i32).view.loc (c : Thread nD τ) ↦{Transfers.shareTokN fullShare (0 + k)} E : sProp 𝕄)
      rw [Nat.zero_add])).symm
  have h2 : (bigSep Finset.univ (fun k : Fin 60 => (Memref.whole main_arg1 : Memref sig .tc .hbm S8000x4096 .i32).view.loc (c : Thread nD τ) ↦{Transfers.shareTokN fullShare k.val} E) : sProp 𝕄)
      ⊣⊢ iprop(bigSep Finset.univ (sTok (F := F) c x1 hn E) ∗ bigSep Finset.univ (tokRest (F := F) c x1 hn E)) := by
    have e := BI.bigSep_sep Finset.univ (sTok (F := F) c x1 hn E) (tokRest (F := F) c x1 hn E)
    have hs (k : Fin 60) : ((Memref.whole main_arg1 : Memref sig .tc .hbm S8000x4096 .i32).view.loc (c : Thread nD τ) ↦{Transfers.shareTokN fullShare k.val} E : sProp 𝕄)
        ⊣⊢ iprop(sTok (F := F) c x1 hn E k ∗ tokRest (F := F) c x1 hn E k) := pointsTo_split_subset (Finset.subset_univ _)
    exact ⟨(BI.bigSep_mono fun k _ => (hs k).1).trans (Entails.of_eq e), (Entails.of_eq e.symm).trans (BI.bigSep_mono fun k _ => (hs k).2)⟩
  have h3 := Transfers.pointsTo_toks_range (Ix := Unit) (Name := ℕ) (U := Pipeline.UD sig nD τ) (Lvl := ℕ) (ℓ := (Memref.whole main_arg1 : Memref sig .tc .hbm S8000x4096 .i32).view.loc (c : Thread nD τ)) (S := Finset.univ) (f := E) fullShare 60
  rw [h] at h3
  constructor
  · refine h3.1.trans ?_
    iintro ⟨H1, H2⟩
    isplitl [H1]; · iexact H1
    iapply h2.1; iexact H2
  · refine BIBase.Entails.trans ?_ h3.2
    iintro ⟨H1, H2⟩
    isplitl [H1]; · iexact H1
    iapply h2.2; iexact H2
end Cert.Qkv.Hand
-- ==== Proof.QkvBitsIndex.lean ====
module

public import proofs.«01_k».proof.Proof.QkvBitsDma
public import proofs.«01_k».proof.Pre_tokens_named

@[expose] public section

noncomputable section

namespace Cert.Qkv.Hand

open Idealize.ShloMosaic
open Cert.Qkv Cert.Qkv.Gen

/-! A token between 0 and 31999 names a row of the table of words: its floor-quotient by four, which the kernel works out from the signed
    quotient and a correction for negative numbers, is its quotient, at most 7999. -/

theorem sdiv_four (w : BitVec 32) (h : w.toNat < 32000) : (w.sdiv 4#32).toNat = w.toNat / 4 := by
  have hm : w.msb = false := by rw [BitVec.msb_eq_decide]; simp; omega
  rw [BitVec.sdiv_eq, hm, show (4#32 : BitVec 32).msb = false from rfl]
  show (w / 4#32).toNat = _
  rw [BitVec.toNat_udiv]; rfl

theorem slt_zero (w : BitVec 32) (h : w.toNat < 32000) : w.slt 0#32 = false := by
  have hi : w.toInt = w.toNat := BitVec.toInt_eq_toNat_of_lt (by omega)
  rw [BitVec.slt, hi]; simp

theorem zero_slt (w : BitVec 32) (h : w.toNat < 32000) (h0 : w ≠ 0#32) : (0#32 : BitVec 32).slt w = true := by
  have hi : w.toInt = w.toNat := BitVec.toInt_eq_toNat_of_lt (by omega)
  have hp : w.toNat ≠ 0 := fun e => h0 (BitVec.eq_of_toNat_eq (by simpa using e))
  rw [BitVec.slt, hi]; simp; omega

theorem off3_eq (w : BitVec 32) (h : w.toNat < 32000) : k0_off3 w = ![w.toNat / 4, 0] := by
  by_cases h0 : w = 0#32
  · subst h0; decide
  have hc : ¬ IntOp.SDivCorner w 4#32 := by
    unfold IntOp.SDivCorner; rintro (h | ⟨_, h⟩) <;> exact absurd h (by decide)
  unfold k0_off3
  simp only [Scalar.cmpi, IntOp.cmpi, Scalar.divsi, IntOp.divsi, if_neg hc, slt_zero w h, zero_slt w h h0]
  rw [← sdiv_four w h]
  simp [Scalar.select, Scalar.andi, IntOp.andi, Scalar.extui, Scalar.subi, IntOp.subi]

/-- Tokens between 0 and 31999 name rows. -/
theorem named_of_lt (x1 : S60.Idx → BitVec 32) (h : ∀ i, (x1 i).toNat < 32000) : Named x1 := fun k a => by
  have hk := h (fun a => ⟨k.val, by fin_cases a; exact k.isLt⟩)
  rw [show tw x1 k = x1 _ from rfl, off3_eq _ hk]
  fin_cases a
  · show (x1 _).toNat / 4 + 1 ≤ 8000; omega
  · show 0 + 4096 ≤ 4096; omega

/-- A word at least 0 and less than 32000, both as signed numbers, is less than 32000 as an unsigned one. -/
theorem lt_of_signed (w : BitVec 32) (h : IntOp.andi (IntOp.cmpi .sge w 0#32) (IntOp.cmpi .slt w 32000#32) = 1#1) : w.toNat < 32000 := by
  have hb : (0#32 : BitVec 32).sle w = true ∧ w.slt 32000#32 = true := by
    revert h
    simp only [IntOp.andi, IntOp.cmpi]
    cases (0#32 : BitVec 32).sle w <;> cases w.slt 32000#32 <;> simp
  obtain ⟨h1, h2⟩ := hb
  rw [BitVec.sle] at h1; rw [BitVec.slt] at h2
  have e1 : (0 : Int) ≤ w.toInt := by simpa using h1
  have e2 : w.toInt < 32000 := by simpa using h2
  rw [BitVec.toInt_eq_toNat_cond] at e1 e2
  split at e1 <;> omega

end Cert.Qkv.Hand

end
-- ==== Proof.QkvBitsInit.lean ====
module

public import proofs.«01_k».proof.Proof.Gen.Qkv.Skeleton
public import proofs.«01_k».proof.Proof.QkvBitsDma
public import Idealize.ShloMosaic.Lib.Pipeline.FrameBody
public import Idealize.ShloMosaic.Lib.VecWindow
public import Idealize.ShloMosaic.Lib.Batch
public import Idealize.ShloMosaic.Lib.Ring
public import Idealize.ShloMosaic.Lib.Pipeline.Value
public import Idealize.ShloMosaic.Lib.Tactic

@[expose] public section

set_option maxRecDepth 65536

noncomputable section

namespace Cert.Qkv.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Qkv Cert.Qkv.Gen

variable {F : FTy → Type} [FloatOps F]

local notation "𝕄" => MT nD τ sig Unit (Elt F) ℕ (Pipeline.UD sig nD τ) ℕ

variable (c : Dev nD)

/-- The embeddings' codes before their scales: row `k` from the words of the row that token `k` names, the last four rows zero. -/
def emb0 (x1 : S60.Idx → BitVec 32) (hn : Named x1) (E : BufTy.Contents (Elt F) (Memref.whole main_arg1 : Memref sig .tc .hbm S8000x4096 .i32).view.ty) : Vec F S64x4096 .f32 := fun y =>
  if h : (y 0).val < 60 then k0_pay4 (F := F) (tw x1 ⟨(y 0).val, h⟩) (word (F := F) x1 hn E ⟨(y 0).val, h⟩) (ix2 0 (y 1))
  else k0_pay3 (F := F) (ix2 ⟨(y 0).val - 60, by have : (y 0).val < 64 := (y 0).isLt; show (y 0).val - 60 < 4; omega⟩ (y 1))

theorem put_in {s : Shape} {α : Type} (x : s.Idx → α) (off size : Fin s.rank → ℕ) (w : ((a : Fin s.rank) → Fin (size a)) → α) (y : s.Idx)
    (h : ∀ a, off a ≤ (y a).val ∧ (y a).val < off a + size a) : VecWindow.put x off size w y = w (Rect.unitLocal (s := s) (off := off) (size := size) y h) := dif_pos h

theorem put_out {s : Shape} {α : Type} (x : s.Idx → α) (off size : Fin s.rank → ℕ) (w : ((a : Fin s.rank) → Fin (size a)) → α) (y : s.Idx)
    (h : ¬ ∀ a, off a ≤ (y a).val ∧ (y a).val < off a + size a) : VecWindow.put x off size w y = x y := dif_neg h

/-- Before trip `k` of the loop that unpacks the words: the first `k` rows are done. -/
def shiftAt (arg1 : Memref sig .tc .smem S60 .i32) (f1 : BufTy.Contents (Elt F) arg1.view.ty) (hn : Named (arg1.view.read (Elt F) f1)) (E : BufTy.Contents (Elt F) (Memref.whole main_arg1 : Memref sig .tc .hbm S8000x4096 .i32).view.ty) (f : BufTy.Contents (Elt F) (Memref.whole cc0_scratch1 : Memref sig .tc .vmem S64x4096 .i32).view.ty) (G : BufTy.Contents (Elt F) (Memref.whole cc0_scratch2 : Memref sig .tc .vmem S64x4096 .f32).view.ty) (k : ℕ) (_ : Unit) : sProp 𝕄 :=
  iprop((arg1.view.loc (c : Thread nD τ) ↦[arg1.view.set]{fullShare} f1) ∗ ((Memref.whole cc0_scratch1 : Memref sig .tc .vmem S64x4096 .i32).view.loc (c : Thread nD τ) ↦[(Memref.whole cc0_scratch1 : Memref sig .tc .vmem S64x4096 .i32).view.set]{fullShare} words (arg1.view.read (Elt F) f1) hn E f)
    ∗ ∃ g : BufTy.Contents (Elt F) (Memref.whole cc0_scratch2 : Memref sig .tc .vmem S64x4096 .f32).view.ty, ((Memref.whole cc0_scratch2 : Memref sig .tc .vmem S64x4096 .f32).view.loc (c : Thread nD τ) ↦[(Memref.whole cc0_scratch2 : Memref sig .tc .vmem S64x4096 .f32).view.set]{fullShare} g)
      ∗ ⌜∀ y : S64x4096.Idx, (Memref.whole cc0_scratch2 : Memref sig .tc .vmem S64x4096 .f32).view.read (Elt F) g y = if (y 0).val < k then emb0 (F := F) (arg1.view.read (Elt F) f1) hn E y else (Memref.whole cc0_scratch2 : Memref sig .tc .vmem S64x4096 .f32).view.read (Elt F) G y⌝)

theorem shift_step (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole) (k0_h1 : k0_cond1 i = 1#1) (f1 : BufTy.Contents (Elt F) arg1.view.ty) (hn : Named (arg1.view.read (Elt F) f1)) (E : BufTy.Contents (Elt F) (Memref.whole main_arg1 : Memref sig .tc .hbm S8000x4096 .i32).view.ty) (f : BufTy.Contents (Elt F) (Memref.whole cc0_scratch1 : Memref sig .tc .vmem S64x4096 .i32).view.ty) (G : BufTy.Contents (Elt F) (Memref.whole cc0_scratch2 : Memref sig .tc .vmem S64x4096 .f32).view.ty)
    (k : Fin k0_t3_loop.trips) (acc : Unit) :
    shiftAt (F := F) c arg1 f1 hn E f G k acc ⊢ wp frame (wpE (defs₀ (F := F)) Variants.none c none) Set.univ (k0_t3_body (F := F) i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3 k0_h1 k acc)
      (shiftAt c arg1 f1 hn E f G (k.val + 1)) := by
  have hk : k.val < 60 := k.isLt
  unfold shiftAt
  iintro ⟨H1, H18, ⟨%g, H19, %hg⟩⟩
  unfold k0_t3_body
  sl_exec
  sl_step
  isplitl [H1]; · iexact H1
  isplitl [H18]; · iexact H18
  iexists _; isplitl [H19]; · iexact H19
  ipureintro
  intro y
  rw [View.read_writes_cons_put _ _ _ _ _ rfl]
  have hr : shift_step.sl.r i arg1 k0_h1 f1 k = tw (arg1.view.read (Elt F) f1) ⟨k.val, hk⟩ := by
    unfold shift_step.sl.r tw
    rw [View.readAt_apply]
    congr 1
    funext a
    fin_cases a
    refine Fin.ext ?_
    show (k0_off7 k) 0 + 1 * 0 = k.val
    rw [k0_off7_eq]; rfl
  have h8 := k0_off8_eq k
  have hw : View.readAt (Elt F) (Memref.whole cc0_scratch1 : Memref sig .tc .vmem S64x4096 .i32).view (Rect.unit (s := S64x4096) (k0_off8 k) S1x4096.size (k0_off8_inb i k k0_h1)).toLoadRect (words (arg1.view.read (Elt F) f1) hn E f)
      = word (arg1.view.read (Elt F) f1) hn E ⟨k.val, hk⟩ := by
    funext (j : S1x4096.Idx)
    have hj0 : (j 0).val < 1 := (j 0).isLt
    have hj1 : (j 1).val < 4096 := (j 1).isLt
    have e : (Rect.unit (s := S64x4096) (k0_off8 k) S1x4096.size (k0_off8_inb i k k0_h1)).emb j = (ix2 ⟨k.val, by omega⟩ (j 1) : S64x4096.Idx) := by
      funext a
      refine Fin.ext ?_
      fin_cases a
      · show (k0_off8 k) 0 + 1 * (j 0).val = k.val
        rw [h8]; show k.val + 1 * (j 0).val = k.val; omega
      · show (k0_off8 k) 1 + 1 * (j 1).val = (j 1).val
        rw [h8]; show 0 + 1 * (j 1).val = (j 1).val; omega
    show words (arg1.view.read (Elt F) f1) hn E f ((Rect.unit (s := S64x4096) (k0_off8 k) S1x4096.size (k0_off8_inb i k k0_h1)).emb j) = _
    rw [e]
    show (if h : k.val < 60 then word (F := F) (arg1.view.read (Elt F) f1) hn E ⟨k.val, h⟩ (ix2 0 (j 1)) else _) = _
    rw [dif_pos hk]
    congr 1
    funext a
    fin_cases a
    · refine Fin.ext ?_
      show 0 = (j 0).val
      omega
    · rfl
  rw [hr, hw]
  have hy1 : (y 1).val < 4096 := (y 1).isLt
  by_cases hy : (y 0).val = k.val
  · have hin : ∀ a, (k0_off8 k) a ≤ (y a).val ∧ (y a).val < (k0_off8 k) a + S1x4096.size a := by
      rw [h8]
      intro a; fin_cases a
      · show k.val ≤ (y 0).val ∧ (y 0).val < k.val + 1; omega
      · show 0 ≤ (y 1).val ∧ (y 1).val < 0 + 4096; omega
    rw [if_pos (by omega)]
    refine (put_in (s := S64x4096) _ _ _ _ y hin).trans ?_
    unfold emb0
    rw [dif_pos (by omega)]
    have hkk : (⟨(y 0).val, hy ▸ hk⟩ : Fin k0_t1_loop.trips) = ⟨k.val, hk⟩ := Fin.ext hy
    rw [hkk]
    congr 1
    funext a
    refine Fin.ext ?_
    fin_cases a
    · show (y 0).val - (k0_off8 k) 0 = 0
      rw [h8]; show (y 0).val - k.val = 0; omega
    · show (y 1).val - (k0_off8 k) 1 = (y 1).val
      rw [h8]; show (y 1).val - 0 = (y 1).val; omega
  · refine (put_out (s := S64x4096) _ _ _ _ y (fun H => by
      have a0 := H 0
      rw [h8] at a0
      have a1 : k.val ≤ (y 0).val ∧ (y 0).val < k.val + 1 := a0
      omega)).trans ?_
    refine (hg y).trans ?_
    by_cases h1 : (y 0).val < k.val
    · rw [if_pos h1, if_pos (by omega)]
    · rw [if_neg h1, if_neg (by omega)]

set_option warn.classDefReducibility false in
/-- The loop that unpacks the words, by its invariant. -/
@[sl_loop] def shiftInv (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole) (k0_h1 : k0_cond1 i = 1#1) (f1 : BufTy.Contents (Elt F) arg1.view.ty) (hn : Named (arg1.view.read (Elt F) f1)) (E : BufTy.Contents (Elt F) (Memref.whole main_arg1 : Memref sig .tc .hbm S8000x4096 .i32).view.ty) (f : BufTy.Contents (Elt F) (Memref.whole cc0_scratch1 : Memref sig .tc .vmem S64x4096 .i32).view.ty) (G : BufTy.Contents (Elt F) (Memref.whole cc0_scratch2 : Memref sig .tc .vmem S64x4096 .f32).view.ty) :
    LoopInvTy_k0_t3 (F := F) Unit ℕ (Pipeline.UD sig nD τ) ℕ Variants.none c none Set.univ i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3 k0_h1 where
  inv := shiftAt c arg1 f1 hn E f G
  step k acc := shift_step c i arg1 harg1 arg3 harg3 arg4 harg4 arg5 harg5 arg6 harg6 arg7 harg7 arg8 harg8 arg9 harg9 arg10 harg10 arg11 harg11 arg12 harg12 arg13 harg13 arg14 harg14 arg15 harg15 arg16 harg16 k0_h1 f1 hn E f G k acc

set_option maxHeartbeats 1000000 in
/-- The first part of the first point: the rows are copied, unpacked, scaled and normalised into the left half of the activations. -/
theorem init_run (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole) (k0_h1 : k0_cond1 i = 1#1) (f1 : BufTy.Contents (Elt F) arg1.view.ty) (hn : Named (arg1.view.read (Elt F) f1)) (E : BufTy.Contents (Elt F) (Memref.whole main_arg1 : Memref sig .tc .hbm S8000x4096 .i32).view.ty)
    (x3 : Vec F S64x1 .f32) (x5 : Vec F S1x4096 .f32) (f17 : BufTy.Contents (Elt F) (Memref.whole cc0_scratch0 : Memref sig .tc .vmem S64x8192 .bf16).view.ty) (W : Waits sig Unit) :
    (iprop((arg1.view.loc (c : Thread nD τ) ↦[arg1.view.set]{fullShare} f1) ∗ owns (c : Thread nD τ) arg3 fullShare x3 ∗ owns (c : Thread nD τ) arg5 fullShare x5
        ∗ ((Memref.whole main_arg1 : Memref sig .tc .hbm S8000x4096 .i32).view.loc (c : Thread nD τ) ↦{fullShare} E) ∗ ((Memref.whole cc0_scratch0 : Memref sig .tc .vmem S64x8192 .bf16).view.loc (c : Thread nD τ) ↦[(Memref.whole cc0_scratch0 : Memref sig .tc .vmem S64x8192 .bf16).view.set]{fullShare} f17)
        ∗ (∃ f : BufTy.Contents (Elt F) (Memref.whole cc0_scratch1 : Memref sig .tc .vmem S64x4096 .i32).view.ty, (Memref.whole cc0_scratch1 : Memref sig .tc .vmem S64x4096 .i32).view.loc (c : Thread nD τ) ↦{fullShare} f) ∗ (∃ f : BufTy.Contents (Elt F) (Memref.whole cc0_scratch2 : Memref sig .tc .vmem S64x4096 .f32).view.ty, (Memref.whole cc0_scratch2 : Memref sig .tc .vmem S64x4096 .f32).view.loc (c : Thread nD τ) ↦[(Memref.whole cc0_scratch2 : Memref sig .tc .vmem S64x4096 .f32).view.set]{fullShare} f)
        ∗ semVal ((c : Thread nD τ), SemLoc.dma (SemArray.sem cc0_scratch3)) 0 ∗ owes (c : Thread nD τ) 0 W) : sProp 𝕄)
      ⊢ wp frame (wpE (defs₀ (F := F)) Variants.none c none) Set.univ (k0_part1 (F := F) i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3 k0_h1)
      (fun _ => iprop((arg1.view.loc (c : Thread nD τ) ↦[arg1.view.set]{fullShare} f1) ∗ owns (c : Thread nD τ) arg3 fullShare x3 ∗ owns (c : Thread nD τ) arg5 fullShare x5
        ∗ ((Memref.whole main_arg1 : Memref sig .tc .hbm S8000x4096 .i32).view.loc (c : Thread nD τ) ↦{fullShare} E)
        ∗ (∃ f : BufTy.Contents (Elt F) (Memref.whole cc0_scratch0 : Memref sig .tc .vmem S64x8192 .bf16).view.ty, ((Memref.whole cc0_scratch0 : Memref sig .tc .vmem S64x8192 .bf16).view.loc (c : Thread nD τ) ↦[(Memref.whole cc0_scratch0 : Memref sig .tc .vmem S64x8192 .bf16).view.set]{fullShare} f) ∗ ⌜(Memref.whole cc0_scratch0 : Memref sig .tc .vmem S64x8192 .bf16).view.read (Elt F) f = VecWindow.put ((Memref.whole cc0_scratch0 : Memref sig .tc .vmem S64x8192 .bf16).view.read (Elt F) f17) ![0, 0] S64x4096.size (k0_pay5 (emb0 (F := F) (arg1.view.read (Elt F) f1) hn E) x3 x5)⌝)
        ∗ (∃ f : BufTy.Contents (Elt F) (Memref.whole cc0_scratch1 : Memref sig .tc .vmem S64x4096 .i32).view.ty, (Memref.whole cc0_scratch1 : Memref sig .tc .vmem S64x4096 .i32).view.loc (c : Thread nD τ) ↦{fullShare} f) ∗ (∃ f : BufTy.Contents (Elt F) (Memref.whole cc0_scratch2 : Memref sig .tc .vmem S64x4096 .f32).view.ty, (Memref.whole cc0_scratch2 : Memref sig .tc .vmem S64x4096 .f32).view.loc (c : Thread nD τ) ↦[(Memref.whole cc0_scratch2 : Memref sig .tc .vmem S64x4096 .f32).view.set]{fullShare} f)
        ∗ semVal ((c : Thread nD τ), SemLoc.dma (SemArray.sem cc0_scratch3)) 0 ∗ (∃ W, owes (c : Thread nD τ) 0 W))) := by
  rw [k0_part1_eq_skeleton]
  unfold owns
  iintro ⟨H1, ⟨%f3, %hf3, H3⟩, ⟨%f5, %hf5, H5⟩, HA, H17, ⟨%f18, H18⟩, ⟨%f19, H19⟩, Hc, HO⟩
  subst hf3 hf5
  ihave H18' := (rows_split c f18).1 $$ H18
  icases H18' with ⟨HE, Hrest⟩
  ihave HA' := (toks_split c (arg1.view.read (Elt F) f1) hn E).1 $$ HA
  icases HA' with ⟨HAd, HS, HSr⟩
  ihave HE' := (show (bigSep Finset.univ (eBef (F := F) c f18) : sProp 𝕄) ⊢ bigSep (Ring.rangeSet k0_t1_loop.trips 0 k0_t1_loop.trips) (eBef (F := F) c f18) from by rw [Ring.rangeSet_univ]) $$ HE
  ihave HS' := (show (bigSep Finset.univ (sTok (F := F) c (arg1.view.read (Elt F) f1) hn E) : sProp 𝕄) ⊢ bigSep (Ring.rangeSet k0_t1_loop.trips 0 k0_t1_loop.trips) (sTok (F := F) c (arg1.view.read (Elt F) f1) hn E) from by rw [Ring.rangeSet_univ]) $$ HS
  imod (Transfers.batch_alloc' (Lvl := ℕ) (countersEmb (U := Pipeline.UD sig nD τ)) (c : Thread nD τ) () 512 (del (F := F) c (arg1.view.read (Elt F) f1) hn E f18) (sm := .dma (SemArray.sem cc0_scratch3)) (E := Set.univ)) $$ Hc with HB
  sl_unfold [k0_part1_skel]
  sl_exec
  sl_for (drainAt c arg1 f1 hn E f18) $$ [H1 HB HO]
  · intro k acc; exact drain_step c i arg1 harg1 arg3 harg3 arg4 harg4 arg5 harg5 arg6 harg6 arg7 harg7 arg8 harg8 arg9 harg9 arg10 harg10 arg11 harg11 arg12 harg12 arg13 harg13 arg14 harg14 arg15 harg15 arg16 harg16 k0_h1 f1 hn E f18 k acc
  · unfold drainAt
    rw [if_pos (by decide)]
    isplitl [H1]; · iexact H1
    isplitl [HO]; · iexists _; iexact HO
    iexact HB
  iintro %acc HL
  ihave HL' := (show drainAt c arg1 f1 hn E f18 k0_t2_loop.trips acc ⊢ iprop((arg1.view.loc (c : Thread nD τ) ↦[arg1.view.set]{fullShare} f1) ∗ (∃ W, owes (c : Thread nD τ) 0 W)
      ∗ semVal ((c : Thread nD τ), SemLoc.dma (SemArray.sem cc0_scratch3)) 0 ∗ bigSep Finset.univ (del (F := F) c (arg1.view.read (Elt F) f1) hn E f18)) from by
      unfold drainAt; rw [if_neg (by decide)]) $$ HL
  icases HL' with ⟨H1, ⟨%W', HO⟩, Hc, Hall⟩
  ihave Hall' := (show bigSep Finset.univ (del (F := F) c (arg1.view.read (Elt F) f1) hn E f18) ⊢ iprop(bigSep Finset.univ (eAft (F := F) c (arg1.view.read (Elt F) f1) hn E f18) ∗ bigSep Finset.univ (sTok (F := F) c (arg1.view.read (Elt F) f1) hn E)) from Entails.of_eq (BI.bigSep_sep Finset.univ (eAft (F := F) c (arg1.view.read (Elt F) f1) hn E f18) (sTok (F := F) c (arg1.view.read (Elt F) f1) hn E))) $$ Hall
  icases Hall' with ⟨HE, HS⟩
  ihave H18 := (rows_join c (arg1.view.read (Elt F) f1) hn E f18) $$ [HE Hrest]
  · isplitl [HE]; · iexact HE
    iexact Hrest
  ihave HA := (toks_split c (arg1.view.read (Elt F) f1) hn E).2 $$ [HAd HS HSr]
  · isplitl [HAd]; · iexact HAd
    isplitl [HS]; · iexact HS
    iexact HSr
  ihave H18s := (show ((Memref.whole cc0_scratch1 : Memref sig .tc .vmem S64x4096 .i32).view.loc (c : Thread nD τ) ↦{fullShare} words (arg1.view.read (Elt F) f1) hn E f18 : sProp 𝕄) ⊢ ((Memref.whole cc0_scratch1 : Memref sig .tc .vmem S64x4096 .i32).view.loc (c : Thread nD τ) ↦[(Memref.whole cc0_scratch1 : Memref sig .tc .vmem S64x4096 .i32).view.set]{fullShare} words (arg1.view.read (Elt F) f1) hn E f18) from by rw [View.set_whole]) $$ H18
  sl_exec
  sl_for (shiftAt c arg1 f1 hn E f18 ((Memref.whole cc0_scratch2 : Memref sig .tc .vmem S64x4096 .f32).view.writes (Elt F) f19 [⟨Rect.unit (s := S64x4096) ![60, 0] S4x4096.size inb_S64x4096_S4x4096_60_0, k0_pay3 (F := F)⟩])) $$ [H1 H18s H19]
  · intro k acc; exact shift_step c i arg1 harg1 arg3 harg3 arg4 harg4 arg5 harg5 arg6 harg6 arg7 harg7 arg8 harg8 arg9 harg9 arg10 harg10 arg11 harg11 arg12 harg12 arg13 harg13 arg14 harg14 arg15 harg15 arg16 harg16 k0_h1 f1 hn E f18 _ k acc
  · unfold shiftAt
    isplitl [H1]; · iexact H1
    isplitl [H18s]; · iexact H18s
    iexists _; isplitl [H19]; · iexact H19
    ipureintro
    intro y
    rw [if_neg (Nat.not_lt_zero _)]
  iintro %acc2 HL
  unfold shiftAt
  icases HL with ⟨H1, H18, ⟨%g, H19, %hg⟩⟩
  have hG : (Memref.whole cc0_scratch2 : Memref sig .tc .vmem S64x4096 .f32).view.read (Elt F) g = emb0 (F := F) (arg1.view.read (Elt F) f1) hn E := by
    funext (y : S64x4096.Idx)
    refine (hg y).trans ?_
    have hy0 : (y 0).val < 64 := (y 0).isLt
    have hy1 : (y 1).val < 4096 := (y 1).isLt
    by_cases hy : (y 0).val < 60
    · exact if_pos hy
    · refine (if_neg hy).trans ?_
      rw [View.read_writes_cons_put _ _ _ _ _ rfl]
      refine (put_in (s := S64x4096) _ _ _ _ y ?_).trans ?_
      · intro a; fin_cases a
        · show 60 ≤ (y 0).val ∧ (y 0).val < 60 + 4; omega
        · show 0 ≤ (y 1).val ∧ (y 1).val < 0 + 4096; omega
      · unfold emb0
        rw [dif_neg hy]
        congr 1
        funext a
        fin_cases a <;> rfl
  sl_exec
  sl_step
  isplitl [H1]; · iexact H1
  isplitl [H3]
  · iexists f3; isplitr; · ipureintro; rfl
    iexact H3
  isplitl [H5]
  · iexists f5; isplitr; · ipureintro; rfl
    iexact H5
  isplitl [HA]; · iexact HA
  isplitl [H17]
  · iexists _; isplitl [H17]; · iexact H17
    ipureintro
    rw [View.read_writes_cons_put _ _ _ _ _ rfl]
    rw [View.readAt_full, View.readAt_full]
    have hR : (Memref.whole cc0_scratch2 : Memref sig .tc .vmem S64x4096 .f32).view.readAt (Elt F) (Rect.unit (s := S64x4096) ![0, 0] S64x4096.size inb_S64x4096_S64x4096_0_0).toLoadRect g = emb0 (F := F) (arg1.view.read (Elt F) f1) hn E := by
      rw [← hG]; exact View.readAt_full (s := S64x4096) _ _ _
    rw [hR]; rfl
  isplitl [H18]
  · iexists _
    iapply (show ((Memref.whole cc0_scratch1 : Memref sig .tc .vmem S64x4096 .i32).view.loc (c : Thread nD τ) ↦[(Memref.whole cc0_scratch1 : Memref sig .tc .vmem S64x4096 .i32).view.set]{fullShare} words (arg1.view.read (Elt F) f1) hn E f18 : sProp 𝕄) ⊢ ((Memref.whole cc0_scratch1 : Memref sig .tc .vmem S64x4096 .i32).view.loc (c : Thread nD τ) ↦{fullShare} words (arg1.view.read (Elt F) f1) hn E f18) from by rw [View.set_whole])
    iexact H18
  isplitl [H19]; · iexists _; iexact H19
  isplitl [Hc]; · iexact Hc
  iexists _; iexact HO

end Cert.Qkv.Hand
-- ==== Proof.QkvBitsHead.lean ====
module

public import proofs.«01_k».proof.Proof.Gen.Qkv.Skeleton
public import proofs.«01_k».proof.Proof.QkvBitsInit
public import proofs.«01_k».proof.Proof.Awq
public import Idealize.ShloMosaic.Lib.Pipeline.FrameBody
public import Idealize.ShloMosaic.Lib.VecWindow
public import Idealize.ShloMosaic.Lib.Tactic

@[expose] public section

set_option maxRecDepth 65536

noncomputable section

namespace Cert.Qkv.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Qkv Cert.Qkv.Gen

variable {F : FTy → Type} [FloatOps F]

local notation "𝕄" => MT nD τ sig Unit (Elt F) ℕ (Pipeline.UD sig nD τ) ℕ

variable (c : Dev nD)

/-- The contents of the embedding table's array. -/
abbrev Tab (F : FTy → Type) := BufTy.Contents (Elt F) (Memref.whole main_arg1 : Memref sig .tc .hbm S8000x4096 .i32).view.ty

/-- What the body may use besides its windows: the embedding table, the two buffers of the row copies, the copies' semaphore at
    zero, and no debt. -/
def Side (E : Tab F) : sProp 𝕄 :=
  iprop(((Memref.whole main_arg1 : Memref sig .tc .hbm S8000x4096 .i32).view.loc (c : Thread nD τ) ↦{fullShare} E)
    ∗ (∃ f : BufTy.Contents (Elt F) (Memref.whole cc0_scratch1 : Memref sig .tc .vmem S64x4096 .i32).view.ty, (Memref.whole cc0_scratch1 : Memref sig .tc .vmem S64x4096 .i32).view.loc (c : Thread nD τ) ↦{fullShare} f)
    ∗ (∃ f : BufTy.Contents (Elt F) (Memref.whole cc0_scratch2 : Memref sig .tc .vmem S64x4096 .f32).view.ty, (Memref.whole cc0_scratch2 : Memref sig .tc .vmem S64x4096 .f32).view.loc (c : Thread nD τ) ↦[(Memref.whole cc0_scratch2 : Memref sig .tc .vmem S64x4096 .f32).view.set]{fullShare} f)
    ∗ semVal ((c : Thread nD τ), SemLoc.dma (SemArray.sem cc0_scratch3)) 0 ∗ (∃ W, owes (c : Thread nD τ) 0 W))

/-- The activations: the normalised embeddings beside the normalised second operand. -/
def acts (x1 : S60.Idx → BitVec 32) (hn : Named x1) (E : Tab F) (x3 : Vec F S64x1 .f32) (x4 : Vec F S64x4096 .bf16) (x5 x6 : Vec F S1x4096 .f32)
    (x17 : Vec F S64x8192 .bf16) : Vec F S64x8192 .bf16 :=
  VecWindow.put (VecWindow.put x17 ![0, 0] S64x4096.size (k0_pay5 (emb0 (F := F) x1 hn E) x3 x5)) ![0, 4096] S64x4096.size (k0_pay18 x4 x6)

/-- The activations at a point: computed at the first, kept at the others. -/
def actsAt (i : grid0.Coords) (x1 : S60.Idx → BitVec 32) (hn : Named x1) (E : Tab F) (x3 : Vec F S64x1 .f32) (x4 : Vec F S64x4096 .bf16) (x5 x6 : Vec F S1x4096 .f32)
    (x17 : Vec F S64x8192 .bf16) : Vec F S64x8192 .bf16 :=
  if k0_cond1 i = 1#1 then acts x1 hn E x3 x4 x5 x6 x17 else x17

set_option maxHeartbeats 4000000 in
/-- The head of the body, with the first group of the product. -/
theorem part6_run (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole) (x1 : Vec F S60 .i32) (hn : Named x1) (E : Tab F)
    (x3 : Vec F S64x1 .f32) (x4 : Vec F S64x4096 .bf16) (x5 x6 : Vec F S1x4096 .f32) (x11 : Vec F S4096x512 .i8) (x12 : Vec F S64x512 .bf16) (x13 : Vec F S64x512 .i8) (x17 : Vec F S64x8192 .bf16)
    (K : (Σ' (arg0 : BitVec 32) (v23 : FVec F S64x512 .f32) (v37 : FVec F S128x512 .bf16), FVec F S128x512 .bf16) → sProp 𝕄) :
    (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg11 fullShare x11 ∗ owns (c : Thread nD τ) arg12 fullShare x12 ∗ owns (c : Thread nD τ) arg13 fullShare x13 ∗ owns (c : Thread nD τ) (Memref.whole cc0_scratch0) fullShare x17 ∗ Side c E
        ∗ (∀ r, iprop(⌜r = ⟨BitVec.ofNat 32 (i 0).val,               k0_pay19 (View.ld x11 (Rect.unit (s := S4096x512) ![0, 0] S64x512.size inb_S4096x512_S64x512_0_0)) (View.ld x13 (Rect.unit (s := S64x512) ![0, 0] S1x512.size inb_S64x512_S1x512_0_0))                 (View.ld x12 (Rect.unit (s := S64x512) ![0, 0] S1x512.size inb_S64x512_S1x512_0_0)) (View.ld (actsAt i x1 hn E x3 x4 x5 x6 x17) (Rect.unit (s := S64x8192) ![0, 0] S64x128.size inb_S64x8192_S64x128_0_0)),               k0_pay20 (View.ld x11 (Rect.unit (s := S4096x512) ![64, 0] S64x512.size inb_S4096x512_S64x512_64_0)),               k0_pay21 (View.ld x13 (Rect.unit (s := S64x512) ![1, 0] S1x512.size inb_S64x512_S1x512_1_0))⟩⌝ ∗ owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg11 fullShare x11 ∗ owns (c : Thread nD τ) arg12 fullShare x12 ∗ owns (c : Thread nD τ) arg13 fullShare x13
            ∗ owns (c : Thread nD τ) (Memref.whole cc0_scratch0) fullShare (actsAt i x1 hn E x3 x4 x5 x6 x17) ∗ Side c E)
          -∗ K r)) : sProp 𝕄)
      ⊢ wp frame (wpE (defs₀ (F := F)) Variants.none c none) Set.univ (k0_part6 (F := F) i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3) K := by
  rw [k0_part6_eq_skeleton]
  unfold k0_part6_skel
  by_cases hc : k0_cond1 i = 1#1
  · have e : actsAt i x1 hn E x3 x4 x5 x6 x17 = acts x1 hn E x3 x4 x5 x6 x17 := if_pos hc
    rw [e]
    unfold owns Side
    iintro ⟨⟨%f1, %hf1, H1⟩, H3, ⟨%f4, %hf4, H4⟩, H5, ⟨%f6, %hf6, H6⟩, ⟨%f11, %hf11, H11⟩, ⟨%f12, %hf12, H12⟩, ⟨%f13, %hf13, H13⟩, ⟨%f17, %hf17, H17⟩, ⟨HA, H18, H19, Hs, ⟨%W, HO⟩⟩, Hk⟩
    subst hf1 hf4 hf6 hf11 hf12 hf13 hf17
    rw [dif_pos hc, wp_bind, wp_bind]
    iapply (wp_wand_r frame (wpE (defs₀ (F := F)) Variants.none c none) Set.univ)
    isplitl [H1 H3 H5 HA H17 H18 H19 Hs HO]
    · iapply (init_run c i arg1 harg1 arg3 harg3 arg4 harg4 arg5 harg5 arg6 harg6 arg7 harg7 arg8 harg8 arg9 harg9 arg10 harg10 arg11 harg11 arg12 harg12 arg13 harg13 arg14 harg14 arg15 harg15 arg16 harg16 hc f1 hn E x3 x5 f17 W)
      unfold owns
      isplitl [H1]; · iexact H1
      isplitl [H3]; · iexact H3
      isplitl [H5]; · iexact H5
      isplitl [HA]; · iexact HA
      isplitl [H17]; · iexact H17
      isplitl [H18]; · iexact H18
      isplitl [H19]; · iexact H19
      isplitl [Hs]; · iexact Hs
      iexact HO
    iintro %_ ⟨H1, H3, H5, HA, ⟨%g17, H17, %hg⟩, H18, H19, Hs, HO⟩
    sl_exec
    sl_step
    have hA : acts (arg1.view.read (Elt F) f1) hn E x3 (arg4.view.read (Elt F) f4) x5 (arg6.view.read (Elt F) f6) ((Memref.whole cc0_scratch0 : Memref sig .tc .vmem S64x8192 .bf16).view.read (Elt F) f17) = VecWindow.put ((Memref.whole cc0_scratch0 : Memref sig .tc .vmem S64x8192 .bf16).view.read (Elt F) g17) ![0, 4096] S64x4096.size (k0_pay18 (arg4.view.read (Elt F) f4) (arg6.view.read (Elt F) f6)) := by
      rw [hg]; rfl
    have hld : View.ld (acts (arg1.view.read (Elt F) f1) hn E x3 (arg4.view.read (Elt F) f4) x5 (arg6.view.read (Elt F) f6) ((Memref.whole cc0_scratch0 : Memref sig .tc .vmem S64x8192 .bf16).view.read (Elt F) f17)) (Rect.unit (s := S64x8192) ![0, 0] S64x128.size inb_S64x8192_S64x128_0_0) = part6_run.sl.v22 g17 := by
      rw [hA]
      funext (y : S64x128.Idx)
      refine (put_out (s := S64x8192) _ _ _ _ _ (fun h => ?_)).trans ?_
      · have h2 : 4096 ≤ 0 + 1 * (y 1).val := (h 1).1
        have : (y 1).val < 128 := (y 1).isLt
        omega
      · rfl
    rw [hld]
    iapply Hk
    isplitr; · ipureintro; rfl
    unfold owns
    isplitl [H1]
    · iexists f1; isplitr; · ipureintro; rfl
      iexact H1
    isplitl [H3]; · iexact H3
    isplitl [H4]
    · iexists f4; isplitr; · ipureintro; rfl
      iexact H4
    isplitl [H5]; · iexact H5
    isplitl [H6]
    · iexists f6; isplitr; · ipureintro; rfl
      iexact H6
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H17]
    · iexists _; isplitr; swap; · iexact H17
      ipureintro
      have e4 : part6_run.sl.r c arg4 f4 = arg4.view.read (Elt F) f4 := View.readAt_full _ _ _
      have e6 : arg6.view.readAt (Elt F) (Rect.unit (s := S1x4096) ![0, 0] S1x4096.size inb_S1x4096_S1x4096_0_0).toLoadRect f6 = arg6.view.read (Elt F) f6 := View.readAt_full _ _ _
      rw [View.read_writes_cons_put _ _ _ _ _ rfl, e4, e6, hA]
      rfl
    isplitl [HA]; · iexact HA
    isplitl [H18]; · iexact H18
    isplitl [H19]; · iexact H19
    isplitl [Hs]; · iexact Hs
    iexact HO
  · have e : actsAt i x1 hn E x3 x4 x5 x6 x17 = x17 := if_neg hc
    rw [e]
    unfold owns
    iintro ⟨H1, H3, H4, H5, H6, ⟨%f11, %hf11, H11⟩, ⟨%f12, %hf12, H12⟩, ⟨%f13, %hf13, H13⟩, ⟨%f17, %hf17, H17⟩, HS, Hk⟩
    subst hf11 hf12 hf13 hf17
    sl_exec (disch := first | sl_exact hc)
    sl_step
    iapply Hk
    isplitr; · ipureintro; rfl
    isplitl [H1]; · iexact H1
    isplitl [H3]; · iexact H3
    isplitl [H4]; · iexact H4
    isplitl [H5]; · iexact H5
    isplitl [H6]; · iexact H6
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H17]
    · iexists f17; isplitr; · ipureintro; rfl
      iexact H17
    iexact HS

end Cert.Qkv.Hand
-- ==== Proof.QkvBitsRun.lean ====
module

public import proofs.«01_k».proof.Proof.Gen.Qkv.Skeleton
public import proofs.«01_k».proof.Proof.QkvBitsHead
public import proofs.«01_k».proof.Proof.Awq
public import Idealize.ShloMosaic.Lib.Pipeline.FrameBody
public import Idealize.ShloMosaic.Lib.VecWindow
public import Idealize.ShloMosaic.Lib.Tactic

@[expose] public section

set_option maxRecDepth 65536

noncomputable section

namespace Cert.Qkv.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Qkv Cert.Qkv.Gen

variable {F : FTy → Type} [FloatOps F]

local notation "𝕄" => MT nD τ sig Unit (Elt F) ℕ (Pipeline.UD sig nD τ) ℕ

variable (c : Dev nD)

/-! ## The product and the heads -/

theorem inb_w (g : ℕ) : ∀ a, (![64 * (g % 64), 0] : Fin 2 → ℕ) a + S64x512.size a ≤ S4096x512.size a := by
  have h := Nat.mod_lt g (show 0 < 64 by decide)
  intro a; fin_cases a <;> simp <;> omega

theorem inb_z (g : ℕ) : ∀ a, (![g % 64, 0] : Fin 2 → ℕ) a + S1x512.size a ≤ S64x512.size a := by
  have h := Nat.mod_lt g (show 0 < 64 by decide)
  intro a; fin_cases a <;> simp <;> omega

theorem inb_x (g : ℕ) : ∀ a, (![0, 128 * (g % 64)] : Fin 2 → ℕ) a + S64x128.size a ≤ S64x8192.size a := by
  have h := Nat.mod_lt g (show 0 < 64 by decide)
  intro a; fin_cases a <;> simp <;> omega

/-- Group `g` of the product of the activations with a block of packed weights. -/
def part (x : Vec F S64x8192 .bf16) (w : Vec F S4096x512 .i8) (s : Vec F S64x512 .bf16) (z : Vec F S64x512 .i8) (g : ℕ) :
    FVec F S64x512 .f32 :=
  Awq.grp (View.ld w (Rect.unit (s := S4096x512) ![64 * (g % 64), 0] S64x512.size (inb_w g)))
    (View.ld z (Rect.unit (s := S64x512) ![g % 64, 0] S1x512.size (inb_z g)))
    (View.ld s (Rect.unit (s := S64x512) ![g % 64, 0] S1x512.size (inb_z g)))
    (View.ld x (Rect.unit (s := S64x8192) ![0, 128 * (g % 64)] S64x128.size (inb_x g)))

/-- The product of the activations with a block of packed weights: four heads of 128 columns. -/
def mm (x : Vec F S64x8192 .bf16) (w : Vec F S4096x512 .i8) (s : Vec F S64x512 .bf16) (z : Vec F S64x512 .i8) : FVec F S64x512 .f32 :=
  Awq.acc (part x w s z) 63

/-- One of the four heads. -/
def headOf (A : FVec F S64x512 .f32) (n : Fin 4) : FVec F S64x128 .f32 := fun y =>
  A (ix2 (y 0) ⟨128 * n.val + (y 1).val, by have : (y 1).val < 128 := (y 1).isLt; have := n.isLt; omega⟩)

theorem head_eq (A : FVec F S64x512 .f32) (n : Fin 4) (h : S64x512.Slices (![0, 128 * n.val] : Fin 2 → ℕ) S64x128) :
    extractStridedSlice S64x128 ![0, 128 * n.val] A h = headOf A n := by
  funext (y : S64x128.Idx)
  unfold extractStridedSlice headOf
  congr 1
  funext a
  fin_cases a
  · exact Fin.ext (Nat.zero_add _)
  · rfl

/-- Four blocks of 128 columns side by side. -/
def tile {α : Type} (w : Fin 4 → S64x128.Idx → α) : S64x512.Idx → α := fun y =>
  w ⟨(y 1).val / 128, by have : (y 1).val < 512 := (y 1).isLt; omega⟩ (ix2 (y 0) ⟨(y 1).val % 128, Nat.mod_lt _ (by decide)⟩)

theorem put_tile {α : Type} (X : S64x512.Idx → α) (w : Fin 4 → S64x128.Idx → α) :
    VecWindow.put (s := S64x512) (VecWindow.put (s := S64x512) (VecWindow.put (s := S64x512) (VecWindow.put (s := S64x512) X ![0, 0] S64x128.size (w 0)) ![0, 128] S64x128.size (w 1)) ![0, 256] S64x128.size (w 2)) ![0, 384] S64x128.size (w 3)
      = tile w := by
  funext (y : S64x512.Idx)
  have h0 : (y 0).val < 64 := (y 0).isLt
  have h1 : (y 1).val < 512 := (y 1).isLt
  have hin : ∀ n : ℕ, 128 * n ≤ (y 1).val → (y 1).val < 128 * n + 128 → ∀ a : Fin 2, (![0, 128 * n] : Fin 2 → ℕ) a ≤ (y a).val ∧ (y a).val < (![0, 128 * n] : Fin 2 → ℕ) a + S64x128.size a := by
    intro n hl hu a; fin_cases a
    · exact ⟨Nat.zero_le _, by show (y 0).val < 0 + 64; omega⟩
    · exact ⟨hl, hu⟩
  have hout : ∀ n : ℕ, (y 1).val < 128 * n → ¬ ∀ a : Fin 2, (![0, 128 * n] : Fin 2 → ℕ) a ≤ (y a).val ∧ (y a).val < (![0, 128 * n] : Fin 2 → ℕ) a + S64x128.size a := by
    intro n hl h
    have : 128 * n ≤ (y 1).val := (h 1).1
    omega
  have hval : ∀ (n : Fin 4) (z : S64x128.Idx), (y 1).val / 128 = n.val → (z 0).val = (y 0).val → (z 1).val = (y 1).val - 128 * n.val → w n z = tile w y := by
    intro n z hn hz0 hz1
    unfold tile
    have e1 : (⟨(y 1).val / 128, by omega⟩ : Fin 4) = n := Fin.ext hn
    rw [e1]
    congr 1
    funext a
    fin_cases a
    · exact Fin.ext hz0
    · refine Fin.ext (hz1.trans ?_)
      show (y 1).val - 128 * n.val = (y 1).val % 128
      omega
  by_cases c3 : 384 ≤ (y 1).val
  · exact (put_in (s := S64x512) _ _ _ _ y (hin 3 (by omega) (by omega))).trans (hval 3 _ (by show (y 1).val / 128 = 3; omega) rfl rfl)
  refine (put_out (s := S64x512) _ _ _ _ y (hout 3 (by omega))).trans ?_
  by_cases c2 : 256 ≤ (y 1).val
  · exact (put_in (s := S64x512) _ _ _ _ y (hin 2 (by omega) (by omega))).trans (hval 2 _ (by show (y 1).val / 128 = 2; omega) rfl rfl)
  refine (put_out (s := S64x512) _ _ _ _ y (hout 2 (by omega))).trans ?_
  by_cases c1 : 128 ≤ (y 1).val
  · exact (put_in (s := S64x512) _ _ _ _ y (hin 1 (by omega) (by omega))).trans (hval 1 _ (by show (y 1).val / 128 = 1; omega) rfl rfl)
  refine (put_out (s := S64x512) _ _ _ _ y (hout 1 (by omega))).trans ?_
  exact (put_in (s := S64x512) _ _ _ _ y (hin 0 (by omega) (by omega))).trans (hval 0 _ (by show (y 1).val / 128 = 0; omega) rfl rfl)

/-- The entry of the scales that head `n` of point `i` takes, the points counted from `b`. -/
def sc (x : Vec F S8 .f32) (b : ℕ) (i : grid0.Coords) (n : Fin 4) : Elt F .f32 :=
  x (ix1 ⟨(4 * ((i 0).val - b) + n.val) % 8, Nat.mod_lt _ (by decide)⟩)

theorem cond3_lt (i : grid0.Coords) (h : k0_cond3 i = 1#1) : 8 ≤ (i 0).val ∧ (i 0).val < 10 := by
  have hi : (i 0).val < 12 := (i 0).isLt
  unfold k0_cond3 at h
  generalize (i 0).val = k at h hi
  interval_cases k <;> first | (exfalso; revert h; decide) | exact ⟨by decide, by decide⟩

theorem cond4_lt (i : grid0.Coords) (h : k0_cond4 i = 1#1) : 10 ≤ (i 0).val ∧ (i 0).val < 12 := by
  have hi : (i 0).val < 12 := (i 0).isLt
  unfold k0_cond4 at h
  generalize (i 0).val = k at h hi
  interval_cases k <;> first | (exfalso; revert h; decide) | exact ⟨by decide, by decide⟩

theorem off9_val (i : grid0.Coords) (h : k0_cond3 i = 1#1) (n : Fin 4) : k0_off9 i (BitVec.ofNat 32 n.val) 0 = (4 * ((i 0).val - 8) + n.val) % 8 := by
  obtain ⟨h1, h2⟩ := cond3_lt i h
  unfold k0_off9
  generalize (i 0).val = k at h1 h2
  interval_cases k <;> fin_cases n <;> decide

theorem off10_val (i : grid0.Coords) (h : k0_cond4 i = 1#1) (n : Fin 4) : k0_off10 i (BitVec.ofNat 32 n.val) 0 = (4 * ((i 0).val - 10) + n.val) % 8 := by
  obtain ⟨h1, h2⟩ := cond4_lt i h
  unfold k0_off10
  generalize (i 0).val = k at h1 h2
  interval_cases k <;> fin_cases n <;> decide

/-- A load of one scale reads the entry at its offset. -/
theorem sc_eq (m : Memref sig .tc .smem S8 .f32) (f : BufTy.Contents (Elt F) m.view.ty) (off : Fin 1 → ℕ) (hb : ∀ a, off a + S1.size a ≤ S8.size a) (b : ℕ) (i : grid0.Coords) (n : Fin 4)
    (h : off 0 = (4 * ((i 0).val - b) + n.val) % 8) (y : S1.Idx) :
    m.view.readAt (Elt F) (Rect.unit (s := S8) off S1.size hb).toLoadRect f y = sc (m.view.read (Elt F) f) b i n := by
  unfold sc
  refine congrArg (m.view.read (Elt F) f) (funext fun a => ?_)
  have ha : a = 0 := Subsingleton.elim _ _
  subst ha
  have hy : (y 0).val < 1 := (y 0).isLt
  refine Fin.ext ?_
  show off 0 + 1 * (y 0).val = (4 * ((i 0).val - b) + n.val) % 8
  omega

/-- A block of the first result: the four heads turned. -/
def qblk (A : FVec F S64x512 .f32) (x7 x8 : Vec F S64x128 .f32) : Vec F S64x512 .bf16 :=
  tile fun n => k0_pay6 (headOf A n) x7 x8

/-- A block of the second result: the codes of the four heads turned. -/
def kblk (i : grid0.Coords) (A : FVec F S64x512 .f32) (x7 x8 : Vec F S64x128 .f32) (x9 : Vec F S8 .f32) : Vec F S64x512 .fp8e4m3 :=
  tile fun n => k0_pay10 (headOf A n) x7 x8 (sc x9 8 i n)

/-- A block of the third result: the codes of the four heads. -/
def vblk (i : grid0.Coords) (A : FVec F S64x512 .f32) (x10 : Vec F S8 .f32) : Vec F S64x512 .fp8e4m3 :=
  tile fun n => k0_pay15 (headOf A n) (sc x10 10 i n)

set_option maxHeartbeats 1000000 in
/-- The body at a point that stores to the first result. -/
theorem run_q (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole)
    (h2 : k0_cond2 i = 1#1) (h3 : ¬ k0_cond3 i = 1#1) (h4 : ¬ k0_cond4 i = 1#1) (x1 : Vec F S60 .i32) (hn : Named x1) (E : Tab F)
    (x3 : Vec F S64x1 .f32) (x4 : Vec F S64x4096 .bf16) (x5 x6 : Vec F S1x4096 .f32) (x7 : Vec F S64x128 .f32) (x8 : Vec F S64x128 .f32) (x11 : Vec F S4096x512 .i8) (x12 : Vec F S64x512 .bf16) (x13 : Vec F S64x512 .i8) (x17 : Vec F S64x8192 .bf16)
    (Y : Vec F S64x512 .bf16) (K : PUnit → sProp 𝕄) :
    (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg12 fullShare x12 ∗ owns (c : Thread nD τ) arg13 fullShare x13
        ∗ owns (c : Thread nD τ) arg14 fullShare Y ∗ owns (c : Thread nD τ) (Memref.whole cc0_scratch0) fullShare x17 ∗ Side c E
        ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg12 fullShare x12 ∗ owns (c : Thread nD τ) arg13 fullShare x13 ∗ owns (c : Thread nD τ) arg14 fullShare (qblk (mm (actsAt i x1 hn E x3 x4 x5 x6 x17) x11 x12 x13) x7 x8)
            ∗ owns (c : Thread nD τ) (Memref.whole cc0_scratch0) fullShare (actsAt i x1 hn E x3 x4 x5 x6 x17) ∗ Side c E) -∗ K ⟨⟩)) : sProp 𝕄)
      ⊢ wp frame (wpE (defs₀ (F := F)) Variants.none c none) Set.univ (cc0_qkv (F := F) i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3) K := by
  rw [cc0_qkv_eq_skeleton]
  unfold cc0_qkv_skel
  simp only [k0_part41_eq_skeleton, k0_part2_eq_skeleton, k0_part3_eq_skeleton, k0_part4_eq_skeleton, k0_part5_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  unfold k0_part41_skel
  rw [wp_bind, wp_bind]
  iintro ⟨H1, H3, H4, H5, H6, H7, H8, H11, H12, H13, HY, H17, HS, Hk⟩
  iapply (part6_run c i arg1 harg1 arg3 harg3 arg4 harg4 arg5 harg5 arg6 harg6 arg7 harg7 arg8 harg8 arg9 harg9 arg10 harg10 arg11 harg11 arg12 harg12 arg13 harg13 arg14 harg14 arg15 harg15 arg16 harg16 x1 hn E x3 x4 x5 x6 x11 x12 x13 x17)
  isplitl [H1]; · iexact H1
  isplitl [H3]; · iexact H3
  isplitl [H4]; · iexact H4
  isplitl [H5]; · iexact H5
  isplitl [H6]; · iexact H6
  isplitl [H11]; · iexact H11
  isplitl [H12]; · iexact H12
  isplitl [H13]; · iexact H13
  isplitl [H17]; · iexact H17
  isplitl [HS]; · iexact HS
  iintro %r ⟨%hr, H1, H3, H4, H5, H6, H11, H12, H13, H17, HS⟩
  subst hr
  generalize actsAt i x1 hn E x3 x4 x5 x6 x17 = X
  unfold owns
  icases H11 with ⟨%f11, %hf11, H11⟩
  icases H12 with ⟨%f12, %hf12, H12⟩
  icases H13 with ⟨%f13, %hf13, H13⟩
  icases H17 with ⟨%f17, %hf17, H17⟩
  icases HY with ⟨%fY, %hfY, HY⟩
  icases H7 with ⟨%f7, %hf7, H7⟩
  icases H8 with ⟨%f8, %hf8, H8⟩
  subst hf11 hf12 hf13 hf17 hfY hf7 hf8
  sl_exec (disch := first | sl_exact h2 | sl_exact h3 | sl_exact h4)
  sl_step
  have a0 : run_q.sl.r_80 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 0 := by
    unfold run_q.sl.r_80 k0_pay106
    refine (congrArg (fun A : FVec F S64x512 .f32 => extractStridedSlice (s := S64x512) S64x128 ![0, 0] A slices_S64x512_o0_0_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 0 _)
    rfl
  have a1 : run_q.sl.r_81 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 1 := by
    unfold run_q.sl.r_81 k0_pay107
    refine (congrArg (fun A : FVec F S64x512 .f32 => extractStridedSlice (s := S64x512) S64x128 ![0, 128] A slices_S64x512_o0_128_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 1 _)
    rfl
  have a2 : run_q.sl.r_82 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 2 := by
    unfold run_q.sl.r_82 k0_pay108
    refine (congrArg (fun A : FVec F S64x512 .f32 => extractStridedSlice (s := S64x512) S64x128 ![0, 256] A slices_S64x512_o0_256_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 2 _)
    rfl
  have a3 : run_q.sl.r_83 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 3 := by
    unfold run_q.sl.r_83 k0_pay109
    refine (congrArg (fun A : FVec F S64x512 .f32 => extractStridedSlice (s := S64x512) S64x128 ![0, 384] A slices_S64x512_o0_384_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 3 _)
    rfl
  have e7 : arg7.view.readAt (Elt F) (Rect.unit (s := S64x128) ![0, 0] S64x128.size inb_S64x128_S64x128_0_0).toLoadRect f7 = arg7.view.read (Elt F) f7 := View.readAt_full _ _ _
  have e8 : arg8.view.readAt (Elt F) (Rect.unit (s := S64x128) ![0, 0] S64x128.size inb_S64x128_S64x128_0_0).toLoadRect f8 = arg8.view.read (Elt F) f8 := View.readAt_full _ _ _
  have b3 : run_q.sl.r_84 c arg7 arg8 arg11 arg12 arg13 f11 f12 f13 f17 f7 f8 = k0_pay9 (run_q.sl.r_83 c arg11 arg12 arg13 f11 f12 f13 f17) (arg7.view.read (Elt F) f7) (arg8.view.read (Elt F) f8) := by
    rw [← e7, ← e8]; rfl
  iapply Hk
  isplitl [H1]; · iexact H1
  isplitl [H3]; · iexact H3
  isplitl [H4]; · iexact H4
  isplitl [H5]; · iexact H5
  isplitl [H6]; · iexact H6
  isplitl [H7]
  · iexists f7; isplitr; · ipureintro; rfl
    iexact H7
  isplitl [H8]
  · iexists f8; isplitr; · ipureintro; rfl
    iexact H8
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [HY]
  · iexists _; isplitr; swap; · iexact HY
    ipureintro
    rw [View.read_writes_cons_put _ _ _ _ _ rfl, View.read_writes_cons_put _ _ _ _ _ rfl, View.read_writes_cons_put _ _ _ _ _ rfl, View.read_writes_cons_put _ _ _ _ _ rfl]
    rw [b3, a0, a1, a2, a3, e7, e8]
    exact put_tile _ (fun n => k0_pay6 (headOf (mm ((Memref.whole cc0_scratch0 : Memref sig .tc .vmem S64x8192 .bf16).view.read (Elt F) f17) (arg11.view.read (Elt F) f11) (arg12.view.read (Elt F) f12) (arg13.view.read (Elt F) f13)) n) (arg7.view.read (Elt F) f7) (arg8.view.read (Elt F) f8))
  isplitl [H17]
  · iexists f17; isplitr; · ipureintro; rfl
    iexact H17
  iexact HS

set_option maxHeartbeats 1000000 in
/-- The body at a point that stores to the second result. -/
theorem run_k (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole)
    (h2 : ¬ k0_cond2 i = 1#1) (h3 : k0_cond3 i = 1#1) (h4 : ¬ k0_cond4 i = 1#1) (x1 : Vec F S60 .i32) (hn : Named x1) (E : Tab F)
    (x3 : Vec F S64x1 .f32) (x4 : Vec F S64x4096 .bf16) (x5 x6 : Vec F S1x4096 .f32) (x7 : Vec F S64x128 .f32) (x8 : Vec F S64x128 .f32) (x9 : Vec F S8 .f32) (x11 : Vec F S4096x512 .i8) (x12 : Vec F S64x512 .bf16) (x13 : Vec F S64x512 .i8) (x17 : Vec F S64x8192 .bf16)
    (Y : Vec F S64x512 .fp8e4m3) (K : PUnit → sProp 𝕄) :
    (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg13 fullShare x13
        ∗ owns (c : Thread nD τ) arg15 fullShare Y ∗ owns (c : Thread nD τ) (Memref.whole cc0_scratch0) fullShare x17 ∗ Side c E
        ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg13 fullShare x13 ∗ owns (c : Thread nD τ) arg15 fullShare (kblk i (mm (actsAt i x1 hn E x3 x4 x5 x6 x17) x11 x12 x13) x7 x8 x9)
            ∗ owns (c : Thread nD τ) (Memref.whole cc0_scratch0) fullShare (actsAt i x1 hn E x3 x4 x5 x6 x17) ∗ Side c E) -∗ K ⟨⟩)) : sProp 𝕄)
      ⊢ wp frame (wpE (defs₀ (F := F)) Variants.none c none) Set.univ (cc0_qkv (F := F) i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3) K := by
  rw [cc0_qkv_eq_skeleton]
  unfold cc0_qkv_skel
  simp only [k0_part41_eq_skeleton, k0_part2_eq_skeleton, k0_part3_eq_skeleton, k0_part4_eq_skeleton, k0_part5_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  unfold k0_part41_skel
  rw [wp_bind, wp_bind]
  iintro ⟨H1, H3, H4, H5, H6, H7, H8, H9, H11, H12, H13, HY, H17, HS, Hk⟩
  iapply (part6_run c i arg1 harg1 arg3 harg3 arg4 harg4 arg5 harg5 arg6 harg6 arg7 harg7 arg8 harg8 arg9 harg9 arg10 harg10 arg11 harg11 arg12 harg12 arg13 harg13 arg14 harg14 arg15 harg15 arg16 harg16 x1 hn E x3 x4 x5 x6 x11 x12 x13 x17)
  isplitl [H1]; · iexact H1
  isplitl [H3]; · iexact H3
  isplitl [H4]; · iexact H4
  isplitl [H5]; · iexact H5
  isplitl [H6]; · iexact H6
  isplitl [H11]; · iexact H11
  isplitl [H12]; · iexact H12
  isplitl [H13]; · iexact H13
  isplitl [H17]; · iexact H17
  isplitl [HS]; · iexact HS
  iintro %r ⟨%hr, H1, H3, H4, H5, H6, H11, H12, H13, H17, HS⟩
  subst hr
  generalize actsAt i x1 hn E x3 x4 x5 x6 x17 = X
  unfold owns
  icases H11 with ⟨%f11, %hf11, H11⟩
  icases H12 with ⟨%f12, %hf12, H12⟩
  icases H13 with ⟨%f13, %hf13, H13⟩
  icases H17 with ⟨%f17, %hf17, H17⟩
  icases HY with ⟨%fY, %hfY, HY⟩
  icases H7 with ⟨%f7, %hf7, H7⟩
  icases H8 with ⟨%f8, %hf8, H8⟩
  icases H9 with ⟨%f9, %hf9, H9⟩
  subst hf11 hf12 hf13 hf17 hfY hf7 hf8 hf9
  sl_exec (disch := first | sl_exact h2 | sl_exact h3 | sl_exact h4)
  sl_step
  have a0 : run_k.sl.r_80 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 0 := by
    unfold run_k.sl.r_80 k0_pay106
    refine (congrArg (fun A : FVec F S64x512 .f32 => extractStridedSlice (s := S64x512) S64x128 ![0, 0] A slices_S64x512_o0_0_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 0 _)
    rfl
  have a1 : run_k.sl.r_81 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 1 := by
    unfold run_k.sl.r_81 k0_pay107
    refine (congrArg (fun A : FVec F S64x512 .f32 => extractStridedSlice (s := S64x512) S64x128 ![0, 128] A slices_S64x512_o0_128_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 1 _)
    rfl
  have a2 : run_k.sl.r_82 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 2 := by
    unfold run_k.sl.r_82 k0_pay108
    refine (congrArg (fun A : FVec F S64x512 .f32 => extractStridedSlice (s := S64x512) S64x128 ![0, 256] A slices_S64x512_o0_256_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 2 _)
    rfl
  have a3 : run_k.sl.r_83 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 3 := by
    unfold run_k.sl.r_83 k0_pay109
    refine (congrArg (fun A : FVec F S64x512 .f32 => extractStridedSlice (s := S64x512) S64x128 ![0, 384] A slices_S64x512_o0_384_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 3 _)
    rfl
  have e7 : arg7.view.readAt (Elt F) (Rect.unit (s := S64x128) ![0, 0] S64x128.size inb_S64x128_S64x128_0_0).toLoadRect f7 = arg7.view.read (Elt F) f7 := View.readAt_full _ _ _
  have e8 : arg8.view.readAt (Elt F) (Rect.unit (s := S64x128) ![0, 0] S64x128.size inb_S64x128_S64x128_0_0).toLoadRect f8 = arg8.view.read (Elt F) f8 := View.readAt_full _ _ _
  have s0 : run_k.sl.r_84 c i arg9 h3 f9 = sc (arg9.view.read (Elt F) f9) 8 i 0 := sc_eq arg9 f9 _ _ 8 i 0 (off9_val i h3 0) _
  have s1 : run_k.sl.r_85 c i arg9 h3 f9 = sc (arg9.view.read (Elt F) f9) 8 i 1 := sc_eq arg9 f9 _ _ 8 i 1 (off9_val i h3 1) _
  have s2 : run_k.sl.r_87 c i arg9 h3 f9 = sc (arg9.view.read (Elt F) f9) 8 i 2 := sc_eq arg9 f9 _ _ 8 i 2 (off9_val i h3 2) _
  have s3 : run_k.sl.r_88 c i arg9 h3 f9 = sc (arg9.view.read (Elt F) f9) 8 i 3 := sc_eq arg9 f9 _ _ 8 i 3 (off9_val i h3 3) _
  have b1 : run_k.sl.r_86 c i arg7 arg8 arg9 arg11 arg12 arg13 h3 f11 f12 f13 f17 f7 f8 f9 = k0_pay11 (run_k.sl.r_81 c arg11 arg12 arg13 f11 f12 f13 f17) (arg7.view.read (Elt F) f7) (arg8.view.read (Elt F) f8) (run_k.sl.r_85 c i arg9 h3 f9) := by
    rw [← e7, ← e8]; rfl
  have b3 : run_k.sl.r_89 c i arg7 arg8 arg9 arg11 arg12 arg13 h3 f11 f12 f13 f17 f7 f8 f9 = k0_pay13 (run_k.sl.r_83 c arg11 arg12 arg13 f11 f12 f13 f17) (arg7.view.read (Elt F) f7) (arg8.view.read (Elt F) f8) (run_k.sl.r_88 c i arg9 h3 f9) := by
    rw [← e7, ← e8]; rfl
  iapply Hk
  isplitl [H1]; · iexact H1
  isplitl [H3]; · iexact H3
  isplitl [H4]; · iexact H4
  isplitl [H5]; · iexact H5
  isplitl [H6]; · iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [HY]
  · iexists _; isplitr; swap; · iexact HY
    ipureintro
    rw [View.read_writes_cons_put _ _ _ _ _ rfl, View.read_writes_cons_put _ _ _ _ _ rfl, View.read_writes_cons_put _ _ _ _ _ rfl, View.read_writes_cons_put _ _ _ _ _ rfl]
    rw [b1, b3, a0, a1, a2, a3, s0, s1, s2, s3, e7, e8]
    exact put_tile _ (fun n => k0_pay10 (headOf (mm ((Memref.whole cc0_scratch0 : Memref sig .tc .vmem S64x8192 .bf16).view.read (Elt F) f17) (arg11.view.read (Elt F) f11) (arg12.view.read (Elt F) f12) (arg13.view.read (Elt F) f13)) n) (arg7.view.read (Elt F) f7) (arg8.view.read (Elt F) f8) (sc (arg9.view.read (Elt F) f9) 8 i n))
  isplitl [H17]
  · iexists f17; isplitr; · ipureintro; rfl
    iexact H17
  iexact HS

set_option maxHeartbeats 1000000 in
/-- The body at a point that stores to the third result. -/
theorem run_v (i : grid0.Coords) (arg1 : Memref sig .tc .smem S60 .i32) (harg1 : arg1.IsWhole) (arg3 : Memref sig .tc .vmem S64x1 .f32) (harg3 : arg3.IsWhole) (arg4 : Memref sig .tc .vmem S64x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x128 .f32) (harg7 : arg7.IsWhole) (arg8 : Memref sig .tc .vmem S64x128 .f32) (harg8 : arg8.IsWhole) (arg9 : Memref sig .tc .smem S8 .f32) (harg9 : arg9.IsWhole) (arg10 : Memref sig .tc .smem S8 .f32) (harg10 : arg10.IsWhole) (arg11 : Memref sig .tc .vmem S4096x512 .i8) (harg11 : arg11.IsWhole) (arg12 : Memref sig .tc .vmem S64x512 .bf16) (harg12 : arg12.IsWhole) (arg13 : Memref sig .tc .vmem S64x512 .i8) (harg13 : arg13.IsWhole) (arg14 : Memref sig .tc .vmem S64x512 .bf16) (harg14 : arg14.IsWhole) (arg15 : Memref sig .tc .vmem S64x512 .fp8e4m3) (harg15 : arg15.IsWhole) (arg16 : Memref sig .tc .vmem S64x512 .fp8e4m3) (harg16 : arg16.IsWhole)
    (h2 : ¬ k0_cond2 i = 1#1) (h3 : ¬ k0_cond3 i = 1#1) (h4 : k0_cond4 i = 1#1) (x1 : Vec F S60 .i32) (hn : Named x1) (E : Tab F)
    (x3 : Vec F S64x1 .f32) (x4 : Vec F S64x4096 .bf16) (x5 x6 : Vec F S1x4096 .f32) (x10 : Vec F S8 .f32) (x11 : Vec F S4096x512 .i8) (x12 : Vec F S64x512 .bf16) (x13 : Vec F S64x512 .i8) (x17 : Vec F S64x8192 .bf16)
    (Y : Vec F S64x512 .fp8e4m3) (K : PUnit → sProp 𝕄) :
    (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg10 fullShare x10 ∗ owns (c : Thread nD τ) arg11 fullShare x11 ∗ owns (c : Thread nD τ) arg12 fullShare x12 ∗ owns (c : Thread nD τ) arg13 fullShare x13
        ∗ owns (c : Thread nD τ) arg16 fullShare Y ∗ owns (c : Thread nD τ) (Memref.whole cc0_scratch0) fullShare x17 ∗ Side c E
        ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg16 fullShare (vblk i (mm (actsAt i x1 hn E x3 x4 x5 x6 x17) x11 x12 x13) x10)
            ∗ owns (c : Thread nD τ) (Memref.whole cc0_scratch0) fullShare (actsAt i x1 hn E x3 x4 x5 x6 x17) ∗ Side c E) -∗ K ⟨⟩)) : sProp 𝕄)
      ⊢ wp frame (wpE (defs₀ (F := F)) Variants.none c none) Set.univ (cc0_qkv (F := F) i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) cc0_scratch3) K := by
  rw [cc0_qkv_eq_skeleton]
  unfold cc0_qkv_skel
  simp only [k0_part41_eq_skeleton, k0_part2_eq_skeleton, k0_part3_eq_skeleton, k0_part4_eq_skeleton, k0_part5_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  unfold k0_part41_skel
  rw [wp_bind, wp_bind]
  iintro ⟨H1, H3, H4, H5, H6, H10, H11, H12, H13, HY, H17, HS, Hk⟩
  iapply (part6_run c i arg1 harg1 arg3 harg3 arg4 harg4 arg5 harg5 arg6 harg6 arg7 harg7 arg8 harg8 arg9 harg9 arg10 harg10 arg11 harg11 arg12 harg12 arg13 harg13 arg14 harg14 arg15 harg15 arg16 harg16 x1 hn E x3 x4 x5 x6 x11 x12 x13 x17)
  isplitl [H1]; · iexact H1
  isplitl [H3]; · iexact H3
  isplitl [H4]; · iexact H4
  isplitl [H5]; · iexact H5
  isplitl [H6]; · iexact H6
  isplitl [H11]; · iexact H11
  isplitl [H12]; · iexact H12
  isplitl [H13]; · iexact H13
  isplitl [H17]; · iexact H17
  isplitl [HS]; · iexact HS
  iintro %r ⟨%hr, H1, H3, H4, H5, H6, H11, H12, H13, H17, HS⟩
  subst hr
  generalize actsAt i x1 hn E x3 x4 x5 x6 x17 = X
  unfold owns
  icases H11 with ⟨%f11, %hf11, H11⟩
  icases H12 with ⟨%f12, %hf12, H12⟩
  icases H13 with ⟨%f13, %hf13, H13⟩
  icases H17 with ⟨%f17, %hf17, H17⟩
  icases HY with ⟨%fY, %hfY, HY⟩
  icases H10 with ⟨%f10, %hf10, H10⟩
  subst hf11 hf12 hf13 hf17 hfY hf10
  sl_exec (disch := first | sl_exact h2 | sl_exact h3 | sl_exact h4)
  sl_step
  have a0 : run_v.sl.r_80 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 0 := by
    unfold run_v.sl.r_80 k0_pay106
    refine (congrArg (fun A : FVec F S64x512 .f32 => extractStridedSlice (s := S64x512) S64x128 ![0, 0] A slices_S64x512_o0_0_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 0 _)
    rfl
  have a1 : run_v.sl.r_81 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 1 := by
    unfold run_v.sl.r_81 k0_pay107
    refine (congrArg (fun A : FVec F S64x512 .f32 => extractStridedSlice (s := S64x512) S64x128 ![0, 128] A slices_S64x512_o0_128_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 1 _)
    rfl
  have a2 : run_v.sl.r_82 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 2 := by
    unfold run_v.sl.r_82 k0_pay108
    refine (congrArg (fun A : FVec F S64x512 .f32 => extractStridedSlice (s := S64x512) S64x128 ![0, 256] A slices_S64x512_o0_256_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 2 _)
    rfl
  have a3 : run_v.sl.r_83 c arg11 arg12 arg13 f11 f12 f13 f17 = headOf (mm ((Memref.whole cc0_scratch0 : Memref sig .tc .vmem S64x8192 .bf16).view.read (Elt F) f17) (arg11.view.read (Elt F) f11) (arg12.view.read (Elt F) f12) (arg13.view.read (Elt F) f13)) 3 := by
    unfold run_v.sl.r_83 k0_pay109
    refine (congrArg (fun A : FVec F S64x512 .f32 => extractStridedSlice (s := S64x512) S64x128 ![0, 384] A slices_S64x512_o0_384_S64x128) (?_ : _ = (mm ((Memref.whole cc0_scratch0 : Memref sig .tc .vmem S64x8192 .bf16).view.read (Elt F) f17) (arg11.view.read (Elt F) f11) (arg12.view.read (Elt F) f12) (arg13.view.read (Elt F) f13)))).trans (head_eq _ 3 _)
    rfl
  have s0 : run_v.sl.r_84 c i arg10 h4 f10 = sc (arg10.view.read (Elt F) f10) 10 i 0 := sc_eq arg10 f10 _ _ 10 i 0 (off10_val i h4 0) _
  have s1 : run_v.sl.r_85 c i arg10 h4 f10 = sc (arg10.view.read (Elt F) f10) 10 i 1 := sc_eq arg10 f10 _ _ 10 i 1 (off10_val i h4 1) _
  have s2 : run_v.sl.r_86 c i arg10 h4 f10 = sc (arg10.view.read (Elt F) f10) 10 i 2 := sc_eq arg10 f10 _ _ 10 i 2 (off10_val i h4 2) _
  have s3 : run_v.sl.r_88 c i arg10 h4 f10 = sc (arg10.view.read (Elt F) f10) 10 i 3 := sc_eq arg10 f10 _ _ 10 i 3 (off10_val i h4 3) _
  have b2 : run_v.sl.r_87 c i arg10 arg11 arg12 arg13 h4 f11 f12 f13 f17 f10 = k0_pay17 (run_v.sl.r_82 c arg11 arg12 arg13 f11 f12 f13 f17) (run_v.sl.r_86 c i arg10 h4 f10) := rfl
  iapply Hk
  isplitl [H1]; · iexact H1
  isplitl [H3]; · iexact H3
  isplitl [H4]; · iexact H4
  isplitl [H5]; · iexact H5
  isplitl [H6]; · iexact H6
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [HY]
  · iexists _; isplitr; swap; · iexact HY
    ipureintro
    rw [View.read_writes_cons_put _ _ _ _ _ rfl, View.read_writes_cons_put _ _ _ _ _ rfl, View.read_writes_cons_put _ _ _ _ _ rfl, View.read_writes_cons_put _ _ _ _ _ rfl]
    rw [b2, a0, a1, a2, a3, s0, s1, s2, s3]
    exact put_tile _ (fun n => k0_pay15 (headOf (mm ((Memref.whole cc0_scratch0 : Memref sig .tc .vmem S64x8192 .bf16).view.read (Elt F) f17) (arg11.view.read (Elt F) f11) (arg12.view.read (Elt F) f12) (arg13.view.read (Elt F) f13)) n) (sc (arg10.view.read (Elt F) f10) 10 i n))
  isplitl [H17]
  · iexists f17; isplitr; · ipureintro; rfl
    iexact H17
  iexact HS

end Cert.Qkv.Hand
-- ==== Proof.QkvBitsBody.lean ====
module

public import proofs.«01_k».proof.Proof.QkvBitsRun
public import proofs.«01_k».proof.Proof.Gen.Qkv.Frame
public import Idealize.ShloMosaic.Lib.Pipeline.Frame
public import Idealize.ShloMosaic.Lib.Pipeline.DatRel
public import Idealize.ShloMosaic.Lib.Pipeline.ArrRel
public import Idealize.ShloMosaic.Lib.Claim

@[expose] public section

set_option maxRecDepth 16384

noncomputable section

namespace Cert.Qkv.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel cellOf)
open Cert.Qkv Cert.Qkv.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Up to the region, and what an input's buffer holds, at the algebra with transfers -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before0_11_of {c : Dev nD} (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

/-- Every token of the launch names a row of the embedding. -/
def Ok : Prop := ∀ (c : Dev nD) (t : Fin cfg0.N), Named (iblk m c 0 t)

variable (hn : Ok m)

/-- The first point. -/
abbrev t0 : Fin cfg0.N := ⟨0, by decide⟩

/-- The embedding's rows as the region finds them. -/
abbrev tabOf (c : Dev nD) : Tab F := V m c main_arg1

/-- The activations do not depend on what the buffer held: the two halves cover it. -/
theorem acts_any (x1 : S60.Idx → BitVec 32) (h : Named x1) (E : Tab F) (x3 : Vec F S64x1 .f32) (x4 : Vec F S64x4096 .bf16) (x5 x6 : Vec F S1x4096 .f32)
    (X X' : Vec F S64x8192 .bf16) : acts x1 h E x3 x4 x5 x6 X = acts x1 h E x3 x4 x5 x6 X' := by
  funext y
  unfold acts VecWindow.put
  have hy0 : (y 0).val < 64 := (y 0).isLt
  have hy1 : (y 1).val < 8192 := (y 1).isLt
  split_ifs with h1 h0
  · rfl
  · rfl
  · exfalso
    by_cases hc : (y 1).val < 4096
    · apply h0
      intro a; fin_cases a
      · exact ⟨Nat.zero_le _, by show (y 0).val < 0 + 64; omega⟩
      · exact ⟨Nat.zero_le _, by show (y 1).val < 0 + 4096; omega⟩
    · apply h1
      intro a; fin_cases a
      · exact ⟨Nat.zero_le _, by show (y 0).val < 0 + 64; omega⟩
      · exact ⟨by show 4096 ≤ (y 1).val; omega, by show (y 1).val < 4096 + 4096; omega⟩

/-- The activations that the first point builds. -/
def actX (c : Dev nD) : Vec F S64x8192 .bf16 :=
  acts (iblk m c 0 t0) (hn c t0) (tabOf m c) (iblk m c 1 t0) (iblk m c 2 t0) (iblk m c 3 t0) (iblk m c 4 t0) (fun _ => FloatOps.ofBits .bf16 0)

/-- The product's block at a point. -/
def prodAt (c : Dev nD) (t : Fin cfg0.N) : FVec F S64x512 .f32 := mm (actX m hn c) (iblk m c 9 t) (iblk m c 10 t) (iblk m c 11 t)

def qAt (c : Dev nD) (t : Fin cfg0.N) : Vec F S64x512 .bf16 := qblk (prodAt m hn c t) (iblk m c 5 t) (iblk m c 6 t)
def kAt (c : Dev nD) (t : Fin cfg0.N) : Vec F S64x512 .fp8e4m3 := kblk (grid0.coords t) (prodAt m hn c t) (iblk m c 5 t) (iblk m c 6 t) (iblk m c 7 t)
def vAt (c : Dev nD) (t : Fin cfg0.N) : Vec F S64x512 .fp8e4m3 := vblk (grid0.coords t) (prodAt m hn c t) (iblk m c 8 t)

theorem coords_val (t : Fin cfg0.N) : (grid0.coords t 0).val = t.val := by
  have ht : t.val < 12 := Nat.lt_of_lt_of_eq t.isLt N_0
  have e : (grid0.coords t 0).val = t.val / 1 % 12 := Pipeline.Grid.coords_val t 0 (by decide) rfl
  omega

theorem cond1_iff (t : Fin cfg0.N) : k0_cond1 (grid0.coords t) = 1#1 ↔ t.val = 0 :=
  (by decide +kernel : ∀ t : Fin grid0.N, k0_cond1 (grid0.coords t) = 1#1 ↔ t.val = 0) t

theorem cond2_iff (t : Fin cfg0.N) : k0_cond2 (grid0.coords t) = 1#1 ↔ t.val < 8 :=
  (by decide +kernel : ∀ t : Fin grid0.N, k0_cond2 (grid0.coords t) = 1#1 ↔ t.val < 8) t

theorem cond3_iff (t : Fin cfg0.N) : k0_cond3 (grid0.coords t) = 1#1 ↔ 8 ≤ t.val ∧ t.val < 10 :=
  (by decide +kernel : ∀ t : Fin grid0.N, k0_cond3 (grid0.coords t) = 1#1 ↔ 8 ≤ t.val ∧ t.val < 10) t

theorem cond4_iff (t : Fin cfg0.N) : k0_cond4 (grid0.coords t) = 1#1 ↔ 10 ≤ t.val :=
  (by decide +kernel : ∀ t : Fin grid0.N, k0_cond4 (grid0.coords t) = 1#1 ↔ 10 ≤ t.val) t

theorem flush_12 (t : Fin cfg0.N) : (cfg0.win 12).flush t = true → t.val < 7 ∨ t.val = 11 :=
  (by decide +kernel : ∀ t : Fin cfg0.N, (cfg0.win 12).flush t = true → t.val < 7 ∨ t.val = 11) t
theorem flush_13 (t : Fin cfg0.N) : (cfg0.win 13).flush t = true → t.val = 8 ∨ t.val = 11 :=
  (by decide +kernel : ∀ t : Fin cfg0.N, (cfg0.win 13).flush t = true → t.val = 8 ∨ t.val = 11) t
theorem flush_14 (t : Fin cfg0.N) : (cfg0.win 14).flush t = true → t.val = 10 ∨ t.val = 11 :=
  (by decide +kernel : ∀ t : Fin cfg0.N, (cfg0.win 14).flush t = true → t.val = 10 ∨ t.val = 11) t

/-! ## The proof data -/

/-- The three outputs are held to a predicate, point by point. -/
def outs : Fin 15 → Bool := fun w => w.val == 12 || w.val == 13 || w.val == 14

/-- The point whose q block the buffer holds at `t`. -/
def ptQ (t : Fin cfg0.N) : Fin cfg0.N := ⟨min t.val 7, Nat.lt_of_le_of_lt (Nat.min_le_left _ _) t.isLt⟩
/-- The point whose k block the buffer holds at `t`. -/
def ptK (t : Fin cfg0.N) : Fin cfg0.N := ⟨min t.val 9, Nat.lt_of_le_of_lt (Nat.min_le_left _ _) t.isLt⟩

/-- What the body leaves in an output's buffer: the block last stored there. -/
def Rl (c : Dev nD) : (w : Fin cfg0.W) → Fin cfg0.N → ((cfg0.win w).block.Idx → Elt F (cfg0.win w).elt) → Prop
  | ⟨12, _⟩, t, X => X = qAt m hn c (ptQ t)
  | ⟨13, _⟩, t, X => 8 ≤ t.val → X = kAt m hn c (ptK t)
  | ⟨14, _⟩, t, X => 10 ≤ t.val → X = vAt m hn c t
  | _, _, _ => True

/-- The semaphore of the row copies. -/
def osem : Fin 1 → SemLoc sig := fun | 0 => .dma (SemArray.sem cc0_scratch3)
theorem ownSemFacts : Pipeline.OwnSemFacts cfg0.spec osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma (SemArray.sem cc0_scratch3)) 0) := by
  rw [Pipeline.ownSems0_eq_of_list c osem [0] (by decide) (by decide)]; rfl

/-- The embedding is read where it lies. -/
def HR : Finset (Ref sig .tc) := {main_arg1}
theorem HR_sub : HR ⊆ Pipeline.restRefs sig cfg0.spec := by decide
theorem hr_eq (c : Dev nD) :
    (bigSep HR (fun b => ((c : Thread nD τ).loc b) ↦{fullShare} V m c b) : sProp 𝕄) = iprop(((c : Thread nD τ).loc main_arg1) ↦{fullShare} V m c main_arg1) := by
  rw [BI.bigSep_eq_bigSepL_of_eq [main_arg1] (by decide) (by decide)]; rfl

/-- The buffers of the row copies, the embedding, and the semaphore at zero. -/
def SideN (c : Dev nD) (E : Tab F) : sProp 𝕄 :=
  iprop(((Memref.whole main_arg1 : Memref sig .tc .hbm S8000x4096 .i32).view.loc (c : Thread nD τ) ↦{fullShare} E)
    ∗ (∃ f : BufTy.Contents (Elt F) (Memref.whole cc0_scratch1 : Memref sig .tc .vmem S64x4096 .i32).view.ty, (Memref.whole cc0_scratch1 : Memref sig .tc .vmem S64x4096 .i32).view.loc (c : Thread nD τ) ↦{fullShare} f)
    ∗ (∃ f : BufTy.Contents (Elt F) (Memref.whole cc0_scratch2 : Memref sig .tc .vmem S64x4096 .f32).view.ty, (Memref.whole cc0_scratch2 : Memref sig .tc .vmem S64x4096 .f32).view.loc (c : Thread nD τ) ↦[(Memref.whole cc0_scratch2 : Memref sig .tc .vmem S64x4096 .f32).view.set]{fullShare} f)
    ∗ semVal ((c : Thread nD τ), SemLoc.dma (SemArray.sem cc0_scratch3)) 0)

theorem side_eq (c : Dev nD) (E : Tab F) : SideN c E ∗ (∃ W, owes (c : Thread nD τ) 0 W) ⊢ (Side c E : sProp 𝕄) := by
  unfold SideN Side
  iintro ⟨⟨A, B, C, D⟩, O⟩
  isplitl [A]; · iexact A
  isplitl [B]; · iexact B
  isplitl [C]; · iexact C
  isplitl [D]; · iexact D
  iexact O

theorem side_out (c : Dev nD) (E : Tab F) : (Side c E : sProp 𝕄) ⊢ SideN c E ∗ (∃ W, owes (c : Thread nD τ) 0 W) := by
  unfold SideN Side
  iintro ⟨A, B, C, D, O⟩
  isplitr [O]; swap; · iexact O
  isplitl [A]; · iexact A
  isplitl [B]; · iexact B
  isplitl [C]; · iexact C
  iexact D

/-- The scratch operand that holds the activations. -/
abbrev scr : Memref sig .tc .vmem S64x8192 .bf16 := Memref.whole cc0_scratch0

/-- Between points, after the first, the scratch holds the activations. -/
def Track (c : Dev nD) (n : ℕ) : sProp 𝕄 :=
  iprop((∃ d, ⌜n ≠ 0 → d = actX m hn c⌝ ∗ owns (c : Thread nD τ) scr fullShare d) ∗ (∃ r, prngReg c r) ∗ SideN c (tabOf m c))

theorem PhiD_eq (c : Dev nD) :
    (Pipeline.ΦD osem spec0 HR (V m) c : sProp 𝕄)
      = iprop(iprop((∃ d, owns (c : Thread nD τ) scr fullShare d)
          ∗ (∃ f : BufTy.Contents (Elt F) (Memref.whole cc0_scratch1 : Memref sig .tc .vmem S64x4096 .i32).view.ty, (Memref.whole cc0_scratch1 : Memref sig .tc .vmem S64x4096 .i32).view.loc (c : Thread nD τ) ↦{fullShare} f)
          ∗ (∃ f : BufTy.Contents (Elt F) (Memref.whole cc0_scratch2 : Memref sig .tc .vmem S64x4096 .f32).view.ty, (Memref.whole cc0_scratch2 : Memref sig .tc .vmem S64x4096 .f32).view.loc (c : Thread nD τ) ↦[(Memref.whole cc0_scratch2 : Memref sig .tc .vmem S64x4096 .f32).view.set]{fullShare} f))
          ∗ (∃ r, prngReg c r)
          ∗ semVal ((c : Thread nD τ), SemLoc.dma (SemArray.sem cc0_scratch3)) 0
          ∗ ((Memref.whole main_arg1 : Memref sig .tc .hbm S8000x4096 .i32).view.loc (c : Thread nD τ) ↦{fullShare} tabOf m c)) := by
  rw [Pipeline.ΦD_eq, scopedRest0_eq, ownSems_eq, hr_eq]
  simp only [scr, owns_whole]
  rw [show (Memref.whole cc0_scratch2 : Memref sig .tc .vmem S64x4096 .f32).view.set = Finset.univ from View.set_whole _]
  rfl

theorem track_in (c : Dev nD) : Pipeline.ΦD osem spec0 HR (V m) c ⊢ Track m hn c 0 := by
  rw [PhiD_eq]; unfold Track SideN
  iintro ⟨⟨⟨%d, H⟩, B, C⟩, Hg, S, A⟩
  isplitl [H]
  · iexists d; isplitr; swap; · iexact H
    ipureintro; exact fun h => absurd rfl h
  isplitl [Hg]; · iexact Hg
  isplitl [A]; · iexact A
  isplitl [B]; · iexact B
  isplitl [C]; · iexact C
  iexact S

theorem track_out (c : Dev nD) (n : ℕ) : Track m hn c n ⊢ Pipeline.ΦD osem spec0 HR (V m) c := by
  rw [PhiD_eq]; unfold Track SideN
  iintro ⟨⟨%d, %hd, H⟩, Hg, A, B, C, S⟩
  isplitl [H B C]
  · isplitl [H]
    · iexists d; iexact H
    isplitl [B]; · iexact B
    iexact C
  isplitl [Hg]; · iexact Hg
  isplitl [S]; · iexact S
  iexact A

/-- The arrays as the region finds them, each input's buffer at its block, nothing owed. -/
def dat (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Dat.unnamed (cfg := cfg0) ⟨12, h⟩ t
    | ⟨13, h⟩ => Dat.unnamed (cfg := cfg0) ⟨13, h⟩ t
    | ⟨14, h⟩ => Dat.unnamed (cfg := cfg0) ⟨14, h⟩ t
  Φ t := Track m hn c t.val
  q _ := fullShare
  owed _ := 0

theorem dat_A (c : Dev nD) (w : Fin cfg0.W) : (dat m hn c).A w = V m c (Pipeline.arrRef spec0 w) := by dsimp only [dat]

theorem after_0 (c : Dev nD) (t : Fin cfg0.N) : (dat m hn c).after 0 t = iblk m c 0 t := by dsimp only [dat]
theorem after_1 (c : Dev nD) (t : Fin cfg0.N) : (dat m hn c).after 1 t = iblk m c 1 t := by dsimp only [dat]
theorem after_2 (c : Dev nD) (t : Fin cfg0.N) : (dat m hn c).after 2 t = iblk m c 2 t := by dsimp only [dat]
theorem after_3 (c : Dev nD) (t : Fin cfg0.N) : (dat m hn c).after 3 t = iblk m c 3 t := by dsimp only [dat]
theorem after_4 (c : Dev nD) (t : Fin cfg0.N) : (dat m hn c).after 4 t = iblk m c 4 t := by dsimp only [dat]
theorem after_5 (c : Dev nD) (t : Fin cfg0.N) : (dat m hn c).after 5 t = iblk m c 5 t := by dsimp only [dat]
theorem after_6 (c : Dev nD) (t : Fin cfg0.N) : (dat m hn c).after 6 t = iblk m c 6 t := by dsimp only [dat]
theorem after_7 (c : Dev nD) (t : Fin cfg0.N) : (dat m hn c).after 7 t = iblk m c 7 t := by dsimp only [dat]
theorem after_8 (c : Dev nD) (t : Fin cfg0.N) : (dat m hn c).after 8 t = iblk m c 8 t := by dsimp only [dat]
theorem after_9 (c : Dev nD) (t : Fin cfg0.N) : (dat m hn c).after 9 t = iblk m c 9 t := by dsimp only [dat]
theorem after_10 (c : Dev nD) (t : Fin cfg0.N) : (dat m hn c).after 10 t = iblk m c 10 t := by dsimp only [dat]
theorem after_11 (c : Dev nD) (t : Fin cfg0.N) : (dat m hn c).after 11 t = iblk m c 11 t := by dsimp only [dat]
theorem before_0 (c : Dev nD) (t : Fin cfg0.N) (d) : (dat m hn c).before 0 t d = iblk m c 0 t := before0_0_of m (dat m hn c) (dat_A m hn c 0) (after_0 m hn c) t d
theorem before_1 (c : Dev nD) (t : Fin cfg0.N) (d) : (dat m hn c).before 1 t d = iblk m c 1 t := before0_1_of m (dat m hn c) (dat_A m hn c 1) (after_1 m hn c) t d
theorem before_2 (c : Dev nD) (t : Fin cfg0.N) (d) : (dat m hn c).before 2 t d = iblk m c 2 t := before0_2_of m (dat m hn c) (dat_A m hn c 2) (after_2 m hn c) t d
theorem before_3 (c : Dev nD) (t : Fin cfg0.N) (d) : (dat m hn c).before 3 t d = iblk m c 3 t := before0_3_of m (dat m hn c) (dat_A m hn c 3) (after_3 m hn c) t d
theorem before_4 (c : Dev nD) (t : Fin cfg0.N) (d) : (dat m hn c).before 4 t d = iblk m c 4 t := before0_4_of m (dat m hn c) (dat_A m hn c 4) (after_4 m hn c) t d
theorem before_5 (c : Dev nD) (t : Fin cfg0.N) (d) : (dat m hn c).before 5 t d = iblk m c 5 t := before0_5_of m (dat m hn c) (dat_A m hn c 5) (after_5 m hn c) t d
theorem before_6 (c : Dev nD) (t : Fin cfg0.N) (d) : (dat m hn c).before 6 t d = iblk m c 6 t := before0_6_of m (dat m hn c) (dat_A m hn c 6) (after_6 m hn c) t d
theorem before_7 (c : Dev nD) (t : Fin cfg0.N) (d) : (dat m hn c).before 7 t d = iblk m c 7 t := before0_7_of m (dat m hn c) (dat_A m hn c 7) (after_7 m hn c) t d
theorem before_8 (c : Dev nD) (t : Fin cfg0.N) (d) : (dat m hn c).before 8 t d = iblk m c 8 t := before0_8_of m (dat m hn c) (dat_A m hn c 8) (after_8 m hn c) t d
theorem before_9 (c : Dev nD) (t : Fin cfg0.N) (d) : (dat m hn c).before 9 t d = iblk m c 9 t := before0_9_of m (dat m hn c) (dat_A m hn c 9) (after_9 m hn c) t d
theorem before_10 (c : Dev nD) (t : Fin cfg0.N) (d) : (dat m hn c).before 10 t d = iblk m c 10 t := before0_10_of m (dat m hn c) (dat_A m hn c 10) (after_10 m hn c) t d
theorem before_11 (c : Dev nD) (t : Fin cfg0.N) (d) : (dat m hn c).before 11 t d = iblk m c 11 t := before0_11_of m (dat m hn c) (dat_A m hn c 11) (after_11 m hn c) t d

/-- The same data, the outputs held to the predicate. -/
def rdat (c : Dev nD) : Pipeline.RDat τ (Elt F) Unit ℕ (Pipeline.UD sig nD τ) ℕ cfg0 c := (dat m hn c).toRRel outs (Rl m hn c)

theorem leaves_12 (c : Dev nD) (t : Fin cfg0.N) (X) : (rdat m hn c).Leaves 12 t X → X = qAt m hn c (ptQ t) :=
  fun h => (dat m hn c).toRRel_leaves (fgt := outs) (Rl := Rl m hn c) (w := 12) rfl h
theorem leaves_13 (c : Dev nD) (t : Fin cfg0.N) (X) : (rdat m hn c).Leaves 13 t X → 8 ≤ t.val → X = kAt m hn c (ptK t) :=
  fun h => (dat m hn c).toRRel_leaves (fgt := outs) (Rl := Rl m hn c) (w := 13) rfl h
theorem leaves_14 (c : Dev nD) (t : Fin cfg0.N) (X) : (rdat m hn c).Leaves 14 t X → 10 ≤ t.val → X = vAt m hn c t :=
  fun h => (dat m hn c).toRRel_leaves (fgt := outs) (Rl := Rl m hn c) (w := 14) rfl h

/-- From the ninth point on, the q buffer is found at the eighth point's block. -/
theorem finds_12 (c : Dev nD) (t : Fin cfg0.N) (X) (h : (rdat m hn c).Finds 12 t X) (h8 : 8 ≤ t.val) : X = qAt m hn c (ptQ t) := by
  have ht : t.val < 12 := Nat.lt_of_lt_of_eq t.isLt N_0
  rw [(rdat m hn c).finds_of_pos (w := 12) rfl (by omega)] at h
  rcases h with h | h
  · have := flush_12 _ h
    dsimp only at this
    omega
  · have := leaves_12 m hn c _ X h
    rw [this]
    congr 1
    exact Fin.ext (by show min (t.val - 1) 7 = min t.val 7; omega)

/-- At the last two points, the k buffer is found at the tenth point's block. -/
theorem finds_13 (c : Dev nD) (t : Fin cfg0.N) (X) (h : (rdat m hn c).Finds 13 t X) (h8 : 10 ≤ t.val) : X = kAt m hn c (ptK t) := by
  have ht : t.val < 12 := Nat.lt_of_lt_of_eq t.isLt N_0
  rw [(rdat m hn c).finds_of_pos (w := 13) rfl (by omega)] at h
  rcases h with h | h
  · have := flush_13 _ h
    dsimp only at this
    omega
  · have := leaves_13 m hn c _ X h (by dsimp only; omega)
    rw [this]
    congr 1
    exact Fin.ext (by show min (t.val - 1) 9 = min t.val 9; omega)

/-- What the scratch holds after a point. -/
theorem acts_at (c : Dev nD) (t : Fin cfg0.N) (d : Vec F S64x8192 .bf16) (hd : t.val ≠ 0 → d = actX m hn c) :
    actsAt (grid0.coords t) (iblk m c 0 t) (hn c t) (tabOf m c) (iblk m c 1 t) (iblk m c 2 t) (iblk m c 3 t) (iblk m c 4 t) d = actX m hn c := by
  by_cases h : t.val = 0
  · obtain rfl : t = t0 := Fin.ext h
    unfold actsAt
    rw [if_pos ((cond1_iff t0).mpr rfl)]
    exact acts_any _ _ _ _ _ _ _ _ _
  · unfold actsAt
    rw [if_neg (fun hc => h ((cond1_iff t).mp hc))]
    exact hd h

/-! ## The body obligation -/

def bodyPre (c : Dev nD) (t : Fin cfg0.N) : sProp 𝕄 :=
  iprop((dat m hn c).Φ t.castSucc ∗ (dat m hn c).owesAt () t.castSucc
    ∗ (∃ d, owns (c : Thread nD τ) (st0_0 t) fullShare ((dat m hn c).before 0 t d))
    ∗ (∃ d, owns (c : Thread nD τ) (st0_1 t) fullShare ((dat m hn c).before 1 t d))
    ∗ (∃ d, owns (c : Thread nD τ) (st0_2 t) fullShare ((dat m hn c).before 2 t d))
    ∗ (∃ d, owns (c : Thread nD τ) (st0_3 t) fullShare ((dat m hn c).before 3 t d))
    ∗ (∃ d, owns (c : Thread nD τ) (st0_4 t) fullShare ((dat m hn c).before 4 t d))
    ∗ (∃ d, owns (c : Thread nD τ) (st0_5 t) fullShare ((dat m hn c).before 5 t d))
    ∗ (∃ d, owns (c : Thread nD τ) (st0_6 t) fullShare ((dat m hn c).before 6 t d))
    ∗ (∃ d, owns (c : Thread nD τ) (st0_7 t) fullShare ((dat m hn c).before 7 t d))
    ∗ (∃ d, owns (c : Thread nD τ) (st0_8 t) fullShare ((dat m hn c).before 8 t d))
    ∗ (∃ d, owns (c : Thread nD τ) (st0_9 t) fullShare ((dat m hn c).before 9 t d))
    ∗ (∃ d, owns (c : Thread nD τ) (st0_10 t) fullShare ((dat m hn c).before 10 t d))
    ∗ (∃ d, owns (c : Thread nD τ) (st0_11 t) fullShare ((dat m hn c).before 11 t d))
    ∗ (∃ Y, ⌜(rdat m hn c).Finds 12 t Y⌝ ∗ owns (c : Thread nD τ) (st0_12 t) fullShare Y)
    ∗ (∃ Y, ⌜(rdat m hn c).Finds 13 t Y⌝ ∗ owns (c : Thread nD τ) (st0_13 t) fullShare Y)
    ∗ (∃ Y, ⌜(rdat m hn c).Finds 14 t Y⌝ ∗ owns (c : Thread nD τ) (st0_14 t) fullShare Y))

def bodyPost (c : Dev nD) (t : Fin cfg0.N) : sProp 𝕄 :=
  iprop((dat m hn c).Φ t.succ ∗ (dat m hn c).owesAt () t.succ
    ∗ owns (c : Thread nD τ) (st0_0 t) fullShare ((dat m hn c).after 0 t)
    ∗ owns (c : Thread nD τ) (st0_1 t) fullShare ((dat m hn c).after 1 t)
    ∗ owns (c : Thread nD τ) (st0_2 t) fullShare ((dat m hn c).after 2 t)
    ∗ owns (c : Thread nD τ) (st0_3 t) fullShare ((dat m hn c).after 3 t)
    ∗ owns (c : Thread nD τ) (st0_4 t) fullShare ((dat m hn c).after 4 t)
    ∗ owns (c : Thread nD τ) (st0_5 t) fullShare ((dat m hn c).after 5 t)
    ∗ owns (c : Thread nD τ) (st0_6 t) fullShare ((dat m hn c).after 6 t)
    ∗ owns (c : Thread nD τ) (st0_7 t) fullShare ((dat m hn c).after 7 t)
    ∗ owns (c : Thread nD τ) (st0_8 t) fullShare ((dat m hn c).after 8 t)
    ∗ owns (c : Thread nD τ) (st0_9 t) fullShare ((dat m hn c).after 9 t)
    ∗ owns (c : Thread nD τ) (st0_10 t) fullShare ((dat m hn c).after 10 t)
    ∗ owns (c : Thread nD τ) (st0_11 t) fullShare ((dat m hn c).after 11 t)
    ∗ (∃ X, ⌜Rl m hn c 12 t X⌝ ∗ owns (c : Thread nD τ) (st0_12 t) fullShare X)
    ∗ (∃ X, ⌜Rl m hn c 13 t X⌝ ∗ owns (c : Thread nD τ) (st0_13 t) fullShare X)
    ∗ (∃ X, ⌜Rl m hn c 14 t X⌝ ∗ owns (c : Thread nD τ) (st0_14 t) fullShare X))

set_option maxHeartbeats 1600000 in
theorem sound_body (c : Dev nD) (t : Fin cfg0.N) :
    bodyPre m hn c t ⊢ wp frame (wpE (defs₀ (F := F)) Variants.none c none) Set.univ (bodyAt0 t) (fun _ => bodyPost m hn c t) := by
  unfold bodyPre bodyPost bodyAt0
  simp only [before_0, before_1, before_2, before_3, before_4, before_5, before_6, before_7, before_8, before_9, before_10, before_11, after_0, after_1, after_2, after_3, after_4, after_5, after_6, after_7, after_8, after_9, after_10, after_11]
  rw [show (dat m hn c).Φ t.succ = Track m hn c (t.val + 1) from rfl, show (dat m hn c).Φ t.castSucc = Track m hn c t.val from rfl,
    show (dat m hn c).owesAt () t.succ = (dat m hn c).owesAt () t.castSucc from rfl]
  unfold Dat.owesAt Pipeline.owesWithin
  rw [show (dat m hn c).owed t.castSucc = 0 from rfl]
  unfold Track
  have hN : t.val < 12 := lt_of_lt_of_eq t.isLt (show cfg0.N = 12 from N_0)
  iintro ⟨⟨⟨%d, %hd, HX⟩, Hg, HS⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y12, %h12, H12⟩, ⟨%Y13, %h13, H13⟩, ⟨%Y14, %h14, H14⟩⟩
  have hact := acts_at m hn c t d hd
  by_cases c8 : t.val < 8
  · iapply (run_q c (grid0.coords t) _ _ _ _ _ _ _ _ _ _ _ _ _ _ _ _ _ _ _ _ _ _ _ _ _ _ _ _ _ _ ((cond2_iff t).mpr c8) (fun h => absurd ((cond3_iff t).mp h) (by omega)) (fun h => absurd ((cond4_iff t).mp h) (by omega)) (iblk m c 0 t) (hn c t) (tabOf m c) (iblk m c 1 t) (iblk m c 2 t) (iblk m c 3 t) (iblk m c 4 t) (iblk m c 5 t) (iblk m c 6 t) (iblk m c 9 t) (iblk m c 10 t) (iblk m c 11 t) d Y12 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    isplitl [H11]; · iexact H11
    isplitl [H12]; · iexact H12
    isplitl [HX]; · iexact HX
    isplitl [HS HO]
    · iapply (side_eq c (tabOf m c))
      isplitl [HS]; · iexact HS
      iexists W; iexact HO
    iintro ⟨H0, H1, H2, H3, H4, H5, H6, H9, H10, H11, H12, HX, HS⟩
    ihave HS2 := side_out c (tabOf m c) $$ HS
    icases HS2 with ⟨HS, ⟨%W', HO⟩⟩
    isplitl [HX Hg HS]
    · isplitl [HX]
      · iexists _; isplitr; swap; · iexact HX
        ipureintro; exact fun _ => hact
      isplitl [Hg]; · iexact Hg
      iexact HS
    isplitl [HO]
    · iexists W'; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _; isplitr; swap; · iexact H12
      ipureintro
      show _ = qAt m hn c (ptQ t); rw [show ptQ t = t from Fin.ext (by show min t.val 7 = t.val; omega), hact]; rfl
    isplitl [H13]
    · iexists _; isplitr; swap; · iexact H13
      ipureintro
      exact fun h => absurd h (by omega)
    iexists _; isplitr; swap; · iexact H14
    ipureintro
    exact fun h => absurd h (by omega)
  by_cases c10 : t.val < 10
  · iapply (run_k c (grid0.coords t) _ _ _ _ _ _ _ _ _ _ _ _ _ _ _ _ _ _ _ _ _ _ _ _ _ _ _ _ _ _ (fun h => absurd ((cond2_iff t).mp h) (by omega)) ((cond3_iff t).mpr ⟨by omega, c10⟩) (fun h => absurd ((cond4_iff t).mp h) (by omega)) (iblk m c 0 t) (hn c t) (tabOf m c) (iblk m c 1 t) (iblk m c 2 t) (iblk m c 3 t) (iblk m c 4 t) (iblk m c 5 t) (iblk m c 6 t) (iblk m c 7 t) (iblk m c 9 t) (iblk m c 10 t) (iblk m c 11 t) d Y13 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H13]; · iexact H13
    isplitl [HX]; · iexact HX
    isplitl [HS HO]
    · iapply (side_eq c (tabOf m c))
      isplitl [HS]; · iexact HS
      iexists W; iexact HO
    iintro ⟨H0, H1, H2, H3, H4, H5, H6, H7, H9, H10, H11, H13, HX, HS⟩
    ihave HS2 := side_out c (tabOf m c) $$ HS
    icases HS2 with ⟨HS, ⟨%W', HO⟩⟩
    isplitl [HX Hg HS]
    · isplitl [HX]
      · iexists _; isplitr; swap; · iexact HX
        ipureintro; exact fun _ => hact
      isplitl [Hg]; · iexact Hg
      iexact HS
    isplitl [HO]
    · iexists W'; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _; isplitr; swap; · iexact H12
      ipureintro
      exact finds_12 m hn c t _ h12 (by omega)
    isplitl [H13]
    · iexists _; isplitr; swap; · iexact H13
      ipureintro
      show _ → _ = kAt m hn c (ptK t); intro _; rw [show ptK t = t from Fin.ext (by show min t.val 9 = t.val; omega), hact]; rfl
    iexists _; isplitr; swap; · iexact H14
    ipureintro
    exact fun h => absurd h (by omega)
  · iapply (run_v c (grid0.coords t) _ _ _ _ _ _ _ _ _ _ _ _ _ _ _ _ _ _ _ _ _ _ _ _ _ _ _ _ _ _ (fun h => absurd ((cond2_iff t).mp h) (by omega)) (fun h => absurd ((cond3_iff t).mp h) (by omega)) ((cond4_iff t).mpr (by omega)) (iblk m c 0 t) (hn c t) (tabOf m c) (iblk m c 1 t) (iblk m c 2 t) (iblk m c 3 t) (iblk m c 4 t) (iblk m c 8 t) (iblk m c 9 t) (iblk m c 10 t) (iblk m c 11 t) d Y14 _)
    isplitl [H0]; · iexact H0
    isplitl [H1]; · iexact H1
    isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H14]; · iexact H14
    isplitl [HX]; · iexact HX
    isplitl [HS HO]
    · iapply (side_eq c (tabOf m c))
      isplitl [HS]; · iexact HS
      iexists W; iexact HO
    iintro ⟨H0, H1, H2, H3, H4, H8, H9, H10, H11, H14, HX, HS⟩
    ihave HS2 := side_out c (tabOf m c) $$ HS
    icases HS2 with ⟨HS, ⟨%W', HO⟩⟩
    isplitl [HX Hg HS]
    · isplitl [HX]
      · iexists _; isplitr; swap; · iexact HX
        ipureintro; exact fun _ => hact
      isplitl [Hg]; · iexact Hg
      iexact HS
    isplitl [HO]
    · iexists W'; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _; isplitr; swap; · iexact H12
      ipureintro
      exact finds_12 m hn c t _ h12 (by omega)
    isplitl [H13]
    · iexists _; isplitr; swap; · iexact H13
      ipureintro
      exact fun _ => finds_13 m hn c t _ h13 (by omega)
    iexists _; isplitr; swap; · iexact H14
    ipureintro
    show _ → _ = vAt m hn c t; intro _; rw [hact]; rfl

theorem defs₀_row (t : Fin cfg0.N) :
    defs₀ (F := F) .tc cfg0.body (cfg0.bodyArgs t (cfg0.slots t)) = bodyAt0 t := by
  unfold defs₀; rw [Defs.onTc_tc]

/-- The body does what the proof data say, at every point. -/
theorem body_obligation (c : Dev nD) : BodyObligationRel (dat m hn c) (defs₀ (F := F)) Variants.none () Set.univ outs (Rl m hn c) := fun t => by
  rw [bigSep_W0, bigSep_W0, defs₀_row]
  exact triple_restated (sound_body m hn c t) rfl .rfl fun _ => .rfl

/-! ## The run -/

set_option backward.isDefEq.respectTransparency.types false in
/-- Every run ends with the pipeline's arrays as the proof data say and every semaphore counter at zero. -/
theorem run_main : θ_run defs (onTc (τ := τ) (main (F := F))) (s₀ m ρ)
    (fun r => Pipeline.RDat.FramePost (cfgs 0) (fun c => rdat m hn c) (V m) r ∧ r.2.sem = fun _ => 0) :=
  Pipeline.RDat.θ_run_frame_dma (Q' := _) cfgs (0 : Fin 1) launch0 osem defs₀ Variants.none (fun c => rdat m hn c) ownSemFacts HR HR_sub m ρ main
    (hbody := fun c => (body_obligation m hn c).toRRel) (hshare := fun c => (dat m hn c).share_full fun _ => rfl)
    (howed := fun _ _ => rfl) (V := V m) (hmain := hmain m Variants.none) (hA := dat_A m hn)
    (hin := fun c => track_in m hn c) (hout := fun c => track_out m hn c _)

include hn in
/-- The argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => ⟨
      (Pipeline.RDat.FramePost.arr_in h.1 c 0 rfl).trans ((dat_A m hn c 0).trans (V_main_arg0 m c)),
      ((h.1 c).2 main_arg1 (Pipeline.mem_restRefs_of main_arg1 (by decide) (by decide))),
      (Pipeline.RDat.FramePost.arr_in h.1 c 1 rfl).trans ((dat_A m hn c 1).trans (V_main_arg2 m c)),
      (Pipeline.RDat.FramePost.arr_in h.1 c 2 rfl).trans ((dat_A m hn c 2).trans (V_main_arg3 m c)),
      (Pipeline.RDat.FramePost.arr_in h.1 c 3 rfl).trans ((dat_A m hn c 3).trans (V_main_arg4 m c)),
      (Pipeline.RDat.FramePost.arr_in h.1 c 4 rfl).trans ((dat_A m hn c 4).trans (V_main_arg5 m c)),
      (Pipeline.RDat.FramePost.arr_in h.1 c 5 rfl).trans ((dat_A m hn c 5).trans (V_main_arg6 m c)),
      (Pipeline.RDat.FramePost.arr_in h.1 c 6 rfl).trans ((dat_A m hn c 6).trans (V_main_arg7 m c)),
      (Pipeline.RDat.FramePost.arr_in h.1 c 7 rfl).trans ((dat_A m hn c 7).trans (V_main_arg8 m c)),
      (Pipeline.RDat.FramePost.arr_in h.1 c 8 rfl).trans ((dat_A m hn c 8).trans (V_main_arg9 m c)),
      (Pipeline.RDat.FramePost.arr_in h.1 c 9 rfl).trans ((dat_A m hn c 9).trans (V_main_arg10 m c)),
      (Pipeline.RDat.FramePost.arr_in h.1 c 10 rfl).trans ((dat_A m hn c 10).trans (V_main_arg11 m c)),
      (Pipeline.RDat.FramePost.arr_in h.1 c 11 rfl).trans ((dat_A m hn c 11).trans (V_main_arg12 m c))⟩, h.2⟩) (run_main m ρ hn)

end Cert.Qkv.Hand

end
-- ==== Proof.QkvOk.lean ====
module

public import proofs.«01_k».proof.Proof.QkvIndex
public import proofs.«01_k».proof.Proof.QkvBody
public import proofs.«01_k».proof.Proof.QkvBitsIndex
public import proofs.«01_k».proof.Proof.QkvBitsBody
public import proofs.«01_k».proof.Proof.Gen.QkvRefIdeal.Frame
public import proofs.«01_k».proof.Defs

@[expose] public section

noncomputable section

namespace Cert.Proof

open Idealize.ShloMosaic Idealize.SL.Sem

/-! The precondition, "every token is at least 0 and less than 32000", gives what the runs of the projection assume: at each grid point
    each of the sixty tokens of the block in scalar memory names a row of the embedding. -/

/-- The side condition of the precondition's own program. -/
theorem pre_facts : Cert.Pre_tokens_named.Facts := ⟨by decide⟩

theorem qkv_ok (m : (ℓ : Loc Cert.QkvIdeal.nD Cert.QkvIdeal.τ Cert.QkvIdeal.sig) → Buf (Elt Ideal) ℓ)
    (h : Cert.Pre_QkvIdeal (hPre_tokens_named := pre_facts) m) : Cert.QkvIdeal.Hand.Ok m := fun c t =>
  Cert.QkvIdeal.Hand.named_of_lt _ fun i =>
    Cert.QkvIdeal.Hand.lt_of_signed _ (congrFun (h c) (((Cert.QkvIdeal.cfg0.win 0).blk t).view.emb i))

theorem qkv_ok_bits (m : (ℓ : Loc Cert.Qkv.nD Cert.Qkv.τ Cert.Qkv.sig) → Buf (Elt Bits) ℓ)
    (h : Cert.Pre_Qkv (hPre_tokens_named := pre_facts) m) : Cert.Qkv.Hand.Ok m := fun c t =>
  Cert.Qkv.Hand.named_of_lt _ fun i =>
    Cert.Qkv.Hand.lt_of_signed _ (congrFun (h c) (((Cert.Qkv.cfg0.win 0).blk t).view.emb i))

/-- The projection's frames: under the precondition every run ends, without a fault, with its arguments as they were. -/
theorem qkv_frame : Cert.quiescent_Qkv (hQkv := Cert.Qkv.Gen.facts) (hPre_tokens_named := pre_facts) :=
  fun m g h => Cert.Qkv.Hand.frame m g (qkv_ok_bits m h)

theorem qkvIdeal_frame : Cert.quiescent_QkvIdeal (hQkvIdeal := Cert.QkvIdeal.Gen.facts) (hPre_tokens_named := pre_facts) :=
  fun m g h => Cert.QkvIdeal.Hand.frame m g (qkv_ok m h)

theorem qkvRef_frame : Cert.quiescent_QkvRefIdeal (hQkvRefIdeal := Cert.QkvRefIdeal.Gen.facts) (hPre_tokens_named := pre_facts) :=
  fun m g _ => Cert.QkvRefIdeal.Gen.frame m g

end Cert.Proof

end
-- ==== Proof.QkvOut.lean ====
module

public import proofs.«01_k».proof.Proof.QkvBody
public import Idealize.ShloMosaic.Lib.Pointwise
public import Idealize.ShloMosaic.Lib.Claim

@[expose] public section

set_option maxRecDepth 16384

noncomputable section

namespace Cert.QkvIdeal.Hand

open Idealize.ShloMosaic Idealize.ShloMosaic.TcCoe Idealize.SL.Sem Cert.QkvIdeal Cert.QkvIdeal.Gen
open Idealize.ShloMosaic.Pipeline (Dat Cfg Window)

variable (m : (ℓ : Loc nD τ sig) → Buf (Elt Ideal) ℓ) (hn : Ok m)

/-- Which block each window is on at grid point `t`. -/
theorem idx : ∀ t : Fin cfg0.N, win0_0.index t = ![0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0] ∧ win0_8.index t = ![0]
    ∧ win0_9.index t = ![0, t.val] ∧ win0_10.index t = ![0, t.val] ∧ win0_11.index t = ![0, t.val]
    ∧ win0_12.index t = ![0, min t.val 7] ∧ win0_13.index t = ![0, min (t.val - 8) 1] ∧ win0_14.index t = ![0, t.val - 10] ∧ t.val < 12 :=
  (by decide +kernel : ∀ t : Fin grid0.N, _)

/-- The point of a column of an output, the points counted from `b`. -/
def ptOf (b : ℕ) (C : ℕ) (h : b + C / 512 < 12) : Fin cfg0.N := ⟨b + C / 512, lt_of_lt_of_eq h (show 12 = cfg0.N from N_0.symm)⟩

/-- The three results, block by block. -/
def qD (c : Dev nD) : Buf (Elt Ideal) ((c : Thread nD τ).loc main_v0_0) := fun (y : S64x4096.Idx) =>
  qAt m hn c (ptOf 0 (y 1).val (by have : (y 1).val < 4096 := (y 1).isLt; omega)) (ix2 (y 0) ⟨(y 1).val % 512, Nat.mod_lt _ (by decide)⟩)
def kD (c : Dev nD) : Buf (Elt Ideal) ((c : Thread nD τ).loc main_v0_1) := fun (y : S64x1024.Idx) =>
  kAt m hn c (ptOf 8 (y 1).val (by have : (y 1).val < 1024 := (y 1).isLt; omega)) (ix2 (y 0) ⟨(y 1).val % 512, Nat.mod_lt _ (by decide)⟩)
def vD (c : Dev nD) : Buf (Elt Ideal) ((c : Thread nD τ).loc main_v0_2) := fun (y : S64x1024.Idx) =>
  vAt m hn c (ptOf 10 (y 1).val (by have : (y 1).val < 1024 := (y 1).isLt; omega)) (ix2 (y 0) ⟨(y 1).val % 512, Nat.mod_lt _ (by decide)⟩)

theorem out_q {r} (h : Pipeline.RDat.FramePost (cfgs 0) (fun c => rdat m hn c) (V m) r) (c : Dev nD) :
    r.2.mem ((c.tc : Thread nD τ).loc main_v0_0) = qD m hn c := by
  obtain ⟨after, hL, hA⟩ := Pipeline.RDat.FramePost.exists_exact h c
  refine (hA 12).trans ?_
  refine Dat.arrAt_eq_of_covers _ 12 _ (by decide +kernel) fun t ht y => ?_
  have hX := leaves_12 m hn c t _ (hL 12 t ht)
  blk_simp
  rw [Pipeline.RDat.withAfter_after, hX]
  idx_vars y
  obtain ⟨-, -, -, -, -, -, -, -, -, -, -, -, h12, -, -, hlt⟩ := idx t
  have hC : 512 * min t.val 7 + y1.val < 4096 := by omega
  have he : ((cfg0.win 12).blk t).view.emb (ix2 y0 y1) = ix2 y0 ⟨512 * min t.val 7 + y1.val, hC⟩ := by
    blk_ext [h12]
  refine Eq.trans ?_ (congrArg (qD m hn c) he.symm)
  have e1 : ptOf 0 (512 * min t.val 7 + y1.val) (by omega) = ptQ t := Fin.ext (by show 0 + (512 * min t.val 7 + y1.val) / 512 = min t.val 7; omega)
  have e2 : (⟨(512 * min t.val 7 + y1.val) % 512, Nat.mod_lt _ (by decide)⟩ : Fin 512) = y1 := Fin.ext (by show (512 * min t.val 7 + y1.val) % 512 = y1.val; omega)
  show _ = qAt m hn c (ptOf 0 (512 * min t.val 7 + y1.val) _) (ix2 y0 ⟨(512 * min t.val 7 + y1.val) % 512, _⟩)
  rw [e1, e2]

theorem out_k {r} (h : Pipeline.RDat.FramePost (cfgs 0) (fun c => rdat m hn c) (V m) r) (c : Dev nD) :
    r.2.mem ((c.tc : Thread nD τ).loc main_v0_1) = kD m hn c := by
  obtain ⟨after, hL, hA⟩ := Pipeline.RDat.FramePost.exists_exact h c
  refine (hA 13).trans ?_
  refine Dat.arrAt_eq_of_covers _ 13 _ (by decide +kernel) fun t ht y => ?_
  have hf := flush_13 t ht
  have hX := leaves_13 m hn c t _ (hL 13 t ht) (by omega)
  blk_simp
  rw [Pipeline.RDat.withAfter_after, hX]
  idx_vars y
  obtain ⟨-, -, -, -, -, -, -, -, -, -, -, -, -, h13, -, hlt⟩ := idx t
  have hC : 512 * min (t.val - 8) 1 + y1.val < 1024 := by omega
  have he : ((cfg0.win 13).blk t).view.emb (ix2 y0 y1) = ix2 y0 ⟨512 * min (t.val - 8) 1 + y1.val, hC⟩ := by
    blk_ext [h13]
  refine Eq.trans ?_ (congrArg (kD m hn c) he.symm)
  have e1 : ptOf 8 (512 * min (t.val - 8) 1 + y1.val) (by omega) = ptK t := Fin.ext (by show 8 + (512 * min (t.val - 8) 1 + y1.val) / 512 = min t.val 9; omega)
  have e2 : (⟨(512 * min (t.val - 8) 1 + y1.val) % 512, Nat.mod_lt _ (by decide)⟩ : Fin 512) = y1 := Fin.ext (by show (512 * min (t.val - 8) 1 + y1.val) % 512 = y1.val; omega)
  show _ = kAt m hn c (ptOf 8 (512 * min (t.val - 8) 1 + y1.val) _) (ix2 y0 ⟨(512 * min (t.val - 8) 1 + y1.val) % 512, _⟩)
  rw [e1, e2]

theorem out_v {r} (h : Pipeline.RDat.FramePost (cfgs 0) (fun c => rdat m hn c) (V m) r) (c : Dev nD) :
    r.2.mem ((c.tc : Thread nD τ).loc main_v0_2) = vD m hn c := by
  obtain ⟨after, hL, hA⟩ := Pipeline.RDat.FramePost.exists_exact h c
  refine (hA 14).trans ?_
  refine Dat.arrAt_eq_of_covers _ 14 _ (by decide +kernel) fun t ht y => ?_
  have hf := flush_14 t ht
  have hX := leaves_14 m hn c t _ (hL 14 t ht) (by omega)
  blk_simp
  rw [Pipeline.RDat.withAfter_after, hX]
  idx_vars y
  obtain ⟨-, -, -, -, -, -, -, -, -, -, -, -, -, -, h14, hlt⟩ := idx t
  have hC : 512 * (t.val - 10) + y1.val < 1024 := by omega
  have he : ((cfg0.win 14).blk t).view.emb (ix2 y0 y1) = ix2 y0 ⟨512 * (t.val - 10) + y1.val, hC⟩ := by
    blk_ext [h14]
  refine Eq.trans ?_ (congrArg (vD m hn c) he.symm)
  have e1 : ptOf 10 (512 * (t.val - 10) + y1.val) (by omega) = t := Fin.ext (by show 10 + (512 * (t.val - 10) + y1.val) / 512 = t.val; omega)
  have e2 : (⟨(512 * (t.val - 10) + y1.val) % 512, Nat.mod_lt _ (by decide)⟩ : Fin 512) = y1 := Fin.ext (by show (512 * (t.val - 10) + y1.val) % 512 = y1.val; omega)
  show _ = vAt m hn c (ptOf 10 (512 * (t.val - 10) + y1.val) _) (ix2 y0 ⟨(512 * (t.val - 10) + y1.val) % 512, _⟩)
  rw [e1, e2]

end Cert.QkvIdeal.Hand

end
-- ==== Proof.QkvRefVal.lean ====
module

public import proofs.«01_k».proof.Proof.Awq
public import proofs.«01_k».proof.Proof.Gen.QkvRefIdeal.Frame

@[expose] public section

set_option maxRecDepth 16384

noncomputable section

/-! The values that the reference's operations compute before its region, one name each. -/

namespace Cert.QkvRefIdeal.Hand

open Idealize.ShloMosaic Idealize.ShloMosaic.TcCoe Idealize.SL.Sem Cert.QkvRefIdeal Cert.QkvRefIdeal.Gen

variable (m : (ℓ : Loc nD τ sig) → Buf (Elt Ideal) ℓ) (c : Dev nD)

/-- The arguments. -/
def a_0 (m : (ℓ : Loc nD τ sig) → Buf (Elt Ideal) ℓ) (c : Dev nD) : IVec S60 32 := m ((c.tc : Thread nD τ).loc main_arg0)
def a_1 (m : (ℓ : Loc nD τ sig) → Buf (Elt Ideal) ℓ) (c : Dev nD) : IVec S8000x4096 32 := m ((c.tc : Thread nD τ).loc main_arg1)
def a_2 (m : (ℓ : Loc nD τ sig) → Buf (Elt Ideal) ℓ) (c : Dev nD) : FVec Ideal S64x1 .f32 := m ((c.tc : Thread nD τ).loc main_arg2)
def a_3 (m : (ℓ : Loc nD τ sig) → Buf (Elt Ideal) ℓ) (c : Dev nD) : FVec Ideal S64x4096 .bf16 := m ((c.tc : Thread nD τ).loc main_arg3)
def a_4 (m : (ℓ : Loc nD τ sig) → Buf (Elt Ideal) ℓ) (c : Dev nD) : FVec Ideal S1x4096 .f32 := m ((c.tc : Thread nD τ).loc main_arg4)
def a_5 (m : (ℓ : Loc nD τ sig) → Buf (Elt Ideal) ℓ) (c : Dev nD) : FVec Ideal S1x4096 .f32 := m ((c.tc : Thread nD τ).loc main_arg5)
def a_6 (m : (ℓ : Loc nD τ sig) → Buf (Elt Ideal) ℓ) (c : Dev nD) : FVec Ideal S64x128 .f32 := m ((c.tc : Thread nD τ).loc main_arg6)
def a_7 (m : (ℓ : Loc nD τ sig) → Buf (Elt Ideal) ℓ) (c : Dev nD) : FVec Ideal S64x128 .f32 := m ((c.tc : Thread nD τ).loc main_arg7)
def a_8 (m : (ℓ : Loc nD τ sig) → Buf (Elt Ideal) ℓ) (c : Dev nD) : FVec Ideal S8 .f32 := m ((c.tc : Thread nD τ).loc main_arg8)
def a_9 (m : (ℓ : Loc nD τ sig) → Buf (Elt Ideal) ℓ) (c : Dev nD) : FVec Ideal S8 .f32 := m ((c.tc : Thread nD τ).loc main_arg9)
def a_10 (m : (ℓ : Loc nD τ sig) → Buf (Elt Ideal) ℓ) (c : Dev nD) : IVec S4096x6144 8 := m ((c.tc : Thread nD τ).loc main_arg10)
def a_11 (m : (ℓ : Loc nD τ sig) → Buf (Elt Ideal) ℓ) (c : Dev nD) : FVec Ideal S64x6144 .bf16 := m ((c.tc : Thread nD τ).loc main_arg11)
def a_12 (m : (ℓ : Loc nD τ sig) → Buf (Elt Ideal) ℓ) (c : Dev nD) : IVec S64x6144 8 := m ((c.tc : Thread nD τ).loc main_arg12)

/-- The reference's four concatenations. -/
def cat_v14 {F : FTy → Type} [FloatOps F] (a : FVec F S60x4096 .f32) (b : FVec F S4x4096 .f32) : FVec F S64x4096 .f32 := concatenate S64x4096 0 [⟨S60x4096, a⟩, ⟨S4x4096, b⟩] concatenates_S60x4096_S4x4096_S64x4096_d0
def cat_v42 {F : FTy → Type} [FloatOps F] (a : FVec F S64x4096 .f32) (b : FVec F S64x4096 .f32) : FVec F S64x8192 .f32 := concatenate S64x8192 1 [⟨S64x4096, a⟩, ⟨S64x4096, b⟩] concatenates_S64x4096_S64x4096_S64x8192_d1
def cat_v78 {F : FTy → Type} [FloatOps F] (a : FVec F S64x32x64 .f32) (b : FVec F S64x32x64 .f32) : FVec F S64x32x128 .f32 := concatenate S64x32x128 2 [⟨S64x32x64, a⟩, ⟨S64x32x64, b⟩] concatenates_S64x32x64_S64x32x64_S64x32x128_d2
def cat_v91 {F : FTy → Type} [FloatOps F] (a : FVec F S64x8x64 .f32) (b : FVec F S64x8x64 .f32) : FVec F S64x8x128 .f32 := concatenate S64x8x128 2 [⟨S64x8x64, a⟩, ⟨S64x8x64, b⟩] concatenates_S64x8x64_S64x8x64_S64x8x128_d2

def r_c (m : (ℓ : Loc nD τ sig) → Buf (Elt Ideal) ℓ) (c : Dev nD) : IVec S_ 32 := (constantI S_ 32 4#32)
def r_call0_v0 (m : (ℓ : Loc nD τ sig) → Buf (Elt Ideal) ℓ) (c : Dev nD) : IVec S_ 32 := (r_c m c)
def r_call0_v1 (m : (ℓ : Loc nD τ sig) → Buf (Elt Ideal) ℓ) (c : Dev nD) : IVec S60 32 := broadcastInDim S60 ![] bcast_S_S60 (r_call0_v0 m c)
def r_call0_v2 (m : (ℓ : Loc nD τ sig) → Buf (Elt Ideal) ℓ) (c : Dev nD) : IVec S60 32 := Host.divsi (a_0 m c) (r_call0_v1 m c)
def r_call0_v3 (m : (ℓ : Loc nD τ sig) → Buf (Elt Ideal) ℓ) (c : Dev nD) : IVec S60 32 := signi (a_0 m c)
def r_call0_v4 (m : (ℓ : Loc nD τ sig) → Buf (Elt Ideal) ℓ) (c : Dev nD) : IVec S_ 32 := signi (r_call0_v0 m c)
def r_call0_v5 (m : (ℓ : Loc nD τ sig) → Buf (Elt Ideal) ℓ) (c : Dev nD) : IVec S60 32 := broadcastInDim S60 ![] bcast_S_S60 (r_call0_v4 m c)
def r_call0_v6 (m : (ℓ : Loc nD τ sig) → Buf (Elt Ideal) ℓ) (c : Dev nD) : IVec S60 1 := cmpi .ne (r_call0_v3 m c) (r_call0_v5 m c)
def r_call0_v7 (m : (ℓ : Loc nD τ sig) → Buf (Elt Ideal) ℓ) (c : Dev nD) : IVec S60 32 := broadcastInDim S60 ![] bcast_S_S60 (r_call0_v0 m c)
def r_call0_v8 (m : (ℓ : Loc nD τ sig) → Buf (Elt Ideal) ℓ) (c : Dev nD) : IVec S60 32 := Host.remsi (a_0 m c) (r_call0_v7 m c)
def r_call0_c (m : (ℓ : Loc nD τ sig) → Buf (Elt Ideal) ℓ) (c : Dev nD) : IVec S_ 32 := (constantI S_ 32 0#32)
def r_call0_v9 (m : (ℓ : Loc nD τ sig) → Buf (Elt Ideal) ℓ) (c : Dev nD) : IVec S60 32 := broadcastInDim S60 ![] bcast_S_S60 (r_call0_c m c)
def r_call0_v10 (m : (ℓ : Loc nD τ sig) → Buf (Elt Ideal) ℓ) (c : Dev nD) : IVec S60 1 := cmpi .ne (r_call0_v8 m c) (r_call0_v9 m c)
def r_call0_v11 (m : (ℓ : Loc nD τ sig) → Buf (Elt Ideal) ℓ) (c : Dev nD) : IVec S60 1 := andi (r_call0_v6 m c) (r_call0_v10 m c)
def r_call0_c_0 (m : (ℓ : Loc nD τ sig) → Buf (Elt Ideal) ℓ) (c : Dev nD) : IVec S_ 32 := (constantI S_ 32 1#32)
def r_call0_v12 (m : (ℓ : Loc nD τ sig) → Buf (Elt Ideal) ℓ) (c : Dev nD) : IVec S60 32 := broadcastInDim S60 ![] bcast_S_S60 (r_call0_c_0 m c)
def r_call0_v13 (m : (ℓ : Loc nD τ sig) → Buf (Elt Ideal) ℓ) (c : Dev nD) : IVec S60 32 := subi (r_call0_v2 m c) (r_call0_v12 m c)
def r_v0 (m : (ℓ : Loc nD τ sig) → Buf (Elt Ideal) ℓ) (c : Dev nD) : IVec S60 32 := select (r_call0_v11 m c) (r_call0_v13 m c) (r_call0_v2 m c)
def r_call1_v0 (m : (ℓ : Loc nD τ sig) → Buf (Elt Ideal) ℓ) (c : Dev nD) : IVec S60x1 32 := broadcastInDim S60x1 ![0] bcast_S60_S60x1_0 (r_v0 m c)
def r_v1 (m : (ℓ : Loc nD τ sig) → Buf (Elt Ideal) ℓ) (c : Dev nD) : IVec S60x4096 32 := Host.gather gather_S8000x4096_S60x1_S60x4096_1_0_n_n_0_1_14096 (a_1 m c) (r_call1_v0 m c)
def r_c_0 (m : (ℓ : Loc nD τ sig) → Buf (Elt Ideal) ℓ) (c : Dev nD) : IVec S_ 32 := (constantI S_ 32 4#32)
def r_call2_v0 (m : (ℓ : Loc nD τ sig) → Buf (Elt Ideal) ℓ) (c : Dev nD) : IVec S_ 32 := (r_c_0 m c)
def r_call2_c (m : (ℓ : Loc nD τ sig) → Buf (Elt Ideal) ℓ) (c : Dev nD) : IVec S_ 32 := (constantI S_ 32 0#32)
def r_call2_v1 (m : (ℓ : Loc nD τ sig) → Buf (Elt Ideal) ℓ) (c : Dev nD) : IVec S_ 1 := cmpi .eq (r_call2_v0 m c) (r_call2_c m c)
def r_call2_c_0 (m : (ℓ : Loc nD τ sig) → Buf (Elt Ideal) ℓ) (c : Dev nD) : IVec S_ 32 := (constantI S_ 32 1#32)
def r_call2_v2 (m : (ℓ : Loc nD τ sig) → Buf (Elt Ideal) ℓ) (c : Dev nD) : IVec S_ 32 := select (r_call2_v1 m c) (r_call2_c_0 m c) (r_call2_v0 m c)
def r_call2_v3 (m : (ℓ : Loc nD τ sig) → Buf (Elt Ideal) ℓ) (c : Dev nD) : IVec S60 32 := broadcastInDim S60 ![] bcast_S_S60 (r_call2_v2 m c)
def r_call2_v4 (m : (ℓ : Loc nD τ sig) → Buf (Elt Ideal) ℓ) (c : Dev nD) : IVec S60 32 := Host.remsi (a_0 m c) (r_call2_v3 m c)
def r_call2_c_1 (m : (ℓ : Loc nD τ sig) → Buf (Elt Ideal) ℓ) (c : Dev nD) : IVec S_ 32 := (constantI S_ 32 0#32)
def r_call2_v5 (m : (ℓ : Loc nD τ sig) → Buf (Elt Ideal) ℓ) (c : Dev nD) : IVec S60 32 := broadcastInDim S60 ![] bcast_S_S60 (r_call2_c_1 m c)
def r_call2_v6 (m : (ℓ : Loc nD τ sig) → Buf (Elt Ideal) ℓ) (c : Dev nD) : IVec S60 1 := cmpi .ne (r_call2_v4 m c) (r_call2_v5 m c)
def r_call2_c_2 (m : (ℓ : Loc nD τ sig) → Buf (Elt Ideal) ℓ) (c : Dev nD) : IVec S_ 32 := (constantI S_ 32 0#32)
def r_call2_v7 (m : (ℓ : Loc nD τ sig) → Buf (Elt Ideal) ℓ) (c : Dev nD) : IVec S60 32 := broadcastInDim S60 ![] bcast_S_S60 (r_call2_c_2 m c)
def r_call2_v8 (m : (ℓ : Loc nD τ sig) → Buf (Elt Ideal) ℓ) (c : Dev nD) : IVec S60 1 := cmpi .slt (r_call2_v4 m c) (r_call2_v7 m c)
def r_call2_c_3 (m : (ℓ : Loc nD τ sig) → Buf (Elt Ideal) ℓ) (c : Dev nD) : IVec S_ 32 := (constantI S_ 32 0#32)
def r_call2_v9 (m : (ℓ : Loc nD τ sig) → Buf (Elt Ideal) ℓ) (c : Dev nD) : IVec S_ 1 := cmpi .slt (r_call2_v2 m c) (r_call2_c_3 m c)
def r_call2_v10 (m : (ℓ : Loc nD τ sig) → Buf (Elt Ideal) ℓ) (c : Dev nD) : IVec S60 1 := broadcastInDim S60 ![] bcast_S_S60 (r_call2_v9 m c)
def r_call2_v11 (m : (ℓ : Loc nD τ sig) → Buf (Elt Ideal) ℓ) (c : Dev nD) : IVec S60 1 := cmpi .ne (r_call2_v8 m c) (r_call2_v10 m c)
def r_call2_v12 (m : (ℓ : Loc nD τ sig) → Buf (Elt Ideal) ℓ) (c : Dev nD) : IVec S60 1 := andi (r_call2_v11 m c) (r_call2_v6 m c)
def r_call2_v13 (m : (ℓ : Loc nD τ sig) → Buf (Elt Ideal) ℓ) (c : Dev nD) : IVec S60 32 := broadcastInDim S60 ![] bcast_S_S60 (r_call2_v2 m c)
def r_call2_v14 (m : (ℓ : Loc nD τ sig) → Buf (Elt Ideal) ℓ) (c : Dev nD) : IVec S60 32 := addi (r_call2_v4 m c) (r_call2_v13 m c)
def r_v2 (m : (ℓ : Loc nD τ sig) → Buf (Elt Ideal) ℓ) (c : Dev nD) : IVec S60 32 := select (r_call2_v12 m c) (r_call2_v14 m c) (r_call2_v4 m c)
def r_v3 (m : (ℓ : Loc nD τ sig) → Buf (Elt Ideal) ℓ) (c : Dev nD) : IVec S60x1 32 := broadcastInDim S60x1 ![0] bcast_S60_S60x1_0 (r_v2 m c)
def r_c_1 (m : (ℓ : Loc nD τ sig) → Buf (Elt Ideal) ℓ) (c : Dev nD) : IVec S_ 32 := (constantI S_ 32 8#32)
def r_v4 (m : (ℓ : Loc nD τ sig) → Buf (Elt Ideal) ℓ) (c : Dev nD) : IVec S60x1 32 := broadcastInDim S60x1 ![] bcast_S_S60x1 (r_c_1 m c)
def r_v5 (m : (ℓ : Loc nD τ sig) → Buf (Elt Ideal) ℓ) (c : Dev nD) : IVec S60x1 32 := muli (r_v4 m c) (r_v3 m c)
def r_c_2 (m : (ℓ : Loc nD τ sig) → Buf (Elt Ideal) ℓ) (c : Dev nD) : IVec S_ 32 := (constantI S_ 32 24#32)
def r_v6 (m : (ℓ : Loc nD τ sig) → Buf (Elt Ideal) ℓ) (c : Dev nD) : IVec S60x1 32 := broadcastInDim S60x1 ![] bcast_S_S60x1 (r_c_2 m c)
def r_v7 (m : (ℓ : Loc nD τ sig) → Buf (Elt Ideal) ℓ) (c : Dev nD) : IVec S60x1 32 := subi (r_v6 m c) (r_v5 m c)
def r_v8 (m : (ℓ : Loc nD τ sig) → Buf (Elt Ideal) ℓ) (c : Dev nD) : IVec S60x4096 32 := broadcastInDim S60x4096 ![0, 1] bcast_S60x1_S60x4096_0_1 (r_v7 m c)
def r_v9 (m : (ℓ : Loc nD τ sig) → Buf (Elt Ideal) ℓ) (c : Dev nD) : IVec S60x4096 32 := Host.shli (r_v1 m c) (r_v8 m c)
def r_c_3 (m : (ℓ : Loc nD τ sig) → Buf (Elt Ideal) ℓ) (c : Dev nD) : IVec S_ 32 := (constantI S_ 32 24#32)
def r_v10 (m : (ℓ : Loc nD τ sig) → Buf (Elt Ideal) ℓ) (c : Dev nD) : IVec S60x4096 32 := broadcastInDim S60x4096 ![] bcast_S_S60x4096 (r_c_3 m c)
def r_v11 (m : (ℓ : Loc nD τ sig) → Buf (Elt Ideal) ℓ) (c : Dev nD) : IVec S60x4096 32 := Host.shrsi (r_v9 m c) (r_v10 m c)
def r_v12 (m : (ℓ : Loc nD τ sig) → Buf (Elt Ideal) ℓ) (c : Dev nD) : FVec Ideal S60x4096 .f32 := sitofp .f32 (r_v11 m c)
def r_cst (m : (ℓ : Loc nD τ sig) → Buf (Elt Ideal) ℓ) (c : Dev nD) : FVec Ideal S_ .f32 := (constant (F := Ideal) S_ .f32 0x00000000#32)
def r_v13 (m : (ℓ : Loc nD τ sig) → Buf (Elt Ideal) ℓ) (c : Dev nD) : FVec Ideal S4x4096 .f32 := broadcastInDim S4x4096 ![] bcast_S_S4x4096 (r_cst m c)
def r_v14 (m : (ℓ : Loc nD τ sig) → Buf (Elt Ideal) ℓ) (c : Dev nD) : FVec Ideal S64x4096 .f32 := cat_v14 (r_v12 m c) (r_v13 m c)
def r_v15 (m : (ℓ : Loc nD τ sig) → Buf (Elt Ideal) ℓ) (c : Dev nD) : FVec Ideal S64x4096 .f32 := broadcastInDim S64x4096 ![0, 1] bcast_S64x1_S64x4096_0_1 (a_2 m c)
def r_v16 (m : (ℓ : Loc nD τ sig) → Buf (Elt Ideal) ℓ) (c : Dev nD) : FVec Ideal S64x4096 .f32 := mulf (r_v14 m c) (r_v15 m c)
def r_v17 (m : (ℓ : Loc nD τ sig) → Buf (Elt Ideal) ℓ) (c : Dev nD) : FVec Ideal S64x4096 .f32 := mulf (r_v16 m c) (r_v16 m c)
def r_cst_4 (m : (ℓ : Loc nD τ sig) → Buf (Elt Ideal) ℓ) (c : Dev nD) : FVec Ideal S_ .f32 := (constant (F := Ideal) S_ .f32 0x00000000#32)
def r_v18 (m : (ℓ : Loc nD τ sig) → Buf (Elt Ideal) ℓ) (c : Dev nD) : FVec Ideal S64 .f32 := Host.reduceAdd (r_v17 m c) (r_cst_4 m c) reducesTo_S64x4096_S64_d1 h_S_
def r_v19 (m : (ℓ : Loc nD τ sig) → Buf (Elt Ideal) ℓ) (c : Dev nD) : FVec Ideal S64x1 .f32 := broadcastInDim S64x1 ![0] bcast_S64_S64x1_0 (r_v18 m c)
def r_cst_5 (m : (ℓ : Loc nD τ sig) → Buf (Elt Ideal) ℓ) (c : Dev nD) : FVec Ideal S_ .f32 := (constant (F := Ideal) S_ .f32 0x45800000#32)
def r_v20 (m : (ℓ : Loc nD τ sig) → Buf (Elt Ideal) ℓ) (c : Dev nD) : FVec Ideal S64x1 .f32 := broadcastInDim S64x1 ![] bcast_S_S64x1 (r_cst_5 m c)
def r_v21 (m : (ℓ : Loc nD τ sig) → Buf (Elt Ideal) ℓ) (c : Dev nD) : FVec Ideal S64x1 .f32 := Host.divf (r_v19 m c) (r_v20 m c)
def r_cst_6 (m : (ℓ : Loc nD τ sig) → Buf (Elt Ideal) ℓ) (c : Dev nD) : FVec Ideal S_ .f32 := (constant (F := Ideal) S_ .f32 0x3727C5AC#32)
def r_v22 (m : (ℓ : Loc nD τ sig) → Buf (Elt Ideal) ℓ) (c : Dev nD) : FVec Ideal S64x1 .f32 := broadcastInDim S64x1 ![] bcast_S_S64x1 (r_cst_6 m c)
def r_v23 (m : (ℓ : Loc nD τ sig) → Buf (Elt Ideal) ℓ) (c : Dev nD) : FVec Ideal S64x1 .f32 := addf (r_v21 m c) (r_v22 m c)
def r_v24 (m : (ℓ : Loc nD τ sig) → Buf (Elt Ideal) ℓ) (c : Dev nD) : FVec Ideal S64x1 .f32 := Host.sqrt (r_v23 m c)
def r_v25 (m : (ℓ : Loc nD τ sig) → Buf (Elt Ideal) ℓ) (c : Dev nD) : FVec Ideal S64x4096 .f32 := broadcastInDim S64x4096 ![0, 1] bcast_S64x1_S64x4096_0_1 (r_v24 m c)
def r_v26 (m : (ℓ : Loc nD τ sig) → Buf (Elt Ideal) ℓ) (c : Dev nD) : FVec Ideal S64x4096 .f32 := Host.divf (r_v16 m c) (r_v25 m c)
def r_v27 (m : (ℓ : Loc nD τ sig) → Buf (Elt Ideal) ℓ) (c : Dev nD) : FVec Ideal S64x4096 .f32 := broadcastInDim S64x4096 ![0, 1] bcast_S1x4096_S64x4096_0_1 (a_4 m c)
def r_v28 (m : (ℓ : Loc nD τ sig) → Buf (Elt Ideal) ℓ) (c : Dev nD) : FVec Ideal S64x4096 .f32 := mulf (r_v26 m c) (r_v27 m c)
def r_v29 (m : (ℓ : Loc nD τ sig) → Buf (Elt Ideal) ℓ) (c : Dev nD) : FVec Ideal S64x4096 .f32 := extf .f32 (a_3 m c) bitsLt_bf16_f32
def r_v30 (m : (ℓ : Loc nD τ sig) → Buf (Elt Ideal) ℓ) (c : Dev nD) : FVec Ideal S64x4096 .f32 := mulf (r_v29 m c) (r_v29 m c)
def r_cst_7 (m : (ℓ : Loc nD τ sig) → Buf (Elt Ideal) ℓ) (c : Dev nD) : FVec Ideal S_ .f32 := (constant (F := Ideal) S_ .f32 0x00000000#32)
def r_v31 (m : (ℓ : Loc nD τ sig) → Buf (Elt Ideal) ℓ) (c : Dev nD) : FVec Ideal S64 .f32 := Host.reduceAdd (r_v30 m c) (r_cst_7 m c) reducesTo_S64x4096_S64_d1 h_S_
def r_v32 (m : (ℓ : Loc nD τ sig) → Buf (Elt Ideal) ℓ) (c : Dev nD) : FVec Ideal S64x1 .f32 := broadcastInDim S64x1 ![0] bcast_S64_S64x1_0 (r_v31 m c)
def r_cst_8 (m : (ℓ : Loc nD τ sig) → Buf (Elt Ideal) ℓ) (c : Dev nD) : FVec Ideal S_ .f32 := (constant (F := Ideal) S_ .f32 0x45800000#32)
def r_v33 (m : (ℓ : Loc nD τ sig) → Buf (Elt Ideal) ℓ) (c : Dev nD) : FVec Ideal S64x1 .f32 := broadcastInDim S64x1 ![] bcast_S_S64x1 (r_cst_8 m c)
def r_v34 (m : (ℓ : Loc nD τ sig) → Buf (Elt Ideal) ℓ) (c : Dev nD) : FVec Ideal S64x1 .f32 := Host.divf (r_v32 m c) (r_v33 m c)
def r_cst_9 (m : (ℓ : Loc nD τ sig) → Buf (Elt Ideal) ℓ) (c : Dev nD) : FVec Ideal S_ .f32 := (constant (F := Ideal) S_ .f32 0x3727C5AC#32)
def r_v35 (m : (ℓ : Loc nD τ sig) → Buf (Elt Ideal) ℓ) (c : Dev nD) : FVec Ideal S64x1 .f32 := broadcastInDim S64x1 ![] bcast_S_S64x1 (r_cst_9 m c)
def r_v36 (m : (ℓ : Loc nD τ sig) → Buf (Elt Ideal) ℓ) (c : Dev nD) : FVec Ideal S64x1 .f32 := addf (r_v34 m c) (r_v35 m c)
def r_v37 (m : (ℓ : Loc nD τ sig) → Buf (Elt Ideal) ℓ) (c : Dev nD) : FVec Ideal S64x1 .f32 := Host.sqrt (r_v36 m c)
def r_v38 (m : (ℓ : Loc nD τ sig) → Buf (Elt Ideal) ℓ) (c : Dev nD) : FVec Ideal S64x4096 .f32 := broadcastInDim S64x4096 ![0, 1] bcast_S64x1_S64x4096_0_1 (r_v37 m c)
def r_v39 (m : (ℓ : Loc nD τ sig) → Buf (Elt Ideal) ℓ) (c : Dev nD) : FVec Ideal S64x4096 .f32 := Host.divf (r_v29 m c) (r_v38 m c)
def r_v40 (m : (ℓ : Loc nD τ sig) → Buf (Elt Ideal) ℓ) (c : Dev nD) : FVec Ideal S64x4096 .f32 := broadcastInDim S64x4096 ![0, 1] bcast_S1x4096_S64x4096_0_1 (a_5 m c)
def r_v41 (m : (ℓ : Loc nD τ sig) → Buf (Elt Ideal) ℓ) (c : Dev nD) : FVec Ideal S64x4096 .f32 := mulf (r_v39 m c) (r_v40 m c)
def r_v42 (m : (ℓ : Loc nD τ sig) → Buf (Elt Ideal) ℓ) (c : Dev nD) : FVec Ideal S64x8192 .f32 := cat_v42 (r_v28 m c) (r_v41 m c)
def r_v43 (m : (ℓ : Loc nD τ sig) → Buf (Elt Ideal) ℓ) (c : Dev nD) : FVec Ideal S64x8192 .bf16 := truncf .bf16 (r_v42 m c) bitsLt_bf16_f32
def r_v44 (m : (ℓ : Loc nD τ sig) → Buf (Elt Ideal) ℓ) (c : Dev nD) : IVec S4096x6144 32 := extui 32 (a_10 m c) natLt_8_32
def r_v45 (m : (ℓ : Loc nD τ sig) → Buf (Elt Ideal) ℓ) (c : Dev nD) : IVec S64x64x6144 32 := shapeCast _ (r_v44 m c) shapeCasts_S4096x6144_S64x64x6144
def r_v46 (m : (ℓ : Loc nD τ sig) → Buf (Elt Ideal) ℓ) (c : Dev nD) : IVec S64x6144 32 := extui 32 (a_12 m c) natLt_8_32
def r_v47 (m : (ℓ : Loc nD τ sig) → Buf (Elt Ideal) ℓ) (c : Dev nD) : FVec Ideal S64x6144 .bf16 := sitofp .bf16 (r_v46 m c)
def r_v48 (m : (ℓ : Loc nD τ sig) → Buf (Elt Ideal) ℓ) (c : Dev nD) : FVec Ideal S64x1x6144 .bf16 := broadcastInDim S64x1x6144 ![0, 2] bcast_S64x6144_S64x1x6144_0_2 (r_v47 m c)
def r_v49 (m : (ℓ : Loc nD τ sig) → Buf (Elt Ideal) ℓ) (c : Dev nD) : FVec Ideal S64x1x6144 .bf16 := broadcastInDim S64x1x6144 ![0, 2] bcast_S64x6144_S64x1x6144_0_2 (a_11 m c)
def r_c_10 (m : (ℓ : Loc nD τ sig) → Buf (Elt Ideal) ℓ) (c : Dev nD) : IVec S_ 32 := (constantI S_ 32 15#32)
def r_v50 (m : (ℓ : Loc nD τ sig) → Buf (Elt Ideal) ℓ) (c : Dev nD) : IVec S64x64x6144 32 := broadcastInDim S64x64x6144 ![] bcast_S_S64x64x6144 (r_c_10 m c)
def r_v51 (m : (ℓ : Loc nD τ sig) → Buf (Elt Ideal) ℓ) (c : Dev nD) : IVec S64x64x6144 32 := andi (r_v45 m c) (r_v50 m c)
def r_v52 (m : (ℓ : Loc nD τ sig) → Buf (Elt Ideal) ℓ) (c : Dev nD) : FVec Ideal S64x64x6144 .bf16 := sitofp .bf16 (r_v51 m c)
def r_v53 (m : (ℓ : Loc nD τ sig) → Buf (Elt Ideal) ℓ) (c : Dev nD) : FVec Ideal S64x64x6144 .bf16 := broadcastInDim S64x64x6144 ![0, 1, 2] bcast_S64x1x6144_S64x64x6144_0_1_2 (r_v48 m c)
def r_v54 (m : (ℓ : Loc nD τ sig) → Buf (Elt Ideal) ℓ) (c : Dev nD) : FVec Ideal S64x64x6144 .bf16 := subf (r_v52 m c) (r_v53 m c)
def r_v55 (m : (ℓ : Loc nD τ sig) → Buf (Elt Ideal) ℓ) (c : Dev nD) : FVec Ideal S64x64x6144 .bf16 := broadcastInDim S64x64x6144 ![0, 1, 2] bcast_S64x1x6144_S64x64x6144_0_1_2 (r_v49 m c)
def r_v56 (m : (ℓ : Loc nD τ sig) → Buf (Elt Ideal) ℓ) (c : Dev nD) : FVec Ideal S64x64x6144 .bf16 := mulf (r_v54 m c) (r_v55 m c)
def r_v57 (m : (ℓ : Loc nD τ sig) → Buf (Elt Ideal) ℓ) (c : Dev nD) : FVec Ideal S4096x6144 .bf16 := shapeCast _ (r_v56 m c) shapeCasts_S64x64x6144_S4096x6144
def r_c_11 (m : (ℓ : Loc nD τ sig) → Buf (Elt Ideal) ℓ) (c : Dev nD) : IVec S_ 32 := (constantI S_ 32 4#32)
def r_v58 (m : (ℓ : Loc nD τ sig) → Buf (Elt Ideal) ℓ) (c : Dev nD) : IVec S64x64x6144 32 := broadcastInDim S64x64x6144 ![] bcast_S_S64x64x6144 (r_c_11 m c)
def r_v59 (m : (ℓ : Loc nD τ sig) → Buf (Elt Ideal) ℓ) (c : Dev nD) : IVec S64x64x6144 32 := Host.shrsi (r_v45 m c) (r_v58 m c)
def r_v60 (m : (ℓ : Loc nD τ sig) → Buf (Elt Ideal) ℓ) (c : Dev nD) : FVec Ideal S64x64x6144 .bf16 := sitofp .bf16 (r_v59 m c)
def r_v61 (m : (ℓ : Loc nD τ sig) → Buf (Elt Ideal) ℓ) (c : Dev nD) : FVec Ideal S64x64x6144 .bf16 := broadcastInDim S64x64x6144 ![0, 1, 2] bcast_S64x1x6144_S64x64x6144_0_1_2 (r_v48 m c)
def r_v62 (m : (ℓ : Loc nD τ sig) → Buf (Elt Ideal) ℓ) (c : Dev nD) : FVec Ideal S64x64x6144 .bf16 := subf (r_v60 m c) (r_v61 m c)
def r_v63 (m : (ℓ : Loc nD τ sig) → Buf (Elt Ideal) ℓ) (c : Dev nD) : FVec Ideal S64x64x6144 .bf16 := broadcastInDim S64x64x6144 ![0, 1, 2] bcast_S64x1x6144_S64x64x6144_0_1_2 (r_v49 m c)
def r_v64 (m : (ℓ : Loc nD τ sig) → Buf (Elt Ideal) ℓ) (c : Dev nD) : FVec Ideal S64x64x6144 .bf16 := mulf (r_v62 m c) (r_v63 m c)
def r_v65 (m : (ℓ : Loc nD τ sig) → Buf (Elt Ideal) ℓ) (c : Dev nD) : FVec Ideal S4096x6144 .bf16 := shapeCast _ (r_v64 m c) shapeCasts_S64x64x6144_S4096x6144
def r_v66 (m : (ℓ : Loc nD τ sig) → Buf (Elt Ideal) ℓ) (c : Dev nD) : FVec Ideal S64x4096 .bf16 := Host.slice S64x4096 ![0, 0] ![1, 2] (r_v43 m c) slicesBy_S64x8192_S64x4096_0s1_0s2
def r_v67 (m : (ℓ : Loc nD τ sig) → Buf (Elt Ideal) ℓ) (c : Dev nD) : FVec Ideal S64x6144 .f32 := Host.dotGeneral dot_S64x4096_S4096x6144_S64x6144_1_0_0_1_n_n none (r_v66 m c) (r_v57 m c)
def r_v68 (m : (ℓ : Loc nD τ sig) → Buf (Elt Ideal) ℓ) (c : Dev nD) : FVec Ideal S64x4096 .bf16 := Host.slice S64x4096 ![0, 1] ![1, 2] (r_v43 m c) slicesBy_S64x8192_S64x4096_0s1_1s2
def r_v69 (m : (ℓ : Loc nD τ sig) → Buf (Elt Ideal) ℓ) (c : Dev nD) : FVec Ideal S64x6144 .f32 := Host.dotGeneral dot_S64x4096_S4096x6144_S64x6144_1_0_0_1_n_n none (r_v68 m c) (r_v65 m c)
def r_v70 (m : (ℓ : Loc nD τ sig) → Buf (Elt Ideal) ℓ) (c : Dev nD) : FVec Ideal S64x6144 .f32 := addf (r_v67 m c) (r_v69 m c)
def r_v71 (m : (ℓ : Loc nD τ sig) → Buf (Elt Ideal) ℓ) (c : Dev nD) : FVec Ideal S64x48x128 .f32 := shapeCast _ (r_v70 m c) shapeCasts_S64x6144_S64x48x128
def r_v72 (m : (ℓ : Loc nD τ sig) → Buf (Elt Ideal) ℓ) (c : Dev nD) : FVec Ideal S64x32x128 .f32 := extractStridedSlice S64x32x128 ![0, 0, 0] (r_v71 m c) slices_S64x48x128_S64x32x128_0_0_0
def r_v73 (m : (ℓ : Loc nD τ sig) → Buf (Elt Ideal) ℓ) (c : Dev nD) : FVec Ideal S64x1x128 .f32 := broadcastInDim S64x1x128 ![0, 2] bcast_S64x128_S64x1x128_0_2 (a_6 m c)
def r_v74 (m : (ℓ : Loc nD τ sig) → Buf (Elt Ideal) ℓ) (c : Dev nD) : FVec Ideal S64x32x128 .f32 := broadcastInDim S64x32x128 ![0, 1, 2] bcast_S64x1x128_S64x32x128_0_1_2 (r_v73 m c)
def r_v75 (m : (ℓ : Loc nD τ sig) → Buf (Elt Ideal) ℓ) (c : Dev nD) : FVec Ideal S64x32x128 .f32 := mulf (r_v72 m c) (r_v74 m c)
def r_v76 (m : (ℓ : Loc nD τ sig) → Buf (Elt Ideal) ℓ) (c : Dev nD) : FVec Ideal S64x32x64 .f32 := extractStridedSlice S64x32x64 ![0, 0, 64] (r_v72 m c) slices_S64x32x128_S64x32x64_0_0_64
def r_v77 (m : (ℓ : Loc nD τ sig) → Buf (Elt Ideal) ℓ) (c : Dev nD) : FVec Ideal S64x32x64 .f32 := extractStridedSlice S64x32x64 ![0, 0, 0] (r_v72 m c) slices_S64x32x128_S64x32x64_0_0_0
def r_v78 (m : (ℓ : Loc nD τ sig) → Buf (Elt Ideal) ℓ) (c : Dev nD) : FVec Ideal S64x32x128 .f32 := cat_v78 (r_v76 m c) (r_v77 m c)
def r_v79 (m : (ℓ : Loc nD τ sig) → Buf (Elt Ideal) ℓ) (c : Dev nD) : FVec Ideal S64x1x128 .f32 := broadcastInDim S64x1x128 ![0, 2] bcast_S64x128_S64x1x128_0_2 (a_7 m c)
def r_v80 (m : (ℓ : Loc nD τ sig) → Buf (Elt Ideal) ℓ) (c : Dev nD) : FVec Ideal S64x32x128 .f32 := broadcastInDim S64x32x128 ![0, 1, 2] bcast_S64x1x128_S64x32x128_0_1_2 (r_v79 m c)
def r_v81 (m : (ℓ : Loc nD τ sig) → Buf (Elt Ideal) ℓ) (c : Dev nD) : FVec Ideal S64x32x128 .f32 := mulf (r_v78 m c) (r_v80 m c)
def r_v82 (m : (ℓ : Loc nD τ sig) → Buf (Elt Ideal) ℓ) (c : Dev nD) : FVec Ideal S64x32x128 .f32 := addf (r_v75 m c) (r_v81 m c)
def r_v83 (m : (ℓ : Loc nD τ sig) → Buf (Elt Ideal) ℓ) (c : Dev nD) : FVec Ideal S64x4096 .f32 := shapeCast _ (r_v82 m c) shapeCasts_S64x32x128_S64x4096
def r_v84 (m : (ℓ : Loc nD τ sig) → Buf (Elt Ideal) ℓ) (c : Dev nD) : FVec Ideal S64x4096 .bf16 := truncf .bf16 (r_v83 m c) bitsLt_bf16_f32
def r_v85 (m : (ℓ : Loc nD τ sig) → Buf (Elt Ideal) ℓ) (c : Dev nD) : FVec Ideal S64x8x128 .f32 := extractStridedSlice S64x8x128 ![0, 32, 0] (r_v71 m c) slices_S64x48x128_S64x8x128_0_32_0
def r_v86 (m : (ℓ : Loc nD τ sig) → Buf (Elt Ideal) ℓ) (c : Dev nD) : FVec Ideal S64x1x128 .f32 := broadcastInDim S64x1x128 ![0, 2] bcast_S64x128_S64x1x128_0_2 (a_6 m c)
def r_v87 (m : (ℓ : Loc nD τ sig) → Buf (Elt Ideal) ℓ) (c : Dev nD) : FVec Ideal S64x8x128 .f32 := broadcastInDim S64x8x128 ![0, 1, 2] bcast_S64x1x128_S64x8x128_0_1_2 (r_v86 m c)
def r_v88 (m : (ℓ : Loc nD τ sig) → Buf (Elt Ideal) ℓ) (c : Dev nD) : FVec Ideal S64x8x128 .f32 := mulf (r_v85 m c) (r_v87 m c)
def r_v89 (m : (ℓ : Loc nD τ sig) → Buf (Elt Ideal) ℓ) (c : Dev nD) : FVec Ideal S64x8x64 .f32 := extractStridedSlice S64x8x64 ![0, 0, 64] (r_v85 m c) slices_S64x8x128_S64x8x64_0_0_64
def r_v90 (m : (ℓ : Loc nD τ sig) → Buf (Elt Ideal) ℓ) (c : Dev nD) : FVec Ideal S64x8x64 .f32 := extractStridedSlice S64x8x64 ![0, 0, 0] (r_v85 m c) slices_S64x8x128_S64x8x64_0_0_0
def r_v91 (m : (ℓ : Loc nD τ sig) → Buf (Elt Ideal) ℓ) (c : Dev nD) : FVec Ideal S64x8x128 .f32 := cat_v91 (r_v89 m c) (r_v90 m c)
def r_v92 (m : (ℓ : Loc nD τ sig) → Buf (Elt Ideal) ℓ) (c : Dev nD) : FVec Ideal S64x1x128 .f32 := broadcastInDim S64x1x128 ![0, 2] bcast_S64x128_S64x1x128_0_2 (a_7 m c)
def r_v93 (m : (ℓ : Loc nD τ sig) → Buf (Elt Ideal) ℓ) (c : Dev nD) : FVec Ideal S64x8x128 .f32 := broadcastInDim S64x8x128 ![0, 1, 2] bcast_S64x1x128_S64x8x128_0_1_2 (r_v92 m c)
def r_v94 (m : (ℓ : Loc nD τ sig) → Buf (Elt Ideal) ℓ) (c : Dev nD) : FVec Ideal S64x8x128 .f32 := mulf (r_v91 m c) (r_v93 m c)
def r_v95 (m : (ℓ : Loc nD τ sig) → Buf (Elt Ideal) ℓ) (c : Dev nD) : FVec Ideal S64x8x128 .f32 := addf (r_v88 m c) (r_v94 m c)
def r_v96 (m : (ℓ : Loc nD τ sig) → Buf (Elt Ideal) ℓ) (c : Dev nD) : FVec Ideal S8x1 .f32 := broadcastInDim S8x1 ![0] bcast_S8_S8x1_0 (a_8 m c)
def r_v97 (m : (ℓ : Loc nD τ sig) → Buf (Elt Ideal) ℓ) (c : Dev nD) : FVec Ideal S1x8x1 .f32 := broadcastInDim S1x8x1 ![1, 2] bcast_S8x1_S1x8x1_1_2 (r_v96 m c)
def r_v98 (m : (ℓ : Loc nD τ sig) → Buf (Elt Ideal) ℓ) (c : Dev nD) : FVec Ideal S64x8x128 .f32 := broadcastInDim S64x8x128 ![0, 1, 2] bcast_S1x8x1_S64x8x128_0_1_2 (r_v97 m c)
def r_v99 (m : (ℓ : Loc nD τ sig) → Buf (Elt Ideal) ℓ) (c : Dev nD) : FVec Ideal S64x8x128 .f32 := Host.divf (r_v95 m c) (r_v98 m c)
def r_cst_12 (m : (ℓ : Loc nD τ sig) → Buf (Elt Ideal) ℓ) (c : Dev nD) : FVec Ideal S_ .f32 := (constant (F := Ideal) S_ .f32 0xC3E00000#32)
def r_cst_13 (m : (ℓ : Loc nD τ sig) → Buf (Elt Ideal) ℓ) (c : Dev nD) : FVec Ideal S_ .f32 := (constant (F := Ideal) S_ .f32 0x43E00000#32)
def r_call3_v0 (m : (ℓ : Loc nD τ sig) → Buf (Elt Ideal) ℓ) (c : Dev nD) : FVec Ideal S_ .f32 := (r_cst_12 m c)
def r_call3_v1 (m : (ℓ : Loc nD τ sig) → Buf (Elt Ideal) ℓ) (c : Dev nD) : FVec Ideal S64x8x128 .f32 := broadcastInDim S64x8x128 ![] bcast_S_S64x8x128 (r_call3_v0 m c)
def r_call3_v2 (m : (ℓ : Loc nD τ sig) → Buf (Elt Ideal) ℓ) (c : Dev nD) : FVec Ideal S64x8x128 .f32 := maximumf (r_call3_v1 m c) (r_v99 m c)
def r_call3_v3 (m : (ℓ : Loc nD τ sig) → Buf (Elt Ideal) ℓ) (c : Dev nD) : FVec Ideal S_ .f32 := (r_cst_13 m c)
def r_call3_v4 (m : (ℓ : Loc nD τ sig) → Buf (Elt Ideal) ℓ) (c : Dev nD) : FVec Ideal S64x8x128 .f32 := broadcastInDim S64x8x128 ![] bcast_S_S64x8x128 (r_call3_v3 m c)
def r_v100 (m : (ℓ : Loc nD τ sig) → Buf (Elt Ideal) ℓ) (c : Dev nD) : FVec Ideal S64x8x128 .f32 := minimumf (r_call3_v4 m c) (r_call3_v2 m c)
def r_v101 (m : (ℓ : Loc nD τ sig) → Buf (Elt Ideal) ℓ) (c : Dev nD) : FVec Ideal S64x8x128 .f32 := extractStridedSlice S64x8x128 ![0, 40, 0] (r_v71 m c) slices_S64x48x128_S64x8x128_0_40_0
def r_v102 (m : (ℓ : Loc nD τ sig) → Buf (Elt Ideal) ℓ) (c : Dev nD) : FVec Ideal S8x1 .f32 := broadcastInDim S8x1 ![0] bcast_S8_S8x1_0 (a_9 m c)
def r_v103 (m : (ℓ : Loc nD τ sig) → Buf (Elt Ideal) ℓ) (c : Dev nD) : FVec Ideal S1x8x1 .f32 := broadcastInDim S1x8x1 ![1, 2] bcast_S8x1_S1x8x1_1_2 (r_v102 m c)
def r_v104 (m : (ℓ : Loc nD τ sig) → Buf (Elt Ideal) ℓ) (c : Dev nD) : FVec Ideal S64x8x128 .f32 := broadcastInDim S64x8x128 ![0, 1, 2] bcast_S1x8x1_S64x8x128_0_1_2 (r_v103 m c)
def r_v105 (m : (ℓ : Loc nD τ sig) → Buf (Elt Ideal) ℓ) (c : Dev nD) : FVec Ideal S64x8x128 .f32 := Host.divf (r_v101 m c) (r_v104 m c)
def r_cst_14 (m : (ℓ : Loc nD τ sig) → Buf (Elt Ideal) ℓ) (c : Dev nD) : FVec Ideal S_ .f32 := (constant (F := Ideal) S_ .f32 0xC3E00000#32)
def r_cst_15 (m : (ℓ : Loc nD τ sig) → Buf (Elt Ideal) ℓ) (c : Dev nD) : FVec Ideal S_ .f32 := (constant (F := Ideal) S_ .f32 0x43E00000#32)
def r_call4_v0 (m : (ℓ : Loc nD τ sig) → Buf (Elt Ideal) ℓ) (c : Dev nD) : FVec Ideal S_ .f32 := (r_cst_14 m c)
def r_call4_v1 (m : (ℓ : Loc nD τ sig) → Buf (Elt Ideal) ℓ) (c : Dev nD) : FVec Ideal S64x8x128 .f32 := broadcastInDim S64x8x128 ![] bcast_S_S64x8x128 (r_call4_v0 m c)
def r_call4_v2 (m : (ℓ : Loc nD τ sig) → Buf (Elt Ideal) ℓ) (c : Dev nD) : FVec Ideal S64x8x128 .f32 := maximumf (r_call4_v1 m c) (r_v105 m c)
def r_call4_v3 (m : (ℓ : Loc nD τ sig) → Buf (Elt Ideal) ℓ) (c : Dev nD) : FVec Ideal S_ .f32 := (r_cst_15 m c)
def r_call4_v4 (m : (ℓ : Loc nD τ sig) → Buf (Elt Ideal) ℓ) (c : Dev nD) : FVec Ideal S64x8x128 .f32 := broadcastInDim S64x8x128 ![] bcast_S_S64x8x128 (r_call4_v3 m c)
def r_v106 (m : (ℓ : Loc nD τ sig) → Buf (Elt Ideal) ℓ) (c : Dev nD) : FVec Ideal S64x8x128 .f32 := minimumf (r_call4_v4 m c) (r_call4_v2 m c)
def r_v107 (m : (ℓ : Loc nD τ sig) → Buf (Elt Ideal) ℓ) (c : Dev nD) : FVec Ideal S64x1024 .f32 := shapeCast _ (r_v100 m c) shapeCasts_S64x8x128_S64x1024
def r_v108 (m : (ℓ : Loc nD τ sig) → Buf (Elt Ideal) ℓ) (c : Dev nD) : FVec Ideal S64x1024 .f32 := shapeCast _ (r_v106 m c) shapeCasts_S64x8x128_S64x1024

end Cert.QkvRefIdeal.Hand

end
-- ==== Proof.QkvRefDot.lean ====
module

public import proofs.«01_k».proof.Proof.QkvRefVal
public import Idealize.ShloMosaic.Lib.Pointwise

@[expose] public section

set_option maxRecDepth 16384

noncomputable section

namespace Cert.QkvRefIdeal.Hand

open Idealize.ShloMosaic Idealize.ShloMosaic.TcCoe Idealize.SL.Sem Cert.QkvRefIdeal Cert.QkvRefIdeal.Gen Cert.Awq

variable (m : (ℓ : Loc nD τ sig) → Buf (Elt Ideal) ℓ) (c : Dev nD)

/-- An entry of the reference's product. -/
theorem mm_apply (r : Fin 64) (C : Fin 6144) :
    r_v70 m c (ix2 r C) = dot 64 (fun k => r_v43 m c (ix2 r ⟨k % 8192, Nat.mod_lt _ (by decide)⟩))
      (fun k => a_10 m c (ix2 ⟨k % 4096, Nat.mod_lt _ (by decide)⟩ C)) (fun k => a_12 m c (ix2 ⟨k % 64, Nat.mod_lt _ (by decide)⟩ C))
      (fun k => a_11 m c (ix2 ⟨k % 64, Nat.mod_lt _ (by decide)⟩ C)) := by
  pointwise [r_v44, r_v45, r_v46, r_v47, r_v48, r_v49, r_c_10, r_v50, r_v51, r_v52, r_v53, r_v54, r_v55, r_v56, r_v57, r_c_11, r_v58, r_v59, r_v60, r_v61, r_v62, r_v63, r_v64, r_v65, r_v66, r_v67, r_v68, r_v69, r_v70]
  unfold dot
  rw [← Fin.sum_univ_eq_sum_range, ← Fin.sum_univ_eq_sum_range]
  simp only [tLo, tHi, lo, hi]
  refine congrArg₂ (· + ·) (Finset.sum_congr rfl fun k _ => ?_) (Finset.sum_congr rfl fun k _ => ?_)
  all_goals
    have hk := k.isLt
    have e1 : 2 * k.val % 8192 = 2 * k.val := Nat.mod_eq_of_lt (by omega)
    have e2 : (2 * k.val + 1) % 8192 = 1 + 2 * k.val := by omega
    have e3 : k.val % 4096 = k.val := Nat.mod_eq_of_lt (by omega)
    have e4 : k.val / 64 % 64 = k.val / 64 := Nat.mod_eq_of_lt (by omega)
    simp only [e1, e2, e3, e4]
    try rfl

end Cert.QkvRefIdeal.Hand

end
-- ==== Proof.QkvRows.lean ====
module

public import proofs.«01_k».proof.Proof.QkvOut
public import proofs.«01_k».proof.Proof.QkvRefDot
public import Idealize.ShloMosaic.Lib.Pointwise

@[expose] public section

set_option maxRecDepth 16384

noncomputable section

namespace Cert.QkvIdeal.Hand

open Idealize.ShloMosaic Idealize.ShloMosaic.TcCoe Idealize.SL.Sem Cert.QkvIdeal Cert.QkvIdeal.Gen Cert.Awq

/-! Entries of what the body computes: a rotated head, a head's codes, a block of the product. -/

/-- An entry of a head turned by the position: the entry times the cosine, plus the entry half a head away times the signed sine. -/
theorem pay6_apply (h : FVec Ideal S64x128 .f32) (x7 x8 : Vec Ideal S64x128 .f32) (r : Fin 64) (d : Fin 128) :
    k0_pay6 h x7 x8 (ix2 r d) = h (ix2 r d) * x7 (ix2 r d) + h (ix2 r ⟨(d.val + 128 - 64) % 128, Nat.mod_lt _ (by decide)⟩) * x8 (ix2 r d) := by
  pointwise [k0_pay6]

/-- An entry of a turned head's codes. -/
theorem pay10_apply (h : FVec Ideal S64x128 .f32) (x7 x8 : Vec Ideal S64x128 .f32) (s : Elt Ideal .f32) (r : Fin 64) (d : Fin 128) :
    k0_pay10 h x7 x8 s (ix2 r d) = min (Ideal.ofBits FTy.f32 1138753536#32) (max (Ideal.ofBits FTy.f32 3286237184#32)
      (Ideal.div (h (ix2 r d) * x7 (ix2 r d) + h (ix2 r ⟨(d.val + 128 - 64) % 128, Nat.mod_lt _ (by decide)⟩) * x8 (ix2 r d)) s)) := by
  pointwise [k0_pay10]

/-- An entry of a head's codes. -/
theorem pay15_apply (h : FVec Ideal S64x128 .f32) (s : Elt Ideal .f32) (r : Fin 64) (d : Fin 128) :
    k0_pay15 h s (ix2 r d) = min (Ideal.ofBits FTy.f32 1138753536#32) (max (Ideal.ofBits FTy.f32 3286237184#32) (Ideal.div (h (ix2 r d)) s)) := by
  pointwise [k0_pay15]

theorem part_dot (x : Vec Ideal S64x8192 .bf16) (w : Vec Ideal S4096x512 .i8) (s : Vec Ideal S64x512 .bf16) (z : Vec Ideal S64x512 .i8)
    (r : Fin 64) (c : Fin 512) :
    mm x w s z (ix2 r c) = dot 64 (fun k => x (ix2 r ⟨k % 8192, Nat.mod_lt _ (by decide)⟩))
      (fun k => w (ix2 ⟨k % 4096, Nat.mod_lt _ (by decide)⟩ c)) (fun k => z (ix2 ⟨k % 64, Nat.mod_lt _ (by decide)⟩ c))
      (fun k => s (ix2 ⟨k % 64, Nat.mod_lt _ (by decide)⟩ c)) := by
  refine acc_eq_dot (n := 63) ?_ ?_ ?_ ?_
  all_goals
    intro g hg
    have hg' : g % 64 = g := Nat.mod_eq_of_lt hg
  · intro j
    have e : (128 * g + j.val) % 8192 = 128 * (g % 64) + j.val := by omega
    pointwise
    simp only [e]
  · intro j
    have e : (64 * g + j.val) % 4096 = 64 * (g % 64) + j.val := by omega
    pointwise
    simp only [e]
  · pointwise
  · pointwise

theorem pay5_eq (E : Vec Ideal S64x4096 .f32) (es : Vec Ideal S64x1 .f32) (ne : Vec Ideal S1x4096 .f32) (m' : (ℓ : Loc Cert.QkvRefIdeal.nD Cert.QkvRefIdeal.τ Cert.QkvRefIdeal.sig) → Buf (Elt Ideal) ℓ) (c' : Dev Cert.QkvRefIdeal.nD)
   (hE : E = Cert.QkvRefIdeal.Hand.r_v14 m' c') (hes : es = Cert.QkvRefIdeal.Hand.a_2 m' c') (hne : ne = Cert.QkvRefIdeal.Hand.a_4 m' c') (r : Fin 64) (k : Fin 4096) :
   k0_pay5 E es ne (ix2 r k) = Cert.QkvRefIdeal.Hand.r_v28 m' c' (ix2 r k) := by
  subst hE hes hne
  open Cert.QkvRefIdeal.Hand in
  pointwise [k0_pay5, r_v15, r_v16, r_v17, r_cst_4, r_v18, r_v19, r_cst_5, r_v20, r_v21, r_cst_6, r_v22, r_v23, r_v24, r_v25, r_v26, r_v27, r_v28]

theorem pay18_eq (g : Vec Ideal S64x4096 .bf16) (ng : Vec Ideal S1x4096 .f32) (m' : (ℓ : Loc Cert.QkvRefIdeal.nD Cert.QkvRefIdeal.τ Cert.QkvRefIdeal.sig) → Buf (Elt Ideal) ℓ) (c' : Dev Cert.QkvRefIdeal.nD)
   (hg : g = Cert.QkvRefIdeal.Hand.a_3 m' c') (hng : ng = Cert.QkvRefIdeal.Hand.a_5 m' c') (r : Fin 64) (k : Fin 4096) :
   k0_pay18 g ng (ix2 r k) = Cert.QkvRefIdeal.Hand.r_v41 m' c' (ix2 r k) := by
  subst hg hng
  open Cert.QkvRefIdeal.Hand in
  pointwise [k0_pay18, r_v29, r_v30, r_cst_7, r_v31, r_v32, r_cst_8, r_v33, r_v34, r_cst_9, r_v35, r_v36, r_v37, r_v38, r_v39, r_v40, r_v41]

end Cert.QkvIdeal.Hand

namespace Cert.QkvRefIdeal.Hand

open Idealize.ShloMosaic Idealize.ShloMosaic.TcCoe Idealize.SL.Sem Cert.QkvRefIdeal Cert.QkvRefIdeal.Gen

variable (m : (ℓ : Loc nD τ sig) → Buf (Elt Ideal) ℓ) (c : Dev nD)

/-! Entries of the reference's results, over the product and the arguments. -/

/-- The column half a head away, in the head that starts at column `b`. -/
def turn (b d : ℕ) : ℕ := if d < 64 then b + (64 + d) else b + (d - 64)

theorem turn_lt (n b d : ℕ) (hd : d < 128) (h : b + 128 ≤ n) : turn b d < n := by unfold turn; split <;> omega

/-- The reference's activations: the embedding's half, then the states' half. -/
theorem v43_apply (r : Fin 64) (C : Fin 8192) :
    r_v43 m c (ix2 r C) = if h : C.val < 4096 then r_v28 m c (ix2 r ⟨C.val, h⟩) else r_v41 m c (ix2 r ⟨C.val - 4096, by omega⟩) := by
  pointwise [r_v42, r_v43, cat_v42]

/-- An entry of the queries. -/
theorem v84_apply (r : Fin 64) (C : Fin 4096) (hC : turn (C.val / 128 * 128) (C.val % 128) < 6144) :
    r_v84 m c (ix2 r C) = r_v70 m c (ix2 r ⟨C.val, by omega⟩) * a_6 m c (ix2 r ⟨C.val % 128, Nat.mod_lt _ (by decide)⟩)
      + r_v70 m c (ix2 r ⟨turn (C.val / 128 * 128) (C.val % 128), hC⟩) * a_7 m c (ix2 r ⟨C.val % 128, Nat.mod_lt _ (by decide)⟩) := by
  have e : C.val / 128 * 128 + C.val % 128 = C.val := by omega
  have ht : ∀ k (hk : k < 6144), k = turn (C.val / 128 * 128) (C.val % 128) → r_v70 m c (ix2 r ⟨k, hk⟩) = r_v70 m c (ix2 r ⟨turn (C.val / 128 * 128) (C.val % 128), hC⟩) := by
    intro k hk h; subst h; rfl
  pointwise [r_v71, r_v72, r_v73, r_v74, r_v75, r_v76, r_v77, r_v78, r_v79, r_v80, r_v81, r_v82, r_v83, r_v84, cat_v78]
  simp only [e]
  congr 2
  split
  · next h => exact ht _ _ (by unfold turn; rw [if_pos h])
  · next h => exact ht _ _ (by unfold turn; rw [if_neg h])

/-- An entry of the keys' codes. -/
theorem v107_apply (r : Fin 64) (C : Fin 1024) (hC : turn ((32 + C.val / 128) * 128) (C.val % 128) < 6144) :
    r_v107 m c (ix2 r C) = min (Ideal.ofBits FTy.f32 1138753536#32) (max (Ideal.ofBits FTy.f32 3286237184#32)
      (Ideal.div (r_v70 m c (ix2 r ⟨(32 + C.val / 128) * 128 + C.val % 128, by omega⟩) * a_6 m c (ix2 r ⟨C.val % 128, Nat.mod_lt _ (by decide)⟩)
        + r_v70 m c (ix2 r ⟨turn ((32 + C.val / 128) * 128) (C.val % 128), hC⟩) * a_7 m c (ix2 r ⟨C.val % 128, Nat.mod_lt _ (by decide)⟩))
        (a_8 m c (ix1 ⟨C.val / 128, by omega⟩)))) := by
  have ht : ∀ k (hk : k < 6144), k = turn ((32 + C.val / 128) * 128) (C.val % 128) → r_v70 m c (ix2 r ⟨k, hk⟩) = r_v70 m c (ix2 r ⟨turn ((32 + C.val / 128) * 128) (C.val % 128), hC⟩) := by
    intro k hk h; subst h; rfl
  pointwise [r_v71, r_v85, r_v86, r_v87, r_v88, r_v89, r_v90, r_v91, r_v92, r_v93, r_v94, r_v95, r_v96, r_v97, r_v98, r_v99, r_cst_12, r_cst_13, r_call3_v0, r_call3_v1, r_call3_v2, r_call3_v3, r_call3_v4, r_v100, r_v107, cat_v91]
  congr 5
  split
  · next h => exact ht _ _ (by unfold turn; rw [if_pos h])
  · next h => exact ht _ _ (by unfold turn; rw [if_neg h])

/-- An entry of the values' codes. -/
theorem v108_apply (r : Fin 64) (C : Fin 1024) :
    r_v108 m c (ix2 r C) = min (Ideal.ofBits FTy.f32 1138753536#32) (max (Ideal.ofBits FTy.f32 3286237184#32)
      (Ideal.div (r_v70 m c (ix2 r ⟨(40 + C.val / 128) * 128 + C.val % 128, by omega⟩)) (a_9 m c (ix1 ⟨C.val / 128, by omega⟩)))) := by
  pointwise [r_v71, r_v101, r_v102, r_v103, r_v104, r_v105, r_cst_14, r_cst_15, r_call4_v0, r_call4_v1, r_call4_v2, r_call4_v3, r_call4_v4, r_v106, r_v108]

end Cert.QkvRefIdeal.Hand

end
-- ==== Proof.QkvEmb.lean ====
module

public import proofs.«01_k».proof.Proof.QkvOut
public import proofs.«01_k».proof.Proof.QkvIndex
public import proofs.«01_k».proof.Proof.QkvRefVal
public import Idealize.ShloMosaic.Lib.Pointwise

@[expose] public section

set_option maxRecDepth 16384

noncomputable section

namespace Cert.Awq

open Idealize.ShloMosaic

/-! The code a word of the table holds for a token: four codes to a word, the token's remainder by four says which. -/

/-- The code of token `w` in the word `e`: the byte that the remainder names, as a signed number. -/
def codeOf (w e : BitVec 32) : BitVec 32 := (e <<< (24#32 - 8#32 * w.srem 4#32)).sshiftRight' 24#32

theorem srem_four (w : BitVec 32) (h : w.toNat < 32000) : w.srem 4#32 = 0#32 ∨ w.srem 4#32 = 1#32 ∨ w.srem 4#32 = 2#32 ∨ w.srem 4#32 = 3#32 := by
  have hm : w.msb = false := by rw [BitVec.msb_eq_decide]; simp; omega
  have e : (w.srem 4#32).toNat = w.toNat % 4 := by
    rw [BitVec.srem_eq, hm, show (4#32 : BitVec 32).msb = false from rfl]
    show (w % 4#32).toNat = _
    rw [BitVec.toNat_umod]; rfl
  have hlt : w.toNat % 4 < 4 := Nat.mod_lt _ (by decide)
  generalize w.srem 4#32 = v at e
  have hv : v = BitVec.ofNat 32 (w.toNat % 4) := BitVec.eq_of_toNat_eq (by rw [e]; simp; omega)
  rw [hv]
  generalize w.toNat % 4 = n at hlt
  interval_cases n <;> simp

theorem not_corner (w : BitVec 32) : ¬ IntOp.SDivCorner w 4#32 := by
  unfold IntOp.SDivCorner; rintro (h | ⟨_, h⟩) <;> exact absurd h (by decide)

end Cert.Awq

namespace Cert.QkvIdeal.Hand

open Idealize.ShloMosaic Idealize.ShloMosaic.TcCoe Idealize.SL.Sem Cert.QkvIdeal Cert.QkvIdeal.Gen Cert.Awq

/-- The filling rows are zero. -/
theorem pay3_apply (r : Fin 4) (d : Fin 4096) : k0_pay3 (F := Ideal) (ix2 r d) = 0 := by
  pointwise [k0_pay3]

/-- An entry of an unpacked row is the token's code in the word. -/
theorem pay4_apply (w : BitVec 32) (hw : w.toNat < 32000) (x : Vec Ideal S1x4096 .i32) (d : Fin 4096) :
    k0_pay4 (F := Ideal) w x (ix2 0 d) = FloatOps.sitofp .f32 (codeOf w (x (ix2 0 d))) := by
  pointwise [k0_pay4]
  refine congrArg (FloatOps.sitofp (F := Ideal) .f32) ?_
  have hS : (Scalar.select (Scalar.cmpi .eq 4#32 0#32) 1#32 4#32 : BitVec 32) = 4#32 := by decide
  have hr : Scalar.remsi w 4#32 = w.srem 4#32 := if_neg (not_corner w)
  rw [hS, hr]
  unfold codeOf
  rcases srem_four w hw with h | h | h | h <;> rw [h] <;> rfl

/-- A row of the table, as the copy reads it. -/
theorem word_apply (x1 : S60.Idx → BitVec 32) (hn : Named x1) (E : Tab Ideal) (k : Fin k0_t1_loop.trips) (d : Fin 4096) (w : BitVec 32) (hw : tw x1 k = w) (hlt : w.toNat < 32000) :
    word (F := Ideal) x1 hn E k (ix2 0 d) = (show Vec Ideal S8000x4096 .i32 from E) (ix2 ⟨w.toNat / 4, by omega⟩ d) := by
  subst hw
  unfold word sRow
  refine congrArg (show Vec Ideal S8000x4096 .i32 from E) ?_
  have ho := off3_eq _ hlt
  funext a
  fin_cases a
  · refine Fin.ext ?_
    exact congrArg (· + 1 * 0) (congrFun ho 0)
  · refine Fin.ext ?_
    exact (congrArg (· + 1 * d.val) (congrFun ho 1)).trans (show 0 + 1 * d.val = d.val by omega)

end Cert.QkvIdeal.Hand

namespace Cert.QkvRefIdeal.Hand

open Idealize.ShloMosaic Idealize.ShloMosaic.TcCoe Idealize.SL.Sem Cert.QkvRefIdeal Cert.QkvRefIdeal.Gen Cert.Awq

variable (m : (ℓ : Loc nD τ sig) → Buf (Elt Ideal) ℓ) (c : Dev nD)

/-- A token's quotient by four. -/
theorem v0_apply (r : Fin 60) (h : (a_0 m c (ix1 r)).toNat < 32000) : (r_v0 m c (ix1 r)).toNat = (a_0 m c (ix1 r)).toNat / 4 := by
  pointwise [r_v0, r_c, r_call0_v0,r_call0_v1,r_call0_v2,r_call0_v3,r_call0_v4,r_call0_v5,r_call0_v6,r_call0_v7,r_call0_v8,r_call0_c,r_call0_v9,r_call0_v10,r_call0_v11,r_call0_c_0,r_call0_v12,r_call0_v13]
  generalize a_0 m c (ix1 r) = w at h
  have hd : IntOp.divsi .host w 4#32 = w.sdiv 4#32 := if_neg (not_corner w)
  have hr : IntOp.remsi .host w 4#32 = w.srem 4#32 := if_neg (not_corner w)
  have hm : w.msb = false := by rw [BitVec.msb_eq_decide]; simp; omega
  rw [hd, hr, hm, ← QkvIdeal.Hand.sdiv_four w h]
  by_cases h0 : w = 0#32
  · subst h0; decide
  · simp [h0, show (4#32 : BitVec 32).msb = false from rfl, Scalar.select, IntOp.andi, IntOp.cmpi]

/-- A word that the lookup takes. -/
theorem v1_apply (r : Fin 60) (C : Fin 4096) (h : (a_0 m c (ix1 r)).toNat < 32000) :
    r_v1 m c (ix2 r C) = a_1 m c (ix2 ⟨(a_0 m c (ix1 r)).toNat / 4, by omega⟩ C) := by
  have h0 := v0_apply m c r h
  have hb : r_call1_v0 m c (ix2 r 0) = r_v0 m c (ix1 r) := by pointwise [r_call1_v0]
  unfold r_v1 Host.gather
  refine congrArg (a_1 m c) ?_
  funext a
  fin_cases a
  · refine Fin.ext ?_
    have hs : gather_S8000x4096_S60x1_S60x4096_1_0_n_n_0_1_14096.siIdx (ix2 r C) ⟨0, by decide⟩ = ix2 r 0 := by
      funext b
      fin_cases b <;> rfl
    show min (r_call1_v0 m c (gather_S8000x4096_S60x1_S60x4096_1_0_n_n_0_1_14096.siIdx (ix2 r C) ⟨0, _⟩)).toInt.toNat (8000 - 1) + 0 + 0 = (a_0 m c (ix1 r)).toNat / 4
    rw [hs, hb, BitVec.toInt_eq_toNat_of_lt (by omega), h0]
    simp only [Int.toNat_natCast]
    omega
  · refine Fin.ext ?_
    show 0 + 0 + C.val = C.val
    omega

/-- An entry of the reference's embedding before its scales: the token's code, and zero in the four filling rows. -/
theorem v14_apply (hlt : ∀ r : Fin 60, (a_0 m c (ix1 r)).toNat < 32000) (r : Fin 64) (C : Fin 4096) :
    r_v14 m c (ix2 r C) = if h : r.val < 60 then FloatOps.sitofp (F := Ideal) .f32 (codeOf (a_0 m c (ix1 ⟨r.val, h⟩)) (a_1 m c (ix2 ⟨(a_0 m c (ix1 ⟨r.val, h⟩)).toNat / 4, by have := hlt ⟨r.val, h⟩; omega⟩ C)))
      else 0 := by
  pointwise [r_v14, cat_v14, r_v12, r_v11, r_v10, r_v9, r_v8, r_v7, r_v6, r_v5, r_v4, r_v3, r_c_1, r_c_2, r_c_3, r_v13, r_cst]
  split
  · next h =>
    refine congrArg (FloatOps.sitofp (F := Ideal) .f32) ?_
    rw [v1_apply m c _ _ (hlt _)]
    have h2 : r_v2 m c (ix1 ⟨r.val, h⟩) = (a_0 m c (ix1 ⟨r.val, h⟩)).srem 4#32 := by
      pointwise [r_v2, r_c_0, r_call2_v0,r_call2_c,r_call2_v1,r_call2_c_0,r_call2_v2,r_call2_v3,r_call2_v4,r_call2_c_1,r_call2_v5,r_call2_v6,r_call2_c_2,r_call2_v7,r_call2_v8,r_call2_c_3,r_call2_v9,r_call2_v10,r_call2_v11,r_call2_v12,r_call2_v13,r_call2_v14]
      have hr : IntOp.remsi .host (a_0 m c (ix1 ⟨r.val, h⟩)) 4#32 = (a_0 m c (ix1 ⟨r.val, h⟩)).srem 4#32 := if_neg (not_corner _)
      have hS : (Scalar.select (IntOp.cmpi .eq 4#32 0#32) 1#32 4#32 : BitVec 32) = 4#32 := by decide
      rw [hS, hr]
      rcases srem_four _ (hlt ⟨r.val, h⟩) with h | h | h | h <;> rw [h] <;> rfl
    rw [h2]
    unfold codeOf
    rcases srem_four _ (hlt ⟨r.val, h⟩) with h | h | h | h <;> rw [h] <;> rfl
  · rfl

end Cert.QkvRefIdeal.Hand

end
-- ==== Proof.QkvVal.lean ====
module

public import proofs.«01_k».proof.Proof.QkvRows
public import proofs.«01_k».proof.Proof.QkvEmb

@[expose] public section

set_option maxRecDepth 16384

noncomputable section

namespace Cert.QkvIdeal.Hand

open Idealize.ShloMosaic Idealize.ShloMosaic.TcCoe Idealize.SL.Sem Cert.QkvIdeal Cert.QkvIdeal.Gen Cert.Awq
open Cert.QkvRefIdeal.Hand (a_0 a_1 a_2 a_3 a_4 a_5 a_6 a_7 a_8 a_9 a_10 a_11 a_12 r_v14 r_v28 r_v41 r_v43 r_v70 r_v84 r_v107 r_v108)

variable (m : (ℓ : Loc nD τ sig) → Buf (Elt Ideal) ℓ) (hn : Ok m)
variable (m' : (ℓ : Loc Cert.QkvRefIdeal.nD Cert.QkvRefIdeal.τ Cert.QkvRefIdeal.sig) → Buf (Elt Ideal) ℓ) (c : Dev nD)

/-- The reference's arguments are the kernel's, on the device. -/
structure Agree : Prop where
  e0 : a_0 m' c = m ((c : Thread nD τ).loc main_arg0)
  e1 : a_1 m' c = m ((c : Thread nD τ).loc main_arg1)
  e2 : a_2 m' c = m ((c : Thread nD τ).loc main_arg2)
  e3 : a_3 m' c = m ((c : Thread nD τ).loc main_arg3)
  e4 : a_4 m' c = m ((c : Thread nD τ).loc main_arg4)
  e5 : a_5 m' c = m ((c : Thread nD τ).loc main_arg5)
  e6 : a_6 m' c = m ((c : Thread nD τ).loc main_arg6)
  e7 : a_7 m' c = m ((c : Thread nD τ).loc main_arg7)
  e8 : a_8 m' c = m ((c : Thread nD τ).loc main_arg8)
  e9 : a_9 m' c = m ((c : Thread nD τ).loc main_arg9)
  e10 : a_10 m' c = m ((c : Thread nD τ).loc main_arg10)
  e11 : a_11 m' c = m ((c : Thread nD τ).loc main_arg11)
  e12 : a_12 m' c = m ((c : Thread nD τ).loc main_arg12)

/-! A window that holds its whole array at every point holds the argument. -/

theorem blk0 (t : Fin cfg0.N) : (iblk m c 0 t : Vec Ideal S60 .i32) = m ((c : Thread nD τ).loc main_arg0) := by
  obtain ⟨h0, h1, h2, h3, h4, h5, h6, h7, h8, h9, h10, h11, -⟩ := idx t
  funext y; idx_vars y; blk_ext [iblk, V, h0]
theorem blk1 (t : Fin cfg0.N) : (iblk m c 1 t : Vec Ideal S64x1 .f32) = m ((c : Thread nD τ).loc main_arg2) := by
  obtain ⟨h0, h1, h2, h3, h4, h5, h6, h7, h8, h9, h10, h11, -⟩ := idx t
  funext y; idx_vars y; blk_ext [iblk, V, h1]
theorem blk2 (t : Fin cfg0.N) : (iblk m c 2 t : Vec Ideal S64x4096 .bf16) = m ((c : Thread nD τ).loc main_arg3) := by
  obtain ⟨h0, h1, h2, h3, h4, h5, h6, h7, h8, h9, h10, h11, -⟩ := idx t
  funext y; idx_vars y; blk_ext [iblk, V, h2]
theorem blk3 (t : Fin cfg0.N) : (iblk m c 3 t : Vec Ideal S1x4096 .f32) = m ((c : Thread nD τ).loc main_arg4) := by
  obtain ⟨h0, h1, h2, h3, h4, h5, h6, h7, h8, h9, h10, h11, -⟩ := idx t
  funext y; idx_vars y; blk_ext [iblk, V, h3]
theorem blk4 (t : Fin cfg0.N) : (iblk m c 4 t : Vec Ideal S1x4096 .f32) = m ((c : Thread nD τ).loc main_arg5) := by
  obtain ⟨h0, h1, h2, h3, h4, h5, h6, h7, h8, h9, h10, h11, -⟩ := idx t
  funext y; idx_vars y; blk_ext [iblk, V, h4]
theorem blk5 (t : Fin cfg0.N) : (iblk m c 5 t : Vec Ideal S64x128 .f32) = m ((c : Thread nD τ).loc main_arg6) := by
  obtain ⟨h0, h1, h2, h3, h4, h5, h6, h7, h8, h9, h10, h11, -⟩ := idx t
  funext y; idx_vars y; blk_ext [iblk, V, h5]
theorem blk6 (t : Fin cfg0.N) : (iblk m c 6 t : Vec Ideal S64x128 .f32) = m ((c : Thread nD τ).loc main_arg7) := by
  obtain ⟨h0, h1, h2, h3, h4, h5, h6, h7, h8, h9, h10, h11, -⟩ := idx t
  funext y; idx_vars y; blk_ext [iblk, V, h6]
theorem blk7 (t : Fin cfg0.N) : (iblk m c 7 t : Vec Ideal S8 .f32) = m ((c : Thread nD τ).loc main_arg8) := by
  obtain ⟨h0, h1, h2, h3, h4, h5, h6, h7, h8, h9, h10, h11, -⟩ := idx t
  funext y; idx_vars y; blk_ext [iblk, V, h7]
theorem blk8 (t : Fin cfg0.N) : (iblk m c 8 t : Vec Ideal S8 .f32) = m ((c : Thread nD τ).loc main_arg9) := by
  obtain ⟨h0, h1, h2, h3, h4, h5, h6, h7, h8, h9, h10, h11, -⟩ := idx t
  funext y; idx_vars y; blk_ext [iblk, V, h8]

/-- The table of words is the argument. -/
theorem tab_eq : tabOf m c = m ((c : Thread nD τ).loc main_arg1) := rfl

variable {m' c}

/-- The unpacked rows are the reference's looked-up rows. -/
theorem emb_eq (x1 : S60.Idx → BitVec 32) (hx : Named x1) (E : Tab Ideal) (h0 : a_0 m' c = x1) (h1 : a_1 m' c = E) (hlt : ∀ r : Fin 60, (a_0 m' c (ix1 r)).toNat < 32000) :
    emb0 (F := Ideal) x1 hx E = r_v14 m' c := by
  funext y
  idx_vars y
  refine Eq.trans ?_ (Cert.QkvRefIdeal.Hand.v14_apply m' c hlt y0 y1).symm
  show (if h : y0.val < 60 then k0_pay4 (F := Ideal) (tw x1 ⟨y0.val, h⟩) (word (F := Ideal) x1 hx E ⟨y0.val, h⟩) (ix2 0 y1)
    else k0_pay3 (F := Ideal) (ix2 ⟨y0.val - 60, by have := y0.isLt; omega⟩ y1)) = _
  split
  · next h =>
    have ht : tw x1 ⟨y0.val, h⟩ = a_0 m' c (ix1 ⟨y0.val, h⟩) := by
      rw [h0]
      unfold tw
      refine congrArg x1 ?_
      funext a
      fin_cases a
      rfl
    have hl := hlt ⟨y0.val, h⟩
    rw [pay4_apply _ (by rw [ht]; exact hl), word_apply x1 hx E _ y1 _ ht hl, ht, ← h1]
  · exact pay3_apply _ _

variable {m} (A : Agree m m' c) (hlt : ∀ r : Fin 60, (a_0 m' c (ix1 r)).toNat < 32000)
include A hlt

/-- The activations are the reference's. -/
theorem act_eq (r : Fin 64) (C : Fin 8192) : actX m hn c (ix2 r C) = r_v43 m' c (ix2 r C) := by
  refine Eq.trans ?_ (Cert.QkvRefIdeal.Hand.v43_apply m' c r C).symm
  unfold actX acts
  have hC := C.isLt
  have hr := r.isLt
  by_cases h : C.val < 4096
  · rw [dif_pos h]
    refine (put_out (s := S64x8192) _ _ _ _ _ ?_).trans ((put_in (s := S64x8192) _ _ _ _ _ ?_).trans ?_)
    · intro hh
      have h1 : 4096 ≤ C.val := (hh 1).1
      omega
    · intro a
      fin_cases a
      · exact ⟨Nat.zero_le _, by show r.val < 0 + 64; omega⟩
      · exact ⟨Nat.zero_le _, by show C.val < 0 + 4096; omega⟩
    · refine Eq.trans (congrArg _ ?_) (pay5_eq _ _ _ m' c (emb_eq _ _ _ ?_ ?_ hlt) ?_ ?_ r ⟨C.val, h⟩)
      · funext a
        fin_cases a <;> rfl
      · exact A.e0.trans (blk0 m c t0).symm
      · exact A.e1
      · exact (blk1 m c t0).trans A.e2.symm
      · exact (blk3 m c t0).trans A.e4.symm
  · rw [dif_neg h]
    refine (put_in (s := S64x8192) _ _ _ _ _ ?_).trans ?_
    · intro a
      fin_cases a
      · exact ⟨Nat.zero_le _, by show r.val < 0 + 64; omega⟩
      · exact ⟨by show 4096 ≤ C.val; omega, by show C.val < 4096 + 4096; omega⟩
    · refine Eq.trans (congrArg _ ?_) (pay18_eq _ _ m' c ?_ ?_ r ⟨C.val - 4096, by omega⟩)
      · funext a
        fin_cases a <;> rfl
      · exact (blk2 m c t0).trans A.e3.symm
      · exact (blk4 m c t0).trans A.e5.symm

/-- A block of the product is the reference's product at the block's columns. -/
theorem prod_eq (t : Fin cfg0.N) (r : Fin 64) (d : Fin 512) (C : Fin 6144) (hC : C.val = 512 * t.val + d.val) :
    prodAt m hn c t (ix2 r d) = r_v70 m' c (ix2 r C) := by
  obtain ⟨h0, h1, h2, h3, h4, h5, h6, h7, h8, h9, h10, h11, -⟩ := idx t
  unfold prodAt
  refine (part_dot _ _ _ _ r d).trans ((dot_congr ?_ ?_ ?_ ?_).trans (Cert.QkvRefIdeal.Hand.mm_apply m' c r C).symm)
  · intro k _; exact act_eq hn A hlt r _
  · intro k _; rw [A.e10]; blk_ext [iblk, V, h9, hC]
  · intro k _; rw [A.e12]; blk_ext [iblk, V, h11, hC]
  · intro k _; rw [A.e11]; blk_ext [iblk, V, h10, hC]

/-- The queries are the reference's. -/
theorem q_eq : qD m hn c = r_v84 m' c := by
  funext y
  idx_vars y
  have hy := y1.isLt
  have hlt' : Cert.QkvRefIdeal.Hand.turn (y1.val / 128 * 128) (y1.val % 128) < 6144 := Cert.QkvRefIdeal.Hand.turn_lt _ _ _ (by omega) (by omega)
  refine Eq.trans ?_ (Cert.QkvRefIdeal.Hand.v84_apply m' c y0 y1 hlt').symm
  show qAt m hn c (ptOf 0 y1.val _) (ix2 y0 ⟨y1.val % 512, _⟩) = _
  have hT : (ptOf 0 y1.val (by omega)).val = y1.val / 512 := Nat.zero_add _
  generalize ptOf 0 y1.val (by omega) = T at hT
  show k0_pay6 (headOf (prodAt m hn c T) ⟨y1.val % 512 / 128, _⟩) (iblk m c 5 T) (iblk m c 6 T) (ix2 y0 ⟨y1.val % 512 % 128, _⟩) = _
  refine (pay6_apply _ _ _ _ _).trans ?_
  have hd : (⟨y1.val % 512 % 128, Nat.mod_lt _ (by decide)⟩ : Fin 128) = ⟨y1.val % 128, Nat.mod_lt _ (by decide)⟩ := Fin.ext (by show y1.val % 512 % 128 = y1.val % 128; omega)
  refine congrArg₂ (· + ·) (congrArg₂ (· * ·) (prod_eq hn A hlt _ _ _ _ ?_) ?_) (congrArg₂ (· * ·) (prod_eq hn A hlt _ _ _ _ ?_) ?_)
  · show y1.val = 512 * T.val + (128 * (y1.val % 512 / 128) + y1.val % 512 % 128); omega
  · rw [blk5, ← A.e6, hd]
  · show Cert.QkvRefIdeal.Hand.turn (y1.val / 128 * 128) (y1.val % 128) = 512 * T.val + (128 * (y1.val % 512 / 128) + (y1.val % 512 % 128 + 128 - 64) % 128)
    unfold Cert.QkvRefIdeal.Hand.turn; split <;> omega
  · rw [blk6, ← A.e7, hd]

/-- The keys' codes are the reference's. -/
theorem k_eq : kD m hn c = r_v107 m' c := by
  funext y
  idx_vars y
  have hy := y1.isLt
  have hlt' : Cert.QkvRefIdeal.Hand.turn ((32 + y1.val / 128) * 128) (y1.val % 128) < 6144 := Cert.QkvRefIdeal.Hand.turn_lt _ _ _ (by omega) (by omega)
  refine Eq.trans ?_ (Cert.QkvRefIdeal.Hand.v107_apply m' c y0 y1 hlt').symm
  show kAt m hn c (ptOf 8 y1.val _) (ix2 y0 ⟨y1.val % 512, _⟩) = _
  have hT : (ptOf 8 y1.val (by omega)).val = 8 + y1.val / 512 := rfl
  generalize ptOf 8 y1.val (by omega) = T at hT
  have hv := coords_val T
  show k0_pay10 (headOf (prodAt m hn c T) ⟨y1.val % 512 / 128, _⟩) (iblk m c 5 T) (iblk m c 6 T) (sc (iblk m c 7 T) 8 (grid0.coords T) ⟨y1.val % 512 / 128, _⟩) (ix2 y0 ⟨y1.val % 512 % 128, _⟩) = _
  refine (pay10_apply _ _ _ _ _ _).trans ?_
  have hd : (⟨y1.val % 512 % 128, Nat.mod_lt _ (by decide)⟩ : Fin 128) = ⟨y1.val % 128, Nat.mod_lt _ (by decide)⟩ := Fin.ext (by show y1.val % 512 % 128 = y1.val % 128; omega)
  refine congrArg _ (congrArg _ (congrArg₂ Ideal.div (congrArg₂ (· + ·) (congrArg₂ (· * ·) (prod_eq hn A hlt _ _ _ _ ?_) ?_) (congrArg₂ (· * ·) (prod_eq hn A hlt _ _ _ _ ?_) ?_)) ?_))
  · show (32 + y1.val / 128) * 128 + y1.val % 128 = 512 * T.val + (128 * (y1.val % 512 / 128) + y1.val % 512 % 128); omega
  · rw [blk5, ← A.e6, hd]
  · show Cert.QkvRefIdeal.Hand.turn ((32 + y1.val / 128) * 128) (y1.val % 128) = 512 * T.val + (128 * (y1.val % 512 / 128) + (y1.val % 512 % 128 + 128 - 64) % 128)
    unfold Cert.QkvRefIdeal.Hand.turn; split <;> omega
  · rw [blk6, ← A.e7, hd]
  · unfold sc
    rw [blk7, ← A.e8]
    refine congrArg (a_8 m' c) (congrArg ix1 (Fin.ext ?_))
    show (4 * ((grid0.coords T 0).val - 8) + y1.val % 512 / 128) % 8 = y1.val / 128
    rw [hv]; omega

/-- The values' codes are the reference's. -/
theorem v_eq : vD m hn c = r_v108 m' c := by
  funext y
  idx_vars y
  have hy := y1.isLt
  refine Eq.trans ?_ (Cert.QkvRefIdeal.Hand.v108_apply m' c y0 y1).symm
  show vAt m hn c (ptOf 10 y1.val _) (ix2 y0 ⟨y1.val % 512, _⟩) = _
  have hT : (ptOf 10 y1.val (by omega)).val = 10 + y1.val / 512 := rfl
  generalize ptOf 10 y1.val (by omega) = T at hT
  have hv := coords_val T
  show k0_pay15 (headOf (prodAt m hn c T) ⟨y1.val % 512 / 128, _⟩) (sc (iblk m c 8 T) 10 (grid0.coords T) ⟨y1.val % 512 / 128, _⟩) (ix2 y0 ⟨y1.val % 512 % 128, _⟩) = _
  refine (pay15_apply _ _ _ _).trans ?_
  refine congrArg _ (congrArg _ (congrArg₂ Ideal.div (prod_eq hn A hlt _ _ _ _ ?_) ?_))
  · show (40 + y1.val / 128) * 128 + y1.val % 128 = 512 * T.val + (128 * (y1.val % 512 / 128) + y1.val % 512 % 128); omega
  · unfold sc
    rw [blk8, ← A.e9]
    refine congrArg (a_9 m' c) (congrArg ix1 (Fin.ext ?_))
    show (4 * ((grid0.coords T 0).val - 10) + y1.val % 512 / 128) % 8 = y1.val / 128
    rw [hv]; omega

end Cert.QkvIdeal.Hand

end
-- ==== Proof.QkvRefRun.lean ====
module

public import proofs.«01_k».proof.Proof.QkvRefVal
public import proofs.«01_k».proof.Proof.Gen.QkvRefIdeal.Frame

@[expose] public section

set_option maxRecDepth 16384

noncomputable section

/-! What the reference's region finds in its arrays, and the first result: the named values. -/

namespace Cert.QkvRefIdeal.Hand

open Idealize.ShloMosaic Idealize.ShloMosaic.TcCoe Idealize.SL.Sem Cert.QkvRefIdeal Cert.QkvRefIdeal.Gen

section
variable {F : FTy → Type} [FloatOps F]

/-- The operations with each concatenation under a name of its own. -/
def ops5 : List (HloOp τ sig (Elt F)) :=
  ( StableHlo.unary main_v2 main_v3 (broadcastInDim S60x1 ![0] bcast_S60_S60x1_0 : (⟨S60, .i32⟩ : BufTy).Contents (Elt F) → (⟨S60x1, .i32⟩ : BufTy).Contents (Elt F))
  :: StableHlo.nullary main_c_1 (constantI S_ 32 8#32)
  :: StableHlo.unary main_c_1 main_v4 (broadcastInDim S60x1 ![] bcast_S_S60x1 : (⟨S_, .i32⟩ : BufTy).Contents (Elt F) → (⟨S60x1, .i32⟩ : BufTy).Contents (Elt F))
  :: StableHlo.binary main_v4 main_v3 main_v5 (muli : (⟨S60x1, .i32⟩ : BufTy).Contents (Elt F) → (⟨S60x1, .i32⟩ : BufTy).Contents (Elt F) → (⟨S60x1, .i32⟩ : BufTy).Contents (Elt F))
  :: StableHlo.nullary main_c_2 (constantI S_ 32 24#32)
  :: StableHlo.unary main_c_2 main_v6 (broadcastInDim S60x1 ![] bcast_S_S60x1 : (⟨S_, .i32⟩ : BufTy).Contents (Elt F) → (⟨S60x1, .i32⟩ : BufTy).Contents (Elt F))
  :: StableHlo.binary main_v6 main_v5 main_v7 (subi : (⟨S60x1, .i32⟩ : BufTy).Contents (Elt F) → (⟨S60x1, .i32⟩ : BufTy).Contents (Elt F) → (⟨S60x1, .i32⟩ : BufTy).Contents (Elt F))
  :: StableHlo.unary main_v7 main_v8 (broadcastInDim S60x4096 ![0, 1] bcast_S60x1_S60x4096_0_1 : (⟨S60x1, .i32⟩ : BufTy).Contents (Elt F) → (⟨S60x4096, .i32⟩ : BufTy).Contents (Elt F))
  :: StableHlo.binary main_v1 main_v8 main_v9 (Host.shli : (⟨S60x4096, .i32⟩ : BufTy).Contents (Elt F) → (⟨S60x4096, .i32⟩ : BufTy).Contents (Elt F) → (⟨S60x4096, .i32⟩ : BufTy).Contents (Elt F))
  :: StableHlo.nullary main_c_3 (constantI S_ 32 24#32)
  :: StableHlo.unary main_c_3 main_v10 (broadcastInDim S60x4096 ![] bcast_S_S60x4096 : (⟨S_, .i32⟩ : BufTy).Contents (Elt F) → (⟨S60x4096, .i32⟩ : BufTy).Contents (Elt F))
  :: StableHlo.binary main_v9 main_v10 main_v11 (Host.shrsi : (⟨S60x4096, .i32⟩ : BufTy).Contents (Elt F) → (⟨S60x4096, .i32⟩ : BufTy).Contents (Elt F) → (⟨S60x4096, .i32⟩ : BufTy).Contents (Elt F))
  :: StableHlo.unary main_v11 main_v12 (sitofp .f32 : (⟨S60x4096, .i32⟩ : BufTy).Contents (Elt F) → (⟨S60x4096, .f32⟩ : BufTy).Contents (Elt F))
  :: StableHlo.nullary main_cst (constant S_ .f32 0x00000000#32)
  :: StableHlo.unary main_cst main_v13 (broadcastInDim S4x4096 ![] bcast_S_S4x4096 : (⟨S_, .f32⟩ : BufTy).Contents (Elt F) → (⟨S4x4096, .f32⟩ : BufTy).Contents (Elt F))
  :: StableHlo.binary main_v12 main_v13 main_v14 cat_v14
  :: StableHlo.unary main_arg2 main_v15 (broadcastInDim S64x4096 ![0, 1] bcast_S64x1_S64x4096_0_1 : (⟨S64x1, .f32⟩ : BufTy).Contents (Elt F) → (⟨S64x4096, .f32⟩ : BufTy).Contents (Elt F))
  :: StableHlo.binary main_v14 main_v15 main_v16 (mulf : (⟨S64x4096, .f32⟩ : BufTy).Contents (Elt F) → (⟨S64x4096, .f32⟩ : BufTy).Contents (Elt F) → (⟨S64x4096, .f32⟩ : BufTy).Contents (Elt F))
  :: StableHlo.binary main_v16 main_v16 main_v17 (mulf : (⟨S64x4096, .f32⟩ : BufTy).Contents (Elt F) → (⟨S64x4096, .f32⟩ : BufTy).Contents (Elt F) → (⟨S64x4096, .f32⟩ : BufTy).Contents (Elt F))
  :: StableHlo.nullary main_cst_4 (constant S_ .f32 0x00000000#32)
  :: StableHlo.binary main_v17 main_cst_4 main_v18 ((fun x v => Host.reduceAdd x v reducesTo_S64x4096_S64_d1 h_S_) : (⟨S64x4096, .f32⟩ : BufTy).Contents (Elt F) → (⟨S_, .f32⟩ : BufTy).Contents (Elt F) → (⟨S64, .f32⟩ : BufTy).Contents (Elt F))
  :: StableHlo.unary main_v18 main_v19 (broadcastInDim S64x1 ![0] bcast_S64_S64x1_0 : (⟨S64, .f32⟩ : BufTy).Contents (Elt F) → (⟨S64x1, .f32⟩ : BufTy).Contents (Elt F))
  :: StableHlo.nullary main_cst_5 (constant S_ .f32 0x45800000#32)
  :: StableHlo.unary main_cst_5 main_v20 (broadcastInDim S64x1 ![] bcast_S_S64x1 : (⟨S_, .f32⟩ : BufTy).Contents (Elt F) → (⟨S64x1, .f32⟩ : BufTy).Contents (Elt F))
  :: StableHlo.binary main_v19 main_v20 main_v21 (Host.divf : (⟨S64x1, .f32⟩ : BufTy).Contents (Elt F) → (⟨S64x1, .f32⟩ : BufTy).Contents (Elt F) → (⟨S64x1, .f32⟩ : BufTy).Contents (Elt F))
  :: StableHlo.nullary main_cst_6 (constant S_ .f32 0x3727C5AC#32)
  :: StableHlo.unary main_cst_6 main_v22 (broadcastInDim S64x1 ![] bcast_S_S64x1 : (⟨S_, .f32⟩ : BufTy).Contents (Elt F) → (⟨S64x1, .f32⟩ : BufTy).Contents (Elt F))
  :: StableHlo.binary main_v21 main_v22 main_v23 (addf : (⟨S64x1, .f32⟩ : BufTy).Contents (Elt F) → (⟨S64x1, .f32⟩ : BufTy).Contents (Elt F) → (⟨S64x1, .f32⟩ : BufTy).Contents (Elt F))
  :: StableHlo.unary main_v23 main_v24 (Host.sqrt : (⟨S64x1, .f32⟩ : BufTy).Contents (Elt F) → (⟨S64x1, .f32⟩ : BufTy).Contents (Elt F))
  :: StableHlo.unary main_v24 main_v25 (broadcastInDim S64x4096 ![0, 1] bcast_S64x1_S64x4096_0_1 : (⟨S64x1, .f32⟩ : BufTy).Contents (Elt F) → (⟨S64x4096, .f32⟩ : BufTy).Contents (Elt F))
  :: StableHlo.binary main_v16 main_v25 main_v26 (Host.divf : (⟨S64x4096, .f32⟩ : BufTy).Contents (Elt F) → (⟨S64x4096, .f32⟩ : BufTy).Contents (Elt F) → (⟨S64x4096, .f32⟩ : BufTy).Contents (Elt F))
  :: StableHlo.unary main_arg4 main_v27 (broadcastInDim S64x4096 ![0, 1] bcast_S1x4096_S64x4096_0_1 : (⟨S1x4096, .f32⟩ : BufTy).Contents (Elt F) → (⟨S64x4096, .f32⟩ : BufTy).Contents (Elt F))
  :: StableHlo.binary main_v26 main_v27 main_v28 (mulf : (⟨S64x4096, .f32⟩ : BufTy).Contents (Elt F) → (⟨S64x4096, .f32⟩ : BufTy).Contents (Elt F) → (⟨S64x4096, .f32⟩ : BufTy).Contents (Elt F))
  :: StableHlo.unary main_arg3 main_v29 ((extf .f32 · bitsLt_bf16_f32) : (⟨S64x4096, .bf16⟩ : BufTy).Contents (Elt F) → (⟨S64x4096, .f32⟩ : BufTy).Contents (Elt F))
  :: StableHlo.binary main_v29 main_v29 main_v30 (mulf : (⟨S64x4096, .f32⟩ : BufTy).Contents (Elt F) → (⟨S64x4096, .f32⟩ : BufTy).Contents (Elt F) → (⟨S64x4096, .f32⟩ : BufTy).Contents (Elt F))
  :: StableHlo.nullary main_cst_7 (constant S_ .f32 0x00000000#32)
  :: StableHlo.binary main_v30 main_cst_7 main_v31 ((fun x v => Host.reduceAdd x v reducesTo_S64x4096_S64_d1 h_S_) : (⟨S64x4096, .f32⟩ : BufTy).Contents (Elt F) → (⟨S_, .f32⟩ : BufTy).Contents (Elt F) → (⟨S64, .f32⟩ : BufTy).Contents (Elt F))
  :: StableHlo.unary main_v31 main_v32 (broadcastInDim S64x1 ![0] bcast_S64_S64x1_0 : (⟨S64, .f32⟩ : BufTy).Contents (Elt F) → (⟨S64x1, .f32⟩ : BufTy).Contents (Elt F))
  :: StableHlo.nullary main_cst_8 (constant S_ .f32 0x45800000#32)
  :: StableHlo.unary main_cst_8 main_v33 (broadcastInDim S64x1 ![] bcast_S_S64x1 : (⟨S_, .f32⟩ : BufTy).Contents (Elt F) → (⟨S64x1, .f32⟩ : BufTy).Contents (Elt F))
  :: StableHlo.binary main_v32 main_v33 main_v34 (Host.divf : (⟨S64x1, .f32⟩ : BufTy).Contents (Elt F) → (⟨S64x1, .f32⟩ : BufTy).Contents (Elt F) → (⟨S64x1, .f32⟩ : BufTy).Contents (Elt F))
  :: StableHlo.nullary main_cst_9 (constant S_ .f32 0x3727C5AC#32)
  :: StableHlo.unary main_cst_9 main_v35 (broadcastInDim S64x1 ![] bcast_S_S64x1 : (⟨S_, .f32⟩ : BufTy).Contents (Elt F) → (⟨S64x1, .f32⟩ : BufTy).Contents (Elt F))
  :: StableHlo.binary main_v34 main_v35 main_v36 (addf : (⟨S64x1, .f32⟩ : BufTy).Contents (Elt F) → (⟨S64x1, .f32⟩ : BufTy).Contents (Elt F) → (⟨S64x1, .f32⟩ : BufTy).Contents (Elt F))
  :: StableHlo.unary main_v36 main_v37 (Host.sqrt : (⟨S64x1, .f32⟩ : BufTy).Contents (Elt F) → (⟨S64x1, .f32⟩ : BufTy).Contents (Elt F))
  :: StableHlo.unary main_v37 main_v38 (broadcastInDim S64x4096 ![0, 1] bcast_S64x1_S64x4096_0_1 : (⟨S64x1, .f32⟩ : BufTy).Contents (Elt F) → (⟨S64x4096, .f32⟩ : BufTy).Contents (Elt F))
  :: StableHlo.binary main_v29 main_v38 main_v39 (Host.divf : (⟨S64x4096, .f32⟩ : BufTy).Contents (Elt F) → (⟨S64x4096, .f32⟩ : BufTy).Contents (Elt F) → (⟨S64x4096, .f32⟩ : BufTy).Contents (Elt F))
  :: StableHlo.unary main_arg5 main_v40 (broadcastInDim S64x4096 ![0, 1] bcast_S1x4096_S64x4096_0_1 : (⟨S1x4096, .f32⟩ : BufTy).Contents (Elt F) → (⟨S64x4096, .f32⟩ : BufTy).Contents (Elt F))
  :: StableHlo.binary main_v39 main_v40 main_v41 (mulf : (⟨S64x4096, .f32⟩ : BufTy).Contents (Elt F) → (⟨S64x4096, .f32⟩ : BufTy).Contents (Elt F) → (⟨S64x4096, .f32⟩ : BufTy).Contents (Elt F))
  :: StableHlo.binary main_v28 main_v41 main_v42 cat_v42
  :: StableHlo.unary main_v42 main_v43 ((truncf .bf16 · bitsLt_bf16_f32) : (⟨S64x8192, .f32⟩ : BufTy).Contents (Elt F) → (⟨S64x8192, .bf16⟩ : BufTy).Contents (Elt F))
  :: StableHlo.unary main_arg10 main_v44 ((extui 32 · natLt_8_32) : (⟨S4096x6144, .i8⟩ : BufTy).Contents (Elt F) → (⟨S4096x6144, .i32⟩ : BufTy).Contents (Elt F))
  :: StableHlo.reshape main_v44 main_v45 (rfl : (.i32 : EltTy) = .i32) shapeCasts_S4096x6144_S64x64x6144
  :: StableHlo.unary main_arg12 main_v46 ((extui 32 · natLt_8_32) : (⟨S64x6144, .i8⟩ : BufTy).Contents (Elt F) → (⟨S64x6144, .i32⟩ : BufTy).Contents (Elt F))
  :: StableHlo.unary main_v46 main_v47 (sitofp .bf16 : (⟨S64x6144, .i32⟩ : BufTy).Contents (Elt F) → (⟨S64x6144, .bf16⟩ : BufTy).Contents (Elt F))
  :: StableHlo.unary main_v47 main_v48 (broadcastInDim S64x1x6144 ![0, 2] bcast_S64x6144_S64x1x6144_0_2 : (⟨S64x6144, .bf16⟩ : BufTy).Contents (Elt F) → (⟨S64x1x6144, .bf16⟩ : BufTy).Contents (Elt F))
  :: StableHlo.unary main_arg11 main_v49 (broadcastInDim S64x1x6144 ![0, 2] bcast_S64x6144_S64x1x6144_0_2 : (⟨S64x6144, .bf16⟩ : BufTy).Contents (Elt F) → (⟨S64x1x6144, .bf16⟩ : BufTy).Contents (Elt F))
  :: StableHlo.nullary main_c_10 (constantI S_ 32 15#32)
  :: StableHlo.unary main_c_10 main_v50 (broadcastInDim S64x64x6144 ![] bcast_S_S64x64x6144 : (⟨S_, .i32⟩ : BufTy).Contents (Elt F) → (⟨S64x64x6144, .i32⟩ : BufTy).Contents (Elt F))
  :: StableHlo.binary main_v45 main_v50 main_v51 (andi : (⟨S64x64x6144, .i32⟩ : BufTy).Contents (Elt F) → (⟨S64x64x6144, .i32⟩ : BufTy).Contents (Elt F) → (⟨S64x64x6144, .i32⟩ : BufTy).Contents (Elt F))
  :: StableHlo.unary main_v51 main_v52 (sitofp .bf16 : (⟨S64x64x6144, .i32⟩ : BufTy).Contents (Elt F) → (⟨S64x64x6144, .bf16⟩ : BufTy).Contents (Elt F))
  :: StableHlo.unary main_v48 main_v53 (broadcastInDim S64x64x6144 ![0, 1, 2] bcast_S64x1x6144_S64x64x6144_0_1_2 : (⟨S64x1x6144, .bf16⟩ : BufTy).Contents (Elt F) → (⟨S64x64x6144, .bf16⟩ : BufTy).Contents (Elt F))
  :: StableHlo.binary main_v52 main_v53 main_v54 (subf : (⟨S64x64x6144, .bf16⟩ : BufTy).Contents (Elt F) → (⟨S64x64x6144, .bf16⟩ : BufTy).Contents (Elt F) → (⟨S64x64x6144, .bf16⟩ : BufTy).Contents (Elt F))
  :: StableHlo.unary main_v49 main_v55 (broadcastInDim S64x64x6144 ![0, 1, 2] bcast_S64x1x6144_S64x64x6144_0_1_2 : (⟨S64x1x6144, .bf16⟩ : BufTy).Contents (Elt F) → (⟨S64x64x6144, .bf16⟩ : BufTy).Contents (Elt F))
  :: StableHlo.binary main_v54 main_v55 main_v56 (mulf : (⟨S64x64x6144, .bf16⟩ : BufTy).Contents (Elt F) → (⟨S64x64x6144, .bf16⟩ : BufTy).Contents (Elt F) → (⟨S64x64x6144, .bf16⟩ : BufTy).Contents (Elt F))
  :: StableHlo.reshape main_v56 main_v57 (rfl : (.bf16 : EltTy) = .bf16) shapeCasts_S64x64x6144_S4096x6144
  :: StableHlo.nullary main_c_11 (constantI S_ 32 4#32)
  :: StableHlo.unary main_c_11 main_v58 (broadcastInDim S64x64x6144 ![] bcast_S_S64x64x6144 : (⟨S_, .i32⟩ : BufTy).Contents (Elt F) → (⟨S64x64x6144, .i32⟩ : BufTy).Contents (Elt F))
  :: StableHlo.binary main_v45 main_v58 main_v59 (Host.shrsi : (⟨S64x64x6144, .i32⟩ : BufTy).Contents (Elt F) → (⟨S64x64x6144, .i32⟩ : BufTy).Contents (Elt F) → (⟨S64x64x6144, .i32⟩ : BufTy).Contents (Elt F))
  :: StableHlo.unary main_v59 main_v60 (sitofp .bf16 : (⟨S64x64x6144, .i32⟩ : BufTy).Contents (Elt F) → (⟨S64x64x6144, .bf16⟩ : BufTy).Contents (Elt F))
  :: StableHlo.unary main_v48 main_v61 (broadcastInDim S64x64x6144 ![0, 1, 2] bcast_S64x1x6144_S64x64x6144_0_1_2 : (⟨S64x1x6144, .bf16⟩ : BufTy).Contents (Elt F) → (⟨S64x64x6144, .bf16⟩ : BufTy).Contents (Elt F))
  :: StableHlo.binary main_v60 main_v61 main_v62 (subf : (⟨S64x64x6144, .bf16⟩ : BufTy).Contents (Elt F) → (⟨S64x64x6144, .bf16⟩ : BufTy).Contents (Elt F) → (⟨S64x64x6144, .bf16⟩ : BufTy).Contents (Elt F))
  :: StableHlo.unary main_v49 main_v63 (broadcastInDim S64x64x6144 ![0, 1, 2] bcast_S64x1x6144_S64x64x6144_0_1_2 : (⟨S64x1x6144, .bf16⟩ : BufTy).Contents (Elt F) → (⟨S64x64x6144, .bf16⟩ : BufTy).Contents (Elt F))
  :: StableHlo.binary main_v62 main_v63 main_v64 (mulf : (⟨S64x64x6144, .bf16⟩ : BufTy).Contents (Elt F) → (⟨S64x64x6144, .bf16⟩ : BufTy).Contents (Elt F) → (⟨S64x64x6144, .bf16⟩ : BufTy).Contents (Elt F))
  :: StableHlo.reshape main_v64 main_v65 (rfl : (.bf16 : EltTy) = .bf16) shapeCasts_S64x64x6144_S4096x6144
  :: StableHlo.unary main_v43 main_v66 ((Host.slice S64x4096 ![0, 0] ![1, 2] · slicesBy_S64x8192_S64x4096_0s1_0s2) : (⟨S64x8192, .bf16⟩ : BufTy).Contents (Elt F) → (⟨S64x4096, .bf16⟩ : BufTy).Contents (Elt F))
  :: StableHlo.binary main_v66 main_v57 main_v67 ((fun l r => Host.dotGeneral dot_S64x4096_S4096x6144_S64x6144_1_0_0_1_n_n none l r) : (⟨S64x4096, .bf16⟩ : BufTy).Contents (Elt F) → (⟨S4096x6144, .bf16⟩ : BufTy).Contents (Elt F) → (⟨S64x6144, .f32⟩ : BufTy).Contents (Elt F))
  :: StableHlo.unary main_v43 main_v68 ((Host.slice S64x4096 ![0, 1] ![1, 2] · slicesBy_S64x8192_S64x4096_0s1_1s2) : (⟨S64x8192, .bf16⟩ : BufTy).Contents (Elt F) → (⟨S64x4096, .bf16⟩ : BufTy).Contents (Elt F))
  :: StableHlo.binary main_v68 main_v65 main_v69 ((fun l r => Host.dotGeneral dot_S64x4096_S4096x6144_S64x6144_1_0_0_1_n_n none l r) : (⟨S64x4096, .bf16⟩ : BufTy).Contents (Elt F) → (⟨S4096x6144, .bf16⟩ : BufTy).Contents (Elt F) → (⟨S64x6144, .f32⟩ : BufTy).Contents (Elt F))
  :: StableHlo.binary main_v67 main_v69 main_v70 (addf : (⟨S64x6144, .f32⟩ : BufTy).Contents (Elt F) → (⟨S64x6144, .f32⟩ : BufTy).Contents (Elt F) → (⟨S64x6144, .f32⟩ : BufTy).Contents (Elt F))
  :: StableHlo.reshape main_v70 main_v71 (rfl : (.f32 : EltTy) = .f32) shapeCasts_S64x6144_S64x48x128
  :: StableHlo.unary main_v71 main_v72 ((extractStridedSlice S64x32x128 ![0, 0, 0] · slices_S64x48x128_S64x32x128_0_0_0) : (⟨S64x48x128, .f32⟩ : BufTy).Contents (Elt F) → (⟨S64x32x128, .f32⟩ : BufTy).Contents (Elt F))
  :: StableHlo.unary main_arg6 main_v73 (broadcastInDim S64x1x128 ![0, 2] bcast_S64x128_S64x1x128_0_2 : (⟨S64x128, .f32⟩ : BufTy).Contents (Elt F) → (⟨S64x1x128, .f32⟩ : BufTy).Contents (Elt F))
  :: StableHlo.unary main_v73 main_v74 (broadcastInDim S64x32x128 ![0, 1, 2] bcast_S64x1x128_S64x32x128_0_1_2 : (⟨S64x1x128, .f32⟩ : BufTy).Contents (Elt F) → (⟨S64x32x128, .f32⟩ : BufTy).Contents (Elt F))
  :: StableHlo.binary main_v72 main_v74 main_v75 (mulf : (⟨S64x32x128, .f32⟩ : BufTy).Contents (Elt F) → (⟨S64x32x128, .f32⟩ : BufTy).Contents (Elt F) → (⟨S64x32x128, .f32⟩ : BufTy).Contents (Elt F))
  :: StableHlo.unary main_v72 main_v76 ((extractStridedSlice S64x32x64 ![0, 0, 64] · slices_S64x32x128_S64x32x64_0_0_64) : (⟨S64x32x128, .f32⟩ : BufTy).Contents (Elt F) → (⟨S64x32x64, .f32⟩ : BufTy).Contents (Elt F))
  :: StableHlo.unary main_v72 main_v77 ((extractStridedSlice S64x32x64 ![0, 0, 0] · slices_S64x32x128_S64x32x64_0_0_0) : (⟨S64x32x128, .f32⟩ : BufTy).Contents (Elt F) → (⟨S64x32x64, .f32⟩ : BufTy).Contents (Elt F))
  :: StableHlo.binary main_v76 main_v77 main_v78 cat_v78
  :: StableHlo.unary main_arg7 main_v79 (broadcastInDim S64x1x128 ![0, 2] bcast_S64x128_S64x1x128_0_2 : (⟨S64x128, .f32⟩ : BufTy).Contents (Elt F) → (⟨S64x1x128, .f32⟩ : BufTy).Contents (Elt F))
  :: StableHlo.unary main_v79 main_v80 (broadcastInDim S64x32x128 ![0, 1, 2] bcast_S64x1x128_S64x32x128_0_1_2 : (⟨S64x1x128, .f32⟩ : BufTy).Contents (Elt F) → (⟨S64x32x128, .f32⟩ : BufTy).Contents (Elt F))
  :: StableHlo.binary main_v78 main_v80 main_v81 (mulf : (⟨S64x32x128, .f32⟩ : BufTy).Contents (Elt F) → (⟨S64x32x128, .f32⟩ : BufTy).Contents (Elt F) → (⟨S64x32x128, .f32⟩ : BufTy).Contents (Elt F))
  :: StableHlo.binary main_v75 main_v81 main_v82 (addf : (⟨S64x32x128, .f32⟩ : BufTy).Contents (Elt F) → (⟨S64x32x128, .f32⟩ : BufTy).Contents (Elt F) → (⟨S64x32x128, .f32⟩ : BufTy).Contents (Elt F))
  :: StableHlo.reshape main_v82 main_v83 (rfl : (.f32 : EltTy) = .f32) shapeCasts_S64x32x128_S64x4096
  :: StableHlo.unary main_v83 main_v84 ((truncf .bf16 · bitsLt_bf16_f32) : (⟨S64x4096, .f32⟩ : BufTy).Contents (Elt F) → (⟨S64x4096, .bf16⟩ : BufTy).Contents (Elt F))
  :: StableHlo.unary main_v71 main_v85 ((extractStridedSlice S64x8x128 ![0, 32, 0] · slices_S64x48x128_S64x8x128_0_32_0) : (⟨S64x48x128, .f32⟩ : BufTy).Contents (Elt F) → (⟨S64x8x128, .f32⟩ : BufTy).Contents (Elt F))
  :: StableHlo.unary main_arg6 main_v86 (broadcastInDim S64x1x128 ![0, 2] bcast_S64x128_S64x1x128_0_2 : (⟨S64x128, .f32⟩ : BufTy).Contents (Elt F) → (⟨S64x1x128, .f32⟩ : BufTy).Contents (Elt F))
  :: StableHlo.unary main_v86 main_v87 (broadcastInDim S64x8x128 ![0, 1, 2] bcast_S64x1x128_S64x8x128_0_1_2 : (⟨S64x1x128, .f32⟩ : BufTy).Contents (Elt F) → (⟨S64x8x128, .f32⟩ : BufTy).Contents (Elt F))
  :: StableHlo.binary main_v85 main_v87 main_v88 (mulf : (⟨S64x8x128, .f32⟩ : BufTy).Contents (Elt F) → (⟨S64x8x128, .f32⟩ : BufTy).Contents (Elt F) → (⟨S64x8x128, .f32⟩ : BufTy).Contents (Elt F))
  :: StableHlo.unary main_v85 main_v89 ((extractStridedSlice S64x8x64 ![0, 0, 64] · slices_S64x8x128_S64x8x64_0_0_64) : (⟨S64x8x128, .f32⟩ : BufTy).Contents (Elt F) → (⟨S64x8x64, .f32⟩ : BufTy).Contents (Elt F))
  :: StableHlo.unary main_v85 main_v90 ((extractStridedSlice S64x8x64 ![0, 0, 0] · slices_S64x8x128_S64x8x64_0_0_0) : (⟨S64x8x128, .f32⟩ : BufTy).Contents (Elt F) → (⟨S64x8x64, .f32⟩ : BufTy).Contents (Elt F))
  :: StableHlo.binary main_v89 main_v90 main_v91 cat_v91
  :: StableHlo.unary main_arg7 main_v92 (broadcastInDim S64x1x128 ![0, 2] bcast_S64x128_S64x1x128_0_2 : (⟨S64x128, .f32⟩ : BufTy).Contents (Elt F) → (⟨S64x1x128, .f32⟩ : BufTy).Contents (Elt F))
  :: StableHlo.unary main_v92 main_v93 (broadcastInDim S64x8x128 ![0, 1, 2] bcast_S64x1x128_S64x8x128_0_1_2 : (⟨S64x1x128, .f32⟩ : BufTy).Contents (Elt F) → (⟨S64x8x128, .f32⟩ : BufTy).Contents (Elt F))
  :: StableHlo.binary main_v91 main_v93 main_v94 (mulf : (⟨S64x8x128, .f32⟩ : BufTy).Contents (Elt F) → (⟨S64x8x128, .f32⟩ : BufTy).Contents (Elt F) → (⟨S64x8x128, .f32⟩ : BufTy).Contents (Elt F))
  :: StableHlo.binary main_v88 main_v94 main_v95 (addf : (⟨S64x8x128, .f32⟩ : BufTy).Contents (Elt F) → (⟨S64x8x128, .f32⟩ : BufTy).Contents (Elt F) → (⟨S64x8x128, .f32⟩ : BufTy).Contents (Elt F))
  :: StableHlo.unary main_arg8 main_v96 (broadcastInDim S8x1 ![0] bcast_S8_S8x1_0 : (⟨S8, .f32⟩ : BufTy).Contents (Elt F) → (⟨S8x1, .f32⟩ : BufTy).Contents (Elt F))
  :: StableHlo.unary main_v96 main_v97 (broadcastInDim S1x8x1 ![1, 2] bcast_S8x1_S1x8x1_1_2 : (⟨S8x1, .f32⟩ : BufTy).Contents (Elt F) → (⟨S1x8x1, .f32⟩ : BufTy).Contents (Elt F))
  :: StableHlo.unary main_v97 main_v98 (broadcastInDim S64x8x128 ![0, 1, 2] bcast_S1x8x1_S64x8x128_0_1_2 : (⟨S1x8x1, .f32⟩ : BufTy).Contents (Elt F) → (⟨S64x8x128, .f32⟩ : BufTy).Contents (Elt F))
  :: StableHlo.binary main_v95 main_v98 main_v99 (Host.divf : (⟨S64x8x128, .f32⟩ : BufTy).Contents (Elt F) → (⟨S64x8x128, .f32⟩ : BufTy).Contents (Elt F) → (⟨S64x8x128, .f32⟩ : BufTy).Contents (Elt F))
  :: StableHlo.nullary main_cst_12 (constant S_ .f32 0xC3E00000#32)
  :: StableHlo.nullary main_cst_13 (constant S_ .f32 0x43E00000#32)
  :: [] )
set_option maxHeartbeats 40000000 in  -- a long stretch: its list (or the term over it) exceeds the default budget
theorem ops5_eq : (hostOps0_5 : List (HloOp τ sig (Elt F))) = ops5 := rfl

end

variable (m : (ℓ : Loc nD τ sig) → Buf (Elt Ideal) ℓ) (c : Dev nD)

set_option maxHeartbeats 4000000 in
theorem V_main_v84 : V m c main_v84 = r_v84 m c := by
  unfold V
  rw [ops5_eq]
  simp only [ops5, List.flatten_cons, List.flatten_nil, List.append_nil, List.cons_append, List.nil_append, hostOps0, hostOps0_1, hostOps0_2, hostOps0_3, hostOps0_4, hostOps0_6, hostOps0_7, hostOps0_8, hostOps0_9, StableHlo.TRef.binary, StableHlo.TRef.ternary, StableHlo.TRef.unary, StableHlo.TRef.nullary, StableHlo.TRef.toBuf, StableHlo.TRef.ofBuf, cast_eq]
  after_results_simp <;> rfl

set_option maxHeartbeats 4000000 in
theorem V_main_v107 : V m c main_v107 = r_v107 m c := by
  unfold V
  rw [ops5_eq]
  simp only [ops5, List.flatten_cons, List.flatten_nil, List.append_nil, List.cons_append, List.nil_append, hostOps0, hostOps0_1, hostOps0_2, hostOps0_3, hostOps0_4, hostOps0_6, hostOps0_7, hostOps0_8, hostOps0_9, StableHlo.TRef.binary, StableHlo.TRef.ternary, StableHlo.TRef.unary, StableHlo.TRef.nullary, StableHlo.TRef.toBuf, StableHlo.TRef.ofBuf, cast_eq]
  after_results_simp <;> rfl

set_option maxHeartbeats 4000000 in
theorem V_main_v108 : V m c main_v108 = r_v108 m c := by
  unfold V
  rw [ops5_eq]
  simp only [ops5, List.flatten_cons, List.flatten_nil, List.append_nil, List.cons_append, List.nil_append, hostOps0, hostOps0_1, hostOps0_2, hostOps0_3, hostOps0_4, hostOps0_6, hostOps0_7, hostOps0_8, hostOps0_9, StableHlo.TRef.binary, StableHlo.TRef.ternary, StableHlo.TRef.unary, StableHlo.TRef.nullary, StableHlo.TRef.toBuf, StableHlo.TRef.ofBuf, cast_eq]
  after_results_simp <;> rfl

end Cert.QkvRefIdeal.Hand

end
-- ==== Proof.QkvFinal.lean ====
module

public import proofs.«01_k».proof.Defs
public import proofs.«01_k».proof.Proof.QkvOk
public import proofs.«01_k».proof.Proof.QkvVal
public import proofs.«01_k».proof.Proof.QkvRefRun
public import Idealize.ShloMosaic.Lib.Claim

@[expose] public section

set_option maxRecDepth 16384

noncomputable section

namespace Cert.QkvRefIdeal.Hand

open Idealize.ShloMosaic Idealize.ShloMosaic.TcCoe Idealize.SL.Sem Cert.QkvRefIdeal Cert.QkvRefIdeal.Gen
open Idealize.ShloMosaic.Pipeline (Dat Cfg Window)

variable (m : (ℓ : Loc nD τ sig) → Buf (Elt Ideal) ℓ)

/-- Every window of the conversion to codes is its whole array. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- Over the reals the conversion keeps the value. -/
theorem pay1_apply (x : Vec Ideal S64x1024 .f32) (r : Fin 64) (C : Fin 1024) : k0_pay1 x (ix2 r C) = x (ix2 r C) := by
  pointwise [k0_pay1]
theorem pay2_apply (x : Vec Ideal S64x1024 .f32) (r : Fin 64) (C : Fin 1024) : k0_pay2 x (ix2 r C) = x (ix2 r C) := by
  pointwise [k0_pay2]

theorem out0_2_apply (x0 x1 : Vec Ideal S64x1024 .f32) (r : Fin 64) (C : Fin 1024) : out0_2 x0 x1 (ix2 r C) = x0 (ix2 r C) := by
  have hz : (![0, 0] : Fin 2 → ℕ) = fun _ => 0 := by funext a; fin_cases a <;> rfl
  unfold out0_2
  rw [View.canon_unit_zero hz]
  refine (pay1_apply _ _ _).trans (congrArg x0 ?_)
  funext a
  fin_cases a
  · exact Fin.ext (show 0 + 1 * r.val = r.val by omega)
  · exact Fin.ext (show 0 + 1 * C.val = C.val by omega)
theorem out0_3_apply (x0 x1 : Vec Ideal S64x1024 .f32) (r : Fin 64) (C : Fin 1024) : out0_3 x0 x1 (ix2 r C) = x1 (ix2 r C) := by
  have hz : (![0, 0] : Fin 2 → ℕ) = fun _ => 0 := by funext a; fin_cases a <;> rfl
  unfold out0_3
  rw [View.canon_unit_zero hz]
  refine (pay2_apply _ _ _).trans (congrArg x1 ?_)
  funext a
  fin_cases a
  · exact Fin.ext (show 0 + 1 * r.val = r.val by omega)
  · exact Fin.ext (show 0 + 1 * C.val = C.val by omega)

theorem blk0 (c : Dev nD) (t : Fin cfg0.N) (y : S64x1024.Idx) : (iblk m c 0 t : Vec Ideal S64x1024 .f32) y = V m c main_v107 y := by
  obtain ⟨h0, h1, h2, h3⟩ := idx t
  idx_vars y
  unfold iblk
  generalize V m c = W
  blk_ext [h0]
theorem blk1 (c : Dev nD) (t : Fin cfg0.N) (y : S64x1024.Idx) : (iblk m c 1 t : Vec Ideal S64x1024 .f32) y = V m c main_v108 y := by
  obtain ⟨h0, h1, h2, h3⟩ := idx t
  idx_vars y
  unfold iblk
  generalize V m c = W
  blk_ext [h1]

/-- The reference's codes of the keys, as the run leaves them. -/
theorem out_k {r} (h : Pipeline.FramePost cfgs (dats m) 0 (V m) r) (c : Dev nD) :
    r.2.mem ((c.tc : Thread nD τ).loc main_v109_0) = r_v107 m c := by
  refine ((h c).1 2).trans ?_
  refine Dat.arrAt_eq_of_covers _ 2 _ (by decide +kernel) fun t ht y => ?_
  obtain ⟨h0, h1, h2, h3⟩ := idx t
  blk_simp
  rw [after0_2]
  idx_vars y
  have he : ((cfg0.win 2).blk t).view.emb (ix2 y0 y1) = ix2 y0 y1 := by blk_ext [h2]
  refine Eq.trans ?_ (congrArg (r_v107 m c) he.symm)
  refine (out0_2_apply _ _ y0 y1).trans ((blk0 m c t _).trans ?_)
  rw [V_main_v107]

/-- The reference's codes of the values, as the run leaves them. -/
theorem out_v {r} (h : Pipeline.FramePost cfgs (dats m) 0 (V m) r) (c : Dev nD) :
    r.2.mem ((c.tc : Thread nD τ).loc main_v109_1) = r_v108 m c := by
  refine ((h c).1 3).trans ?_
  refine Dat.arrAt_eq_of_covers _ 3 _ (by decide +kernel) fun t ht y => ?_
  obtain ⟨h0, h1, h2, h3⟩ := idx t
  blk_simp
  rw [after0_3]
  idx_vars y
  have he : ((cfg0.win 3).blk t).view.emb (ix2 y0 y1) = ix2 y0 y1 := by blk_ext [h3]
  refine Eq.trans ?_ (congrArg (r_v108 m c) he.symm)
  refine (out0_3_apply _ _ y0 y1).trans ((blk1 m c t _).trans ?_)
  rw [V_main_v108]

/-- The reference's queries, as the run leaves them. -/
theorem out_q {r} (h : Pipeline.FramePost cfgs (dats m) 0 (V m) r) (c : Dev nD) :
    r.2.mem ((c.tc : Thread nD τ).loc main_v84) = r_v84 m c :=
  ((h c).2 main_v84 (Pipeline.mem_restRefs_of main_v84 (by decide) (by decide))).trans (V_main_v84 m c)

end Cert.QkvRefIdeal.Hand

namespace Cert.Proof

open Idealize.ShloMosaic Idealize.SL.Sem

/-- Under the precondition a token is at least 0 and less than 32000. -/
theorem tok_lt (m : (ℓ : Loc Cert.QkvIdeal.nD Cert.QkvIdeal.τ Cert.QkvIdeal.sig) → Buf (Elt Ideal) ℓ)
    (h : Cert.Pre_QkvIdeal (hPre_tokens_named := pre_facts) m) (c : Dev Cert.QkvIdeal.nD) (i : Cert.QkvIdeal.S60.Idx) :
    ((m ((c.tc : Thread Cert.QkvIdeal.nD Cert.QkvIdeal.τ).loc Cert.QkvIdeal.main_arg0) : Cert.QkvIdeal.S60.Idx → BitVec 32) i).toNat < 32000 :=
  Cert.QkvIdeal.Hand.lt_of_signed _ (congrFun (h c) i)

/-- The projection's results are the reference's, over the reals. -/
theorem qkv_algebraic : Cert.algebraic_QkvIdeal_QkvRefIdeal (hQkvIdeal := Cert.QkvIdeal.Gen.facts) (hQkvRefIdeal := Cert.QkvRefIdeal.Gen.facts) (hPre_tokens_named := pre_facts) := by
  intro m g m' g' hpre hagree
  have hn := qkv_ok m hpre
  have hA : ∀ c, Cert.QkvIdeal.Hand.Agree m m' c := fun c => by
    obtain ⟨h0, h1, h2, h3, h4, h5, h6, h7, h8, h9, h10, h11, h12⟩ := hagree c
    exact ⟨h0, h1, h2, h3, h4, h5, h6, h7, h8, h9, h10, h11, h12⟩
  have hlt : ∀ (c : Dev Cert.QkvIdeal.nD) (r : Fin 60), (Cert.QkvRefIdeal.Hand.a_0 m' c (ix1 r)).toNat < 32000 := fun c r => by
    rw [(hA c).e0]
    exact tok_lt m hpre c (ix1 r)
  refine ⟨fun c => Cert.QkvIdeal.Hand.qD m hn c, fun c => Cert.QkvIdeal.Hand.kD m hn c, fun c => Cert.QkvIdeal.Hand.vD m hn c, ?_, ?_⟩
  · exact (θ_run _ _ _).mono (fun r h c => ⟨Cert.QkvIdeal.Hand.out_q m hn h.1.1 c, Cert.QkvIdeal.Hand.out_k m hn h.1.1 c, Cert.QkvIdeal.Hand.out_v m hn h.1.1 c, h.2.1 c⟩)
      (θ_run_and (Cert.QkvIdeal.Hand.run_main m g hn) (Cert.QkvIdeal.Hand.frame m g hn))
  · exact (θ_run _ _ _).mono (fun r h c =>
      ⟨(Cert.QkvRefIdeal.Hand.out_q m' h.1 c).trans (Cert.QkvIdeal.Hand.q_eq hn (hA c) (hlt c)).symm,
       (Cert.QkvRefIdeal.Hand.out_k m' h.1 c).trans (Cert.QkvIdeal.Hand.k_eq hn (hA c) (hlt c)).symm,
       (Cert.QkvRefIdeal.Hand.out_v m' h.1 c).trans (Cert.QkvIdeal.Hand.v_eq hn (hA c) (hlt c)).symm, h.2.1 c⟩)
      (θ_run_and (Cert.QkvRefIdeal.Gen.run_main m' g') (Cert.QkvRefIdeal.Gen.frame m' g'))

end Cert.Proof

end
-- ==== Proof.FfOut.lean ====
module

public import proofs.«01_k».proof.Proof.Awq
public import proofs.«01_k».proof.Proof.Gen.FfIdeal.Frame
public import Idealize.ShloMosaic.Lib.Pipeline.ValueKit

@[expose] public section

set_option maxRecDepth 16384

noncomputable section

namespace Cert.FfIdeal.Hand

open Idealize.ShloMosaic Idealize.ShloMosaic.TcCoe Idealize.SL.Sem Cert.FfIdeal Cert.FfIdeal.Gen Cert.Awq

variable {F : FTy → Type} [FloatOps F]

theorem inb_w (g : ℕ) : ∀ a, (![64 * (g % 32), 0] : Fin 2 → ℕ) a + S64x512.size a ≤ S2048x512.size a := by
  have h := Nat.mod_lt g (show 0 < 32 by decide)
  intro a; fin_cases a <;> simp <;> omega

theorem inb_z (g : ℕ) : ∀ a, (![g % 32, 0] : Fin 2 → ℕ) a + S1x512.size a ≤ S32x512.size a := by
  have h := Nat.mod_lt g (show 0 < 32 by decide)
  intro a; fin_cases a <;> simp <;> omega

theorem inb_x (g : ℕ) : ∀ a, (![0, 128 * (g % 32)] : Fin 2 → ℕ) a + S64x128.size a ≤ S64x4096.size a := by
  have h := Nat.mod_lt g (show 0 < 32 by decide)
  intro a; fin_cases a <;> simp <;> omega

/-- Group `g` of the product of the activations with a block of packed weights. -/
def part (x : Vec F S64x4096 .bf16) (w : Vec F S2048x512 .i8) (s : Vec F S32x512 .bf16) (z : Vec F S32x512 .i8) (g : ℕ) :
    FVec F S64x512 .f32 :=
  grp (View.ld w (Rect.unit (s := S2048x512) ![64 * (g % 32), 0] S64x512.size (inb_w g)))
    (View.ld z (Rect.unit (s := S32x512) ![g % 32, 0] S1x512.size (inb_z g)))
    (View.ld s (Rect.unit (s := S32x512) ![g % 32, 0] S1x512.size (inb_z g)))
    (View.ld x (Rect.unit (s := S64x4096) ![0, 128 * (g % 32)] S64x128.size (inb_x g)))

def ffOut (x0 : Vec F S64x4096 .bf16) (x1 : Vec F S2048x512 .i8) (x2 : Vec F S32x512 .bf16) (x3 : Vec F S32x512 .i8) (x4 : Vec F S2048x512 .i8) (x5 : Vec F S32x512 .bf16) (x6 : Vec F S32x512 .i8) : Vec F S64x512 .bf16 :=
  truncf .bf16 (mulf (mulf (acc (part x0 x1 x2 x3) 31) (logistic (acc (part x0 x1 x2 x3) 31))) (acc (part x0 x4 x5 x6) 31)) bitsLt_bf16_f32

theorem out_eq (x0 : Vec F S64x4096 .bf16) (x1 : Vec F S2048x512 .i8) (x2 : Vec F S32x512 .bf16) (x3 : Vec F S32x512 .i8) (x4 : Vec F S2048x512 .i8) (x5 : Vec F S32x512 .bf16) (x6 : Vec F S32x512 .i8) :
    out0_7 x0 x1 x2 x3 x4 x5 x6 = ffOut x0 x1 x2 x3 x4 x5 x6 := by
  have hz : (![0, 0] : Fin S64x512.rank → Nat) = fun _ => 0 := funext fun a => by fin_cases a <;> rfl
  unfold out0_7
  rw [View.canon_unit_zero hz]
  rfl

/-- An entry of a running sum of groups: the product's entry. -/
theorem part_dot (x : Vec Ideal S64x4096 .bf16) (w : Vec Ideal S2048x512 .i8) (s : Vec Ideal S32x512 .bf16) (z : Vec Ideal S32x512 .i8)
    (r : Fin 64) (c : Fin 512) :
    acc (part x w s z) 31 (ix2 r c) = dot 32 (fun k => x (ix2 r ⟨k % 4096, Nat.mod_lt _ (by decide)⟩))
      (fun k => w (ix2 ⟨k % 2048, Nat.mod_lt _ (by decide)⟩ c)) (fun k => z (ix2 ⟨k % 32, Nat.mod_lt _ (by decide)⟩ c))
      (fun k => s (ix2 ⟨k % 32, Nat.mod_lt _ (by decide)⟩ c)) := by
  refine acc_eq_dot (n := 31) ?_ ?_ ?_ ?_
  all_goals
    intro g hg
    have hg' : g % 32 = g := Nat.mod_eq_of_lt hg
  · intro j
    have e : (128 * g + j.val) % 4096 = 128 * (g % 32) + j.val := by omega
    pointwise
    simp only [e]
  · intro j
    have e : (64 * g + j.val) % 2048 = 64 * (g % 32) + j.val := by omega
    pointwise
    simp only [e]
  · pointwise
  · pointwise

/-- An entry of what the body stores. -/
theorem ffOut_apply (x0 : Vec Ideal S64x4096 .bf16) (x1 : Vec Ideal S2048x512 .i8) (x2 : Vec Ideal S32x512 .bf16) (x3 : Vec Ideal S32x512 .i8) (x4 : Vec Ideal S2048x512 .i8) (x5 : Vec Ideal S32x512 .bf16) (x6 : Vec Ideal S32x512 .i8)
    (r : Fin 64) (c : Fin 512) :
    ffOut x0 x1 x2 x3 x4 x5 x6 (ix2 r c) = silu (acc (part x0 x1 x2 x3) 31 (ix2 r c)) (acc (part x0 x4 x5 x6) 31 (ix2 r c)) := by
  pointwise [ffOut, silu]

end Cert.FfIdeal.Hand

end
-- ==== Proof.FfRefDot.lean ====
module

public import proofs.«01_k».proof.Proof.Awq
public import proofs.«01_k».proof.Proof.Gen.FfRefIdeal.Run

@[expose] public section

set_option maxRecDepth 16384

noncomputable section

namespace Cert.FfRefIdeal.Hand

open Idealize.ShloMosaic Idealize.ShloMosaic.TcCoe Idealize.SL.Sem Cert.FfRefIdeal Cert.FfRefIdeal.Gen Cert.Awq

/-- The reference's product of activations with packed weights. -/
def mm (x : FVec Ideal S64x4096 .bf16) (w : Vec Ideal S2048x14336 .i8) (s : FVec Ideal S32x14336 .bf16) (z : Vec Ideal S32x14336 .i8) :
    FVec Ideal S64x14336 .f32 :=
  addf (Host.dotGeneral dot_S64x2048_S2048x14336_S64x14336_1_0_0_1_n_n none (Host.slice S64x2048 ![0, 0] ![1, 2] x slicesBy_S64x4096_S64x2048_0s1_0s2) (shapeCast _ (mulf (subf (sitofp .bf16 (andi (shapeCast _ (extui 32 w natLt_8_32) shapeCasts_S2048x14336_S32x64x14336) (broadcastInDim S32x64x14336 ![] bcast_S_S32x64x14336 (constantI S_ 32 15#32)))) (broadcastInDim S32x64x14336 ![0, 1, 2] bcast_S32x1x14336_S32x64x14336_0_1_2 (broadcastInDim S32x1x14336 ![0, 2] bcast_S32x14336_S32x1x14336_0_2 (sitofp .bf16 (extui 32 z natLt_8_32))))) (broadcastInDim S32x64x14336 ![0, 1, 2] bcast_S32x1x14336_S32x64x14336_0_1_2 (broadcastInDim S32x1x14336 ![0, 2] bcast_S32x14336_S32x1x14336_0_2 s))) shapeCasts_S32x64x14336_S2048x14336))
    (Host.dotGeneral dot_S64x2048_S2048x14336_S64x14336_1_0_0_1_n_n none (Host.slice S64x2048 ![0, 1] ![1, 2] x slicesBy_S64x4096_S64x2048_0s1_1s2) (shapeCast _ (mulf (subf (sitofp .bf16 (Host.shrsi (shapeCast _ (extui 32 w natLt_8_32) shapeCasts_S2048x14336_S32x64x14336) (broadcastInDim S32x64x14336 ![] bcast_S_S32x64x14336 (constantI S_ 32 4#32)))) (broadcastInDim S32x64x14336 ![0, 1, 2] bcast_S32x1x14336_S32x64x14336_0_1_2 (broadcastInDim S32x1x14336 ![0, 2] bcast_S32x14336_S32x1x14336_0_2 (sitofp .bf16 (extui 32 z natLt_8_32))))) (broadcastInDim S32x64x14336 ![0, 1, 2] bcast_S32x1x14336_S32x64x14336_0_1_2 (broadcastInDim S32x1x14336 ![0, 2] bcast_S32x14336_S32x1x14336_0_2 s))) shapeCasts_S32x64x14336_S2048x14336))

/-- An entry of the reference's product. -/
theorem mm_apply (x : FVec Ideal S64x4096 .bf16) (w : Vec Ideal S2048x14336 .i8) (s : FVec Ideal S32x14336 .bf16) (z : Vec Ideal S32x14336 .i8)
    (r : Fin 64) (c : Fin 14336) :
    mm x w s z (ix2 r c) = dot 32 (fun k => x (ix2 r ⟨k % 4096, Nat.mod_lt _ (by decide)⟩))
      (fun k => w (ix2 ⟨k % 2048, Nat.mod_lt _ (by decide)⟩ c)) (fun k => z (ix2 ⟨k % 32, Nat.mod_lt _ (by decide)⟩ c))
      (fun k => s (ix2 ⟨k % 32, Nat.mod_lt _ (by decide)⟩ c)) := by
  pointwise [mm]
  unfold dot
  rw [← Fin.sum_univ_eq_sum_range, ← Fin.sum_univ_eq_sum_range]
  simp only [tLo, tHi, lo, hi]
  refine congrArg₂ (· + ·) (Finset.sum_congr rfl fun k _ => ?_) (Finset.sum_congr rfl fun k _ => ?_)
  all_goals
    have hk := k.isLt
    have e1 : 2 * k.val % 4096 = 2 * k.val := Nat.mod_eq_of_lt (by omega)
    have e2 : (2 * k.val + 1) % 4096 = 1 + 2 * k.val := by omega
    have e3 : k.val % 2048 = k.val := Nat.mod_eq_of_lt (by omega)
    have e4 : k.val / 64 % 32 = k.val / 64 := Nat.mod_eq_of_lt (by omega)
    simp only [e1, e2, e3, e4]
    try rfl

/-- The reference's result over its arguments. -/
def out (x : FVec Ideal S64x4096 .bf16) (w1 : Vec Ideal S2048x14336 .i8) (s1 : FVec Ideal S32x14336 .bf16) (z1 : Vec Ideal S32x14336 .i8)
    (w2 : Vec Ideal S2048x14336 .i8) (s2 : FVec Ideal S32x14336 .bf16) (z2 : Vec Ideal S32x14336 .i8) : FVec Ideal S64x14336 .bf16 :=
  truncf .bf16 (mulf (mulf (mm x w1 s1 z1) (Host.divf (broadcastInDim S64x14336 ![] bcast_S_S64x14336 (constant S_ .f32 0x3F800000#32))
    (addf (broadcastInDim S64x14336 ![] bcast_S_S64x14336 (constant S_ .f32 0x3F800000#32)) (Host.exp (Host.negf (mm x w1 s1 z1))))))
      (mm x w2 s2 z2)) bitsLt_bf16_f32

theorem res_eq (m : (ℓ : Loc nD τ sig) → Buf (Elt Ideal) ℓ) (c : Dev nD) :
    Value.res_main_v56 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

/-- An entry of the reference's result. -/
theorem out_apply (x : FVec Ideal S64x4096 .bf16) (w1 : Vec Ideal S2048x14336 .i8) (s1 : FVec Ideal S32x14336 .bf16) (z1 : Vec Ideal S32x14336 .i8)
    (w2 : Vec Ideal S2048x14336 .i8) (s2 : FVec Ideal S32x14336 .bf16) (z2 : Vec Ideal S32x14336 .i8) (r : Fin 64) (c : Fin 14336) :
    out x w1 s1 z1 w2 s2 z2 (ix2 r c) = silu (mm x w1 s1 z1 (ix2 r c)) (mm x w2 s2 z2 (ix2 r c)) := by
  pointwise [out, silu]
  rfl

end Cert.FfRefIdeal.Hand

end
-- ==== Proof.FfFinal.lean ====
module

public import proofs.«01_k».proof.Defs
public import proofs.«01_k».proof.Proof.FfOut
public import proofs.«01_k».proof.Proof.FfRefDot
public import Idealize.ShloMosaic.Lib.Claim

@[expose] public section

set_option maxRecDepth 16384

noncomputable section

namespace Cert.FfIdeal.Hand

open Idealize.ShloMosaic Idealize.ShloMosaic.TcCoe Idealize.SL.Sem Cert.FfIdeal Cert.FfIdeal.Gen Cert.Awq

variable (m : (ℓ : Loc nD τ sig) → Buf (Elt Ideal) ℓ)

/-- Which block each window is on at grid point `t`. -/
theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] ∧ t.val < 28 :=
  (by decide +kernel : ∀ t : Fin grid0.N, _)

/-- One product of the body is the reference's product at the block's columns. -/
theorem mm_block (x : Vec Ideal S64x4096 .bf16) (w : Vec Ideal S2048x512 .i8) (s : Vec Ideal S32x512 .bf16) (z : Vec Ideal S32x512 .i8)
    (X : Vec Ideal S64x4096 .bf16) (W : Vec Ideal S2048x14336 .i8) (S : Vec Ideal S32x14336 .bf16) (Z : Vec Ideal S32x14336 .i8)
    (r : Fin 64) (c : Fin 512) (C : Fin 14336) (hx : ∀ k, x (ix2 r k) = X (ix2 r k)) (hw : ∀ k, w (ix2 k c) = W (ix2 k C))
    (hs : ∀ k, s (ix2 k c) = S (ix2 k C)) (hz : ∀ k, z (ix2 k c) = Z (ix2 k C)) :
    acc (part x w s z) 31 (ix2 r c) = Cert.FfRefIdeal.Hand.mm X W S Z (ix2 r C) :=
  (part_dot x w s z r c).trans ((dot_congr (fun _ _ => hx _) (fun _ _ => hw _) (fun _ _ => hz _) (fun _ _ => hs _)).trans
    (Cert.FfRefIdeal.Hand.mm_apply X W S Z r C).symm)

/-- The result array after the run is the reference's result. -/
theorem final (c : Dev nD) : (dats m 0 c).arrAt 7 (cfgs 0).N
    = Cert.FfRefIdeal.Hand.out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7, out_eq]
  idx_vars y
  refine (ffOut_apply _ _ _ _ _ _ _ _ _).trans ?_
  obtain ⟨h0, h1, h2, h3, h4, h5, h6, h7, ht⟩ := idx t
  have hC : 512 * t.val + y1.val < 14336 := by omega
  have he : ((cfg0.win 7).blk t).view.emb (ix2 y0 y1) = ix2 y0 ⟨512 * t.val + y1.val, hC⟩ := by
    blk_ext [h7]
  refine Eq.trans ?_ ((Cert.FfRefIdeal.Hand.out_apply _ _ _ _ _ _ _ y0 ⟨512 * t.val + y1.val, hC⟩).symm.trans (congrArg _ he.symm))
  refine congrArg₂ silu (mm_block _ _ _ _ _ _ _ _ _ _ _ ?_ ?_ ?_ ?_) (mm_block _ _ _ _ _ _ _ _ _ _ _ ?_ ?_ ?_ ?_)
  · intro k; blk_ext [iblk, V, h0]
  · intro k; blk_ext [iblk, V, h1]
  · intro k; blk_ext [iblk, V, h2]
  · intro k; blk_ext [iblk, V, h3]
  · intro k; blk_ext [iblk, V, h0]
  · intro k; blk_ext [iblk, V, h4]
  · intro k; blk_ext [iblk, V, h5]
  · intro k; blk_ext [iblk, V, h6]

end Cert.FfIdeal.Hand

namespace Cert.Proof

open Idealize.ShloMosaic Idealize.SL.Sem

/-- The gated product's result is the reference's, over the reals. -/
theorem ff_algebraic : Cert.algebraic_FfIdeal_FfRefIdeal (hFfIdeal := Cert.FfIdeal.Gen.facts) (hFfRefIdeal := Cert.FfRefIdeal.Gen.facts) := by
  pair_intro
  · run_from Cert.FfIdeal.Gen.run_main m g
  · refine (θ_run _ _ _).mono (fun r h c => ⟨(h c).1.trans ?_, (h c).2⟩) (Cert.FfRefIdeal.Value.run m' g')
    rw [Cert.FfRefIdeal.Hand.res_eq]
    obtain ⟨h0, h1, h2, h3, h4, h5, h6⟩ := hagree c
    rw [h0, h1, h2, h3, h4, h5, h6]
    exact (Cert.FfIdeal.Hand.final m c).symm

end Cert.Proof

end
-- ==== Proof.ORunBits.lean ====
module

public import proofs.«01_k».proof.Proof.FfOut
public import proofs.«01_k».proof.Proof.Gen.O.Skeleton
public import proofs.«01_k».proof.Proof.Gen.O.Frame
public import Idealize.ShloMosaic.Lib.VecWindow
public import Idealize.ShloMosaic.Lib.Tactic

@[expose] public section

set_option maxRecDepth 16384

noncomputable section

namespace Cert.O.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.O Cert.O.Gen Cert.Awq
open Cert.FfIdeal.Hand (part)

variable {F : FTy → Type} [FloatOps F]

local notation "𝕄" => MT nD τ sig Unit (Elt F) ℕ (UR sig nD τ) ℕ

/-- The block of the residual sum that point `i` stores: the point's columns of the gate residual plus the product of the
    attention output with the point's block of packed weights. -/
def blkO (i : grid0.Coords) (x0 x1 : Vec F S64x4096 .bf16) (x3 : Vec F S2048x512 .i8) (x4 : Vec F S32x512 .bf16) (x5 : Vec F S32x512 .i8) :
    FVec F S64x512 .f32 :=
  addf (extf .f32 (View.ld x1 (Rect.unit (s := S64x4096) (k0_off1 i) S64x512.size (k0_off1_inb i))) bitsLt_bf16_f32)
    (acc (part x0 x3 x4 x5) 31)

set_option maxHeartbeats 1000000 in
/-- The body at a point other than the last: the point's columns of the residual sum are stored, nothing else changes. -/
theorem run_A (c : Dev nD) (i : grid0.Coords) (arg1 : Memref sig .tc .vmem S64x4096 .bf16) (harg1 : arg1.IsWhole) (arg2 : Memref sig .tc .vmem S64x4096 .bf16) (harg2 : arg2.IsWhole) (arg3 : Memref sig .tc .vmem S1x4096 .f32) (harg3 : arg3.IsWhole) (arg4 : Memref sig .tc .vmem S2048x512 .i8) (harg4 : arg4.IsWhole) (arg5 : Memref sig .tc .vmem S32x512 .bf16) (harg5 : arg5.IsWhole) (arg6 : Memref sig .tc .vmem S32x512 .i8) (harg6 : arg6.IsWhole) (arg7 : Memref sig .tc .vmem S64x4096 .f32) (harg7 : arg7.IsWhole) (arg8 : Memref sig .tc .vmem S64x4096 .bf16) (harg8 : arg8.IsWhole)
    (hc0 : ¬ k0_cond1 i = 1#1)
    (x0 x1 : Vec F S64x4096 .bf16) (x2 : Vec F S1x4096 .f32) (x3 : Vec F S2048x512 .i8) (x4 : Vec F S32x512 .bf16) (x5 : Vec F S32x512 .i8)
    (x6 : Vec F S64x4096 .f32) (x7 : Vec F S64x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (VecWindow.put x6 (k0_off1 i) S64x512.size (blkO i x0 x1 x3 x4 x5)) ∗ owns (c : Thread nD τ) arg8 fullShare x7) -∗ K ⟨⟩))
      ⊢ wp frame (wpE (defs₀ (F := F)) Variants.none c none) E (cc0_oproj i arg1 harg1 arg2 harg2 arg3 harg3 arg4 harg4 arg5 harg5 arg6 harg6 arg7 harg7 arg8 harg8) K := by
  simp only [cc0_oproj_eq_skeleton]; unfold cc0_oproj_skel
  simp only [k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    rw [View.read_writes_cons_put _ _ _ _ _ rfl]
    rfl
  iexists f7; isplitr; swap; · iexact H7
  ipureintro; rfl

set_option maxHeartbeats 1000000 in
/-- The body at the last point: the point's columns of the residual sum are stored, then the normalised rows of the whole sum. -/
theorem run_B (c : Dev nD) (i : grid0.Coords) (arg1 : Memref sig .tc .vmem S64x4096 .bf16) (harg1 : arg1.IsWhole) (arg2 : Memref sig .tc .vmem S64x4096 .bf16) (harg2 : arg2.IsWhole) (arg3 : Memref sig .tc .vmem S1x4096 .f32) (harg3 : arg3.IsWhole) (arg4 : Memref sig .tc .vmem S2048x512 .i8) (harg4 : arg4.IsWhole) (arg5 : Memref sig .tc .vmem S32x512 .bf16) (harg5 : arg5.IsWhole) (arg6 : Memref sig .tc .vmem S32x512 .i8) (harg6 : arg6.IsWhole) (arg7 : Memref sig .tc .vmem S64x4096 .f32) (harg7 : arg7.IsWhole) (arg8 : Memref sig .tc .vmem S64x4096 .bf16) (harg8 : arg8.IsWhole)
    (hc0 : k0_cond1 i = 1#1)
    (x0 x1 : Vec F S64x4096 .bf16) (x2 : Vec F S1x4096 .f32) (x3 : Vec F S2048x512 .i8) (x4 : Vec F S32x512 .bf16) (x5 : Vec F S32x512 .i8)
    (x6 : Vec F S64x4096 .f32) (x7 : Vec F S64x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (VecWindow.put x6 (k0_off1 i) S64x512.size (blkO i x0 x1 x3 x4 x5)) ∗ owns (c : Thread nD τ) arg8 fullShare (k0_pay2 (VecWindow.put x6 (k0_off1 i) S64x512.size (blkO i x0 x1 x3 x4 x5)) x2)) -∗ K ⟨⟩))
      ⊢ wp frame (wpE (defs₀ (F := F)) Variants.none c none) E (cc0_oproj i arg1 harg1 arg2 harg2 arg3 harg3 arg4 harg4 arg5 harg5 arg6 harg6 arg7 harg7 arg8 harg8) K := by
  simp only [cc0_oproj_eq_skeleton]; unfold cc0_oproj_skel
  simp only [k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | sl_exact hc0)
  sl_step
  have hX : View.read (Elt F) arg7.view (arg7.view.writes (Elt F) f6 (run_B.sl.H6_1 c i arg1 arg2 arg4 arg5 arg6 f0 f1 f3 f4 f5))
      = VecWindow.put (View.read (Elt F) arg7.view f6) (k0_off1 i) S64x512.size (blkO i (View.read (Elt F) arg1.view f0)
          (View.read (Elt F) arg2.view f1) (View.read (Elt F) arg4.view f3) (View.read (Elt F) arg5.view f4) (View.read (Elt F) arg6.view f5)) := by
    unfold run_B.sl.H6_1
    rw [View.read_writes_cons_put _ _ _ _ _ rfl]
    rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    exact hX
  iexists _; isplitr; swap; · iexact H7
  ipureintro
  refine (View.read_writes_full _ _ _ _ _).trans ?_
  unfold run_B.sl.v714
  rw [View.readAt_full, View.readAt_full, hX]

end Cert.O.Hand

end
-- ==== Proof.OBodyBits.lean ====
module

public import proofs.«01_k».proof.Proof.ORunBits
public import Idealize.ShloMosaic.Lib.Pipeline.DatRel
public import Idealize.ShloMosaic.Lib.Pipeline.ArrRel
public import Idealize.ShloMosaic.Lib.Claim

@[expose] public section

set_option maxRecDepth 16384

noncomputable section

namespace Cert.O.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel cellOf)
open Cert.O Cert.O.Gen Cert.Awq

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two results hold at the end -/

/-- The block that point `t` stores. -/
def blkAt (c : Dev nD) (t : Fin cfg0.N) : FVec F S64x512 .f32 :=
  blkO (grid0.coords t) (iblk m c 0 t) (iblk m c 1 t) (iblk m c 3 t) (iblk m c 4 t) (iblk m c 5 t)

/-- The point that stores column `n`. -/
def ptOf (n : Fin 4096) : Fin cfg0.N := ⟨n.val / 512, by have := n.isLt; rw [show cfg0.N = 8 from N_0]; omega⟩

/-- The residual sum: every column as its point stored it. -/
def sumO (c : Dev nD) : Vec F S64x4096 .f32 := fun y =>
  blkAt m c (ptOf (y 1)) (ix2 (y 0) ⟨(y 1).val % 512, Nat.mod_lt _ (by decide)⟩)

/-- The normalised rows of the residual sum. -/
def normO (c : Dev nD) : Vec F S64x4096 .bf16 := k0_pay2 (sumO m c) (iblk m c 2 ⟨7, by decide⟩)

/-- The columns below `512 * (t + 1)` are the residual sum's. -/
def Upto (c : Dev nD) (n : ℕ) (X : Vec F S64x4096 .f32) : Prop :=
  ∀ y : S64x4096.Idx, (y 1).val < 512 * n → X y = sumO m c y

theorem coords_val (t : Fin cfg0.N) : (grid0.coords t 0).val = t.val := by
  have ht : t.val < 8 := Nat.lt_of_lt_of_eq t.isLt N_0
  have e : (grid0.coords t 0).val = t.val / 1 % 8 := Pipeline.Grid.coords_val t 0 (by decide) rfl
  omega

/-- Storing a point's block extends the finished columns by that block. -/
theorem upto_put (c : Dev nD) (t : Fin cfg0.N) (X : Vec F S64x4096 .f32) (h : Upto m c t.val X) :
    Upto m c (t.val + 1) (VecWindow.put X (k0_off1 (grid0.coords t)) S64x512.size (blkAt m c t)) := by
  have ht : t.val < 8 := Nat.lt_of_lt_of_eq t.isLt N_0
  intro y hy
  have hoff : k0_off1 (grid0.coords t) = ![0, 512 * t.val] := by rw [k0_off1_eq, coords_val]
  rw [hoff]
  unfold VecWindow.put
  by_cases hc : (y 1).val < 512 * t.val
  · rw [dif_neg (fun hm => by have := (hm 1).1; simp at this; omega)]
    exact h y hc
  · have hm : ∀ a, (![0, 512 * t.val] : Fin 2 → ℕ) a ≤ (y a).val ∧ (y a).val < (![0, 512 * t.val] : Fin 2 → ℕ) a + S64x512.size a := by
      have h0 := (y 0).isLt
      intro a; fin_cases a
      · exact ⟨Nat.zero_le _, by simpa using h0⟩
      · exact ⟨by simpa using (Nat.le_of_not_lt hc), by show (y 1).val < 512 * t.val + 512; omega⟩
    rw [dif_pos hm]
    have e : ptOf (y 1) = t := Fin.ext (by show (y 1).val / 512 = t.val; omega)
    unfold sumO
    rw [e]
    congr 1
    funext a
    fin_cases a
    · exact Fin.ext (by show (y 0).val - 0 = (y 0).val; omega)
    · exact Fin.ext (by show (y 1).val - 512 * t.val = (y 1).val % 512; omega)

theorem upto_eq (c : Dev nD) (X : Vec F S64x4096 .f32) (h : Upto m c 8 X) : X = sumO m c :=
  funext fun y => h y (by have := (y 1).isLt; exact this)

/-! ## The proof data -/

/-- The condition of the body's last part holds at the last point only. -/
theorem cond_iff : ∀ t : Fin cfg0.N, k0_cond1 (grid0.coords t) = 1#1 ↔ t.val = 7 :=
  (fun t => by
    have ht : t.val < 8 := Nat.lt_of_lt_of_eq t.isLt N_0
    have e0 : (grid0.coords t 0).val = t.val / 1 % 8 := Pipeline.Grid.coords_val t 0 (by decide) rfl
    simp only [k0_cond1, e0]
    word_cmp
   : ∀ t : Fin grid0.N, k0_cond1 (grid0.coords t) = 1#1 ↔ t.val = 7)

/-- The two outputs are held to a predicate, point by point. -/
def outs : Fin 8 → Bool := fun w => w.val == 6 || w.val == 7

/-- What the body leaves in an output's buffer: the residual sum's columns so far, and, at the last point, the normalised rows. -/
def Rl (c : Dev nD) : (w : Fin cfg0.W) → Fin cfg0.N → ((cfg0.win w).block.Idx → Elt F (cfg0.win w).elt) → Prop
  | ⟨6, _⟩, t, X => Upto m c (t.val + 1) X
  | ⟨7, _⟩, t, X => t.val = 7 → X = normO m c
  | _, _, _ => True

/-- The arrays as the region finds them, each input's buffer at its block, nothing owed. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨7, h⟩ => Dat.unnamed (cfg := cfg0) ⟨7, h⟩ t
  Φ _ := Pipeline.ΦA spec0 c
  q _ := fullShare
  owed _ := 0

theorem dat_A (c : Dev nD) (w : Fin cfg0.W) : (dat m c).A w = V m c (Pipeline.arrRef spec0 w) := by dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]

theorem before_0 (c : Dev nD) (t : Fin cfg0.N) (d) : (dat m c).before 0 t d = iblk m c 0 t := before0_0_of m (dat m c) (dat_A m c 0) (after_0 m c) t d
theorem before_1 (c : Dev nD) (t : Fin cfg0.N) (d) : (dat m c).before 1 t d = iblk m c 1 t := before0_1_of m (dat m c) (dat_A m c 1) (after_1 m c) t d
theorem before_2 (c : Dev nD) (t : Fin cfg0.N) (d) : (dat m c).before 2 t d = iblk m c 2 t := before0_2_of m (dat m c) (dat_A m c 2) (after_2 m c) t d
theorem before_3 (c : Dev nD) (t : Fin cfg0.N) (d) : (dat m c).before 3 t d = iblk m c 3 t := before0_3_of m (dat m c) (dat_A m c 3) (after_3 m c) t d
theorem before_4 (c : Dev nD) (t : Fin cfg0.N) (d) : (dat m c).before 4 t d = iblk m c 4 t := before0_4_of m (dat m c) (dat_A m c 4) (after_4 m c) t d
theorem before_5 (c : Dev nD) (t : Fin cfg0.N) (d) : (dat m c).before 5 t d = iblk m c 5 t := before0_5_of m (dat m c) (dat_A m c 5) (after_5 m c) t d

/-- The same data, the outputs held to the predicate. -/
def rdat (c : Dev nD) : Pipeline.RDat τ (Elt F) Unit ℕ (UR sig nD τ) ℕ cfg0 c := (dat m c).toRRel outs (Rl m c)

theorem rdat_after_6 (c : Dev nD) (t : Fin cfg0.N) (X) : (rdat m c).Leaves 6 t X → Upto m c (t.val + 1) X :=
  fun h => (dat m c).toRRel_leaves (fgt := outs) (Rl := Rl m c) (w := 6) rfl h

theorem rdat_after_7 (c : Dev nD) (t : Fin cfg0.N) (X) : (rdat m c).Leaves 7 t X → t.val = 7 → X = normO m c :=
  fun h => (dat m c).toRRel_leaves (fgt := outs) (Rl := Rl m c) (w := 7) rfl h

/-- What the body finds in the first output's buffer: the columns of the points before. -/
theorem finds_6 (c : Dev nD) (t : Fin cfg0.N) (X) (h : (rdat m c).Finds 6 t X) : Upto m c t.val X := by
  have ht : t.val < 8 := Nat.lt_of_lt_of_eq t.isLt N_0
  by_cases h0 : t.val = 0
  · intro y hy; rw [h0] at hy; exact absurd hy (Nat.not_lt_zero _)
  · rw [(rdat m c).finds_of_pos (w := 6) rfl h0] at h
    rcases h with h | h
    · have := (flush0_6 _).mp h
      dsimp only at this
      omega
    · have := rdat_after_6 m c _ X h
      rwa [show (⟨t.val - 1, Nat.lt_of_le_of_lt (Nat.sub_le _ _) t.isLt⟩ : Fin cfg0.N).val + 1 = t.val by dsimp only; omega] at this

/-! ## The body obligation -/

def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y))

def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ (∃ X, ⌜Rl m c 6 t X⌝ ∗ owns (c : Thread nD τ) (st0_6 t) fullShare X)
    ∗ (∃ X, ⌜Rl m c 7 t X⌝ ∗ owns (c : Thread nD τ) (st0_7 t) fullShare X))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, after_0, after_1, after_2, after_3, after_4, after_5]
  rw [show (dat m c).Φ t.succ = (dat m c).Φ t.castSucc from rfl,
    show (dat m c).owesAt () t.succ = (dat m c).owesAt () t.castSucc from rfl]
  have hN : t.val < 8 := lt_of_lt_of_eq t.isLt (show cfg0.N = 8 from N_0)
  iintro ⟨HΦ, Ho, ⟨%d0, H0⟩, ⟨%d1, H1⟩, ⟨%d2, H2⟩, ⟨%d3, H3⟩, ⟨%d4, H4⟩, ⟨%d5, H5⟩, ⟨%Y6, %h6, H6⟩, ⟨%Y7, %h7, H7⟩⟩
  have hu := upto_put m c t Y6 (finds_6 m c t Y6 h6)
  by_cases h0 : t.val = 7
  · iapply (run_B c (grid0.coords t) _ _ _ _ _ _ _ _ _ _ _ _ _ _ _ _ ((cond_iff t).mpr h0) (iblk m c 0 t) (iblk m c 1 t) (iblk m c 2 t) (iblk m c 3 t) (iblk m c 4 t) (iblk m c 5 t) Y6 Y7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro; exact hu
    iexists _; isplitr; swap; · iexact H7
    ipureintro
    intro _
    unfold normO
    have e : t = (⟨7, by decide⟩ : Fin cfg0.N) := Fin.ext h0
    rw [← upto_eq m c _ (h0 ▸ hu), ← e]
    rfl
  · iapply (run_A c (grid0.coords t) _ _ _ _ _ _ _ _ _ _ _ _ _ _ _ _ (fun h => h0 ((cond_iff t).mp h)) (iblk m c 0 t) (iblk m c 1 t) (iblk m c 2 t) (iblk m c 3 t) (iblk m c 4 t) (iblk m c 5 t) Y6 Y7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro; exact hu
    iexists _; isplitr; swap; · iexact H7
    ipureintro
    exact fun h => absurd h h0

theorem defs₀_row (t : Fin cfg0.N) :
    defs₀ (F := F) .tc cfg0.body (cfg0.bodyArgs t (cfg0.slots t)) = bodyAt0 t := by
  unfold defs₀; rw [Defs.onTc_tc]

/-- The body does what the proof data say, at every point. -/
theorem body_obligation (c : Dev nD) : BodyObligationRel (dat (F := F) m c) (defs₀ (F := F)) Variants.none () Set.univ outs (Rl m c) := fun t => by
  rw [bigSep_W0, bigSep_W0, defs₀_row]
  exact triple_restated (sound_body m c t) rfl .rfl fun _ => .rfl

/-! ## The run -/

set_option backward.isDefEq.respectTransparency.types false in
/-- Every run ends with the pipeline's arrays as the proof data say and every semaphore counter at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame (Q' := _) cfgs (0 : Fin 1) launch0 defs₀ Variants.none (fun c => rdat m c) m ρ main
    (hbody := fun c => (body_obligation m c).toRRel) (hshare := fun c => (dat m c).share_full fun _ => rfl)
    (howed := fun _ _ => rfl) (V := V m) (hmain := hmain m Variants.none) (hA := dat_A m) (hΦ := fun _ _ => rfl)

/-- The argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 0 rfl).trans ((dat_A m c 0).trans (V_main_arg0 m c)),
      (Pipeline.RDat.FramePost.arr_in h.1 c 1 rfl).trans ((dat_A m c 1).trans (V_main_arg1 m c)),
      (Pipeline.RDat.FramePost.arr_in h.1 c 2 rfl).trans ((dat_A m c 2).trans (V_main_arg2 m c)),
      (Pipeline.RDat.FramePost.arr_in h.1 c 3 rfl).trans ((dat_A m c 3).trans (V_main_arg3 m c)),
      (Pipeline.RDat.FramePost.arr_in h.1 c 4 rfl).trans ((dat_A m c 4).trans (V_main_arg4 m c)),
      (Pipeline.RDat.FramePost.arr_in h.1 c 5 rfl).trans ((dat_A m c 5).trans (V_main_arg5 m c))⟩, h.2⟩) (run_main m ρ)

/-- The first result: the residual sum. -/
theorem out_0 {r} (h : Pipeline.RDat.FramePost (cfgs 0) (fun c => rdat m c) (V m) r) (c : Dev nD) :
    r.2.mem ((c.tc : Thread nD τ).loc main_v0_0) = sumO m c := by
  have hW : (cfg0.win 6).WholeAt ⟨7, by decide⟩ := by decide +kernel
  obtain ⟨X, hX, hG⟩ := Pipeline.RDat.ArrAt.emb_eq_of_wholeAt ((h c).1 6) hW
  have hu := upto_eq m c X (rdat_after_6 m c _ X hX)
  funext j
  exact (hG j).trans (congrFun hu j)

/-- The second result: its normalised rows. -/
theorem out_1 {r} (h : Pipeline.RDat.FramePost (cfgs 0) (fun c => rdat m c) (V m) r) (c : Dev nD) :
    r.2.mem ((c.tc : Thread nD τ).loc main_v0_1) = normO m c := by
  have hW : (cfg0.win 7).WholeAt ⟨7, by decide⟩ := by decide +kernel
  obtain ⟨X, hX, hG⟩ := Pipeline.RDat.ArrAt.emb_eq_of_wholeAt ((h c).1 7) hW
  have hu := rdat_after_7 m c _ X hX rfl
  funext j
  exact (hG j).trans (congrFun hu j)

end Cert.O.Hand

end
-- ==== Proof.ORun.lean ====
module

public import proofs.«01_k».proof.Proof.FfOut
public import proofs.«01_k».proof.Proof.Gen.OIdeal.Skeleton
public import proofs.«01_k».proof.Proof.Gen.OIdeal.Frame
public import Idealize.ShloMosaic.Lib.VecWindow
public import Idealize.ShloMosaic.Lib.Tactic

@[expose] public section

set_option maxRecDepth 16384

noncomputable section

namespace Cert.OIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.OIdeal Cert.OIdeal.Gen Cert.Awq
open Cert.FfIdeal.Hand (part)

variable {F : FTy → Type} [FloatOps F]

local notation "𝕄" => MT nD τ sig Unit (Elt F) ℕ (UR sig nD τ) ℕ

/-- The block of the residual sum that point `i` stores: the point's columns of the gate residual plus the product of the
    attention output with the point's block of packed weights. -/
def blkO (i : grid0.Coords) (x0 x1 : Vec F S64x4096 .bf16) (x3 : Vec F S2048x512 .i8) (x4 : Vec F S32x512 .bf16) (x5 : Vec F S32x512 .i8) :
    FVec F S64x512 .f32 :=
  addf (extf .f32 (View.ld x1 (Rect.unit (s := S64x4096) (k0_off1 i) S64x512.size (k0_off1_inb i))) bitsLt_bf16_f32)
    (acc (part x0 x3 x4 x5) 31)

set_option maxHeartbeats 1000000 in
/-- The body at a point other than the last: the point's columns of the residual sum are stored, nothing else changes. -/
theorem run_A (c : Dev nD) (i : grid0.Coords) (arg1 : Memref sig .tc .vmem S64x4096 .bf16) (harg1 : arg1.IsWhole) (arg2 : Memref sig .tc .vmem S64x4096 .bf16) (harg2 : arg2.IsWhole) (arg3 : Memref sig .tc .vmem S1x4096 .f32) (harg3 : arg3.IsWhole) (arg4 : Memref sig .tc .vmem S2048x512 .i8) (harg4 : arg4.IsWhole) (arg5 : Memref sig .tc .vmem S32x512 .bf16) (harg5 : arg5.IsWhole) (arg6 : Memref sig .tc .vmem S32x512 .i8) (harg6 : arg6.IsWhole) (arg7 : Memref sig .tc .vmem S64x4096 .f32) (harg7 : arg7.IsWhole) (arg8 : Memref sig .tc .vmem S64x4096 .bf16) (harg8 : arg8.IsWhole)
    (hc0 : ¬ k0_cond1 i = 1#1)
    (x0 x1 : Vec F S64x4096 .bf16) (x2 : Vec F S1x4096 .f32) (x3 : Vec F S2048x512 .i8) (x4 : Vec F S32x512 .bf16) (x5 : Vec F S32x512 .i8)
    (x6 : Vec F S64x4096 .f32) (x7 : Vec F S64x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (VecWindow.put x6 (k0_off1 i) S64x512.size (blkO i x0 x1 x3 x4 x5)) ∗ owns (c : Thread nD τ) arg8 fullShare x7) -∗ K ⟨⟩))
      ⊢ wp frame (wpE (defs₀ (F := F)) Variants.none c none) E (cc0_oproj i arg1 harg1 arg2 harg2 arg3 harg3 arg4 harg4 arg5 harg5 arg6 harg6 arg7 harg7 arg8 harg8) K := by
  simp only [cc0_oproj_eq_skeleton]; unfold cc0_oproj_skel
  simp only [k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    rw [View.read_writes_cons_put _ _ _ _ _ rfl]
    rfl
  iexists f7; isplitr; swap; · iexact H7
  ipureintro; rfl

set_option maxHeartbeats 1000000 in
/-- The body at the last point: the point's columns of the residual sum are stored, then the normalised rows of the whole sum. -/
theorem run_B (c : Dev nD) (i : grid0.Coords) (arg1 : Memref sig .tc .vmem S64x4096 .bf16) (harg1 : arg1.IsWhole) (arg2 : Memref sig .tc .vmem S64x4096 .bf16) (harg2 : arg2.IsWhole) (arg3 : Memref sig .tc .vmem S1x4096 .f32) (harg3 : arg3.IsWhole) (arg4 : Memref sig .tc .vmem S2048x512 .i8) (harg4 : arg4.IsWhole) (arg5 : Memref sig .tc .vmem S32x512 .bf16) (harg5 : arg5.IsWhole) (arg6 : Memref sig .tc .vmem S32x512 .i8) (harg6 : arg6.IsWhole) (arg7 : Memref sig .tc .vmem S64x4096 .f32) (harg7 : arg7.IsWhole) (arg8 : Memref sig .tc .vmem S64x4096 .bf16) (harg8 : arg8.IsWhole)
    (hc0 : k0_cond1 i = 1#1)
    (x0 x1 : Vec F S64x4096 .bf16) (x2 : Vec F S1x4096 .f32) (x3 : Vec F S2048x512 .i8) (x4 : Vec F S32x512 .bf16) (x5 : Vec F S32x512 .i8)
    (x6 : Vec F S64x4096 .f32) (x7 : Vec F S64x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (VecWindow.put x6 (k0_off1 i) S64x512.size (blkO i x0 x1 x3 x4 x5)) ∗ owns (c : Thread nD τ) arg8 fullShare (k0_pay2 (VecWindow.put x6 (k0_off1 i) S64x512.size (blkO i x0 x1 x3 x4 x5)) x2)) -∗ K ⟨⟩))
      ⊢ wp frame (wpE (defs₀ (F := F)) Variants.none c none) E (cc0_oproj i arg1 harg1 arg2 harg2 arg3 harg3 arg4 harg4 arg5 harg5 arg6 harg6 arg7 harg7 arg8 harg8) K := by
  simp only [cc0_oproj_eq_skeleton]; unfold cc0_oproj_skel
  simp only [k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | sl_exact hc0)
  sl_step
  have hX : View.read (Elt F) arg7.view (arg7.view.writes (Elt F) f6 (run_B.sl.H6_1 c i arg1 arg2 arg4 arg5 arg6 f0 f1 f3 f4 f5))
      = VecWindow.put (View.read (Elt F) arg7.view f6) (k0_off1 i) S64x512.size (blkO i (View.read (Elt F) arg1.view f0)
          (View.read (Elt F) arg2.view f1) (View.read (Elt F) arg4.view f3) (View.read (Elt F) arg5.view f4) (View.read (Elt F) arg6.view f5)) := by
    unfold run_B.sl.H6_1
    rw [View.read_writes_cons_put _ _ _ _ _ rfl]
    rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    exact hX
  iexists _; isplitr; swap; · iexact H7
  ipureintro
  refine (View.read_writes_full _ _ _ _ _).trans ?_
  unfold run_B.sl.v714
  rw [View.readAt_full, View.readAt_full, hX]

end Cert.OIdeal.Hand

end
-- ==== Proof.OBody.lean ====
module

public import proofs.«01_k».proof.Proof.ORun
public import Idealize.ShloMosaic.Lib.Pipeline.DatRel
public import Idealize.ShloMosaic.Lib.Pipeline.ArrRel
public import Idealize.ShloMosaic.Lib.Claim

@[expose] public section

set_option maxRecDepth 16384

noncomputable section

namespace Cert.OIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel cellOf)
open Cert.OIdeal Cert.OIdeal.Gen Cert.Awq

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two results hold at the end -/

/-- The block that point `t` stores. -/
def blkAt (c : Dev nD) (t : Fin cfg0.N) : FVec F S64x512 .f32 :=
  blkO (grid0.coords t) (iblk m c 0 t) (iblk m c 1 t) (iblk m c 3 t) (iblk m c 4 t) (iblk m c 5 t)

/-- The point that stores column `n`. -/
def ptOf (n : Fin 4096) : Fin cfg0.N := ⟨n.val / 512, by have := n.isLt; rw [show cfg0.N = 8 from N_0]; omega⟩

/-- The residual sum: every column as its point stored it. -/
def sumO (c : Dev nD) : Vec F S64x4096 .f32 := fun y =>
  blkAt m c (ptOf (y 1)) (ix2 (y 0) ⟨(y 1).val % 512, Nat.mod_lt _ (by decide)⟩)

/-- The normalised rows of the residual sum. -/
def normO (c : Dev nD) : Vec F S64x4096 .bf16 := k0_pay2 (sumO m c) (iblk m c 2 ⟨7, by decide⟩)

/-- The columns below `512 * (t + 1)` are the residual sum's. -/
def Upto (c : Dev nD) (n : ℕ) (X : Vec F S64x4096 .f32) : Prop :=
  ∀ y : S64x4096.Idx, (y 1).val < 512 * n → X y = sumO m c y

theorem coords_val (t : Fin cfg0.N) : (grid0.coords t 0).val = t.val := by
  have ht : t.val < 8 := Nat.lt_of_lt_of_eq t.isLt N_0
  have e : (grid0.coords t 0).val = t.val / 1 % 8 := Pipeline.Grid.coords_val t 0 (by decide) rfl
  omega

/-- Storing a point's block extends the finished columns by that block. -/
theorem upto_put (c : Dev nD) (t : Fin cfg0.N) (X : Vec F S64x4096 .f32) (h : Upto m c t.val X) :
    Upto m c (t.val + 1) (VecWindow.put X (k0_off1 (grid0.coords t)) S64x512.size (blkAt m c t)) := by
  have ht : t.val < 8 := Nat.lt_of_lt_of_eq t.isLt N_0
  intro y hy
  have hoff : k0_off1 (grid0.coords t) = ![0, 512 * t.val] := by rw [k0_off1_eq, coords_val]
  rw [hoff]
  unfold VecWindow.put
  by_cases hc : (y 1).val < 512 * t.val
  · rw [dif_neg (fun hm => by have := (hm 1).1; simp at this; omega)]
    exact h y hc
  · have hm : ∀ a, (![0, 512 * t.val] : Fin 2 → ℕ) a ≤ (y a).val ∧ (y a).val < (![0, 512 * t.val] : Fin 2 → ℕ) a + S64x512.size a := by
      have h0 := (y 0).isLt
      intro a; fin_cases a
      · exact ⟨Nat.zero_le _, by simpa using h0⟩
      · exact ⟨by simpa using (Nat.le_of_not_lt hc), by show (y 1).val < 512 * t.val + 512; omega⟩
    rw [dif_pos hm]
    have e : ptOf (y 1) = t := Fin.ext (by show (y 1).val / 512 = t.val; omega)
    unfold sumO
    rw [e]
    congr 1
    funext a
    fin_cases a
    · exact Fin.ext (by show (y 0).val - 0 = (y 0).val; omega)
    · exact Fin.ext (by show (y 1).val - 512 * t.val = (y 1).val % 512; omega)

theorem upto_eq (c : Dev nD) (X : Vec F S64x4096 .f32) (h : Upto m c 8 X) : X = sumO m c :=
  funext fun y => h y (by have := (y 1).isLt; exact this)

/-! ## The proof data -/

/-- The condition of the body's last part holds at the last point only. -/
theorem cond_iff : ∀ t : Fin cfg0.N, k0_cond1 (grid0.coords t) = 1#1 ↔ t.val = 7 :=
  (fun t => by
    have ht : t.val < 8 := Nat.lt_of_lt_of_eq t.isLt N_0
    have e0 : (grid0.coords t 0).val = t.val / 1 % 8 := Pipeline.Grid.coords_val t 0 (by decide) rfl
    simp only [k0_cond1, e0]
    word_cmp
   : ∀ t : Fin grid0.N, k0_cond1 (grid0.coords t) = 1#1 ↔ t.val = 7)

/-- The two outputs are held to a predicate, point by point. -/
def outs : Fin 8 → Bool := fun w => w.val == 6 || w.val == 7

/-- What the body leaves in an output's buffer: the residual sum's columns so far, and, at the last point, the normalised rows. -/
def Rl (c : Dev nD) : (w : Fin cfg0.W) → Fin cfg0.N → ((cfg0.win w).block.Idx → Elt F (cfg0.win w).elt) → Prop
  | ⟨6, _⟩, t, X => Upto m c (t.val + 1) X
  | ⟨7, _⟩, t, X => t.val = 7 → X = normO m c
  | _, _, _ => True

/-- The arrays as the region finds them, each input's buffer at its block, nothing owed. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨7, h⟩ => Dat.unnamed (cfg := cfg0) ⟨7, h⟩ t
  Φ _ := Pipeline.ΦA spec0 c
  q _ := fullShare
  owed _ := 0

theorem dat_A (c : Dev nD) (w : Fin cfg0.W) : (dat m c).A w = V m c (Pipeline.arrRef spec0 w) := by dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]

theorem before_0 (c : Dev nD) (t : Fin cfg0.N) (d) : (dat m c).before 0 t d = iblk m c 0 t := before0_0_of m (dat m c) (dat_A m c 0) (after_0 m c) t d
theorem before_1 (c : Dev nD) (t : Fin cfg0.N) (d) : (dat m c).before 1 t d = iblk m c 1 t := before0_1_of m (dat m c) (dat_A m c 1) (after_1 m c) t d
theorem before_2 (c : Dev nD) (t : Fin cfg0.N) (d) : (dat m c).before 2 t d = iblk m c 2 t := before0_2_of m (dat m c) (dat_A m c 2) (after_2 m c) t d
theorem before_3 (c : Dev nD) (t : Fin cfg0.N) (d) : (dat m c).before 3 t d = iblk m c 3 t := before0_3_of m (dat m c) (dat_A m c 3) (after_3 m c) t d
theorem before_4 (c : Dev nD) (t : Fin cfg0.N) (d) : (dat m c).before 4 t d = iblk m c 4 t := before0_4_of m (dat m c) (dat_A m c 4) (after_4 m c) t d
theorem before_5 (c : Dev nD) (t : Fin cfg0.N) (d) : (dat m c).before 5 t d = iblk m c 5 t := before0_5_of m (dat m c) (dat_A m c 5) (after_5 m c) t d

/-- The same data, the outputs held to the predicate. -/
def rdat (c : Dev nD) : Pipeline.RDat τ (Elt F) Unit ℕ (UR sig nD τ) ℕ cfg0 c := (dat m c).toRRel outs (Rl m c)

theorem rdat_after_6 (c : Dev nD) (t : Fin cfg0.N) (X) : (rdat m c).Leaves 6 t X → Upto m c (t.val + 1) X :=
  fun h => (dat m c).toRRel_leaves (fgt := outs) (Rl := Rl m c) (w := 6) rfl h

theorem rdat_after_7 (c : Dev nD) (t : Fin cfg0.N) (X) : (rdat m c).Leaves 7 t X → t.val = 7 → X = normO m c :=
  fun h => (dat m c).toRRel_leaves (fgt := outs) (Rl := Rl m c) (w := 7) rfl h

/-- What the body finds in the first output's buffer: the columns of the points before. -/
theorem finds_6 (c : Dev nD) (t : Fin cfg0.N) (X) (h : (rdat m c).Finds 6 t X) : Upto m c t.val X := by
  have ht : t.val < 8 := Nat.lt_of_lt_of_eq t.isLt N_0
  by_cases h0 : t.val = 0
  · intro y hy; rw [h0] at hy; exact absurd hy (Nat.not_lt_zero _)
  · rw [(rdat m c).finds_of_pos (w := 6) rfl h0] at h
    rcases h with h | h
    · have := (flush0_6 _).mp h
      dsimp only at this
      omega
    · have := rdat_after_6 m c _ X h
      rwa [show (⟨t.val - 1, Nat.lt_of_le_of_lt (Nat.sub_le _ _) t.isLt⟩ : Fin cfg0.N).val + 1 = t.val by dsimp only; omega] at this

/-! ## The body obligation -/

def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y))

def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ (∃ X, ⌜Rl m c 6 t X⌝ ∗ owns (c : Thread nD τ) (st0_6 t) fullShare X)
    ∗ (∃ X, ⌜Rl m c 7 t X⌝ ∗ owns (c : Thread nD τ) (st0_7 t) fullShare X))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, after_0, after_1, after_2, after_3, after_4, after_5]
  rw [show (dat m c).Φ t.succ = (dat m c).Φ t.castSucc from rfl,
    show (dat m c).owesAt () t.succ = (dat m c).owesAt () t.castSucc from rfl]
  have hN : t.val < 8 := lt_of_lt_of_eq t.isLt (show cfg0.N = 8 from N_0)
  iintro ⟨HΦ, Ho, ⟨%d0, H0⟩, ⟨%d1, H1⟩, ⟨%d2, H2⟩, ⟨%d3, H3⟩, ⟨%d4, H4⟩, ⟨%d5, H5⟩, ⟨%Y6, %h6, H6⟩, ⟨%Y7, %h7, H7⟩⟩
  have hu := upto_put m c t Y6 (finds_6 m c t Y6 h6)
  by_cases h0 : t.val = 7
  · iapply (run_B c (grid0.coords t) _ _ _ _ _ _ _ _ _ _ _ _ _ _ _ _ ((cond_iff t).mpr h0) (iblk m c 0 t) (iblk m c 1 t) (iblk m c 2 t) (iblk m c 3 t) (iblk m c 4 t) (iblk m c 5 t) Y6 Y7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro; exact hu
    iexists _; isplitr; swap; · iexact H7
    ipureintro
    intro _
    unfold normO
    have e : t = (⟨7, by decide⟩ : Fin cfg0.N) := Fin.ext h0
    rw [← upto_eq m c _ (h0 ▸ hu), ← e]
    rfl
  · iapply (run_A c (grid0.coords t) _ _ _ _ _ _ _ _ _ _ _ _ _ _ _ _ (fun h => h0 ((cond_iff t).mp h)) (iblk m c 0 t) (iblk m c 1 t) (iblk m c 2 t) (iblk m c 3 t) (iblk m c 4 t) (iblk m c 5 t) Y6 Y7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro; exact hu
    iexists _; isplitr; swap; · iexact H7
    ipureintro
    exact fun h => absurd h h0

theorem defs₀_row (t : Fin cfg0.N) :
    defs₀ (F := F) .tc cfg0.body (cfg0.bodyArgs t (cfg0.slots t)) = bodyAt0 t := by
  unfold defs₀; rw [Defs.onTc_tc]

/-- The body does what the proof data say, at every point. -/
theorem body_obligation (c : Dev nD) : BodyObligationRel (dat (F := F) m c) (defs₀ (F := F)) Variants.none () Set.univ outs (Rl m c) := fun t => by
  rw [bigSep_W0, bigSep_W0, defs₀_row]
  exact triple_restated (sound_body m c t) rfl .rfl fun _ => .rfl

/-! ## The run -/

set_option backward.isDefEq.respectTransparency.types false in
/-- Every run ends with the pipeline's arrays as the proof data say and every semaphore counter at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame (Q' := _) cfgs (0 : Fin 1) launch0 defs₀ Variants.none (fun c => rdat m c) m ρ main
    (hbody := fun c => (body_obligation m c).toRRel) (hshare := fun c => (dat m c).share_full fun _ => rfl)
    (howed := fun _ _ => rfl) (V := V m) (hmain := hmain m Variants.none) (hA := dat_A m) (hΦ := fun _ _ => rfl)

/-- The argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 0 rfl).trans ((dat_A m c 0).trans (V_main_arg0 m c)),
      (Pipeline.RDat.FramePost.arr_in h.1 c 1 rfl).trans ((dat_A m c 1).trans (V_main_arg1 m c)),
      (Pipeline.RDat.FramePost.arr_in h.1 c 2 rfl).trans ((dat_A m c 2).trans (V_main_arg2 m c)),
      (Pipeline.RDat.FramePost.arr_in h.1 c 3 rfl).trans ((dat_A m c 3).trans (V_main_arg3 m c)),
      (Pipeline.RDat.FramePost.arr_in h.1 c 4 rfl).trans ((dat_A m c 4).trans (V_main_arg4 m c)),
      (Pipeline.RDat.FramePost.arr_in h.1 c 5 rfl).trans ((dat_A m c 5).trans (V_main_arg5 m c))⟩, h.2⟩) (run_main m ρ)

/-- The first result: the residual sum. -/
theorem out_0 {r} (h : Pipeline.RDat.FramePost (cfgs 0) (fun c => rdat m c) (V m) r) (c : Dev nD) :
    r.2.mem ((c.tc : Thread nD τ).loc main_v0_0) = sumO m c := by
  have hW : (cfg0.win 6).WholeAt ⟨7, by decide⟩ := by decide +kernel
  obtain ⟨X, hX, hG⟩ := Pipeline.RDat.ArrAt.emb_eq_of_wholeAt ((h c).1 6) hW
  have hu := upto_eq m c X (rdat_after_6 m c _ X hX)
  funext j
  exact (hG j).trans (congrFun hu j)

/-- The second result: its normalised rows. -/
theorem out_1 {r} (h : Pipeline.RDat.FramePost (cfgs 0) (fun c => rdat m c) (V m) r) (c : Dev nD) :
    r.2.mem ((c.tc : Thread nD τ).loc main_v0_1) = normO m c := by
  have hW : (cfg0.win 7).WholeAt ⟨7, by decide⟩ := by decide +kernel
  obtain ⟨X, hX, hG⟩ := Pipeline.RDat.ArrAt.emb_eq_of_wholeAt ((h c).1 7) hW
  have hu := rdat_after_7 m c _ X hX rfl
  funext j
  exact (hG j).trans (congrFun hu j)

end Cert.OIdeal.Hand

end
-- ==== Proof.ORefDot.lean ====
module

public import proofs.«01_k».proof.Proof.Awq
public import proofs.«01_k».proof.Proof.Gen.ORefIdeal.Run

@[expose] public section

set_option maxRecDepth 16384

noncomputable section

namespace Cert.ORefIdeal.Hand

open Idealize.ShloMosaic Idealize.ShloMosaic.TcCoe Idealize.SL.Sem Cert.ORefIdeal Cert.ORefIdeal.Gen Cert.Awq

/-- The reference's product of activations with packed weights. -/
def mm (x : FVec Ideal S64x4096 .bf16) (w : Vec Ideal S2048x4096 .i8) (s : FVec Ideal S32x4096 .bf16) (z : Vec Ideal S32x4096 .i8) :
    FVec Ideal S64x4096 .f32 :=
  addf (Host.dotGeneral dot_S64x2048_S2048x4096_S64x4096_1_0_0_1_n_n none (Host.slice S64x2048 ![0, 0] ![1, 2] x slicesBy_S64x4096_S64x2048_0s1_0s2) (shapeCast _ (mulf (subf (sitofp .bf16 (andi (shapeCast _ (extui 32 w natLt_8_32) shapeCasts_S2048x4096_S32x64x4096) (broadcastInDim S32x64x4096 ![] bcast_S_S32x64x4096 (constantI S_ 32 15#32)))) (broadcastInDim S32x64x4096 ![0, 1, 2] bcast_S32x1x4096_S32x64x4096_0_1_2 (broadcastInDim S32x1x4096 ![0, 2] bcast_S32x4096_S32x1x4096_0_2 (sitofp .bf16 (extui 32 z natLt_8_32))))) (broadcastInDim S32x64x4096 ![0, 1, 2] bcast_S32x1x4096_S32x64x4096_0_1_2 (broadcastInDim S32x1x4096 ![0, 2] bcast_S32x4096_S32x1x4096_0_2 s))) shapeCasts_S32x64x4096_S2048x4096))
    (Host.dotGeneral dot_S64x2048_S2048x4096_S64x4096_1_0_0_1_n_n none (Host.slice S64x2048 ![0, 1] ![1, 2] x slicesBy_S64x4096_S64x2048_0s1_1s2) (shapeCast _ (mulf (subf (sitofp .bf16 (Host.shrsi (shapeCast _ (extui 32 w natLt_8_32) shapeCasts_S2048x4096_S32x64x4096) (broadcastInDim S32x64x4096 ![] bcast_S_S32x64x4096 (constantI S_ 32 4#32)))) (broadcastInDim S32x64x4096 ![0, 1, 2] bcast_S32x1x4096_S32x64x4096_0_1_2 (broadcastInDim S32x1x4096 ![0, 2] bcast_S32x4096_S32x1x4096_0_2 (sitofp .bf16 (extui 32 z natLt_8_32))))) (broadcastInDim S32x64x4096 ![0, 1, 2] bcast_S32x1x4096_S32x64x4096_0_1_2 (broadcastInDim S32x1x4096 ![0, 2] bcast_S32x4096_S32x1x4096_0_2 s))) shapeCasts_S32x64x4096_S2048x4096))

/-- An entry of the reference's product. -/
theorem mm_apply (x : FVec Ideal S64x4096 .bf16) (w : Vec Ideal S2048x4096 .i8) (s : FVec Ideal S32x4096 .bf16) (z : Vec Ideal S32x4096 .i8)
    (r : Fin 64) (c : Fin 4096) :
    mm x w s z (ix2 r c) = dot 32 (fun k => x (ix2 r ⟨k % 4096, Nat.mod_lt _ (by decide)⟩))
      (fun k => w (ix2 ⟨k % 2048, Nat.mod_lt _ (by decide)⟩ c)) (fun k => z (ix2 ⟨k % 32, Nat.mod_lt _ (by decide)⟩ c))
      (fun k => s (ix2 ⟨k % 32, Nat.mod_lt _ (by decide)⟩ c)) := by
  pointwise [mm]
  unfold dot
  rw [← Fin.sum_univ_eq_sum_range, ← Fin.sum_univ_eq_sum_range]
  simp only [tLo, tHi, lo, hi]
  refine congrArg₂ (· + ·) (Finset.sum_congr rfl fun k _ => ?_) (Finset.sum_congr rfl fun k _ => ?_)
  all_goals
    have hk := k.isLt
    have e1 : 2 * k.val % 4096 = 2 * k.val := Nat.mod_eq_of_lt (by omega)
    have e2 : (2 * k.val + 1) % 4096 = 1 + 2 * k.val := by omega
    have e3 : k.val % 2048 = k.val := Nat.mod_eq_of_lt (by omega)
    have e4 : k.val / 64 % 32 = k.val / 64 := Nat.mod_eq_of_lt (by omega)
    simp only [e1, e2, e3, e4]
    try rfl

/-- The residual sum: the gate residual plus the product. -/
def sum (x g : FVec Ideal S64x4096 .bf16) (w : Vec Ideal S2048x4096 .i8) (s : FVec Ideal S32x4096 .bf16) (z : Vec Ideal S32x4096 .i8) :
    FVec Ideal S64x4096 .f32 :=
  addf (extf .f32 g bitsLt_bf16_f32) (mm x w s z)

/-- The rows of `h`, each divided by the root of its mean square, times the weights of the norm. -/
def norm (h : FVec Ideal S64x4096 .f32) (np : FVec Ideal S1x4096 .f32) : FVec Ideal S64x4096 .bf16 :=
  truncf .bf16 (mulf (Host.divf h (broadcastInDim S64x4096 ![0, 1] bcast_S64x1_S64x4096_0_1 (Host.sqrt (addf (Host.divf (broadcastInDim S64x1 ![0] bcast_S64_S64x1_0 (Host.reduceAdd (mulf h h) (constant S_ .f32 0x00000000#32) reducesTo_S64x4096_S64_d1 h_S_)) (broadcastInDim S64x1 ![] bcast_S_S64x1 (constant S_ .f32 0x45800000#32))) (broadcastInDim S64x1 ![] bcast_S_S64x1 (constant S_ .f32 0x3727C5AC#32)))))) (broadcastInDim S64x4096 ![0, 1] bcast_S1x4096_S64x4096_0_1 np)) bitsLt_bf16_f32

theorem res_eq (m : (ℓ : Loc nD τ sig) → Buf (Elt Ideal) ℓ) (c : Dev nD) :
    Value.res_main_v41 m c = norm (sum (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg5)))
      (m ((c.tc : Thread nD τ).loc main_arg2)) := rfl

/-- An entry of the residual sum. -/
theorem sum_apply (x g : FVec Ideal S64x4096 .bf16) (w : Vec Ideal S2048x4096 .i8) (s : FVec Ideal S32x4096 .bf16) (z : Vec Ideal S32x4096 .i8)
    (r : Fin 64) (c : Fin 4096) : sum x g w s z (ix2 r c) = g (ix2 r c) + mm x w s z (ix2 r c) := by
  pointwise [sum]

end Cert.ORefIdeal.Hand

end
-- ==== Proof.OFinal.lean ====
module

public import proofs.«01_k».proof.Defs
public import proofs.«01_k».proof.Proof.OBody
public import proofs.«01_k».proof.Proof.ORefDot
public import Idealize.ShloMosaic.Lib.Claim

@[expose] public section

set_option maxRecDepth 16384

noncomputable section

namespace Cert.OIdeal.Hand

open Idealize.ShloMosaic Idealize.ShloMosaic.TcCoe Idealize.SL.Sem Cert.OIdeal Cert.OIdeal.Gen Cert.Awq
open Cert.FfIdeal.Hand (part part_dot)

variable (m : (ℓ : Loc nD τ sig) → Buf (Elt Ideal) ℓ)

/-- Which block each window is on at grid point `t`. -/
theorem idx : ∀ t : Fin cfg0.N, win0_0.index t = ![0, 0] ∧ win0_1.index t = ![0, 0] ∧ win0_2.index t = ![0, 0]
    ∧ win0_3.index t = ![0, t.val] ∧ win0_4.index t = ![0, t.val] ∧ win0_5.index t = ![0, t.val] ∧ t.val < 8 :=
  (by decide +kernel : ∀ t : Fin grid0.N, _)

/-- The product of the body is the reference's product at the block's columns. -/
theorem mm_block (x : Vec Ideal S64x4096 .bf16) (w : Vec Ideal S2048x512 .i8) (s : Vec Ideal S32x512 .bf16) (z : Vec Ideal S32x512 .i8)
    (X : Vec Ideal S64x4096 .bf16) (W : Vec Ideal S2048x4096 .i8) (S : Vec Ideal S32x4096 .bf16) (Z : Vec Ideal S32x4096 .i8)
    (r : Fin 64) (c : Fin 512) (C : Fin 4096) (hx : ∀ k, x (ix2 r k) = X (ix2 r k)) (hw : ∀ k, w (ix2 k c) = W (ix2 k C))
    (hs : ∀ k, s (ix2 k c) = S (ix2 k C)) (hz : ∀ k, z (ix2 k c) = Z (ix2 k C)) :
    acc (part x w s z) 31 (ix2 r c) = Cert.ORefIdeal.Hand.mm X W S Z (ix2 r C) :=
  (part_dot x w s z r c).trans ((dot_congr (fun _ _ => hx _) (fun _ _ => hw _) (fun _ _ => hz _) (fun _ _ => hs _)).trans
    (Cert.ORefIdeal.Hand.mm_apply X W S Z r C).symm)

/-- An entry of the block that a point stores. -/
theorem blkO_apply (i : grid0.Coords) (x0 x1 : Vec Ideal S64x4096 .bf16) (x3 : Vec Ideal S2048x512 .i8) (x4 : Vec Ideal S32x512 .bf16)
    (x5 : Vec Ideal S32x512 .i8) (r : Fin 64) (c : Fin 512) (C : Fin 4096) (hC : C.val = 512 * (i 0).val + c.val) :
    blkO i x0 x1 x3 x4 x5 (ix2 r c) = x1 (ix2 r C) + acc (part x0 x3 x4 x5) 31 (ix2 r c) := by
  pointwise [blkO, k0_off1_eq]
  simp only [← hC]

/-- The residual sum is the reference's. -/
theorem sum_eq (c : Dev nD) : sumO m c = Cert.ORefIdeal.Hand.sum (m ((c : Thread nD τ).loc main_arg0)) (m ((c : Thread nD τ).loc main_arg1))
      (m ((c : Thread nD τ).loc main_arg3)) (m ((c : Thread nD τ).loc main_arg4)) (m ((c : Thread nD τ).loc main_arg5)) := by
  funext y
  idx_vars y
  refine Eq.trans ?_ (Cert.ORefIdeal.Hand.sum_apply _ _ _ _ _ y0 y1).symm
  have hy := y1.isLt
  obtain ⟨h0, h1, h2, h3, h4, h5, ht⟩ := idx (ptOf y1)
  have hp : (ptOf y1).val = y1.val / 512 := rfl
  generalize hT : ptOf y1 = T at *
  rw [show sumO m c (ix2 y0 y1) = blkAt m c T (ix2 y0 ⟨y1.val % 512, Nat.mod_lt _ (by decide)⟩) from by rw [← hT]; rfl]
  refine (blkO_apply (grid0.coords T) _ _ _ _ _ y0 _ y1 (by rw [coords_val, hp]; show y1.val = 512 * (y1.val / 512) + y1.val % 512; omega)).trans ?_
  refine congrArg₂ (· + ·) ?_ (mm_block _ _ _ _ _ _ _ _ _ _ _ ?_ ?_ ?_ ?_)
  · blk_ext [iblk, V, h1]
  · intro k; blk_ext [iblk, V, h0]
  · intro k; blk_ext [iblk, V, h3]
  · intro k; blk_ext [iblk, V, h4]
  · intro k; blk_ext [iblk, V, h5]

/-- The normalised rows are the reference's. -/
theorem pay2_eq (h : Vec Ideal S64x4096 .f32) (np : Vec Ideal S1x4096 .f32) : k0_pay2 h np = Cert.ORefIdeal.Hand.norm h np := by
  funext y
  idx_vars y
  pointwise [k0_pay2, Cert.ORefIdeal.Hand.norm]

/-- Every point's block of the norm's weights is the whole row. -/
theorem weights_eq (c : Dev nD) (t : Fin cfg0.N) : (iblk m c 2 t : Vec Ideal S1x4096 .f32) = m ((c : Thread nD τ).loc main_arg2) := by
  obtain ⟨h0, h1, h2, h3, h4, h5, ht⟩ := idx t
  funext y
  idx_vars y
  blk_ext [iblk, V, h2]

/-- The second result over the arguments. -/
theorem norm_eq (c : Dev nD) : normO m c = Cert.ORefIdeal.Hand.norm (Cert.ORefIdeal.Hand.sum (m ((c : Thread nD τ).loc main_arg0))
      (m ((c : Thread nD τ).loc main_arg1)) (m ((c : Thread nD τ).loc main_arg3)) (m ((c : Thread nD τ).loc main_arg4))
      (m ((c : Thread nD τ).loc main_arg5))) (m ((c : Thread nD τ).loc main_arg2)) := by
  unfold normO
  rw [pay2_eq, sum_eq, weights_eq]

end Cert.OIdeal.Hand

namespace Cert.Proof

open Idealize.ShloMosaic Idealize.SL.Sem

/-- The output projection's results are the reference's, over the reals. -/
theorem o_algebraic : Cert.algebraic_OIdeal_ORefIdeal (hOIdeal := Cert.OIdeal.Gen.facts) (hORefIdeal := Cert.ORefIdeal.Gen.facts) := by
  intro m g m' g' _ hagree
  refine ⟨fun c => Cert.OIdeal.Hand.sumO m c, fun c => Cert.OIdeal.Hand.normO m c, ?_, ?_⟩
  · exact (θ_run _ _ _).mono (fun r h c => ⟨Cert.OIdeal.Hand.out_0 m h.1.1 c, Cert.OIdeal.Hand.out_1 m h.1.1 c, h.2.1 c⟩)
      (θ_run_and (Cert.OIdeal.Hand.run_main m g) (Cert.OIdeal.Hand.frame m g))
  · refine (θ_run _ _ _).mono (fun r h c => ⟨(h c).1.trans ?_, (h c).2.1.trans ?_, (h c).2.2⟩) (Cert.ORefIdeal.Value.run m' g')
    · obtain ⟨h0, h1, h2, h3, h4, h5⟩ := hagree c
      rw [h0, h1, h3, h4, h5]
      exact (Cert.OIdeal.Hand.sum_eq m c).symm
    · rw [Cert.ORefIdeal.Hand.res_eq]
      obtain ⟨h0, h1, h2, h3, h4, h5⟩ := hagree c
      rw [h0, h1, h2, h3, h4, h5]
      exact (Cert.OIdeal.Hand.norm_eq m c).symm

end Cert.Proof

end
-- ==== Proof.DownRunBits.lean ====
module

public import proofs.«01_k».proof.Proof.Awq
public import proofs.«01_k».proof.Proof.Gen.Down.Skeleton
public import proofs.«01_k».proof.Proof.Gen.Down.Frame
public import Idealize.ShloMosaic.Lib.VecWindow
public import Idealize.ShloMosaic.Lib.Tactic

@[expose] public section

set_option maxRecDepth 65536

noncomputable section

namespace Cert.Down.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Down Cert.Down.Gen Cert.Awq

variable {F : FTy → Type} [FloatOps F]

local notation "𝕄" => MT nD τ sig Unit (Elt F) ℕ (UR sig nD τ) ℕ

theorem inb_w (g : ℕ) : ∀ a, (![64 * (g % 112), 0] : Fin 2 → ℕ) a + S64x512.size a ≤ S7168x512.size a := by
  have h := Nat.mod_lt g (show 0 < 112 by decide)
  intro a; fin_cases a <;> simp <;> omega

theorem inb_z (g : ℕ) : ∀ a, (![g % 112, 0] : Fin 2 → ℕ) a + S1x512.size a ≤ S112x512.size a := by
  have h := Nat.mod_lt g (show 0 < 112 by decide)
  intro a; fin_cases a <;> simp <;> omega

theorem inb_x (g : ℕ) : ∀ a, (![0, 128 * (g % 112)] : Fin 2 → ℕ) a + S64x128.size a ≤ S64x14336.size a := by
  have h := Nat.mod_lt g (show 0 < 112 by decide)
  intro a; fin_cases a <;> simp <;> omega

/-- Group `g` of the product of the gated activations with a block of packed weights. -/
def part (x : Vec F S64x14336 .bf16) (w : Vec F S7168x512 .i8) (s : Vec F S112x512 .bf16) (z : Vec F S112x512 .i8) (g : ℕ) :
    FVec F S64x512 .f32 :=
  grp (View.ld w (Rect.unit (s := S7168x512) ![64 * (g % 112), 0] S64x512.size (inb_w g)))
    (View.ld z (Rect.unit (s := S112x512) ![g % 112, 0] S1x512.size (inb_z g)))
    (View.ld s (Rect.unit (s := S112x512) ![g % 112, 0] S1x512.size (inb_z g)))
    (View.ld x (Rect.unit (s := S64x14336) ![0, 128 * (g % 112)] S64x128.size (inb_x g)))

/-- The block of the second residual sum that point `i` stores: the point's columns of the first residual sum plus the product
    of the gated activations with the point's block of packed weights. -/
def blkD (i : grid0.Coords) (x0 : Vec F S64x14336 .bf16) (x1 : Vec F S64x4096 .f32) (x3 : Vec F S7168x512 .i8) (x4 : Vec F S112x512 .bf16) (x5 : Vec F S112x512 .i8) :
    FVec F S64x512 .f32 :=
  addf (View.ld x1 (Rect.unit (s := S64x4096) (k0_off1 i) S64x512.size (k0_off1_inb i))) (acc (part x0 x3 x4 x5) 111)

/-- Storing a block reshapes it to its own shape. -/
theorem pay151_eq (v3 : Vec F S64x512 .f32) (a : FVec F S64x512 .f32) (b : FVec F S128x512 .bf16) (c : Vec F S1x512 .bf16) (d : Vec F S64x128 .bf16)
    (e : Vec F S64x512 .i8) (f : Vec F S1x512 .i8) (g : Vec F S1x512 .bf16) (h : Vec F S64x128 .bf16) :
    k0_pay151 v3 a b c d e f g h = k0_pay150 v3 a b c d e f g h := by
  unfold k0_pay151
  exact shapeCast_self _ _

set_option maxHeartbeats 4000000 in
/-- The body at a point other than the last: the point's columns of the residual sum are stored, in full and rounded, nothing else changes. -/
theorem run_A (c : Dev nD) (i : grid0.Coords) (arg1 : Memref sig .tc .vmem S64x14336 .bf16) (harg1 : arg1.IsWhole) (arg2 : Memref sig .tc .vmem S64x4096 .f32) (harg2 : arg2.IsWhole) (arg3 : Memref sig .tc .vmem S1x4096 .f32) (harg3 : arg3.IsWhole) (arg4 : Memref sig .tc .vmem S7168x512 .i8) (harg4 : arg4.IsWhole) (arg5 : Memref sig .tc .vmem S112x512 .bf16) (harg5 : arg5.IsWhole) (arg6 : Memref sig .tc .vmem S112x512 .i8) (harg6 : arg6.IsWhole) (arg7 : Memref sig .tc .vmem S64x4096 .bf16) (harg7 : arg7.IsWhole) (arg8 : Memref sig .tc .vmem S64x4096 .i8) (harg8 : arg8.IsWhole) (arg9 : Memref sig .tc .vmem S64x1 .f32) (harg9 : arg9.IsWhole) (arg10 : Memref sig .tc .vmem S64x4096 .f32) (harg10 : arg10.IsWhole)
    (hc0 : ¬ k0_cond1 i = 1#1)
    (x0 : Vec F S64x14336 .bf16) (x1 : Vec F S64x4096 .f32) (x2 : Vec F S1x4096 .f32) (x3 : Vec F S7168x512 .i8) (x4 : Vec F S112x512 .bf16) (x5 : Vec F S112x512 .i8) (x6 : Vec F S64x4096 .bf16) (x7 : Vec F S64x4096 .i8) (x8 : Vec F S64x1 .f32) (x9 : Vec F S64x4096 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (VecWindow.put x6 (k0_off1 i) S64x512.size (truncf .bf16 (blkD i x0 x1 x3 x4 x5) bitsLt_bf16_f32)) ∗ owns (c : Thread nD τ) arg8 fullShare x7 ∗ owns (c : Thread nD τ) arg9 fullShare x8 ∗ owns (c : Thread nD τ) arg10 fullShare (VecWindow.put x9 (k0_off1 i) S64x512.size (blkD i x0 x1 x3 x4 x5))) -∗ K ⟨⟩))
      ⊢ wp frame (wpE (defs₀ (F := F)) Variants.none c none) E (cc0_down i arg1 harg1 arg2 harg2 arg3 harg3 arg4 harg4 arg5 harg5 arg6 harg6 arg7 harg7 arg8 harg8 arg9 harg9 arg10 harg10) K := by
  simp only [cc0_down_eq_skeleton]; unfold cc0_down_skel
  simp only [k0_part63_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    rw [View.read_writes_cons_put _ _ _ _ _ rfl]
    rfl
  isplitl [H7]
  · iexists f7; isplitr; · ipureintro; rfl
    iexact H7
  isplitl [H8]
  · iexists f8; isplitr; · ipureintro; rfl
    iexact H8
  iexists _; isplitr; swap; · iexact H9
  ipureintro
  rw [View.read_writes_cons_put _ _ _ _ _ rfl, pay151_eq]
  rfl

set_option maxHeartbeats 4000000 in
/-- The body at the last point: the point's columns are stored, then the codes and scales of the normalised rows of the whole sum. -/
theorem run_B (c : Dev nD) (i : grid0.Coords) (arg1 : Memref sig .tc .vmem S64x14336 .bf16) (harg1 : arg1.IsWhole) (arg2 : Memref sig .tc .vmem S64x4096 .f32) (harg2 : arg2.IsWhole) (arg3 : Memref sig .tc .vmem S1x4096 .f32) (harg3 : arg3.IsWhole) (arg4 : Memref sig .tc .vmem S7168x512 .i8) (harg4 : arg4.IsWhole) (arg5 : Memref sig .tc .vmem S112x512 .bf16) (harg5 : arg5.IsWhole) (arg6 : Memref sig .tc .vmem S112x512 .i8) (harg6 : arg6.IsWhole) (arg7 : Memref sig .tc .vmem S64x4096 .bf16) (harg7 : arg7.IsWhole) (arg8 : Memref sig .tc .vmem S64x4096 .i8) (harg8 : arg8.IsWhole) (arg9 : Memref sig .tc .vmem S64x1 .f32) (harg9 : arg9.IsWhole) (arg10 : Memref sig .tc .vmem S64x4096 .f32) (harg10 : arg10.IsWhole)
    (hc0 : k0_cond1 i = 1#1)
    (x0 : Vec F S64x14336 .bf16) (x1 : Vec F S64x4096 .f32) (x2 : Vec F S1x4096 .f32) (x3 : Vec F S7168x512 .i8) (x4 : Vec F S112x512 .bf16) (x5 : Vec F S112x512 .i8) (x6 : Vec F S64x4096 .bf16) (x7 : Vec F S64x4096 .i8) (x8 : Vec F S64x1 .f32) (x9 : Vec F S64x4096 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (VecWindow.put x6 (k0_off1 i) S64x512.size (truncf .bf16 (blkD i x0 x1 x3 x4 x5) bitsLt_bf16_f32)) ∗ owns (c : Thread nD τ) arg8 fullShare (k0_pay155 (VecWindow.put x9 (k0_off1 i) S64x512.size (blkD i x0 x1 x3 x4 x5)) x2) ∗ owns (c : Thread nD τ) arg9 fullShare (k0_pay154 (VecWindow.put x9 (k0_off1 i) S64x512.size (blkD i x0 x1 x3 x4 x5)) x2) ∗ owns (c : Thread nD τ) arg10 fullShare (VecWindow.put x9 (k0_off1 i) S64x512.size (blkD i x0 x1 x3 x4 x5))) -∗ K ⟨⟩))
      ⊢ wp frame (wpE (defs₀ (F := F)) Variants.none c none) E (cc0_down i arg1 harg1 arg2 harg2 arg3 harg3 arg4 harg4 arg5 harg5 arg6 harg6 arg7 harg7 arg8 harg8 arg9 harg9 arg10 harg10) K := by
  simp only [cc0_down_eq_skeleton]; unfold cc0_down_skel
  simp only [k0_part63_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | sl_exact hc0)
  sl_step
  have hX : View.read (Elt F) arg10.view (arg10.view.writes (Elt F) f9 (run_B.sl.H9_1 c i arg1 arg2 arg4 arg5 arg6 f0 f1 f3 f4 f5))
      = VecWindow.put (View.read (Elt F) arg10.view f9) (k0_off1 i) S64x512.size (blkD i (View.read (Elt F) arg1.view f0)
          (View.read (Elt F) arg2.view f1) (View.read (Elt F) arg4.view f3) (View.read (Elt F) arg5.view f4) (View.read (Elt F) arg6.view f5)) := by
    unfold run_B.sl.H9_1
    rw [View.read_writes_cons_put _ _ _ _ _ rfl, pay151_eq]
    rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    rw [View.read_writes_cons_put _ _ _ _ _ rfl]
    rfl
  isplitl [H7]
  · iexists _; isplitr; swap; · iexact H7
    ipureintro
    refine (View.read_writes_full _ _ _ _ _).trans ?_
    rw [View.readAt_full, View.readAt_full, hX]
  isplitl [H8]
  · iexists _; isplitr; swap; · iexact H8
    ipureintro
    refine (View.read_writes_full _ _ _ _ _).trans ?_
    rw [View.readAt_full, View.readAt_full, hX]
  iexists _; isplitr; swap; · iexact H9
  ipureintro
  exact hX

end Cert.Down.Hand

end
-- ==== Proof.DownBodyBits.lean ====
module

public import proofs.«01_k».proof.Proof.DownRunBits
public import Idealize.ShloMosaic.Lib.Pipeline.DatRel
public import Idealize.ShloMosaic.Lib.Pipeline.ArrRel
public import Idealize.ShloMosaic.Lib.Claim

@[expose] public section

set_option maxRecDepth 16384

noncomputable section

namespace Cert.Down.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel cellOf)
open Cert.Down Cert.Down.Gen Cert.Awq

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the three results hold at the end -/

/-- The block that point `t` stores. -/
def blkAt (c : Dev nD) (t : Fin cfg0.N) : FVec F S64x512 .f32 :=
  blkD (grid0.coords t) (iblk m c 0 t) (iblk m c 1 t) (iblk m c 3 t) (iblk m c 4 t) (iblk m c 5 t)

/-- The point that stores column `n`. -/
def ptOf (n : Fin 4096) : Fin cfg0.N := ⟨n.val / 512, by have := n.isLt; rw [show cfg0.N = 8 from N_0]; omega⟩

/-- The second residual sum: every column as its point computed it. -/
def sumD (c : Dev nD) : Vec F S64x4096 .f32 := fun y =>
  blkAt m c (ptOf (y 1)) (ix2 (y 0) ⟨(y 1).val % 512, Nat.mod_lt _ (by decide)⟩)

/-- The first result: the sum rounded, every column as its point stored it. -/
def gnewD (c : Dev nD) : Vec F S64x4096 .bf16 := fun y =>
  (truncf .bf16 (blkAt m c (ptOf (y 1))) bitsLt_bf16_f32 : FVec F S64x512 .bf16) (ix2 (y 0) ⟨(y 1).val % 512, Nat.mod_lt _ (by decide)⟩)

/-- The second result: the codes of the normalised rows of the sum. -/
def codesD (c : Dev nD) : Vec F S64x4096 .i8 := k0_pay155 (sumD m c) (iblk m c 2 ⟨7, by decide⟩)

/-- The third result: their scales. -/
def scaleD (c : Dev nD) : Vec F S64x1 .f32 := k0_pay154 (sumD m c) (iblk m c 2 ⟨7, by decide⟩)

/-- The columns of `X` below `512 * n` are those of `W`. -/
def Upto {α : Type} (W : S64x4096.Idx → α) (n : ℕ) (X : S64x4096.Idx → α) : Prop :=
  ∀ y : S64x4096.Idx, (y 1).val < 512 * n → X y = W y

theorem coords_val (t : Fin cfg0.N) : (grid0.coords t 0).val = t.val := by
  have ht : t.val < 8 := Nat.lt_of_lt_of_eq t.isLt N_0
  have e : (grid0.coords t 0).val = t.val / 1 % 8 := Pipeline.Grid.coords_val t 0 (by decide) rfl
  omega

/-- Storing a point's block extends the finished columns by that block. -/
theorem upto_put {α : Type} (t : Fin cfg0.N) (B : Fin cfg0.N → S64x512.Idx → α) (X : S64x4096.Idx → α)
    (h : Upto (fun y => B (ptOf (y 1)) (ix2 (y 0) ⟨(y 1).val % 512, Nat.mod_lt _ (by decide)⟩)) t.val X) :
    Upto (fun y => B (ptOf (y 1)) (ix2 (y 0) ⟨(y 1).val % 512, Nat.mod_lt _ (by decide)⟩)) (t.val + 1)
      (VecWindow.put X (k0_off1 (grid0.coords t)) S64x512.size (B t)) := by
  have ht : t.val < 8 := Nat.lt_of_lt_of_eq t.isLt N_0
  intro y hy
  have hoff : k0_off1 (grid0.coords t) = ![0, 512 * t.val] := by rw [k0_off1_eq, coords_val]
  rw [hoff]
  unfold VecWindow.put
  by_cases hc : (y 1).val < 512 * t.val
  · rw [dif_neg (fun hm => by have := (hm 1).1; simp at this; omega)]
    exact h y hc
  · have hm : ∀ a, (![0, 512 * t.val] : Fin 2 → ℕ) a ≤ (y a).val ∧ (y a).val < (![0, 512 * t.val] : Fin 2 → ℕ) a + S64x512.size a := by
      have h0 := (y 0).isLt
      intro a; fin_cases a
      · exact ⟨Nat.zero_le _, by simpa using h0⟩
      · exact ⟨by simpa using (Nat.le_of_not_lt hc), by show (y 1).val < 512 * t.val + 512; omega⟩
    rw [dif_pos hm]
    have e : ptOf (y 1) = t := Fin.ext (by show (y 1).val / 512 = t.val; omega)
    show _ = B (ptOf (y 1)) _
    rw [e]
    congr 1
    funext a
    fin_cases a
    · exact Fin.ext (by show (y 0).val - 0 = (y 0).val; omega)
    · exact Fin.ext (by show (y 1).val - 512 * t.val = (y 1).val % 512; omega)

theorem upto_eq {α : Type} (W X : S64x4096.Idx → α) (h : Upto W 8 X) : X = W :=
  funext fun y => h y (by have := (y 1).isLt; exact this)

/-- Before the first point nothing is claimed. -/
theorem upto_zero {α : Type} (W X : S64x4096.Idx → α) : Upto W 0 X := fun y hy => absurd hy (Nat.not_lt_zero _)

/-! ## The proof data -/

/-- The condition of the body's last part holds at the last point only. -/
theorem cond_iff : ∀ t : Fin cfg0.N, k0_cond1 (grid0.coords t) = 1#1 ↔ t.val = 7 :=
  (fun t => by
    have ht : t.val < 8 := Nat.lt_of_lt_of_eq t.isLt N_0
    have e0 : (grid0.coords t 0).val = t.val / 1 % 8 := Pipeline.Grid.coords_val t 0 (by decide) rfl
    simp only [k0_cond1, e0]
    word_cmp
   : ∀ t : Fin grid0.N, k0_cond1 (grid0.coords t) = 1#1 ↔ t.val = 7)

/-- The three outputs are held to a predicate, point by point. -/
def outs : Fin 9 → Bool := fun w => w.val == 6 || w.val == 7 || w.val == 8

/-- What the body leaves in an output's buffer: the rounded sum's columns so far, and, at the last point, the codes and scales. -/
def Rl (c : Dev nD) : (w : Fin cfg0.W) → Fin cfg0.N → ((cfg0.win w).block.Idx → Elt F (cfg0.win w).elt) → Prop
  | ⟨6, _⟩, t, X => Upto (gnewD m c) (t.val + 1) X
  | ⟨7, _⟩, t, X => t.val = 7 → X = codesD m c
  | ⟨8, _⟩, t, X => t.val = 7 → X = scaleD m c
  | _, _, _ => True

/-- The scratch operand: the buffer of the unrounded sum. -/
abbrev scr : Memref sig .tc .vmem S64x4096 .f32 := Memref.whole cc0_scratch0

/-- Between points the scratch holds the sum's columns so far. -/
def Track (c : Dev nD) (n : ℕ) : sProp 𝕄 :=
  iprop(iprop(∃ d, ⌜Upto (sumD m c) n d⌝ ∗ owns (c : Thread nD τ) scr fullShare d) ∗ (∃ r, prngReg c r))

theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

theorem track_in (c : Dev nD) : Pipeline.ΦA spec0 c ⊢ Track (F := F) m c 0 := by
  rw [PhiA_eq]; unfold Track
  iintro ⟨⟨%d, H⟩, Hg⟩
  isplitl [H]
  · iexists d; isplitr; swap; · iexact H
    ipureintro; exact upto_zero _ _
  iexact Hg

theorem track_out (c : Dev nD) (n : ℕ) : Track (F := F) m c n ⊢ Pipeline.ΦA spec0 c := by
  rw [PhiA_eq]; unfold Track
  iintro ⟨⟨%d, %hd, H⟩, Hg⟩
  isplitl [H]
  · iexists d; iexact H
  iexact Hg

/-- The arrays as the region finds them, each input's buffer at its block, nothing owed. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨7, h⟩ => Dat.unnamed (cfg := cfg0) ⟨7, h⟩ t
    | ⟨8, h⟩ => Dat.unnamed (cfg := cfg0) ⟨8, h⟩ t
  Φ t := Track m c t.val
  q _ := fullShare
  owed _ := 0

theorem dat_A (c : Dev nD) (w : Fin cfg0.W) : (dat m c).A w = V m c (Pipeline.arrRef spec0 w) := by dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]

theorem before_0 (c : Dev nD) (t : Fin cfg0.N) (d) : (dat m c).before 0 t d = iblk m c 0 t := before0_0_of m (dat m c) (dat_A m c 0) (after_0 m c) t d
theorem before_1 (c : Dev nD) (t : Fin cfg0.N) (d) : (dat m c).before 1 t d = iblk m c 1 t := before0_1_of m (dat m c) (dat_A m c 1) (after_1 m c) t d
theorem before_2 (c : Dev nD) (t : Fin cfg0.N) (d) : (dat m c).before 2 t d = iblk m c 2 t := before0_2_of m (dat m c) (dat_A m c 2) (after_2 m c) t d
theorem before_3 (c : Dev nD) (t : Fin cfg0.N) (d) : (dat m c).before 3 t d = iblk m c 3 t := before0_3_of m (dat m c) (dat_A m c 3) (after_3 m c) t d
theorem before_4 (c : Dev nD) (t : Fin cfg0.N) (d) : (dat m c).before 4 t d = iblk m c 4 t := before0_4_of m (dat m c) (dat_A m c 4) (after_4 m c) t d
theorem before_5 (c : Dev nD) (t : Fin cfg0.N) (d) : (dat m c).before 5 t d = iblk m c 5 t := before0_5_of m (dat m c) (dat_A m c 5) (after_5 m c) t d

/-- The same data, the outputs held to the predicate. -/
def rdat (c : Dev nD) : Pipeline.RDat τ (Elt F) Unit ℕ (UR sig nD τ) ℕ cfg0 c := (dat m c).toRRel outs (Rl m c)

theorem rdat_after_6 (c : Dev nD) (t : Fin cfg0.N) (X) : (rdat m c).Leaves 6 t X → Upto (gnewD m c) (t.val + 1) X :=
  fun h => (dat m c).toRRel_leaves (fgt := outs) (Rl := Rl m c) (w := 6) rfl h

theorem rdat_after_7 (c : Dev nD) (t : Fin cfg0.N) (X) : (rdat m c).Leaves 7 t X → t.val = 7 → X = codesD m c :=
  fun h => (dat m c).toRRel_leaves (fgt := outs) (Rl := Rl m c) (w := 7) rfl h

theorem rdat_after_8 (c : Dev nD) (t : Fin cfg0.N) (X) : (rdat m c).Leaves 8 t X → t.val = 7 → X = scaleD m c :=
  fun h => (dat m c).toRRel_leaves (fgt := outs) (Rl := Rl m c) (w := 8) rfl h

/-- What the body finds in the first output's buffer: the columns of the points before. -/
theorem finds_6 (c : Dev nD) (t : Fin cfg0.N) (X) (h : (rdat m c).Finds 6 t X) : Upto (gnewD m c) t.val X := by
  have ht : t.val < 8 := Nat.lt_of_lt_of_eq t.isLt N_0
  by_cases h0 : t.val = 0
  · rw [h0]; exact upto_zero _ _
  · rw [(rdat m c).finds_of_pos (w := 6) rfl h0] at h
    rcases h with h | h
    · have := (flush0_6 _).mp h
      dsimp only at this
      omega
    · have := rdat_after_6 m c _ X h
      rwa [show (⟨t.val - 1, Nat.lt_of_le_of_lt (Nat.sub_le _ _) t.isLt⟩ : Fin cfg0.N).val + 1 = t.val by dsimp only; omega] at this

/-! ## The body obligation -/

def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y))

def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ (∃ X, ⌜Rl m c 6 t X⌝ ∗ owns (c : Thread nD τ) (st0_6 t) fullShare X)
    ∗ (∃ X, ⌜Rl m c 7 t X⌝ ∗ owns (c : Thread nD τ) (st0_7 t) fullShare X)
    ∗ (∃ X, ⌜Rl m c 8 t X⌝ ∗ owns (c : Thread nD τ) (st0_8 t) fullShare X))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, after_0, after_1, after_2, after_3, after_4, after_5]
  rw [show (dat m c).Φ t.succ = Track m c (t.val + 1) from rfl, show (dat m c).Φ t.castSucc = Track m c t.val from rfl,
    show (dat m c).owesAt () t.succ = (dat m c).owesAt () t.castSucc from rfl]
  unfold Track
  have hN : t.val < 8 := lt_of_lt_of_eq t.isLt (show cfg0.N = 8 from N_0)
  iintro ⟨⟨⟨%d9, %h9, H9⟩, Hg⟩, Ho, ⟨%d0, H0⟩, ⟨%d1, H1⟩, ⟨%d2, H2⟩, ⟨%d3, H3⟩, ⟨%d4, H4⟩, ⟨%d5, H5⟩, ⟨%Y6, %h6, H6⟩, ⟨%Y7, %h7, H7⟩, ⟨%Y8, %h8, H8⟩⟩
  have hs : Upto (sumD m c) (t.val + 1) (VecWindow.put d9 (k0_off1 (grid0.coords t)) S64x512.size (blkAt m c t)) :=
    upto_put t (fun t => blkAt m c t) d9 h9
  have hu : Upto (gnewD m c) (t.val + 1) (VecWindow.put Y6 (k0_off1 (grid0.coords t)) S64x512.size (truncf .bf16 (blkAt m c t) bitsLt_bf16_f32)) :=
    upto_put t (fun t => (truncf .bf16 (blkAt m c t) bitsLt_bf16_f32 : FVec F S64x512 .bf16)) Y6 (finds_6 m c t Y6 h6)
  by_cases h0 : t.val = 7
  · have hsum := upto_eq _ _ (h0 ▸ hs)
    have e : t = (⟨7, by decide⟩ : Fin cfg0.N) := Fin.ext h0
    iapply (run_B c (grid0.coords t) _ _ _ _ _ _ _ _ _ _ _ _ _ _ _ _ _ _ _ _ ((cond_iff t).mpr h0) (iblk m c 0 t) (iblk m c 1 t) (iblk m c 2 t) (iblk m c 3 t) (iblk m c 4 t) (iblk m c 5 t) Y6 Y7 Y8 d9 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [H9 Hg]
    · isplitl [H9]
      · iexists _; isplitr; swap; · iexact H9
        ipureintro; exact hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro; exact hu
    isplitl [H7]
    · iexists _; isplitr; swap; · iexact H7
      ipureintro
      intro _
      unfold codesD
      rw [← hsum, ← e]
      rfl
    iexists _; isplitr; swap; · iexact H8
    ipureintro
    intro _
    unfold scaleD
    rw [← hsum, ← e]
    rfl
  · iapply (run_A c (grid0.coords t) _ _ _ _ _ _ _ _ _ _ _ _ _ _ _ _ _ _ _ _ (fun h => h0 ((cond_iff t).mp h)) (iblk m c 0 t) (iblk m c 1 t) (iblk m c 2 t) (iblk m c 3 t) (iblk m c 4 t) (iblk m c 5 t) Y6 Y7 Y8 d9 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [H9 Hg]
    · isplitl [H9]
      · iexists _; isplitr; swap; · iexact H9
        ipureintro; exact hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro; exact hu
    isplitl [H7]
    · iexists _; isplitr; swap; · iexact H7
      ipureintro
      exact fun h => absurd h h0
    iexists _; isplitr; swap; · iexact H8
    ipureintro
    exact fun h => absurd h h0

theorem defs₀_row (t : Fin cfg0.N) :
    defs₀ (F := F) .tc cfg0.body (cfg0.bodyArgs t (cfg0.slots t)) = bodyAt0 t := by
  unfold defs₀; rw [Defs.onTc_tc]

/-- The body does what the proof data say, at every point. -/
theorem body_obligation (c : Dev nD) : BodyObligationRel (dat (F := F) m c) (defs₀ (F := F)) Variants.none () Set.univ outs (Rl m c) := fun t => by
  rw [bigSep_W0, bigSep_W0, defs₀_row]
  exact triple_restated (sound_body m c t) rfl .rfl fun _ => .rfl

/-! ## The run -/

set_option backward.isDefEq.respectTransparency.types false in
/-- Every run ends with the pipeline's arrays as the proof data say and every semaphore counter at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dat m c).share_full fun _ => rfl)
    (howed := fun _ _ => rfl) (V := V m) (hmain := hmain m Variants.none) (hA := dat_A m)
    (hin := fun c => track_in m c) (hout := fun c => track_out m c _)

/-- The argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 0 rfl).trans ((dat_A m c 0).trans (V_main_arg0 m c)),
      (Pipeline.RDat.FramePost.arr_in h.1 c 1 rfl).trans ((dat_A m c 1).trans (V_main_arg1 m c)),
      (Pipeline.RDat.FramePost.arr_in h.1 c 2 rfl).trans ((dat_A m c 2).trans (V_main_arg2 m c)),
      (Pipeline.RDat.FramePost.arr_in h.1 c 3 rfl).trans ((dat_A m c 3).trans (V_main_arg3 m c)),
      (Pipeline.RDat.FramePost.arr_in h.1 c 4 rfl).trans ((dat_A m c 4).trans (V_main_arg4 m c)),
      (Pipeline.RDat.FramePost.arr_in h.1 c 5 rfl).trans ((dat_A m c 5).trans (V_main_arg5 m c))⟩, h.2⟩) (run_main m ρ)

/-- The first result: the rounded residual sum. -/
theorem out_0 {r} (h : Pipeline.RDat.FramePost (cfgs 0) (fun c => rdat m c) (V m) r) (c : Dev nD) :
    r.2.mem ((c.tc : Thread nD τ).loc main_v0_0) = gnewD m c := by
  have hW : (cfg0.win 6).WholeAt ⟨7, by decide⟩ := by decide +kernel
  obtain ⟨X, hX, hG⟩ := Pipeline.RDat.ArrAt.emb_eq_of_wholeAt ((h c).1 6) hW
  have hu := upto_eq _ X (rdat_after_6 m c _ X hX)
  funext j
  exact (hG j).trans (congrFun hu j)

/-- The second result: the codes. -/
theorem out_1 {r} (h : Pipeline.RDat.FramePost (cfgs 0) (fun c => rdat m c) (V m) r) (c : Dev nD) :
    r.2.mem ((c.tc : Thread nD τ).loc main_v0_1) = codesD m c := by
  have hW : (cfg0.win 7).WholeAt ⟨7, by decide⟩ := by decide +kernel
  obtain ⟨X, hX, hG⟩ := Pipeline.RDat.ArrAt.emb_eq_of_wholeAt ((h c).1 7) hW
  have hu := rdat_after_7 m c _ X hX rfl
  funext j
  exact (hG j).trans (congrFun hu j)

/-- The third result: the scales. -/
theorem out_2 {r} (h : Pipeline.RDat.FramePost (cfgs 0) (fun c => rdat m c) (V m) r) (c : Dev nD) :
    r.2.mem ((c.tc : Thread nD τ).loc main_v0_2) = scaleD m c := by
  have hW : (cfg0.win 8).WholeAt ⟨7, by decide⟩ := by decide +kernel
  obtain ⟨X, hX, hG⟩ := Pipeline.RDat.ArrAt.emb_eq_of_wholeAt ((h c).1 8) hW
  have hu := rdat_after_8 m c _ X hX rfl
  funext j
  exact (hG j).trans (congrFun hu j)

end Cert.Down.Hand

end
-- ==== Proof.DownRun.lean ====
module

public import proofs.«01_k».proof.Proof.Awq
public import proofs.«01_k».proof.Proof.Gen.DownIdeal.Skeleton
public import proofs.«01_k».proof.Proof.Gen.DownIdeal.Frame
public import Idealize.ShloMosaic.Lib.VecWindow
public import Idealize.ShloMosaic.Lib.Tactic

@[expose] public section

set_option maxRecDepth 65536

noncomputable section

namespace Cert.DownIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.DownIdeal Cert.DownIdeal.Gen Cert.Awq

variable {F : FTy → Type} [FloatOps F]

local notation "𝕄" => MT nD τ sig Unit (Elt F) ℕ (UR sig nD τ) ℕ

theorem inb_w (g : ℕ) : ∀ a, (![64 * (g % 112), 0] : Fin 2 → ℕ) a + S64x512.size a ≤ S7168x512.size a := by
  have h := Nat.mod_lt g (show 0 < 112 by decide)
  intro a; fin_cases a <;> simp <;> omega

theorem inb_z (g : ℕ) : ∀ a, (![g % 112, 0] : Fin 2 → ℕ) a + S1x512.size a ≤ S112x512.size a := by
  have h := Nat.mod_lt g (show 0 < 112 by decide)
  intro a; fin_cases a <;> simp <;> omega

theorem inb_x (g : ℕ) : ∀ a, (![0, 128 * (g % 112)] : Fin 2 → ℕ) a + S64x128.size a ≤ S64x14336.size a := by
  have h := Nat.mod_lt g (show 0 < 112 by decide)
  intro a; fin_cases a <;> simp <;> omega

/-- Group `g` of the product of the gated activations with a block of packed weights. -/
def part (x : Vec F S64x14336 .bf16) (w : Vec F S7168x512 .i8) (s : Vec F S112x512 .bf16) (z : Vec F S112x512 .i8) (g : ℕ) :
    FVec F S64x512 .f32 :=
  grp (View.ld w (Rect.unit (s := S7168x512) ![64 * (g % 112), 0] S64x512.size (inb_w g)))
    (View.ld z (Rect.unit (s := S112x512) ![g % 112, 0] S1x512.size (inb_z g)))
    (View.ld s (Rect.unit (s := S112x512) ![g % 112, 0] S1x512.size (inb_z g)))
    (View.ld x (Rect.unit (s := S64x14336) ![0, 128 * (g % 112)] S64x128.size (inb_x g)))

/-- The block of the second residual sum that point `i` stores: the point's columns of the first residual sum plus the product
    of the gated activations with the point's block of packed weights. -/
def blkD (i : grid0.Coords) (x0 : Vec F S64x14336 .bf16) (x1 : Vec F S64x4096 .f32) (x3 : Vec F S7168x512 .i8) (x4 : Vec F S112x512 .bf16) (x5 : Vec F S112x512 .i8) :
    FVec F S64x512 .f32 :=
  addf (View.ld x1 (Rect.unit (s := S64x4096) (k0_off1 i) S64x512.size (k0_off1_inb i))) (acc (part x0 x3 x4 x5) 111)

/-- Storing a block reshapes it to its own shape. -/
theorem pay151_eq (v3 : Vec F S64x512 .f32) (a : FVec F S64x512 .f32) (b : FVec F S128x512 .bf16) (c : Vec F S1x512 .bf16) (d : Vec F S64x128 .bf16)
    (e : Vec F S64x512 .i8) (f : Vec F S1x512 .i8) (g : Vec F S1x512 .bf16) (h : Vec F S64x128 .bf16) :
    k0_pay151 v3 a b c d e f g h = k0_pay150 v3 a b c d e f g h := by
  unfold k0_pay151
  exact shapeCast_self _ _

set_option maxHeartbeats 4000000 in
/-- The body at a point other than the last: the point's columns of the residual sum are stored, in full and rounded, nothing else changes. -/
theorem run_A (c : Dev nD) (i : grid0.Coords) (arg1 : Memref sig .tc .vmem S64x14336 .bf16) (harg1 : arg1.IsWhole) (arg2 : Memref sig .tc .vmem S64x4096 .f32) (harg2 : arg2.IsWhole) (arg3 : Memref sig .tc .vmem S1x4096 .f32) (harg3 : arg3.IsWhole) (arg4 : Memref sig .tc .vmem S7168x512 .i8) (harg4 : arg4.IsWhole) (arg5 : Memref sig .tc .vmem S112x512 .bf16) (harg5 : arg5.IsWhole) (arg6 : Memref sig .tc .vmem S112x512 .i8) (harg6 : arg6.IsWhole) (arg7 : Memref sig .tc .vmem S64x4096 .bf16) (harg7 : arg7.IsWhole) (arg8 : Memref sig .tc .vmem S64x4096 .i8) (harg8 : arg8.IsWhole) (arg9 : Memref sig .tc .vmem S64x1 .f32) (harg9 : arg9.IsWhole) (arg10 : Memref sig .tc .vmem S64x4096 .f32) (harg10 : arg10.IsWhole)
    (hc0 : ¬ k0_cond1 i = 1#1)
    (x0 : Vec F S64x14336 .bf16) (x1 : Vec F S64x4096 .f32) (x2 : Vec F S1x4096 .f32) (x3 : Vec F S7168x512 .i8) (x4 : Vec F S112x512 .bf16) (x5 : Vec F S112x512 .i8) (x6 : Vec F S64x4096 .bf16) (x7 : Vec F S64x4096 .i8) (x8 : Vec F S64x1 .f32) (x9 : Vec F S64x4096 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (VecWindow.put x6 (k0_off1 i) S64x512.size (truncf .bf16 (blkD i x0 x1 x3 x4 x5) bitsLt_bf16_f32)) ∗ owns (c : Thread nD τ) arg8 fullShare x7 ∗ owns (c : Thread nD τ) arg9 fullShare x8 ∗ owns (c : Thread nD τ) arg10 fullShare (VecWindow.put x9 (k0_off1 i) S64x512.size (blkD i x0 x1 x3 x4 x5))) -∗ K ⟨⟩))
      ⊢ wp frame (wpE (defs₀ (F := F)) Variants.none c none) E (cc0_down i arg1 harg1 arg2 harg2 arg3 harg3 arg4 harg4 arg5 harg5 arg6 harg6 arg7 harg7 arg8 harg8 arg9 harg9 arg10 harg10) K := by
  simp only [cc0_down_eq_skeleton]; unfold cc0_down_skel
  simp only [k0_part63_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    rw [View.read_writes_cons_put _ _ _ _ _ rfl]
    rfl
  isplitl [H7]
  · iexists f7; isplitr; · ipureintro; rfl
    iexact H7
  isplitl [H8]
  · iexists f8; isplitr; · ipureintro; rfl
    iexact H8
  iexists _; isplitr; swap; · iexact H9
  ipureintro
  rw [View.read_writes_cons_put _ _ _ _ _ rfl, pay151_eq]
  rfl

set_option maxHeartbeats 4000000 in
/-- The body at the last point: the point's columns are stored, then the codes and scales of the normalised rows of the whole sum. -/
theorem run_B (c : Dev nD) (i : grid0.Coords) (arg1 : Memref sig .tc .vmem S64x14336 .bf16) (harg1 : arg1.IsWhole) (arg2 : Memref sig .tc .vmem S64x4096 .f32) (harg2 : arg2.IsWhole) (arg3 : Memref sig .tc .vmem S1x4096 .f32) (harg3 : arg3.IsWhole) (arg4 : Memref sig .tc .vmem S7168x512 .i8) (harg4 : arg4.IsWhole) (arg5 : Memref sig .tc .vmem S112x512 .bf16) (harg5 : arg5.IsWhole) (arg6 : Memref sig .tc .vmem S112x512 .i8) (harg6 : arg6.IsWhole) (arg7 : Memref sig .tc .vmem S64x4096 .bf16) (harg7 : arg7.IsWhole) (arg8 : Memref sig .tc .vmem S64x4096 .i8) (harg8 : arg8.IsWhole) (arg9 : Memref sig .tc .vmem S64x1 .f32) (harg9 : arg9.IsWhole) (arg10 : Memref sig .tc .vmem S64x4096 .f32) (harg10 : arg10.IsWhole)
    (hc0 : k0_cond1 i = 1#1)
    (x0 : Vec F S64x14336 .bf16) (x1 : Vec F S64x4096 .f32) (x2 : Vec F S1x4096 .f32) (x3 : Vec F S7168x512 .i8) (x4 : Vec F S112x512 .bf16) (x5 : Vec F S112x512 .i8) (x6 : Vec F S64x4096 .bf16) (x7 : Vec F S64x4096 .i8) (x8 : Vec F S64x1 .f32) (x9 : Vec F S64x4096 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (VecWindow.put x6 (k0_off1 i) S64x512.size (truncf .bf16 (blkD i x0 x1 x3 x4 x5) bitsLt_bf16_f32)) ∗ owns (c : Thread nD τ) arg8 fullShare (k0_pay155 (VecWindow.put x9 (k0_off1 i) S64x512.size (blkD i x0 x1 x3 x4 x5)) x2) ∗ owns (c : Thread nD τ) arg9 fullShare (k0_pay154 (VecWindow.put x9 (k0_off1 i) S64x512.size (blkD i x0 x1 x3 x4 x5)) x2) ∗ owns (c : Thread nD τ) arg10 fullShare (VecWindow.put x9 (k0_off1 i) S64x512.size (blkD i x0 x1 x3 x4 x5))) -∗ K ⟨⟩))
      ⊢ wp frame (wpE (defs₀ (F := F)) Variants.none c none) E (cc0_down i arg1 harg1 arg2 harg2 arg3 harg3 arg4 harg4 arg5 harg5 arg6 harg6 arg7 harg7 arg8 harg8 arg9 harg9 arg10 harg10) K := by
  simp only [cc0_down_eq_skeleton]; unfold cc0_down_skel
  simp only [k0_part63_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | sl_exact hc0)
  sl_step
  have hX : View.read (Elt F) arg10.view (arg10.view.writes (Elt F) f9 (run_B.sl.H9_1 c i arg1 arg2 arg4 arg5 arg6 f0 f1 f3 f4 f5))
      = VecWindow.put (View.read (Elt F) arg10.view f9) (k0_off1 i) S64x512.size (blkD i (View.read (Elt F) arg1.view f0)
          (View.read (Elt F) arg2.view f1) (View.read (Elt F) arg4.view f3) (View.read (Elt F) arg5.view f4) (View.read (Elt F) arg6.view f5)) := by
    unfold run_B.sl.H9_1
    rw [View.read_writes_cons_put _ _ _ _ _ rfl, pay151_eq]
    rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    rw [View.read_writes_cons_put _ _ _ _ _ rfl]
    rfl
  isplitl [H7]
  · iexists _; isplitr; swap; · iexact H7
    ipureintro
    refine (View.read_writes_full _ _ _ _ _).trans ?_
    rw [View.readAt_full, View.readAt_full, hX]
  isplitl [H8]
  · iexists _; isplitr; swap; · iexact H8
    ipureintro
    refine (View.read_writes_full _ _ _ _ _).trans ?_
    rw [View.readAt_full, View.readAt_full, hX]
  iexists _; isplitr; swap; · iexact H9
  ipureintro
  exact hX

end Cert.DownIdeal.Hand

end
-- ==== Proof.DownBody.lean ====
module

public import proofs.«01_k».proof.Proof.DownRun
public import Idealize.ShloMosaic.Lib.Pipeline.DatRel
public import Idealize.ShloMosaic.Lib.Pipeline.ArrRel
public import Idealize.ShloMosaic.Lib.Claim

@[expose] public section

set_option maxRecDepth 16384

noncomputable section

namespace Cert.DownIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel cellOf)
open Cert.DownIdeal Cert.DownIdeal.Gen Cert.Awq

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the three results hold at the end -/

/-- The block that point `t` stores. -/
def blkAt (c : Dev nD) (t : Fin cfg0.N) : FVec F S64x512 .f32 :=
  blkD (grid0.coords t) (iblk m c 0 t) (iblk m c 1 t) (iblk m c 3 t) (iblk m c 4 t) (iblk m c 5 t)

/-- The point that stores column `n`. -/
def ptOf (n : Fin 4096) : Fin cfg0.N := ⟨n.val / 512, by have := n.isLt; rw [show cfg0.N = 8 from N_0]; omega⟩

/-- The second residual sum: every column as its point computed it. -/
def sumD (c : Dev nD) : Vec F S64x4096 .f32 := fun y =>
  blkAt m c (ptOf (y 1)) (ix2 (y 0) ⟨(y 1).val % 512, Nat.mod_lt _ (by decide)⟩)

/-- The first result: the sum rounded, every column as its point stored it. -/
def gnewD (c : Dev nD) : Vec F S64x4096 .bf16 := fun y =>
  (truncf .bf16 (blkAt m c (ptOf (y 1))) bitsLt_bf16_f32 : FVec F S64x512 .bf16) (ix2 (y 0) ⟨(y 1).val % 512, Nat.mod_lt _ (by decide)⟩)

/-- The second result: the codes of the normalised rows of the sum. -/
def codesD (c : Dev nD) : Vec F S64x4096 .i8 := k0_pay155 (sumD m c) (iblk m c 2 ⟨7, by decide⟩)

/-- The third result: their scales. -/
def scaleD (c : Dev nD) : Vec F S64x1 .f32 := k0_pay154 (sumD m c) (iblk m c 2 ⟨7, by decide⟩)

/-- The columns of `X` below `512 * n` are those of `W`. -/
def Upto {α : Type} (W : S64x4096.Idx → α) (n : ℕ) (X : S64x4096.Idx → α) : Prop :=
  ∀ y : S64x4096.Idx, (y 1).val < 512 * n → X y = W y

theorem coords_val (t : Fin cfg0.N) : (grid0.coords t 0).val = t.val := by
  have ht : t.val < 8 := Nat.lt_of_lt_of_eq t.isLt N_0
  have e : (grid0.coords t 0).val = t.val / 1 % 8 := Pipeline.Grid.coords_val t 0 (by decide) rfl
  omega

/-- Storing a point's block extends the finished columns by that block. -/
theorem upto_put {α : Type} (t : Fin cfg0.N) (B : Fin cfg0.N → S64x512.Idx → α) (X : S64x4096.Idx → α)
    (h : Upto (fun y => B (ptOf (y 1)) (ix2 (y 0) ⟨(y 1).val % 512, Nat.mod_lt _ (by decide)⟩)) t.val X) :
    Upto (fun y => B (ptOf (y 1)) (ix2 (y 0) ⟨(y 1).val % 512, Nat.mod_lt _ (by decide)⟩)) (t.val + 1)
      (VecWindow.put X (k0_off1 (grid0.coords t)) S64x512.size (B t)) := by
  have ht : t.val < 8 := Nat.lt_of_lt_of_eq t.isLt N_0
  intro y hy
  have hoff : k0_off1 (grid0.coords t) = ![0, 512 * t.val] := by rw [k0_off1_eq, coords_val]
  rw [hoff]
  unfold VecWindow.put
  by_cases hc : (y 1).val < 512 * t.val
  · rw [dif_neg (fun hm => by have := (hm 1).1; simp at this; omega)]
    exact h y hc
  · have hm : ∀ a, (![0, 512 * t.val] : Fin 2 → ℕ) a ≤ (y a).val ∧ (y a).val < (![0, 512 * t.val] : Fin 2 → ℕ) a + S64x512.size a := by
      have h0 := (y 0).isLt
      intro a; fin_cases a
      · exact ⟨Nat.zero_le _, by simpa using h0⟩
      · exact ⟨by simpa using (Nat.le_of_not_lt hc), by show (y 1).val < 512 * t.val + 512; omega⟩
    rw [dif_pos hm]
    have e : ptOf (y 1) = t := Fin.ext (by show (y 1).val / 512 = t.val; omega)
    show _ = B (ptOf (y 1)) _
    rw [e]
    congr 1
    funext a
    fin_cases a
    · exact Fin.ext (by show (y 0).val - 0 = (y 0).val; omega)
    · exact Fin.ext (by show (y 1).val - 512 * t.val = (y 1).val % 512; omega)

theorem upto_eq {α : Type} (W X : S64x4096.Idx → α) (h : Upto W 8 X) : X = W :=
  funext fun y => h y (by have := (y 1).isLt; exact this)

/-- Before the first point nothing is claimed. -/
theorem upto_zero {α : Type} (W X : S64x4096.Idx → α) : Upto W 0 X := fun y hy => absurd hy (Nat.not_lt_zero _)

/-! ## The proof data -/

/-- The condition of the body's last part holds at the last point only. -/
theorem cond_iff : ∀ t : Fin cfg0.N, k0_cond1 (grid0.coords t) = 1#1 ↔ t.val = 7 :=
  (fun t => by
    have ht : t.val < 8 := Nat.lt_of_lt_of_eq t.isLt N_0
    have e0 : (grid0.coords t 0).val = t.val / 1 % 8 := Pipeline.Grid.coords_val t 0 (by decide) rfl
    simp only [k0_cond1, e0]
    word_cmp
   : ∀ t : Fin grid0.N, k0_cond1 (grid0.coords t) = 1#1 ↔ t.val = 7)

/-- The three outputs are held to a predicate, point by point. -/
def outs : Fin 9 → Bool := fun w => w.val == 6 || w.val == 7 || w.val == 8

/-- What the body leaves in an output's buffer: the rounded sum's columns so far, and, at the last point, the codes and scales. -/
def Rl (c : Dev nD) : (w : Fin cfg0.W) → Fin cfg0.N → ((cfg0.win w).block.Idx → Elt F (cfg0.win w).elt) → Prop
  | ⟨6, _⟩, t, X => Upto (gnewD m c) (t.val + 1) X
  | ⟨7, _⟩, t, X => t.val = 7 → X = codesD m c
  | ⟨8, _⟩, t, X => t.val = 7 → X = scaleD m c
  | _, _, _ => True

/-- The scratch operand: the buffer of the unrounded sum. -/
abbrev scr : Memref sig .tc .vmem S64x4096 .f32 := Memref.whole cc0_scratch0

/-- Between points the scratch holds the sum's columns so far. -/
def Track (c : Dev nD) (n : ℕ) : sProp 𝕄 :=
  iprop(iprop(∃ d, ⌜Upto (sumD m c) n d⌝ ∗ owns (c : Thread nD τ) scr fullShare d) ∗ (∃ r, prngReg c r))

theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

theorem track_in (c : Dev nD) : Pipeline.ΦA spec0 c ⊢ Track (F := F) m c 0 := by
  rw [PhiA_eq]; unfold Track
  iintro ⟨⟨%d, H⟩, Hg⟩
  isplitl [H]
  · iexists d; isplitr; swap; · iexact H
    ipureintro; exact upto_zero _ _
  iexact Hg

theorem track_out (c : Dev nD) (n : ℕ) : Track (F := F) m c n ⊢ Pipeline.ΦA spec0 c := by
  rw [PhiA_eq]; unfold Track
  iintro ⟨⟨%d, %hd, H⟩, Hg⟩
  isplitl [H]
  · iexists d; iexact H
  iexact Hg

/-- The arrays as the region finds them, each input's buffer at its block, nothing owed. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨7, h⟩ => Dat.unnamed (cfg := cfg0) ⟨7, h⟩ t
    | ⟨8, h⟩ => Dat.unnamed (cfg := cfg0) ⟨8, h⟩ t
  Φ t := Track m c t.val
  q _ := fullShare
  owed _ := 0

theorem dat_A (c : Dev nD) (w : Fin cfg0.W) : (dat m c).A w = V m c (Pipeline.arrRef spec0 w) := by dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]

theorem before_0 (c : Dev nD) (t : Fin cfg0.N) (d) : (dat m c).before 0 t d = iblk m c 0 t := before0_0_of m (dat m c) (dat_A m c 0) (after_0 m c) t d
theorem before_1 (c : Dev nD) (t : Fin cfg0.N) (d) : (dat m c).before 1 t d = iblk m c 1 t := before0_1_of m (dat m c) (dat_A m c 1) (after_1 m c) t d
theorem before_2 (c : Dev nD) (t : Fin cfg0.N) (d) : (dat m c).before 2 t d = iblk m c 2 t := before0_2_of m (dat m c) (dat_A m c 2) (after_2 m c) t d
theorem before_3 (c : Dev nD) (t : Fin cfg0.N) (d) : (dat m c).before 3 t d = iblk m c 3 t := before0_3_of m (dat m c) (dat_A m c 3) (after_3 m c) t d
theorem before_4 (c : Dev nD) (t : Fin cfg0.N) (d) : (dat m c).before 4 t d = iblk m c 4 t := before0_4_of m (dat m c) (dat_A m c 4) (after_4 m c) t d
theorem before_5 (c : Dev nD) (t : Fin cfg0.N) (d) : (dat m c).before 5 t d = iblk m c 5 t := before0_5_of m (dat m c) (dat_A m c 5) (after_5 m c) t d

/-- The same data, the outputs held to the predicate. -/
def rdat (c : Dev nD) : Pipeline.RDat τ (Elt F) Unit ℕ (UR sig nD τ) ℕ cfg0 c := (dat m c).toRRel outs (Rl m c)

theorem rdat_after_6 (c : Dev nD) (t : Fin cfg0.N) (X) : (rdat m c).Leaves 6 t X → Upto (gnewD m c) (t.val + 1) X :=
  fun h => (dat m c).toRRel_leaves (fgt := outs) (Rl := Rl m c) (w := 6) rfl h

theorem rdat_after_7 (c : Dev nD) (t : Fin cfg0.N) (X) : (rdat m c).Leaves 7 t X → t.val = 7 → X = codesD m c :=
  fun h => (dat m c).toRRel_leaves (fgt := outs) (Rl := Rl m c) (w := 7) rfl h

theorem rdat_after_8 (c : Dev nD) (t : Fin cfg0.N) (X) : (rdat m c).Leaves 8 t X → t.val = 7 → X = scaleD m c :=
  fun h => (dat m c).toRRel_leaves (fgt := outs) (Rl := Rl m c) (w := 8) rfl h

/-- What the body finds in the first output's buffer: the columns of the points before. -/
theorem finds_6 (c : Dev nD) (t : Fin cfg0.N) (X) (h : (rdat m c).Finds 6 t X) : Upto (gnewD m c) t.val X := by
  have ht : t.val < 8 := Nat.lt_of_lt_of_eq t.isLt N_0
  by_cases h0 : t.val = 0
  · rw [h0]; exact upto_zero _ _
  · rw [(rdat m c).finds_of_pos (w := 6) rfl h0] at h
    rcases h with h | h
    · have := (flush0_6 _).mp h
      dsimp only at this
      omega
    · have := rdat_after_6 m c _ X h
      rwa [show (⟨t.val - 1, Nat.lt_of_le_of_lt (Nat.sub_le _ _) t.isLt⟩ : Fin cfg0.N).val + 1 = t.val by dsimp only; omega] at this

/-! ## The body obligation -/

def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y))

def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ (∃ X, ⌜Rl m c 6 t X⌝ ∗ owns (c : Thread nD τ) (st0_6 t) fullShare X)
    ∗ (∃ X, ⌜Rl m c 7 t X⌝ ∗ owns (c : Thread nD τ) (st0_7 t) fullShare X)
    ∗ (∃ X, ⌜Rl m c 8 t X⌝ ∗ owns (c : Thread nD τ) (st0_8 t) fullShare X))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, after_0, after_1, after_2, after_3, after_4, after_5]
  rw [show (dat m c).Φ t.succ = Track m c (t.val + 1) from rfl, show (dat m c).Φ t.castSucc = Track m c t.val from rfl,
    show (dat m c).owesAt () t.succ = (dat m c).owesAt () t.castSucc from rfl]
  unfold Track
  have hN : t.val < 8 := lt_of_lt_of_eq t.isLt (show cfg0.N = 8 from N_0)
  iintro ⟨⟨⟨%d9, %h9, H9⟩, Hg⟩, Ho, ⟨%d0, H0⟩, ⟨%d1, H1⟩, ⟨%d2, H2⟩, ⟨%d3, H3⟩, ⟨%d4, H4⟩, ⟨%d5, H5⟩, ⟨%Y6, %h6, H6⟩, ⟨%Y7, %h7, H7⟩, ⟨%Y8, %h8, H8⟩⟩
  have hs : Upto (sumD m c) (t.val + 1) (VecWindow.put d9 (k0_off1 (grid0.coords t)) S64x512.size (blkAt m c t)) :=
    upto_put t (fun t => blkAt m c t) d9 h9
  have hu : Upto (gnewD m c) (t.val + 1) (VecWindow.put Y6 (k0_off1 (grid0.coords t)) S64x512.size (truncf .bf16 (blkAt m c t) bitsLt_bf16_f32)) :=
    upto_put t (fun t => (truncf .bf16 (blkAt m c t) bitsLt_bf16_f32 : FVec F S64x512 .bf16)) Y6 (finds_6 m c t Y6 h6)
  by_cases h0 : t.val = 7
  · have hsum := upto_eq _ _ (h0 ▸ hs)
    have e : t = (⟨7, by decide⟩ : Fin cfg0.N) := Fin.ext h0
    iapply (run_B c (grid0.coords t) _ _ _ _ _ _ _ _ _ _ _ _ _ _ _ _ _ _ _ _ ((cond_iff t).mpr h0) (iblk m c 0 t) (iblk m c 1 t) (iblk m c 2 t) (iblk m c 3 t) (iblk m c 4 t) (iblk m c 5 t) Y6 Y7 Y8 d9 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [H9 Hg]
    · isplitl [H9]
      · iexists _; isplitr; swap; · iexact H9
        ipureintro; exact hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro; exact hu
    isplitl [H7]
    · iexists _; isplitr; swap; · iexact H7
      ipureintro
      intro _
      unfold codesD
      rw [← hsum, ← e]
      rfl
    iexists _; isplitr; swap; · iexact H8
    ipureintro
    intro _
    unfold scaleD
    rw [← hsum, ← e]
    rfl
  · iapply (run_A c (grid0.coords t) _ _ _ _ _ _ _ _ _ _ _ _ _ _ _ _ _ _ _ _ (fun h => h0 ((cond_iff t).mp h)) (iblk m c 0 t) (iblk m c 1 t) (iblk m c 2 t) (iblk m c 3 t) (iblk m c 4 t) (iblk m c 5 t) Y6 Y7 Y8 d9 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [H9 Hg]
    · isplitl [H9]
      · iexists _; isplitr; swap; · iexact H9
        ipureintro; exact hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro; exact hu
    isplitl [H7]
    · iexists _; isplitr; swap; · iexact H7
      ipureintro
      exact fun h => absurd h h0
    iexists _; isplitr; swap; · iexact H8
    ipureintro
    exact fun h => absurd h h0

theorem defs₀_row (t : Fin cfg0.N) :
    defs₀ (F := F) .tc cfg0.body (cfg0.bodyArgs t (cfg0.slots t)) = bodyAt0 t := by
  unfold defs₀; rw [Defs.onTc_tc]

/-- The body does what the proof data say, at every point. -/
theorem body_obligation (c : Dev nD) : BodyObligationRel (dat (F := F) m c) (defs₀ (F := F)) Variants.none () Set.univ outs (Rl m c) := fun t => by
  rw [bigSep_W0, bigSep_W0, defs₀_row]
  exact triple_restated (sound_body m c t) rfl .rfl fun _ => .rfl

/-! ## The run -/

set_option backward.isDefEq.respectTransparency.types false in
/-- Every run ends with the pipeline's arrays as the proof data say and every semaphore counter at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dat m c).share_full fun _ => rfl)
    (howed := fun _ _ => rfl) (V := V m) (hmain := hmain m Variants.none) (hA := dat_A m)
    (hin := fun c => track_in m c) (hout := fun c => track_out m c _)

/-- The argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 0 rfl).trans ((dat_A m c 0).trans (V_main_arg0 m c)),
      (Pipeline.RDat.FramePost.arr_in h.1 c 1 rfl).trans ((dat_A m c 1).trans (V_main_arg1 m c)),
      (Pipeline.RDat.FramePost.arr_in h.1 c 2 rfl).trans ((dat_A m c 2).trans (V_main_arg2 m c)),
      (Pipeline.RDat.FramePost.arr_in h.1 c 3 rfl).trans ((dat_A m c 3).trans (V_main_arg3 m c)),
      (Pipeline.RDat.FramePost.arr_in h.1 c 4 rfl).trans ((dat_A m c 4).trans (V_main_arg4 m c)),
      (Pipeline.RDat.FramePost.arr_in h.1 c 5 rfl).trans ((dat_A m c 5).trans (V_main_arg5 m c))⟩, h.2⟩) (run_main m ρ)

/-- The first result: the rounded residual sum. -/
theorem out_0 {r} (h : Pipeline.RDat.FramePost (cfgs 0) (fun c => rdat m c) (V m) r) (c : Dev nD) :
    r.2.mem ((c.tc : Thread nD τ).loc main_v0_0) = gnewD m c := by
  have hW : (cfg0.win 6).WholeAt ⟨7, by decide⟩ := by decide +kernel
  obtain ⟨X, hX, hG⟩ := Pipeline.RDat.ArrAt.emb_eq_of_wholeAt ((h c).1 6) hW
  have hu := upto_eq _ X (rdat_after_6 m c _ X hX)
  funext j
  exact (hG j).trans (congrFun hu j)

/-- The second result: the codes. -/
theorem out_1 {r} (h : Pipeline.RDat.FramePost (cfgs 0) (fun c => rdat m c) (V m) r) (c : Dev nD) :
    r.2.mem ((c.tc : Thread nD τ).loc main_v0_1) = codesD m c := by
  have hW : (cfg0.win 7).WholeAt ⟨7, by decide⟩ := by decide +kernel
  obtain ⟨X, hX, hG⟩ := Pipeline.RDat.ArrAt.emb_eq_of_wholeAt ((h c).1 7) hW
  have hu := rdat_after_7 m c _ X hX rfl
  funext j
  exact (hG j).trans (congrFun hu j)

/-- The third result: the scales. -/
theorem out_2 {r} (h : Pipeline.RDat.FramePost (cfgs 0) (fun c => rdat m c) (V m) r) (c : Dev nD) :
    r.2.mem ((c.tc : Thread nD τ).loc main_v0_2) = scaleD m c := by
  have hW : (cfg0.win 8).WholeAt ⟨7, by decide⟩ := by decide +kernel
  obtain ⟨X, hX, hG⟩ := Pipeline.RDat.ArrAt.emb_eq_of_wholeAt ((h c).1 8) hW
  have hu := rdat_after_8 m c _ X hX rfl
  funext j
  exact (hG j).trans (congrFun hu j)

end Cert.DownIdeal.Hand

end
-- ==== Proof.DownRefDot.lean ====
module

public import proofs.«01_k».proof.Proof.Awq
public import proofs.«01_k».proof.Proof.Gen.DownRefIdeal.Run

@[expose] public section

set_option maxRecDepth 16384

noncomputable section

namespace Cert.DownRefIdeal.Hand

open Idealize.ShloMosaic Idealize.ShloMosaic.TcCoe Idealize.SL.Sem Cert.DownRefIdeal Cert.DownRefIdeal.Gen Cert.Awq

/-- The reference's product of activations with packed weights. -/
def mm (x : FVec Ideal S64x14336 .bf16) (w : Vec Ideal S7168x4096 .i8) (s : FVec Ideal S112x4096 .bf16) (z : Vec Ideal S112x4096 .i8) :
    FVec Ideal S64x4096 .f32 :=
  addf (Host.dotGeneral dot_S64x7168_S7168x4096_S64x4096_1_0_0_1_n_n none (Host.slice S64x7168 ![0, 0] ![1, 2] x slicesBy_S64x14336_S64x7168_0s1_0s2) (shapeCast _ (mulf (subf (sitofp .bf16 (andi (shapeCast _ (extui 32 w natLt_8_32) shapeCasts_S7168x4096_S112x64x4096) (broadcastInDim S112x64x4096 ![] bcast_S_S112x64x4096 (constantI S_ 32 15#32)))) (broadcastInDim S112x64x4096 ![0, 1, 2] bcast_S112x1x4096_S112x64x4096_0_1_2 (broadcastInDim S112x1x4096 ![0, 2] bcast_S112x4096_S112x1x4096_0_2 (sitofp .bf16 (extui 32 z natLt_8_32))))) (broadcastInDim S112x64x4096 ![0, 1, 2] bcast_S112x1x4096_S112x64x4096_0_1_2 (broadcastInDim S112x1x4096 ![0, 2] bcast_S112x4096_S112x1x4096_0_2 s))) shapeCasts_S112x64x4096_S7168x4096))
    (Host.dotGeneral dot_S64x7168_S7168x4096_S64x4096_1_0_0_1_n_n none (Host.slice S64x7168 ![0, 1] ![1, 2] x slicesBy_S64x14336_S64x7168_0s1_1s2) (shapeCast _ (mulf (subf (sitofp .bf16 (Host.shrsi (shapeCast _ (extui 32 w natLt_8_32) shapeCasts_S7168x4096_S112x64x4096) (broadcastInDim S112x64x4096 ![] bcast_S_S112x64x4096 (constantI S_ 32 4#32)))) (broadcastInDim S112x64x4096 ![0, 1, 2] bcast_S112x1x4096_S112x64x4096_0_1_2 (broadcastInDim S112x1x4096 ![0, 2] bcast_S112x4096_S112x1x4096_0_2 (sitofp .bf16 (extui 32 z natLt_8_32))))) (broadcastInDim S112x64x4096 ![0, 1, 2] bcast_S112x1x4096_S112x64x4096_0_1_2 (broadcastInDim S112x1x4096 ![0, 2] bcast_S112x4096_S112x1x4096_0_2 s))) shapeCasts_S112x64x4096_S7168x4096))

/-- An entry of the reference's product. -/
theorem mm_apply (x : FVec Ideal S64x14336 .bf16) (w : Vec Ideal S7168x4096 .i8) (s : FVec Ideal S112x4096 .bf16) (z : Vec Ideal S112x4096 .i8)
    (r : Fin 64) (c : Fin 4096) :
    mm x w s z (ix2 r c) = dot 112 (fun k => x (ix2 r ⟨k % 14336, Nat.mod_lt _ (by decide)⟩))
      (fun k => w (ix2 ⟨k % 7168, Nat.mod_lt _ (by decide)⟩ c)) (fun k => z (ix2 ⟨k % 112, Nat.mod_lt _ (by decide)⟩ c))
      (fun k => s (ix2 ⟨k % 112, Nat.mod_lt _ (by decide)⟩ c)) := by
  pointwise [mm]
  unfold dot
  rw [← Fin.sum_univ_eq_sum_range, ← Fin.sum_univ_eq_sum_range]
  simp only [tLo, tHi, lo, hi]
  refine congrArg₂ (· + ·) (Finset.sum_congr rfl fun k _ => ?_) (Finset.sum_congr rfl fun k _ => ?_)
  all_goals
    have hk := k.isLt
    have e1 : 2 * k.val % 14336 = 2 * k.val := Nat.mod_eq_of_lt (by omega)
    have e2 : (2 * k.val + 1) % 14336 = 1 + 2 * k.val := by omega
    have e3 : k.val % 7168 = k.val := Nat.mod_eq_of_lt (by omega)
    have e4 : k.val / 64 % 112 = k.val / 64 := Nat.mod_eq_of_lt (by omega)
    simp only [e1, e2, e3, e4]
    try rfl

/-- The second residual sum: the first plus the product. -/
def sum (x : FVec Ideal S64x14336 .bf16) (h : FVec Ideal S64x4096 .f32) (w : Vec Ideal S7168x4096 .i8) (s : FVec Ideal S112x4096 .bf16) (z : Vec Ideal S112x4096 .i8) :
    FVec Ideal S64x4096 .f32 :=
  addf h (mm x w s z)

/-- The rows of `h`, each divided by the root of its mean square, times the weights of the norm. -/
def norm (h : FVec Ideal S64x4096 .f32) (np : FVec Ideal S1x4096 .f32) : FVec Ideal S64x4096 .f32 :=
  mulf (Host.divf h (broadcastInDim S64x4096 ![0, 1] bcast_S64x1_S64x4096_0_1 (Host.sqrt (addf (Host.divf (broadcastInDim S64x1 ![0] bcast_S64_S64x1_0 (Host.reduceAdd (mulf h h) (constant S_ .f32 0x00000000#32) reducesTo_S64x4096_S64_d1 h_S_)) (broadcastInDim S64x1 ![] bcast_S_S64x1 (constant S_ .f32 0x45800000#32))) (broadcastInDim S64x1 ![] bcast_S_S64x1 (constant S_ .f32 0x3727C5AC#32)))))) (broadcastInDim S64x4096 ![0, 1] bcast_S1x4096_S64x4096_0_1 np)

/-- Each row's largest magnitude. -/
def amax (v : FVec Ideal S64x4096 .f32) : FVec Ideal S64x1 .f32 :=
  broadcastInDim S64x1 ![0] bcast_S64_S64x1_0 (Host.reduce FloatOps.maximumf (Host.absf v) (constant S_ .f32 0xFF800000#32) reducesTo_S64x4096_S64_d1 h_S_)

/-- Each row's scale: its largest magnitude over 127, or 1. -/
def scale (v : FVec Ideal S64x4096 .f32) : FVec Ideal S64x1 .f32 :=
  select (cmpf .oeq (amax v) (broadcastInDim S64x1 ![] bcast_S_S64x1 (constant S_ .f32 0x00000000#32))) (broadcastInDim S64x1 ![] bcast_S_S64x1 (id (constant S_ .f32 0x3F800000#32)))
    (Host.divf (amax v) (broadcastInDim S64x1 ![] bcast_S_S64x1 (constant S_ .f32 0x42FE0000#32)))

/-- The rows' codes: each entry over its row's scale, rounded and kept within 127. -/
def codes (v : FVec Ideal S64x4096 .f32) (s : FVec Ideal S64x1 .f32) : Vec Ideal S64x4096 .i8 :=
  trunci 8 (fptosi 32 (minimumf (broadcastInDim S64x4096 ![] bcast_S_S64x4096 (sitofp .f32 (constantI S_ 32 127#32))) (maximumf (broadcastInDim S64x4096 ![] bcast_S_S64x4096 (sitofp .f32 (constantI S_ 32 4294967169#32))) (Host.roundeven (Host.divf v (broadcastInDim S64x4096 ![0, 1] bcast_S64x1_S64x4096_0_1 s)))))) natLt_8_32

theorem scale_res (m : (ℓ : Loc nD τ sig) → Buf (Elt Ideal) ℓ) (c : Dev nD) :
    Value.res_main_v47 m c = scale (norm (sum (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg5)))
      (m ((c.tc : Thread nD τ).loc main_arg2))) := rfl

theorem codes_res (m : (ℓ : Loc nD τ sig) → Buf (Elt Ideal) ℓ) (c : Dev nD) :
    Value.res_main_v53 m c = codes (norm (sum (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg5)))
      (m ((c.tc : Thread nD τ).loc main_arg2))) (Value.res_main_v47 m c) := rfl

/-- An entry of the residual sum. -/
theorem sum_apply (x : FVec Ideal S64x14336 .bf16) (h : FVec Ideal S64x4096 .f32) (w : Vec Ideal S7168x4096 .i8) (s : FVec Ideal S112x4096 .bf16) (z : Vec Ideal S112x4096 .i8)
    (r : Fin 64) (c : Fin 4096) : sum x h w s z (ix2 r c) = h (ix2 r c) + mm x w s z (ix2 r c) := by
  pointwise [sum]

/-- A number within 127 becomes the same byte directly or by way of a 32-bit integer. -/
theorem fptosi_byte (x : EReal) (h1 : ((-127 : ℝ) : EReal) ≤ x) (h2 : x ≤ ((127 : ℝ) : EReal)) :
    (Ideal.fptosi 32 x).setWidth 8 = Ideal.fptosi 8 x := by
  induction x with
  | bot => simp at h1
  | top => simp at h2
  | coe r =>
    rw [EReal.coe_le_coe_iff] at h1 h2
    simp only [Ideal.fptosi, Ideal.toIntClamped_coe]
    have hn : ∃ n : ℤ, (if 0 ≤ r then ⌊r⌋ else ⌈r⌉) = n ∧ -127 ≤ n ∧ n ≤ 127 := by
      refine ⟨_, rfl, ?_, ?_⟩
      · split
        · exact le_trans (by norm_num) (Int.floor_nonneg.2 ‹_›)
        · exact Int.le_ceil_iff.2 (by push_cast; linarith)
      · split
        · exact Int.floor_le_iff.2 (by push_cast; linarith)
        · exact Int.ceil_le.2 (by push_cast; linarith)
    obtain ⟨n, hn, ha, hb⟩ := hn
    rw [hn]
    have e32 : max (-((2 ^ (32 - 1) : ℕ) : ℤ)) (min (((2 ^ (32 - 1) : ℕ) : ℤ) - 1) n) = n := by norm_num; omega
    have e8 : max (-((2 ^ (8 - 1) : ℕ) : ℤ)) (min (((2 ^ (8 - 1) : ℕ) : ℤ) - 1) n) = n := by norm_num; omega
    rw [e32, e8]
    apply BitVec.eq_of_toInt_eq
    rw [BitVec.toInt_setWidth, BitVec.toInt_ofInt, BitVec.toNat_ofInt]
    simp only [Int.bmod_def]
    omega

end Cert.DownRefIdeal.Hand

end
-- ==== Proof.DownFinal.lean ====
module

public import proofs.«01_k».proof.Defs
public import proofs.«01_k».proof.Proof.DownBody
public import proofs.«01_k».proof.Proof.DownRefDot
public import Idealize.ShloMosaic.Lib.Claim

@[expose] public section

set_option maxRecDepth 16384

noncomputable section

namespace Cert.DownIdeal.Hand

open Idealize.ShloMosaic Idealize.ShloMosaic.TcCoe Idealize.SL.Sem Cert.DownIdeal Cert.DownIdeal.Gen Cert.Awq

variable (m : (ℓ : Loc nD τ sig) → Buf (Elt Ideal) ℓ)

/-- Which block each window is on at grid point `t`. -/
theorem idx : ∀ t : Fin cfg0.N, win0_0.index t = ![0, 0] ∧ win0_1.index t = ![0, 0] ∧ win0_2.index t = ![0, 0]
    ∧ win0_3.index t = ![0, t.val] ∧ win0_4.index t = ![0, t.val] ∧ win0_5.index t = ![0, t.val] ∧ t.val < 8 :=
  (by decide +kernel : ∀ t : Fin grid0.N, _)

/-- An entry of a running sum of groups: the product's entry. -/
theorem part_dot (x : Vec Ideal S64x14336 .bf16) (w : Vec Ideal S7168x512 .i8) (s : Vec Ideal S112x512 .bf16) (z : Vec Ideal S112x512 .i8)
    (r : Fin 64) (c : Fin 512) :
    acc (part x w s z) 111 (ix2 r c) = dot 112 (fun k => x (ix2 r ⟨k % 14336, Nat.mod_lt _ (by decide)⟩))
      (fun k => w (ix2 ⟨k % 7168, Nat.mod_lt _ (by decide)⟩ c)) (fun k => z (ix2 ⟨k % 112, Nat.mod_lt _ (by decide)⟩ c))
      (fun k => s (ix2 ⟨k % 112, Nat.mod_lt _ (by decide)⟩ c)) := by
  refine acc_eq_dot (n := 111) ?_ ?_ ?_ ?_
  all_goals
    intro g hg
    have hg' : g % 112 = g := Nat.mod_eq_of_lt hg
  · intro j
    have e : (128 * g + j.val) % 14336 = 128 * (g % 112) + j.val := by omega
    pointwise
    simp only [e]
  · intro j
    have e : (64 * g + j.val) % 7168 = 64 * (g % 112) + j.val := by omega
    pointwise
    simp only [e]
  · pointwise
  · pointwise

/-- The product of the body is the reference's product at the block's columns. -/
theorem mm_block (x : Vec Ideal S64x14336 .bf16) (w : Vec Ideal S7168x512 .i8) (s : Vec Ideal S112x512 .bf16) (z : Vec Ideal S112x512 .i8)
    (X : Vec Ideal S64x14336 .bf16) (W : Vec Ideal S7168x4096 .i8) (S : Vec Ideal S112x4096 .bf16) (Z : Vec Ideal S112x4096 .i8)
    (r : Fin 64) (c : Fin 512) (C : Fin 4096) (hx : ∀ k, x (ix2 r k) = X (ix2 r k)) (hw : ∀ k, w (ix2 k c) = W (ix2 k C))
    (hs : ∀ k, s (ix2 k c) = S (ix2 k C)) (hz : ∀ k, z (ix2 k c) = Z (ix2 k C)) :
    acc (part x w s z) 111 (ix2 r c) = Cert.DownRefIdeal.Hand.mm X W S Z (ix2 r C) :=
  (part_dot x w s z r c).trans ((dot_congr (fun _ _ => hx _) (fun _ _ => hw _) (fun _ _ => hz _) (fun _ _ => hs _)).trans
    (Cert.DownRefIdeal.Hand.mm_apply X W S Z r C).symm)

/-- An entry of the block that a point stores. -/
theorem blkD_apply (i : grid0.Coords) (x0 : Vec Ideal S64x14336 .bf16) (x1 : Vec Ideal S64x4096 .f32) (x3 : Vec Ideal S7168x512 .i8) (x4 : Vec Ideal S112x512 .bf16)
    (x5 : Vec Ideal S112x512 .i8) (r : Fin 64) (c : Fin 512) (C : Fin 4096) (hC : C.val = 512 * (i 0).val + c.val) :
    blkD i x0 x1 x3 x4 x5 (ix2 r c) = x1 (ix2 r C) + acc (part x0 x3 x4 x5) 111 (ix2 r c) := by
  pointwise [blkD, k0_off1_eq]
  simp only [← hC]

/-- The residual sum is the reference's. -/
theorem sum_eq (c : Dev nD) : sumD m c = Cert.DownRefIdeal.Hand.sum (m ((c : Thread nD τ).loc main_arg0)) (m ((c : Thread nD τ).loc main_arg1))
      (m ((c : Thread nD τ).loc main_arg3)) (m ((c : Thread nD τ).loc main_arg4)) (m ((c : Thread nD τ).loc main_arg5)) := by
  funext y
  idx_vars y
  refine Eq.trans ?_ (Cert.DownRefIdeal.Hand.sum_apply _ _ _ _ _ y0 y1).symm
  have hy := y1.isLt
  obtain ⟨h0, h1, h2, h3, h4, h5, ht⟩ := idx (ptOf y1)
  have hp : (ptOf y1).val = y1.val / 512 := rfl
  generalize hT : ptOf y1 = T at *
  rw [show sumD m c (ix2 y0 y1) = blkAt m c T (ix2 y0 ⟨y1.val % 512, Nat.mod_lt _ (by decide)⟩) from by rw [← hT]; rfl]
  refine (blkD_apply (grid0.coords T) _ _ _ _ _ y0 _ y1 (by rw [coords_val, hp]; show y1.val = 512 * (y1.val / 512) + y1.val % 512; omega)).trans ?_
  refine congrArg₂ (· + ·) ?_ (mm_block _ _ _ _ _ _ _ _ _ _ _ ?_ ?_ ?_ ?_)
  · blk_ext [iblk, V, h1]
  · intro k; blk_ext [iblk, V, h0]
  · intro k; blk_ext [iblk, V, h3]
  · intro k; blk_ext [iblk, V, h4]
  · intro k; blk_ext [iblk, V, h5]

/-- The rounded sum is the sum: a conversion is the identity over the reals. -/
theorem gnew_eq (c : Dev nD) : gnewD m c = truncf .bf16 (Cert.DownRefIdeal.Hand.sum (m ((c : Thread nD τ).loc main_arg0)) (m ((c : Thread nD τ).loc main_arg1))
      (m ((c : Thread nD τ).loc main_arg3)) (m ((c : Thread nD τ).loc main_arg4)) (m ((c : Thread nD τ).loc main_arg5))) bitsLt_bf16_f32 := by
  rw [← sum_eq]
  funext y
  rfl

/-- The normalised rows are the reference's. -/
theorem pay153_eq (h : Vec Ideal S64x4096 .f32) (np : Vec Ideal S1x4096 .f32) : k0_pay153 h np = Cert.DownRefIdeal.Hand.norm h np := by
  funext y
  idx_vars y
  pointwise [k0_pay153, Cert.DownRefIdeal.Hand.norm]

/-- The rows' scales are the reference's. -/
theorem pay154_eq (h : Vec Ideal S64x4096 .f32) (np : Vec Ideal S1x4096 .f32) :
    k0_pay154 h np = Cert.DownRefIdeal.Hand.scale (Cert.DownRefIdeal.Hand.norm h np) := by
  unfold k0_pay154
  rw [pay153_eq]
  generalize Cert.DownRefIdeal.Hand.norm h np = v
  funext y
  idx_vars y
  simp only [Cert.DownRefIdeal.Hand.scale, id_eq]
  pointwise [Cert.DownRefIdeal.Hand.amax]

/-- The rows' codes are the reference's. -/
theorem pay155_eq (h : Vec Ideal S64x4096 .f32) (np : Vec Ideal S1x4096 .f32) :
    k0_pay155 h np = Cert.DownRefIdeal.Hand.codes (Cert.DownRefIdeal.Hand.norm h np) (Cert.DownRefIdeal.Hand.scale (Cert.DownRefIdeal.Hand.norm h np)) := by
  unfold k0_pay155
  rw [pay153_eq, pay154_eq]
  generalize Cert.DownRefIdeal.Hand.norm h np = v
  generalize Cert.DownRefIdeal.Hand.scale v = s
  funext y
  idx_vars y
  pointwise [Cert.DownRefIdeal.Hand.codes]
  have ha : (((127#32).toInt : ℝ) : EReal) = ((127 : ℝ) : EReal) := by norm_num [show (127#32).toInt = 127 from by decide]
  have hb : (((4294967169#32).toInt : ℝ) : EReal) = ((-127 : ℝ) : EReal) := by norm_num [show (4294967169#32).toInt = -127 from by decide]
  refine (Cert.DownRefIdeal.Hand.fptosi_byte _ ?_ ?_).symm
  · rw [ha, hb]
    exact le_min (EReal.coe_le_coe_iff.2 (by norm_num)) (le_max_left _ _)
  · rw [ha]
    exact min_le_left _ _

/-- Every point's block of the norm's weights is the whole row. -/
theorem weights_eq (c : Dev nD) (t : Fin cfg0.N) : (iblk m c 2 t : Vec Ideal S1x4096 .f32) = m ((c : Thread nD τ).loc main_arg2) := by
  obtain ⟨h0, h1, h2, h3, h4, h5, ht⟩ := idx t
  funext y
  idx_vars y
  blk_ext [iblk, V, h2]

/-- The scales over the arguments. -/
theorem scale_eq (c : Dev nD) : scaleD m c = Cert.DownRefIdeal.Hand.scale (Cert.DownRefIdeal.Hand.norm (Cert.DownRefIdeal.Hand.sum (m ((c : Thread nD τ).loc main_arg0)) (m ((c : Thread nD τ).loc main_arg1))
      (m ((c : Thread nD τ).loc main_arg3)) (m ((c : Thread nD τ).loc main_arg4)) (m ((c : Thread nD τ).loc main_arg5)))
      (m ((c : Thread nD τ).loc main_arg2))) := by
  unfold scaleD
  rw [pay154_eq, sum_eq, weights_eq]

/-- The codes over the arguments. -/
theorem codes_eq (c : Dev nD) : codesD m c = Cert.DownRefIdeal.Hand.codes (Cert.DownRefIdeal.Hand.norm (Cert.DownRefIdeal.Hand.sum (m ((c : Thread nD τ).loc main_arg0)) (m ((c : Thread nD τ).loc main_arg1))
      (m ((c : Thread nD τ).loc main_arg3)) (m ((c : Thread nD τ).loc main_arg4)) (m ((c : Thread nD τ).loc main_arg5)))
      (m ((c : Thread nD τ).loc main_arg2))) (scaleD m c) := by
  rw [scale_eq]
  unfold codesD
  rw [pay155_eq, sum_eq, weights_eq]

end Cert.DownIdeal.Hand

namespace Cert.Proof

open Idealize.ShloMosaic Idealize.SL.Sem

/-- The down projection's results are the reference's, over the reals. -/
theorem down_algebraic : Cert.algebraic_DownIdeal_DownRefIdeal (hDownIdeal := Cert.DownIdeal.Gen.facts) (hDownRefIdeal := Cert.DownRefIdeal.Gen.facts) := by
  intro m g m' g' _ hagree
  refine ⟨fun c => Cert.DownIdeal.Hand.gnewD m c, fun c => Cert.DownIdeal.Hand.codesD m c, fun c => Cert.DownIdeal.Hand.scaleD m c, ?_, ?_⟩
  · exact (θ_run _ _ _).mono (fun r h c => ⟨Cert.DownIdeal.Hand.out_0 m h.1.1 c, Cert.DownIdeal.Hand.out_1 m h.1.1 c, Cert.DownIdeal.Hand.out_2 m h.1.1 c, h.2.1 c⟩)
      (θ_run_and (Cert.DownIdeal.Hand.run_main m g) (Cert.DownIdeal.Hand.frame m g))
  · refine (θ_run _ _ _).mono (fun r h c => ?_) (Cert.DownRefIdeal.Value.run m' g')
    obtain ⟨h0, h1, h2, h3, h4, h5⟩ := hagree c
    have hs : Cert.DownRefIdeal.Value.res_main_v47 m' c = Cert.DownIdeal.Hand.scaleD m c := by
      rw [Cert.DownRefIdeal.Hand.scale_res, h0, h1, h2, h3, h4, h5]
      exact (Cert.DownIdeal.Hand.scale_eq m c).symm
    refine ⟨(h c).1.trans ?_, (h c).2.1.trans ?_, (h c).2.2.1.trans hs, (h c).2.2.2⟩
    · rw [h0, h1, h3, h4, h5]
      exact (Cert.DownIdeal.Hand.gnew_eq m c).symm
    · rw [Cert.DownRefIdeal.Hand.codes_res, hs, h0, h1, h2, h3, h4, h5]
      exact (Cert.DownIdeal.Hand.codes_eq m c).symm

end Cert.Proof

end
-- ==== Proof.HeadRunBits.lean ====
module

public import proofs.«01_k».proof.Proof.Gen.Head.Skeleton
public import proofs.«01_k».proof.Proof.Gen.Head.Frame
public import Idealize.ShloMosaic.Lib.VecWindow
public import Idealize.ShloMosaic.Lib.Pipeline.Value
public import Idealize.ShloMosaic.Lib.Tactic

@[expose] public section

set_option maxRecDepth 65536

noncomputable section

namespace Cert.Head.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Head Cert.Head.Gen

variable {F : FTy → Type} [FloatOps F]

local notation "𝕄" => MT nD τ sig Unit (Elt F) ℕ (UR sig nD τ) ℕ

/-- The peaks of the point's groups of 128 logits. -/
def pk (x0 : Vec F S64x4096 .bf16) (x1 : Vec F S1280x4096 .i8) (x2 : Vec F S1280x1 .f32) (x3 : Vec F S1x64 .f32) (x4 : Vec F S1x64 .f32) : FVec F S1x10x64 .f32 := k0_pay6 x1 x0 x3 x2 x4

/-- The running maximum after the point, from the one before it. -/
def mx (x0 : Vec F S64x4096 .bf16) (x1 : Vec F S1280x4096 .i8) (x2 : Vec F S1280x1 .f32) (x3 : Vec F S1x64 .f32) (x4 : Vec F S1x64 .f32) (v : Vec F S1x64 .f32) : FVec F S1x64 .f32 := k0_pay11 x1 x0 x3 x2 x4 v

/-- The running sum after the point, from the running maximum and sum before it. -/
def sm (x0 : Vec F S64x4096 .bf16) (x1 : Vec F S1280x4096 .i8) (x2 : Vec F S1280x1 .f32) (x3 : Vec F S1x64 .f32) (x4 : Vec F S1x64 .f32) (v l : Vec F S1x64 .f32) : FVec F S1x64 .f32 :=
  k0_pay1 (k0_pay7 x1 x0 x3 x2 x4) v (k0_pay11 x1 x0 x3 x2 x4 v) l

/-- A load of a whole buffer reads its contents. -/
theorem rd_w (v : View sig .tc .vmem S1280x4096 .i8) (f : v.ty.Contents (Elt F)) (h) :
    v.readAt (Elt F) (Rect.unit (s := S1280x4096) ![0, 0] ![1280, 4096] h).toLoadRect f = v.read (Elt F) f := View.readAt_full v f h
theorem rd_a (v : View sig .tc .vmem S64x4096 .bf16) (f : v.ty.Contents (Elt F)) (h) :
    v.readAt (Elt F) (Rect.unit (s := S64x4096) ![0, 0] ![64, 4096] h).toLoadRect f = v.read (Elt F) f := View.readAt_full v f h
theorem rd_s (v : View sig .tc .vmem S1280x1 .f32) (f : v.ty.Contents (Elt F)) (h) :
    v.readAt (Elt F) (Rect.unit (s := S1280x1) ![0, 0] ![1280, 1] h).toLoadRect f = v.read (Elt F) f := View.readAt_full v f h
theorem rd_r (v : View sig .tc .vmem S1x64 .f32) (f : v.ty.Contents (Elt F)) (h) :
    v.readAt (Elt F) (Rect.unit (s := S1x64) ![0, 0] ![1, 64] h).toLoadRect f = v.read (Elt F) f := View.readAt_full v f h
theorem rd_g (v : View sig .tc .vmem S25x10x64 .f32) (f : v.ty.Contents (Elt F)) (h) :
    v.readAt (Elt F) (Rect.unit (s := S25x10x64) ![0, 0, 0] ![25, 10, 64] h).toLoadRect f = v.read (Elt F) f := View.readAt_full v f h

/-- Storing a row reshapes it to its own shape. -/
theorem pay9_eq (v0 : Vec F S1280x4096 .i8) (v2 : Vec F S64x4096 .bf16) (v4 : Vec F S1x64 .f32) (v7 : Vec F S1280x1 .f32) (v10 : Vec F S1x64 .f32) :
    k0_pay9 v0 v2 v4 v7 v10 = k0_pay8 v0 v2 v4 v7 v10 := by
  unfold k0_pay9
  exact shapeCast_self _ _

theorem pay12_eq (v0 : Vec F S1280x4096 .i8) (v2 : Vec F S64x4096 .bf16) (v4 : Vec F S1x64 .f32) (v7 : Vec F S1280x1 .f32) (v10 v27 : Vec F S1x64 .f32) :
    k0_pay12 v0 v2 v4 v7 v10 v27 = k0_pay11 v0 v2 v4 v7 v10 v27 := by
  unfold k0_pay12
  exact shapeCast_self _ _

/-- The condition under which the body sets the running maximum and sum up. -/
def cond1 (i : grid0.Coords) : BitVec 1 := Scalar.cmpi .ne (Scalar.extui (Scalar.cmpi .eq (BitVec.ofNat 32 (i 0).val) 0#32) : BitVec 32) 0#32

set_option maxHeartbeats 4000000 in
/-- The body at the first point: the running maximum and sum start from the point itself. -/
theorem run_A (c : Dev nD) (i : grid0.Coords) (arg1 : Memref sig .tc .vmem S64x4096 .bf16) (harg1 : arg1.IsWhole) (arg2 : Memref sig .tc .vmem S1280x4096 .i8) (harg2 : arg2.IsWhole) (arg3 : Memref sig .tc .vmem S1280x1 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S25x10x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc1 : Scalar.cmpi .ne (Scalar.extui (Scalar.cmpi .eq (BitVec.ofNat 32 (i 0).val) 0#32) : BitVec 32) 0#32 = 1#1) (hc2 : ¬ k0_cond2 i = 1#1)
    (x0 : Vec F S64x4096 .bf16) (x1 : Vec F S1280x4096 .i8) (x2 : Vec F S1280x1 .f32) (x3 : Vec F S1x64 .f32) (x4 : Vec F S1x64 .f32) (x5 : Vec F S1x64 .f32) (x6 : Vec F S25x10x64 .f32) (x7 : Vec F S1x64 .f32) (x8 : Vec F S1x64 .f32) (x9 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (VecWindow.put x6 (k0_off1 i) S1x10x64.size (pk x0 x1 x2 x3 x4)) ∗ owns (c : Thread nD τ) arg8 fullShare x7 ∗ owns (c : Thread nD τ) arg9 fullShare (mx x0 x1 x2 x3 x4 (k0_pay8 x1 x0 x3 x2 x4)) ∗ owns (c : Thread nD τ) arg10 fullShare (sm x0 x1 x2 x3 x4 (k0_pay8 x1 x0 x3 x2 x4) (k0_pay10 (F := F)))) -∗ K ⟨⟩))
      ⊢ wp frame (wpE (defs₀ (F := F)) Variants.none c none) E (cc0_head i arg1 harg1 arg2 harg2 arg3 harg3 arg4 harg4 arg5 harg5 arg6 harg6 arg7 harg7 arg8 harg8 arg9 harg9 arg10 harg10) K := by
  simp only [cc0_head_eq_skeleton]; unfold cc0_head_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | sl_exact hc1 | sl_exact hc2)
  sl_step
  have e27 : run_A.sl.v27 c arg1 arg2 arg3 arg4 arg5 arg9 f0 f1 f2 f3 f4 = (k0_pay8 (View.read (Elt F) arg2.view f1) (View.read (Elt F) arg1.view f0) (View.read (Elt F) arg4.view f3) (View.read (Elt F) arg3.view f2) (View.read (Elt F) arg5.view f4)) := by
    unfold run_A.sl.v27
    refine (View.readAt_writes_full _ _ _ _ _ _).trans ?_
    rw [pay9_eq]
    rw [rd_w, rd_a, rd_s, rd_r, rd_r]
  have e32 : run_A.sl.v32 c arg10 = (k0_pay10 (F := F)) := by
    unfold run_A.sl.v32
    exact View.readAt_writes_full _ _ _ _ _ _
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    rw [View.read_writes_cons_put _ _ _ _ _ rfl]
    rw [rd_w, rd_a, rd_s, rd_r, rd_r]
    rfl
  isplitl [H7]
  · iexists f7; isplitr; · ipureintro; rfl
    iexact H7
  isplitl [H8]
  · iexists _; isplitr; swap; · iexact H8
    ipureintro
    refine (View.read_writes_full _ _ _ _ _).trans ?_
    rw [pay12_eq, e27]
    rw [rd_w, rd_a, rd_s, rd_r, rd_r]
    rfl
  iexists _; isplitr; swap; · iexact H9
  ipureintro
  refine (View.read_writes_full _ _ _ _ _).trans ?_
  rw [e32, e27]
  rw [rd_w, rd_a, rd_s, rd_r, rd_r]
  rfl

set_option maxHeartbeats 4000000 in
/-- The body at a point in between: the running maximum and sum go on. -/
theorem run_B (c : Dev nD) (i : grid0.Coords) (arg1 : Memref sig .tc .vmem S64x4096 .bf16) (harg1 : arg1.IsWhole) (arg2 : Memref sig .tc .vmem S1280x4096 .i8) (harg2 : arg2.IsWhole) (arg3 : Memref sig .tc .vmem S1280x1 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S25x10x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc1 : ¬ Scalar.cmpi .ne (Scalar.extui (Scalar.cmpi .eq (BitVec.ofNat 32 (i 0).val) 0#32) : BitVec 32) 0#32 = 1#1) (hc2 : ¬ k0_cond2 i = 1#1)
    (x0 : Vec F S64x4096 .bf16) (x1 : Vec F S1280x4096 .i8) (x2 : Vec F S1280x1 .f32) (x3 : Vec F S1x64 .f32) (x4 : Vec F S1x64 .f32) (x5 : Vec F S1x64 .f32) (x6 : Vec F S25x10x64 .f32) (x7 : Vec F S1x64 .f32) (x8 : Vec F S1x64 .f32) (x9 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (VecWindow.put x6 (k0_off1 i) S1x10x64.size (pk x0 x1 x2 x3 x4)) ∗ owns (c : Thread nD τ) arg8 fullShare x7 ∗ owns (c : Thread nD τ) arg9 fullShare (mx x0 x1 x2 x3 x4 x8) ∗ owns (c : Thread nD τ) arg10 fullShare (sm x0 x1 x2 x3 x4 x8 x9)) -∗ K ⟨⟩))
      ⊢ wp frame (wpE (defs₀ (F := F)) Variants.none c none) E (cc0_head i arg1 harg1 arg2 harg2 arg3 harg3 arg4 harg4 arg5 harg5 arg6 harg6 arg7 harg7 arg8 harg8 arg9 harg9 arg10 harg10) K := by
  simp only [cc0_head_eq_skeleton]; unfold cc0_head_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    rw [View.read_writes_cons_put _ _ _ _ _ rfl]
    simp only [rd_w, rd_a, rd_s, rd_r]
    rfl
  isplitl [H7]
  · iexists f7; isplitr; · ipureintro; rfl
    iexact H7
  isplitl [H8]
  · iexists _; isplitr; swap; · iexact H8
    ipureintro
    refine (View.read_writes_full _ _ _ _ _).trans ?_
    rw [pay12_eq]
    simp only [rd_w, rd_a, rd_s, rd_r]
    rfl
  iexists _; isplitr; swap; · iexact H9
  ipureintro
  refine (View.read_writes_full _ _ _ _ _).trans ?_
  simp only [rd_w, rd_a, rd_s, rd_r]
  rfl

set_option maxHeartbeats 4000000 in
/-- The body at the last point: both results are finished from the running maximum and sum. -/
theorem run_C (c : Dev nD) (i : grid0.Coords) (arg1 : Memref sig .tc .vmem S64x4096 .bf16) (harg1 : arg1.IsWhole) (arg2 : Memref sig .tc .vmem S1280x4096 .i8) (harg2 : arg2.IsWhole) (arg3 : Memref sig .tc .vmem S1280x1 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S25x10x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc1 : ¬ Scalar.cmpi .ne (Scalar.extui (Scalar.cmpi .eq (BitVec.ofNat 32 (i 0).val) 0#32) : BitVec 32) 0#32 = 1#1) (hc2 : k0_cond2 i = 1#1)
    (x0 : Vec F S64x4096 .bf16) (x1 : Vec F S1280x4096 .i8) (x2 : Vec F S1280x1 .f32) (x3 : Vec F S1x64 .f32) (x4 : Vec F S1x64 .f32) (x5 : Vec F S1x64 .f32) (x6 : Vec F S25x10x64 .f32) (x7 : Vec F S1x64 .f32) (x8 : Vec F S1x64 .f32) (x9 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay4 (mx x0 x1 x2 x3 x4 x8) (sm x0 x1 x2 x3 x4 x8 x9) x5 (VecWindow.put x6 (k0_off1 i) S1x10x64.size (pk x0 x1 x2 x3 x4))) ∗ owns (c : Thread nD τ) arg8 fullShare (k0_pay3 (mx x0 x1 x2 x3 x4 x8) (sm x0 x1 x2 x3 x4 x8 x9)) ∗ owns (c : Thread nD τ) arg9 fullShare (mx x0 x1 x2 x3 x4 x8) ∗ owns (c : Thread nD τ) arg10 fullShare (sm x0 x1 x2 x3 x4 x8 x9)) -∗ K ⟨⟩))
      ⊢ wp frame (wpE (defs₀ (F := F)) Variants.none c none) E (cc0_head i arg1 harg1 arg2 harg2 arg3 harg3 arg4 harg4 arg5 harg5 arg6 harg6 arg7 harg7 arg8 harg8 arg9 harg9 arg10 harg10) K := by
  simp only [cc0_head_eq_skeleton]; unfold cc0_head_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | sl_exact hc1 | sl_exact hc2)
  sl_step
  have e8 : View.read (Elt F) arg9.view (arg9.view.writes (Elt F) f8 (run_C.sl.H8_1 c arg1 arg2 arg3 arg4 arg5 arg9 f0 f1 f2 f3 f4 f8)) = (mx (View.read (Elt F) arg1.view f0) (View.read (Elt F) arg2.view f1) (View.read (Elt F) arg3.view f2) (View.read (Elt F) arg4.view f3) (View.read (Elt F) arg5.view f4) (View.read (Elt F) arg9.view f8)) := by
    unfold run_C.sl.H8_1
    refine (View.read_writes_full _ _ _ _ _).trans ?_
    rw [pay12_eq]
    simp only [rd_w, rd_a, rd_s, rd_r]
    rfl
  have e9 : View.read (Elt F) arg10.view (arg10.view.writes (Elt F) f9 (run_C.sl.H9_1 c i arg1 arg2 arg3 arg4 arg5 arg9 arg10 f0 f1 f2 f3 f4 f8 f9)) = (sm (View.read (Elt F) arg1.view f0) (View.read (Elt F) arg2.view f1) (View.read (Elt F) arg3.view f2) (View.read (Elt F) arg4.view f3) (View.read (Elt F) arg5.view f4) (View.read (Elt F) arg9.view f8) (View.read (Elt F) arg10.view f9)) := by
    unfold run_C.sl.H9_1
    refine (View.read_writes_full _ _ _ _ _).trans ?_
    simp only [rd_w, rd_a, rd_s, rd_r]
    rfl
  have e48 : run_C.sl.v48 c arg1 arg2 arg3 arg4 arg5 arg9 f0 f1 f2 f3 f4 f8 = (mx (View.read (Elt F) arg1.view f0) (View.read (Elt F) arg2.view f1) (View.read (Elt F) arg3.view f2) (View.read (Elt F) arg4.view f3) (View.read (Elt F) arg5.view f4) (View.read (Elt F) arg9.view f8)) := by
    unfold run_C.sl.v48 run_C.sl.H8_1
    refine (View.readAt_writes_full _ _ _ _ _ _).trans ?_
    rw [pay12_eq]
    simp only [rd_w, rd_a, rd_s, rd_r]
    rfl
  have e49 : run_C.sl.v49 c i arg1 arg2 arg3 arg4 arg5 arg9 arg10 f0 f1 f2 f3 f4 f8 f9 = (sm (View.read (Elt F) arg1.view f0) (View.read (Elt F) arg2.view f1) (View.read (Elt F) arg3.view f2) (View.read (Elt F) arg4.view f3) (View.read (Elt F) arg5.view f4) (View.read (Elt F) arg9.view f8) (View.read (Elt F) arg10.view f9)) := by
    unfold run_C.sl.v49 run_C.sl.H9_1
    refine (View.readAt_writes_full _ _ _ _ _ _).trans ?_
    simp only [rd_w, rd_a, rd_s, rd_r]
    rfl
  have e61 : run_C.sl.v61 c i arg1 arg2 arg3 arg4 arg5 arg7 f0 f1 f2 f3 f4 f6 = (VecWindow.put (View.read (Elt F) arg7.view f6) (k0_off1 i) S1x10x64.size (pk (View.read (Elt F) arg1.view f0) (View.read (Elt F) arg2.view f1) (View.read (Elt F) arg3.view f2) (View.read (Elt F) arg4.view f3) (View.read (Elt F) arg5.view f4))) := by
    unfold run_C.sl.v61 run_C.sl.H6_1
    rw [rd_g, View.read_writes_cons_put _ _ _ _ _ rfl]
    simp only [rd_w, rd_a, rd_s, rd_r]
    rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    refine (View.read_writes_full _ _ _ _ _).trans ?_
    rw [e48, e49, e61, rd_r]
  isplitl [H7]
  · iexists _; isplitr; swap; · iexact H7
    ipureintro
    refine (View.read_writes_full _ _ _ _ _).trans ?_
    rw [e48, e49]
  isplitl [H8]
  · iexists _; isplitr; swap; · iexact H8
    ipureintro
    exact e8
  iexists _; isplitr; swap; · iexact H9
  ipureintro
  exact e9

end Cert.Head.Hand

end
-- ==== Proof.HeadBodyBits.lean ====
module

public import proofs.«01_k».proof.Proof.HeadRunBits
public import Idealize.ShloMosaic.Lib.Pipeline.DatRel
public import Idealize.ShloMosaic.Lib.Pipeline.ArrRel
public import Idealize.ShloMosaic.Lib.Pointwise
public import Idealize.ShloMosaic.Lib.Claim

@[expose] public section

set_option maxRecDepth 16384

noncomputable section

namespace Cert.Head.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel cellOf)
open Cert.Head Cert.Head.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two results hold at the end -/

/-- Point `n` of the grid. -/
def pt (n : ℕ) : Fin cfg0.N := ⟨n % 25, by rw [show cfg0.N = 25 from N_0]; omega⟩

theorem pt_val (t : Fin cfg0.N) : pt t.val = t :=
  Fin.ext (Nat.mod_eq_of_lt (Nat.lt_of_lt_of_eq t.isLt N_0))

/-- The running maximum before point `n`; the first point starts from its own maximum. -/
def mU (c : Dev nD) : ℕ → Vec F S1x64 .f32
  | 0 => k0_pay8 (iblk m c 1 (pt 0)) (iblk m c 0 (pt 0)) (iblk m c 3 (pt 0)) (iblk m c 2 (pt 0)) (iblk m c 4 (pt 0))
  | n + 1 => mx (iblk m c 0 (pt n)) (iblk m c 1 (pt n)) (iblk m c 2 (pt n)) (iblk m c 3 (pt n)) (iblk m c 4 (pt n)) (mU c n)

/-- The running sum before point `n`. -/
def lU (c : Dev nD) : ℕ → Vec F S1x64 .f32
  | 0 => k0_pay10 (F := F)
  | n + 1 => sm (iblk m c 0 (pt n)) (iblk m c 1 (pt n)) (iblk m c 2 (pt n)) (iblk m c 3 (pt n)) (iblk m c 4 (pt n)) (mU m c n) (lU c n)

/-- The peaks of the point's groups of 128 logits. -/
def pkAt (c : Dev nD) (t : Fin cfg0.N) : FVec F S1x10x64 .f32 := pk (iblk m c 0 t) (iblk m c 1 t) (iblk m c 2 t) (iblk m c 3 t) (iblk m c 4 t)

/-- The peaks of all groups, each as its point stored it. -/
def peaks (c : Dev nD) : Vec F S25x10x64 .f32 := fun y => pkAt m c (pt (y 0).val) (ix3 0 (y 1) (y 2))

/-- The first result. -/
def gmaxH (c : Dev nD) : Vec F S25x10x64 .f32 := k0_pay4 (mU m c 25) (lU m c 25) (iblk m c 5 (pt 24)) (peaks m c)

/-- The second result. -/
def lseH (c : Dev nD) : Vec F S1x64 .f32 := k0_pay3 (mU m c 25) (lU m c 25)

/-- The planes of `X` below `n` are those of `W`. -/
def Upto {α : Type} (W : S25x10x64.Idx → α) (n : ℕ) (X : S25x10x64.Idx → α) : Prop :=
  ∀ y : S25x10x64.Idx, (y 0).val < n → X y = W y

theorem coords_val (t : Fin cfg0.N) : (grid0.coords t 0).val = t.val := by
  have ht : t.val < 25 := Nat.lt_of_lt_of_eq t.isLt N_0
  have e : (grid0.coords t 0).val = t.val / 1 % 25 := Pipeline.Grid.coords_val t 0 (by decide) rfl
  omega

/-- Storing a point's plane extends the finished planes by that plane. -/
theorem upto_put {α : Type} (t : Fin cfg0.N) (B : Fin cfg0.N → S1x10x64.Idx → α) (X : S25x10x64.Idx → α)
    (h : Upto (fun y => B (pt (y 0).val) (ix3 0 (y 1) (y 2))) t.val X) :
    Upto (fun y => B (pt (y 0).val) (ix3 0 (y 1) (y 2))) (t.val + 1)
      (VecWindow.put X (k0_off1 (grid0.coords t)) S1x10x64.size (B t)) := by
  intro y hy
  have hoff : k0_off1 (grid0.coords t) = ![t.val, 0, 0] := by rw [k0_off1_eq, coords_val]
  rw [hoff]
  unfold VecWindow.put
  by_cases hc : (y 0).val < t.val
  · rw [dif_neg (fun hm => by have := (hm 0).1; simp at this; omega)]
    exact h y hc
  · have e : (y 0).val = t.val := by omega
    have hm : ∀ a, (![t.val, 0, 0] : Fin 3 → ℕ) a ≤ (y a).val ∧ (y a).val < (![t.val, 0, 0] : Fin 3 → ℕ) a + S1x10x64.size a := by
      have h1 := (y 1).isLt
      have h2 := (y 2).isLt
      intro a; fin_cases a
      · exact ⟨by show t.val ≤ (y 0).val; omega, by show (y 0).val < t.val + 1; omega⟩
      · exact ⟨Nat.zero_le _, by show (y 1).val < 0 + 10; exact (Nat.zero_add 10).symm ▸ h1⟩
      · exact ⟨Nat.zero_le _, by show (y 2).val < 0 + 64; exact (Nat.zero_add 64).symm ▸ h2⟩
    rw [dif_pos hm]
    show _ = B (pt (y 0).val) _
    rw [e, pt_val]
    congr 1
    funext a
    fin_cases a
    · exact Fin.ext (by show (y 0).val - t.val = 0; omega)
    · exact Fin.ext (by show (y 1).val - 0 = (y 1).val; omega)
    · exact Fin.ext (by show (y 2).val - 0 = (y 2).val; omega)

theorem upto_eq {α : Type} (W X : S25x10x64.Idx → α) (h : Upto W 25 X) : X = W :=
  funext fun y => h y (by have := (y 0).isLt; exact this)

/-- Before the first point nothing is claimed. -/
theorem upto_zero {α : Type} (W X : S25x10x64.Idx → α) : Upto W 0 X := fun y hy => absurd hy (Nat.not_lt_zero _)

/-! ## The proof data -/

/-- The running maximum and sum are set up at the first point only. -/
theorem cond1_iff : ∀ t : Fin cfg0.N, cond1 (grid0.coords t) = 1#1 ↔ t.val = 0 :=
  (fun t => by
    have ht : t.val < 25 := Nat.lt_of_lt_of_eq t.isLt N_0
    have e0 : (grid0.coords t 0).val = t.val / 1 % 25 := Pipeline.Grid.coords_val t 0 (by decide) rfl
    simp only [cond1, e0]
    word_cmp
   : ∀ t : Fin grid0.N, cond1 (grid0.coords t) = 1#1 ↔ t.val = 0)

/-- The results are finished at the last point only. -/
theorem cond2_iff : ∀ t : Fin cfg0.N, k0_cond2 (grid0.coords t) = 1#1 ↔ t.val = 24 :=
  (fun t => by
    have ht : t.val < 25 := Nat.lt_of_lt_of_eq t.isLt N_0
    have e0 : (grid0.coords t 0).val = t.val / 1 % 25 := Pipeline.Grid.coords_val t 0 (by decide) rfl
    simp only [k0_cond2, e0]
    word_cmp
   : ∀ t : Fin grid0.N, k0_cond2 (grid0.coords t) = 1#1 ↔ t.val = 24)

/-- The two outputs are held to a predicate, point by point. -/
def outs : Fin 8 → Bool := fun w => w.val == 6 || w.val == 7

/-- What the body leaves in an output's buffer: the peaks so far, and, at the last point, the results. -/
def Rl (c : Dev nD) : (w : Fin cfg0.W) → Fin cfg0.N → ((cfg0.win w).block.Idx → Elt F (cfg0.win w).elt) → Prop
  | ⟨6, _⟩, t, X => (t.val ≠ 24 → Upto (peaks m c) (t.val + 1) X) ∧ (t.val = 24 → X = gmaxH m c)
  | ⟨7, _⟩, t, X => t.val = 24 → X = lseH m c
  | _, _, _ => True

/-- The scratch operands: the running maximum and the running sum. -/
abbrev scr0 : Memref sig .tc .vmem S1x64 .f32 := Memref.whole cc0_scratch0
abbrev scr1 : Memref sig .tc .vmem S1x64 .f32 := Memref.whole cc0_scratch1

/-- Between points the scratch holds the running maximum and sum. -/
def Track (c : Dev nD) (n : ℕ) : sProp 𝕄 :=
  iprop(iprop((∃ d, ⌜0 < n → d = mU m c n⌝ ∗ owns (c : Thread nD τ) scr0 fullShare d) ∗ (∃ d, ⌜0 < n → d = lU m c n⌝ ∗ owns (c : Thread nD τ) scr1 fullShare d)) ∗ (∃ r, prngReg c r))

theorem PhiA_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

theorem track_in (c : Dev nD) : Pipeline.ΦA spec0 c ⊢ Track (F := F) m c 0 := by
  rw [PhiA_eq]; unfold Track
  iintro ⟨⟨⟨%d, H⟩, ⟨%e, H'⟩⟩, Hg⟩
  isplitl [H H']
  · isplitl [H]
    · iexists d; isplitr; swap; · iexact H
      ipureintro; exact fun h => absurd h (Nat.lt_irrefl 0)
    iexists e; isplitr; swap; · iexact H'
    ipureintro; exact fun h => absurd h (Nat.lt_irrefl 0)
  iexact Hg

theorem track_out (c : Dev nD) (n : ℕ) : Track (F := F) m c n ⊢ Pipeline.ΦA spec0 c := by
  rw [PhiA_eq]; unfold Track
  iintro ⟨⟨⟨%d, %hd, H⟩, ⟨%e, %he, H'⟩⟩, Hg⟩
  isplitl [H H']
  · isplitl [H]
    · iexists d; iexact H
    iexists e; iexact H'
  iexact Hg

/-- The arrays as the region finds them, each input's buffer at its block, nothing owed. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨7, h⟩ => Dat.unnamed (cfg := cfg0) ⟨7, h⟩ t
  Φ t := Track m c t.val
  q _ := fullShare
  owed _ := 0

theorem dat_A (c : Dev nD) (w : Fin cfg0.W) : (dat m c).A w = V m c (Pipeline.arrRef spec0 w) := by dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]

theorem before_0 (c : Dev nD) (t : Fin cfg0.N) (d) : (dat m c).before 0 t d = iblk m c 0 t := before0_0_of m (dat m c) (dat_A m c 0) (after_0 m c) t d
theorem before_1 (c : Dev nD) (t : Fin cfg0.N) (d) : (dat m c).before 1 t d = iblk m c 1 t := before0_1_of m (dat m c) (dat_A m c 1) (after_1 m c) t d
theorem before_2 (c : Dev nD) (t : Fin cfg0.N) (d) : (dat m c).before 2 t d = iblk m c 2 t := before0_2_of m (dat m c) (dat_A m c 2) (after_2 m c) t d
theorem before_3 (c : Dev nD) (t : Fin cfg0.N) (d) : (dat m c).before 3 t d = iblk m c 3 t := before0_3_of m (dat m c) (dat_A m c 3) (after_3 m c) t d
theorem before_4 (c : Dev nD) (t : Fin cfg0.N) (d) : (dat m c).before 4 t d = iblk m c 4 t := before0_4_of m (dat m c) (dat_A m c 4) (after_4 m c) t d
theorem before_5 (c : Dev nD) (t : Fin cfg0.N) (d) : (dat m c).before 5 t d = iblk m c 5 t := before0_5_of m (dat m c) (dat_A m c 5) (after_5 m c) t d

/-- The same data, the outputs held to the predicate. -/
def rdat (c : Dev nD) : Pipeline.RDat τ (Elt F) Unit ℕ (UR sig nD τ) ℕ cfg0 c := (dat m c).toRRel outs (Rl m c)

theorem rdat_after_6 (c : Dev nD) (t : Fin cfg0.N) (X) : (rdat m c).Leaves 6 t X →
    (t.val ≠ 24 → Upto (peaks m c) (t.val + 1) X) ∧ (t.val = 24 → X = gmaxH m c) :=
  fun h => (dat m c).toRRel_leaves (fgt := outs) (Rl := Rl m c) (w := 6) rfl h

theorem rdat_after_7 (c : Dev nD) (t : Fin cfg0.N) (X) : (rdat m c).Leaves 7 t X → t.val = 24 → X = lseH m c :=
  fun h => (dat m c).toRRel_leaves (fgt := outs) (Rl := Rl m c) (w := 7) rfl h

/-- What the body finds in the first output's buffer: the planes of the points before. -/
theorem finds_6 (c : Dev nD) (t : Fin cfg0.N) (X) (h : (rdat m c).Finds 6 t X) : Upto (peaks m c) t.val X := by
  have ht : t.val < 25 := Nat.lt_of_lt_of_eq t.isLt N_0
  by_cases h0 : t.val = 0
  · rw [h0]; exact upto_zero _ _
  · rw [(rdat m c).finds_of_pos (w := 6) rfl h0] at h
    rcases h with h | h
    · have := (flush0_6 _).mp h
      dsimp only at this
      omega
    · have := (rdat_after_6 m c _ X h).1 (by dsimp only; omega)
      rwa [show (⟨t.val - 1, Nat.lt_of_le_of_lt (Nat.sub_le _ _) t.isLt⟩ : Fin cfg0.N).val + 1 = t.val by dsimp only; omega] at this

/-! ## The body obligation -/

def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y))

def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ (∃ X, ⌜Rl m c 6 t X⌝ ∗ owns (c : Thread nD τ) (st0_6 t) fullShare X)
    ∗ (∃ X, ⌜Rl m c 7 t X⌝ ∗ owns (c : Thread nD τ) (st0_7 t) fullShare X))

/-- One point of the running maximum and sum. -/
theorem step_eq (c : Dev nD) (t : Fin cfg0.N) : mU m c (t.val + 1) = mx (iblk m c 0 t) (iblk m c 1 t) (iblk m c 2 t) (iblk m c 3 t) (iblk m c 4 t) (mU m c t.val)
    ∧ lU m c (t.val + 1) = sm (iblk m c 0 t) (iblk m c 1 t) (iblk m c 2 t) (iblk m c 3 t) (iblk m c 4 t) (mU m c t.val) (lU m c t.val) := by
  constructor
  · show mx (iblk m c 0 (pt t.val)) (iblk m c 1 (pt t.val)) (iblk m c 2 (pt t.val)) (iblk m c 3 (pt t.val)) (iblk m c 4 (pt t.val)) (mU m c t.val) = _
    rw [pt_val]
  · show sm (iblk m c 0 (pt t.val)) (iblk m c 1 (pt t.val)) (iblk m c 2 (pt t.val)) (iblk m c 3 (pt t.val)) (iblk m c 4 (pt t.val)) (mU m c t.val) (lU m c t.val) = _
    rw [pt_val]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, after_0, after_1, after_2, after_3, after_4, after_5]
  rw [show (dat m c).Φ t.succ = Track m c (t.val + 1) from rfl, show (dat m c).Φ t.castSucc = Track m c t.val from rfl,
    show (dat m c).owesAt () t.succ = (dat m c).owesAt () t.castSucc from rfl]
  unfold Track
  have hN : t.val < 25 := lt_of_lt_of_eq t.isLt (show cfg0.N = 25 from N_0)
  obtain ⟨e1, e2⟩ := step_eq m c t
  iintro ⟨⟨⟨⟨%d8, %h8, H8⟩, ⟨%d9, %h9, H9⟩⟩, Hg⟩, Ho, ⟨%d0, H0⟩, ⟨%d1, H1⟩, ⟨%d2, H2⟩, ⟨%d3, H3⟩, ⟨%d4, H4⟩, ⟨%d5, H5⟩, ⟨%Y6, %h6, H6⟩, ⟨%Y7, %h7, H7⟩⟩
  have hu : Upto (peaks m c) (t.val + 1) (VecWindow.put Y6 (k0_off1 (grid0.coords t)) S1x10x64.size (pkAt m c t)) :=
    upto_put t (fun t => pkAt m c t) Y6 (finds_6 m c t Y6 h6)
  by_cases h0 : t.val = 0
  · have h24 : t.val ≠ 24 := by omega
    have et : pt 0 = t := by rw [← h0, pt_val]
    have eA : mx (iblk m c 0 t) (iblk m c 1 t) (iblk m c 2 t) (iblk m c 3 t) (iblk m c 4 t) (k0_pay8 (iblk m c 1 t) (iblk m c 0 t) (iblk m c 3 t) (iblk m c 2 t) (iblk m c 4 t)) = mU m c (t.val + 1)
        ∧ sm (iblk m c 0 t) (iblk m c 1 t) (iblk m c 2 t) (iblk m c 3 t) (iblk m c 4 t) (k0_pay8 (iblk m c 1 t) (iblk m c 0 t) (iblk m c 3 t) (iblk m c 2 t) (iblk m c 4 t)) (k0_pay10 (F := F)) = lU m c (t.val + 1) := by
      rw [e1, e2, h0]
      unfold mU lU
      rw [et]
      exact ⟨rfl, rfl⟩
    iapply (run_A c (grid0.coords t) _ _ _ _ _ _ _ _ _ _ _ _ _ _ _ _ _ _ _ _ ((cond1_iff t).mpr h0) (fun h => h24 ((cond2_iff t).mp h)) (iblk m c 0 t) (iblk m c 1 t) (iblk m c 2 t) (iblk m c 3 t) (iblk m c 4 t) (iblk m c 5 t) Y6 Y7 d8 d9 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [H8 H9 Hg]
    · isplitl [H8 H9]
      · isplitl [H8]
        · iexists _; isplitr; swap; · iexact H8
          ipureintro; intro _; exact eA.1
        iexists _; isplitr; swap; · iexact H9
        ipureintro; intro _; exact eA.2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro
      exact ⟨fun _ => hu, fun h => absurd h h24⟩
    iexists _; isplitr; swap; · iexact H7
    ipureintro
    exact fun h => absurd h h24
  · have p : 0 < t.val := Nat.pos_of_ne_zero h0
    have eB : mx (iblk m c 0 t) (iblk m c 1 t) (iblk m c 2 t) (iblk m c 3 t) (iblk m c 4 t) d8 = mU m c (t.val + 1) ∧ sm (iblk m c 0 t) (iblk m c 1 t) (iblk m c 2 t) (iblk m c 3 t) (iblk m c 4 t) d8 d9 = lU m c (t.val + 1) := by
      rw [e1, e2, h8 p, h9 p]
      exact ⟨rfl, rfl⟩
    by_cases h24 : t.val = 24
    · have hp := upto_eq _ _ ((show t.val + 1 = 25 by omega) ▸ hu)
      have et : pt 24 = t := by rw [← h24, pt_val]
      have eC : k0_pay4 (mx (iblk m c 0 t) (iblk m c 1 t) (iblk m c 2 t) (iblk m c 3 t) (iblk m c 4 t) d8) (sm (iblk m c 0 t) (iblk m c 1 t) (iblk m c 2 t) (iblk m c 3 t) (iblk m c 4 t) d8 d9) (iblk m c 5 t) (VecWindow.put Y6 (k0_off1 (grid0.coords t)) S1x10x64.size (pkAt m c t)) = gmaxH m c := by
        rw [eB.1, eB.2, hp, h24]
        unfold gmaxH
        rw [et]
      have eD : k0_pay3 (mx (iblk m c 0 t) (iblk m c 1 t) (iblk m c 2 t) (iblk m c 3 t) (iblk m c 4 t) d8) (sm (iblk m c 0 t) (iblk m c 1 t) (iblk m c 2 t) (iblk m c 3 t) (iblk m c 4 t) d8 d9) = lseH m c := by
        rw [eB.1, eB.2, h24]
        rfl
      iapply (run_C c (grid0.coords t) _ _ _ _ _ _ _ _ _ _ _ _ _ _ _ _ _ _ _ _ (fun h => h0 ((cond1_iff t).mp h)) ((cond2_iff t).mpr h24) (iblk m c 0 t) (iblk m c 1 t) (iblk m c 2 t) (iblk m c 3 t) (iblk m c 4 t) (iblk m c 5 t) Y6 Y7 d8 d9 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iintro ⟨H0, H1, H2, H3, H4, H5, H6, H7, H8, H9⟩
      isplitl [H8 H9 Hg]
      · isplitl [H8 H9]
        · isplitl [H8]
          · iexists _; isplitr; swap; · iexact H8
            ipureintro; intro _; exact eB.1
          iexists _; isplitr; swap; · iexact H9
          ipureintro; intro _; exact eB.2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _; isplitr; swap; · iexact H6
        ipureintro
        exact ⟨fun h => absurd h24 h, fun _ => eC⟩
      iexists _; isplitr; swap; · iexact H7
      ipureintro
      exact fun _ => eD
    · iapply (run_B c (grid0.coords t) _ _ _ _ _ _ _ _ _ _ _ _ _ _ _ _ _ _ _ _ (fun h => h0 ((cond1_iff t).mp h)) (fun h => h24 ((cond2_iff t).mp h)) (iblk m c 0 t) (iblk m c 1 t) (iblk m c 2 t) (iblk m c 3 t) (iblk m c 4 t) (iblk m c 5 t) Y6 Y7 d8 d9 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iintro ⟨H0, H1, H2, H3, H4, H5, H6, H7, H8, H9⟩
      isplitl [H8 H9 Hg]
      · isplitl [H8 H9]
        · isplitl [H8]
          · iexists _; isplitr; swap; · iexact H8
            ipureintro; intro _; exact eB.1
          iexists _; isplitr; swap; · iexact H9
          ipureintro; intro _; exact eB.2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _; isplitr; swap; · iexact H6
        ipureintro
        exact ⟨fun _ => hu, fun h => absurd h h24⟩
      iexists _; isplitr; swap; · iexact H7
      ipureintro
      exact fun h => absurd h h24

theorem defs₀_row (t : Fin cfg0.N) :
    defs₀ (F := F) .tc cfg0.body (cfg0.bodyArgs t (cfg0.slots t)) = bodyAt0 t := by
  unfold defs₀; rw [Defs.onTc_tc]

/-- The body does what the proof data say, at every point. -/
theorem body_obligation (c : Dev nD) : BodyObligationRel (dat (F := F) m c) (defs₀ (F := F)) Variants.none () Set.univ outs (Rl m c) := fun t => by
  rw [bigSep_W0, bigSep_W0, defs₀_row]
  exact triple_restated (sound_body m c t) rfl .rfl fun _ => .rfl

/-! ## The run -/

set_option backward.isDefEq.respectTransparency.types false in
/-- Every run ends with the pipeline's arrays as the proof data say and every semaphore counter at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dat m c).share_full fun _ => rfl)
    (howed := fun _ _ => rfl) (V := V m) (hmain := hmain m Variants.none) (hA := dat_A m)
    (hin := fun c => track_in m c) (hout := fun c => track_out m c _)

/-- The argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 0 rfl).trans ((dat_A m c 0).trans (V_main_arg0 m c)),
      (Pipeline.RDat.FramePost.arr_in h.1 c 1 rfl).trans ((dat_A m c 1).trans (V_main_arg1 m c)),
      (Pipeline.RDat.FramePost.arr_in h.1 c 2 rfl).trans ((dat_A m c 2).trans (V_main_arg2 m c)),
      (Pipeline.RDat.FramePost.arr_in h.1 c 3 rfl).trans ((dat_A m c 3).trans (V_main_arg3 m c)),
      (Pipeline.RDat.FramePost.arr_in h.1 c 4 rfl).trans ((dat_A m c 4).trans (V_main_arg4 m c)),
      (Pipeline.RDat.FramePost.arr_in h.1 c 5 rfl).trans ((dat_A m c 5).trans (V_main_arg5 m c))⟩, h.2⟩) (run_main m ρ)

/-- The first result. -/
theorem out_0 {r} (h : Pipeline.RDat.FramePost (cfgs 0) (fun c => rdat m c) (V m) r) (c : Dev nD) :
    r.2.mem ((c.tc : Thread nD τ).loc main_v0_0) = gmaxH m c := by
  have hW : (cfg0.win 6).WholeAt ⟨24, by decide⟩ := by decide +kernel
  obtain ⟨X, hX, hG⟩ := Pipeline.RDat.ArrAt.emb_eq_of_wholeAt ((h c).1 6) hW
  have hu := (rdat_after_6 m c _ X hX).2 rfl
  funext j
  exact (hG j).trans (congrFun hu j)

/-- The second result. -/
theorem out_1 {r} (h : Pipeline.RDat.FramePost (cfgs 0) (fun c => rdat m c) (V m) r) (c : Dev nD) :
    r.2.mem ((c.tc : Thread nD τ).loc main_v0_1) = lseH m c := by
  have hW : (cfg0.win 7).WholeAt ⟨24, by decide⟩ := by decide +kernel
  obtain ⟨X, hX, hG⟩ := Pipeline.RDat.ArrAt.emb_eq_of_wholeAt ((h c).1 7) hW
  have hu := rdat_after_7 m c _ X hX rfl
  funext j
  exact (hG j).trans (congrFun hu j)

end Cert.Head.Hand

end
-- ==== Proof.HeadRun.lean ====
module

public import proofs.«01_k».proof.Proof.Gen.HeadIdeal.Skeleton
public import proofs.«01_k».proof.Proof.Gen.HeadIdeal.Frame
public import Idealize.ShloMosaic.Lib.VecWindow
public import Idealize.ShloMosaic.Lib.Pipeline.Value
public import Idealize.ShloMosaic.Lib.Tactic

@[expose] public section

set_option maxRecDepth 65536

noncomputable section

namespace Cert.HeadIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.HeadIdeal Cert.HeadIdeal.Gen

variable {F : FTy → Type} [FloatOps F]

local notation "𝕄" => MT nD τ sig Unit (Elt F) ℕ (UR sig nD τ) ℕ

/-- The peaks of the point's groups of 128 logits. -/
def pk (x0 : Vec F S64x4096 .bf16) (x1 : Vec F S1280x4096 .i8) (x2 : Vec F S1280x1 .f32) (x3 : Vec F S1x64 .f32) (x4 : Vec F S1x64 .f32) : FVec F S1x10x64 .f32 := k0_pay6 x1 x0 x3 x2 x4

/-- The running maximum after the point, from the one before it. -/
def mx (x0 : Vec F S64x4096 .bf16) (x1 : Vec F S1280x4096 .i8) (x2 : Vec F S1280x1 .f32) (x3 : Vec F S1x64 .f32) (x4 : Vec F S1x64 .f32) (v : Vec F S1x64 .f32) : FVec F S1x64 .f32 := k0_pay11 x1 x0 x3 x2 x4 v

/-- The running sum after the point, from the running maximum and sum before it. -/
def sm (x0 : Vec F S64x4096 .bf16) (x1 : Vec F S1280x4096 .i8) (x2 : Vec F S1280x1 .f32) (x3 : Vec F S1x64 .f32) (x4 : Vec F S1x64 .f32) (v l : Vec F S1x64 .f32) : FVec F S1x64 .f32 :=
  k0_pay1 (k0_pay7 x1 x0 x3 x2 x4) v (k0_pay11 x1 x0 x3 x2 x4 v) l

/-- A load of a whole buffer reads its contents. -/
theorem rd_w (v : View sig .tc .vmem S1280x4096 .i8) (f : v.ty.Contents (Elt F)) (h) :
    v.readAt (Elt F) (Rect.unit (s := S1280x4096) ![0, 0] ![1280, 4096] h).toLoadRect f = v.read (Elt F) f := View.readAt_full v f h
theorem rd_a (v : View sig .tc .vmem S64x4096 .bf16) (f : v.ty.Contents (Elt F)) (h) :
    v.readAt (Elt F) (Rect.unit (s := S64x4096) ![0, 0] ![64, 4096] h).toLoadRect f = v.read (Elt F) f := View.readAt_full v f h
theorem rd_s (v : View sig .tc .vmem S1280x1 .f32) (f : v.ty.Contents (Elt F)) (h) :
    v.readAt (Elt F) (Rect.unit (s := S1280x1) ![0, 0] ![1280, 1] h).toLoadRect f = v.read (Elt F) f := View.readAt_full v f h
theorem rd_r (v : View sig .tc .vmem S1x64 .f32) (f : v.ty.Contents (Elt F)) (h) :
    v.readAt (Elt F) (Rect.unit (s := S1x64) ![0, 0] ![1, 64] h).toLoadRect f = v.read (Elt F) f := View.readAt_full v f h
theorem rd_g (v : View sig .tc .vmem S25x10x64 .f32) (f : v.ty.Contents (Elt F)) (h) :
    v.readAt (Elt F) (Rect.unit (s := S25x10x64) ![0, 0, 0] ![25, 10, 64] h).toLoadRect f = v.read (Elt F) f := View.readAt_full v f h

/-- Storing a row reshapes it to its own shape. -/
theorem pay9_eq (v0 : Vec F S1280x4096 .i8) (v2 : Vec F S64x4096 .bf16) (v4 : Vec F S1x64 .f32) (v7 : Vec F S1280x1 .f32) (v10 : Vec F S1x64 .f32) :
    k0_pay9 v0 v2 v4 v7 v10 = k0_pay8 v0 v2 v4 v7 v10 := by
  unfold k0_pay9
  exact shapeCast_self _ _

theorem pay12_eq (v0 : Vec F S1280x4096 .i8) (v2 : Vec F S64x4096 .bf16) (v4 : Vec F S1x64 .f32) (v7 : Vec F S1280x1 .f32) (v10 v27 : Vec F S1x64 .f32) :
    k0_pay12 v0 v2 v4 v7 v10 v27 = k0_pay11 v0 v2 v4 v7 v10 v27 := by
  unfold k0_pay12
  exact shapeCast_self _ _

/-- The condition under which the body sets the running maximum and sum up. -/
def cond1 (i : grid0.Coords) : BitVec 1 := Scalar.cmpi .ne (Scalar.extui (Scalar.cmpi .eq (BitVec.ofNat 32 (i 0).val) 0#32) : BitVec 32) 0#32

set_option maxHeartbeats 4000000 in
/-- The body at the first point: the running maximum and sum start from the point itself. -/
theorem run_A (c : Dev nD) (i : grid0.Coords) (arg1 : Memref sig .tc .vmem S64x4096 .bf16) (harg1 : arg1.IsWhole) (arg2 : Memref sig .tc .vmem S1280x4096 .i8) (harg2 : arg2.IsWhole) (arg3 : Memref sig .tc .vmem S1280x1 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S25x10x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc1 : Scalar.cmpi .ne (Scalar.extui (Scalar.cmpi .eq (BitVec.ofNat 32 (i 0).val) 0#32) : BitVec 32) 0#32 = 1#1) (hc2 : ¬ k0_cond2 i = 1#1)
    (x0 : Vec F S64x4096 .bf16) (x1 : Vec F S1280x4096 .i8) (x2 : Vec F S1280x1 .f32) (x3 : Vec F S1x64 .f32) (x4 : Vec F S1x64 .f32) (x5 : Vec F S1x64 .f32) (x6 : Vec F S25x10x64 .f32) (x7 : Vec F S1x64 .f32) (x8 : Vec F S1x64 .f32) (x9 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (VecWindow.put x6 (k0_off1 i) S1x10x64.size (pk x0 x1 x2 x3 x4)) ∗ owns (c : Thread nD τ) arg8 fullShare x7 ∗ owns (c : Thread nD τ) arg9 fullShare (mx x0 x1 x2 x3 x4 (k0_pay8 x1 x0 x3 x2 x4)) ∗ owns (c : Thread nD τ) arg10 fullShare (sm x0 x1 x2 x3 x4 (k0_pay8 x1 x0 x3 x2 x4) (k0_pay10 (F := F)))) -∗ K ⟨⟩))
      ⊢ wp frame (wpE (defs₀ (F := F)) Variants.none c none) E (cc0_head i arg1 harg1 arg2 harg2 arg3 harg3 arg4 harg4 arg5 harg5 arg6 harg6 arg7 harg7 arg8 harg8 arg9 harg9 arg10 harg10) K := by
  simp only [cc0_head_eq_skeleton]; unfold cc0_head_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | sl_exact hc1 | sl_exact hc2)
  sl_step
  have e27 : run_A.sl.v27 c arg1 arg2 arg3 arg4 arg5 arg9 f0 f1 f2 f3 f4 = (k0_pay8 (View.read (Elt F) arg2.view f1) (View.read (Elt F) arg1.view f0) (View.read (Elt F) arg4.view f3) (View.read (Elt F) arg3.view f2) (View.read (Elt F) arg5.view f4)) := by
    unfold run_A.sl.v27
    refine (View.readAt_writes_full _ _ _ _ _ _).trans ?_
    rw [pay9_eq]
    rw [rd_w, rd_a, rd_s, rd_r, rd_r]
  have e32 : run_A.sl.v32 c arg10 = (k0_pay10 (F := F)) := by
    unfold run_A.sl.v32
    exact View.readAt_writes_full _ _ _ _ _ _
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    rw [View.read_writes_cons_put _ _ _ _ _ rfl]
    rw [rd_w, rd_a, rd_s, rd_r, rd_r]
    rfl
  isplitl [H7]
  · iexists f7; isplitr; · ipureintro; rfl
    iexact H7
  isplitl [H8]
  · iexists _; isplitr; swap; · iexact H8
    ipureintro
    refine (View.read_writes_full _ _ _ _ _).trans ?_
    rw [pay12_eq, e27]
    rw [rd_w, rd_a, rd_s, rd_r, rd_r]
    rfl
  iexists _; isplitr; swap; · iexact H9
  ipureintro
  refine (View.read_writes_full _ _ _ _ _).trans ?_
  rw [e32, e27]
  rw [rd_w, rd_a, rd_s, rd_r, rd_r]
  rfl

set_option maxHeartbeats 4000000 in
/-- The body at a point in between: the running maximum and sum go on. -/
theorem run_B (c : Dev nD) (i : grid0.Coords) (arg1 : Memref sig .tc .vmem S64x4096 .bf16) (harg1 : arg1.IsWhole) (arg2 : Memref sig .tc .vmem S1280x4096 .i8) (harg2 : arg2.IsWhole) (arg3 : Memref sig .tc .vmem S1280x1 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S25x10x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc1 : ¬ Scalar.cmpi .ne (Scalar.extui (Scalar.cmpi .eq (BitVec.ofNat 32 (i 0).val) 0#32) : BitVec 32) 0#32 = 1#1) (hc2 : ¬ k0_cond2 i = 1#1)
    (x0 : Vec F S64x4096 .bf16) (x1 : Vec F S1280x4096 .i8) (x2 : Vec F S1280x1 .f32) (x3 : Vec F S1x64 .f32) (x4 : Vec F S1x64 .f32) (x5 : Vec F S1x64 .f32) (x6 : Vec F S25x10x64 .f32) (x7 : Vec F S1x64 .f32) (x8 : Vec F S1x64 .f32) (x9 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (VecWindow.put x6 (k0_off1 i) S1x10x64.size (pk x0 x1 x2 x3 x4)) ∗ owns (c : Thread nD τ) arg8 fullShare x7 ∗ owns (c : Thread nD τ) arg9 fullShare (mx x0 x1 x2 x3 x4 x8) ∗ owns (c : Thread nD τ) arg10 fullShare (sm x0 x1 x2 x3 x4 x8 x9)) -∗ K ⟨⟩))
      ⊢ wp frame (wpE (defs₀ (F := F)) Variants.none c none) E (cc0_head i arg1 harg1 arg2 harg2 arg3 harg3 arg4 harg4 arg5 harg5 arg6 harg6 arg7 harg7 arg8 harg8 arg9 harg9 arg10 harg10) K := by
  simp only [cc0_head_eq_skeleton]; unfold cc0_head_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    rw [View.read_writes_cons_put _ _ _ _ _ rfl]
    simp only [rd_w, rd_a, rd_s, rd_r]
    rfl
  isplitl [H7]
  · iexists f7; isplitr; · ipureintro; rfl
    iexact H7
  isplitl [H8]
  · iexists _; isplitr; swap; · iexact H8
    ipureintro
    refine (View.read_writes_full _ _ _ _ _).trans ?_
    rw [pay12_eq]
    simp only [rd_w, rd_a, rd_s, rd_r]
    rfl
  iexists _; isplitr; swap; · iexact H9
  ipureintro
  refine (View.read_writes_full _ _ _ _ _).trans ?_
  simp only [rd_w, rd_a, rd_s, rd_r]
  rfl

set_option maxHeartbeats 4000000 in
/-- The body at the last point: both results are finished from the running maximum and sum. -/
theorem run_C (c : Dev nD) (i : grid0.Coords) (arg1 : Memref sig .tc .vmem S64x4096 .bf16) (harg1 : arg1.IsWhole) (arg2 : Memref sig .tc .vmem S1280x4096 .i8) (harg2 : arg2.IsWhole) (arg3 : Memref sig .tc .vmem S1280x1 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S25x10x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc1 : ¬ Scalar.cmpi .ne (Scalar.extui (Scalar.cmpi .eq (BitVec.ofNat 32 (i 0).val) 0#32) : BitVec 32) 0#32 = 1#1) (hc2 : k0_cond2 i = 1#1)
    (x0 : Vec F S64x4096 .bf16) (x1 : Vec F S1280x4096 .i8) (x2 : Vec F S1280x1 .f32) (x3 : Vec F S1x64 .f32) (x4 : Vec F S1x64 .f32) (x5 : Vec F S1x64 .f32) (x6 : Vec F S25x10x64 .f32) (x7 : Vec F S1x64 .f32) (x8 : Vec F S1x64 .f32) (x9 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay4 (mx x0 x1 x2 x3 x4 x8) (sm x0 x1 x2 x3 x4 x8 x9) x5 (VecWindow.put x6 (k0_off1 i) S1x10x64.size (pk x0 x1 x2 x3 x4))) ∗ owns (c : Thread nD τ) arg8 fullShare (k0_pay3 (mx x0 x1 x2 x3 x4 x8) (sm x0 x1 x2 x3 x4 x8 x9)) ∗ owns (c : Thread nD τ) arg9 fullShare (mx x0 x1 x2 x3 x4 x8) ∗ owns (c : Thread nD τ) arg10 fullShare (sm x0 x1 x2 x3 x4 x8 x9)) -∗ K ⟨⟩))
      ⊢ wp frame (wpE (defs₀ (F := F)) Variants.none c none) E (cc0_head i arg1 harg1 arg2 harg2 arg3 harg3 arg4 harg4 arg5 harg5 arg6 harg6 arg7 harg7 arg8 harg8 arg9 harg9 arg10 harg10) K := by
  simp only [cc0_head_eq_skeleton]; unfold cc0_head_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | sl_exact hc1 | sl_exact hc2)
  sl_step
  have e8 : View.read (Elt F) arg9.view (arg9.view.writes (Elt F) f8 (run_C.sl.H8_1 c arg1 arg2 arg3 arg4 arg5 arg9 f0 f1 f2 f3 f4 f8)) = (mx (View.read (Elt F) arg1.view f0) (View.read (Elt F) arg2.view f1) (View.read (Elt F) arg3.view f2) (View.read (Elt F) arg4.view f3) (View.read (Elt F) arg5.view f4) (View.read (Elt F) arg9.view f8)) := by
    unfold run_C.sl.H8_1
    refine (View.read_writes_full _ _ _ _ _).trans ?_
    rw [pay12_eq]
    simp only [rd_w, rd_a, rd_s, rd_r]
    rfl
  have e9 : View.read (Elt F) arg10.view (arg10.view.writes (Elt F) f9 (run_C.sl.H9_1 c i arg1 arg2 arg3 arg4 arg5 arg9 arg10 f0 f1 f2 f3 f4 f8 f9)) = (sm (View.read (Elt F) arg1.view f0) (View.read (Elt F) arg2.view f1) (View.read (Elt F) arg3.view f2) (View.read (Elt F) arg4.view f3) (View.read (Elt F) arg5.view f4) (View.read (Elt F) arg9.view f8) (View.read (Elt F) arg10.view f9)) := by
    unfold run_C.sl.H9_1
    refine (View.read_writes_full _ _ _ _ _).trans ?_
    simp only [rd_w, rd_a, rd_s, rd_r]
    rfl
  have e48 : run_C.sl.v48 c arg1 arg2 arg3 arg4 arg5 arg9 f0 f1 f2 f3 f4 f8 = (mx (View.read (Elt F) arg1.view f0) (View.read (Elt F) arg2.view f1) (View.read (Elt F) arg3.view f2) (View.read (Elt F) arg4.view f3) (View.read (Elt F) arg5.view f4) (View.read (Elt F) arg9.view f8)) := by
    unfold run_C.sl.v48 run_C.sl.H8_1
    refine (View.readAt_writes_full _ _ _ _ _ _).trans ?_
    rw [pay12_eq]
    simp only [rd_w, rd_a, rd_s, rd_r]
    rfl
  have e49 : run_C.sl.v49 c i arg1 arg2 arg3 arg4 arg5 arg9 arg10 f0 f1 f2 f3 f4 f8 f9 = (sm (View.read (Elt F) arg1.view f0) (View.read (Elt F) arg2.view f1) (View.read (Elt F) arg3.view f2) (View.read (Elt F) arg4.view f3) (View.read (Elt F) arg5.view f4) (View.read (Elt F) arg9.view f8) (View.read (Elt F) arg10.view f9)) := by
    unfold run_C.sl.v49 run_C.sl.H9_1
    refine (View.readAt_writes_full _ _ _ _ _ _).trans ?_
    simp only [rd_w, rd_a, rd_s, rd_r]
    rfl
  have e61 : run_C.sl.v61 c i arg1 arg2 arg3 arg4 arg5 arg7 f0 f1 f2 f3 f4 f6 = (VecWindow.put (View.read (Elt F) arg7.view f6) (k0_off1 i) S1x10x64.size (pk (View.read (Elt F) arg1.view f0) (View.read (Elt F) arg2.view f1) (View.read (Elt F) arg3.view f2) (View.read (Elt F) arg4.view f3) (View.read (Elt F) arg5.view f4))) := by
    unfold run_C.sl.v61 run_C.sl.H6_1
    rw [rd_g, View.read_writes_cons_put _ _ _ _ _ rfl]
    simp only [rd_w, rd_a, rd_s, rd_r]
    rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    refine (View.read_writes_full _ _ _ _ _).trans ?_
    rw [e48, e49, e61, rd_r]
  isplitl [H7]
  · iexists _; isplitr; swap; · iexact H7
    ipureintro
    refine (View.read_writes_full _ _ _ _ _).trans ?_
    rw [e48, e49]
  isplitl [H8]
  · iexists _; isplitr; swap; · iexact H8
    ipureintro
    exact e8
  iexists _; isplitr; swap; · iexact H9
  ipureintro
  exact e9

end Cert.HeadIdeal.Hand

end
-- ==== Proof.HeadBody.lean ====
module

public import proofs.«01_k».proof.Proof.HeadRun
public import Idealize.ShloMosaic.Lib.Pipeline.DatRel
public import Idealize.ShloMosaic.Lib.Pipeline.ArrRel
public import Idealize.ShloMosaic.Lib.Pointwise
public import Idealize.ShloMosaic.Lib.Claim

@[expose] public section

set_option maxRecDepth 16384

noncomputable section

namespace Cert.HeadIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel cellOf)
open Cert.HeadIdeal Cert.HeadIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two results hold at the end -/

/-- Point `n` of the grid. -/
def pt (n : ℕ) : Fin cfg0.N := ⟨n % 25, by rw [show cfg0.N = 25 from N_0]; omega⟩

theorem pt_val (t : Fin cfg0.N) : pt t.val = t :=
  Fin.ext (Nat.mod_eq_of_lt (Nat.lt_of_lt_of_eq t.isLt N_0))

/-- The running maximum before point `n`; the first point starts from its own maximum. -/
def mU (c : Dev nD) : ℕ → Vec F S1x64 .f32
  | 0 => k0_pay8 (iblk m c 1 (pt 0)) (iblk m c 0 (pt 0)) (iblk m c 3 (pt 0)) (iblk m c 2 (pt 0)) (iblk m c 4 (pt 0))
  | n + 1 => mx (iblk m c 0 (pt n)) (iblk m c 1 (pt n)) (iblk m c 2 (pt n)) (iblk m c 3 (pt n)) (iblk m c 4 (pt n)) (mU c n)

/-- The running sum before point `n`. -/
def lU (c : Dev nD) : ℕ → Vec F S1x64 .f32
  | 0 => k0_pay10 (F := F)
  | n + 1 => sm (iblk m c 0 (pt n)) (iblk m c 1 (pt n)) (iblk m c 2 (pt n)) (iblk m c 3 (pt n)) (iblk m c 4 (pt n)) (mU m c n) (lU c n)

/-- The peaks of the point's groups of 128 logits. -/
def pkAt (c : Dev nD) (t : Fin cfg0.N) : FVec F S1x10x64 .f32 := pk (iblk m c 0 t) (iblk m c 1 t) (iblk m c 2 t) (iblk m c 3 t) (iblk m c 4 t)

/-- The peaks of all groups, each as its point stored it. -/
def peaks (c : Dev nD) : Vec F S25x10x64 .f32 := fun y => pkAt m c (pt (y 0).val) (ix3 0 (y 1) (y 2))

/-- The first result. -/
def gmaxH (c : Dev nD) : Vec F S25x10x64 .f32 := k0_pay4 (mU m c 25) (lU m c 25) (iblk m c 5 (pt 24)) (peaks m c)

/-- The second result. -/
def lseH (c : Dev nD) : Vec F S1x64 .f32 := k0_pay3 (mU m c 25) (lU m c 25)

/-- The planes of `X` below `n` are those of `W`. -/
def Upto {α : Type} (W : S25x10x64.Idx → α) (n : ℕ) (X : S25x10x64.Idx → α) : Prop :=
  ∀ y : S25x10x64.Idx, (y 0).val < n → X y = W y

theorem coords_val (t : Fin cfg0.N) : (grid0.coords t 0).val = t.val := by
  have ht : t.val < 25 := Nat.lt_of_lt_of_eq t.isLt N_0
  have e : (grid0.coords t 0).val = t.val / 1 % 25 := Pipeline.Grid.coords_val t 0 (by decide) rfl
  omega

/-- Storing a point's plane extends the finished planes by that plane. -/
theorem upto_put {α : Type} (t : Fin cfg0.N) (B : Fin cfg0.N → S1x10x64.Idx → α) (X : S25x10x64.Idx → α)
    (h : Upto (fun y => B (pt (y 0).val) (ix3 0 (y 1) (y 2))) t.val X) :
    Upto (fun y => B (pt (y 0).val) (ix3 0 (y 1) (y 2))) (t.val + 1)
      (VecWindow.put X (k0_off1 (grid0.coords t)) S1x10x64.size (B t)) := by
  intro y hy
  have hoff : k0_off1 (grid0.coords t) = ![t.val, 0, 0] := by rw [k0_off1_eq, coords_val]
  rw [hoff]
  unfold VecWindow.put
  by_cases hc : (y 0).val < t.val
  · rw [dif_neg (fun hm => by have := (hm 0).1; simp at this; omega)]
    exact h y hc
  · have e : (y 0).val = t.val := by omega
    have hm : ∀ a, (![t.val, 0, 0] : Fin 3 → ℕ) a ≤ (y a).val ∧ (y a).val < (![t.val, 0, 0] : Fin 3 → ℕ) a + S1x10x64.size a := by
      have h1 := (y 1).isLt
      have h2 := (y 2).isLt
      intro a; fin_cases a
      · exact ⟨by show t.val ≤ (y 0).val; omega, by show (y 0).val < t.val + 1; omega⟩
      · exact ⟨Nat.zero_le _, by show (y 1).val < 0 + 10; exact (Nat.zero_add 10).symm ▸ h1⟩
      · exact ⟨Nat.zero_le _, by show (y 2).val < 0 + 64; exact (Nat.zero_add 64).symm ▸ h2⟩
    rw [dif_pos hm]
    show _ = B (pt (y 0).val) _
    rw [e, pt_val]
    congr 1
    funext a
    fin_cases a
    · exact Fin.ext (by show (y 0).val - t.val = 0; omega)
    · exact Fin.ext (by show (y 1).val - 0 = (y 1).val; omega)
    · exact Fin.ext (by show (y 2).val - 0 = (y 2).val; omega)

theorem upto_eq {α : Type} (W X : S25x10x64.Idx → α) (h : Upto W 25 X) : X = W :=
  funext fun y => h y (by have := (y 0).isLt; exact this)

/-- Before the first point nothing is claimed. -/
theorem upto_zero {α : Type} (W X : S25x10x64.Idx → α) : Upto W 0 X := fun y hy => absurd hy (Nat.not_lt_zero _)

/-! ## The proof data -/

/-- The running maximum and sum are set up at the first point only. -/
theorem cond1_iff : ∀ t : Fin cfg0.N, cond1 (grid0.coords t) = 1#1 ↔ t.val = 0 :=
  (fun t => by
    have ht : t.val < 25 := Nat.lt_of_lt_of_eq t.isLt N_0
    have e0 : (grid0.coords t 0).val = t.val / 1 % 25 := Pipeline.Grid.coords_val t 0 (by decide) rfl
    simp only [cond1, e0]
    word_cmp
   : ∀ t : Fin grid0.N, cond1 (grid0.coords t) = 1#1 ↔ t.val = 0)

/-- The results are finished at the last point only. -/
theorem cond2_iff : ∀ t : Fin cfg0.N, k0_cond2 (grid0.coords t) = 1#1 ↔ t.val = 24 :=
  (fun t => by
    have ht : t.val < 25 := Nat.lt_of_lt_of_eq t.isLt N_0
    have e0 : (grid0.coords t 0).val = t.val / 1 % 25 := Pipeline.Grid.coords_val t 0 (by decide) rfl
    simp only [k0_cond2, e0]
    word_cmp
   : ∀ t : Fin grid0.N, k0_cond2 (grid0.coords t) = 1#1 ↔ t.val = 24)

/-- The two outputs are held to a predicate, point by point. -/
def outs : Fin 8 → Bool := fun w => w.val == 6 || w.val == 7

/-- What the body leaves in an output's buffer: the peaks so far, and, at the last point, the results. -/
def Rl (c : Dev nD) : (w : Fin cfg0.W) → Fin cfg0.N → ((cfg0.win w).block.Idx → Elt F (cfg0.win w).elt) → Prop
  | ⟨6, _⟩, t, X => (t.val ≠ 24 → Upto (peaks m c) (t.val + 1) X) ∧ (t.val = 24 → X = gmaxH m c)
  | ⟨7, _⟩, t, X => t.val = 24 → X = lseH m c
  | _, _, _ => True

/-- The scratch operands: the running maximum and the running sum. -/
abbrev scr0 : Memref sig .tc .vmem S1x64 .f32 := Memref.whole cc0_scratch0
abbrev scr1 : Memref sig .tc .vmem S1x64 .f32 := Memref.whole cc0_scratch1

/-- Between points the scratch holds the running maximum and sum. -/
def Track (c : Dev nD) (n : ℕ) : sProp 𝕄 :=
  iprop(iprop((∃ d, ⌜0 < n → d = mU m c n⌝ ∗ owns (c : Thread nD τ) scr0 fullShare d) ∗ (∃ d, ⌜0 < n → d = lU m c n⌝ ∗ owns (c : Thread nD τ) scr1 fullShare d)) ∗ (∃ r, prngReg c r))

theorem PhiA_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

theorem track_in (c : Dev nD) : Pipeline.ΦA spec0 c ⊢ Track (F := F) m c 0 := by
  rw [PhiA_eq]; unfold Track
  iintro ⟨⟨⟨%d, H⟩, ⟨%e, H'⟩⟩, Hg⟩
  isplitl [H H']
  · isplitl [H]
    · iexists d; isplitr; swap; · iexact H
      ipureintro; exact fun h => absurd h (Nat.lt_irrefl 0)
    iexists e; isplitr; swap; · iexact H'
    ipureintro; exact fun h => absurd h (Nat.lt_irrefl 0)
  iexact Hg

theorem track_out (c : Dev nD) (n : ℕ) : Track (F := F) m c n ⊢ Pipeline.ΦA spec0 c := by
  rw [PhiA_eq]; unfold Track
  iintro ⟨⟨⟨%d, %hd, H⟩, ⟨%e, %he, H'⟩⟩, Hg⟩
  isplitl [H H']
  · isplitl [H]
    · iexists d; iexact H
    iexists e; iexact H'
  iexact Hg

/-- The arrays as the region finds them, each input's buffer at its block, nothing owed. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨7, h⟩ => Dat.unnamed (cfg := cfg0) ⟨7, h⟩ t
  Φ t := Track m c t.val
  q _ := fullShare
  owed _ := 0

theorem dat_A (c : Dev nD) (w : Fin cfg0.W) : (dat m c).A w = V m c (Pipeline.arrRef spec0 w) := by dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]

theorem before_0 (c : Dev nD) (t : Fin cfg0.N) (d) : (dat m c).before 0 t d = iblk m c 0 t := before0_0_of m (dat m c) (dat_A m c 0) (after_0 m c) t d
theorem before_1 (c : Dev nD) (t : Fin cfg0.N) (d) : (dat m c).before 1 t d = iblk m c 1 t := before0_1_of m (dat m c) (dat_A m c 1) (after_1 m c) t d
theorem before_2 (c : Dev nD) (t : Fin cfg0.N) (d) : (dat m c).before 2 t d = iblk m c 2 t := before0_2_of m (dat m c) (dat_A m c 2) (after_2 m c) t d
theorem before_3 (c : Dev nD) (t : Fin cfg0.N) (d) : (dat m c).before 3 t d = iblk m c 3 t := before0_3_of m (dat m c) (dat_A m c 3) (after_3 m c) t d
theorem before_4 (c : Dev nD) (t : Fin cfg0.N) (d) : (dat m c).before 4 t d = iblk m c 4 t := before0_4_of m (dat m c) (dat_A m c 4) (after_4 m c) t d
theorem before_5 (c : Dev nD) (t : Fin cfg0.N) (d) : (dat m c).before 5 t d = iblk m c 5 t := before0_5_of m (dat m c) (dat_A m c 5) (after_5 m c) t d

/-- The same data, the outputs held to the predicate. -/
def rdat (c : Dev nD) : Pipeline.RDat τ (Elt F) Unit ℕ (UR sig nD τ) ℕ cfg0 c := (dat m c).toRRel outs (Rl m c)

theorem rdat_after_6 (c : Dev nD) (t : Fin cfg0.N) (X) : (rdat m c).Leaves 6 t X →
    (t.val ≠ 24 → Upto (peaks m c) (t.val + 1) X) ∧ (t.val = 24 → X = gmaxH m c) :=
  fun h => (dat m c).toRRel_leaves (fgt := outs) (Rl := Rl m c) (w := 6) rfl h

theorem rdat_after_7 (c : Dev nD) (t : Fin cfg0.N) (X) : (rdat m c).Leaves 7 t X → t.val = 24 → X = lseH m c :=
  fun h => (dat m c).toRRel_leaves (fgt := outs) (Rl := Rl m c) (w := 7) rfl h

/-- What the body finds in the first output's buffer: the planes of the points before. -/
theorem finds_6 (c : Dev nD) (t : Fin cfg0.N) (X) (h : (rdat m c).Finds 6 t X) : Upto (peaks m c) t.val X := by
  have ht : t.val < 25 := Nat.lt_of_lt_of_eq t.isLt N_0
  by_cases h0 : t.val = 0
  · rw [h0]; exact upto_zero _ _
  · rw [(rdat m c).finds_of_pos (w := 6) rfl h0] at h
    rcases h with h | h
    · have := (flush0_6 _).mp h
      dsimp only at this
      omega
    · have := (rdat_after_6 m c _ X h).1 (by dsimp only; omega)
      rwa [show (⟨t.val - 1, Nat.lt_of_le_of_lt (Nat.sub_le _ _) t.isLt⟩ : Fin cfg0.N).val + 1 = t.val by dsimp only; omega] at this

/-! ## The body obligation -/

def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y))

def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ (∃ X, ⌜Rl m c 6 t X⌝ ∗ owns (c : Thread nD τ) (st0_6 t) fullShare X)
    ∗ (∃ X, ⌜Rl m c 7 t X⌝ ∗ owns (c : Thread nD τ) (st0_7 t) fullShare X))

/-- One point of the running maximum and sum. -/
theorem step_eq (c : Dev nD) (t : Fin cfg0.N) : mU m c (t.val + 1) = mx (iblk m c 0 t) (iblk m c 1 t) (iblk m c 2 t) (iblk m c 3 t) (iblk m c 4 t) (mU m c t.val)
    ∧ lU m c (t.val + 1) = sm (iblk m c 0 t) (iblk m c 1 t) (iblk m c 2 t) (iblk m c 3 t) (iblk m c 4 t) (mU m c t.val) (lU m c t.val) := by
  constructor
  · show mx (iblk m c 0 (pt t.val)) (iblk m c 1 (pt t.val)) (iblk m c 2 (pt t.val)) (iblk m c 3 (pt t.val)) (iblk m c 4 (pt t.val)) (mU m c t.val) = _
    rw [pt_val]
  · show sm (iblk m c 0 (pt t.val)) (iblk m c 1 (pt t.val)) (iblk m c 2 (pt t.val)) (iblk m c 3 (pt t.val)) (iblk m c 4 (pt t.val)) (mU m c t.val) (lU m c t.val) = _
    rw [pt_val]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, after_0, after_1, after_2, after_3, after_4, after_5]
  rw [show (dat m c).Φ t.succ = Track m c (t.val + 1) from rfl, show (dat m c).Φ t.castSucc = Track m c t.val from rfl,
    show (dat m c).owesAt () t.succ = (dat m c).owesAt () t.castSucc from rfl]
  unfold Track
  have hN : t.val < 25 := lt_of_lt_of_eq t.isLt (show cfg0.N = 25 from N_0)
  obtain ⟨e1, e2⟩ := step_eq m c t
  iintro ⟨⟨⟨⟨%d8, %h8, H8⟩, ⟨%d9, %h9, H9⟩⟩, Hg⟩, Ho, ⟨%d0, H0⟩, ⟨%d1, H1⟩, ⟨%d2, H2⟩, ⟨%d3, H3⟩, ⟨%d4, H4⟩, ⟨%d5, H5⟩, ⟨%Y6, %h6, H6⟩, ⟨%Y7, %h7, H7⟩⟩
  have hu : Upto (peaks m c) (t.val + 1) (VecWindow.put Y6 (k0_off1 (grid0.coords t)) S1x10x64.size (pkAt m c t)) :=
    upto_put t (fun t => pkAt m c t) Y6 (finds_6 m c t Y6 h6)
  by_cases h0 : t.val = 0
  · have h24 : t.val ≠ 24 := by omega
    have et : pt 0 = t := by rw [← h0, pt_val]
    have eA : mx (iblk m c 0 t) (iblk m c 1 t) (iblk m c 2 t) (iblk m c 3 t) (iblk m c 4 t) (k0_pay8 (iblk m c 1 t) (iblk m c 0 t) (iblk m c 3 t) (iblk m c 2 t) (iblk m c 4 t)) = mU m c (t.val + 1)
        ∧ sm (iblk m c 0 t) (iblk m c 1 t) (iblk m c 2 t) (iblk m c 3 t) (iblk m c 4 t) (k0_pay8 (iblk m c 1 t) (iblk m c 0 t) (iblk m c 3 t) (iblk m c 2 t) (iblk m c 4 t)) (k0_pay10 (F := F)) = lU m c (t.val + 1) := by
      rw [e1, e2, h0]
      unfold mU lU
      rw [et]
      exact ⟨rfl, rfl⟩
    iapply (run_A c (grid0.coords t) _ _ _ _ _ _ _ _ _ _ _ _ _ _ _ _ _ _ _ _ ((cond1_iff t).mpr h0) (fun h => h24 ((cond2_iff t).mp h)) (iblk m c 0 t) (iblk m c 1 t) (iblk m c 2 t) (iblk m c 3 t) (iblk m c 4 t) (iblk m c 5 t) Y6 Y7 d8 d9 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [H8 H9 Hg]
    · isplitl [H8 H9]
      · isplitl [H8]
        · iexists _; isplitr; swap; · iexact H8
          ipureintro; intro _; exact eA.1
        iexists _; isplitr; swap; · iexact H9
        ipureintro; intro _; exact eA.2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro
      exact ⟨fun _ => hu, fun h => absurd h h24⟩
    iexists _; isplitr; swap; · iexact H7
    ipureintro
    exact fun h => absurd h h24
  · have p : 0 < t.val := Nat.pos_of_ne_zero h0
    have eB : mx (iblk m c 0 t) (iblk m c 1 t) (iblk m c 2 t) (iblk m c 3 t) (iblk m c 4 t) d8 = mU m c (t.val + 1) ∧ sm (iblk m c 0 t) (iblk m c 1 t) (iblk m c 2 t) (iblk m c 3 t) (iblk m c 4 t) d8 d9 = lU m c (t.val + 1) := by
      rw [e1, e2, h8 p, h9 p]
      exact ⟨rfl, rfl⟩
    by_cases h24 : t.val = 24
    · have hp := upto_eq _ _ ((show t.val + 1 = 25 by omega) ▸ hu)
      have et : pt 24 = t := by rw [← h24, pt_val]
      have eC : k0_pay4 (mx (iblk m c 0 t) (iblk m c 1 t) (iblk m c 2 t) (iblk m c 3 t) (iblk m c 4 t) d8) (sm (iblk m c 0 t) (iblk m c 1 t) (iblk m c 2 t) (iblk m c 3 t) (iblk m c 4 t) d8 d9) (iblk m c 5 t) (VecWindow.put Y6 (k0_off1 (grid0.coords t)) S1x10x64.size (pkAt m c t)) = gmaxH m c := by
        rw [eB.1, eB.2, hp, h24]
        unfold gmaxH
        rw [et]
      have eD : k0_pay3 (mx (iblk m c 0 t) (iblk m c 1 t) (iblk m c 2 t) (iblk m c 3 t) (iblk m c 4 t) d8) (sm (iblk m c 0 t) (iblk m c 1 t) (iblk m c 2 t) (iblk m c 3 t) (iblk m c 4 t) d8 d9) = lseH m c := by
        rw [eB.1, eB.2, h24]
        rfl
      iapply (run_C c (grid0.coords t) _ _ _ _ _ _ _ _ _ _ _ _ _ _ _ _ _ _ _ _ (fun h => h0 ((cond1_iff t).mp h)) ((cond2_iff t).mpr h24) (iblk m c 0 t) (iblk m c 1 t) (iblk m c 2 t) (iblk m c 3 t) (iblk m c 4 t) (iblk m c 5 t) Y6 Y7 d8 d9 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iintro ⟨H0, H1, H2, H3, H4, H5, H6, H7, H8, H9⟩
      isplitl [H8 H9 Hg]
      · isplitl [H8 H9]
        · isplitl [H8]
          · iexists _; isplitr; swap; · iexact H8
            ipureintro; intro _; exact eB.1
          iexists _; isplitr; swap; · iexact H9
          ipureintro; intro _; exact eB.2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _; isplitr; swap; · iexact H6
        ipureintro
        exact ⟨fun h => absurd h24 h, fun _ => eC⟩
      iexists _; isplitr; swap; · iexact H7
      ipureintro
      exact fun _ => eD
    · iapply (run_B c (grid0.coords t) _ _ _ _ _ _ _ _ _ _ _ _ _ _ _ _ _ _ _ _ (fun h => h0 ((cond1_iff t).mp h)) (fun h => h24 ((cond2_iff t).mp h)) (iblk m c 0 t) (iblk m c 1 t) (iblk m c 2 t) (iblk m c 3 t) (iblk m c 4 t) (iblk m c 5 t) Y6 Y7 d8 d9 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iintro ⟨H0, H1, H2, H3, H4, H5, H6, H7, H8, H9⟩
      isplitl [H8 H9 Hg]
      · isplitl [H8 H9]
        · isplitl [H8]
          · iexists _; isplitr; swap; · iexact H8
            ipureintro; intro _; exact eB.1
          iexists _; isplitr; swap; · iexact H9
          ipureintro; intro _; exact eB.2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _; isplitr; swap; · iexact H6
        ipureintro
        exact ⟨fun _ => hu, fun h => absurd h h24⟩
      iexists _; isplitr; swap; · iexact H7
      ipureintro
      exact fun h => absurd h h24

theorem defs₀_row (t : Fin cfg0.N) :
    defs₀ (F := F) .tc cfg0.body (cfg0.bodyArgs t (cfg0.slots t)) = bodyAt0 t := by
  unfold defs₀; rw [Defs.onTc_tc]

/-- The body does what the proof data say, at every point. -/
theorem body_obligation (c : Dev nD) : BodyObligationRel (dat (F := F) m c) (defs₀ (F := F)) Variants.none () Set.univ outs (Rl m c) := fun t => by
  rw [bigSep_W0, bigSep_W0, defs₀_row]
  exact triple_restated (sound_body m c t) rfl .rfl fun _ => .rfl

/-! ## The run -/

set_option backward.isDefEq.respectTransparency.types false in
/-- Every run ends with the pipeline's arrays as the proof data say and every semaphore counter at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dat m c).share_full fun _ => rfl)
    (howed := fun _ _ => rfl) (V := V m) (hmain := hmain m Variants.none) (hA := dat_A m)
    (hin := fun c => track_in m c) (hout := fun c => track_out m c _)

/-- The argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 0 rfl).trans ((dat_A m c 0).trans (V_main_arg0 m c)),
      (Pipeline.RDat.FramePost.arr_in h.1 c 1 rfl).trans ((dat_A m c 1).trans (V_main_arg1 m c)),
      (Pipeline.RDat.FramePost.arr_in h.1 c 2 rfl).trans ((dat_A m c 2).trans (V_main_arg2 m c)),
      (Pipeline.RDat.FramePost.arr_in h.1 c 3 rfl).trans ((dat_A m c 3).trans (V_main_arg3 m c)),
      (Pipeline.RDat.FramePost.arr_in h.1 c 4 rfl).trans ((dat_A m c 4).trans (V_main_arg4 m c)),
      (Pipeline.RDat.FramePost.arr_in h.1 c 5 rfl).trans ((dat_A m c 5).trans (V_main_arg5 m c))⟩, h.2⟩) (run_main m ρ)

/-- The first result. -/
theorem out_0 {r} (h : Pipeline.RDat.FramePost (cfgs 0) (fun c => rdat m c) (V m) r) (c : Dev nD) :
    r.2.mem ((c.tc : Thread nD τ).loc main_v0_0) = gmaxH m c := by
  have hW : (cfg0.win 6).WholeAt ⟨24, by decide⟩ := by decide +kernel
  obtain ⟨X, hX, hG⟩ := Pipeline.RDat.ArrAt.emb_eq_of_wholeAt ((h c).1 6) hW
  have hu := (rdat_after_6 m c _ X hX).2 rfl
  funext j
  exact (hG j).trans (congrFun hu j)

/-- The second result. -/
theorem out_1 {r} (h : Pipeline.RDat.FramePost (cfgs 0) (fun c => rdat m c) (V m) r) (c : Dev nD) :
    r.2.mem ((c.tc : Thread nD τ).loc main_v0_1) = lseH m c := by
  have hW : (cfg0.win 7).WholeAt ⟨24, by decide⟩ := by decide +kernel
  obtain ⟨X, hX, hG⟩ := Pipeline.RDat.ArrAt.emb_eq_of_wholeAt ((h c).1 7) hW
  have hu := rdat_after_7 m c _ X hX rfl
  funext j
  exact (hG j).trans (congrFun hu j)

end Cert.HeadIdeal.Hand

end
-- ==== Proof.HeadLse.lean ====
module

public import proofs.«01_k».proof.Proof.Awq

@[expose] public section

/-!
The sum of powers of two over all the vocabulary, taken block by block with a running maximum, is the
sum taken at once.  Numbers may be infinite: nothing here asks that they be finite.
-/

noncomputable section

namespace Cert.Lse

open Idealize.ShloMosaic

/-- Up to the next integer. -/
abbrev up (x : EReal) : EReal := Ideal.liftRound Int.ceil x

theorem le_up (x : EReal) : x ≤ up x := by
  induction x with
  | bot => exact le_refl _
  | top => exact le_refl _
  | coe r => exact EReal.coe_le_coe_iff.2 (Int.le_ceil r)

theorem up_mono {x y : EReal} (h : x ≤ y) : up x ≤ up y := by
  induction x with
  | bot => exact bot_le
  | top => rw [top_le_iff] at h; subst h; exact le_refl _
  | coe r =>
    induction y with
    | bot => simp at h
    | top => exact le_top
    | coe s =>
      refine EReal.coe_le_coe_iff.2 ?_
      exact_mod_cast Int.ceil_mono (EReal.coe_le_coe_iff.1 h)

theorem up_max (x y : EReal) : up (max x y) = max (up x) (up y) := by
  rcases le_total x y with h | h
  · rw [max_eq_right h, max_eq_right (up_mono h)]
  · rw [max_eq_left h, max_eq_left (up_mono h)]

theorem exp2_coe (r : ℝ) : Ideal.exp2 (r : EReal) = ((Real.rpow 2 r : ℝ) : EReal) := rfl

theorem exp2_nonneg (x : EReal) : 0 ≤ Ideal.exp2 x := by
  induction x with
  | bot => exact le_refl _
  | top => exact le_top
  | coe r => rw [exp2_coe]; exact_mod_cast Real.rpow_nonneg (by norm_num) r

/-- A power of two below two maxima in turn is a power below the second. -/
theorem exp2_rescale {x a b : EReal} (h : x ≤ a) (h' : a ≤ b) :
    Ideal.exp2 (x - a) * Ideal.exp2 (a - b) = Ideal.exp2 (x - b) := by
  have zl : Ideal.exp2 ⊥ = 0 := rfl
  induction b with
  | top => simp only [EReal.sub_top, zl, mul_zero]
  | bot =>
    obtain rfl : a = ⊥ := le_bot_iff.1 h'
    obtain rfl : x = ⊥ := le_bot_iff.1 h
    simp only [EReal.bot_sub, zl, mul_zero]
  | coe b =>
    induction a with
    | top => simp at h'
    | bot =>
      obtain rfl : x = ⊥ := le_bot_iff.1 h
      simp only [EReal.bot_sub, zl, mul_zero]
    | coe a =>
      induction x with
      | top => simp at h
      | bot => simp only [EReal.bot_sub, zl, zero_mul]
      | coe x =>
        rw [← EReal.coe_sub, ← EReal.coe_sub, ← EReal.coe_sub, exp2_coe, exp2_coe, exp2_coe, ← EReal.coe_mul]
        refine congrArg _ ?_
        show (2 : ℝ) ^ (x - a) * (2 : ℝ) ^ (a - b) = (2 : ℝ) ^ (x - b)
        rw [← Real.rpow_add (by norm_num)]
        congr 1
        ring

/-- Products distribute over sums of numbers that are not negative. -/
theorem sum_mul {ι : Type} (s : Finset ι) (f : ι → EReal) (c : EReal) (h : ∀ i ∈ s, 0 ≤ f i) :
    (∑ i ∈ s, f i) * c = ∑ i ∈ s, f i * c := by
  classical
  induction s using Finset.induction_on with
  | empty => simp
  | insert a s ha ih =>
    rw [Finset.sum_insert ha, Finset.sum_insert ha, EReal.right_distrib_of_nonneg (h a (Finset.mem_insert_self a s))
      (Finset.sum_nonneg fun i hi => h i (Finset.mem_insert_of_mem hi)), ih fun i hi => h i (Finset.mem_insert_of_mem hi)]

/-- Scaling a sum of powers from one maximum to a larger one. -/
theorem sum_rescale (n : ℕ) (f : ℕ → EReal) {a b : EReal} (h : ∀ i < n, f i ≤ a) (h' : a ≤ b) :
    (∑ i ∈ Finset.range n, Ideal.exp2 (f i - a)) * Ideal.exp2 (a - b) = ∑ i ∈ Finset.range n, Ideal.exp2 (f i - b) := by
  rw [sum_mul _ _ _ fun _ _ => exp2_nonneg _]
  exact Finset.sum_congr rfl fun i hi => exp2_rescale (h i (Finset.mem_range.1 hi)) h'

/-- The largest of the first `n`. -/
def top (f : ℕ → EReal) (n : ℕ) : EReal := (Finset.range n).sup f

theorem le_top' (f : ℕ → EReal) {n i : ℕ} (h : i < n) : f i ≤ top f n := Finset.le_sup (Finset.mem_range.2 h)

theorem top_add (f : ℕ → EReal) (n k : ℕ) : top f (n + k) = max (top f n) (top (fun i => f (n + i)) k) := by
  apply le_antisymm
  · refine Finset.sup_le fun i hi => ?_
    rcases Nat.lt_or_ge i n with h | h
    · exact le_max_of_le_left (le_top' f h)
    · refine le_max_of_le_right ?_
      have := Finset.mem_range.1 hi
      have e := le_top' (fun i => f (n + i)) (n := k) (i := i - n) (by omega)
      have e' : f (n + (i - n)) ≤ top (fun i => f (n + i)) k := e
      rwa [show n + (i - n) = i from by omega] at e'
  · refine max_le (Finset.sup_le fun i hi => le_top' f ?_) (Finset.sup_le fun i hi => le_top' f ?_)
    all_goals have := Finset.mem_range.1 hi; omega

/-- The running maximum: rounded up block by block, it is the maximum rounded up. -/
theorem run_max (f : ℕ → EReal) (w : ℕ) (M : ℕ → EReal) (h0 : M 0 = up (top f w))
    (hs : ∀ n, n < 25 → M (n + 1) = max (M n) (up (top (fun i => f (w * n + i)) w))) :
    ∀ n, n < 25 → M (n + 1) = up (top f (w * (n + 1))) := by
  intro n
  induction n with
  | zero =>
    intro hn
    rw [hs 0 hn, h0]
    simp
  | succ n ih =>
    intro hn
    rw [hs (n + 1) hn, ih (by omega), ← up_max, ← top_add]
    rfl

/-- The running sum: scaled at every block to the new maximum, it is the sum below the last maximum. -/
theorem run_sum (f : ℕ → EReal) (w : ℕ) (M L : ℕ → EReal) (h0 : M 0 = up (top f w))
    (hs : ∀ n, n < 25 → M (n + 1) = max (M n) (up (top (fun i => f (w * n + i)) w))) (l0 : L 0 = 0)
    (ls : ∀ n, n < 25 → L (n + 1) = L n * Ideal.exp2 (M n - M (n + 1)) + ∑ i ∈ Finset.range w, Ideal.exp2 (f (w * n + i) - M (n + 1))) :
    ∀ n, n ≤ 25 → L n = ∑ i ∈ Finset.range (w * n), Ideal.exp2 (f i - M n) := by
  intro n
  induction n with
  | zero => intro _; rw [l0]; simp
  | succ n ih =>
    intro hn
    have hx : ∀ i < w * n, f i ≤ M n := by
      intro i hi
      cases n with
      | zero => simp at hi
      | succ n =>
        rw [run_max f w M h0 hs n (by omega)]
        exact (le_top' f hi).trans (le_up _)
    have hm : M n ≤ M (n + 1) := by
      rw [hs n (by omega)]
      exact le_max_left _ _
    rw [ls n (by omega), ih (by omega), sum_rescale (w * n) f hx hm, Nat.mul_succ, Finset.sum_range_add]

/-- A maximum over `n` positions, as the pieces of a tensor are folded, is the largest. -/
theorem fold_top (n : ℕ) (f : ℕ → EReal) (b : EReal) (hb : b = ⊥) :
    Finset.fold max b (fun i : Fin n => f i.val) Finset.univ = top f n := by
  subst hb
  refine Eq.trans (b := Finset.univ.sup fun i : Fin n => f i.val) rfl ?_
  apply le_antisymm
  · exact Finset.sup_le fun i _ => le_top' f i.isLt
  · exact Finset.sup_le fun i hi => Finset.le_sup (f := fun i : Fin n => f i.val) (Finset.mem_univ (⟨i, Finset.mem_range.1 hi⟩ : Fin n))

theorem ofBits_bot : Ideal.ofBits FTy.f32 4286578688#32 = ⊥ := by simp [Ideal.ofBits, Ideal.ieee]

theorem ofBits_two : Ideal.ofBits FTy.f32 1073741824#32 = ((2 : ℝ) : EReal) := by
  simp [Ideal.ofBits, Ideal.ieee, -EReal.coe_mul]; norm_num

/-- Two to a power is the power of two. -/
theorem pow_two (x : EReal) : Ideal.pow ((2 : ℝ) : EReal) x = Ideal.exp2 x := by
  induction x with
  | bot =>
    show (if (2 : ℝ) < 0 then (⊥ : EReal) else if (1 : ℝ) < 2 then 0 else if (2 : ℝ) = 1 then 1 else ⊤) = 0
    norm_num
  | top =>
    show (if (2 : ℝ) < 0 then (⊥ : EReal) else if (1 : ℝ) < 2 then ⊤ else if (2 : ℝ) = 1 then 1 else 0) = ⊤
    norm_num
  | coe r => rfl

end Cert.Lse

end
-- ==== Proof.HeadRefDot.lean ====
module

public import proofs.«01_k».proof.Proof.HeadLse
public import proofs.«01_k».proof.Proof.Gen.HeadRefIdeal.Run

@[expose] public section

set_option maxRecDepth 16384

noncomputable section

namespace Cert.HeadRefIdeal.Hand

open Idealize.ShloMosaic Idealize.ShloMosaic.TcCoe Idealize.SL.Sem Cert.HeadRefIdeal Cert.HeadRefIdeal.Gen Cert.Lse

/-- The reference's logits: the product of codes and weights, times the scale of the row, the scale of the
    column and the row's inverse temperature. -/
def logits (a : FVec Ideal S64x4096 .bf16) (w : Vec Ideal S32000x4096 .i8) (hs : FVec Ideal S32000x1 .f32) (s t : FVec Ideal S1x64 .f32) :
    FVec Ideal S64x32000 .f32 :=
  mulf (mulf (mulf (Host.dotGeneral dot_S64x4096_S32000x4096_S64x32000_1_1_0_0_n_n none a (sitofp .bf16 (extsi 32 w natLt_8_32)))
    (broadcastInDim S64x32000 ![0, 1] bcast_S64x1_S64x32000_0_1 (shapeCast _ s shapeCasts_S1x64_S64x1)))
    (broadcastInDim S64x32000 ![0, 1] bcast_S1x32000_S64x32000_0_1 (shapeCast _ hs shapeCasts_S32000x1_S1x32000)))
    (broadcastInDim S64x32000 ![0, 1] bcast_S64x1_S64x32000_0_1 (shapeCast _ t shapeCasts_S1x64_S64x1))

/-- The logits in powers of two. -/
def twos (g : FVec Ideal S64x32000 .f32) : FVec Ideal S64x32000 .f32 :=
  mulf g (broadcastInDim S64x32000 ![] bcast_S_S64x32000 (constant S_ .f32 0x3FB8AA3B#32))

/-- Each row's largest entry, rounded up. -/
def peak (g : FVec Ideal S64x32000 .f32) : FVec Ideal S64 .f32 :=
  Host.ceil (Host.reduce FloatOps.maximumf g (constant S_ .f32 0xFF800000#32) reducesTo_S64x32000_S64_d1 h_S_)

/-- Each row's sum of powers of two below `M`. -/
def total (g : FVec Ideal S64x32000 .f32) (M : FVec Ideal S64 .f32) : FVec Ideal S64 .f32 :=
  Host.reduceAdd (Host.powf (broadcastInDim S64x32000 ![] bcast_S_S64x32000 (constant S_ .f32 0x40000000#32))
    (subf g (broadcastInDim S64x32000 ![0, 1] bcast_S64x1_S64x32000_0_1 (broadcastInDim S64x1 ![0] bcast_S64_S64x1_0 M))))
    (constant S_ .f32 0x00000000#32) reducesTo_S64x32000_S64_d1 h_S_

/-- The logarithm of a sum `L` of powers of two below `M`. -/
def lse (M L : FVec Ideal S64 .f32) : FVec Ideal S64 .f32 :=
  mulf (addf M (Host.divf (Host.log L) (Host.log (broadcastInDim S64 ![] bcast_S_S64 (constant S_ .f32 0x40000000#32)))))
    (broadcastInDim S64 ![] bcast_S_S64 (constant S_ .f32 0x3F317218#32))

/-- The logarithms against that of the vocabulary's size. -/
def rel (E : FVec Ideal S64 .f32) : FVec Ideal S1x64 .f32 :=
  shapeCast _ (subf E (broadcastInDim S64 ![] bcast_S_S64 (constant S_ .f32 0x4125F9D2#32))) shapeCasts_S64_S1x64

/-- The largest log-probability of every group of 128 words. -/
def groups (g : FVec Ideal S64x32000 .f32) (p : FVec Ideal S1x64 .f32) (E : FVec Ideal S64 .f32) : FVec Ideal S25x10x64 .f32 :=
  shapeCast _ (transpose S250x64 [1, 0] (subf (addf (broadcastInDim S64x250 ![0, 1] bcast_S64x1_S64x250_0_1 (shapeCast _ p shapeCasts_S1x64_S64x1))
    (Host.reduce FloatOps.maximumf (shapeCast _ g shapeCasts_S64x32000_S64x250x128) (constant S_ .f32 0xFF800000#32) reducesTo_S64x250x128_S64x250_d2 h_S_))
    (broadcastInDim S64x250 ![0, 1] bcast_S64x1_S64x250_0_1 (broadcastInDim S64x1 ![0] bcast_S64_S64x1_0 E)))
    transposes_S64x250_S250x64_1_0) shapeCasts_S250x64_S25x10x64

/-- The logarithm of the sum, from the logits. -/
def lseOf (g : FVec Ideal S64x32000 .f32) : FVec Ideal S64 .f32 := lse (peak (twos g)) (total (twos g) (peak (twos g)))

/-- The first result, by these names. -/
theorem groups_res (m : (ℓ : Loc nD τ sig) → Buf (Elt Ideal) ℓ) (c : Dev nD) :
    Value.res_main_v38 m c = groups (logits (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))
      (m ((c.tc : Thread nD τ).loc main_arg5)) (lseOf (logits (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))) := rfl

/-- Where a word's number falls in the vocabulary. -/
abbrev wd (n : ℕ) : Fin 32000 := ⟨n % 32000, Nat.mod_lt _ (by decide)⟩

/-- An entry of the logits. -/
theorem logits_apply (a : FVec Ideal S64x4096 .bf16) (w : Vec Ideal S32000x4096 .i8) (hs : FVec Ideal S32000x1 .f32) (s t : FVec Ideal S1x64 .f32)
    (r : Fin 64) (v : Fin 32000) : logits a w hs s t (ix2 r v)
      = (∑ x, a (ix2 r x) * (((w (ix2 v x)).toInt : ℝ) : EReal)) * s (ix2 0 r) * hs (ix2 v 0) * t (ix2 0 r) := by
  pointwise [logits]
  have e : ∀ x, (FloatOps.sitofp (F := Ideal) FTy.bf16 (BitVec.signExtend 32 (w (ix2 v x))) : EReal) = (((w (ix2 v x)).toInt : ℝ) : EReal) := by
    intro x
    show ((((BitVec.signExtend 32 (w (ix2 v x))).toInt : ℤ) : ℝ) : EReal) = _
    rw [BitVec.toInt_signExtend_of_le (by decide)]
  simp only [e]

/-- An entry in powers of two. -/
theorem twos_apply (g : FVec Ideal S64x32000 .f32) (r : Fin 64) (v : Fin 32000) :
    twos g (ix2 r v) = g (ix2 r v) * Ideal.ofBits FTy.f32 1069066811#32 := by
  pointwise [twos]

/-- A row's largest entry, rounded up. -/
theorem peak_apply (g : FVec Ideal S64x32000 .f32) (r : Fin 64) : peak g (ix1 r) = up (top (fun n => g (ix2 r (wd n))) 32000) := by
  pointwise [peak]
  refine congrArg (Ideal.liftRound Int.ceil) (Eq.trans ?_ (fold_top 32000 (fun n => g (ix2 r (wd n))) _ ofBits_bot))
  refine congrArg (fun f => Finset.fold max _ f Finset.univ) (funext fun x => ?_)
  rw [show wd x.val = x from Fin.ext (Nat.mod_eq_of_lt x.isLt)]

/-- A row's sum of powers of two. -/
theorem total_apply (g : FVec Ideal S64x32000 .f32) (M : FVec Ideal S64 .f32) (r : Fin 64) :
    total g M (ix1 r) = ∑ n ∈ Finset.range 32000, Ideal.exp2 (g (ix2 r (wd n)) - M (ix1 r)) := by
  pointwise [total]
  rw [ofBits_two, ← Fin.sum_univ_eq_sum_range]
  refine Finset.sum_congr rfl fun x _ => ?_
  rw [pow_two, show wd x.val = x from Fin.ext (Nat.mod_eq_of_lt x.isLt)]

/-- A logarithm of a sum. -/
theorem lse_apply (M L : FVec Ideal S64 .f32) (r : Fin 64) :
    lse M L (ix1 r) = (M (ix1 r) + Ideal.div (Ideal.log (L (ix1 r))) (Ideal.log (Ideal.ofBits FTy.f32 1073741824#32)))
      * Ideal.ofBits FTy.f32 1060205080#32 := by
  pointwise [lse]

/-- A relative logarithm. -/
theorem rel_apply (E : FVec Ideal S64 .f32) (r : Fin 64) :
    rel E (ix2 0 r) = E (ix1 r) - Ideal.ofBits FTy.f32 1093007826#32 := by
  pointwise [rel]

/-- The largest log-probability of group `k` of block `b`, as a maximum over the group. -/
theorem groups_fold (g : FVec Ideal S64x32000 .f32) (p : FVec Ideal S1x64 .f32) (E : FVec Ideal S64 .f32) (b : Fin 25) (k : Fin 10) (r : Fin 64)
    (h : ∀ x : Fin 128, (b.val * 10 + k.val) * 128 + x.val < 32000) :
    groups g p E (ix3 b k r) = p (ix2 0 r) + Finset.fold max (Ideal.ofBits FTy.f32 4286578688#32)
      (fun x : Fin 128 => g (ix2 r ⟨(b.val * 10 + k.val) * 128 + x.val, h x⟩)) Finset.univ - E (ix1 r) := by
  pointwise [groups]

/-- The largest log-probability of group `k` of block `b`. -/
theorem groups_apply (g : FVec Ideal S64x32000 .f32) (p : FVec Ideal S1x64 .f32) (E : FVec Ideal S64 .f32) (b : Fin 25) (k : Fin 10) (r : Fin 64) :
    groups g p E (ix3 b k r) = p (ix2 0 r) + top (fun j => g (ix2 r (wd ((b.val * 10 + k.val) * 128 + j)))) 128 - E (ix1 r) := by
  have h : ∀ x : Fin 128, (b.val * 10 + k.val) * 128 + x.val < 32000 := by
    intro x
    have := b.isLt; have := k.isLt; have := x.isLt
    omega
  have e : ∀ x : Fin 128, wd ((b.val * 10 + k.val) * 128 + x.val) = ⟨(b.val * 10 + k.val) * 128 + x.val, h x⟩ :=
    fun x => Fin.ext (Nat.mod_eq_of_lt (h x))
  rw [groups_fold g p E b k r h, ← fold_top 128 (fun j => g (ix2 r (wd ((b.val * 10 + k.val) * 128 + j)))) _ ofBits_bot]
  simp only [e]

end Cert.HeadRefIdeal.Hand

end
-- ==== Proof.HeadFinal.lean ====
module

public import proofs.«01_k».proof.Defs
public import proofs.«01_k».proof.Proof.HeadBody
public import proofs.«01_k».proof.Proof.HeadRefDot
public import Idealize.ShloMosaic.Lib.Claim

@[expose] public section

set_option maxRecDepth 16384

noncomputable section

namespace Cert.HeadIdeal.Hand

open Idealize.ShloMosaic Idealize.ShloMosaic.TcCoe Idealize.SL.Sem Cert.HeadIdeal Cert.HeadIdeal.Gen Cert.Lse

/-- An entry of a block of logits. -/
theorem pay5_apply (x0 : Vec Ideal S64x4096 .bf16) (x1 : Vec Ideal S1280x4096 .i8) (x2 : Vec Ideal S1280x1 .f32) (x3 x4 : Vec Ideal S1x64 .f32)
    (v : Fin 1280) (r : Fin 64) : k0_pay5 x1 x0 x3 x2 x4 (ix2 v r)
      = (∑ x, (((x1 (ix2 v x)).toInt : ℝ) : EReal) * x0 (ix2 r x)) * x3 (ix2 0 r) * x2 (ix2 v 0) * x4 (ix2 0 r) := by
  pointwise [k0_pay5]
  rfl

/-- The largest logit of a group of a block. -/
theorem pay6_apply (x0 : Vec Ideal S64x4096 .bf16) (x1 : Vec Ideal S1280x4096 .i8) (x2 : Vec Ideal S1280x1 .f32) (x3 x4 : Vec Ideal S1x64 .f32)
    (k : Fin 10) (r : Fin 64) : k0_pay6 x1 x0 x3 x2 x4 (ix3 0 k r)
      = top (fun j => k0_pay5 x1 x0 x3 x2 x4 (ix2 ⟨(k.val * 128 + j) % 1280, Nat.mod_lt _ (by decide)⟩ r)) 128 := by
  unfold k0_pay6
  generalize k0_pay5 x1 x0 x3 x2 x4 = g
  pointwise
  refine Eq.trans ?_ (fold_top 128 (fun j => g (ix2 ⟨(k.val * 128 + j) % 1280, Nat.mod_lt _ (by decide)⟩ r)) _ ofBits_bot)
  refine congrArg (fun f => Finset.fold max _ f Finset.univ) (funext fun x => ?_)
  have := k.isLt; have := x.isLt
  have e : (k.val * 128 + x.val) % 1280 = k.val * 128 + x.val := Nat.mod_eq_of_lt (by omega)
  simp only [e]

/-- A block's logits in powers of two. -/
theorem pay7_apply (x0 : Vec Ideal S64x4096 .bf16) (x1 : Vec Ideal S1280x4096 .i8) (x2 : Vec Ideal S1280x1 .f32) (x3 x4 : Vec Ideal S1x64 .f32)
    (v : Fin 1280) (r : Fin 64) : k0_pay7 x1 x0 x3 x2 x4 (ix2 v r) = k0_pay5 x1 x0 x3 x2 x4 (ix2 v r) * Ideal.ofBits FTy.f32 1069066811#32 := by
  unfold k0_pay7
  generalize k0_pay5 x1 x0 x3 x2 x4 = g
  pointwise

/-- A block's maximum, rounded up. -/
theorem pay8_apply (x0 : Vec Ideal S64x4096 .bf16) (x1 : Vec Ideal S1280x4096 .i8) (x2 : Vec Ideal S1280x1 .f32) (x3 x4 : Vec Ideal S1x64 .f32)
    (r : Fin 64) : k0_pay8 x1 x0 x3 x2 x4 (ix2 0 r)
      = up (top (fun j => k0_pay7 x1 x0 x3 x2 x4 (ix2 ⟨j % 1280, Nat.mod_lt _ (by decide)⟩ r)) 1280) := by
  unfold k0_pay8
  generalize k0_pay7 x1 x0 x3 x2 x4 = g
  pointwise
  refine congrArg (Ideal.liftRound Int.ceil) (Eq.trans ?_ (fold_top 1280 (fun j => g (ix2 ⟨j % 1280, Nat.mod_lt _ (by decide)⟩ r)) _ ofBits_bot))
  refine congrArg (fun f => Finset.fold max _ f Finset.univ) (funext fun x => ?_)
  have e : x.val % 1280 = x.val := Nat.mod_eq_of_lt x.isLt
  simp only [e]

/-- The running sum after a block. -/
theorem pay1_apply (g : FVec Ideal S1280x64 .f32) (v n l : Vec Ideal S1x64 .f32) (r : Fin 64) : k0_pay1 g v n l (ix2 0 r)
      = l (ix2 0 r) * Ideal.exp2 (v (ix2 0 r) - n (ix2 0 r))
        + ∑ j ∈ Finset.range 1280, Ideal.exp2 (g (ix2 ⟨j % 1280, Nat.mod_lt _ (by decide)⟩ r) - n (ix2 0 r)) := by
  pointwise [k0_pay1]
  rw [← Fin.sum_univ_eq_sum_range]
  refine congrArg₂ (· + ·) rfl (Finset.sum_congr rfl fun x _ => ?_)
  have e : x.val % 1280 = x.val := Nat.mod_eq_of_lt x.isLt
  simp only [e]
  rfl

/-- The running sum starts at nothing. -/
theorem pay10_apply (r : Fin 64) : k0_pay10 (F := Ideal) (ix2 0 r) = (0 : EReal) := by
  pointwise [k0_pay10]

theorem pay2_apply (M L : Vec Ideal S1x64 .f32) (r : Fin 64) : k0_pay2 M L (ix2 0 r)
    = (M (ix2 0 r) + Ideal.div (Ideal.log (L (ix2 0 r))) (Ideal.log (Ideal.ofBits FTy.f32 1073741824#32))) * Ideal.ofBits FTy.f32 1060205080#32 := by
  pointwise [k0_pay2]

theorem pay3_apply (M L : Vec Ideal S1x64 .f32) (r : Fin 64) :
    k0_pay3 M L (ix2 0 r) = k0_pay2 M L (ix2 0 r) - Ideal.ofBits FTy.f32 1093007826#32 := by
  unfold k0_pay3
  generalize k0_pay2 M L = e
  pointwise

theorem pay4_apply (M L p : Vec Ideal S1x64 .f32) (g : Vec Ideal S25x10x64 .f32) (b : Fin 25) (k : Fin 10) (r : Fin 64) :
    k0_pay4 M L p g (ix3 b k r) = p (ix2 0 r) + g (ix3 b k r) - k0_pay2 M L (ix2 0 r) := by
  unfold k0_pay4
  generalize k0_pay2 M L = e
  pointwise

variable (m : (ℓ : Loc nD τ sig) → Buf (Elt Ideal) ℓ)

/-- Which block each window is on at grid point `t`. -/
theorem idx : ∀ t : Fin cfg0.N, win0_0.index t = ![0, 0] ∧ win0_1.index t = ![t.val, 0] ∧ win0_2.index t = ![t.val, 0]
    ∧ win0_3.index t = ![0, 0] ∧ win0_4.index t = ![0, 0] ∧ win0_5.index t = ![0, 0] ∧ t.val < 25 :=
  (by decide +kernel : ∀ t : Fin grid0.N, _)

/-- The reference's logits over the arguments. -/
def lg (c : Dev nD) : FVec Ideal Cert.HeadRefIdeal.S64x32000 .f32 :=
  Cert.HeadRefIdeal.Hand.logits (m ((c : Thread nD τ).loc main_arg0)) (m ((c : Thread nD τ).loc main_arg1)) (m ((c : Thread nD τ).loc main_arg2))
    (m ((c : Thread nD τ).loc main_arg3)) (m ((c : Thread nD τ).loc main_arg4))

/-- The logits of the block of a grid point are the reference's. -/
theorem logits_eq (c : Dev nD) (t : Fin cfg0.N) (v : Fin 1280) (r : Fin 64) :
    k0_pay5 (iblk m c 1 t) (iblk m c 0 t) (iblk m c 3 t) (iblk m c 2 t) (iblk m c 4 t) (ix2 v r)
      = lg m c (ix2 r (Cert.HeadRefIdeal.Hand.wd (1280 * t.val + v.val))) := by
  obtain ⟨h0, h1, h2, h3, h4, h5, ht⟩ := idx t
  refine (pay5_apply _ _ _ _ _ v r).trans (Eq.trans ?_ (Cert.HeadRefIdeal.Hand.logits_apply _ _ _ _ _ r _).symm)
  have hv := v.isLt
  have ew : Cert.HeadRefIdeal.Hand.wd (1280 * t.val + v.val) = ⟨1280 * t.val + v.val, by omega⟩ := Fin.ext (Nat.mod_eq_of_lt (by omega))
  rw [ew]
  refine congrArg₂ (· * ·) (congrArg₂ (· * ·) (congrArg₂ (· * ·) (Finset.sum_congr rfl fun x _ => ?_) ?_) ?_) ?_
  · rw [mul_comm]
    refine congrArg₂ (· * ·) ?_ ?_
    · blk_ext [iblk, V, h0]
    · refine congrArg (fun b : BitVec 8 => ((b.toInt : ℝ) : EReal)) ?_
      blk_ext [iblk, V, h1]
  · blk_ext [iblk, V, h3]
  · blk_ext [iblk, V, h2]
  · blk_ext [iblk, V, h4]

/-- The reference's logits of row `r` in powers of two, by a word's number. -/
def tw (c : Dev nD) (r : Fin 64) (n : ℕ) : EReal := Cert.HeadRefIdeal.Hand.twos (lg m c) (ix2 r (Cert.HeadRefIdeal.Hand.wd n))

theorem twos_eq (c : Dev nD) (t : Fin cfg0.N) (v : Fin 1280) (r : Fin 64) :
    k0_pay7 (iblk m c 1 t) (iblk m c 0 t) (iblk m c 3 t) (iblk m c 2 t) (iblk m c 4 t) (ix2 v r) = tw m c r (1280 * t.val + v.val) := by
  refine (pay7_apply _ _ _ _ _ v r).trans ?_
  rw [logits_eq]
  exact (Cert.HeadRefIdeal.Hand.twos_apply (lg m c) r _).symm

theorem pt_nat {n : ℕ} (h : n < 25) : (pt n).val = n := Nat.mod_eq_of_lt h

theorem pay8_eq (c : Dev nD) (t : Fin cfg0.N) (r : Fin 64) :
    k0_pay8 (iblk m c 1 t) (iblk m c 0 t) (iblk m c 3 t) (iblk m c 2 t) (iblk m c 4 t) (ix2 0 r)
      = up (top (fun i => tw m c r (1280 * t.val + i)) 1280) := by
  refine (pay8_apply _ _ _ _ _ r).trans (congrArg up (Finset.sup_congr rfl fun j hj => ?_))
  rw [twos_eq]
  have e : j % 1280 = j := Nat.mod_eq_of_lt (Finset.mem_range.1 hj)
  simp only [e]

theorem M_zero (c : Dev nD) (r : Fin 64) : (mU m c 0 (ix2 0 r) : EReal) = up (top (tw m c r) 1280) := by
  refine (pay8_eq m c (pt 0) r).trans ?_
  rw [pt_nat (by decide)]
  simp only [Nat.mul_zero, Nat.zero_add]

theorem M_succ (c : Dev nD) (r : Fin 64) (n : ℕ) (h : n < 25) :
    (mU m c (n + 1) (ix2 0 r) : EReal) = max (mU m c n (ix2 0 r)) (up (top (fun i => tw m c r (1280 * n + i)) 1280)) := by
  refine Eq.trans (b := max (mU m c n (ix2 0 r) : EReal) (k0_pay8 (iblk m c 1 (pt n)) (iblk m c 0 (pt n)) (iblk m c 3 (pt n)) (iblk m c 2 (pt n)) (iblk m c 4 (pt n)) (ix2 0 r))) rfl ?_
  rw [pay8_eq, pt_nat h]

theorem L_zero (c : Dev nD) (r : Fin 64) : (lU m c 0 (ix2 0 r) : EReal) = 0 := pay10_apply r

theorem L_succ (c : Dev nD) (r : Fin 64) (n : ℕ) (h : n < 25) :
    (lU m c (n + 1) (ix2 0 r) : EReal) = lU m c n (ix2 0 r) * Ideal.exp2 (mU m c n (ix2 0 r) - mU m c (n + 1) (ix2 0 r))
      + ∑ i ∈ Finset.range 1280, Ideal.exp2 (tw m c r (1280 * n + i) - mU m c (n + 1) (ix2 0 r)) := by
  refine (pay1_apply _ _ _ _ r).trans (congrArg₂ (· + ·) rfl (Finset.sum_congr rfl fun j hj => ?_))
  rw [twos_eq, pt_nat h]
  have e : j % 1280 = j := Nat.mod_eq_of_lt (Finset.mem_range.1 hj)
  simp only [e]
  rfl

/-- The last running maximum is the reference's. -/
theorem M_last (c : Dev nD) (r : Fin 64) : (mU m c 25 (ix2 0 r) : EReal) = Cert.HeadRefIdeal.Hand.peak (Cert.HeadRefIdeal.Hand.twos (lg m c)) (ix1 r) := by
  have h := run_max (tw m c r) 1280 (fun n => mU m c n (ix2 0 r)) (M_zero m c r) (fun n h => M_succ m c r n h) 24 (by decide)
  simp only [show 24 + 1 = 25 from rfl, show 1280 * 25 = 32000 from rfl] at h
  exact h.trans (Cert.HeadRefIdeal.Hand.peak_apply _ r).symm

/-- The last running sum is the reference's. -/
theorem L_last (c : Dev nD) (r : Fin 64) : (lU m c 25 (ix2 0 r) : EReal)
    = Cert.HeadRefIdeal.Hand.total (Cert.HeadRefIdeal.Hand.twos (lg m c)) (Cert.HeadRefIdeal.Hand.peak (Cert.HeadRefIdeal.Hand.twos (lg m c))) (ix1 r) := by
  have h := run_sum (tw m c r) 1280 (fun n => mU m c n (ix2 0 r)) (fun n => lU m c n (ix2 0 r)) (M_zero m c r) (fun n h => M_succ m c r n h)
    (L_zero m c r) (fun n h => L_succ m c r n h) 25 (le_refl _)
  simp only [show 1280 * 25 = 32000 from rfl, M_last] at h
  exact h.trans (Cert.HeadRefIdeal.Hand.total_apply _ _ r).symm

/-- The logarithm of the sum is the reference's. -/
theorem lse_eq (c : Dev nD) (r : Fin 64) :
    k0_pay2 (mU m c 25) (lU m c 25) (ix2 0 r) = Cert.HeadRefIdeal.Hand.lseOf (lg m c) (ix1 r) := by
  refine (pay2_apply _ _ r).trans (Eq.trans ?_ (Cert.HeadRefIdeal.Hand.lse_apply _ _ r).symm)
  rw [← M_last, ← L_last]

/-- The relative logarithms are the reference's. -/
theorem lseH_eq (c : Dev nD) : lseH m c = Cert.HeadRefIdeal.Hand.rel (Cert.HeadRefIdeal.Hand.lseOf (lg m c)) := by
  funext y
  idx_vars y
  obtain rfl : y0 = 0 := Subsingleton.elim _ _
  refine (pay3_apply _ _ y1).trans (Eq.trans ?_ (Cert.HeadRefIdeal.Hand.rel_apply _ y1).symm)
  rw [lse_eq]

/-- The groups' largest log-probabilities are the reference's. -/
theorem gmaxH_eq (c : Dev nD) : gmaxH m c = Cert.HeadRefIdeal.Hand.groups (lg m c) (m ((c : Thread nD τ).loc main_arg5)) (Cert.HeadRefIdeal.Hand.lseOf (lg m c)) := by
  funext y
  idx_vars y
  refine (pay4_apply _ _ _ _ y0 y1 y2).trans (Eq.trans ?_ (Cert.HeadRefIdeal.Hand.groups_apply _ _ _ y0 y1 y2).symm)
  rw [lse_eq]
  have ht : (pt y0.val).val = y0.val := pt_nat y0.isLt
  refine congrArg₂ (· - ·) (congrArg₂ (· + ·) ?_ ?_) rfl
  · obtain ⟨h0, h1, h2, h3, h4, h5, -⟩ := idx (pt 24)
    generalize pt 24 = T at *
    blk_ext [iblk, V, h5]
  · rw [show peaks m c (ix3 y0 y1 y2) = pkAt m c (pt y0.val) (ix3 0 y1 y2) from rfl]
    unfold pkAt pk
    rw [pay6_apply]
    refine Finset.sup_congr rfl fun j hj => ?_
    have hj' := Finset.mem_range.1 hj
    have hk := y1.isLt
    have e : (y1.val * 128 + j) % 1280 = y1.val * 128 + j := Nat.mod_eq_of_lt (by omega)
    refine (logits_eq m c (pt y0.val) _ y2).trans ?_
    rw [ht]
    show lg m c (ix2 y2 (Cert.HeadRefIdeal.Hand.wd (1280 * y0.val + (y1.val * 128 + j) % 1280))) = _
    rw [e, show 1280 * y0.val + (y1.val * 128 + j) = (y0.val * 10 + y1.val) * 128 + j from by omega]

end Cert.HeadIdeal.Hand

namespace Cert.Proof

open Idealize.ShloMosaic Idealize.SL.Sem

/-- The head's results are the reference's, over the reals. -/
theorem head_algebraic : Cert.algebraic_HeadIdeal_HeadRefIdeal (hHeadIdeal := Cert.HeadIdeal.Gen.facts) (hHeadRefIdeal := Cert.HeadRefIdeal.Gen.facts) := by
  intro m g m' g' _ hagree
  refine ⟨fun c => Cert.HeadIdeal.Hand.gmaxH m c, fun c => Cert.HeadIdeal.Hand.lseH m c, ?_, ?_⟩
  · exact (θ_run _ _ _).mono (fun r h c => ⟨Cert.HeadIdeal.Hand.out_0 m h.1.1 c, Cert.HeadIdeal.Hand.out_1 m h.1.1 c, h.2.1 c⟩)
      (θ_run_and (Cert.HeadIdeal.Hand.run_main m g) (Cert.HeadIdeal.Hand.frame m g))
  · refine (θ_run _ _ _).mono (fun r h c => ?_) (Cert.HeadRefIdeal.Value.run m' g')
    obtain ⟨h0, h1, h2, h3, h4, h5⟩ := hagree c
    refine ⟨(h c).1.trans ?_, (h c).2.1.trans ?_, (h c).2.2⟩
    · rw [Cert.HeadRefIdeal.Hand.groups_res, h0, h1, h2, h3, h4, h5]
      exact (Cert.HeadIdeal.Hand.gmaxH_eq m c).symm
    · rw [h0, h1, h2, h3, h4]
      exact (Cert.HeadIdeal.Hand.lseH_eq m c).symm

end Cert.Proof

end
-- ==== Proof.lean ====
module

public import proofs.«01_k».proof.Proof.Gen.QkvIdeal.Skeleton
public import proofs.«01_k».proof.Proof.Gen.QkvIdeal.Points
public import proofs.«01_k».proof.Proof.Gen.QkvIdeal.Loops
public import proofs.«01_k».proof.Proof.Gen.QkvIdeal.Frame
public import proofs.«01_k».proof.Proof.Gen.QkvIdeal.Launch
public import proofs.«01_k».proof.Proof.Gen.QkvIdeal
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.Qkv
public import proofs.«01_k».proof.Proof.Gen.Qkv.Skeleton
public import proofs.«01_k».proof.Proof.Gen.Qkv.Points
public import proofs.«01_k».proof.Proof.Gen.Qkv.Loops
public import proofs.«01_k».proof.Proof.Gen.Qkv.Frame
public import proofs.«01_k».proof.Proof.Gen.Qkv.Launch
public import proofs.«01_k».proof.Defs
public import proofs.«01_k».proof.Proof.Gen.O
public import proofs.«01_k».proof.Proof.Gen.O.Skeleton
public import proofs.«01_k».proof.Proof.Gen.O.Launch
public import proofs.«01_k».proof.Proof.Gen.O.Points
public import proofs.«01_k».proof.Proof.Gen.O.Frame
public import proofs.«01_k».proof.Proof.Gen.OIdeal
public import proofs.«01_k».proof.Proof.Gen.OIdeal.Skeleton
public import proofs.«01_k».proof.Proof.Gen.OIdeal.Launch
public import proofs.«01_k».proof.Proof.Gen.OIdeal.Points
public import proofs.«01_k».proof.Proof.Gen.OIdeal.Frame
public import proofs.«01_k».proof.Proof.Gen.ORefIdeal.Run
public import proofs.«01_k».proof.Proof.Gen.Ff
public import proofs.«01_k».proof.Proof.Gen.Ff.Skeleton
public import proofs.«01_k».proof.Proof.Gen.Ff.Launch
public import proofs.«01_k».proof.Proof.Gen.Ff.Points
public import proofs.«01_k».proof.Proof.Gen.Ff.Frame
public import proofs.«01_k».proof.Proof.Gen.FfIdeal
public import proofs.«01_k».proof.Proof.Gen.FfIdeal.Skeleton
public import proofs.«01_k».proof.Proof.Gen.FfIdeal.Launch
public import proofs.«01_k».proof.Proof.Gen.FfIdeal.Points
public import proofs.«01_k».proof.Proof.Gen.FfIdeal.Frame
public import proofs.«01_k».proof.Proof.Gen.FfRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal.Run
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadRefIdeal.Run
public import proofs.«01_k».proof.Proof.QkvOk
public import proofs.«01_k».proof.Proof.QkvFinal
public import proofs.«01_k».proof.Proof.FfFinal
public import proofs.«01_k».proof.Proof.OBodyBits
public import proofs.«01_k».proof.Proof.OFinal
public import proofs.«01_k».proof.Proof.DownBodyBits
public import proofs.«01_k».proof.Proof.DownFinal
public import proofs.«01_k».proof.Proof.HeadBodyBits
public import proofs.«01_k».proof.Proof.HeadFinal
public import Idealize.ShloMosaic.Adequacy
public import Idealize.ShloMosaic.Init

@[expose] public section

noncomputable section

namespace Cert.Proof

open Idealize.ShloMosaic Idealize.SL.Sem

/-- The output projection's reference runs and leaves its arguments. -/
theorem oRef_frame : Cert.quiescent_ORefIdeal (hORefIdeal := Cert.ORefIdeal.Gen.facts) := by
  intro m g _
  exact (θ_run _ _ _).mono (fun r h => ⟨fun c => (h c).2.2, sem_eq_zero_of_no_sems rfl _⟩) (Cert.ORefIdeal.Value.run m g)

/-- The feed-forward product's reference runs and leaves its arguments. -/
theorem ffRef_frame : Cert.quiescent_FfRefIdeal (hFfRefIdeal := Cert.FfRefIdeal.Gen.facts) := by
  intro m g _
  exact (θ_run _ _ _).mono (fun r h => ⟨fun c => (h c).2, sem_eq_zero_of_no_sems rfl _⟩) (Cert.FfRefIdeal.Value.run m g)

/-- The down projection's reference, too, runs and leaves its arguments. -/
theorem downRef_frame : Cert.quiescent_DownRefIdeal (hDownRefIdeal := Cert.DownRefIdeal.Gen.facts) := by
  intro m g _
  exact (θ_run _ _ _).mono (fun r h => ⟨fun c => (h c).2.2.2, sem_eq_zero_of_no_sems rfl _⟩) (Cert.DownRefIdeal.Value.run m g)

/-- The head's reference runs and leaves its arguments. -/
theorem headRef_frame : Cert.quiescent_HeadRefIdeal (hHeadRefIdeal := Cert.HeadRefIdeal.Gen.facts) := by
  intro m g _
  exact (θ_run _ _ _).mono (fun r h => ⟨fun c => (h c).2.2, sem_eq_zero_of_no_sems rfl _⟩) (Cert.HeadRefIdeal.Value.run m g)

/-- All the claims of the five calls. -/
theorem claim : Cert.Claim := ⟨Cert.Qkv.Gen.facts, Cert.QkvIdeal.Gen.facts, Cert.QkvRefIdeal.Gen.facts,
  Cert.O.Gen.facts, Cert.OIdeal.Gen.facts, Cert.ORefIdeal.Gen.facts,
  Cert.Ff.Gen.facts, Cert.FfIdeal.Gen.facts, Cert.FfRefIdeal.Gen.facts,
  Cert.Down.Gen.facts, Cert.DownIdeal.Gen.facts, Cert.DownRefIdeal.Gen.facts,
  Cert.Head.Gen.facts, Cert.HeadIdeal.Gen.facts, Cert.HeadRefIdeal.Gen.facts, pre_facts,
  qkv_frame, qkvIdeal_frame, qkvRef_frame,
  fun m g _ => Cert.O.Hand.frame m g, fun m g _ => Cert.OIdeal.Hand.frame m g, oRef_frame,
  fun m g _ => Cert.Ff.Gen.frame m g, fun m g _ => Cert.FfIdeal.Gen.frame m g, ffRef_frame,
  fun m g _ => Cert.Down.Hand.frame m g, fun m g _ => Cert.DownIdeal.Hand.frame m g, downRef_frame,
  fun m g _ => Cert.Head.Hand.frame m g, fun m g _ => Cert.HeadIdeal.Hand.frame m g, headRef_frame,
  trivial, qkv_algebraic, trivial, o_algebraic, trivial, ff_algebraic, trivial, down_algebraic, trivial, head_algebraic⟩

end Cert.Proof

end
